-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre_logf [hPre_pre_logf : Cert.Pre_pre_logf.Facts] (m : (ℓ : Loc Cert.KernelIdeal.nD Cert.KernelIdeal.τ Cert.KernelIdeal.sig) → Buf (Elt Ideal) ℓ) : Prop :=
  ∀ c : Dev Cert.KernelIdeal.nD,
    (Cert.Pre_pre_logf.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre_logf [hPre_pre_logf : Cert.Pre_pre_logf.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre_logf.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Fox (m : (ℓ : Loc Cert.Fox.nD Cert.Fox.τ Cert.Fox.sig) → Buf (Elt Bits) ℓ) : Prop :=
  True

def Pre_FoxIdeal (m : (ℓ : Loc Cert.FoxIdeal.nD Cert.FoxIdeal.τ Cert.FoxIdeal.sig) → Buf (Elt Ideal) ℓ) : Prop :=
  True

def Pre_FoxIdeal_pre_fox [hPre_pre_fox : Cert.Pre_pre_fox.Facts] (m : (ℓ : Loc Cert.FoxIdeal.nD Cert.FoxIdeal.τ Cert.FoxIdeal.sig) → Buf (Elt Ideal) ℓ) : Prop :=
  ∀ c : Dev Cert.FoxIdeal.nD,
    (Cert.Pre_pre_fox.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2))) = (fun _ => 1#1)

def Pre_FoxReferenceIdeal (m : (ℓ : Loc Cert.FoxReferenceIdeal.nD Cert.FoxReferenceIdeal.τ Cert.FoxReferenceIdeal.sig) → Buf (Elt Ideal) ℓ) : Prop :=
  True

def Pre_FoxReferenceIdeal_pre_fox [hPre_pre_fox : Cert.Pre_pre_fox.Facts] (m : (ℓ : Loc Cert.FoxReferenceIdeal.nD Cert.FoxReferenceIdeal.τ Cert.FoxReferenceIdeal.sig) → Buf (Elt Ideal) ℓ) : Prop :=
  ∀ c : Dev Cert.FoxReferenceIdeal.nD,
    (Cert.Pre_pre_fox.fn (F := Ideal) (m ((c.tc : Thread Cert.FoxReferenceIdeal.nD Cert.FoxReferenceIdeal.τ).loc Cert.FoxReferenceIdeal.main_arg0)) (m ((c.tc : Thread Cert.FoxReferenceIdeal.nD Cert.FoxReferenceIdeal.τ).loc Cert.FoxReferenceIdeal.main_arg1)) (m ((c.tc : Thread Cert.FoxReferenceIdeal.nD Cert.FoxReferenceIdeal.τ).loc Cert.FoxReferenceIdeal.main_arg2))) = (fun _ => 1#1)

def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaIdeal_pre_mla [hPre_pre_mla : Cert.Pre_pre_mla.Facts] (m : (ℓ : Loc Cert.MlaIdeal.nD Cert.MlaIdeal.τ Cert.MlaIdeal.sig) → Buf (Elt Ideal) ℓ) : Prop :=
  ∀ c : Dev Cert.MlaIdeal.nD,
    (Cert.Pre_pre_mla.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3))) = (fun _ => 1#1)

def Pre_MlaReferenceIdeal (m : (ℓ : Loc Cert.MlaReferenceIdeal.nD Cert.MlaReferenceIdeal.τ Cert.MlaReferenceIdeal.sig) → Buf (Elt Ideal) ℓ) : Prop :=
  True

def Pre_MlaReferenceIdeal_pre_mla [hPre_pre_mla : Cert.Pre_pre_mla.Facts] (m : (ℓ : Loc Cert.MlaReferenceIdeal.nD Cert.MlaReferenceIdeal.τ Cert.MlaReferenceIdeal.sig) → Buf (Elt Ideal) ℓ) : Prop :=
  ∀ c : Dev Cert.MlaReferenceIdeal.nD,
    (Cert.Pre_pre_mla.fn (F := Ideal) (m ((c.tc : Thread Cert.MlaReferenceIdeal.nD Cert.MlaReferenceIdeal.τ).loc Cert.MlaReferenceIdeal.main_arg0)) (m ((c.tc : Thread Cert.MlaReferenceIdeal.nD Cert.MlaReferenceIdeal.τ).loc Cert.MlaReferenceIdeal.main_arg1)) (m ((c.tc : Thread Cert.MlaReferenceIdeal.nD Cert.MlaReferenceIdeal.τ).loc Cert.MlaReferenceIdeal.main_arg2)) (m ((c.tc : Thread Cert.MlaReferenceIdeal.nD Cert.MlaReferenceIdeal.τ).loc Cert.MlaReferenceIdeal.main_arg3))) = (fun _ => 1#1)

def Pre_GateOdd (m : (ℓ : Loc Cert.GateOdd.nD Cert.GateOdd.τ Cert.GateOdd.sig) → Buf (Elt Bits) ℓ) : Prop :=
  True

def Pre_GateOddIdeal (m : (ℓ : Loc Cert.GateOddIdeal.nD Cert.GateOddIdeal.τ Cert.GateOddIdeal.sig) → Buf (Elt Ideal) ℓ) : Prop :=
  True

def Pre_GateOddIdeal_pre_gate1 [hPre_pre_gate1 : Cert.Pre_pre_gate1.Facts] (m : (ℓ : Loc Cert.GateOddIdeal.nD Cert.GateOddIdeal.τ Cert.GateOddIdeal.sig) → Buf (Elt Ideal) ℓ) : Prop :=
  ∀ c : Dev Cert.GateOddIdeal.nD,
    (Cert.Pre_pre_gate1.fn (F := Ideal) (m ((c.tc : Thread Cert.GateOddIdeal.nD Cert.GateOddIdeal.τ).loc Cert.GateOddIdeal.main_arg0)) (m ((c.tc : Thread Cert.GateOddIdeal.nD Cert.GateOddIdeal.τ).loc Cert.GateOddIdeal.main_arg1)) (m ((c.tc : Thread Cert.GateOddIdeal.nD Cert.GateOddIdeal.τ).loc Cert.GateOddIdeal.main_arg2)) (m ((c.tc : Thread Cert.GateOddIdeal.nD Cert.GateOddIdeal.τ).loc Cert.GateOddIdeal.main_arg3))) = (fun _ => 1#1)

def Pre_GateOddReferenceIdeal (m : (ℓ : Loc Cert.GateOddReferenceIdeal.nD Cert.GateOddReferenceIdeal.τ Cert.GateOddReferenceIdeal.sig) → Buf (Elt Ideal) ℓ) : Prop :=
  True

def Pre_GateOddReferenceIdeal_pre_gate1 [hPre_pre_gate1 : Cert.Pre_pre_gate1.Facts] (m : (ℓ : Loc Cert.GateOddReferenceIdeal.nD Cert.GateOddReferenceIdeal.τ Cert.GateOddReferenceIdeal.sig) → Buf (Elt Ideal) ℓ) : Prop :=
  ∀ c : Dev Cert.GateOddReferenceIdeal.nD,
    (Cert.Pre_pre_gate1.fn (F := Ideal) (m ((c.tc : Thread Cert.GateOddReferenceIdeal.nD Cert.GateOddReferenceIdeal.τ).loc Cert.GateOddReferenceIdeal.main_arg0)) (m ((c.tc : Thread Cert.GateOddReferenceIdeal.nD Cert.GateOddReferenceIdeal.τ).loc Cert.GateOddReferenceIdeal.main_arg1)) (m ((c.tc : Thread Cert.GateOddReferenceIdeal.nD Cert.GateOddReferenceIdeal.τ).loc Cert.GateOddReferenceIdeal.main_arg2)) (m ((c.tc : Thread Cert.GateOddReferenceIdeal.nD Cert.GateOddReferenceIdeal.τ).loc Cert.GateOddReferenceIdeal.main_arg3))) = (fun _ => 1#1)

def Pre_GateEven (m : (ℓ : Loc Cert.GateEven.nD Cert.GateEven.τ Cert.GateEven.sig) → Buf (Elt Bits) ℓ) : Prop :=
  True

def Pre_GateEvenIdeal (m : (ℓ : Loc Cert.GateEvenIdeal.nD Cert.GateEvenIdeal.τ Cert.GateEvenIdeal.sig) → Buf (Elt Ideal) ℓ) : Prop :=
  True

def Pre_GateEvenIdeal_pre_gate0 [hPre_pre_gate0 : Cert.Pre_pre_gate0.Facts] (m : (ℓ : Loc Cert.GateEvenIdeal.nD Cert.GateEvenIdeal.τ Cert.GateEvenIdeal.sig) → Buf (Elt Ideal) ℓ) : Prop :=
  ∀ c : Dev Cert.GateEvenIdeal.nD,
    (Cert.Pre_pre_gate0.fn (F := Ideal) (m ((c.tc : Thread Cert.GateEvenIdeal.nD Cert.GateEvenIdeal.τ).loc Cert.GateEvenIdeal.main_arg0)) (m ((c.tc : Thread Cert.GateEvenIdeal.nD Cert.GateEvenIdeal.τ).loc Cert.GateEvenIdeal.main_arg1)) (m ((c.tc : Thread Cert.GateEvenIdeal.nD Cert.GateEvenIdeal.τ).loc Cert.GateEvenIdeal.main_arg2)) (m ((c.tc : Thread Cert.GateEvenIdeal.nD Cert.GateEvenIdeal.τ).loc Cert.GateEvenIdeal.main_arg3)) (m ((c.tc : Thread Cert.GateEvenIdeal.nD Cert.GateEvenIdeal.τ).loc Cert.GateEvenIdeal.main_arg4))) = (fun _ => 1#1)

def Pre_GateEvenReferenceIdeal (m : (ℓ : Loc Cert.GateEvenReferenceIdeal.nD Cert.GateEvenReferenceIdeal.τ Cert.GateEvenReferenceIdeal.sig) → Buf (Elt Ideal) ℓ) : Prop :=
  True

def Pre_GateEvenReferenceIdeal_pre_gate0 [hPre_pre_gate0 : Cert.Pre_pre_gate0.Facts] (m : (ℓ : Loc Cert.GateEvenReferenceIdeal.nD Cert.GateEvenReferenceIdeal.τ Cert.GateEvenReferenceIdeal.sig) → Buf (Elt Ideal) ℓ) : Prop :=
  ∀ c : Dev Cert.GateEvenReferenceIdeal.nD,
    (Cert.Pre_pre_gate0.fn (F := Ideal) (m ((c.tc : Thread Cert.GateEvenReferenceIdeal.nD Cert.GateEvenReferenceIdeal.τ).loc Cert.GateEvenReferenceIdeal.main_arg0)) (m ((c.tc : Thread Cert.GateEvenReferenceIdeal.nD Cert.GateEvenReferenceIdeal.τ).loc Cert.GateEvenReferenceIdeal.main_arg1)) (m ((c.tc : Thread Cert.GateEvenReferenceIdeal.nD Cert.GateEvenReferenceIdeal.τ).loc Cert.GateEvenReferenceIdeal.main_arg2)) (m ((c.tc : Thread Cert.GateEvenReferenceIdeal.nD Cert.GateEvenReferenceIdeal.τ).loc Cert.GateEvenReferenceIdeal.main_arg3)) (m ((c.tc : Thread Cert.GateEvenReferenceIdeal.nD Cert.GateEvenReferenceIdeal.τ).loc Cert.GateEvenReferenceIdeal.main_arg4))) = (fun _ => 1#1)

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RopeReferenceIdeal (m : (ℓ : Loc Cert.RopeReferenceIdeal.nD Cert.RopeReferenceIdeal.τ Cert.RopeReferenceIdeal.sig) → Buf (Elt Ideal) ℓ) : Prop :=
  True

def Pre_NormQ (m : (ℓ : Loc Cert.NormQ.nD Cert.NormQ.τ Cert.NormQ.sig) → Buf (Elt Bits) ℓ) : Prop :=
  True

def Pre_NormQIdeal (m : (ℓ : Loc Cert.NormQIdeal.nD Cert.NormQIdeal.τ Cert.NormQIdeal.sig) → Buf (Elt Ideal) ℓ) : Prop :=
  True

def Pre_NormQIdeal_pre_qnorm [hPre_pre_qnorm : Cert.Pre_pre_qnorm.Facts] (m : (ℓ : Loc Cert.NormQIdeal.nD Cert.NormQIdeal.τ Cert.NormQIdeal.sig) → Buf (Elt Ideal) ℓ) : Prop :=
  ∀ c : Dev Cert.NormQIdeal.nD,
    (Cert.Pre_pre_qnorm.fn (F := Ideal) (m ((c.tc : Thread Cert.NormQIdeal.nD Cert.NormQIdeal.τ).loc Cert.NormQIdeal.main_arg0)) (m ((c.tc : Thread Cert.NormQIdeal.nD Cert.NormQIdeal.τ).loc Cert.NormQIdeal.main_arg1)) (m ((c.tc : Thread Cert.NormQIdeal.nD Cert.NormQIdeal.τ).loc Cert.NormQIdeal.main_arg2))) = (fun _ => 1#1)

def Pre_NormQReferenceIdeal (m : (ℓ : Loc Cert.NormQReferenceIdeal.nD Cert.NormQReferenceIdeal.τ Cert.NormQReferenceIdeal.sig) → Buf (Elt Ideal) ℓ) : Prop :=
  True

def Pre_NormQReferenceIdeal_pre_qnorm [hPre_pre_qnorm : Cert.Pre_pre_qnorm.Facts] (m : (ℓ : Loc Cert.NormQReferenceIdeal.nD Cert.NormQReferenceIdeal.τ Cert.NormQReferenceIdeal.sig) → Buf (Elt Ideal) ℓ) : Prop :=
  ∀ c : Dev Cert.NormQReferenceIdeal.nD,
    (Cert.Pre_pre_qnorm.fn (F := Ideal) (m ((c.tc : Thread Cert.NormQReferenceIdeal.nD Cert.NormQReferenceIdeal.τ).loc Cert.NormQReferenceIdeal.main_arg0)) (m ((c.tc : Thread Cert.NormQReferenceIdeal.nD Cert.NormQReferenceIdeal.τ).loc Cert.NormQReferenceIdeal.main_arg1)) (m ((c.tc : Thread Cert.NormQReferenceIdeal.nD Cert.NormQReferenceIdeal.τ).loc Cert.NormQReferenceIdeal.main_arg2))) = (fun _ => 1#1)

def Pre_NormKv (m : (ℓ : Loc Cert.NormKv.nD Cert.NormKv.τ Cert.NormKv.sig) → Buf (Elt Bits) ℓ) : Prop :=
  True

def Pre_NormKvIdeal (m : (ℓ : Loc Cert.NormKvIdeal.nD Cert.NormKvIdeal.τ Cert.NormKvIdeal.sig) → Buf (Elt Ideal) ℓ) : Prop :=
  True

def Pre_NormKvIdeal_pre_kvnorm [hPre_pre_kvnorm : Cert.Pre_pre_kvnorm.Facts] (m : (ℓ : Loc Cert.NormKvIdeal.nD Cert.NormKvIdeal.τ Cert.NormKvIdeal.sig) → Buf (Elt Ideal) ℓ) : Prop :=
  ∀ c : Dev Cert.NormKvIdeal.nD,
    (Cert.Pre_pre_kvnorm.fn (F := Ideal) (m ((c.tc : Thread Cert.NormKvIdeal.nD Cert.NormKvIdeal.τ).loc Cert.NormKvIdeal.main_arg0)) (m ((c.tc : Thread Cert.NormKvIdeal.nD Cert.NormKvIdeal.τ).loc Cert.NormKvIdeal.main_arg1)) (m ((c.tc : Thread Cert.NormKvIdeal.nD Cert.NormKvIdeal.τ).loc Cert.NormKvIdeal.main_arg2))) = (fun _ => 1#1)

def Pre_NormKvReferenceIdeal (m : (ℓ : Loc Cert.NormKvReferenceIdeal.nD Cert.NormKvReferenceIdeal.τ Cert.NormKvReferenceIdeal.sig) → Buf (Elt Ideal) ℓ) : Prop :=
  True

def Pre_NormKvReferenceIdeal_pre_kvnorm [hPre_pre_kvnorm : Cert.Pre_pre_kvnorm.Facts] (m : (ℓ : Loc Cert.NormKvReferenceIdeal.nD Cert.NormKvReferenceIdeal.τ Cert.NormKvReferenceIdeal.sig) → Buf (Elt Ideal) ℓ) : Prop :=
  ∀ c : Dev Cert.NormKvReferenceIdeal.nD,
    (Cert.Pre_pre_kvnorm.fn (F := Ideal) (m ((c.tc : Thread Cert.NormKvReferenceIdeal.nD Cert.NormKvReferenceIdeal.τ).loc Cert.NormKvReferenceIdeal.main_arg0)) (m ((c.tc : Thread Cert.NormKvReferenceIdeal.nD Cert.NormKvReferenceIdeal.τ).loc Cert.NormKvReferenceIdeal.main_arg1)) (m ((c.tc : Thread Cert.NormKvReferenceIdeal.nD Cert.NormKvReferenceIdeal.τ).loc Cert.NormKvReferenceIdeal.main_arg2))) = (fun _ => 1#1)

def Pre_InOdd (m : (ℓ : Loc Cert.InOdd.nD Cert.InOdd.τ Cert.InOdd.sig) → Buf (Elt Bits) ℓ) : Prop :=
  True

def Pre_InOddIdeal (m : (ℓ : Loc Cert.InOddIdeal.nD Cert.InOddIdeal.τ Cert.InOddIdeal.sig) → Buf (Elt Ideal) ℓ) : Prop :=
  True

def Pre_InOddIdeal_pre_in1 [hPre_pre_in1 : Cert.Pre_pre_in1.Facts] (m : (ℓ : Loc Cert.InOddIdeal.nD Cert.InOddIdeal.τ Cert.InOddIdeal.sig) → Buf (Elt Ideal) ℓ) : Prop :=
  ∀ c : Dev Cert.InOddIdeal.nD,
    (Cert.Pre_pre_in1.fn (F := Ideal) (m ((c.tc : Thread Cert.InOddIdeal.nD Cert.InOddIdeal.τ).loc Cert.InOddIdeal.main_arg0)) (m ((c.tc : Thread Cert.InOddIdeal.nD Cert.InOddIdeal.τ).loc Cert.InOddIdeal.main_arg1)) (m ((c.tc : Thread Cert.InOddIdeal.nD Cert.InOddIdeal.τ).loc Cert.InOddIdeal.main_arg2)) (m ((c.tc : Thread Cert.InOddIdeal.nD Cert.InOddIdeal.τ).loc Cert.InOddIdeal.main_arg3)) (m ((c.tc : Thread Cert.InOddIdeal.nD Cert.InOddIdeal.τ).loc Cert.InOddIdeal.main_arg4))) = (fun _ => 1#1)

def Pre_InOddReferenceIdeal (m : (ℓ : Loc Cert.InOddReferenceIdeal.nD Cert.InOddReferenceIdeal.τ Cert.InOddReferenceIdeal.sig) → Buf (Elt Ideal) ℓ) : Prop :=
  True

def Pre_InOddReferenceIdeal_pre_in1 [hPre_pre_in1 : Cert.Pre_pre_in1.Facts] (m : (ℓ : Loc Cert.InOddReferenceIdeal.nD Cert.InOddReferenceIdeal.τ Cert.InOddReferenceIdeal.sig) → Buf (Elt Ideal) ℓ) : Prop :=
  ∀ c : Dev Cert.InOddReferenceIdeal.nD,
    (Cert.Pre_pre_in1.fn (F := Ideal) (m ((c.tc : Thread Cert.InOddReferenceIdeal.nD Cert.InOddReferenceIdeal.τ).loc Cert.InOddReferenceIdeal.main_arg0)) (m ((c.tc : Thread Cert.InOddReferenceIdeal.nD Cert.InOddReferenceIdeal.τ).loc Cert.InOddReferenceIdeal.main_arg1)) (m ((c.tc : Thread Cert.InOddReferenceIdeal.nD Cert.InOddReferenceIdeal.τ).loc Cert.InOddReferenceIdeal.main_arg2)) (m ((c.tc : Thread Cert.InOddReferenceIdeal.nD Cert.InOddReferenceIdeal.τ).loc Cert.InOddReferenceIdeal.main_arg3)) (m ((c.tc : Thread Cert.InOddReferenceIdeal.nD Cert.InOddReferenceIdeal.τ).loc Cert.InOddReferenceIdeal.main_arg4))) = (fun _ => 1#1)

def Pre_InEven (m : (ℓ : Loc Cert.InEven.nD Cert.InEven.τ Cert.InEven.sig) → Buf (Elt Bits) ℓ) : Prop :=
  True

def Pre_InEvenIdeal (m : (ℓ : Loc Cert.InEvenIdeal.nD Cert.InEvenIdeal.τ Cert.InEvenIdeal.sig) → Buf (Elt Ideal) ℓ) : Prop :=
  True

def Pre_InEvenIdeal_pre_in0 [hPre_pre_in0 : Cert.Pre_pre_in0.Facts] (m : (ℓ : Loc Cert.InEvenIdeal.nD Cert.InEvenIdeal.τ Cert.InEvenIdeal.sig) → Buf (Elt Ideal) ℓ) : Prop :=
  ∀ c : Dev Cert.InEvenIdeal.nD,
    (Cert.Pre_pre_in0.fn (F := Ideal) (m ((c.tc : Thread Cert.InEvenIdeal.nD Cert.InEvenIdeal.τ).loc Cert.InEvenIdeal.main_arg0)) (m ((c.tc : Thread Cert.InEvenIdeal.nD Cert.InEvenIdeal.τ).loc Cert.InEvenIdeal.main_arg1)) (m ((c.tc : Thread Cert.InEvenIdeal.nD Cert.InEvenIdeal.τ).loc Cert.InEvenIdeal.main_arg2)) (m ((c.tc : Thread Cert.InEvenIdeal.nD Cert.InEvenIdeal.τ).loc Cert.InEvenIdeal.main_arg3)) (m ((c.tc : Thread Cert.InEvenIdeal.nD Cert.InEvenIdeal.τ).loc Cert.InEvenIdeal.main_arg4))) = (fun _ => 1#1)

def Pre_InEvenReferenceIdeal (m : (ℓ : Loc Cert.InEvenReferenceIdeal.nD Cert.InEvenReferenceIdeal.τ Cert.InEvenReferenceIdeal.sig) → Buf (Elt Ideal) ℓ) : Prop :=
  True

def Pre_InEvenReferenceIdeal_pre_in0 [hPre_pre_in0 : Cert.Pre_pre_in0.Facts] (m : (ℓ : Loc Cert.InEvenReferenceIdeal.nD Cert.InEvenReferenceIdeal.τ Cert.InEvenReferenceIdeal.sig) → Buf (Elt Ideal) ℓ) : Prop :=
  ∀ c : Dev Cert.InEvenReferenceIdeal.nD,
    (Cert.Pre_pre_in0.fn (F := Ideal) (m ((c.tc : Thread Cert.InEvenReferenceIdeal.nD Cert.InEvenReferenceIdeal.τ).loc Cert.InEvenReferenceIdeal.main_arg0)) (m ((c.tc : Thread Cert.InEvenReferenceIdeal.nD Cert.InEvenReferenceIdeal.τ).loc Cert.InEvenReferenceIdeal.main_arg1)) (m ((c.tc : Thread Cert.InEvenReferenceIdeal.nD Cert.InEvenReferenceIdeal.τ).loc Cert.InEvenReferenceIdeal.main_arg2)) (m ((c.tc : Thread Cert.InEvenReferenceIdeal.nD Cert.InEvenReferenceIdeal.τ).loc Cert.InEvenReferenceIdeal.main_arg3)) (m ((c.tc : Thread Cert.InEvenReferenceIdeal.nD Cert.InEvenReferenceIdeal.τ).loc Cert.InEvenReferenceIdeal.main_arg4))) = (fun _ => 1#1)

def Pre_LossOut (m : (ℓ : Loc Cert.LossOut.nD Cert.LossOut.τ Cert.LossOut.sig) → Buf (Elt Bits) ℓ) : Prop :=
  True

def Pre_LossOutIdeal (m : (ℓ : Loc Cert.LossOutIdeal.nD Cert.LossOutIdeal.τ Cert.LossOutIdeal.sig) → Buf (Elt Ideal) ℓ) : Prop :=
  True

def Pre_LossOutIdeal_pre_loss [hPre_pre_loss : Cert.Pre_pre_loss.Facts] (m : (ℓ : Loc Cert.LossOutIdeal.nD Cert.LossOutIdeal.τ Cert.LossOutIdeal.sig) → Buf (Elt Ideal) ℓ) : Prop :=
  ∀ c : Dev Cert.LossOutIdeal.nD,
    (Cert.Pre_pre_loss.fn (F := Ideal) (m ((c.tc : Thread Cert.LossOutIdeal.nD Cert.LossOutIdeal.τ).loc Cert.LossOutIdeal.main_arg0)) (m ((c.tc : Thread Cert.LossOutIdeal.nD Cert.LossOutIdeal.τ).loc Cert.LossOutIdeal.main_arg1)) (m ((c.tc : Thread Cert.LossOutIdeal.nD Cert.LossOutIdeal.τ).loc Cert.LossOutIdeal.main_arg2)) (m ((c.tc : Thread Cert.LossOutIdeal.nD Cert.LossOutIdeal.τ).loc Cert.LossOutIdeal.main_arg3)) (m ((c.tc : Thread Cert.LossOutIdeal.nD Cert.LossOutIdeal.τ).loc Cert.LossOutIdeal.main_arg4)) (m ((c.tc : Thread Cert.LossOutIdeal.nD Cert.LossOutIdeal.τ).loc Cert.LossOutIdeal.main_arg5))) = (fun _ => 1#1)

def Pre_LossOutReferenceIdeal (m : (ℓ : Loc Cert.LossOutReferenceIdeal.nD Cert.LossOutReferenceIdeal.τ Cert.LossOutReferenceIdeal.sig) → Buf (Elt Ideal) ℓ) : Prop :=
  True

def Pre_LossOutReferenceIdeal_pre_loss [hPre_pre_loss : Cert.Pre_pre_loss.Facts] (m : (ℓ : Loc Cert.LossOutReferenceIdeal.nD Cert.LossOutReferenceIdeal.τ Cert.LossOutReferenceIdeal.sig) → Buf (Elt Ideal) ℓ) : Prop :=
  ∀ c : Dev Cert.LossOutReferenceIdeal.nD,
    (Cert.Pre_pre_loss.fn (F := Ideal) (m ((c.tc : Thread Cert.LossOutReferenceIdeal.nD Cert.LossOutReferenceIdeal.τ).loc Cert.LossOutReferenceIdeal.main_arg0)) (m ((c.tc : Thread Cert.LossOutReferenceIdeal.nD Cert.LossOutReferenceIdeal.τ).loc Cert.LossOutReferenceIdeal.main_arg1)) (m ((c.tc : Thread Cert.LossOutReferenceIdeal.nD Cert.LossOutReferenceIdeal.τ).loc Cert.LossOutReferenceIdeal.main_arg2)) (m ((c.tc : Thread Cert.LossOutReferenceIdeal.nD Cert.LossOutReferenceIdeal.τ).loc Cert.LossOutReferenceIdeal.main_arg3)) (m ((c.tc : Thread Cert.LossOutReferenceIdeal.nD Cert.LossOutReferenceIdeal.τ).loc Cert.LossOutReferenceIdeal.main_arg4)) (m ((c.tc : Thread Cert.LossOutReferenceIdeal.nD Cert.LossOutReferenceIdeal.τ).loc Cert.LossOutReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_pre_logf [hKernelIdeal : Cert.KernelIdeal.Facts] [hPre_pre_logf : Cert.Pre_pre_logf.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre_logf m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_pre_logf [hReferenceIdeal : Cert.ReferenceIdeal.Facts] [hPre_pre_logf : Cert.Pre_pre_logf.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre_logf m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Fox [hFox : Cert.Fox.Facts] : Prop :=
  ∀ (m : (ℓ : Loc Cert.Fox.nD Cert.Fox.τ Cert.Fox.sig) → Buf (Elt Bits) ℓ) (g : Dev Cert.Fox.nD → PrngReg), Pre_Fox m →
    θ_run (Cert.Fox.defs (F := Bits)) (onTc (τ := Cert.Fox.τ) (Cert.Fox.main (F := Bits))) ⟨m, fun _ => 0, g⟩ (fun r => (∀ c : Dev Cert.Fox.nD,
      r.2.mem ((c.tc : Thread Cert.Fox.nD Cert.Fox.τ).loc Cert.Fox.main_arg0) = m ((c.tc : Thread Cert.Fox.nD Cert.Fox.τ).loc Cert.Fox.main_arg0)
      ∧ r.2.mem ((c.tc : Thread Cert.Fox.nD Cert.Fox.τ).loc Cert.Fox.main_arg1) = m ((c.tc : Thread Cert.Fox.nD Cert.Fox.τ).loc Cert.Fox.main_arg1)
      ∧ r.2.mem ((c.tc : Thread Cert.Fox.nD Cert.Fox.τ).loc Cert.Fox.main_arg2) = m ((c.tc : Thread Cert.Fox.nD Cert.Fox.τ).loc Cert.Fox.main_arg2))
      ∧ r.2.sem = fun _ => 0)

def quiescent_FoxIdeal [hFoxIdeal : Cert.FoxIdeal.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2))
      ∧ r.2.sem = fun _ => 0)

def quiescent_FoxIdeal_pre_pre_fox [hFoxIdeal : Cert.FoxIdeal.Facts] [hPre_pre_fox : Cert.Pre_pre_fox.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal_pre_fox m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2))
      ∧ r.2.sem = fun _ => 0)

def quiescent_FoxReferenceIdeal [hFoxReferenceIdeal : Cert.FoxReferenceIdeal.Facts] : Prop :=
  ∀ (m : (ℓ : Loc Cert.FoxReferenceIdeal.nD Cert.FoxReferenceIdeal.τ Cert.FoxReferenceIdeal.sig) → Buf (Elt Ideal) ℓ) (g : Dev Cert.FoxReferenceIdeal.nD → PrngReg), Pre_FoxReferenceIdeal m →
    θ_run (Cert.FoxReferenceIdeal.defs (F := Ideal)) (onTc (τ := Cert.FoxReferenceIdeal.τ) (Cert.FoxReferenceIdeal.main (F := Ideal))) ⟨m, fun _ => 0, g⟩ (fun r => (∀ c : Dev Cert.FoxReferenceIdeal.nD,
      r.2.mem ((c.tc : Thread Cert.FoxReferenceIdeal.nD Cert.FoxReferenceIdeal.τ).loc Cert.FoxReferenceIdeal.main_arg0) = m ((c.tc : Thread Cert.FoxReferenceIdeal.nD Cert.FoxReferenceIdeal.τ).loc Cert.FoxReferenceIdeal.main_arg0)
      ∧ r.2.mem ((c.tc : Thread Cert.FoxReferenceIdeal.nD Cert.FoxReferenceIdeal.τ).loc Cert.FoxReferenceIdeal.main_arg1) = m ((c.tc : Thread Cert.FoxReferenceIdeal.nD Cert.FoxReferenceIdeal.τ).loc Cert.FoxReferenceIdeal.main_arg1)
      ∧ r.2.mem ((c.tc : Thread Cert.FoxReferenceIdeal.nD Cert.FoxReferenceIdeal.τ).loc Cert.FoxReferenceIdeal.main_arg2) = m ((c.tc : Thread Cert.FoxReferenceIdeal.nD Cert.FoxReferenceIdeal.τ).loc Cert.FoxReferenceIdeal.main_arg2))
      ∧ r.2.sem = fun _ => 0)

def quiescent_FoxReferenceIdeal_pre_pre_fox [hFoxReferenceIdeal : Cert.FoxReferenceIdeal.Facts] [hPre_pre_fox : Cert.Pre_pre_fox.Facts] : Prop :=
  ∀ (m : (ℓ : Loc Cert.FoxReferenceIdeal.nD Cert.FoxReferenceIdeal.τ Cert.FoxReferenceIdeal.sig) → Buf (Elt Ideal) ℓ) (g : Dev Cert.FoxReferenceIdeal.nD → PrngReg), Pre_FoxReferenceIdeal_pre_fox m →
    θ_run (Cert.FoxReferenceIdeal.defs (F := Ideal)) (onTc (τ := Cert.FoxReferenceIdeal.τ) (Cert.FoxReferenceIdeal.main (F := Ideal))) ⟨m, fun _ => 0, g⟩ (fun r => (∀ c : Dev Cert.FoxReferenceIdeal.nD,
      r.2.mem ((c.tc : Thread Cert.FoxReferenceIdeal.nD Cert.FoxReferenceIdeal.τ).loc Cert.FoxReferenceIdeal.main_arg0) = m ((c.tc : Thread Cert.FoxReferenceIdeal.nD Cert.FoxReferenceIdeal.τ).loc Cert.FoxReferenceIdeal.main_arg0)
      ∧ r.2.mem ((c.tc : Thread Cert.FoxReferenceIdeal.nD Cert.FoxReferenceIdeal.τ).loc Cert.FoxReferenceIdeal.main_arg1) = m ((c.tc : Thread Cert.FoxReferenceIdeal.nD Cert.FoxReferenceIdeal.τ).loc Cert.FoxReferenceIdeal.main_arg1)
      ∧ r.2.mem ((c.tc : Thread Cert.FoxReferenceIdeal.nD Cert.FoxReferenceIdeal.τ).loc Cert.FoxReferenceIdeal.main_arg2) = m ((c.tc : Thread Cert.FoxReferenceIdeal.nD Cert.FoxReferenceIdeal.τ).loc Cert.FoxReferenceIdeal.main_arg2))
      ∧ r.2.sem = fun _ => 0)

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2)
      ∧ r.2.mem ((c.tc : Thread Cert.Mla.nD Cert.Mla.τ).loc Cert.Mla.main_arg3) = m ((c.tc : Thread Cert.Mla.nD Cert.Mla.τ).loc Cert.Mla.main_arg3))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3))
      ∧ r.2.sem = fun _ => 0)

def quiescent_MlaIdeal_pre_pre_mla [hMlaIdeal : Cert.MlaIdeal.Facts] [hPre_pre_mla : Cert.Pre_pre_mla.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal_pre_mla m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3))
      ∧ r.2.sem = fun _ => 0)

def quiescent_MlaReferenceIdeal [hMlaReferenceIdeal : Cert.MlaReferenceIdeal.Facts] : Prop :=
  ∀ (m : (ℓ : Loc Cert.MlaReferenceIdeal.nD Cert.MlaReferenceIdeal.τ Cert.MlaReferenceIdeal.sig) → Buf (Elt Ideal) ℓ) (g : Dev Cert.MlaReferenceIdeal.nD → PrngReg), Pre_MlaReferenceIdeal m →
    θ_run (Cert.MlaReferenceIdeal.defs (F := Ideal)) (onTc (τ := Cert.MlaReferenceIdeal.τ) (Cert.MlaReferenceIdeal.main (F := Ideal))) ⟨m, fun _ => 0, g⟩ (fun r => (∀ c : Dev Cert.MlaReferenceIdeal.nD,
      r.2.mem ((c.tc : Thread Cert.MlaReferenceIdeal.nD Cert.MlaReferenceIdeal.τ).loc Cert.MlaReferenceIdeal.main_arg0) = m ((c.tc : Thread Cert.MlaReferenceIdeal.nD Cert.MlaReferenceIdeal.τ).loc Cert.MlaReferenceIdeal.main_arg0)
      ∧ r.2.mem ((c.tc : Thread Cert.MlaReferenceIdeal.nD Cert.MlaReferenceIdeal.τ).loc Cert.MlaReferenceIdeal.main_arg1) = m ((c.tc : Thread Cert.MlaReferenceIdeal.nD Cert.MlaReferenceIdeal.τ).loc Cert.MlaReferenceIdeal.main_arg1)
      ∧ r.2.mem ((c.tc : Thread Cert.MlaReferenceIdeal.nD Cert.MlaReferenceIdeal.τ).loc Cert.MlaReferenceIdeal.main_arg2) = m ((c.tc : Thread Cert.MlaReferenceIdeal.nD Cert.MlaReferenceIdeal.τ).loc Cert.MlaReferenceIdeal.main_arg2)
      ∧ r.2.mem ((c.tc : Thread Cert.MlaReferenceIdeal.nD Cert.MlaReferenceIdeal.τ).loc Cert.MlaReferenceIdeal.main_arg3) = m ((c.tc : Thread Cert.MlaReferenceIdeal.nD Cert.MlaReferenceIdeal.τ).loc Cert.MlaReferenceIdeal.main_arg3))
      ∧ r.2.sem = fun _ => 0)

def quiescent_MlaReferenceIdeal_pre_pre_mla [hMlaReferenceIdeal : Cert.MlaReferenceIdeal.Facts] [hPre_pre_mla : Cert.Pre_pre_mla.Facts] : Prop :=
  ∀ (m : (ℓ : Loc Cert.MlaReferenceIdeal.nD Cert.MlaReferenceIdeal.τ Cert.MlaReferenceIdeal.sig) → Buf (Elt Ideal) ℓ) (g : Dev Cert.MlaReferenceIdeal.nD → PrngReg), Pre_MlaReferenceIdeal_pre_mla m →
    θ_run (Cert.MlaReferenceIdeal.defs (F := Ideal)) (onTc (τ := Cert.MlaReferenceIdeal.τ) (Cert.MlaReferenceIdeal.main (F := Ideal))) ⟨m, fun _ => 0, g⟩ (fun r => (∀ c : Dev Cert.MlaReferenceIdeal.nD,
      r.2.mem ((c.tc : Thread Cert.MlaReferenceIdeal.nD Cert.MlaReferenceIdeal.τ).loc Cert.MlaReferenceIdeal.main_arg0) = m ((c.tc : Thread Cert.MlaReferenceIdeal.nD Cert.MlaReferenceIdeal.τ).loc Cert.MlaReferenceIdeal.main_arg0)
      ∧ r.2.mem ((c.tc : Thread Cert.MlaReferenceIdeal.nD Cert.MlaReferenceIdeal.τ).loc Cert.MlaReferenceIdeal.main_arg1) = m ((c.tc : Thread Cert.MlaReferenceIdeal.nD Cert.MlaReferenceIdeal.τ).loc Cert.MlaReferenceIdeal.main_arg1)
      ∧ r.2.mem ((c.tc : Thread Cert.MlaReferenceIdeal.nD Cert.MlaReferenceIdeal.τ).loc Cert.MlaReferenceIdeal.main_arg2) = m ((c.tc : Thread Cert.MlaReferenceIdeal.nD Cert.MlaReferenceIdeal.τ).loc Cert.MlaReferenceIdeal.main_arg2)
      ∧ r.2.mem ((c.tc : Thread Cert.MlaReferenceIdeal.nD Cert.MlaReferenceIdeal.τ).loc Cert.MlaReferenceIdeal.main_arg3) = m ((c.tc : Thread Cert.MlaReferenceIdeal.nD Cert.MlaReferenceIdeal.τ).loc Cert.MlaReferenceIdeal.main_arg3))
      ∧ r.2.sem = fun _ => 0)

def quiescent_GateOdd [hGateOdd : Cert.GateOdd.Facts] : Prop :=
  ∀ (m : (ℓ : Loc Cert.GateOdd.nD Cert.GateOdd.τ Cert.GateOdd.sig) → Buf (Elt Bits) ℓ) (g : Dev Cert.GateOdd.nD → PrngReg), Pre_GateOdd m →
    θ_run (Cert.GateOdd.defs (F := Bits)) (onTc (τ := Cert.GateOdd.τ) (Cert.GateOdd.main (F := Bits))) ⟨m, fun _ => 0, g⟩ (fun r => (∀ c : Dev Cert.GateOdd.nD,
      r.2.mem ((c.tc : Thread Cert.GateOdd.nD Cert.GateOdd.τ).loc Cert.GateOdd.main_arg0) = m ((c.tc : Thread Cert.GateOdd.nD Cert.GateOdd.τ).loc Cert.GateOdd.main_arg0)
      ∧ r.2.mem ((c.tc : Thread Cert.GateOdd.nD Cert.GateOdd.τ).loc Cert.GateOdd.main_arg1) = m ((c.tc : Thread Cert.GateOdd.nD Cert.GateOdd.τ).loc Cert.GateOdd.main_arg1)
      ∧ r.2.mem ((c.tc : Thread Cert.GateOdd.nD Cert.GateOdd.τ).loc Cert.GateOdd.main_arg2) = m ((c.tc : Thread Cert.GateOdd.nD Cert.GateOdd.τ).loc Cert.GateOdd.main_arg2)
      ∧ r.2.mem ((c.tc : Thread Cert.GateOdd.nD Cert.GateOdd.τ).loc Cert.GateOdd.main_arg3) = m ((c.tc : Thread Cert.GateOdd.nD Cert.GateOdd.τ).loc Cert.GateOdd.main_arg3))
      ∧ r.2.sem = fun _ => 0)

def quiescent_GateOddIdeal [hGateOddIdeal : Cert.GateOddIdeal.Facts] : Prop :=
  ∀ (m : (ℓ : Loc Cert.GateOddIdeal.nD Cert.GateOddIdeal.τ Cert.GateOddIdeal.sig) → Buf (Elt Ideal) ℓ) (g : Dev Cert.GateOddIdeal.nD → PrngReg), Pre_GateOddIdeal m →
    θ_run (Cert.GateOddIdeal.defs (F := Ideal)) (onTc (τ := Cert.GateOddIdeal.τ) (Cert.GateOddIdeal.main (F := Ideal))) ⟨m, fun _ => 0, g⟩ (fun r => (∀ c : Dev Cert.GateOddIdeal.nD,
      r.2.mem ((c.tc : Thread Cert.GateOddIdeal.nD Cert.GateOddIdeal.τ).loc Cert.GateOddIdeal.main_arg0) = m ((c.tc : Thread Cert.GateOddIdeal.nD Cert.GateOddIdeal.τ).loc Cert.GateOddIdeal.main_arg0)
      ∧ r.2.mem ((c.tc : Thread Cert.GateOddIdeal.nD Cert.GateOddIdeal.τ).loc Cert.GateOddIdeal.main_arg1) = m ((c.tc : Thread Cert.GateOddIdeal.nD Cert.GateOddIdeal.τ).loc Cert.GateOddIdeal.main_arg1)
      ∧ r.2.mem ((c.tc : Thread Cert.GateOddIdeal.nD Cert.GateOddIdeal.τ).loc Cert.GateOddIdeal.main_arg2) = m ((c.tc : Thread Cert.GateOddIdeal.nD Cert.GateOddIdeal.τ).loc Cert.GateOddIdeal.main_arg2)
      ∧ r.2.mem ((c.tc : Thread Cert.GateOddIdeal.nD Cert.GateOddIdeal.τ).loc Cert.GateOddIdeal.main_arg3) = m ((c.tc : Thread Cert.GateOddIdeal.nD Cert.GateOddIdeal.τ).loc Cert.GateOddIdeal.main_arg3))
      ∧ r.2.sem = fun _ => 0)

def quiescent_GateOddIdeal_pre_pre_gate1 [hGateOddIdeal : Cert.GateOddIdeal.Facts] [hPre_pre_gate1 : Cert.Pre_pre_gate1.Facts] : Prop :=
  ∀ (m : (ℓ : Loc Cert.GateOddIdeal.nD Cert.GateOddIdeal.τ Cert.GateOddIdeal.sig) → Buf (Elt Ideal) ℓ) (g : Dev Cert.GateOddIdeal.nD → PrngReg), Pre_GateOddIdeal_pre_gate1 m →
    θ_run (Cert.GateOddIdeal.defs (F := Ideal)) (onTc (τ := Cert.GateOddIdeal.τ) (Cert.GateOddIdeal.main (F := Ideal))) ⟨m, fun _ => 0, g⟩ (fun r => (∀ c : Dev Cert.GateOddIdeal.nD,
      r.2.mem ((c.tc : Thread Cert.GateOddIdeal.nD Cert.GateOddIdeal.τ).loc Cert.GateOddIdeal.main_arg0) = m ((c.tc : Thread Cert.GateOddIdeal.nD Cert.GateOddIdeal.τ).loc Cert.GateOddIdeal.main_arg0)
      ∧ r.2.mem ((c.tc : Thread Cert.GateOddIdeal.nD Cert.GateOddIdeal.τ).loc Cert.GateOddIdeal.main_arg1) = m ((c.tc : Thread Cert.GateOddIdeal.nD Cert.GateOddIdeal.τ).loc Cert.GateOddIdeal.main_arg1)
      ∧ r.2.mem ((c.tc : Thread Cert.GateOddIdeal.nD Cert.GateOddIdeal.τ).loc Cert.GateOddIdeal.main_arg2) = m ((c.tc : Thread Cert.GateOddIdeal.nD Cert.GateOddIdeal.τ).loc Cert.GateOddIdeal.main_arg2)
      ∧ r.2.mem ((c.tc : Thread Cert.GateOddIdeal.nD Cert.GateOddIdeal.τ).loc Cert.GateOddIdeal.main_arg3) = m ((c.tc : Thread Cert.GateOddIdeal.nD Cert.GateOddIdeal.τ).loc Cert.GateOddIdeal.main_arg3))
      ∧ r.2.sem = fun _ => 0)

def quiescent_GateOddReferenceIdeal [hGateOddReferenceIdeal : Cert.GateOddReferenceIdeal.Facts] : Prop :=
  ∀ (m : (ℓ : Loc Cert.GateOddReferenceIdeal.nD Cert.GateOddReferenceIdeal.τ Cert.GateOddReferenceIdeal.sig) → Buf (Elt Ideal) ℓ) (g : Dev Cert.GateOddReferenceIdeal.nD → PrngReg), Pre_GateOddReferenceIdeal m →
    θ_run (Cert.GateOddReferenceIdeal.defs (F := Ideal)) (onTc (τ := Cert.GateOddReferenceIdeal.τ) (Cert.GateOddReferenceIdeal.main (F := Ideal))) ⟨m, fun _ => 0, g⟩ (fun r => (∀ c : Dev Cert.GateOddReferenceIdeal.nD,
      r.2.mem ((c.tc : Thread Cert.GateOddReferenceIdeal.nD Cert.GateOddReferenceIdeal.τ).loc Cert.GateOddReferenceIdeal.main_arg0) = m ((c.tc : Thread Cert.GateOddReferenceIdeal.nD Cert.GateOddReferenceIdeal.τ).loc Cert.GateOddReferenceIdeal.main_arg0)
      ∧ r.2.mem ((c.tc : Thread Cert.GateOddReferenceIdeal.nD Cert.GateOddReferenceIdeal.τ).loc Cert.GateOddReferenceIdeal.main_arg1) = m ((c.tc : Thread Cert.GateOddReferenceIdeal.nD Cert.GateOddReferenceIdeal.τ).loc Cert.GateOddReferenceIdeal.main_arg1)
      ∧ r.2.mem ((c.tc : Thread Cert.GateOddReferenceIdeal.nD Cert.GateOddReferenceIdeal.τ).loc Cert.GateOddReferenceIdeal.main_arg2) = m ((c.tc : Thread Cert.GateOddReferenceIdeal.nD Cert.GateOddReferenceIdeal.τ).loc Cert.GateOddReferenceIdeal.main_arg2)
      ∧ r.2.mem ((c.tc : Thread Cert.GateOddReferenceIdeal.nD Cert.GateOddReferenceIdeal.τ).loc Cert.GateOddReferenceIdeal.main_arg3) = m ((c.tc : Thread Cert.GateOddReferenceIdeal.nD Cert.GateOddReferenceIdeal.τ).loc Cert.GateOddReferenceIdeal.main_arg3))
      ∧ r.2.sem = fun _ => 0)

def quiescent_GateOddReferenceIdeal_pre_pre_gate1 [hGateOddReferenceIdeal : Cert.GateOddReferenceIdeal.Facts] [hPre_pre_gate1 : Cert.Pre_pre_gate1.Facts] : Prop :=
  ∀ (m : (ℓ : Loc Cert.GateOddReferenceIdeal.nD Cert.GateOddReferenceIdeal.τ Cert.GateOddReferenceIdeal.sig) → Buf (Elt Ideal) ℓ) (g : Dev Cert.GateOddReferenceIdeal.nD → PrngReg), Pre_GateOddReferenceIdeal_pre_gate1 m →
    θ_run (Cert.GateOddReferenceIdeal.defs (F := Ideal)) (onTc (τ := Cert.GateOddReferenceIdeal.τ) (Cert.GateOddReferenceIdeal.main (F := Ideal))) ⟨m, fun _ => 0, g⟩ (fun r => (∀ c : Dev Cert.GateOddReferenceIdeal.nD,
      r.2.mem ((c.tc : Thread Cert.GateOddReferenceIdeal.nD Cert.GateOddReferenceIdeal.τ).loc Cert.GateOddReferenceIdeal.main_arg0) = m ((c.tc : Thread Cert.GateOddReferenceIdeal.nD Cert.GateOddReferenceIdeal.τ).loc Cert.GateOddReferenceIdeal.main_arg0)
      ∧ r.2.mem ((c.tc : Thread Cert.GateOddReferenceIdeal.nD Cert.GateOddReferenceIdeal.τ).loc Cert.GateOddReferenceIdeal.main_arg1) = m ((c.tc : Thread Cert.GateOddReferenceIdeal.nD Cert.GateOddReferenceIdeal.τ).loc Cert.GateOddReferenceIdeal.main_arg1)
      ∧ r.2.mem ((c.tc : Thread Cert.GateOddReferenceIdeal.nD Cert.GateOddReferenceIdeal.τ).loc Cert.GateOddReferenceIdeal.main_arg2) = m ((c.tc : Thread Cert.GateOddReferenceIdeal.nD Cert.GateOddReferenceIdeal.τ).loc Cert.GateOddReferenceIdeal.main_arg2)
      ∧ r.2.mem ((c.tc : Thread Cert.GateOddReferenceIdeal.nD Cert.GateOddReferenceIdeal.τ).loc Cert.GateOddReferenceIdeal.main_arg3) = m ((c.tc : Thread Cert.GateOddReferenceIdeal.nD Cert.GateOddReferenceIdeal.τ).loc Cert.GateOddReferenceIdeal.main_arg3))
      ∧ r.2.sem = fun _ => 0)

def quiescent_GateEven [hGateEven : Cert.GateEven.Facts] : Prop :=
  ∀ (m : (ℓ : Loc Cert.GateEven.nD Cert.GateEven.τ Cert.GateEven.sig) → Buf (Elt Bits) ℓ) (g : Dev Cert.GateEven.nD → PrngReg), Pre_GateEven m →
    θ_run (Cert.GateEven.defs (F := Bits)) (onTc (τ := Cert.GateEven.τ) (Cert.GateEven.main (F := Bits))) ⟨m, fun _ => 0, g⟩ (fun r => (∀ c : Dev Cert.GateEven.nD,
      r.2.mem ((c.tc : Thread Cert.GateEven.nD Cert.GateEven.τ).loc Cert.GateEven.main_arg0) = m ((c.tc : Thread Cert.GateEven.nD Cert.GateEven.τ).loc Cert.GateEven.main_arg0)
      ∧ r.2.mem ((c.tc : Thread Cert.GateEven.nD Cert.GateEven.τ).loc Cert.GateEven.main_arg1) = m ((c.tc : Thread Cert.GateEven.nD Cert.GateEven.τ).loc Cert.GateEven.main_arg1)
      ∧ r.2.mem ((c.tc : Thread Cert.GateEven.nD Cert.GateEven.τ).loc Cert.GateEven.main_arg2) = m ((c.tc : Thread Cert.GateEven.nD Cert.GateEven.τ).loc Cert.GateEven.main_arg2)
      ∧ r.2.mem ((c.tc : Thread Cert.GateEven.nD Cert.GateEven.τ).loc Cert.GateEven.main_arg3) = m ((c.tc : Thread Cert.GateEven.nD Cert.GateEven.τ).loc Cert.GateEven.main_arg3)
      ∧ r.2.mem ((c.tc : Thread Cert.GateEven.nD Cert.GateEven.τ).loc Cert.GateEven.main_arg4) = m ((c.tc : Thread Cert.GateEven.nD Cert.GateEven.τ).loc Cert.GateEven.main_arg4))
      ∧ r.2.sem = fun _ => 0)

def quiescent_GateEvenIdeal [hGateEvenIdeal : Cert.GateEvenIdeal.Facts] : Prop :=
  ∀ (m : (ℓ : Loc Cert.GateEvenIdeal.nD Cert.GateEvenIdeal.τ Cert.GateEvenIdeal.sig) → Buf (Elt Ideal) ℓ) (g : Dev Cert.GateEvenIdeal.nD → PrngReg), Pre_GateEvenIdeal m →
    θ_run (Cert.GateEvenIdeal.defs (F := Ideal)) (onTc (τ := Cert.GateEvenIdeal.τ) (Cert.GateEvenIdeal.main (F := Ideal))) ⟨m, fun _ => 0, g⟩ (fun r => (∀ c : Dev Cert.GateEvenIdeal.nD,
      r.2.mem ((c.tc : Thread Cert.GateEvenIdeal.nD Cert.GateEvenIdeal.τ).loc Cert.GateEvenIdeal.main_arg0) = m ((c.tc : Thread Cert.GateEvenIdeal.nD Cert.GateEvenIdeal.τ).loc Cert.GateEvenIdeal.main_arg0)
      ∧ r.2.mem ((c.tc : Thread Cert.GateEvenIdeal.nD Cert.GateEvenIdeal.τ).loc Cert.GateEvenIdeal.main_arg1) = m ((c.tc : Thread Cert.GateEvenIdeal.nD Cert.GateEvenIdeal.τ).loc Cert.GateEvenIdeal.main_arg1)
      ∧ r.2.mem ((c.tc : Thread Cert.GateEvenIdeal.nD Cert.GateEvenIdeal.τ).loc Cert.GateEvenIdeal.main_arg2) = m ((c.tc : Thread Cert.GateEvenIdeal.nD Cert.GateEvenIdeal.τ).loc Cert.GateEvenIdeal.main_arg2)
      ∧ r.2.mem ((c.tc : Thread Cert.GateEvenIdeal.nD Cert.GateEvenIdeal.τ).loc Cert.GateEvenIdeal.main_arg3) = m ((c.tc : Thread Cert.GateEvenIdeal.nD Cert.GateEvenIdeal.τ).loc Cert.GateEvenIdeal.main_arg3)
      ∧ r.2.mem ((c.tc : Thread Cert.GateEvenIdeal.nD Cert.GateEvenIdeal.τ).loc Cert.GateEvenIdeal.main_arg4) = m ((c.tc : Thread Cert.GateEvenIdeal.nD Cert.GateEvenIdeal.τ).loc Cert.GateEvenIdeal.main_arg4))
      ∧ r.2.sem = fun _ => 0)

def quiescent_GateEvenIdeal_pre_pre_gate0 [hGateEvenIdeal : Cert.GateEvenIdeal.Facts] [hPre_pre_gate0 : Cert.Pre_pre_gate0.Facts] : Prop :=
  ∀ (m : (ℓ : Loc Cert.GateEvenIdeal.nD Cert.GateEvenIdeal.τ Cert.GateEvenIdeal.sig) → Buf (Elt Ideal) ℓ) (g : Dev Cert.GateEvenIdeal.nD → PrngReg), Pre_GateEvenIdeal_pre_gate0 m →
    θ_run (Cert.GateEvenIdeal.defs (F := Ideal)) (onTc (τ := Cert.GateEvenIdeal.τ) (Cert.GateEvenIdeal.main (F := Ideal))) ⟨m, fun _ => 0, g⟩ (fun r => (∀ c : Dev Cert.GateEvenIdeal.nD,
      r.2.mem ((c.tc : Thread Cert.GateEvenIdeal.nD Cert.GateEvenIdeal.τ).loc Cert.GateEvenIdeal.main_arg0) = m ((c.tc : Thread Cert.GateEvenIdeal.nD Cert.GateEvenIdeal.τ).loc Cert.GateEvenIdeal.main_arg0)
      ∧ r.2.mem ((c.tc : Thread Cert.GateEvenIdeal.nD Cert.GateEvenIdeal.τ).loc Cert.GateEvenIdeal.main_arg1) = m ((c.tc : Thread Cert.GateEvenIdeal.nD Cert.GateEvenIdeal.τ).loc Cert.GateEvenIdeal.main_arg1)
      ∧ r.2.mem ((c.tc : Thread Cert.GateEvenIdeal.nD Cert.GateEvenIdeal.τ).loc Cert.GateEvenIdeal.main_arg2) = m ((c.tc : Thread Cert.GateEvenIdeal.nD Cert.GateEvenIdeal.τ).loc Cert.GateEvenIdeal.main_arg2)
      ∧ r.2.mem ((c.tc : Thread Cert.GateEvenIdeal.nD Cert.GateEvenIdeal.τ).loc Cert.GateEvenIdeal.main_arg3) = m ((c.tc : Thread Cert.GateEvenIdeal.nD Cert.GateEvenIdeal.τ).loc Cert.GateEvenIdeal.main_arg3)
      ∧ r.2.mem ((c.tc : Thread Cert.GateEvenIdeal.nD Cert.GateEvenIdeal.τ).loc Cert.GateEvenIdeal.main_arg4) = m ((c.tc : Thread Cert.GateEvenIdeal.nD Cert.GateEvenIdeal.τ).loc Cert.GateEvenIdeal.main_arg4))
      ∧ r.2.sem = fun _ => 0)

def quiescent_GateEvenReferenceIdeal [hGateEvenReferenceIdeal : Cert.GateEvenReferenceIdeal.Facts] : Prop :=
  ∀ (m : (ℓ : Loc Cert.GateEvenReferenceIdeal.nD Cert.GateEvenReferenceIdeal.τ Cert.GateEvenReferenceIdeal.sig) → Buf (Elt Ideal) ℓ) (g : Dev Cert.GateEvenReferenceIdeal.nD → PrngReg), Pre_GateEvenReferenceIdeal m →
    θ_run (Cert.GateEvenReferenceIdeal.defs (F := Ideal)) (onTc (τ := Cert.GateEvenReferenceIdeal.τ) (Cert.GateEvenReferenceIdeal.main (F := Ideal))) ⟨m, fun _ => 0, g⟩ (fun r => (∀ c : Dev Cert.GateEvenReferenceIdeal.nD,
      r.2.mem ((c.tc : Thread Cert.GateEvenReferenceIdeal.nD Cert.GateEvenReferenceIdeal.τ).loc Cert.GateEvenReferenceIdeal.main_arg0) = m ((c.tc : Thread Cert.GateEvenReferenceIdeal.nD Cert.GateEvenReferenceIdeal.τ).loc Cert.GateEvenReferenceIdeal.main_arg0)
      ∧ r.2.mem ((c.tc : Thread Cert.GateEvenReferenceIdeal.nD Cert.GateEvenReferenceIdeal.τ).loc Cert.GateEvenReferenceIdeal.main_arg1) = m ((c.tc : Thread Cert.GateEvenReferenceIdeal.nD Cert.GateEvenReferenceIdeal.τ).loc Cert.GateEvenReferenceIdeal.main_arg1)
      ∧ r.2.mem ((c.tc : Thread Cert.GateEvenReferenceIdeal.nD Cert.GateEvenReferenceIdeal.τ).loc Cert.GateEvenReferenceIdeal.main_arg2) = m ((c.tc : Thread Cert.GateEvenReferenceIdeal.nD Cert.GateEvenReferenceIdeal.τ).loc Cert.GateEvenReferenceIdeal.main_arg2)
      ∧ r.2.mem ((c.tc : Thread Cert.GateEvenReferenceIdeal.nD Cert.GateEvenReferenceIdeal.τ).loc Cert.GateEvenReferenceIdeal.main_arg3) = m ((c.tc : Thread Cert.GateEvenReferenceIdeal.nD Cert.GateEvenReferenceIdeal.τ).loc Cert.GateEvenReferenceIdeal.main_arg3)
      ∧ r.2.mem ((c.tc : Thread Cert.GateEvenReferenceIdeal.nD Cert.GateEvenReferenceIdeal.τ).loc Cert.GateEvenReferenceIdeal.main_arg4) = m ((c.tc : Thread Cert.GateEvenReferenceIdeal.nD Cert.GateEvenReferenceIdeal.τ).loc Cert.GateEvenReferenceIdeal.main_arg4))
      ∧ r.2.sem = fun _ => 0)

def quiescent_GateEvenReferenceIdeal_pre_pre_gate0 [hGateEvenReferenceIdeal : Cert.GateEvenReferenceIdeal.Facts] [hPre_pre_gate0 : Cert.Pre_pre_gate0.Facts] : Prop :=
  ∀ (m : (ℓ : Loc Cert.GateEvenReferenceIdeal.nD Cert.GateEvenReferenceIdeal.τ Cert.GateEvenReferenceIdeal.sig) → Buf (Elt Ideal) ℓ) (g : Dev Cert.GateEvenReferenceIdeal.nD → PrngReg), Pre_GateEvenReferenceIdeal_pre_gate0 m →
    θ_run (Cert.GateEvenReferenceIdeal.defs (F := Ideal)) (onTc (τ := Cert.GateEvenReferenceIdeal.τ) (Cert.GateEvenReferenceIdeal.main (F := Ideal))) ⟨m, fun _ => 0, g⟩ (fun r => (∀ c : Dev Cert.GateEvenReferenceIdeal.nD,
      r.2.mem ((c.tc : Thread Cert.GateEvenReferenceIdeal.nD Cert.GateEvenReferenceIdeal.τ).loc Cert.GateEvenReferenceIdeal.main_arg0) = m ((c.tc : Thread Cert.GateEvenReferenceIdeal.nD Cert.GateEvenReferenceIdeal.τ).loc Cert.GateEvenReferenceIdeal.main_arg0)
      ∧ r.2.mem ((c.tc : Thread Cert.GateEvenReferenceIdeal.nD Cert.GateEvenReferenceIdeal.τ).loc Cert.GateEvenReferenceIdeal.main_arg1) = m ((c.tc : Thread Cert.GateEvenReferenceIdeal.nD Cert.GateEvenReferenceIdeal.τ).loc Cert.GateEvenReferenceIdeal.main_arg1)
      ∧ r.2.mem ((c.tc : Thread Cert.GateEvenReferenceIdeal.nD Cert.GateEvenReferenceIdeal.τ).loc Cert.GateEvenReferenceIdeal.main_arg2) = m ((c.tc : Thread Cert.GateEvenReferenceIdeal.nD Cert.GateEvenReferenceIdeal.τ).loc Cert.GateEvenReferenceIdeal.main_arg2)
      ∧ r.2.mem ((c.tc : Thread Cert.GateEvenReferenceIdeal.nD Cert.GateEvenReferenceIdeal.τ).loc Cert.GateEvenReferenceIdeal.main_arg3) = m ((c.tc : Thread Cert.GateEvenReferenceIdeal.nD Cert.GateEvenReferenceIdeal.τ).loc Cert.GateEvenReferenceIdeal.main_arg3)
      ∧ r.2.mem ((c.tc : Thread Cert.GateEvenReferenceIdeal.nD Cert.GateEvenReferenceIdeal.τ).loc Cert.GateEvenReferenceIdeal.main_arg4) = m ((c.tc : Thread Cert.GateEvenReferenceIdeal.nD Cert.GateEvenReferenceIdeal.τ).loc Cert.GateEvenReferenceIdeal.main_arg4))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0)
      ∧ r.2.mem ((c.tc : Thread Cert.Rope.nD Cert.Rope.τ).loc Cert.Rope.main_arg1) = m ((c.tc : Thread Cert.Rope.nD Cert.Rope.τ).loc Cert.Rope.main_arg1)
      ∧ r.2.mem ((c.tc : Thread Cert.Rope.nD Cert.Rope.τ).loc Cert.Rope.main_arg2) = m ((c.tc : Thread Cert.Rope.nD Cert.Rope.τ).loc Cert.Rope.main_arg2)
      ∧ r.2.mem ((c.tc : Thread Cert.Rope.nD Cert.Rope.τ).loc Cert.Rope.main_arg3) = m ((c.tc : Thread Cert.Rope.nD Cert.Rope.τ).loc Cert.Rope.main_arg3))
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0)
      ∧ r.2.mem ((c.tc : Thread Cert.RopeIdeal.nD Cert.RopeIdeal.τ).loc Cert.RopeIdeal.main_arg1) = m ((c.tc : Thread Cert.RopeIdeal.nD Cert.RopeIdeal.τ).loc Cert.RopeIdeal.main_arg1)
      ∧ r.2.mem ((c.tc : Thread Cert.RopeIdeal.nD Cert.RopeIdeal.τ).loc Cert.RopeIdeal.main_arg2) = m ((c.tc : Thread Cert.RopeIdeal.nD Cert.RopeIdeal.τ).loc Cert.RopeIdeal.main_arg2)
      ∧ r.2.mem ((c.tc : Thread Cert.RopeIdeal.nD Cert.RopeIdeal.τ).loc Cert.RopeIdeal.main_arg3) = m ((c.tc : Thread Cert.RopeIdeal.nD Cert.RopeIdeal.τ).loc Cert.RopeIdeal.main_arg3))
      ∧ r.2.sem = fun _ => 0)

def quiescent_RopeReferenceIdeal [hRopeReferenceIdeal : Cert.RopeReferenceIdeal.Facts] : Prop :=
  ∀ (m : (ℓ : Loc Cert.RopeReferenceIdeal.nD Cert.RopeReferenceIdeal.τ Cert.RopeReferenceIdeal.sig) → Buf (Elt Ideal) ℓ) (g : Dev Cert.RopeReferenceIdeal.nD → PrngReg), Pre_RopeReferenceIdeal m →
    θ_run (Cert.RopeReferenceIdeal.defs (F := Ideal)) (onTc (τ := Cert.RopeReferenceIdeal.τ) (Cert.RopeReferenceIdeal.main (F := Ideal))) ⟨m, fun _ => 0, g⟩ (fun r => (∀ c : Dev Cert.RopeReferenceIdeal.nD,
      r.2.mem ((c.tc : Thread Cert.RopeReferenceIdeal.nD Cert.RopeReferenceIdeal.τ).loc Cert.RopeReferenceIdeal.main_arg0) = m ((c.tc : Thread Cert.RopeReferenceIdeal.nD Cert.RopeReferenceIdeal.τ).loc Cert.RopeReferenceIdeal.main_arg0)
      ∧ r.2.mem ((c.tc : Thread Cert.RopeReferenceIdeal.nD Cert.RopeReferenceIdeal.τ).loc Cert.RopeReferenceIdeal.main_arg1) = m ((c.tc : Thread Cert.RopeReferenceIdeal.nD Cert.RopeReferenceIdeal.τ).loc Cert.RopeReferenceIdeal.main_arg1)
      ∧ r.2.mem ((c.tc : Thread Cert.RopeReferenceIdeal.nD Cert.RopeReferenceIdeal.τ).loc Cert.RopeReferenceIdeal.main_arg2) = m ((c.tc : Thread Cert.RopeReferenceIdeal.nD Cert.RopeReferenceIdeal.τ).loc Cert.RopeReferenceIdeal.main_arg2)
      ∧ r.2.mem ((c.tc : Thread Cert.RopeReferenceIdeal.nD Cert.RopeReferenceIdeal.τ).loc Cert.RopeReferenceIdeal.main_arg3) = m ((c.tc : Thread Cert.RopeReferenceIdeal.nD Cert.RopeReferenceIdeal.τ).loc Cert.RopeReferenceIdeal.main_arg3))
      ∧ r.2.sem = fun _ => 0)

def quiescent_NormQ [hNormQ : Cert.NormQ.Facts] : Prop :=
  ∀ (m : (ℓ : Loc Cert.NormQ.nD Cert.NormQ.τ Cert.NormQ.sig) → Buf (Elt Bits) ℓ) (g : Dev Cert.NormQ.nD → PrngReg), Pre_NormQ m →
    θ_run (Cert.NormQ.defs (F := Bits)) (onTc (τ := Cert.NormQ.τ) (Cert.NormQ.main (F := Bits))) ⟨m, fun _ => 0, g⟩ (fun r => (∀ c : Dev Cert.NormQ.nD,
      r.2.mem ((c.tc : Thread Cert.NormQ.nD Cert.NormQ.τ).loc Cert.NormQ.main_arg0) = m ((c.tc : Thread Cert.NormQ.nD Cert.NormQ.τ).loc Cert.NormQ.main_arg0)
      ∧ r.2.mem ((c.tc : Thread Cert.NormQ.nD Cert.NormQ.τ).loc Cert.NormQ.main_arg1) = m ((c.tc : Thread Cert.NormQ.nD Cert.NormQ.τ).loc Cert.NormQ.main_arg1)
      ∧ r.2.mem ((c.tc : Thread Cert.NormQ.nD Cert.NormQ.τ).loc Cert.NormQ.main_arg2) = m ((c.tc : Thread Cert.NormQ.nD Cert.NormQ.τ).loc Cert.NormQ.main_arg2))
      ∧ r.2.sem = fun _ => 0)

def quiescent_NormQIdeal [hNormQIdeal : Cert.NormQIdeal.Facts] : Prop :=
  ∀ (m : (ℓ : Loc Cert.NormQIdeal.nD Cert.NormQIdeal.τ Cert.NormQIdeal.sig) → Buf (Elt Ideal) ℓ) (g : Dev Cert.NormQIdeal.nD → PrngReg), Pre_NormQIdeal m →
    θ_run (Cert.NormQIdeal.defs (F := Ideal)) (onTc (τ := Cert.NormQIdeal.τ) (Cert.NormQIdeal.main (F := Ideal))) ⟨m, fun _ => 0, g⟩ (fun r => (∀ c : Dev Cert.NormQIdeal.nD,
      r.2.mem ((c.tc : Thread Cert.NormQIdeal.nD Cert.NormQIdeal.τ).loc Cert.NormQIdeal.main_arg0) = m ((c.tc : Thread Cert.NormQIdeal.nD Cert.NormQIdeal.τ).loc Cert.NormQIdeal.main_arg0)
      ∧ r.2.mem ((c.tc : Thread Cert.NormQIdeal.nD Cert.NormQIdeal.τ).loc Cert.NormQIdeal.main_arg1) = m ((c.tc : Thread Cert.NormQIdeal.nD Cert.NormQIdeal.τ).loc Cert.NormQIdeal.main_arg1)
      ∧ r.2.mem ((c.tc : Thread Cert.NormQIdeal.nD Cert.NormQIdeal.τ).loc Cert.NormQIdeal.main_arg2) = m ((c.tc : Thread Cert.NormQIdeal.nD Cert.NormQIdeal.τ).loc Cert.NormQIdeal.main_arg2))
      ∧ r.2.sem = fun _ => 0)

def quiescent_NormQIdeal_pre_pre_qnorm [hNormQIdeal : Cert.NormQIdeal.Facts] [hPre_pre_qnorm : Cert.Pre_pre_qnorm.Facts] : Prop :=
  ∀ (m : (ℓ : Loc Cert.NormQIdeal.nD Cert.NormQIdeal.τ Cert.NormQIdeal.sig) → Buf (Elt Ideal) ℓ) (g : Dev Cert.NormQIdeal.nD → PrngReg), Pre_NormQIdeal_pre_qnorm m →
    θ_run (Cert.NormQIdeal.defs (F := Ideal)) (onTc (τ := Cert.NormQIdeal.τ) (Cert.NormQIdeal.main (F := Ideal))) ⟨m, fun _ => 0, g⟩ (fun r => (∀ c : Dev Cert.NormQIdeal.nD,
      r.2.mem ((c.tc : Thread Cert.NormQIdeal.nD Cert.NormQIdeal.τ).loc Cert.NormQIdeal.main_arg0) = m ((c.tc : Thread Cert.NormQIdeal.nD Cert.NormQIdeal.τ).loc Cert.NormQIdeal.main_arg0)
      ∧ r.2.mem ((c.tc : Thread Cert.NormQIdeal.nD Cert.NormQIdeal.τ).loc Cert.NormQIdeal.main_arg1) = m ((c.tc : Thread Cert.NormQIdeal.nD Cert.NormQIdeal.τ).loc Cert.NormQIdeal.main_arg1)
      ∧ r.2.mem ((c.tc : Thread Cert.NormQIdeal.nD Cert.NormQIdeal.τ).loc Cert.NormQIdeal.main_arg2) = m ((c.tc : Thread Cert.NormQIdeal.nD Cert.NormQIdeal.τ).loc Cert.NormQIdeal.main_arg2))
      ∧ r.2.sem = fun _ => 0)

def quiescent_NormQReferenceIdeal [hNormQReferenceIdeal : Cert.NormQReferenceIdeal.Facts] : Prop :=
  ∀ (m : (ℓ : Loc Cert.NormQReferenceIdeal.nD Cert.NormQReferenceIdeal.τ Cert.NormQReferenceIdeal.sig) → Buf (Elt Ideal) ℓ) (g : Dev Cert.NormQReferenceIdeal.nD → PrngReg), Pre_NormQReferenceIdeal m →
    θ_run (Cert.NormQReferenceIdeal.defs (F := Ideal)) (onTc (τ := Cert.NormQReferenceIdeal.τ) (Cert.NormQReferenceIdeal.main (F := Ideal))) ⟨m, fun _ => 0, g⟩ (fun r => (∀ c : Dev Cert.NormQReferenceIdeal.nD,
      r.2.mem ((c.tc : Thread Cert.NormQReferenceIdeal.nD Cert.NormQReferenceIdeal.τ).loc Cert.NormQReferenceIdeal.main_arg0) = m ((c.tc : Thread Cert.NormQReferenceIdeal.nD Cert.NormQReferenceIdeal.τ).loc Cert.NormQReferenceIdeal.main_arg0)
      ∧ r.2.mem ((c.tc : Thread Cert.NormQReferenceIdeal.nD Cert.NormQReferenceIdeal.τ).loc Cert.NormQReferenceIdeal.main_arg1) = m ((c.tc : Thread Cert.NormQReferenceIdeal.nD Cert.NormQReferenceIdeal.τ).loc Cert.NormQReferenceIdeal.main_arg1)
      ∧ r.2.mem ((c.tc : Thread Cert.NormQReferenceIdeal.nD Cert.NormQReferenceIdeal.τ).loc Cert.NormQReferenceIdeal.main_arg2) = m ((c.tc : Thread Cert.NormQReferenceIdeal.nD Cert.NormQReferenceIdeal.τ).loc Cert.NormQReferenceIdeal.main_arg2))
      ∧ r.2.sem = fun _ => 0)

def quiescent_NormQReferenceIdeal_pre_pre_qnorm [hNormQReferenceIdeal : Cert.NormQReferenceIdeal.Facts] [hPre_pre_qnorm : Cert.Pre_pre_qnorm.Facts] : Prop :=
  ∀ (m : (ℓ : Loc Cert.NormQReferenceIdeal.nD Cert.NormQReferenceIdeal.τ Cert.NormQReferenceIdeal.sig) → Buf (Elt Ideal) ℓ) (g : Dev Cert.NormQReferenceIdeal.nD → PrngReg), Pre_NormQReferenceIdeal_pre_qnorm m →
    θ_run (Cert.NormQReferenceIdeal.defs (F := Ideal)) (onTc (τ := Cert.NormQReferenceIdeal.τ) (Cert.NormQReferenceIdeal.main (F := Ideal))) ⟨m, fun _ => 0, g⟩ (fun r => (∀ c : Dev Cert.NormQReferenceIdeal.nD,
      r.2.mem ((c.tc : Thread Cert.NormQReferenceIdeal.nD Cert.NormQReferenceIdeal.τ).loc Cert.NormQReferenceIdeal.main_arg0) = m ((c.tc : Thread Cert.NormQReferenceIdeal.nD Cert.NormQReferenceIdeal.τ).loc Cert.NormQReferenceIdeal.main_arg0)
      ∧ r.2.mem ((c.tc : Thread Cert.NormQReferenceIdeal.nD Cert.NormQReferenceIdeal.τ).loc Cert.NormQReferenceIdeal.main_arg1) = m ((c.tc : Thread Cert.NormQReferenceIdeal.nD Cert.NormQReferenceIdeal.τ).loc Cert.NormQReferenceIdeal.main_arg1)
      ∧ r.2.mem ((c.tc : Thread Cert.NormQReferenceIdeal.nD Cert.NormQReferenceIdeal.τ).loc Cert.NormQReferenceIdeal.main_arg2) = m ((c.tc : Thread Cert.NormQReferenceIdeal.nD Cert.NormQReferenceIdeal.τ).loc Cert.NormQReferenceIdeal.main_arg2))
      ∧ r.2.sem = fun _ => 0)

def quiescent_NormKv [hNormKv : Cert.NormKv.Facts] : Prop :=
  ∀ (m : (ℓ : Loc Cert.NormKv.nD Cert.NormKv.τ Cert.NormKv.sig) → Buf (Elt Bits) ℓ) (g : Dev Cert.NormKv.nD → PrngReg), Pre_NormKv m →
    θ_run (Cert.NormKv.defs (F := Bits)) (onTc (τ := Cert.NormKv.τ) (Cert.NormKv.main (F := Bits))) ⟨m, fun _ => 0, g⟩ (fun r => (∀ c : Dev Cert.NormKv.nD,
      r.2.mem ((c.tc : Thread Cert.NormKv.nD Cert.NormKv.τ).loc Cert.NormKv.main_arg0) = m ((c.tc : Thread Cert.NormKv.nD Cert.NormKv.τ).loc Cert.NormKv.main_arg0)
      ∧ r.2.mem ((c.tc : Thread Cert.NormKv.nD Cert.NormKv.τ).loc Cert.NormKv.main_arg1) = m ((c.tc : Thread Cert.NormKv.nD Cert.NormKv.τ).loc Cert.NormKv.main_arg1)
      ∧ r.2.mem ((c.tc : Thread Cert.NormKv.nD Cert.NormKv.τ).loc Cert.NormKv.main_arg2) = m ((c.tc : Thread Cert.NormKv.nD Cert.NormKv.τ).loc Cert.NormKv.main_arg2))
      ∧ r.2.sem = fun _ => 0)

def quiescent_NormKvIdeal [hNormKvIdeal : Cert.NormKvIdeal.Facts] : Prop :=
  ∀ (m : (ℓ : Loc Cert.NormKvIdeal.nD Cert.NormKvIdeal.τ Cert.NormKvIdeal.sig) → Buf (Elt Ideal) ℓ) (g : Dev Cert.NormKvIdeal.nD → PrngReg), Pre_NormKvIdeal m →
    θ_run (Cert.NormKvIdeal.defs (F := Ideal)) (onTc (τ := Cert.NormKvIdeal.τ) (Cert.NormKvIdeal.main (F := Ideal))) ⟨m, fun _ => 0, g⟩ (fun r => (∀ c : Dev Cert.NormKvIdeal.nD,
      r.2.mem ((c.tc : Thread Cert.NormKvIdeal.nD Cert.NormKvIdeal.τ).loc Cert.NormKvIdeal.main_arg0) = m ((c.tc : Thread Cert.NormKvIdeal.nD Cert.NormKvIdeal.τ).loc Cert.NormKvIdeal.main_arg0)
      ∧ r.2.mem ((c.tc : Thread Cert.NormKvIdeal.nD Cert.NormKvIdeal.τ).loc Cert.NormKvIdeal.main_arg1) = m ((c.tc : Thread Cert.NormKvIdeal.nD Cert.NormKvIdeal.τ).loc Cert.NormKvIdeal.main_arg1)
      ∧ r.2.mem ((c.tc : Thread Cert.NormKvIdeal.nD Cert.NormKvIdeal.τ).loc Cert.NormKvIdeal.main_arg2) = m ((c.tc : Thread Cert.NormKvIdeal.nD Cert.NormKvIdeal.τ).loc Cert.NormKvIdeal.main_arg2))
      ∧ r.2.sem = fun _ => 0)

def quiescent_NormKvIdeal_pre_pre_kvnorm [hNormKvIdeal : Cert.NormKvIdeal.Facts] [hPre_pre_kvnorm : Cert.Pre_pre_kvnorm.Facts] : Prop :=
  ∀ (m : (ℓ : Loc Cert.NormKvIdeal.nD Cert.NormKvIdeal.τ Cert.NormKvIdeal.sig) → Buf (Elt Ideal) ℓ) (g : Dev Cert.NormKvIdeal.nD → PrngReg), Pre_NormKvIdeal_pre_kvnorm m →
    θ_run (Cert.NormKvIdeal.defs (F := Ideal)) (onTc (τ := Cert.NormKvIdeal.τ) (Cert.NormKvIdeal.main (F := Ideal))) ⟨m, fun _ => 0, g⟩ (fun r => (∀ c : Dev Cert.NormKvIdeal.nD,
      r.2.mem ((c.tc : Thread Cert.NormKvIdeal.nD Cert.NormKvIdeal.τ).loc Cert.NormKvIdeal.main_arg0) = m ((c.tc : Thread Cert.NormKvIdeal.nD Cert.NormKvIdeal.τ).loc Cert.NormKvIdeal.main_arg0)
      ∧ r.2.mem ((c.tc : Thread Cert.NormKvIdeal.nD Cert.NormKvIdeal.τ).loc Cert.NormKvIdeal.main_arg1) = m ((c.tc : Thread Cert.NormKvIdeal.nD Cert.NormKvIdeal.τ).loc Cert.NormKvIdeal.main_arg1)
      ∧ r.2.mem ((c.tc : Thread Cert.NormKvIdeal.nD Cert.NormKvIdeal.τ).loc Cert.NormKvIdeal.main_arg2) = m ((c.tc : Thread Cert.NormKvIdeal.nD Cert.NormKvIdeal.τ).loc Cert.NormKvIdeal.main_arg2))
      ∧ r.2.sem = fun _ => 0)

def quiescent_NormKvReferenceIdeal [hNormKvReferenceIdeal : Cert.NormKvReferenceIdeal.Facts] : Prop :=
  ∀ (m : (ℓ : Loc Cert.NormKvReferenceIdeal.nD Cert.NormKvReferenceIdeal.τ Cert.NormKvReferenceIdeal.sig) → Buf (Elt Ideal) ℓ) (g : Dev Cert.NormKvReferenceIdeal.nD → PrngReg), Pre_NormKvReferenceIdeal m →
    θ_run (Cert.NormKvReferenceIdeal.defs (F := Ideal)) (onTc (τ := Cert.NormKvReferenceIdeal.τ) (Cert.NormKvReferenceIdeal.main (F := Ideal))) ⟨m, fun _ => 0, g⟩ (fun r => (∀ c : Dev Cert.NormKvReferenceIdeal.nD,
      r.2.mem ((c.tc : Thread Cert.NormKvReferenceIdeal.nD Cert.NormKvReferenceIdeal.τ).loc Cert.NormKvReferenceIdeal.main_arg0) = m ((c.tc : Thread Cert.NormKvReferenceIdeal.nD Cert.NormKvReferenceIdeal.τ).loc Cert.NormKvReferenceIdeal.main_arg0)
      ∧ r.2.mem ((c.tc : Thread Cert.NormKvReferenceIdeal.nD Cert.NormKvReferenceIdeal.τ).loc Cert.NormKvReferenceIdeal.main_arg1) = m ((c.tc : Thread Cert.NormKvReferenceIdeal.nD Cert.NormKvReferenceIdeal.τ).loc Cert.NormKvReferenceIdeal.main_arg1)
      ∧ r.2.mem ((c.tc : Thread Cert.NormKvReferenceIdeal.nD Cert.NormKvReferenceIdeal.τ).loc Cert.NormKvReferenceIdeal.main_arg2) = m ((c.tc : Thread Cert.NormKvReferenceIdeal.nD Cert.NormKvReferenceIdeal.τ).loc Cert.NormKvReferenceIdeal.main_arg2))
      ∧ r.2.sem = fun _ => 0)

def quiescent_NormKvReferenceIdeal_pre_pre_kvnorm [hNormKvReferenceIdeal : Cert.NormKvReferenceIdeal.Facts] [hPre_pre_kvnorm : Cert.Pre_pre_kvnorm.Facts] : Prop :=
  ∀ (m : (ℓ : Loc Cert.NormKvReferenceIdeal.nD Cert.NormKvReferenceIdeal.τ Cert.NormKvReferenceIdeal.sig) → Buf (Elt Ideal) ℓ) (g : Dev Cert.NormKvReferenceIdeal.nD → PrngReg), Pre_NormKvReferenceIdeal_pre_kvnorm m →
    θ_run (Cert.NormKvReferenceIdeal.defs (F := Ideal)) (onTc (τ := Cert.NormKvReferenceIdeal.τ) (Cert.NormKvReferenceIdeal.main (F := Ideal))) ⟨m, fun _ => 0, g⟩ (fun r => (∀ c : Dev Cert.NormKvReferenceIdeal.nD,
      r.2.mem ((c.tc : Thread Cert.NormKvReferenceIdeal.nD Cert.NormKvReferenceIdeal.τ).loc Cert.NormKvReferenceIdeal.main_arg0) = m ((c.tc : Thread Cert.NormKvReferenceIdeal.nD Cert.NormKvReferenceIdeal.τ).loc Cert.NormKvReferenceIdeal.main_arg0)
      ∧ r.2.mem ((c.tc : Thread Cert.NormKvReferenceIdeal.nD Cert.NormKvReferenceIdeal.τ).loc Cert.NormKvReferenceIdeal.main_arg1) = m ((c.tc : Thread Cert.NormKvReferenceIdeal.nD Cert.NormKvReferenceIdeal.τ).loc Cert.NormKvReferenceIdeal.main_arg1)
      ∧ r.2.mem ((c.tc : Thread Cert.NormKvReferenceIdeal.nD Cert.NormKvReferenceIdeal.τ).loc Cert.NormKvReferenceIdeal.main_arg2) = m ((c.tc : Thread Cert.NormKvReferenceIdeal.nD Cert.NormKvReferenceIdeal.τ).loc Cert.NormKvReferenceIdeal.main_arg2))
      ∧ r.2.sem = fun _ => 0)

def quiescent_InOdd [hInOdd : Cert.InOdd.Facts] : Prop :=
  ∀ (m : (ℓ : Loc Cert.InOdd.nD Cert.InOdd.τ Cert.InOdd.sig) → Buf (Elt Bits) ℓ) (g : Dev Cert.InOdd.nD → PrngReg), Pre_InOdd m →
    θ_run (Cert.InOdd.defs (F := Bits)) (onTc (τ := Cert.InOdd.τ) (Cert.InOdd.main (F := Bits))) ⟨m, fun _ => 0, g⟩ (fun r => (∀ c : Dev Cert.InOdd.nD,
      r.2.mem ((c.tc : Thread Cert.InOdd.nD Cert.InOdd.τ).loc Cert.InOdd.main_arg0) = m ((c.tc : Thread Cert.InOdd.nD Cert.InOdd.τ).loc Cert.InOdd.main_arg0)
      ∧ r.2.mem ((c.tc : Thread Cert.InOdd.nD Cert.InOdd.τ).loc Cert.InOdd.main_arg1) = m ((c.tc : Thread Cert.InOdd.nD Cert.InOdd.τ).loc Cert.InOdd.main_arg1)
      ∧ r.2.mem ((c.tc : Thread Cert.InOdd.nD Cert.InOdd.τ).loc Cert.InOdd.main_arg2) = m ((c.tc : Thread Cert.InOdd.nD Cert.InOdd.τ).loc Cert.InOdd.main_arg2)
      ∧ r.2.mem ((c.tc : Thread Cert.InOdd.nD Cert.InOdd.τ).loc Cert.InOdd.main_arg3) = m ((c.tc : Thread Cert.InOdd.nD Cert.InOdd.τ).loc Cert.InOdd.main_arg3)
      ∧ r.2.mem ((c.tc : Thread Cert.InOdd.nD Cert.InOdd.τ).loc Cert.InOdd.main_arg4) = m ((c.tc : Thread Cert.InOdd.nD Cert.InOdd.τ).loc Cert.InOdd.main_arg4))
      ∧ r.2.sem = fun _ => 0)

def quiescent_InOddIdeal [hInOddIdeal : Cert.InOddIdeal.Facts] : Prop :=
  ∀ (m : (ℓ : Loc Cert.InOddIdeal.nD Cert.InOddIdeal.τ Cert.InOddIdeal.sig) → Buf (Elt Ideal) ℓ) (g : Dev Cert.InOddIdeal.nD → PrngReg), Pre_InOddIdeal m →
    θ_run (Cert.InOddIdeal.defs (F := Ideal)) (onTc (τ := Cert.InOddIdeal.τ) (Cert.InOddIdeal.main (F := Ideal))) ⟨m, fun _ => 0, g⟩ (fun r => (∀ c : Dev Cert.InOddIdeal.nD,
      r.2.mem ((c.tc : Thread Cert.InOddIdeal.nD Cert.InOddIdeal.τ).loc Cert.InOddIdeal.main_arg0) = m ((c.tc : Thread Cert.InOddIdeal.nD Cert.InOddIdeal.τ).loc Cert.InOddIdeal.main_arg0)
      ∧ r.2.mem ((c.tc : Thread Cert.InOddIdeal.nD Cert.InOddIdeal.τ).loc Cert.InOddIdeal.main_arg1) = m ((c.tc : Thread Cert.InOddIdeal.nD Cert.InOddIdeal.τ).loc Cert.InOddIdeal.main_arg1)
      ∧ r.2.mem ((c.tc : Thread Cert.InOddIdeal.nD Cert.InOddIdeal.τ).loc Cert.InOddIdeal.main_arg2) = m ((c.tc : Thread Cert.InOddIdeal.nD Cert.InOddIdeal.τ).loc Cert.InOddIdeal.main_arg2)
      ∧ r.2.mem ((c.tc : Thread Cert.InOddIdeal.nD Cert.InOddIdeal.τ).loc Cert.InOddIdeal.main_arg3) = m ((c.tc : Thread Cert.InOddIdeal.nD Cert.InOddIdeal.τ).loc Cert.InOddIdeal.main_arg3)
      ∧ r.2.mem ((c.tc : Thread Cert.InOddIdeal.nD Cert.InOddIdeal.τ).loc Cert.InOddIdeal.main_arg4) = m ((c.tc : Thread Cert.InOddIdeal.nD Cert.InOddIdeal.τ).loc Cert.InOddIdeal.main_arg4))
      ∧ r.2.sem = fun _ => 0)

def quiescent_InOddIdeal_pre_pre_in1 [hInOddIdeal : Cert.InOddIdeal.Facts] [hPre_pre_in1 : Cert.Pre_pre_in1.Facts] : Prop :=
  ∀ (m : (ℓ : Loc Cert.InOddIdeal.nD Cert.InOddIdeal.τ Cert.InOddIdeal.sig) → Buf (Elt Ideal) ℓ) (g : Dev Cert.InOddIdeal.nD → PrngReg), Pre_InOddIdeal_pre_in1 m →
    θ_run (Cert.InOddIdeal.defs (F := Ideal)) (onTc (τ := Cert.InOddIdeal.τ) (Cert.InOddIdeal.main (F := Ideal))) ⟨m, fun _ => 0, g⟩ (fun r => (∀ c : Dev Cert.InOddIdeal.nD,
      r.2.mem ((c.tc : Thread Cert.InOddIdeal.nD Cert.InOddIdeal.τ).loc Cert.InOddIdeal.main_arg0) = m ((c.tc : Thread Cert.InOddIdeal.nD Cert.InOddIdeal.τ).loc Cert.InOddIdeal.main_arg0)
      ∧ r.2.mem ((c.tc : Thread Cert.InOddIdeal.nD Cert.InOddIdeal.τ).loc Cert.InOddIdeal.main_arg1) = m ((c.tc : Thread Cert.InOddIdeal.nD Cert.InOddIdeal.τ).loc Cert.InOddIdeal.main_arg1)
      ∧ r.2.mem ((c.tc : Thread Cert.InOddIdeal.nD Cert.InOddIdeal.τ).loc Cert.InOddIdeal.main_arg2) = m ((c.tc : Thread Cert.InOddIdeal.nD Cert.InOddIdeal.τ).loc Cert.InOddIdeal.main_arg2)
      ∧ r.2.mem ((c.tc : Thread Cert.InOddIdeal.nD Cert.InOddIdeal.τ).loc Cert.InOddIdeal.main_arg3) = m ((c.tc : Thread Cert.InOddIdeal.nD Cert.InOddIdeal.τ).loc Cert.InOddIdeal.main_arg3)
      ∧ r.2.mem ((c.tc : Thread Cert.InOddIdeal.nD Cert.InOddIdeal.τ).loc Cert.InOddIdeal.main_arg4) = m ((c.tc : Thread Cert.InOddIdeal.nD Cert.InOddIdeal.τ).loc Cert.InOddIdeal.main_arg4))
      ∧ r.2.sem = fun _ => 0)

def quiescent_InOddReferenceIdeal [hInOddReferenceIdeal : Cert.InOddReferenceIdeal.Facts] : Prop :=
  ∀ (m : (ℓ : Loc Cert.InOddReferenceIdeal.nD Cert.InOddReferenceIdeal.τ Cert.InOddReferenceIdeal.sig) → Buf (Elt Ideal) ℓ) (g : Dev Cert.InOddReferenceIdeal.nD → PrngReg), Pre_InOddReferenceIdeal m →
    θ_run (Cert.InOddReferenceIdeal.defs (F := Ideal)) (onTc (τ := Cert.InOddReferenceIdeal.τ) (Cert.InOddReferenceIdeal.main (F := Ideal))) ⟨m, fun _ => 0, g⟩ (fun r => (∀ c : Dev Cert.InOddReferenceIdeal.nD,
      r.2.mem ((c.tc : Thread Cert.InOddReferenceIdeal.nD Cert.InOddReferenceIdeal.τ).loc Cert.InOddReferenceIdeal.main_arg0) = m ((c.tc : Thread Cert.InOddReferenceIdeal.nD Cert.InOddReferenceIdeal.τ).loc Cert.InOddReferenceIdeal.main_arg0)
      ∧ r.2.mem ((c.tc : Thread Cert.InOddReferenceIdeal.nD Cert.InOddReferenceIdeal.τ).loc Cert.InOddReferenceIdeal.main_arg1) = m ((c.tc : Thread Cert.InOddReferenceIdeal.nD Cert.InOddReferenceIdeal.τ).loc Cert.InOddReferenceIdeal.main_arg1)
      ∧ r.2.mem ((c.tc : Thread Cert.InOddReferenceIdeal.nD Cert.InOddReferenceIdeal.τ).loc Cert.InOddReferenceIdeal.main_arg2) = m ((c.tc : Thread Cert.InOddReferenceIdeal.nD Cert.InOddReferenceIdeal.τ).loc Cert.InOddReferenceIdeal.main_arg2)
      ∧ r.2.mem ((c.tc : Thread Cert.InOddReferenceIdeal.nD Cert.InOddReferenceIdeal.τ).loc Cert.InOddReferenceIdeal.main_arg3) = m ((c.tc : Thread Cert.InOddReferenceIdeal.nD Cert.InOddReferenceIdeal.τ).loc Cert.InOddReferenceIdeal.main_arg3)
      ∧ r.2.mem ((c.tc : Thread Cert.InOddReferenceIdeal.nD Cert.InOddReferenceIdeal.τ).loc Cert.InOddReferenceIdeal.main_arg4) = m ((c.tc : Thread Cert.InOddReferenceIdeal.nD Cert.InOddReferenceIdeal.τ).loc Cert.InOddReferenceIdeal.main_arg4))
      ∧ r.2.sem = fun _ => 0)

def quiescent_InOddReferenceIdeal_pre_pre_in1 [hInOddReferenceIdeal : Cert.InOddReferenceIdeal.Facts] [hPre_pre_in1 : Cert.Pre_pre_in1.Facts] : Prop :=
  ∀ (m : (ℓ : Loc Cert.InOddReferenceIdeal.nD Cert.InOddReferenceIdeal.τ Cert.InOddReferenceIdeal.sig) → Buf (Elt Ideal) ℓ) (g : Dev Cert.InOddReferenceIdeal.nD → PrngReg), Pre_InOddReferenceIdeal_pre_in1 m →
    θ_run (Cert.InOddReferenceIdeal.defs (F := Ideal)) (onTc (τ := Cert.InOddReferenceIdeal.τ) (Cert.InOddReferenceIdeal.main (F := Ideal))) ⟨m, fun _ => 0, g⟩ (fun r => (∀ c : Dev Cert.InOddReferenceIdeal.nD,
      r.2.mem ((c.tc : Thread Cert.InOddReferenceIdeal.nD Cert.InOddReferenceIdeal.τ).loc Cert.InOddReferenceIdeal.main_arg0) = m ((c.tc : Thread Cert.InOddReferenceIdeal.nD Cert.InOddReferenceIdeal.τ).loc Cert.InOddReferenceIdeal.main_arg0)
      ∧ r.2.mem ((c.tc : Thread Cert.InOddReferenceIdeal.nD Cert.InOddReferenceIdeal.τ).loc Cert.InOddReferenceIdeal.main_arg1) = m ((c.tc : Thread Cert.InOddReferenceIdeal.nD Cert.InOddReferenceIdeal.τ).loc Cert.InOddReferenceIdeal.main_arg1)
      ∧ r.2.mem ((c.tc : Thread Cert.InOddReferenceIdeal.nD Cert.InOddReferenceIdeal.τ).loc Cert.InOddReferenceIdeal.main_arg2) = m ((c.tc : Thread Cert.InOddReferenceIdeal.nD Cert.InOddReferenceIdeal.τ).loc Cert.InOddReferenceIdeal.main_arg2)
      ∧ r.2.mem ((c.tc : Thread Cert.InOddReferenceIdeal.nD Cert.InOddReferenceIdeal.τ).loc Cert.InOddReferenceIdeal.main_arg3) = m ((c.tc : Thread Cert.InOddReferenceIdeal.nD Cert.InOddReferenceIdeal.τ).loc Cert.InOddReferenceIdeal.main_arg3)
      ∧ r.2.mem ((c.tc : Thread Cert.InOddReferenceIdeal.nD Cert.InOddReferenceIdeal.τ).loc Cert.InOddReferenceIdeal.main_arg4) = m ((c.tc : Thread Cert.InOddReferenceIdeal.nD Cert.InOddReferenceIdeal.τ).loc Cert.InOddReferenceIdeal.main_arg4))
      ∧ r.2.sem = fun _ => 0)

def quiescent_InEven [hInEven : Cert.InEven.Facts] : Prop :=
  ∀ (m : (ℓ : Loc Cert.InEven.nD Cert.InEven.τ Cert.InEven.sig) → Buf (Elt Bits) ℓ) (g : Dev Cert.InEven.nD → PrngReg), Pre_InEven m →
    θ_run (Cert.InEven.defs (F := Bits)) (onTc (τ := Cert.InEven.τ) (Cert.InEven.main (F := Bits))) ⟨m, fun _ => 0, g⟩ (fun r => (∀ c : Dev Cert.InEven.nD,
      r.2.mem ((c.tc : Thread Cert.InEven.nD Cert.InEven.τ).loc Cert.InEven.main_arg0) = m ((c.tc : Thread Cert.InEven.nD Cert.InEven.τ).loc Cert.InEven.main_arg0)
      ∧ r.2.mem ((c.tc : Thread Cert.InEven.nD Cert.InEven.τ).loc Cert.InEven.main_arg1) = m ((c.tc : Thread Cert.InEven.nD Cert.InEven.τ).loc Cert.InEven.main_arg1)
      ∧ r.2.mem ((c.tc : Thread Cert.InEven.nD Cert.InEven.τ).loc Cert.InEven.main_arg2) = m ((c.tc : Thread Cert.InEven.nD Cert.InEven.τ).loc Cert.InEven.main_arg2)
      ∧ r.2.mem ((c.tc : Thread Cert.InEven.nD Cert.InEven.τ).loc Cert.InEven.main_arg3) = m ((c.tc : Thread Cert.InEven.nD Cert.InEven.τ).loc Cert.InEven.main_arg3)
      ∧ r.2.mem ((c.tc : Thread Cert.InEven.nD Cert.InEven.τ).loc Cert.InEven.main_arg4) = m ((c.tc : Thread Cert.InEven.nD Cert.InEven.τ).loc Cert.InEven.main_arg4))
      ∧ r.2.sem = fun _ => 0)

def quiescent_InEvenIdeal [hInEvenIdeal : Cert.InEvenIdeal.Facts] : Prop :=
  ∀ (m : (ℓ : Loc Cert.InEvenIdeal.nD Cert.InEvenIdeal.τ Cert.InEvenIdeal.sig) → Buf (Elt Ideal) ℓ) (g : Dev Cert.InEvenIdeal.nD → PrngReg), Pre_InEvenIdeal m →
    θ_run (Cert.InEvenIdeal.defs (F := Ideal)) (onTc (τ := Cert.InEvenIdeal.τ) (Cert.InEvenIdeal.main (F := Ideal))) ⟨m, fun _ => 0, g⟩ (fun r => (∀ c : Dev Cert.InEvenIdeal.nD,
      r.2.mem ((c.tc : Thread Cert.InEvenIdeal.nD Cert.InEvenIdeal.τ).loc Cert.InEvenIdeal.main_arg0) = m ((c.tc : Thread Cert.InEvenIdeal.nD Cert.InEvenIdeal.τ).loc Cert.InEvenIdeal.main_arg0)
      ∧ r.2.mem ((c.tc : Thread Cert.InEvenIdeal.nD Cert.InEvenIdeal.τ).loc Cert.InEvenIdeal.main_arg1) = m ((c.tc : Thread Cert.InEvenIdeal.nD Cert.InEvenIdeal.τ).loc Cert.InEvenIdeal.main_arg1)
      ∧ r.2.mem ((c.tc : Thread Cert.InEvenIdeal.nD Cert.InEvenIdeal.τ).loc Cert.InEvenIdeal.main_arg2) = m ((c.tc : Thread Cert.InEvenIdeal.nD Cert.InEvenIdeal.τ).loc Cert.InEvenIdeal.main_arg2)
      ∧ r.2.mem ((c.tc : Thread Cert.InEvenIdeal.nD Cert.InEvenIdeal.τ).loc Cert.InEvenIdeal.main_arg3) = m ((c.tc : Thread Cert.InEvenIdeal.nD Cert.InEvenIdeal.τ).loc Cert.InEvenIdeal.main_arg3)
      ∧ r.2.mem ((c.tc : Thread Cert.InEvenIdeal.nD Cert.InEvenIdeal.τ).loc Cert.InEvenIdeal.main_arg4) = m ((c.tc : Thread Cert.InEvenIdeal.nD Cert.InEvenIdeal.τ).loc Cert.InEvenIdeal.main_arg4))
      ∧ r.2.sem = fun _ => 0)

def quiescent_InEvenIdeal_pre_pre_in0 [hInEvenIdeal : Cert.InEvenIdeal.Facts] [hPre_pre_in0 : Cert.Pre_pre_in0.Facts] : Prop :=
  ∀ (m : (ℓ : Loc Cert.InEvenIdeal.nD Cert.InEvenIdeal.τ Cert.InEvenIdeal.sig) → Buf (Elt Ideal) ℓ) (g : Dev Cert.InEvenIdeal.nD → PrngReg), Pre_InEvenIdeal_pre_in0 m →
    θ_run (Cert.InEvenIdeal.defs (F := Ideal)) (onTc (τ := Cert.InEvenIdeal.τ) (Cert.InEvenIdeal.main (F := Ideal))) ⟨m, fun _ => 0, g⟩ (fun r => (∀ c : Dev Cert.InEvenIdeal.nD,
      r.2.mem ((c.tc : Thread Cert.InEvenIdeal.nD Cert.InEvenIdeal.τ).loc Cert.InEvenIdeal.main_arg0) = m ((c.tc : Thread Cert.InEvenIdeal.nD Cert.InEvenIdeal.τ).loc Cert.InEvenIdeal.main_arg0)
      ∧ r.2.mem ((c.tc : Thread Cert.InEvenIdeal.nD Cert.InEvenIdeal.τ).loc Cert.InEvenIdeal.main_arg1) = m ((c.tc : Thread Cert.InEvenIdeal.nD Cert.InEvenIdeal.τ).loc Cert.InEvenIdeal.main_arg1)
      ∧ r.2.mem ((c.tc : Thread Cert.InEvenIdeal.nD Cert.InEvenIdeal.τ).loc Cert.InEvenIdeal.main_arg2) = m ((c.tc : Thread Cert.InEvenIdeal.nD Cert.InEvenIdeal.τ).loc Cert.InEvenIdeal.main_arg2)
      ∧ r.2.mem ((c.tc : Thread Cert.InEvenIdeal.nD Cert.InEvenIdeal.τ).loc Cert.InEvenIdeal.main_arg3) = m ((c.tc : Thread Cert.InEvenIdeal.nD Cert.InEvenIdeal.τ).loc Cert.InEvenIdeal.main_arg3)
      ∧ r.2.mem ((c.tc : Thread Cert.InEvenIdeal.nD Cert.InEvenIdeal.τ).loc Cert.InEvenIdeal.main_arg4) = m ((c.tc : Thread Cert.InEvenIdeal.nD Cert.InEvenIdeal.τ).loc Cert.InEvenIdeal.main_arg4))
      ∧ r.2.sem = fun _ => 0)

def quiescent_InEvenReferenceIdeal [hInEvenReferenceIdeal : Cert.InEvenReferenceIdeal.Facts] : Prop :=
  ∀ (m : (ℓ : Loc Cert.InEvenReferenceIdeal.nD Cert.InEvenReferenceIdeal.τ Cert.InEvenReferenceIdeal.sig) → Buf (Elt Ideal) ℓ) (g : Dev Cert.InEvenReferenceIdeal.nD → PrngReg), Pre_InEvenReferenceIdeal m →
    θ_run (Cert.InEvenReferenceIdeal.defs (F := Ideal)) (onTc (τ := Cert.InEvenReferenceIdeal.τ) (Cert.InEvenReferenceIdeal.main (F := Ideal))) ⟨m, fun _ => 0, g⟩ (fun r => (∀ c : Dev Cert.InEvenReferenceIdeal.nD,
      r.2.mem ((c.tc : Thread Cert.InEvenReferenceIdeal.nD Cert.InEvenReferenceIdeal.τ).loc Cert.InEvenReferenceIdeal.main_arg0) = m ((c.tc : Thread Cert.InEvenReferenceIdeal.nD Cert.InEvenReferenceIdeal.τ).loc Cert.InEvenReferenceIdeal.main_arg0)
      ∧ r.2.mem ((c.tc : Thread Cert.InEvenReferenceIdeal.nD Cert.InEvenReferenceIdeal.τ).loc Cert.InEvenReferenceIdeal.main_arg1) = m ((c.tc : Thread Cert.InEvenReferenceIdeal.nD Cert.InEvenReferenceIdeal.τ).loc Cert.InEvenReferenceIdeal.main_arg1)
      ∧ r.2.mem ((c.tc : Thread Cert.InEvenReferenceIdeal.nD Cert.InEvenReferenceIdeal.τ).loc Cert.InEvenReferenceIdeal.main_arg2) = m ((c.tc : Thread Cert.InEvenReferenceIdeal.nD Cert.InEvenReferenceIdeal.τ).loc Cert.InEvenReferenceIdeal.main_arg2)
      ∧ r.2.mem ((c.tc : Thread Cert.InEvenReferenceIdeal.nD Cert.InEvenReferenceIdeal.τ).loc Cert.InEvenReferenceIdeal.main_arg3) = m ((c.tc : Thread Cert.InEvenReferenceIdeal.nD Cert.InEvenReferenceIdeal.τ).loc Cert.InEvenReferenceIdeal.main_arg3)
      ∧ r.2.mem ((c.tc : Thread Cert.InEvenReferenceIdeal.nD Cert.InEvenReferenceIdeal.τ).loc Cert.InEvenReferenceIdeal.main_arg4) = m ((c.tc : Thread Cert.InEvenReferenceIdeal.nD Cert.InEvenReferenceIdeal.τ).loc Cert.InEvenReferenceIdeal.main_arg4))
      ∧ r.2.sem = fun _ => 0)

def quiescent_InEvenReferenceIdeal_pre_pre_in0 [hInEvenReferenceIdeal : Cert.InEvenReferenceIdeal.Facts] [hPre_pre_in0 : Cert.Pre_pre_in0.Facts] : Prop :=
  ∀ (m : (ℓ : Loc Cert.InEvenReferenceIdeal.nD Cert.InEvenReferenceIdeal.τ Cert.InEvenReferenceIdeal.sig) → Buf (Elt Ideal) ℓ) (g : Dev Cert.InEvenReferenceIdeal.nD → PrngReg), Pre_InEvenReferenceIdeal_pre_in0 m →
    θ_run (Cert.InEvenReferenceIdeal.defs (F := Ideal)) (onTc (τ := Cert.InEvenReferenceIdeal.τ) (Cert.InEvenReferenceIdeal.main (F := Ideal))) ⟨m, fun _ => 0, g⟩ (fun r => (∀ c : Dev Cert.InEvenReferenceIdeal.nD,
      r.2.mem ((c.tc : Thread Cert.InEvenReferenceIdeal.nD Cert.InEvenReferenceIdeal.τ).loc Cert.InEvenReferenceIdeal.main_arg0) = m ((c.tc : Thread Cert.InEvenReferenceIdeal.nD Cert.InEvenReferenceIdeal.τ).loc Cert.InEvenReferenceIdeal.main_arg0)
      ∧ r.2.mem ((c.tc : Thread Cert.InEvenReferenceIdeal.nD Cert.InEvenReferenceIdeal.τ).loc Cert.InEvenReferenceIdeal.main_arg1) = m ((c.tc : Thread Cert.InEvenReferenceIdeal.nD Cert.InEvenReferenceIdeal.τ).loc Cert.InEvenReferenceIdeal.main_arg1)
      ∧ r.2.mem ((c.tc : Thread Cert.InEvenReferenceIdeal.nD Cert.InEvenReferenceIdeal.τ).loc Cert.InEvenReferenceIdeal.main_arg2) = m ((c.tc : Thread Cert.InEvenReferenceIdeal.nD Cert.InEvenReferenceIdeal.τ).loc Cert.InEvenReferenceIdeal.main_arg2)
      ∧ r.2.mem ((c.tc : Thread Cert.InEvenReferenceIdeal.nD Cert.InEvenReferenceIdeal.τ).loc Cert.InEvenReferenceIdeal.main_arg3) = m ((c.tc : Thread Cert.InEvenReferenceIdeal.nD Cert.InEvenReferenceIdeal.τ).loc Cert.InEvenReferenceIdeal.main_arg3)
      ∧ r.2.mem ((c.tc : Thread Cert.InEvenReferenceIdeal.nD Cert.InEvenReferenceIdeal.τ).loc Cert.InEvenReferenceIdeal.main_arg4) = m ((c.tc : Thread Cert.InEvenReferenceIdeal.nD Cert.InEvenReferenceIdeal.τ).loc Cert.InEvenReferenceIdeal.main_arg4))
      ∧ r.2.sem = fun _ => 0)

def quiescent_LossOut [hLossOut : Cert.LossOut.Facts] : Prop :=
  ∀ (m : (ℓ : Loc Cert.LossOut.nD Cert.LossOut.τ Cert.LossOut.sig) → Buf (Elt Bits) ℓ) (g : Dev Cert.LossOut.nD → PrngReg), Pre_LossOut m →
    θ_run (Cert.LossOut.defs (F := Bits)) (onTc (τ := Cert.LossOut.τ) (Cert.LossOut.main (F := Bits))) ⟨m, fun _ => 0, g⟩ (fun r => (∀ c : Dev Cert.LossOut.nD,
      r.2.mem ((c.tc : Thread Cert.LossOut.nD Cert.LossOut.τ).loc Cert.LossOut.main_arg0) = m ((c.tc : Thread Cert.LossOut.nD Cert.LossOut.τ).loc Cert.LossOut.main_arg0)
      ∧ r.2.mem ((c.tc : Thread Cert.LossOut.nD Cert.LossOut.τ).loc Cert.LossOut.main_arg1) = m ((c.tc : Thread Cert.LossOut.nD Cert.LossOut.τ).loc Cert.LossOut.main_arg1)
      ∧ r.2.mem ((c.tc : Thread Cert.LossOut.nD Cert.LossOut.τ).loc Cert.LossOut.main_arg2) = m ((c.tc : Thread Cert.LossOut.nD Cert.LossOut.τ).loc Cert.LossOut.main_arg2)
      ∧ r.2.mem ((c.tc : Thread Cert.LossOut.nD Cert.LossOut.τ).loc Cert.LossOut.main_arg3) = m ((c.tc : Thread Cert.LossOut.nD Cert.LossOut.τ).loc Cert.LossOut.main_arg3)
      ∧ r.2.mem ((c.tc : Thread Cert.LossOut.nD Cert.LossOut.τ).loc Cert.LossOut.main_arg4) = m ((c.tc : Thread Cert.LossOut.nD Cert.LossOut.τ).loc Cert.LossOut.main_arg4)
      ∧ r.2.mem ((c.tc : Thread Cert.LossOut.nD Cert.LossOut.τ).loc Cert.LossOut.main_arg5) = m ((c.tc : Thread Cert.LossOut.nD Cert.LossOut.τ).loc Cert.LossOut.main_arg5))
      ∧ r.2.sem = fun _ => 0)

def quiescent_LossOutIdeal [hLossOutIdeal : Cert.LossOutIdeal.Facts] : Prop :=
  ∀ (m : (ℓ : Loc Cert.LossOutIdeal.nD Cert.LossOutIdeal.τ Cert.LossOutIdeal.sig) → Buf (Elt Ideal) ℓ) (g : Dev Cert.LossOutIdeal.nD → PrngReg), Pre_LossOutIdeal m →
    θ_run (Cert.LossOutIdeal.defs (F := Ideal)) (onTc (τ := Cert.LossOutIdeal.τ) (Cert.LossOutIdeal.main (F := Ideal))) ⟨m, fun _ => 0, g⟩ (fun r => (∀ c : Dev Cert.LossOutIdeal.nD,
      r.2.mem ((c.tc : Thread Cert.LossOutIdeal.nD Cert.LossOutIdeal.τ).loc Cert.LossOutIdeal.main_arg0) = m ((c.tc : Thread Cert.LossOutIdeal.nD Cert.LossOutIdeal.τ).loc Cert.LossOutIdeal.main_arg0)
      ∧ r.2.mem ((c.tc : Thread Cert.LossOutIdeal.nD Cert.LossOutIdeal.τ).loc Cert.LossOutIdeal.main_arg1) = m ((c.tc : Thread Cert.LossOutIdeal.nD Cert.LossOutIdeal.τ).loc Cert.LossOutIdeal.main_arg1)
      ∧ r.2.mem ((c.tc : Thread Cert.LossOutIdeal.nD Cert.LossOutIdeal.τ).loc Cert.LossOutIdeal.main_arg2) = m ((c.tc : Thread Cert.LossOutIdeal.nD Cert.LossOutIdeal.τ).loc Cert.LossOutIdeal.main_arg2)
      ∧ r.2.mem ((c.tc : Thread Cert.LossOutIdeal.nD Cert.LossOutIdeal.τ).loc Cert.LossOutIdeal.main_arg3) = m ((c.tc : Thread Cert.LossOutIdeal.nD Cert.LossOutIdeal.τ).loc Cert.LossOutIdeal.main_arg3)
      ∧ r.2.mem ((c.tc : Thread Cert.LossOutIdeal.nD Cert.LossOutIdeal.τ).loc Cert.LossOutIdeal.main_arg4) = m ((c.tc : Thread Cert.LossOutIdeal.nD Cert.LossOutIdeal.τ).loc Cert.LossOutIdeal.main_arg4)
      ∧ r.2.mem ((c.tc : Thread Cert.LossOutIdeal.nD Cert.LossOutIdeal.τ).loc Cert.LossOutIdeal.main_arg5) = m ((c.tc : Thread Cert.LossOutIdeal.nD Cert.LossOutIdeal.τ).loc Cert.LossOutIdeal.main_arg5))
      ∧ r.2.sem = fun _ => 0)

def quiescent_LossOutIdeal_pre_pre_loss [hLossOutIdeal : Cert.LossOutIdeal.Facts] [hPre_pre_loss : Cert.Pre_pre_loss.Facts] : Prop :=
  ∀ (m : (ℓ : Loc Cert.LossOutIdeal.nD Cert.LossOutIdeal.τ Cert.LossOutIdeal.sig) → Buf (Elt Ideal) ℓ) (g : Dev Cert.LossOutIdeal.nD → PrngReg), Pre_LossOutIdeal_pre_loss m →
    θ_run (Cert.LossOutIdeal.defs (F := Ideal)) (onTc (τ := Cert.LossOutIdeal.τ) (Cert.LossOutIdeal.main (F := Ideal))) ⟨m, fun _ => 0, g⟩ (fun r => (∀ c : Dev Cert.LossOutIdeal.nD,
      r.2.mem ((c.tc : Thread Cert.LossOutIdeal.nD Cert.LossOutIdeal.τ).loc Cert.LossOutIdeal.main_arg0) = m ((c.tc : Thread Cert.LossOutIdeal.nD Cert.LossOutIdeal.τ).loc Cert.LossOutIdeal.main_arg0)
      ∧ r.2.mem ((c.tc : Thread Cert.LossOutIdeal.nD Cert.LossOutIdeal.τ).loc Cert.LossOutIdeal.main_arg1) = m ((c.tc : Thread Cert.LossOutIdeal.nD Cert.LossOutIdeal.τ).loc Cert.LossOutIdeal.main_arg1)
      ∧ r.2.mem ((c.tc : Thread Cert.LossOutIdeal.nD Cert.LossOutIdeal.τ).loc Cert.LossOutIdeal.main_arg2) = m ((c.tc : Thread Cert.LossOutIdeal.nD Cert.LossOutIdeal.τ).loc Cert.LossOutIdeal.main_arg2)
      ∧ r.2.mem ((c.tc : Thread Cert.LossOutIdeal.nD Cert.LossOutIdeal.τ).loc Cert.LossOutIdeal.main_arg3) = m ((c.tc : Thread Cert.LossOutIdeal.nD Cert.LossOutIdeal.τ).loc Cert.LossOutIdeal.main_arg3)
      ∧ r.2.mem ((c.tc : Thread Cert.LossOutIdeal.nD Cert.LossOutIdeal.τ).loc Cert.LossOutIdeal.main_arg4) = m ((c.tc : Thread Cert.LossOutIdeal.nD Cert.LossOutIdeal.τ).loc Cert.LossOutIdeal.main_arg4)
      ∧ r.2.mem ((c.tc : Thread Cert.LossOutIdeal.nD Cert.LossOutIdeal.τ).loc Cert.LossOutIdeal.main_arg5) = m ((c.tc : Thread Cert.LossOutIdeal.nD Cert.LossOutIdeal.τ).loc Cert.LossOutIdeal.main_arg5))
      ∧ r.2.sem = fun _ => 0)

def quiescent_LossOutReferenceIdeal [hLossOutReferenceIdeal : Cert.LossOutReferenceIdeal.Facts] : Prop :=
  ∀ (m : (ℓ : Loc Cert.LossOutReferenceIdeal.nD Cert.LossOutReferenceIdeal.τ Cert.LossOutReferenceIdeal.sig) → Buf (Elt Ideal) ℓ) (g : Dev Cert.LossOutReferenceIdeal.nD → PrngReg), Pre_LossOutReferenceIdeal m →
    θ_run (Cert.LossOutReferenceIdeal.defs (F := Ideal)) (onTc (τ := Cert.LossOutReferenceIdeal.τ) (Cert.LossOutReferenceIdeal.main (F := Ideal))) ⟨m, fun _ => 0, g⟩ (fun r => (∀ c : Dev Cert.LossOutReferenceIdeal.nD,
      r.2.mem ((c.tc : Thread Cert.LossOutReferenceIdeal.nD Cert.LossOutReferenceIdeal.τ).loc Cert.LossOutReferenceIdeal.main_arg0) = m ((c.tc : Thread Cert.LossOutReferenceIdeal.nD Cert.LossOutReferenceIdeal.τ).loc Cert.LossOutReferenceIdeal.main_arg0)
      ∧ r.2.mem ((c.tc : Thread Cert.LossOutReferenceIdeal.nD Cert.LossOutReferenceIdeal.τ).loc Cert.LossOutReferenceIdeal.main_arg1) = m ((c.tc : Thread Cert.LossOutReferenceIdeal.nD Cert.LossOutReferenceIdeal.τ).loc Cert.LossOutReferenceIdeal.main_arg1)
      ∧ r.2.mem ((c.tc : Thread Cert.LossOutReferenceIdeal.nD Cert.LossOutReferenceIdeal.τ).loc Cert.LossOutReferenceIdeal.main_arg2) = m ((c.tc : Thread Cert.LossOutReferenceIdeal.nD Cert.LossOutReferenceIdeal.τ).loc Cert.LossOutReferenceIdeal.main_arg2)
      ∧ r.2.mem ((c.tc : Thread Cert.LossOutReferenceIdeal.nD Cert.LossOutReferenceIdeal.τ).loc Cert.LossOutReferenceIdeal.main_arg3) = m ((c.tc : Thread Cert.LossOutReferenceIdeal.nD Cert.LossOutReferenceIdeal.τ).loc Cert.LossOutReferenceIdeal.main_arg3)
      ∧ r.2.mem ((c.tc : Thread Cert.LossOutReferenceIdeal.nD Cert.LossOutReferenceIdeal.τ).loc Cert.LossOutReferenceIdeal.main_arg4) = m ((c.tc : Thread Cert.LossOutReferenceIdeal.nD Cert.LossOutReferenceIdeal.τ).loc Cert.LossOutReferenceIdeal.main_arg4)
      ∧ r.2.mem ((c.tc : Thread Cert.LossOutReferenceIdeal.nD Cert.LossOutReferenceIdeal.τ).loc Cert.LossOutReferenceIdeal.main_arg5) = m ((c.tc : Thread Cert.LossOutReferenceIdeal.nD Cert.LossOutReferenceIdeal.τ).loc Cert.LossOutReferenceIdeal.main_arg5))
      ∧ r.2.sem = fun _ => 0)

def quiescent_LossOutReferenceIdeal_pre_pre_loss [hLossOutReferenceIdeal : Cert.LossOutReferenceIdeal.Facts] [hPre_pre_loss : Cert.Pre_pre_loss.Facts] : Prop :=
  ∀ (m : (ℓ : Loc Cert.LossOutReferenceIdeal.nD Cert.LossOutReferenceIdeal.τ Cert.LossOutReferenceIdeal.sig) → Buf (Elt Ideal) ℓ) (g : Dev Cert.LossOutReferenceIdeal.nD → PrngReg), Pre_LossOutReferenceIdeal_pre_loss m →
    θ_run (Cert.LossOutReferenceIdeal.defs (F := Ideal)) (onTc (τ := Cert.LossOutReferenceIdeal.τ) (Cert.LossOutReferenceIdeal.main (F := Ideal))) ⟨m, fun _ => 0, g⟩ (fun r => (∀ c : Dev Cert.LossOutReferenceIdeal.nD,
      r.2.mem ((c.tc : Thread Cert.LossOutReferenceIdeal.nD Cert.LossOutReferenceIdeal.τ).loc Cert.LossOutReferenceIdeal.main_arg0) = m ((c.tc : Thread Cert.LossOutReferenceIdeal.nD Cert.LossOutReferenceIdeal.τ).loc Cert.LossOutReferenceIdeal.main_arg0)
      ∧ r.2.mem ((c.tc : Thread Cert.LossOutReferenceIdeal.nD Cert.LossOutReferenceIdeal.τ).loc Cert.LossOutReferenceIdeal.main_arg1) = m ((c.tc : Thread Cert.LossOutReferenceIdeal.nD Cert.LossOutReferenceIdeal.τ).loc Cert.LossOutReferenceIdeal.main_arg1)
      ∧ r.2.mem ((c.tc : Thread Cert.LossOutReferenceIdeal.nD Cert.LossOutReferenceIdeal.τ).loc Cert.LossOutReferenceIdeal.main_arg2) = m ((c.tc : Thread Cert.LossOutReferenceIdeal.nD Cert.LossOutReferenceIdeal.τ).loc Cert.LossOutReferenceIdeal.main_arg2)
      ∧ r.2.mem ((c.tc : Thread Cert.LossOutReferenceIdeal.nD Cert.LossOutReferenceIdeal.τ).loc Cert.LossOutReferenceIdeal.main_arg3) = m ((c.tc : Thread Cert.LossOutReferenceIdeal.nD Cert.LossOutReferenceIdeal.τ).loc Cert.LossOutReferenceIdeal.main_arg3)
      ∧ r.2.mem ((c.tc : Thread Cert.LossOutReferenceIdeal.nD Cert.LossOutReferenceIdeal.τ).loc Cert.LossOutReferenceIdeal.main_arg4) = m ((c.tc : Thread Cert.LossOutReferenceIdeal.nD Cert.LossOutReferenceIdeal.τ).loc Cert.LossOutReferenceIdeal.main_arg4)
      ∧ r.2.mem ((c.tc : Thread Cert.LossOutReferenceIdeal.nD Cert.LossOutReferenceIdeal.τ).loc Cert.LossOutReferenceIdeal.main_arg5) = m ((c.tc : Thread Cert.LossOutReferenceIdeal.nD Cert.LossOutReferenceIdeal.τ).loc Cert.LossOutReferenceIdeal.main_arg5))
      ∧ r.2.sem = fun _ => 0)

def preserves_Kernel_KernelIdeal : Prop :=
  True

def algebraic_KernelIdeal_ReferenceIdeal_pre_pre_logf [hKernelIdeal : Cert.KernelIdeal.Facts] [hReferenceIdeal : Cert.ReferenceIdeal.Facts] [hPre_pre_logf : Cert.Pre_pre_logf.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre_logf m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_v10) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Fox_FoxIdeal : Prop :=
  IdealRules.named_const.Statement Cert.FoxIdeal.κ "score_scale" .f32 0x3E38AA3B#32 ((8⁻¹ * (Real.log 2)⁻¹ : ℝ) : EReal)

def algebraic_FoxIdeal_FoxReferenceIdeal_pre_pre_fox [hFoxIdeal : Cert.FoxIdeal.Facts] [hFoxReferenceIdeal : Cert.FoxReferenceIdeal.Facts] [hPre_pre_fox : Cert.Pre_pre_fox.Facts] : Prop :=
  ∀ (m : (ℓ : Loc Cert.FoxIdeal.nD Cert.FoxIdeal.τ Cert.FoxIdeal.sig) → Buf (Elt Ideal) ℓ) (g : Dev Cert.FoxIdeal.nD → PrngReg)
    (m' : (ℓ : Loc Cert.FoxReferenceIdeal.nD Cert.FoxReferenceIdeal.τ Cert.FoxReferenceIdeal.sig) → Buf (Elt Ideal) ℓ) (g' : Dev Cert.FoxReferenceIdeal.nD → PrngReg), Pre_FoxIdeal_pre_fox m →
    (∀ c : Dev Cert.FoxIdeal.nD,
      m' ((c.tc : Thread Cert.FoxReferenceIdeal.nD Cert.FoxReferenceIdeal.τ).loc Cert.FoxReferenceIdeal.main_arg0) = m ((c.tc : Thread Cert.FoxIdeal.nD Cert.FoxIdeal.τ).loc Cert.FoxIdeal.main_arg0)
      ∧ m' ((c.tc : Thread Cert.FoxReferenceIdeal.nD Cert.FoxReferenceIdeal.τ).loc Cert.FoxReferenceIdeal.main_arg1) = m ((c.tc : Thread Cert.FoxIdeal.nD Cert.FoxIdeal.τ).loc Cert.FoxIdeal.main_arg1)
      ∧ m' ((c.tc : Thread Cert.FoxReferenceIdeal.nD Cert.FoxReferenceIdeal.τ).loc Cert.FoxReferenceIdeal.main_arg2) = m ((c.tc : Thread Cert.FoxIdeal.nD Cert.FoxIdeal.τ).loc Cert.FoxIdeal.main_arg2)) →
    ∃ (v0 : (c : Dev Cert.FoxIdeal.nD) → Buf (Elt Ideal) ((c.tc : Thread Cert.FoxIdeal.nD Cert.FoxIdeal.τ).loc Cert.FoxIdeal.main_v74_0)) (v1 : (c : Dev Cert.FoxIdeal.nD) → Buf (Elt Ideal) ((c.tc : Thread Cert.FoxIdeal.nD Cert.FoxIdeal.τ).loc Cert.FoxIdeal.main_v78)),
      θ_run (Cert.FoxIdeal.defs (F := Ideal)) (onTc (τ := Cert.FoxIdeal.τ) (Cert.FoxIdeal.main (F := Ideal))) ⟨m, fun _ => 0, g⟩ (fun r => ∀ c : Dev Cert.FoxIdeal.nD,
          r.2.mem ((c.tc : Thread Cert.FoxIdeal.nD Cert.FoxIdeal.τ).loc Cert.FoxIdeal.main_v74_0) = v0 c
          ∧ r.2.mem ((c.tc : Thread Cert.FoxIdeal.nD Cert.FoxIdeal.τ).loc Cert.FoxIdeal.main_v78) = v1 c
          ∧ r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
          ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
          ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2))
      ∧ θ_run (Cert.FoxReferenceIdeal.defs (F := Ideal)) (onTc (τ := Cert.FoxReferenceIdeal.τ) (Cert.FoxReferenceIdeal.main (F := Ideal))) ⟨m', fun _ => 0, g'⟩ (fun r => ∀ c : Dev Cert.FoxReferenceIdeal.nD,
          r.2.mem ((c.tc : Thread Cert.FoxReferenceIdeal.nD Cert.FoxReferenceIdeal.τ).loc Cert.FoxReferenceIdeal.main_v93) = v0 c
          ∧ r.2.mem ((c.tc : Thread Cert.FoxReferenceIdeal.nD Cert.FoxReferenceIdeal.τ).loc Cert.FoxReferenceIdeal.main_v79) = v1 c
          ∧ r.2.mem ((c.tc : Thread Cert.FoxReferenceIdeal.nD Cert.FoxReferenceIdeal.τ).loc Cert.FoxReferenceIdeal.main_arg0) = m' ((c.tc : Thread Cert.FoxReferenceIdeal.nD Cert.FoxReferenceIdeal.τ).loc Cert.FoxReferenceIdeal.main_arg0)
          ∧ r.2.mem ((c.tc : Thread Cert.FoxReferenceIdeal.nD Cert.FoxReferenceIdeal.τ).loc Cert.FoxReferenceIdeal.main_arg1) = m' ((c.tc : Thread Cert.FoxReferenceIdeal.nD Cert.FoxReferenceIdeal.τ).loc Cert.FoxReferenceIdeal.main_arg1)
          ∧ r.2.mem ((c.tc : Thread Cert.FoxReferenceIdeal.nD Cert.FoxReferenceIdeal.τ).loc Cert.FoxReferenceIdeal.main_arg2) = m' ((c.tc : Thread Cert.FoxReferenceIdeal.nD Cert.FoxReferenceIdeal.τ).loc Cert.FoxReferenceIdeal.main_arg2))

def preserves_Mla_MlaIdeal : Prop :=
  IdealRules.named_const.Statement Cert.MlaIdeal.κ "mla_score_scale" .f32 0x3E16C740#32 (((Real.sqrt 96)⁻¹ * (Real.log 2)⁻¹ : ℝ) : EReal)
  ∧ IdealRules.named_const.Statement Cert.MlaIdeal.κ "mla_scale" .f32 0x3DD105EC#32 (((Real.sqrt 96)⁻¹ : ℝ) : EReal)

def algebraic_MlaIdeal_MlaReferenceIdeal_pre_pre_mla [hMlaIdeal : Cert.MlaIdeal.Facts] [hMlaReferenceIdeal : Cert.MlaReferenceIdeal.Facts] [hPre_pre_mla : Cert.Pre_pre_mla.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.MlaReferenceIdeal.nD Cert.MlaReferenceIdeal.τ Cert.MlaReferenceIdeal.sig) → Buf (Elt Ideal) ℓ) (g' : Dev Cert.MlaReferenceIdeal.nD → PrngReg), Pre_MlaIdeal_pre_mla m →
    (∀ c : Dev Cert.MlaIdeal.nD,
      m' ((c.tc : Thread Cert.MlaReferenceIdeal.nD Cert.MlaReferenceIdeal.τ).loc Cert.MlaReferenceIdeal.main_arg0) = m ((c.tc : Thread Cert.MlaIdeal.nD Cert.MlaIdeal.τ).loc Cert.MlaIdeal.main_arg0)
      ∧ m' ((c.tc : Thread Cert.MlaReferenceIdeal.nD Cert.MlaReferenceIdeal.τ).loc Cert.MlaReferenceIdeal.main_arg1) = m ((c.tc : Thread Cert.MlaIdeal.nD Cert.MlaIdeal.τ).loc Cert.MlaIdeal.main_arg1)
      ∧ m' ((c.tc : Thread Cert.MlaReferenceIdeal.nD Cert.MlaReferenceIdeal.τ).loc Cert.MlaReferenceIdeal.main_arg2) = m ((c.tc : Thread Cert.MlaIdeal.nD Cert.MlaIdeal.τ).loc Cert.MlaIdeal.main_arg2)
      ∧ m' ((c.tc : Thread Cert.MlaReferenceIdeal.nD Cert.MlaReferenceIdeal.τ).loc Cert.MlaReferenceIdeal.main_arg3) = m ((c.tc : Thread Cert.MlaIdeal.nD Cert.MlaIdeal.τ).loc Cert.MlaIdeal.main_arg3)) →
    ∃ (v0 : (c : Dev Cert.MlaIdeal.nD) → Buf (Elt Ideal) ((c.tc : Thread Cert.MlaIdeal.nD Cert.MlaIdeal.τ).loc Cert.MlaIdeal.main_v56_0)) (v1 : (c : Dev Cert.MlaIdeal.nD) → Buf (Elt Ideal) ((c.tc : Thread Cert.MlaIdeal.nD Cert.MlaIdeal.τ).loc Cert.MlaIdeal.main_v56_1)) (v2 : (c : Dev Cert.MlaIdeal.nD) → Buf (Elt Ideal) ((c.tc : Thread Cert.MlaIdeal.nD Cert.MlaIdeal.τ).loc Cert.MlaIdeal.main_v56_2)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          r.2.mem ((c.tc : Thread Cert.MlaIdeal.nD Cert.MlaIdeal.τ).loc Cert.MlaIdeal.main_v56_0) = v0 c
          ∧ r.2.mem ((c.tc : Thread Cert.MlaIdeal.nD Cert.MlaIdeal.τ).loc Cert.MlaIdeal.main_v56_1) = v1 c
          ∧ r.2.mem ((c.tc : Thread Cert.MlaIdeal.nD Cert.MlaIdeal.τ).loc Cert.MlaIdeal.main_v56_2) = v2 c
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
          ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
          ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3))
      ∧ θ_run (Cert.MlaReferenceIdeal.defs (F := Ideal)) (onTc (τ := Cert.MlaReferenceIdeal.τ) (Cert.MlaReferenceIdeal.main (F := Ideal))) ⟨m', fun _ => 0, g'⟩ (fun r => ∀ c : Dev Cert.MlaReferenceIdeal.nD,
          r.2.mem ((c.tc : Thread Cert.MlaReferenceIdeal.nD Cert.MlaReferenceIdeal.τ).loc Cert.MlaReferenceIdeal.main_v66) = v0 c
          ∧ r.2.mem ((c.tc : Thread Cert.MlaReferenceIdeal.nD Cert.MlaReferenceIdeal.τ).loc Cert.MlaReferenceIdeal.main_v68) = v1 c
          ∧ r.2.mem ((c.tc : Thread Cert.MlaReferenceIdeal.nD Cert.MlaReferenceIdeal.τ).loc Cert.MlaReferenceIdeal.main_v70) = v2 c
          ∧ r.2.mem ((c.tc : Thread Cert.MlaReferenceIdeal.nD Cert.MlaReferenceIdeal.τ).loc Cert.MlaReferenceIdeal.main_arg0) = m' ((c.tc : Thread Cert.MlaReferenceIdeal.nD Cert.MlaReferenceIdeal.τ).loc Cert.MlaReferenceIdeal.main_arg0)
          ∧ r.2.mem ((c.tc : Thread Cert.MlaReferenceIdeal.nD Cert.MlaReferenceIdeal.τ).loc Cert.MlaReferenceIdeal.main_arg1) = m' ((c.tc : Thread Cert.MlaReferenceIdeal.nD Cert.MlaReferenceIdeal.τ).loc Cert.MlaReferenceIdeal.main_arg1)
          ∧ r.2.mem ((c.tc : Thread Cert.MlaReferenceIdeal.nD Cert.MlaReferenceIdeal.τ).loc Cert.MlaReferenceIdeal.main_arg2) = m' ((c.tc : Thread Cert.MlaReferenceIdeal.nD Cert.MlaReferenceIdeal.τ).loc Cert.MlaReferenceIdeal.main_arg2)
          ∧ r.2.mem ((c.tc : Thread Cert.MlaReferenceIdeal.nD Cert.MlaReferenceIdeal.τ).loc Cert.MlaReferenceIdeal.main_arg3) = m' ((c.tc : Thread Cert.MlaReferenceIdeal.nD Cert.MlaReferenceIdeal.τ).loc Cert.MlaReferenceIdeal.main_arg3))

def preserves_GateOdd_GateOddIdeal : Prop :=
  True

def algebraic_GateOddIdeal_GateOddReferenceIdeal_pre_pre_gate1 [hGateOddIdeal : Cert.GateOddIdeal.Facts] [hGateOddReferenceIdeal : Cert.GateOddReferenceIdeal.Facts] [hPre_pre_gate1 : Cert.Pre_pre_gate1.Facts] : Prop :=
  ∀ (m : (ℓ : Loc Cert.GateOddIdeal.nD Cert.GateOddIdeal.τ Cert.GateOddIdeal.sig) → Buf (Elt Ideal) ℓ) (g : Dev Cert.GateOddIdeal.nD → PrngReg)
    (m' : (ℓ : Loc Cert.GateOddReferenceIdeal.nD Cert.GateOddReferenceIdeal.τ Cert.GateOddReferenceIdeal.sig) → Buf (Elt Ideal) ℓ) (g' : Dev Cert.GateOddReferenceIdeal.nD → PrngReg), Pre_GateOddIdeal_pre_gate1 m →
    (∀ c : Dev Cert.GateOddIdeal.nD,
      m' ((c.tc : Thread Cert.GateOddReferenceIdeal.nD Cert.GateOddReferenceIdeal.τ).loc Cert.GateOddReferenceIdeal.main_arg0) = m ((c.tc : Thread Cert.GateOddIdeal.nD Cert.GateOddIdeal.τ).loc Cert.GateOddIdeal.main_arg0)
      ∧ m' ((c.tc : Thread Cert.GateOddReferenceIdeal.nD Cert.GateOddReferenceIdeal.τ).loc Cert.GateOddReferenceIdeal.main_arg1) = m ((c.tc : Thread Cert.GateOddIdeal.nD Cert.GateOddIdeal.τ).loc Cert.GateOddIdeal.main_arg1)
      ∧ m' ((c.tc : Thread Cert.GateOddReferenceIdeal.nD Cert.GateOddReferenceIdeal.τ).loc Cert.GateOddReferenceIdeal.main_arg2) = m ((c.tc : Thread Cert.GateOddIdeal.nD Cert.GateOddIdeal.τ).loc Cert.GateOddIdeal.main_arg2)
      ∧ m' ((c.tc : Thread Cert.GateOddReferenceIdeal.nD Cert.GateOddReferenceIdeal.τ).loc Cert.GateOddReferenceIdeal.main_arg3) = m ((c.tc : Thread Cert.GateOddIdeal.nD Cert.GateOddIdeal.τ).loc Cert.GateOddIdeal.main_arg3)) →
    ∃ (v0 : (c : Dev Cert.GateOddIdeal.nD) → Buf (Elt Ideal) ((c.tc : Thread Cert.GateOddIdeal.nD Cert.GateOddIdeal.τ).loc Cert.GateOddIdeal.main_v2_0)) (v1 : (c : Dev Cert.GateOddIdeal.nD) → Buf (Elt Ideal) ((c.tc : Thread Cert.GateOddIdeal.nD Cert.GateOddIdeal.τ).loc Cert.GateOddIdeal.main_v2_1)),
      θ_run (Cert.GateOddIdeal.defs (F := Ideal)) (onTc (τ := Cert.GateOddIdeal.τ) (Cert.GateOddIdeal.main (F := Ideal))) ⟨m, fun _ => 0, g⟩ (fun r => ∀ c : Dev Cert.GateOddIdeal.nD,
          r.2.mem ((c.tc : Thread Cert.GateOddIdeal.nD Cert.GateOddIdeal.τ).loc Cert.GateOddIdeal.main_v2_0) = v0 c
          ∧ r.2.mem ((c.tc : Thread Cert.GateOddIdeal.nD Cert.GateOddIdeal.τ).loc Cert.GateOddIdeal.main_v2_1) = v1 c
          ∧ r.2.mem ((c.tc : Thread Cert.GateOddIdeal.nD Cert.GateOddIdeal.τ).loc Cert.GateOddIdeal.main_arg0) = m ((c.tc : Thread Cert.GateOddIdeal.nD Cert.GateOddIdeal.τ).loc Cert.GateOddIdeal.main_arg0)
          ∧ r.2.mem ((c.tc : Thread Cert.GateOddIdeal.nD Cert.GateOddIdeal.τ).loc Cert.GateOddIdeal.main_arg1) = m ((c.tc : Thread Cert.GateOddIdeal.nD Cert.GateOddIdeal.τ).loc Cert.GateOddIdeal.main_arg1)
          ∧ r.2.mem ((c.tc : Thread Cert.GateOddIdeal.nD Cert.GateOddIdeal.τ).loc Cert.GateOddIdeal.main_arg2) = m ((c.tc : Thread Cert.GateOddIdeal.nD Cert.GateOddIdeal.τ).loc Cert.GateOddIdeal.main_arg2)
          ∧ r.2.mem ((c.tc : Thread Cert.GateOddIdeal.nD Cert.GateOddIdeal.τ).loc Cert.GateOddIdeal.main_arg3) = m ((c.tc : Thread Cert.GateOddIdeal.nD Cert.GateOddIdeal.τ).loc Cert.GateOddIdeal.main_arg3))
      ∧ θ_run (Cert.GateOddReferenceIdeal.defs (F := Ideal)) (onTc (τ := Cert.GateOddReferenceIdeal.τ) (Cert.GateOddReferenceIdeal.main (F := Ideal))) ⟨m', fun _ => 0, g'⟩ (fun r => ∀ c : Dev Cert.GateOddReferenceIdeal.nD,
          r.2.mem ((c.tc : Thread Cert.GateOddReferenceIdeal.nD Cert.GateOddReferenceIdeal.τ).loc Cert.GateOddReferenceIdeal.main_v5) = v0 c
          ∧ r.2.mem ((c.tc : Thread Cert.GateOddReferenceIdeal.nD Cert.GateOddReferenceIdeal.τ).loc Cert.GateOddReferenceIdeal.main_v7) = v1 c
          ∧ r.2.mem ((c.tc : Thread Cert.GateOddReferenceIdeal.nD Cert.GateOddReferenceIdeal.τ).loc Cert.GateOddReferenceIdeal.main_arg0) = m' ((c.tc : Thread Cert.GateOddReferenceIdeal.nD Cert.GateOddReferenceIdeal.τ).loc Cert.GateOddReferenceIdeal.main_arg0)
          ∧ r.2.mem ((c.tc : Thread Cert.GateOddReferenceIdeal.nD Cert.GateOddReferenceIdeal.τ).loc Cert.GateOddReferenceIdeal.main_arg1) = m' ((c.tc : Thread Cert.GateOddReferenceIdeal.nD Cert.GateOddReferenceIdeal.τ).loc Cert.GateOddReferenceIdeal.main_arg1)
          ∧ r.2.mem ((c.tc : Thread Cert.GateOddReferenceIdeal.nD Cert.GateOddReferenceIdeal.τ).loc Cert.GateOddReferenceIdeal.main_arg2) = m' ((c.tc : Thread Cert.GateOddReferenceIdeal.nD Cert.GateOddReferenceIdeal.τ).loc Cert.GateOddReferenceIdeal.main_arg2)
          ∧ r.2.mem ((c.tc : Thread Cert.GateOddReferenceIdeal.nD Cert.GateOddReferenceIdeal.τ).loc Cert.GateOddReferenceIdeal.main_arg3) = m' ((c.tc : Thread Cert.GateOddReferenceIdeal.nD Cert.GateOddReferenceIdeal.τ).loc Cert.GateOddReferenceIdeal.main_arg3))

def preserves_GateEven_GateEvenIdeal : Prop :=
  True

def algebraic_GateEvenIdeal_GateEvenReferenceIdeal_pre_pre_gate0 [hGateEvenIdeal : Cert.GateEvenIdeal.Facts] [hGateEvenReferenceIdeal : Cert.GateEvenReferenceIdeal.Facts] [hPre_pre_gate0 : Cert.Pre_pre_gate0.Facts] : Prop :=
  ∀ (m : (ℓ : Loc Cert.GateEvenIdeal.nD Cert.GateEvenIdeal.τ Cert.GateEvenIdeal.sig) → Buf (Elt Ideal) ℓ) (g : Dev Cert.GateEvenIdeal.nD → PrngReg)
    (m' : (ℓ : Loc Cert.GateEvenReferenceIdeal.nD Cert.GateEvenReferenceIdeal.τ Cert.GateEvenReferenceIdeal.sig) → Buf (Elt Ideal) ℓ) (g' : Dev Cert.GateEvenReferenceIdeal.nD → PrngReg), Pre_GateEvenIdeal_pre_gate0 m →
    (∀ c : Dev Cert.GateEvenIdeal.nD,
      m' ((c.tc : Thread Cert.GateEvenReferenceIdeal.nD Cert.GateEvenReferenceIdeal.τ).loc Cert.GateEvenReferenceIdeal.main_arg0) = m ((c.tc : Thread Cert.GateEvenIdeal.nD Cert.GateEvenIdeal.τ).loc Cert.GateEvenIdeal.main_arg0)
      ∧ m' ((c.tc : Thread Cert.GateEvenReferenceIdeal.nD Cert.GateEvenReferenceIdeal.τ).loc Cert.GateEvenReferenceIdeal.main_arg1) = m ((c.tc : Thread Cert.GateEvenIdeal.nD Cert.GateEvenIdeal.τ).loc Cert.GateEvenIdeal.main_arg1)
      ∧ m' ((c.tc : Thread Cert.GateEvenReferenceIdeal.nD Cert.GateEvenReferenceIdeal.τ).loc Cert.GateEvenReferenceIdeal.main_arg2) = m ((c.tc : Thread Cert.GateEvenIdeal.nD Cert.GateEvenIdeal.τ).loc Cert.GateEvenIdeal.main_arg2)
      ∧ m' ((c.tc : Thread Cert.GateEvenReferenceIdeal.nD Cert.GateEvenReferenceIdeal.τ).loc Cert.GateEvenReferenceIdeal.main_arg3) = m ((c.tc : Thread Cert.GateEvenIdeal.nD Cert.GateEvenIdeal.τ).loc Cert.GateEvenIdeal.main_arg3)
      ∧ m' ((c.tc : Thread Cert.GateEvenReferenceIdeal.nD Cert.GateEvenReferenceIdeal.τ).loc Cert.GateEvenReferenceIdeal.main_arg4) = m ((c.tc : Thread Cert.GateEvenIdeal.nD Cert.GateEvenIdeal.τ).loc Cert.GateEvenIdeal.main_arg4)) →
    ∃ (v0 : (c : Dev Cert.GateEvenIdeal.nD) → Buf (Elt Ideal) ((c.tc : Thread Cert.GateEvenIdeal.nD Cert.GateEvenIdeal.τ).loc Cert.GateEvenIdeal.main_v3_0)) (v1 : (c : Dev Cert.GateEvenIdeal.nD) → Buf (Elt Ideal) ((c.tc : Thread Cert.GateEvenIdeal.nD Cert.GateEvenIdeal.τ).loc Cert.GateEvenIdeal.main_v3_1)) (v2 : (c : Dev Cert.GateEvenIdeal.nD) → Buf (Elt Ideal) ((c.tc : Thread Cert.GateEvenIdeal.nD Cert.GateEvenIdeal.τ).loc Cert.GateEvenIdeal.main_v3_2)),
      θ_run (Cert.GateEvenIdeal.defs (F := Ideal)) (onTc (τ := Cert.GateEvenIdeal.τ) (Cert.GateEvenIdeal.main (F := Ideal))) ⟨m, fun _ => 0, g⟩ (fun r => ∀ c : Dev Cert.GateEvenIdeal.nD,
          r.2.mem ((c.tc : Thread Cert.GateEvenIdeal.nD Cert.GateEvenIdeal.τ).loc Cert.GateEvenIdeal.main_v3_0) = v0 c
          ∧ r.2.mem ((c.tc : Thread Cert.GateEvenIdeal.nD Cert.GateEvenIdeal.τ).loc Cert.GateEvenIdeal.main_v3_1) = v1 c
          ∧ r.2.mem ((c.tc : Thread Cert.GateEvenIdeal.nD Cert.GateEvenIdeal.τ).loc Cert.GateEvenIdeal.main_v3_2) = v2 c
          ∧ r.2.mem ((c.tc : Thread Cert.GateEvenIdeal.nD Cert.GateEvenIdeal.τ).loc Cert.GateEvenIdeal.main_arg0) = m ((c.tc : Thread Cert.GateEvenIdeal.nD Cert.GateEvenIdeal.τ).loc Cert.GateEvenIdeal.main_arg0)
          ∧ r.2.mem ((c.tc : Thread Cert.GateEvenIdeal.nD Cert.GateEvenIdeal.τ).loc Cert.GateEvenIdeal.main_arg1) = m ((c.tc : Thread Cert.GateEvenIdeal.nD Cert.GateEvenIdeal.τ).loc Cert.GateEvenIdeal.main_arg1)
          ∧ r.2.mem ((c.tc : Thread Cert.GateEvenIdeal.nD Cert.GateEvenIdeal.τ).loc Cert.GateEvenIdeal.main_arg2) = m ((c.tc : Thread Cert.GateEvenIdeal.nD Cert.GateEvenIdeal.τ).loc Cert.GateEvenIdeal.main_arg2)
          ∧ r.2.mem ((c.tc : Thread Cert.GateEvenIdeal.nD Cert.GateEvenIdeal.τ).loc Cert.GateEvenIdeal.main_arg3) = m ((c.tc : Thread Cert.GateEvenIdeal.nD Cert.GateEvenIdeal.τ).loc Cert.GateEvenIdeal.main_arg3)
          ∧ r.2.mem ((c.tc : Thread Cert.GateEvenIdeal.nD Cert.GateEvenIdeal.τ).loc Cert.GateEvenIdeal.main_arg4) = m ((c.tc : Thread Cert.GateEvenIdeal.nD Cert.GateEvenIdeal.τ).loc Cert.GateEvenIdeal.main_arg4))
      ∧ θ_run (Cert.GateEvenReferenceIdeal.defs (F := Ideal)) (onTc (τ := Cert.GateEvenReferenceIdeal.τ) (Cert.GateEvenReferenceIdeal.main (F := Ideal))) ⟨m', fun _ => 0, g'⟩ (fun r => ∀ c : Dev Cert.GateEvenReferenceIdeal.nD,
          r.2.mem ((c.tc : Thread Cert.GateEvenReferenceIdeal.nD Cert.GateEvenReferenceIdeal.τ).loc Cert.GateEvenReferenceIdeal.main_v8) = v0 c
          ∧ r.2.mem ((c.tc : Thread Cert.GateEvenReferenceIdeal.nD Cert.GateEvenReferenceIdeal.τ).loc Cert.GateEvenReferenceIdeal.main_v9) = v1 c
          ∧ r.2.mem ((c.tc : Thread Cert.GateEvenReferenceIdeal.nD Cert.GateEvenReferenceIdeal.τ).loc Cert.GateEvenReferenceIdeal.main_v10) = v2 c
          ∧ r.2.mem ((c.tc : Thread Cert.GateEvenReferenceIdeal.nD Cert.GateEvenReferenceIdeal.τ).loc Cert.GateEvenReferenceIdeal.main_arg0) = m' ((c.tc : Thread Cert.GateEvenReferenceIdeal.nD Cert.GateEvenReferenceIdeal.τ).loc Cert.GateEvenReferenceIdeal.main_arg0)
          ∧ r.2.mem ((c.tc : Thread Cert.GateEvenReferenceIdeal.nD Cert.GateEvenReferenceIdeal.τ).loc Cert.GateEvenReferenceIdeal.main_arg1) = m' ((c.tc : Thread Cert.GateEvenReferenceIdeal.nD Cert.GateEvenReferenceIdeal.τ).loc Cert.GateEvenReferenceIdeal.main_arg1)
          ∧ r.2.mem ((c.tc : Thread Cert.GateEvenReferenceIdeal.nD Cert.GateEvenReferenceIdeal.τ).loc Cert.GateEvenReferenceIdeal.main_arg2) = m' ((c.tc : Thread Cert.GateEvenReferenceIdeal.nD Cert.GateEvenReferenceIdeal.τ).loc Cert.GateEvenReferenceIdeal.main_arg2)
          ∧ r.2.mem ((c.tc : Thread Cert.GateEvenReferenceIdeal.nD Cert.GateEvenReferenceIdeal.τ).loc Cert.GateEvenReferenceIdeal.main_arg3) = m' ((c.tc : Thread Cert.GateEvenReferenceIdeal.nD Cert.GateEvenReferenceIdeal.τ).loc Cert.GateEvenReferenceIdeal.main_arg3)
          ∧ r.2.mem ((c.tc : Thread Cert.GateEvenReferenceIdeal.nD Cert.GateEvenReferenceIdeal.τ).loc Cert.GateEvenReferenceIdeal.main_arg4) = m' ((c.tc : Thread Cert.GateEvenReferenceIdeal.nD Cert.GateEvenReferenceIdeal.τ).loc Cert.GateEvenReferenceIdeal.main_arg4))

def preserves_Rope_RopeIdeal : Prop :=
  True

def algebraic_RopeIdeal_RopeReferenceIdeal [hRopeIdeal : Cert.RopeIdeal.Facts] [hRopeReferenceIdeal : Cert.RopeReferenceIdeal.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RopeReferenceIdeal.nD Cert.RopeReferenceIdeal.τ Cert.RopeReferenceIdeal.sig) → Buf (Elt Ideal) ℓ) (g' : Dev Cert.RopeReferenceIdeal.nD → PrngReg), Pre_RopeIdeal m →
    (∀ c : Dev Cert.RopeIdeal.nD,
      m' ((c.tc : Thread Cert.RopeReferenceIdeal.nD Cert.RopeReferenceIdeal.τ).loc Cert.RopeReferenceIdeal.main_arg0) = m ((c.tc : Thread Cert.RopeIdeal.nD Cert.RopeIdeal.τ).loc Cert.RopeIdeal.main_arg0)
      ∧ m' ((c.tc : Thread Cert.RopeReferenceIdeal.nD Cert.RopeReferenceIdeal.τ).loc Cert.RopeReferenceIdeal.main_arg1) = m ((c.tc : Thread Cert.RopeIdeal.nD Cert.RopeIdeal.τ).loc Cert.RopeIdeal.main_arg1)
      ∧ m' ((c.tc : Thread Cert.RopeReferenceIdeal.nD Cert.RopeReferenceIdeal.τ).loc Cert.RopeReferenceIdeal.main_arg2) = m ((c.tc : Thread Cert.RopeIdeal.nD Cert.RopeIdeal.τ).loc Cert.RopeIdeal.main_arg2)
      ∧ m' ((c.tc : Thread Cert.RopeReferenceIdeal.nD Cert.RopeReferenceIdeal.τ).loc Cert.RopeReferenceIdeal.main_arg3) = m ((c.tc : Thread Cert.RopeIdeal.nD Cert.RopeIdeal.τ).loc Cert.RopeIdeal.main_arg3)) →
    ∃ (v0 : (c : Dev Cert.RopeIdeal.nD) → Buf (Elt Ideal) ((c.tc : Thread Cert.RopeIdeal.nD Cert.RopeIdeal.τ).loc Cert.RopeIdeal.main_v32_0)) (v1 : (c : Dev Cert.RopeIdeal.nD) → Buf (Elt Ideal) ((c.tc : Thread Cert.RopeIdeal.nD Cert.RopeIdeal.τ).loc Cert.RopeIdeal.main_v32_1)) (v2 : (c : Dev Cert.RopeIdeal.nD) → Buf (Elt Ideal) ((c.tc : Thread Cert.RopeIdeal.nD Cert.RopeIdeal.τ).loc Cert.RopeIdeal.main_v32_2)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v32_0) = v0 c
          ∧ r.2.mem ((c.tc : Thread Cert.RopeIdeal.nD Cert.RopeIdeal.τ).loc Cert.RopeIdeal.main_v32_1) = v1 c
          ∧ r.2.mem ((c.tc : Thread Cert.RopeIdeal.nD Cert.RopeIdeal.τ).loc Cert.RopeIdeal.main_v32_2) = v2 c
          ∧ r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0)
          ∧ r.2.mem ((c.tc : Thread Cert.RopeIdeal.nD Cert.RopeIdeal.τ).loc Cert.RopeIdeal.main_arg1) = m ((c.tc : Thread Cert.RopeIdeal.nD Cert.RopeIdeal.τ).loc Cert.RopeIdeal.main_arg1)
          ∧ r.2.mem ((c.tc : Thread Cert.RopeIdeal.nD Cert.RopeIdeal.τ).loc Cert.RopeIdeal.main_arg2) = m ((c.tc : Thread Cert.RopeIdeal.nD Cert.RopeIdeal.τ).loc Cert.RopeIdeal.main_arg2)
          ∧ r.2.mem ((c.tc : Thread Cert.RopeIdeal.nD Cert.RopeIdeal.τ).loc Cert.RopeIdeal.main_arg3) = m ((c.tc : Thread Cert.RopeIdeal.nD Cert.RopeIdeal.τ).loc Cert.RopeIdeal.main_arg3))
      ∧ θ_run (Cert.RopeReferenceIdeal.defs (F := Ideal)) (onTc (τ := Cert.RopeReferenceIdeal.τ) (Cert.RopeReferenceIdeal.main (F := Ideal))) ⟨m', fun _ => 0, g'⟩ (fun r => ∀ c : Dev Cert.RopeReferenceIdeal.nD,
          r.2.mem ((c.tc : Thread Cert.RopeReferenceIdeal.nD Cert.RopeReferenceIdeal.τ).loc Cert.RopeReferenceIdeal.main_v97) = v0 c
          ∧ r.2.mem ((c.tc : Thread Cert.RopeReferenceIdeal.nD Cert.RopeReferenceIdeal.τ).loc Cert.RopeReferenceIdeal.main_v98) = v1 c
          ∧ r.2.mem ((c.tc : Thread Cert.RopeReferenceIdeal.nD Cert.RopeReferenceIdeal.τ).loc Cert.RopeReferenceIdeal.main_v99) = v2 c
          ∧ r.2.mem ((c.tc : Thread Cert.RopeReferenceIdeal.nD Cert.RopeReferenceIdeal.τ).loc Cert.RopeReferenceIdeal.main_arg0) = m' ((c.tc : Thread Cert.RopeReferenceIdeal.nD Cert.RopeReferenceIdeal.τ).loc Cert.RopeReferenceIdeal.main_arg0)
          ∧ r.2.mem ((c.tc : Thread Cert.RopeReferenceIdeal.nD Cert.RopeReferenceIdeal.τ).loc Cert.RopeReferenceIdeal.main_arg1) = m' ((c.tc : Thread Cert.RopeReferenceIdeal.nD Cert.RopeReferenceIdeal.τ).loc Cert.RopeReferenceIdeal.main_arg1)
          ∧ r.2.mem ((c.tc : Thread Cert.RopeReferenceIdeal.nD Cert.RopeReferenceIdeal.τ).loc Cert.RopeReferenceIdeal.main_arg2) = m' ((c.tc : Thread Cert.RopeReferenceIdeal.nD Cert.RopeReferenceIdeal.τ).loc Cert.RopeReferenceIdeal.main_arg2)
          ∧ r.2.mem ((c.tc : Thread Cert.RopeReferenceIdeal.nD Cert.RopeReferenceIdeal.τ).loc Cert.RopeReferenceIdeal.main_arg3) = m' ((c.tc : Thread Cert.RopeReferenceIdeal.nD Cert.RopeReferenceIdeal.τ).loc Cert.RopeReferenceIdeal.main_arg3))

def preserves_NormQ_NormQIdeal : Prop :=
  True

def algebraic_NormQIdeal_NormQReferenceIdeal_pre_pre_qnorm [hNormQIdeal : Cert.NormQIdeal.Facts] [hNormQReferenceIdeal : Cert.NormQReferenceIdeal.Facts] [hPre_pre_qnorm : Cert.Pre_pre_qnorm.Facts] : Prop :=
  ∀ (m : (ℓ : Loc Cert.NormQIdeal.nD Cert.NormQIdeal.τ Cert.NormQIdeal.sig) → Buf (Elt Ideal) ℓ) (g : Dev Cert.NormQIdeal.nD → PrngReg)
    (m' : (ℓ : Loc Cert.NormQReferenceIdeal.nD Cert.NormQReferenceIdeal.τ Cert.NormQReferenceIdeal.sig) → Buf (Elt Ideal) ℓ) (g' : Dev Cert.NormQReferenceIdeal.nD → PrngReg), Pre_NormQIdeal_pre_qnorm m →
    (∀ c : Dev Cert.NormQIdeal.nD,
      m' ((c.tc : Thread Cert.NormQReferenceIdeal.nD Cert.NormQReferenceIdeal.τ).loc Cert.NormQReferenceIdeal.main_arg0) = m ((c.tc : Thread Cert.NormQIdeal.nD Cert.NormQIdeal.τ).loc Cert.NormQIdeal.main_arg0)
      ∧ m' ((c.tc : Thread Cert.NormQReferenceIdeal.nD Cert.NormQReferenceIdeal.τ).loc Cert.NormQReferenceIdeal.main_arg1) = m ((c.tc : Thread Cert.NormQIdeal.nD Cert.NormQIdeal.τ).loc Cert.NormQIdeal.main_arg1)
      ∧ m' ((c.tc : Thread Cert.NormQReferenceIdeal.nD Cert.NormQReferenceIdeal.τ).loc Cert.NormQReferenceIdeal.main_arg2) = m ((c.tc : Thread Cert.NormQIdeal.nD Cert.NormQIdeal.τ).loc Cert.NormQIdeal.main_arg2)) →
    ∃ (v0 : (c : Dev Cert.NormQIdeal.nD) → Buf (Elt Ideal) ((c.tc : Thread Cert.NormQIdeal.nD Cert.NormQIdeal.τ).loc Cert.NormQIdeal.main_v1_0)) (v1 : (c : Dev Cert.NormQIdeal.nD) → Buf (Elt Ideal) ((c.tc : Thread Cert.NormQIdeal.nD Cert.NormQIdeal.τ).loc Cert.NormQIdeal.main_v1_1)),
      θ_run (Cert.NormQIdeal.defs (F := Ideal)) (onTc (τ := Cert.NormQIdeal.τ) (Cert.NormQIdeal.main (F := Ideal))) ⟨m, fun _ => 0, g⟩ (fun r => ∀ c : Dev Cert.NormQIdeal.nD,
          r.2.mem ((c.tc : Thread Cert.NormQIdeal.nD Cert.NormQIdeal.τ).loc Cert.NormQIdeal.main_v1_0) = v0 c
          ∧ r.2.mem ((c.tc : Thread Cert.NormQIdeal.nD Cert.NormQIdeal.τ).loc Cert.NormQIdeal.main_v1_1) = v1 c
          ∧ r.2.mem ((c.tc : Thread Cert.NormQIdeal.nD Cert.NormQIdeal.τ).loc Cert.NormQIdeal.main_arg0) = m ((c.tc : Thread Cert.NormQIdeal.nD Cert.NormQIdeal.τ).loc Cert.NormQIdeal.main_arg0)
          ∧ r.2.mem ((c.tc : Thread Cert.NormQIdeal.nD Cert.NormQIdeal.τ).loc Cert.NormQIdeal.main_arg1) = m ((c.tc : Thread Cert.NormQIdeal.nD Cert.NormQIdeal.τ).loc Cert.NormQIdeal.main_arg1)
          ∧ r.2.mem ((c.tc : Thread Cert.NormQIdeal.nD Cert.NormQIdeal.τ).loc Cert.NormQIdeal.main_arg2) = m ((c.tc : Thread Cert.NormQIdeal.nD Cert.NormQIdeal.τ).loc Cert.NormQIdeal.main_arg2))
      ∧ θ_run (Cert.NormQReferenceIdeal.defs (F := Ideal)) (onTc (τ := Cert.NormQReferenceIdeal.τ) (Cert.NormQReferenceIdeal.main (F := Ideal))) ⟨m', fun _ => 0, g'⟩ (fun r => ∀ c : Dev Cert.NormQReferenceIdeal.nD,
          r.2.mem ((c.tc : Thread Cert.NormQReferenceIdeal.nD Cert.NormQReferenceIdeal.τ).loc Cert.NormQReferenceIdeal.main_v38) = v0 c
          ∧ r.2.mem ((c.tc : Thread Cert.NormQReferenceIdeal.nD Cert.NormQReferenceIdeal.τ).loc Cert.NormQReferenceIdeal.main_v37) = v1 c
          ∧ r.2.mem ((c.tc : Thread Cert.NormQReferenceIdeal.nD Cert.NormQReferenceIdeal.τ).loc Cert.NormQReferenceIdeal.main_arg0) = m' ((c.tc : Thread Cert.NormQReferenceIdeal.nD Cert.NormQReferenceIdeal.τ).loc Cert.NormQReferenceIdeal.main_arg0)
          ∧ r.2.mem ((c.tc : Thread Cert.NormQReferenceIdeal.nD Cert.NormQReferenceIdeal.τ).loc Cert.NormQReferenceIdeal.main_arg1) = m' ((c.tc : Thread Cert.NormQReferenceIdeal.nD Cert.NormQReferenceIdeal.τ).loc Cert.NormQReferenceIdeal.main_arg1)
          ∧ r.2.mem ((c.tc : Thread Cert.NormQReferenceIdeal.nD Cert.NormQReferenceIdeal.τ).loc Cert.NormQReferenceIdeal.main_arg2) = m' ((c.tc : Thread Cert.NormQReferenceIdeal.nD Cert.NormQReferenceIdeal.τ).loc Cert.NormQReferenceIdeal.main_arg2))

def preserves_NormKv_NormKvIdeal : Prop :=
  True

def algebraic_NormKvIdeal_NormKvReferenceIdeal_pre_pre_kvnorm [hNormKvIdeal : Cert.NormKvIdeal.Facts] [hNormKvReferenceIdeal : Cert.NormKvReferenceIdeal.Facts] [hPre_pre_kvnorm : Cert.Pre_pre_kvnorm.Facts] : Prop :=
  ∀ (m : (ℓ : Loc Cert.NormKvIdeal.nD Cert.NormKvIdeal.τ Cert.NormKvIdeal.sig) → Buf (Elt Ideal) ℓ) (g : Dev Cert.NormKvIdeal.nD → PrngReg)
    (m' : (ℓ : Loc Cert.NormKvReferenceIdeal.nD Cert.NormKvReferenceIdeal.τ Cert.NormKvReferenceIdeal.sig) → Buf (Elt Ideal) ℓ) (g' : Dev Cert.NormKvReferenceIdeal.nD → PrngReg), Pre_NormKvIdeal_pre_kvnorm m →
    (∀ c : Dev Cert.NormKvIdeal.nD,
      m' ((c.tc : Thread Cert.NormKvReferenceIdeal.nD Cert.NormKvReferenceIdeal.τ).loc Cert.NormKvReferenceIdeal.main_arg0) = m ((c.tc : Thread Cert.NormKvIdeal.nD Cert.NormKvIdeal.τ).loc Cert.NormKvIdeal.main_arg0)
      ∧ m' ((c.tc : Thread Cert.NormKvReferenceIdeal.nD Cert.NormKvReferenceIdeal.τ).loc Cert.NormKvReferenceIdeal.main_arg1) = m ((c.tc : Thread Cert.NormKvIdeal.nD Cert.NormKvIdeal.τ).loc Cert.NormKvIdeal.main_arg1)
      ∧ m' ((c.tc : Thread Cert.NormKvReferenceIdeal.nD Cert.NormKvReferenceIdeal.τ).loc Cert.NormKvReferenceIdeal.main_arg2) = m ((c.tc : Thread Cert.NormKvIdeal.nD Cert.NormKvIdeal.τ).loc Cert.NormKvIdeal.main_arg2)) →
    ∃ (v0 : (c : Dev Cert.NormKvIdeal.nD) → Buf (Elt Ideal) ((c.tc : Thread Cert.NormKvIdeal.nD Cert.NormKvIdeal.τ).loc Cert.NormKvIdeal.main_v1_0)) (v1 : (c : Dev Cert.NormKvIdeal.nD) → Buf (Elt Ideal) ((c.tc : Thread Cert.NormKvIdeal.nD Cert.NormKvIdeal.τ).loc Cert.NormKvIdeal.main_v1_1)),
      θ_run (Cert.NormKvIdeal.defs (F := Ideal)) (onTc (τ := Cert.NormKvIdeal.τ) (Cert.NormKvIdeal.main (F := Ideal))) ⟨m, fun _ => 0, g⟩ (fun r => ∀ c : Dev Cert.NormKvIdeal.nD,
          r.2.mem ((c.tc : Thread Cert.NormKvIdeal.nD Cert.NormKvIdeal.τ).loc Cert.NormKvIdeal.main_v1_0) = v0 c
          ∧ r.2.mem ((c.tc : Thread Cert.NormKvIdeal.nD Cert.NormKvIdeal.τ).loc Cert.NormKvIdeal.main_v1_1) = v1 c
          ∧ r.2.mem ((c.tc : Thread Cert.NormKvIdeal.nD Cert.NormKvIdeal.τ).loc Cert.NormKvIdeal.main_arg0) = m ((c.tc : Thread Cert.NormKvIdeal.nD Cert.NormKvIdeal.τ).loc Cert.NormKvIdeal.main_arg0)
          ∧ r.2.mem ((c.tc : Thread Cert.NormKvIdeal.nD Cert.NormKvIdeal.τ).loc Cert.NormKvIdeal.main_arg1) = m ((c.tc : Thread Cert.NormKvIdeal.nD Cert.NormKvIdeal.τ).loc Cert.NormKvIdeal.main_arg1)
          ∧ r.2.mem ((c.tc : Thread Cert.NormKvIdeal.nD Cert.NormKvIdeal.τ).loc Cert.NormKvIdeal.main_arg2) = m ((c.tc : Thread Cert.NormKvIdeal.nD Cert.NormKvIdeal.τ).loc Cert.NormKvIdeal.main_arg2))
      ∧ θ_run (Cert.NormKvReferenceIdeal.defs (F := Ideal)) (onTc (τ := Cert.NormKvReferenceIdeal.τ) (Cert.NormKvReferenceIdeal.main (F := Ideal))) ⟨m', fun _ => 0, g'⟩ (fun r => ∀ c : Dev Cert.NormKvReferenceIdeal.nD,
          r.2.mem ((c.tc : Thread Cert.NormKvReferenceIdeal.nD Cert.NormKvReferenceIdeal.τ).loc Cert.NormKvReferenceIdeal.main_v38) = v0 c
          ∧ r.2.mem ((c.tc : Thread Cert.NormKvReferenceIdeal.nD Cert.NormKvReferenceIdeal.τ).loc Cert.NormKvReferenceIdeal.main_v37) = v1 c
          ∧ r.2.mem ((c.tc : Thread Cert.NormKvReferenceIdeal.nD Cert.NormKvReferenceIdeal.τ).loc Cert.NormKvReferenceIdeal.main_arg0) = m' ((c.tc : Thread Cert.NormKvReferenceIdeal.nD Cert.NormKvReferenceIdeal.τ).loc Cert.NormKvReferenceIdeal.main_arg0)
          ∧ r.2.mem ((c.tc : Thread Cert.NormKvReferenceIdeal.nD Cert.NormKvReferenceIdeal.τ).loc Cert.NormKvReferenceIdeal.main_arg1) = m' ((c.tc : Thread Cert.NormKvReferenceIdeal.nD Cert.NormKvReferenceIdeal.τ).loc Cert.NormKvReferenceIdeal.main_arg1)
          ∧ r.2.mem ((c.tc : Thread Cert.NormKvReferenceIdeal.nD Cert.NormKvReferenceIdeal.τ).loc Cert.NormKvReferenceIdeal.main_arg2) = m' ((c.tc : Thread Cert.NormKvReferenceIdeal.nD Cert.NormKvReferenceIdeal.τ).loc Cert.NormKvReferenceIdeal.main_arg2))

def preserves_InOdd_InOddIdeal : Prop :=
  True

def algebraic_InOddIdeal_InOddReferenceIdeal_pre_pre_in1 [hInOddIdeal : Cert.InOddIdeal.Facts] [hInOddReferenceIdeal : Cert.InOddReferenceIdeal.Facts] [hPre_pre_in1 : Cert.Pre_pre_in1.Facts] : Prop :=
  ∀ (m : (ℓ : Loc Cert.InOddIdeal.nD Cert.InOddIdeal.τ Cert.InOddIdeal.sig) → Buf (Elt Ideal) ℓ) (g : Dev Cert.InOddIdeal.nD → PrngReg)
    (m' : (ℓ : Loc Cert.InOddReferenceIdeal.nD Cert.InOddReferenceIdeal.τ Cert.InOddReferenceIdeal.sig) → Buf (Elt Ideal) ℓ) (g' : Dev Cert.InOddReferenceIdeal.nD → PrngReg), Pre_InOddIdeal_pre_in1 m →
    (∀ c : Dev Cert.InOddIdeal.nD,
      m' ((c.tc : Thread Cert.InOddReferenceIdeal.nD Cert.InOddReferenceIdeal.τ).loc Cert.InOddReferenceIdeal.main_arg0) = m ((c.tc : Thread Cert.InOddIdeal.nD Cert.InOddIdeal.τ).loc Cert.InOddIdeal.main_arg0)
      ∧ m' ((c.tc : Thread Cert.InOddReferenceIdeal.nD Cert.InOddReferenceIdeal.τ).loc Cert.InOddReferenceIdeal.main_arg1) = m ((c.tc : Thread Cert.InOddIdeal.nD Cert.InOddIdeal.τ).loc Cert.InOddIdeal.main_arg1)
      ∧ m' ((c.tc : Thread Cert.InOddReferenceIdeal.nD Cert.InOddReferenceIdeal.τ).loc Cert.InOddReferenceIdeal.main_arg2) = m ((c.tc : Thread Cert.InOddIdeal.nD Cert.InOddIdeal.τ).loc Cert.InOddIdeal.main_arg2)
      ∧ m' ((c.tc : Thread Cert.InOddReferenceIdeal.nD Cert.InOddReferenceIdeal.τ).loc Cert.InOddReferenceIdeal.main_arg3) = m ((c.tc : Thread Cert.InOddIdeal.nD Cert.InOddIdeal.τ).loc Cert.InOddIdeal.main_arg3)
      ∧ m' ((c.tc : Thread Cert.InOddReferenceIdeal.nD Cert.InOddReferenceIdeal.τ).loc Cert.InOddReferenceIdeal.main_arg4) = m ((c.tc : Thread Cert.InOddIdeal.nD Cert.InOddIdeal.τ).loc Cert.InOddIdeal.main_arg4)) →
    ∃ (v0 : (c : Dev Cert.InOddIdeal.nD) → Buf (Elt Ideal) ((c.tc : Thread Cert.InOddIdeal.nD Cert.InOddIdeal.τ).loc Cert.InOddIdeal.main_v18_0)) (v1 : (c : Dev Cert.InOddIdeal.nD) → Buf (Elt Ideal) ((c.tc : Thread Cert.InOddIdeal.nD Cert.InOddIdeal.τ).loc Cert.InOddIdeal.main_v18_1)) (v2 : (c : Dev Cert.InOddIdeal.nD) → Buf (Elt Ideal) ((c.tc : Thread Cert.InOddIdeal.nD Cert.InOddIdeal.τ).loc Cert.InOddIdeal.main_v18_2)),
      θ_run (Cert.InOddIdeal.defs (F := Ideal)) (onTc (τ := Cert.InOddIdeal.τ) (Cert.InOddIdeal.main (F := Ideal))) ⟨m, fun _ => 0, g⟩ (fun r => ∀ c : Dev Cert.InOddIdeal.nD,
          r.2.mem ((c.tc : Thread Cert.InOddIdeal.nD Cert.InOddIdeal.τ).loc Cert.InOddIdeal.main_v18_0) = v0 c
          ∧ r.2.mem ((c.tc : Thread Cert.InOddIdeal.nD Cert.InOddIdeal.τ).loc Cert.InOddIdeal.main_v18_1) = v1 c
          ∧ r.2.mem ((c.tc : Thread Cert.InOddIdeal.nD Cert.InOddIdeal.τ).loc Cert.InOddIdeal.main_v18_2) = v2 c
          ∧ r.2.mem ((c.tc : Thread Cert.InOddIdeal.nD Cert.InOddIdeal.τ).loc Cert.InOddIdeal.main_arg0) = m ((c.tc : Thread Cert.InOddIdeal.nD Cert.InOddIdeal.τ).loc Cert.InOddIdeal.main_arg0)
          ∧ r.2.mem ((c.tc : Thread Cert.InOddIdeal.nD Cert.InOddIdeal.τ).loc Cert.InOddIdeal.main_arg1) = m ((c.tc : Thread Cert.InOddIdeal.nD Cert.InOddIdeal.τ).loc Cert.InOddIdeal.main_arg1)
          ∧ r.2.mem ((c.tc : Thread Cert.InOddIdeal.nD Cert.InOddIdeal.τ).loc Cert.InOddIdeal.main_arg2) = m ((c.tc : Thread Cert.InOddIdeal.nD Cert.InOddIdeal.τ).loc Cert.InOddIdeal.main_arg2)
          ∧ r.2.mem ((c.tc : Thread Cert.InOddIdeal.nD Cert.InOddIdeal.τ).loc Cert.InOddIdeal.main_arg3) = m ((c.tc : Thread Cert.InOddIdeal.nD Cert.InOddIdeal.τ).loc Cert.InOddIdeal.main_arg3)
          ∧ r.2.mem ((c.tc : Thread Cert.InOddIdeal.nD Cert.InOddIdeal.τ).loc Cert.InOddIdeal.main_arg4) = m ((c.tc : Thread Cert.InOddIdeal.nD Cert.InOddIdeal.τ).loc Cert.InOddIdeal.main_arg4))
      ∧ θ_run (Cert.InOddReferenceIdeal.defs (F := Ideal)) (onTc (τ := Cert.InOddReferenceIdeal.τ) (Cert.InOddReferenceIdeal.main (F := Ideal))) ⟨m', fun _ => 0, g'⟩ (fun r => ∀ c : Dev Cert.InOddReferenceIdeal.nD,
          r.2.mem ((c.tc : Thread Cert.InOddReferenceIdeal.nD Cert.InOddReferenceIdeal.τ).loc Cert.InOddReferenceIdeal.main_v39) = v0 c
          ∧ r.2.mem ((c.tc : Thread Cert.InOddReferenceIdeal.nD Cert.InOddReferenceIdeal.τ).loc Cert.InOddReferenceIdeal.main_v40) = v1 c
          ∧ r.2.mem ((c.tc : Thread Cert.InOddReferenceIdeal.nD Cert.InOddReferenceIdeal.τ).loc Cert.InOddReferenceIdeal.main_v41) = v2 c
          ∧ r.2.mem ((c.tc : Thread Cert.InOddReferenceIdeal.nD Cert.InOddReferenceIdeal.τ).loc Cert.InOddReferenceIdeal.main_arg0) = m' ((c.tc : Thread Cert.InOddReferenceIdeal.nD Cert.InOddReferenceIdeal.τ).loc Cert.InOddReferenceIdeal.main_arg0)
          ∧ r.2.mem ((c.tc : Thread Cert.InOddReferenceIdeal.nD Cert.InOddReferenceIdeal.τ).loc Cert.InOddReferenceIdeal.main_arg1) = m' ((c.tc : Thread Cert.InOddReferenceIdeal.nD Cert.InOddReferenceIdeal.τ).loc Cert.InOddReferenceIdeal.main_arg1)
          ∧ r.2.mem ((c.tc : Thread Cert.InOddReferenceIdeal.nD Cert.InOddReferenceIdeal.τ).loc Cert.InOddReferenceIdeal.main_arg2) = m' ((c.tc : Thread Cert.InOddReferenceIdeal.nD Cert.InOddReferenceIdeal.τ).loc Cert.InOddReferenceIdeal.main_arg2)
          ∧ r.2.mem ((c.tc : Thread Cert.InOddReferenceIdeal.nD Cert.InOddReferenceIdeal.τ).loc Cert.InOddReferenceIdeal.main_arg3) = m' ((c.tc : Thread Cert.InOddReferenceIdeal.nD Cert.InOddReferenceIdeal.τ).loc Cert.InOddReferenceIdeal.main_arg3)
          ∧ r.2.mem ((c.tc : Thread Cert.InOddReferenceIdeal.nD Cert.InOddReferenceIdeal.τ).loc Cert.InOddReferenceIdeal.main_arg4) = m' ((c.tc : Thread Cert.InOddReferenceIdeal.nD Cert.InOddReferenceIdeal.τ).loc Cert.InOddReferenceIdeal.main_arg4))

def preserves_InEven_InEvenIdeal : Prop :=
  True

def algebraic_InEvenIdeal_InEvenReferenceIdeal_pre_pre_in0 [hInEvenIdeal : Cert.InEvenIdeal.Facts] [hInEvenReferenceIdeal : Cert.InEvenReferenceIdeal.Facts] [hPre_pre_in0 : Cert.Pre_pre_in0.Facts] : Prop :=
  ∀ (m : (ℓ : Loc Cert.InEvenIdeal.nD Cert.InEvenIdeal.τ Cert.InEvenIdeal.sig) → Buf (Elt Ideal) ℓ) (g : Dev Cert.InEvenIdeal.nD → PrngReg)
    (m' : (ℓ : Loc Cert.InEvenReferenceIdeal.nD Cert.InEvenReferenceIdeal.τ Cert.InEvenReferenceIdeal.sig) → Buf (Elt Ideal) ℓ) (g' : Dev Cert.InEvenReferenceIdeal.nD → PrngReg), Pre_InEvenIdeal_pre_in0 m →
    (∀ c : Dev Cert.InEvenIdeal.nD,
      m' ((c.tc : Thread Cert.InEvenReferenceIdeal.nD Cert.InEvenReferenceIdeal.τ).loc Cert.InEvenReferenceIdeal.main_arg0) = m ((c.tc : Thread Cert.InEvenIdeal.nD Cert.InEvenIdeal.τ).loc Cert.InEvenIdeal.main_arg0)
      ∧ m' ((c.tc : Thread Cert.InEvenReferenceIdeal.nD Cert.InEvenReferenceIdeal.τ).loc Cert.InEvenReferenceIdeal.main_arg1) = m ((c.tc : Thread Cert.InEvenIdeal.nD Cert.InEvenIdeal.τ).loc Cert.InEvenIdeal.main_arg1)
      ∧ m' ((c.tc : Thread Cert.InEvenReferenceIdeal.nD Cert.InEvenReferenceIdeal.τ).loc Cert.InEvenReferenceIdeal.main_arg2) = m ((c.tc : Thread Cert.InEvenIdeal.nD Cert.InEvenIdeal.τ).loc Cert.InEvenIdeal.main_arg2)
      ∧ m' ((c.tc : Thread Cert.InEvenReferenceIdeal.nD Cert.InEvenReferenceIdeal.τ).loc Cert.InEvenReferenceIdeal.main_arg3) = m ((c.tc : Thread Cert.InEvenIdeal.nD Cert.InEvenIdeal.τ).loc Cert.InEvenIdeal.main_arg3)
      ∧ m' ((c.tc : Thread Cert.InEvenReferenceIdeal.nD Cert.InEvenReferenceIdeal.τ).loc Cert.InEvenReferenceIdeal.main_arg4) = m ((c.tc : Thread Cert.InEvenIdeal.nD Cert.InEvenIdeal.τ).loc Cert.InEvenIdeal.main_arg4)) →
    ∃ (v0 : (c : Dev Cert.InEvenIdeal.nD) → Buf (Elt Ideal) ((c.tc : Thread Cert.InEvenIdeal.nD Cert.InEvenIdeal.τ).loc Cert.InEvenIdeal.main_v23_0)) (v1 : (c : Dev Cert.InEvenIdeal.nD) → Buf (Elt Ideal) ((c.tc : Thread Cert.InEvenIdeal.nD Cert.InEvenIdeal.τ).loc Cert.InEvenIdeal.main_v23_1)),
      θ_run (Cert.InEvenIdeal.defs (F := Ideal)) (onTc (τ := Cert.InEvenIdeal.τ) (Cert.InEvenIdeal.main (F := Ideal))) ⟨m, fun _ => 0, g⟩ (fun r => ∀ c : Dev Cert.InEvenIdeal.nD,
          r.2.mem ((c.tc : Thread Cert.InEvenIdeal.nD Cert.InEvenIdeal.τ).loc Cert.InEvenIdeal.main_v23_0) = v0 c
          ∧ r.2.mem ((c.tc : Thread Cert.InEvenIdeal.nD Cert.InEvenIdeal.τ).loc Cert.InEvenIdeal.main_v23_1) = v1 c
          ∧ r.2.mem ((c.tc : Thread Cert.InEvenIdeal.nD Cert.InEvenIdeal.τ).loc Cert.InEvenIdeal.main_arg0) = m ((c.tc : Thread Cert.InEvenIdeal.nD Cert.InEvenIdeal.τ).loc Cert.InEvenIdeal.main_arg0)
          ∧ r.2.mem ((c.tc : Thread Cert.InEvenIdeal.nD Cert.InEvenIdeal.τ).loc Cert.InEvenIdeal.main_arg1) = m ((c.tc : Thread Cert.InEvenIdeal.nD Cert.InEvenIdeal.τ).loc Cert.InEvenIdeal.main_arg1)
          ∧ r.2.mem ((c.tc : Thread Cert.InEvenIdeal.nD Cert.InEvenIdeal.τ).loc Cert.InEvenIdeal.main_arg2) = m ((c.tc : Thread Cert.InEvenIdeal.nD Cert.InEvenIdeal.τ).loc Cert.InEvenIdeal.main_arg2)
          ∧ r.2.mem ((c.tc : Thread Cert.InEvenIdeal.nD Cert.InEvenIdeal.τ).loc Cert.InEvenIdeal.main_arg3) = m ((c.tc : Thread Cert.InEvenIdeal.nD Cert.InEvenIdeal.τ).loc Cert.InEvenIdeal.main_arg3)
          ∧ r.2.mem ((c.tc : Thread Cert.InEvenIdeal.nD Cert.InEvenIdeal.τ).loc Cert.InEvenIdeal.main_arg4) = m ((c.tc : Thread Cert.InEvenIdeal.nD Cert.InEvenIdeal.τ).loc Cert.InEvenIdeal.main_arg4))
      ∧ θ_run (Cert.InEvenReferenceIdeal.defs (F := Ideal)) (onTc (τ := Cert.InEvenReferenceIdeal.τ) (Cert.InEvenReferenceIdeal.main (F := Ideal))) ⟨m', fun _ => 0, g'⟩ (fun r => ∀ c : Dev Cert.InEvenReferenceIdeal.nD,
          r.2.mem ((c.tc : Thread Cert.InEvenReferenceIdeal.nD Cert.InEvenReferenceIdeal.τ).loc Cert.InEvenReferenceIdeal.main_v39) = v0 c
          ∧ r.2.mem ((c.tc : Thread Cert.InEvenReferenceIdeal.nD Cert.InEvenReferenceIdeal.τ).loc Cert.InEvenReferenceIdeal.main_v40) = v1 c
          ∧ r.2.mem ((c.tc : Thread Cert.InEvenReferenceIdeal.nD Cert.InEvenReferenceIdeal.τ).loc Cert.InEvenReferenceIdeal.main_arg0) = m' ((c.tc : Thread Cert.InEvenReferenceIdeal.nD Cert.InEvenReferenceIdeal.τ).loc Cert.InEvenReferenceIdeal.main_arg0)
          ∧ r.2.mem ((c.tc : Thread Cert.InEvenReferenceIdeal.nD Cert.InEvenReferenceIdeal.τ).loc Cert.InEvenReferenceIdeal.main_arg1) = m' ((c.tc : Thread Cert.InEvenReferenceIdeal.nD Cert.InEvenReferenceIdeal.τ).loc Cert.InEvenReferenceIdeal.main_arg1)
          ∧ r.2.mem ((c.tc : Thread Cert.InEvenReferenceIdeal.nD Cert.InEvenReferenceIdeal.τ).loc Cert.InEvenReferenceIdeal.main_arg2) = m' ((c.tc : Thread Cert.InEvenReferenceIdeal.nD Cert.InEvenReferenceIdeal.τ).loc Cert.InEvenReferenceIdeal.main_arg2)
          ∧ r.2.mem ((c.tc : Thread Cert.InEvenReferenceIdeal.nD Cert.InEvenReferenceIdeal.τ).loc Cert.InEvenReferenceIdeal.main_arg3) = m' ((c.tc : Thread Cert.InEvenReferenceIdeal.nD Cert.InEvenReferenceIdeal.τ).loc Cert.InEvenReferenceIdeal.main_arg3)
          ∧ r.2.mem ((c.tc : Thread Cert.InEvenReferenceIdeal.nD Cert.InEvenReferenceIdeal.τ).loc Cert.InEvenReferenceIdeal.main_arg4) = m' ((c.tc : Thread Cert.InEvenReferenceIdeal.nD Cert.InEvenReferenceIdeal.τ).loc Cert.InEvenReferenceIdeal.main_arg4))

def preserves_LossOut_LossOutIdeal : Prop :=
  True

def algebraic_LossOutIdeal_LossOutReferenceIdeal_pre_pre_loss [hLossOutIdeal : Cert.LossOutIdeal.Facts] [hLossOutReferenceIdeal : Cert.LossOutReferenceIdeal.Facts] [hPre_pre_loss : Cert.Pre_pre_loss.Facts] : Prop :=
  ∀ (m : (ℓ : Loc Cert.LossOutIdeal.nD Cert.LossOutIdeal.τ Cert.LossOutIdeal.sig) → Buf (Elt Ideal) ℓ) (g : Dev Cert.LossOutIdeal.nD → PrngReg)
    (m' : (ℓ : Loc Cert.LossOutReferenceIdeal.nD Cert.LossOutReferenceIdeal.τ Cert.LossOutReferenceIdeal.sig) → Buf (Elt Ideal) ℓ) (g' : Dev Cert.LossOutReferenceIdeal.nD → PrngReg), Pre_LossOutIdeal_pre_loss m →
    (∀ c : Dev Cert.LossOutIdeal.nD,
      m' ((c.tc : Thread Cert.LossOutReferenceIdeal.nD Cert.LossOutReferenceIdeal.τ).loc Cert.LossOutReferenceIdeal.main_arg0) = m ((c.tc : Thread Cert.LossOutIdeal.nD Cert.LossOutIdeal.τ).loc Cert.LossOutIdeal.main_arg0)
      ∧ m' ((c.tc : Thread Cert.LossOutReferenceIdeal.nD Cert.LossOutReferenceIdeal.τ).loc Cert.LossOutReferenceIdeal.main_arg1) = m ((c.tc : Thread Cert.LossOutIdeal.nD Cert.LossOutIdeal.τ).loc Cert.LossOutIdeal.main_arg1)
      ∧ m' ((c.tc : Thread Cert.LossOutReferenceIdeal.nD Cert.LossOutReferenceIdeal.τ).loc Cert.LossOutReferenceIdeal.main_arg2) = m ((c.tc : Thread Cert.LossOutIdeal.nD Cert.LossOutIdeal.τ).loc Cert.LossOutIdeal.main_arg2)
      ∧ m' ((c.tc : Thread Cert.LossOutReferenceIdeal.nD Cert.LossOutReferenceIdeal.τ).loc Cert.LossOutReferenceIdeal.main_arg3) = m ((c.tc : Thread Cert.LossOutIdeal.nD Cert.LossOutIdeal.τ).loc Cert.LossOutIdeal.main_arg3)
      ∧ m' ((c.tc : Thread Cert.LossOutReferenceIdeal.nD Cert.LossOutReferenceIdeal.τ).loc Cert.LossOutReferenceIdeal.main_arg4) = m ((c.tc : Thread Cert.LossOutIdeal.nD Cert.LossOutIdeal.τ).loc Cert.LossOutIdeal.main_arg4)
      ∧ m' ((c.tc : Thread Cert.LossOutReferenceIdeal.nD Cert.LossOutReferenceIdeal.τ).loc Cert.LossOutReferenceIdeal.main_arg5) = m ((c.tc : Thread Cert.LossOutIdeal.nD Cert.LossOutIdeal.τ).loc Cert.LossOutIdeal.main_arg5)) →
    ∃ (v0 : (c : Dev Cert.LossOutIdeal.nD) → Buf (Elt Ideal) ((c.tc : Thread Cert.LossOutIdeal.nD Cert.LossOutIdeal.τ).loc Cert.LossOutIdeal.main_v1_0)) (v1 : (c : Dev Cert.LossOutIdeal.nD) → Buf (Elt Ideal) ((c.tc : Thread Cert.LossOutIdeal.nD Cert.LossOutIdeal.τ).loc Cert.LossOutIdeal.main_v1_1)) (v2 : (c : Dev Cert.LossOutIdeal.nD) → Buf (Elt Ideal) ((c.tc : Thread Cert.LossOutIdeal.nD Cert.LossOutIdeal.τ).loc Cert.LossOutIdeal.main_v1_2)) (v3 : (c : Dev Cert.LossOutIdeal.nD) → Buf (Elt Ideal) ((c.tc : Thread Cert.LossOutIdeal.nD Cert.LossOutIdeal.τ).loc Cert.LossOutIdeal.main_v1_3)) (v4 : (c : Dev Cert.LossOutIdeal.nD) → Buf (Elt Ideal) ((c.tc : Thread Cert.LossOutIdeal.nD Cert.LossOutIdeal.τ).loc Cert.LossOutIdeal.main_v1_4)),
      θ_run (Cert.LossOutIdeal.defs (F := Ideal)) (onTc (τ := Cert.LossOutIdeal.τ) (Cert.LossOutIdeal.main (F := Ideal))) ⟨m, fun _ => 0, g⟩ (fun r => ∀ c : Dev Cert.LossOutIdeal.nD,
          r.2.mem ((c.tc : Thread Cert.LossOutIdeal.nD Cert.LossOutIdeal.τ).loc Cert.LossOutIdeal.main_v1_0) = v0 c
          ∧ r.2.mem ((c.tc : Thread Cert.LossOutIdeal.nD Cert.LossOutIdeal.τ).loc Cert.LossOutIdeal.main_v1_1) = v1 c
          ∧ r.2.mem ((c.tc : Thread Cert.LossOutIdeal.nD Cert.LossOutIdeal.τ).loc Cert.LossOutIdeal.main_v1_2) = v2 c
          ∧ r.2.mem ((c.tc : Thread Cert.LossOutIdeal.nD Cert.LossOutIdeal.τ).loc Cert.LossOutIdeal.main_v1_3) = v3 c
          ∧ r.2.mem ((c.tc : Thread Cert.LossOutIdeal.nD Cert.LossOutIdeal.τ).loc Cert.LossOutIdeal.main_v1_4) = v4 c
          ∧ r.2.mem ((c.tc : Thread Cert.LossOutIdeal.nD Cert.LossOutIdeal.τ).loc Cert.LossOutIdeal.main_arg0) = m ((c.tc : Thread Cert.LossOutIdeal.nD Cert.LossOutIdeal.τ).loc Cert.LossOutIdeal.main_arg0)
          ∧ r.2.mem ((c.tc : Thread Cert.LossOutIdeal.nD Cert.LossOutIdeal.τ).loc Cert.LossOutIdeal.main_arg1) = m ((c.tc : Thread Cert.LossOutIdeal.nD Cert.LossOutIdeal.τ).loc Cert.LossOutIdeal.main_arg1)
          ∧ r.2.mem ((c.tc : Thread Cert.LossOutIdeal.nD Cert.LossOutIdeal.τ).loc Cert.LossOutIdeal.main_arg2) = m ((c.tc : Thread Cert.LossOutIdeal.nD Cert.LossOutIdeal.τ).loc Cert.LossOutIdeal.main_arg2)
          ∧ r.2.mem ((c.tc : Thread Cert.LossOutIdeal.nD Cert.LossOutIdeal.τ).loc Cert.LossOutIdeal.main_arg3) = m ((c.tc : Thread Cert.LossOutIdeal.nD Cert.LossOutIdeal.τ).loc Cert.LossOutIdeal.main_arg3)
          ∧ r.2.mem ((c.tc : Thread Cert.LossOutIdeal.nD Cert.LossOutIdeal.τ).loc Cert.LossOutIdeal.main_arg4) = m ((c.tc : Thread Cert.LossOutIdeal.nD Cert.LossOutIdeal.τ).loc Cert.LossOutIdeal.main_arg4)
          ∧ r.2.mem ((c.tc : Thread Cert.LossOutIdeal.nD Cert.LossOutIdeal.τ).loc Cert.LossOutIdeal.main_arg5) = m ((c.tc : Thread Cert.LossOutIdeal.nD Cert.LossOutIdeal.τ).loc Cert.LossOutIdeal.main_arg5))
      ∧ θ_run (Cert.LossOutReferenceIdeal.defs (F := Ideal)) (onTc (τ := Cert.LossOutReferenceIdeal.τ) (Cert.LossOutReferenceIdeal.main (F := Ideal))) ⟨m', fun _ => 0, g'⟩ (fun r => ∀ c : Dev Cert.LossOutReferenceIdeal.nD,
          r.2.mem ((c.tc : Thread Cert.LossOutReferenceIdeal.nD Cert.LossOutReferenceIdeal.τ).loc Cert.LossOutReferenceIdeal.main_v55) = v0 c
          ∧ r.2.mem ((c.tc : Thread Cert.LossOutReferenceIdeal.nD Cert.LossOutReferenceIdeal.τ).loc Cert.LossOutReferenceIdeal.main_v60) = v1 c
          ∧ r.2.mem ((c.tc : Thread Cert.LossOutReferenceIdeal.nD Cert.LossOutReferenceIdeal.τ).loc Cert.LossOutReferenceIdeal.main_v56) = v2 c
          ∧ r.2.mem ((c.tc : Thread Cert.LossOutReferenceIdeal.nD Cert.LossOutReferenceIdeal.τ).loc Cert.LossOutReferenceIdeal.main_v59) = v3 c
          ∧ r.2.mem ((c.tc : Thread Cert.LossOutReferenceIdeal.nD Cert.LossOutReferenceIdeal.τ).loc Cert.LossOutReferenceIdeal.main_v61) = v4 c
          ∧ r.2.mem ((c.tc : Thread Cert.LossOutReferenceIdeal.nD Cert.LossOutReferenceIdeal.τ).loc Cert.LossOutReferenceIdeal.main_arg0) = m' ((c.tc : Thread Cert.LossOutReferenceIdeal.nD Cert.LossOutReferenceIdeal.τ).loc Cert.LossOutReferenceIdeal.main_arg0)
          ∧ r.2.mem ((c.tc : Thread Cert.LossOutReferenceIdeal.nD Cert.LossOutReferenceIdeal.τ).loc Cert.LossOutReferenceIdeal.main_arg1) = m' ((c.tc : Thread Cert.LossOutReferenceIdeal.nD Cert.LossOutReferenceIdeal.τ).loc Cert.LossOutReferenceIdeal.main_arg1)
          ∧ r.2.mem ((c.tc : Thread Cert.LossOutReferenceIdeal.nD Cert.LossOutReferenceIdeal.τ).loc Cert.LossOutReferenceIdeal.main_arg2) = m' ((c.tc : Thread Cert.LossOutReferenceIdeal.nD Cert.LossOutReferenceIdeal.τ).loc Cert.LossOutReferenceIdeal.main_arg2)
          ∧ r.2.mem ((c.tc : Thread Cert.LossOutReferenceIdeal.nD Cert.LossOutReferenceIdeal.τ).loc Cert.LossOutReferenceIdeal.main_arg3) = m' ((c.tc : Thread Cert.LossOutReferenceIdeal.nD Cert.LossOutReferenceIdeal.τ).loc Cert.LossOutReferenceIdeal.main_arg3)
          ∧ r.2.mem ((c.tc : Thread Cert.LossOutReferenceIdeal.nD Cert.LossOutReferenceIdeal.τ).loc Cert.LossOutReferenceIdeal.main_arg4) = m' ((c.tc : Thread Cert.LossOutReferenceIdeal.nD Cert.LossOutReferenceIdeal.τ).loc Cert.LossOutReferenceIdeal.main_arg4)
          ∧ r.2.mem ((c.tc : Thread Cert.LossOutReferenceIdeal.nD Cert.LossOutReferenceIdeal.τ).loc Cert.LossOutReferenceIdeal.main_arg5) = m' ((c.tc : Thread Cert.LossOutReferenceIdeal.nD Cert.LossOutReferenceIdeal.τ).loc Cert.LossOutReferenceIdeal.main_arg5))

def Claim : Prop :=
  ∃ (hKernel : Cert.Kernel.Facts) (hKernelIdeal : Cert.KernelIdeal.Facts) (hReferenceIdeal : Cert.ReferenceIdeal.Facts) (hFox : Cert.Fox.Facts) (hFoxIdeal : Cert.FoxIdeal.Facts) (hFoxReferenceIdeal : Cert.FoxReferenceIdeal.Facts) (hMla : Cert.Mla.Facts) (hMlaIdeal : Cert.MlaIdeal.Facts) (hMlaReferenceIdeal : Cert.MlaReferenceIdeal.Facts) (hGateOdd : Cert.GateOdd.Facts) (hGateOddIdeal : Cert.GateOddIdeal.Facts) (hGateOddReferenceIdeal : Cert.GateOddReferenceIdeal.Facts) (hGateEven : Cert.GateEven.Facts) (hGateEvenIdeal : Cert.GateEvenIdeal.Facts) (hGateEvenReferenceIdeal : Cert.GateEvenReferenceIdeal.Facts) (hRope : Cert.Rope.Facts) (hRopeIdeal : Cert.RopeIdeal.Facts) (hRopeReferenceIdeal : Cert.RopeReferenceIdeal.Facts) (hNormQ : Cert.NormQ.Facts) (hNormQIdeal : Cert.NormQIdeal.Facts) (hNormQReferenceIdeal : Cert.NormQReferenceIdeal.Facts) (hNormKv : Cert.NormKv.Facts) (hNormKvIdeal : Cert.NormKvIdeal.Facts) (hNormKvReferenceIdeal : Cert.NormKvReferenceIdeal.Facts) (hInOdd : Cert.InOdd.Facts) (hInOddIdeal : Cert.InOddIdeal.Facts) (hInOddReferenceIdeal : Cert.InOddReferenceIdeal.Facts) (hInEven : Cert.InEven.Facts) (hInEvenIdeal : Cert.InEvenIdeal.Facts) (hInEvenReferenceIdeal : Cert.InEvenReferenceIdeal.Facts) (hLossOut : Cert.LossOut.Facts) (hLossOutIdeal : Cert.LossOutIdeal.Facts) (hLossOutReferenceIdeal : Cert.LossOutReferenceIdeal.Facts) (hPre_pre_logf : Cert.Pre_pre_logf.Facts) (hPre_pre_fox : Cert.Pre_pre_fox.Facts) (hPre_pre_mla : Cert.Pre_pre_mla.Facts) (hPre_pre_gate1 : Cert.Pre_pre_gate1.Facts) (hPre_pre_gate0 : Cert.Pre_pre_gate0.Facts) (hPre_pre_qnorm : Cert.Pre_pre_qnorm.Facts) (hPre_pre_kvnorm : Cert.Pre_pre_kvnorm.Facts) (hPre_pre_in1 : Cert.Pre_pre_in1.Facts) (hPre_pre_in0 : Cert.Pre_pre_in0.Facts) (hPre_pre_loss : Cert.Pre_pre_loss.Facts),
    quiescent_Kernel (hKernel := hKernel)
    ∧ quiescent_KernelIdeal (hKernelIdeal := hKernelIdeal)
    ∧ quiescent_KernelIdeal_pre_pre_logf (hKernelIdeal := hKernelIdeal) (hPre_pre_logf := hPre_pre_logf)
    ∧ quiescent_ReferenceIdeal (hReferenceIdeal := hReferenceIdeal)
    ∧ quiescent_ReferenceIdeal_pre_pre_logf (hReferenceIdeal := hReferenceIdeal) (hPre_pre_logf := hPre_pre_logf)
    ∧ quiescent_Fox (hFox := hFox)
    ∧ quiescent_FoxIdeal (hFoxIdeal := hFoxIdeal)
    ∧ quiescent_FoxIdeal_pre_pre_fox (hFoxIdeal := hFoxIdeal) (hPre_pre_fox := hPre_pre_fox)
    ∧ quiescent_FoxReferenceIdeal (hFoxReferenceIdeal := hFoxReferenceIdeal)
    ∧ quiescent_FoxReferenceIdeal_pre_pre_fox (hFoxReferenceIdeal := hFoxReferenceIdeal) (hPre_pre_fox := hPre_pre_fox)
    ∧ quiescent_Mla (hMla := hMla)
    ∧ quiescent_MlaIdeal (hMlaIdeal := hMlaIdeal)
    ∧ quiescent_MlaIdeal_pre_pre_mla (hMlaIdeal := hMlaIdeal) (hPre_pre_mla := hPre_pre_mla)
    ∧ quiescent_MlaReferenceIdeal (hMlaReferenceIdeal := hMlaReferenceIdeal)
    ∧ quiescent_MlaReferenceIdeal_pre_pre_mla (hMlaReferenceIdeal := hMlaReferenceIdeal) (hPre_pre_mla := hPre_pre_mla)
    ∧ quiescent_GateOdd (hGateOdd := hGateOdd)
    ∧ quiescent_GateOddIdeal (hGateOddIdeal := hGateOddIdeal)
    ∧ quiescent_GateOddIdeal_pre_pre_gate1 (hGateOddIdeal := hGateOddIdeal) (hPre_pre_gate1 := hPre_pre_gate1)
    ∧ quiescent_GateOddReferenceIdeal (hGateOddReferenceIdeal := hGateOddReferenceIdeal)
    ∧ quiescent_GateOddReferenceIdeal_pre_pre_gate1 (hGateOddReferenceIdeal := hGateOddReferenceIdeal) (hPre_pre_gate1 := hPre_pre_gate1)
    ∧ quiescent_GateEven (hGateEven := hGateEven)
    ∧ quiescent_GateEvenIdeal (hGateEvenIdeal := hGateEvenIdeal)
    ∧ quiescent_GateEvenIdeal_pre_pre_gate0 (hGateEvenIdeal := hGateEvenIdeal) (hPre_pre_gate0 := hPre_pre_gate0)
    ∧ quiescent_GateEvenReferenceIdeal (hGateEvenReferenceIdeal := hGateEvenReferenceIdeal)
    ∧ quiescent_GateEvenReferenceIdeal_pre_pre_gate0 (hGateEvenReferenceIdeal := hGateEvenReferenceIdeal) (hPre_pre_gate0 := hPre_pre_gate0)
    ∧ quiescent_Rope (hRope := hRope)
    ∧ quiescent_RopeIdeal (hRopeIdeal := hRopeIdeal)
    ∧ quiescent_RopeReferenceIdeal (hRopeReferenceIdeal := hRopeReferenceIdeal)
    ∧ quiescent_NormQ (hNormQ := hNormQ)
    ∧ quiescent_NormQIdeal (hNormQIdeal := hNormQIdeal)
    ∧ quiescent_NormQIdeal_pre_pre_qnorm (hNormQIdeal := hNormQIdeal) (hPre_pre_qnorm := hPre_pre_qnorm)
    ∧ quiescent_NormQReferenceIdeal (hNormQReferenceIdeal := hNormQReferenceIdeal)
    ∧ quiescent_NormQReferenceIdeal_pre_pre_qnorm (hNormQReferenceIdeal := hNormQReferenceIdeal) (hPre_pre_qnorm := hPre_pre_qnorm)
    ∧ quiescent_NormKv (hNormKv := hNormKv)
    ∧ quiescent_NormKvIdeal (hNormKvIdeal := hNormKvIdeal)
    ∧ quiescent_NormKvIdeal_pre_pre_kvnorm (hNormKvIdeal := hNormKvIdeal) (hPre_pre_kvnorm := hPre_pre_kvnorm)
    ∧ quiescent_NormKvReferenceIdeal (hNormKvReferenceIdeal := hNormKvReferenceIdeal)
    ∧ quiescent_NormKvReferenceIdeal_pre_pre_kvnorm (hNormKvReferenceIdeal := hNormKvReferenceIdeal) (hPre_pre_kvnorm := hPre_pre_kvnorm)
    ∧ quiescent_InOdd (hInOdd := hInOdd)
    ∧ quiescent_InOddIdeal (hInOddIdeal := hInOddIdeal)
    ∧ quiescent_InOddIdeal_pre_pre_in1 (hInOddIdeal := hInOddIdeal) (hPre_pre_in1 := hPre_pre_in1)
    ∧ quiescent_InOddReferenceIdeal (hInOddReferenceIdeal := hInOddReferenceIdeal)
    ∧ quiescent_InOddReferenceIdeal_pre_pre_in1 (hInOddReferenceIdeal := hInOddReferenceIdeal) (hPre_pre_in1 := hPre_pre_in1)
    ∧ quiescent_InEven (hInEven := hInEven)
    ∧ quiescent_InEvenIdeal (hInEvenIdeal := hInEvenIdeal)
    ∧ quiescent_InEvenIdeal_pre_pre_in0 (hInEvenIdeal := hInEvenIdeal) (hPre_pre_in0 := hPre_pre_in0)
    ∧ quiescent_InEvenReferenceIdeal (hInEvenReferenceIdeal := hInEvenReferenceIdeal)
    ∧ quiescent_InEvenReferenceIdeal_pre_pre_in0 (hInEvenReferenceIdeal := hInEvenReferenceIdeal) (hPre_pre_in0 := hPre_pre_in0)
    ∧ quiescent_LossOut (hLossOut := hLossOut)
    ∧ quiescent_LossOutIdeal (hLossOutIdeal := hLossOutIdeal)
    ∧ quiescent_LossOutIdeal_pre_pre_loss (hLossOutIdeal := hLossOutIdeal) (hPre_pre_loss := hPre_pre_loss)
    ∧ quiescent_LossOutReferenceIdeal (hLossOutReferenceIdeal := hLossOutReferenceIdeal)
    ∧ quiescent_LossOutReferenceIdeal_pre_pre_loss (hLossOutReferenceIdeal := hLossOutReferenceIdeal) (hPre_pre_loss := hPre_pre_loss)
    ∧ preserves_Kernel_KernelIdeal
    ∧ algebraic_KernelIdeal_ReferenceIdeal_pre_pre_logf (hKernelIdeal := hKernelIdeal) (hReferenceIdeal := hReferenceIdeal) (hPre_pre_logf := hPre_pre_logf)
    ∧ preserves_Fox_FoxIdeal
    ∧ algebraic_FoxIdeal_FoxReferenceIdeal_pre_pre_fox (hFoxIdeal := hFoxIdeal) (hFoxReferenceIdeal := hFoxReferenceIdeal) (hPre_pre_fox := hPre_pre_fox)
    ∧ preserves_Mla_MlaIdeal
    ∧ algebraic_MlaIdeal_MlaReferenceIdeal_pre_pre_mla (hMlaIdeal := hMlaIdeal) (hMlaReferenceIdeal := hMlaReferenceIdeal) (hPre_pre_mla := hPre_pre_mla)
    ∧ preserves_GateOdd_GateOddIdeal
    ∧ algebraic_GateOddIdeal_GateOddReferenceIdeal_pre_pre_gate1 (hGateOddIdeal := hGateOddIdeal) (hGateOddReferenceIdeal := hGateOddReferenceIdeal) (hPre_pre_gate1 := hPre_pre_gate1)
    ∧ preserves_GateEven_GateEvenIdeal
    ∧ algebraic_GateEvenIdeal_GateEvenReferenceIdeal_pre_pre_gate0 (hGateEvenIdeal := hGateEvenIdeal) (hGateEvenReferenceIdeal := hGateEvenReferenceIdeal) (hPre_pre_gate0 := hPre_pre_gate0)
    ∧ preserves_Rope_RopeIdeal
    ∧ algebraic_RopeIdeal_RopeReferenceIdeal (hRopeIdeal := hRopeIdeal) (hRopeReferenceIdeal := hRopeReferenceIdeal)
    ∧ preserves_NormQ_NormQIdeal
    ∧ algebraic_NormQIdeal_NormQReferenceIdeal_pre_pre_qnorm (hNormQIdeal := hNormQIdeal) (hNormQReferenceIdeal := hNormQReferenceIdeal) (hPre_pre_qnorm := hPre_pre_qnorm)
    ∧ preserves_NormKv_NormKvIdeal
    ∧ algebraic_NormKvIdeal_NormKvReferenceIdeal_pre_pre_kvnorm (hNormKvIdeal := hNormKvIdeal) (hNormKvReferenceIdeal := hNormKvReferenceIdeal) (hPre_pre_kvnorm := hPre_pre_kvnorm)
    ∧ preserves_InOdd_InOddIdeal
    ∧ algebraic_InOddIdeal_InOddReferenceIdeal_pre_pre_in1 (hInOddIdeal := hInOddIdeal) (hInOddReferenceIdeal := hInOddReferenceIdeal) (hPre_pre_in1 := hPre_pre_in1)
    ∧ preserves_InEven_InEvenIdeal
    ∧ algebraic_InEvenIdeal_InEvenReferenceIdeal_pre_pre_in0 (hInEvenIdeal := hInEvenIdeal) (hInEvenReferenceIdeal := hInEvenReferenceIdeal) (hPre_pre_in0 := hPre_pre_in0)
    ∧ preserves_LossOut_LossOutIdeal
    ∧ algebraic_LossOutIdeal_LossOutReferenceIdeal_pre_pre_loss (hLossOutIdeal := hLossOutIdeal) (hLossOutReferenceIdeal := hLossOutReferenceIdeal) (hPre_pre_loss := hPre_pre_loss)
-- ==== Pre_pre_fox.lean ====
abbrev S4096x3072 : Shape := ⟨2, ![4096, 3072]⟩
abbrev S4096x16 : Shape := ⟨2, ![4096, 16]⟩
abbrev S4096x1024 : Shape := ⟨2, ![4096, 1024]⟩
abbrev S_ : Shape := ⟨0, ![]⟩

class Facts : Prop where
  bcast_S_S4096x3072 : S_.BroadcastsInDim S4096x3072 (![] : Fin 0 → Fin S4096x3072.rank)
  reducesTo_S4096x3072_S_d0_1 : S4096x3072.ReducesTo [0, 1] S_
  h_S_ : 0 < S_.numel
  bcast_S_S4096x16 : S_.BroadcastsInDim S4096x16 (![] : Fin 0 → Fin S4096x16.rank)
  reducesTo_S4096x16_S_d0_1 : S4096x16.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn {F : FTy → Type} [FloatOps F] (main_arg0 : FVec F S4096x3072 .f32) (main_arg1 : FVec F S4096x16 .f32) (main_arg2 : FVec F S4096x1024 .f32) : IVec S_ 1 :=
  let main_v0 : FVec F S4096x3072 .f32 := Host.absf main_arg0
  let main_cst : FVec F S_ .f32 := constant S_ .f32 0x7F800000#32
  let main_v1 : FVec F S4096x3072 .f32 := broadcastInDim S4096x3072 ![] bcast_S_S4096x3072 main_cst
  let main_v2 : IVec S4096x3072 1 := cmpf .olt main_v0 main_v1
  let main_c : IVec S_ 1 := constantI S_ 1 1#1
  let main_v3 : IVec S_ 1 := (fun x v => Host.reduce IntOp.andi x v reducesTo_S4096x3072_S_d0_1 h_S_) main_v2 main_c
  let main_v4 : FVec F S4096x16 .f32 := Host.absf main_arg1
  let main_cst_0 : FVec F S_ .f32 := constant S_ .f32 0x7F800000#32
  let main_v5 : FVec F S4096x16 .f32 := broadcastInDim S4096x16 ![] bcast_S_S4096x16 main_cst_0
  let main_v6 : IVec S4096x16 1 := cmpf .olt main_v4 main_v5
  let main_c_1 : IVec S_ 1 := constantI S_ 1 1#1
  let main_v7 : IVec S_ 1 := (fun x v => Host.reduce IntOp.andi x v reducesTo_S4096x16_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  main_v13
-- ==== Pre_pre_gate0.lean ====
abbrev S4096x1024 : Shape := ⟨2, ![4096, 1024]⟩
abbrev S4096x512 : Shape := ⟨2, ![4096, 512]⟩
abbrev S1024x1024 : Shape := ⟨2, ![1024, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  main_v23

def fn {F : FTy → Type} [FloatOps F] (main_arg0 : FVec F S4096x1024 .f32) (main_arg1 : FVec F S4096x512 .f32) (main_arg2 : FVec F S4096x512 .f32) (main_arg3 : FVec F S4096x1024 .f32) (main_arg4 : FVec F S1024x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S4096x512 .f32 := Host.absf main_arg2
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_c_3 : IVec S_ 1 := constantI S_ 1 1#1
  let main_v12 : IVec S_ 1 := (fun x v => Host.reduce IntOp.andi x v reducesTo_S4096x512_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_v13 main_v16
-- ==== Pre_pre_gate1.lean ====
abbrev S4096x1024 : Shape := ⟨2, ![4096, 1024]⟩
abbrev S1024x1024 : Shape := ⟨2, ![1024, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S4096x1024 .f32) (main_arg1 : FVec F S4096x1024 .f32) (main_arg2 : FVec F S4096x1024 .f32) (main_arg3 : FVec F S1024x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Pre_pre_in0.lean ====
abbrev S4096x2208 : Shape := ⟨2, ![4096, 2208]⟩
abbrev S4096x1024 : Shape := ⟨2, ![4096, 1024]⟩
abbrev S1x1024 : Shape := ⟨2, ![1, 1024]⟩
abbrev S1024x2208 : Shape := ⟨2, ![1024, 2208]⟩
abbrev S_ : Shape := ⟨0, ![]⟩

class Facts : Prop where
  bcast_S_S4096x2208 : S_.BroadcastsInDim S4096x2208 (![] : Fin 0 → Fin S4096x2208.rank)
  reducesTo_S4096x2208_S_d0_1 : S4096x2208.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1024x2208 : S_.BroadcastsInDim S1024x2208 (![] : Fin 0 → Fin S1024x2208.rank)
  reducesTo_S1024x2208_S_d0_1 : S1024x2208.ReducesTo [0, 1] S_

variable [Facts]

def fn_part1 {F : FTy → Type} [FloatOps F] (main_v13 : IVec S_ 1) (main_v16 : IVec S1024x2208 1) : IVec S_ 1 :=
  let main_c_5 : IVec S_ 1 := constantI S_ 1 1#1
  let main_v17 : IVec S_ 1 := (fun x v => Host.reduce IntOp.andi x v reducesTo_S1024x2208_S_d0_1 h_S_) main_v16 main_c_5
  let main_v18 : IVec S_ 1 := andi main_v13 main_v17
  main_v18

def fn {F : FTy → Type} [FloatOps F] (main_arg0 : FVec F S4096x2208 .f32) (main_arg1 : FVec F S4096x1024 .f32) (main_arg2 : FVec F S4096x1024 .f32) (main_arg3 : FVec F S1x1024 .f32) (main_arg4 : FVec F S1024x2208 .f32) : IVec S_ 1 :=
  let main_v0 : FVec F S4096x2208 .f32 := Host.absf main_arg0
  let main_cst : FVec F S_ .f32 := constant S_ .f32 0x7F800000#32
  let main_v1 : FVec F S4096x2208 .f32 := broadcastInDim S4096x2208 ![] bcast_S_S4096x2208 main_cst
  let main_v2 : IVec S4096x2208 1 := cmpf .olt main_v0 main_v1
  let main_c : IVec S_ 1 := constantI S_ 1 1#1
  let main_v3 : IVec S_ 1 := (fun x v => Host.reduce IntOp.andi x v reducesTo_S4096x2208_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1024x2208 .f32 := Host.absf main_arg4
  let main_cst_4 : FVec F S_ .f32 := constant S_ .f32 0x7F800000#32
  let main_v15 : FVec F S1024x2208 .f32 := broadcastInDim S1024x2208 ![] bcast_S_S1024x2208 main_cst_4
  let main_v16 : IVec S1024x2208 1 := cmpf .olt main_v14 main_v15
  fn_part1 (F := F) main_v13 main_v16
-- ==== Pre_pre_in1.lean ====
abbrev S4096x4112 : Shape := ⟨2, ![4096, 4112]⟩
abbrev S4096x1024 : Shape := ⟨2, ![4096, 1024]⟩
abbrev S1x1024 : Shape := ⟨2, ![1, 1024]⟩
abbrev S1024x4112 : Shape := ⟨2, ![1024, 4112]⟩
abbrev S_ : Shape := ⟨0, ![]⟩

class Facts : Prop where
  bcast_S_S4096x4112 : S_.BroadcastsInDim S4096x4112 (![] : Fin 0 → Fin S4096x4112.rank)
  reducesTo_S4096x4112_S_d0_1 : S4096x4112.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1024x4112 : S_.BroadcastsInDim S1024x4112 (![] : Fin 0 → Fin S1024x4112.rank)
  reducesTo_S1024x4112_S_d0_1 : S1024x4112.ReducesTo [0, 1] S_

variable [Facts]

def fn_part1 {F : FTy → Type} [FloatOps F] (main_v13 : IVec S_ 1) (main_v16 : IVec S1024x4112 1) : IVec S_ 1 :=
  let main_c_5 : IVec S_ 1 := constantI S_ 1 1#1
  let main_v17 : IVec S_ 1 := (fun x v => Host.reduce IntOp.andi x v reducesTo_S1024x4112_S_d0_1 h_S_) main_v16 main_c_5
  let main_v18 : IVec S_ 1 := andi main_v13 main_v17
  main_v18

def fn {F : FTy → Type} [FloatOps F] (main_arg0 : FVec F S4096x4112 .f32) (main_arg1 : FVec F S4096x1024 .f32) (main_arg2 : FVec F S4096x1024 .f32) (main_arg3 : FVec F S1x1024 .f32) (main_arg4 : FVec F S1024x4112 .f32) : IVec S_ 1 :=
  let main_v0 : FVec F S4096x4112 .f32 := Host.absf main_arg0
  let main_cst : FVec F S_ .f32 := constant S_ .f32 0x7F800000#32
  let main_v1 : FVec F S4096x4112 .f32 := broadcastInDim S4096x4112 ![] bcast_S_S4096x4112 main_cst
  let main_v2 : IVec S4096x4112 1 := cmpf .olt main_v0 main_v1
  let main_c : IVec S_ 1 := constantI S_ 1 1#1
  let main_v3 : IVec S_ 1 := (fun x v => Host.reduce IntOp.andi x v reducesTo_S4096x4112_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1024x4112 .f32 := Host.absf main_arg4
  let main_cst_4 : FVec F S_ .f32 := constant S_ .f32 0x7F800000#32
  let main_v15 : FVec F S1024x4112 .f32 := broadcastInDim S1024x4112 ![] bcast_S_S1024x4112 main_cst_4
  let main_v16 : IVec S1024x4112 1 := cmpf .olt main_v14 main_v15
  fn_part1 (F := F) main_v13 main_v16
-- ==== Pre_pre_kvnorm.lean ====
abbrev S4096x128 : Shape := ⟨2, ![4096, 128]⟩
abbrev S1x128 : Shape := ⟨2, ![1, 128]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S1x128 : S_.BroadcastsInDim S1x128 (![] : Fin 0 → Fin S1x128.rank)
  reducesTo_S1x128_S_d0_1 : S1x128.ReducesTo [0, 1] S_

variable [Facts]

def fn {F : FTy → Type} [FloatOps F] (main_arg0 : FVec F S4096x128 .f32) (main_arg1 : FVec F S1x128 .f32) (main_arg2 : FVec F S4096x128 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S1x128 .f32 := Host.absf main_arg1
  let main_cst_0 : FVec F S_ .f32 := constant S_ .f32 0x7F800000#32
  let main_v5 : FVec F S1x128 .f32 := broadcastInDim S1x128 ![] bcast_S_S1x128 main_cst_0
  let main_v6 : IVec S1x128 1 := cmpf .olt main_v4 main_v5
  let main_c_1 : IVec S_ 1 := constantI S_ 1 1#1
  let main_v7 : IVec S_ 1 := (fun x v => Host.reduce IntOp.andi x v reducesTo_S1x128_S_d0_1 h_S_) main_v6 main_c_1
  let main_v8 : IVec S_ 1 := andi main_v3 main_v7
  let main_v9 : FVec F S4096x128 .f32 := Host.absf main_arg2
  let main_cst_2 : FVec F S_ .f32 := constant S_ .f32 0x7F800000#32
  let main_v10 : FVec F S4096x128 .f32 := broadcastInDim S4096x128 ![] bcast_S_S4096x128 main_cst_2
  let main_v11 : IVec S4096x128 1 := cmpf .olt main_v9 main_v10
  let main_c_3 : IVec S_ 1 := constantI S_ 1 1#1
  let main_v12 : IVec S_ 1 := (fun x v => Host.reduce IntOp.andi x v reducesTo_S4096x128_S_d0_1 h_S_) main_v11 main_c_3
  let main_v13 : IVec S_ 1 := andi main_v8 main_v12
  main_v13
-- ==== Pre_pre_logf.lean ====
abbrev S4096x16 : Shape := ⟨2, ![4096, 16]⟩
abbrev S1x16 : Shape := ⟨2, ![1, 16]⟩
abbrev S_ : Shape := ⟨0, ![]⟩

class Facts : Prop where
  bcast_S_S4096x16 : S_.BroadcastsInDim S4096x16 (![] : Fin 0 → Fin S4096x16.rank)

variable [Facts]

def fn {F : FTy → Type} [FloatOps F] (main_arg0 : FVec F S4096x16 .f32) (main_arg1 : FVec F S1x16 .f32) (main_arg2 : FVec F S4096x16 .f32) : IVec S4096x16 1 :=
  let main_v0 : FVec F S4096x16 .f32 := Host.absf main_arg2
  let main_cst : FVec F S_ .f32 := constant S_ .f32 0x7F800000#32
  let main_v1 : FVec F S4096x16 .f32 := broadcastInDim S4096x16 ![] bcast_S_S4096x16 main_cst
  let main_v2 : IVec S4096x16 1 := cmpf .olt main_v0 main_v1
  main_v2
-- ==== Pre_pre_loss.lean ====
abbrev S4096x1024 : Shape := ⟨2, ![4096, 1024]⟩
abbrev S1x1024 : Shape := ⟨2, ![1, 1024]⟩
abbrev S1024x1024 : Shape := ⟨2, ![1024, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1x1024 .f32) (main_arg5 : FVec F S1024x1024 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  main_v28

def fn {F : FTy → Type} [FloatOps F] (main_arg0 : FVec F S4096x1024 .f32) (main_arg1 : FVec F S4096x1024 .f32) (main_arg2 : FVec F S4096x1024 .f32) (main_arg3 : FVec F S4096x1024 .f32) (main_arg4 : FVec F S1x1024 .f32) (main_arg5 : FVec F S1024x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_arg5 main_v13 main_v16
-- ==== Pre_pre_mla.lean ====
abbrev S4096x8x96 : Shape := ⟨3, ![4096, 8, 96]⟩
abbrev S4096x8x64 : Shape := ⟨3, ![4096, 8, 64]⟩
abbrev S4096x512 : Shape := ⟨2, ![4096, 512]⟩
abbrev S_ : Shape := ⟨0, ![]⟩

class Facts : Prop where
  bcast_S_S4096x8x96 : S_.BroadcastsInDim S4096x8x96 (![] : Fin 0 → Fin S4096x8x96.rank)
  reducesTo_S4096x8x96_S_d0_1_2 : S4096x8x96.ReducesTo [0, 1, 2] S_
  h_S_ : 0 < S_.numel
  bcast_S_S4096x8x64 : S_.BroadcastsInDim S4096x8x64 (![] : Fin 0 → Fin S4096x8x64.rank)
  reducesTo_S4096x8x64_S_d0_1_2 : S4096x8x64.ReducesTo [0, 1, 2] S_
  bcast_S_S4096x512 : S_.BroadcastsInDim S4096x512 (![] : Fin 0 → Fin S4096x512.rank)
  reducesTo_S4096x512_S_d0_1 : S4096x512.ReducesTo [0, 1] S_

variable [Facts]

def fn_part1 {F : FTy → Type} [FloatOps F] (main_v13 : IVec S_ 1) (main_v16 : IVec S4096x512 1) : IVec S_ 1 :=
  let main_c_5 : IVec S_ 1 := constantI S_ 1 1#1
  let main_v17 : IVec S_ 1 := (fun x v => Host.reduce IntOp.andi x v reducesTo_S4096x512_S_d0_1 h_S_) main_v16 main_c_5
  let main_v18 : IVec S_ 1 := andi main_v13 main_v17
  main_v18

def fn {F : FTy → Type} [FloatOps F] (main_arg0 : FVec F S4096x8x96 .f32) (main_arg1 : FVec F S4096x8x96 .f32) (main_arg2 : FVec F S4096x8x64 .f32) (main_arg3 : FVec F S4096x512 .f32) : IVec S_ 1 :=
  let main_v0 : FVec F S4096x8x96 .f32 := Host.absf main_arg0
  let main_cst : FVec F S_ .f32 := constant S_ .f32 0x7F800000#32
  let main_v1 : FVec F S4096x8x96 .f32 := broadcastInDim S4096x8x96 ![] bcast_S_S4096x8x96 main_cst
  let main_v2 : IVec S4096x8x96 1 := cmpf .olt main_v0 main_v1
  let main_c : IVec S_ 1 := constantI S_ 1 1#1
  let main_v3 : IVec S_ 1 := (fun x v => Host.reduce IntOp.andi x v reducesTo_S4096x8x96_S_d0_1_2 h_S_) main_v2 main_c
  let main_v4 : FVec F S4096x8x96 .f32 := Host.absf main_arg1
  let main_cst_0 : FVec F S_ .f32 := constant S_ .f32 0x7F800000#32
  let main_v5 : FVec F S4096x8x96 .f32 := broadcastInDim S4096x8x96 ![] bcast_S_S4096x8x96 main_cst_0
  let main_v6 : IVec S4096x8x96 1 := cmpf .olt main_v4 main_v5
  let main_c_1 : IVec S_ 1 := constantI S_ 1 1#1
  let main_v7 : IVec S_ 1 := (fun x v => Host.reduce IntOp.andi x v reducesTo_S4096x8x96_S_d0_1_2 h_S_) main_v6 main_c_1
  let main_v8 : IVec S_ 1 := andi main_v3 main_v7
  let main_v9 : FVec F S4096x8x64 .f32 := Host.absf main_arg2
  let main_cst_2 : FVec F S_ .f32 := constant S_ .f32 0x7F800000#32
  let main_v10 : FVec F S4096x8x64 .f32 := broadcastInDim S4096x8x64 ![] bcast_S_S4096x8x64 main_cst_2
  let main_v11 : IVec S4096x8x64 1 := cmpf .olt main_v9 main_v10
  let main_c_3 : IVec S_ 1 := constantI S_ 1 1#1
  let main_v12 : IVec S_ 1 := (fun x v => Host.reduce IntOp.andi x v reducesTo_S4096x8x64_S_d0_1_2 h_S_) main_v11 main_c_3
  let main_v13 : IVec S_ 1 := andi main_v8 main_v12
  let main_v14 : FVec F S4096x512 .f32 := Host.absf main_arg3
  let main_cst_4 : FVec F S_ .f32 := constant S_ .f32 0x7F800000#32
  let main_v15 : FVec F S4096x512 .f32 := broadcastInDim S4096x512 ![] bcast_S_S4096x512 main_cst_4
  let main_v16 : IVec S4096x512 1 := cmpf .olt main_v14 main_v15
  fn_part1 (F := F) main_v13 main_v16
-- ==== Pre_pre_qnorm.lean ====
abbrev S4096x256 : Shape := ⟨2, ![4096, 256]⟩
abbrev S1x256 : Shape := ⟨2, ![1, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S1x256 : S_.BroadcastsInDim S1x256 (![] : Fin 0 → Fin S1x256.rank)
  reducesTo_S1x256_S_d0_1 : S1x256.ReducesTo [0, 1] S_

variable [Facts]

def fn {F : FTy → Type} [FloatOps F] (main_arg0 : FVec F S4096x256 .f32) (main_arg1 : FVec F S1x256 .f32) (main_arg2 : FVec F S4096x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S1x256 .f32 := Host.absf main_arg1
  let main_cst_0 : FVec F S_ .f32 := constant S_ .f32 0x7F800000#32
  let main_v5 : FVec F S1x256 .f32 := broadcastInDim S1x256 ![] bcast_S_S1x256 main_cst_0
  let main_v6 : IVec S1x256 1 := cmpf .olt main_v4 main_v5
  let main_c_1 : IVec S_ 1 := constantI S_ 1 1#1
  let main_v7 : IVec S_ 1 := (fun x v => Host.reduce IntOp.andi x v reducesTo_S1x256_S_d0_1 h_S_) main_v6 main_c_1
  let main_v8 : IVec S_ 1 := andi main_v3 main_v7
  let main_v9 : FVec F S4096x256 .f32 := Host.absf main_arg2
  let main_cst_2 : FVec F S_ .f32 := constant S_ .f32 0x7F800000#32
  let main_v10 : FVec F S4096x256 .f32 := broadcastInDim S4096x256 ![] bcast_S_S4096x256 main_cst_2
  let main_v11 : IVec S4096x256 1 := cmpf .olt main_v9 main_v10
  let main_c_3 : IVec S_ 1 := constantI S_ 1 1#1
  let main_v12 : IVec S_ 1 := (fun x v => Host.reduce IntOp.andi x v reducesTo_S4096x256_S_d0_1 h_S_) main_v11 main_c_3
  let main_v13 : IVec S_ 1 := andi main_v8 main_v12
  main_v13
-- ==== Kernel.lean ====
abbrev S4096x16 : Shape := ⟨2, ![4096, 16]⟩
abbrev S1x16 : Shape := ⟨2, ![1, 16]⟩
abbrev S_ : Shape := ⟨0, ![]⟩
abbrev S4096x128 : Shape := ⟨2, ![4096, 128]⟩
abbrev S1x128 : Shape := ⟨2, ![1, 128]⟩
abbrev S256x128 : Shape := ⟨2, ![256, 128]⟩
abbrev S256x256 : Shape := ⟨2, ![256, 256]⟩
abbrev S128 : Shape := ⟨1, ![128]⟩

abbrev nBuf : Space → Nat
  | .hbm => 14
  | .vmem => 9
  | .smem => 0
  | _ => 0

abbrev bufTy : (tb : Table) → Fin (tcTables nBuf tb) → BufTy
  | .hbm, ⟨0, _⟩ => ⟨S4096x16, .f32⟩
  | .hbm, ⟨1, _⟩ => ⟨S1x16, .f32⟩
  | .hbm, ⟨2, _⟩ => ⟨S4096x16, .f32⟩
  | .hbm, ⟨3, _⟩ => ⟨S_, .i32⟩
  | .hbm, ⟨4, _⟩ => ⟨S_, .f32⟩
  | .hbm, ⟨5, _⟩ => ⟨S4096x128, .f32⟩
  | .hbm, ⟨6, _⟩ => ⟨S_, .i32⟩
  | .hbm, ⟨7, _⟩ => ⟨S_, .f32⟩
  | .hbm, ⟨8, _⟩ => ⟨S1x128, .f32⟩
  | .hbm, ⟨9, _⟩ => ⟨S_, .i32⟩
  | .hbm, ⟨10, _⟩ => ⟨S_, .f32⟩
  | .hbm, ⟨11, _⟩ => ⟨S4096x128, .f32⟩
  | .hbm, ⟨12, _⟩ => ⟨S4096x128, .bf16⟩
  | .hbm, ⟨13, _⟩ => ⟨S1x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S1x128, .f32⟩
  | .local _ .vmem, ⟨5, _⟩ => ⟨S256x128, .bf16⟩
  | .local _ .vmem, ⟨6, _⟩ => ⟨S256x128, .bf16⟩
  | .local _ .vmem, ⟨7, _⟩ => ⟨S1x128, .f32⟩
  | .local _ .vmem, ⟨8, _⟩ => ⟨S1x128, .f32⟩
  | _, _ => ⟨S4096x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_c_0 : Ref sig .tc := ⟨.hbm, 6, rfl⟩
abbrev main_call1_v0 : Ref sig .tc := ⟨.hbm, 7, rfl⟩
abbrev main_v1 : Ref sig .tc := ⟨.hbm, 8, rfl⟩
abbrev main_c_1 : Ref sig .tc := ⟨.hbm, 9, rfl⟩
abbrev main_call2_v0 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S4096x16 : Shape := ⟨2, ![4096, 16]⟩
abbrev S1x16 : Shape := ⟨2, ![1, 16]⟩
abbrev S_ : Shape := ⟨0, ![]⟩
abbrev S16 : Shape := ⟨1, ![16]⟩
abbrev S4096x128 : Shape := ⟨2, ![4096, 128]⟩
abbrev S1x128 : Shape := ⟨2, ![1, 128]⟩

abbrev nBuf : Space → Nat
  | .hbm => 72
  | .vmem => 0
  | .smem => 0
  | _ => 0

abbrev bufTy : (tb : Table) → Fin (tcTables nBuf tb) → BufTy
  | .hbm, ⟨0, _⟩ => ⟨S4096x16, .f32⟩
  | .hbm, ⟨1, _⟩ => ⟨S1x16, .f32⟩
  | .hbm, ⟨2, _⟩ => ⟨S4096x16, .f32⟩
  | .hbm, ⟨3, _⟩ => ⟨S4096x16, .f32⟩
  | .hbm, ⟨4, _⟩ => ⟨S4096x16, .f32⟩
  | .hbm, ⟨5, _⟩ => ⟨S4096x16, .f32⟩
  | .hbm, ⟨6, _⟩ => ⟨S_, .f32⟩
  | .hbm, ⟨7, _⟩ => ⟨S4096x16, .f32⟩
  | .hbm, ⟨8, _⟩ => ⟨S4096x16, .f32⟩
  | .hbm, ⟨9, _⟩ => ⟨S4096x16, .f32⟩
  | .hbm, ⟨10, _⟩ => ⟨S4096x16, .f32⟩
  | .hbm, ⟨11, _⟩ => ⟨S4096x16, .i1⟩
  | .hbm, ⟨12, _⟩ => ⟨S4096x16, .f32⟩
  | .hbm, ⟨13, _⟩ => ⟨S4096x16, .f32⟩
  | .hbm, ⟨14, _⟩ => ⟨S4096x16, .f32⟩
  | .hbm, ⟨15, _⟩ => ⟨S4096x16, .f32⟩
  | .hbm, ⟨16, _⟩ => ⟨S4096x16, .f32⟩
  | .hbm, ⟨17, _⟩ => ⟨S4096x16, .f32⟩
  | .hbm, ⟨18, _⟩ => ⟨S4096x16, .f32⟩
  | .hbm, ⟨19, _⟩ => ⟨S4096x16, .f32⟩
  | .hbm, ⟨20, _⟩ => ⟨S_, .f32⟩
  | .hbm, ⟨21, _⟩ => ⟨S4096x16, .f32⟩
  | .hbm, ⟨22, _⟩ => ⟨S4096x16, .i1⟩
  | .hbm, ⟨23, _⟩ => ⟨S_, .f32⟩
  | .hbm, ⟨24, _⟩ => ⟨S4096x16, .f32⟩
  | .hbm, ⟨25, _⟩ => ⟨S4096x16, .f32⟩
  | .hbm, ⟨26, _⟩ => ⟨S_, .f32⟩
  | .hbm, ⟨27, _⟩ => ⟨S4096x16, .f32⟩
  | .hbm, ⟨28, _⟩ => ⟨S4096x16, .i1⟩
  | .hbm, ⟨29, _⟩ => ⟨S_, .f32⟩
  | .hbm, ⟨30, _⟩ => ⟨S4096x16, .f32⟩
  | .hbm, ⟨31, _⟩ => ⟨S4096x16, .f32⟩
  | .hbm, ⟨32, _⟩ => ⟨S4096x16, .f32⟩
  | .hbm, ⟨33, _⟩ => ⟨S4096x16, .f32⟩
  | .hbm, ⟨34, _⟩ => ⟨S_, .f32⟩
  | .hbm, ⟨35, _⟩ => ⟨S_, .f32⟩
  | .hbm, ⟨36, _⟩ => ⟨S_, .i1⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S4096x16, .f32⟩
  | .hbm, ⟨42, _⟩ => ⟨S4096x16, .i1⟩
  | .hbm, ⟨43, _⟩ => ⟨S_, .f32⟩
  | .hbm, ⟨44, _⟩ => ⟨S4096x16, .f32⟩
  | .hbm, ⟨45, _⟩ => ⟨S4096x16, .f32⟩
  | .hbm, ⟨46, _⟩ => ⟨S4096x16, .f32⟩
  | .hbm, ⟨47, _⟩ => ⟨S4096x16, .f32⟩
  | .hbm, ⟨48, _⟩ => ⟨S4096x16, .f32⟩
  | .hbm, ⟨49, _⟩ => ⟨S_, .f32⟩
  | .hbm, ⟨50, _⟩ => ⟨S4096x16, .f32⟩
  | .hbm, ⟨51, _⟩ => ⟨S4096x16, .f32⟩
  | .hbm, ⟨52, _⟩ => ⟨S4096x16, .f32⟩
  | .hbm, ⟨53, _⟩ => ⟨S_, .f32⟩
  | .hbm, ⟨54, _⟩ => ⟨S_, .f32⟩
  | .hbm, ⟨55, _⟩ => ⟨S4096x16, .f32⟩
  | .hbm, ⟨56, _⟩ => ⟨S_, .f32⟩
  | .hbm, ⟨57, _⟩ => ⟨S_, .f32⟩
  | .hbm, ⟨58, _⟩ => ⟨S4096x16, .f32⟩
  | .hbm, ⟨59, _⟩ => ⟨S4096x16, .f32⟩
  | .hbm, ⟨60, _⟩ => ⟨S4096x16, .f32⟩
  | .hbm, ⟨61, _⟩ => ⟨S4096x16, .f32⟩
  | .hbm, ⟨62, _⟩ => ⟨S_, .f32⟩
  | .hbm, ⟨63, _⟩ => ⟨S16, .f32⟩
  | .hbm, ⟨64, _⟩ => ⟨S1x16, .f32⟩
  | .hbm, ⟨65, _⟩ => ⟨S_, .i32⟩
  | .hbm, ⟨66, _⟩ => ⟨S_, .f32⟩
  | .hbm, ⟨67, _⟩ => ⟨S4096x128, .f32⟩
  | .hbm, ⟨68, _⟩ => ⟨S4096x128, .bf16⟩
  | .hbm, ⟨69, _⟩ => ⟨S_, .i32⟩
  | .hbm, ⟨70, _⟩ => ⟨S_, .f32⟩
  | .hbm, ⟨71, _⟩ => ⟨S1x128, .f32⟩
  | _, _ => ⟨S4096x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_call0_cst : Ref sig .tc := ⟨.hbm, 6, rfl⟩
abbrev main_call0_call0_v0 : Ref sig .tc := ⟨.hbm, 7, rfl⟩
abbrev main_call0_call0_v1 : Ref sig .tc := ⟨.hbm, 8, rfl⟩
abbrev main_call0_call0_v2 : Ref sig .tc := ⟨.hbm, 9, rfl⟩
abbrev main_call0_call0_v3 : Ref sig .tc := ⟨.hbm, 10, rfl⟩
abbrev main_call0_call0_v4 : Ref sig .tc := ⟨.hbm, 11, rfl⟩
abbrev main_call0_call0_v5 : Ref sig .tc := ⟨.hbm, 12, rfl⟩
abbrev main_call0_call0_v6 : Ref sig .tc := ⟨.hbm, 13, rfl⟩
abbrev main_call0_call0_v7 : Ref sig .tc := ⟨.hbm, 14, rfl⟩
abbrev main_call0_call0_v8 : Ref sig .tc := ⟨.hbm, 15, rfl⟩
abbrev main_call0_call0_v9 : Ref sig .tc := ⟨.hbm, 16, rfl⟩
abbrev main_call0_call0_v10 : Ref sig .tc := ⟨.hbm, 17, rfl⟩
abbrev main_call0_call0_v11 : Ref sig .tc := ⟨.hbm, 18, rfl⟩
abbrev main_call0_v1_0 : Ref sig .tc := ⟨.hbm, 19, rfl⟩
abbrev main_call0_call0_cst_0 : Ref sig .tc := ⟨.hbm, 20, rfl⟩
abbrev main_call0_call0_v13 : Ref sig .tc := ⟨.hbm, 21, rfl⟩
abbrev main_call0_call0_v14 : Ref sig .tc := ⟨.hbm, 22, rfl⟩
abbrev main_call0_call0_cst_1 : Ref sig .tc := ⟨.hbm, 23, rfl⟩
abbrev main_call0_call0_v15 : Ref sig .tc := ⟨.hbm, 24, rfl⟩
abbrev main_call0_call0_v16 : Ref sig .tc := ⟨.hbm, 25, rfl⟩
abbrev main_call0_call0_cst_2 : Ref sig .tc := ⟨.hbm, 26, rfl⟩
abbrev main_call0_call0_v17 : Ref sig .tc := ⟨.hbm, 27, rfl⟩
abbrev main_call0_call0_v18 : Ref sig .tc := ⟨.hbm, 28, rfl⟩
abbrev main_call0_call0_cst_3 : Ref sig .tc := ⟨.hbm, 29, rfl⟩
abbrev main_call0_call0_v19 : Ref sig .tc := ⟨.hbm, 30, rfl⟩
abbrev main_call0_call0_v20 : Ref sig .tc := ⟨.hbm, 31, rfl⟩
abbrev main_call0_call0_v21 : Ref sig .tc := ⟨.hbm, 32, rfl⟩
abbrev main_v2_1 : Ref sig .tc := ⟨.hbm, 33, rfl⟩
abbrev main_call0_call0_cst_4 : Ref sig .tc := ⟨.hbm, 34, rfl⟩
abbrev main_call0_call0_cst_5 : Ref sig .tc := ⟨.hbm, 35, rfl⟩
abbrev main_call0_call0_v23 : Ref sig .tc := ⟨.hbm, 36, rfl⟩
abbrev main_call0_call0_cst_6 : Ref sig .tc := ⟨.hbm, 37, rfl⟩
abbrev main_call0_call0_cst_7 : Ref sig .tc := ⟨.hbm, 38, rfl⟩
abbrev main_call0_call0_v24 : Ref sig .tc := ⟨.hbm, 39, rfl⟩
abbrev main_call0_call0_cst_8 : Ref sig .tc := ⟨.hbm, 40, rfl⟩
abbrev main_call0_call0_v25 : Ref sig .tc := ⟨.hbm, 41, rfl⟩
abbrev main_call0_call0_v26 : Ref sig .tc := ⟨.hbm, 42, rfl⟩
abbrev main_call0_call0_cst_9 : Ref sig .tc := ⟨.hbm, 43, rfl⟩
abbrev main_call0_call0_v27 : Ref sig .tc := ⟨.hbm, 44, rfl⟩
abbrev main_call0_call0_v28 : Ref sig .tc := ⟨.hbm, 45, rfl⟩
abbrev main_call0_call0_v29 : Ref sig .tc := ⟨.hbm, 46, rfl⟩
abbrev main_call0_call0_v30 : Ref sig .tc := ⟨.hbm, 47, rfl⟩
abbrev main_call0_call0_v31 : Ref sig .tc := ⟨.hbm, 48, rfl⟩
abbrev main_call0_call0_cst_10 : Ref sig .tc := ⟨.hbm, 49, rfl⟩
abbrev main_call0_call0_v32 : Ref sig .tc := ⟨.hbm, 50, rfl⟩
abbrev main_v2_2 : Ref sig .tc := ⟨.hbm, 51, rfl⟩
abbrev main_v2_0 : Ref sig .tc := ⟨.hbm, 52, rfl⟩
abbrev main_call1_call0_cst : Ref sig .tc := ⟨.hbm, 53, rfl⟩
abbrev main_call1_call0_v0 : Ref sig .tc := ⟨.hbm, 54, rfl⟩
abbrev main_v3 : Ref sig .tc := ⟨.hbm, 55, rfl⟩
abbrev main_call2_call0_cst : Ref sig .tc := ⟨.hbm, 56, rfl⟩
abbrev main_call2_call0_v0 : Ref sig .tc := ⟨.hbm, 57, rfl⟩
abbrev main_v4 : Ref sig .tc := ⟨.hbm, 58, rfl⟩
abbrev main_call3_v0 : Ref sig .tc := ⟨.hbm, 59, rfl⟩
abbrev main_call3_v1 : Ref sig .tc := ⟨.hbm, 60, rfl⟩
abbrev main_v5 : Ref sig .tc := ⟨.hbm, 61, rfl⟩
abbrev main_cst : Ref sig .tc := ⟨.hbm, 62, rfl⟩
abbrev main_v6 : Ref sig .tc := ⟨.hbm, 63, rfl⟩
abbrev main_v7 : Ref sig .tc := ⟨.hbm, 64, rfl⟩
abbrev main_c : Ref sig .tc := ⟨.hbm, 65, rfl⟩
abbrev main_call4_v0 : Ref sig .tc := ⟨.hbm, 66, rfl⟩
abbrev main_v8 : Ref sig .tc := ⟨.hbm, 67, rfl⟩
abbrev main_v9 : Ref sig .tc := ⟨.hbm, 68, rfl⟩
abbrev main_c_0 : Ref sig .tc := ⟨.hbm, 69, rfl⟩
abbrev main_call5_v0 : Ref sig .tc := ⟨.hbm, 70, rfl⟩
abbrev main_v10 : Ref sig .tc := ⟨.hbm, 71, rfl⟩

abbrev nD : Nat := 1
abbrev τ : Topo := Topo.v7x

variable {F : FTy → Type} [FloatOps F]
-- ==== Fox.lean ====
abbrev S4096x3072 : Shape := ⟨2, ![4096, 3072]⟩
abbrev S4096x16 : Shape := ⟨2, ![4096, 16]⟩
abbrev S4096x1024 : Shape := ⟨2, ![4096, 1024]⟩
abbrev S4096x16x64 : Shape := ⟨3, ![4096, 16, 64]⟩
abbrev S16x4096x4096 : Shape := ⟨3, ![16, 4096, 4096]⟩
abbrev S_ : Shape := ⟨0, ![]⟩
abbrev S16x4096 : Shape := ⟨2, ![16, 4096]⟩
abbrev S16x4096x1 : Shape := ⟨3, ![16, 4096, 1]⟩
abbrev S16x1x4096 : Shape := ⟨3, ![16, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x64x4096 : Shape := ⟨3, ![16, 64, 4096]⟩
abbrev S8x2x4096x1 : Shape := ⟨4, ![8, 2, 4096, 1]⟩
abbrev S8x2x8x1x512 : Shape := ⟨5, ![8, 2, 8, 1, 512]⟩
abbrev S3x4096x1024 : Shape := ⟨3, ![3, 4096, 1024]⟩
abbrev S4096x128 : Shape := ⟨2, ![4096, 128]⟩
abbrev S1x2x4096x1 : Shape := ⟨4, ![1, 2, 4096, 1]⟩
abbrev S1x2x8x1x512 : Shape := ⟨5, ![1, 2, 8, 1, 512]⟩
abbrev S3x4096x128 : Shape := ⟨3, ![3, 4096, 128]⟩
abbrev S8x128x512 : Shape := ⟨3, ![8, 128, 512]⟩
abbrev S512x512 : Shape := ⟨2, ![512, 512]⟩
abbrev S1024x512 : Shape := ⟨2, ![1024, 512]⟩
abbrev S512x128 : Shape := ⟨2, ![512, 128]⟩
abbrev S1024x128 : Shape := ⟨2, ![1024, 128]⟩
abbrev S1024 : Shape := ⟨1, ![1024]⟩
abbrev S1024x1 : Shape := ⟨2, ![1024, 1]⟩
abbrev S1x1x512x1 : Shape := ⟨4, ![1, 1, 512, 1]⟩
abbrev S512x1 : Shape := ⟨2, ![512, 1]⟩
abbrev S128x1024 : Shape := ⟨2, ![128, 1024]⟩
abbrev S1x1x1x1x512 : Shape := ⟨5, ![1, 1, 1, 1, 512]⟩
abbrev S1x512 : Shape := ⟨2, ![1, 512]⟩
abbrev S1x128x512 : Shape := ⟨3, ![1, 128, 512]⟩
abbrev S128x512 : Shape := ⟨2, ![128, 512]⟩
abbrev S512 : Shape := ⟨1, ![512]⟩
abbrev S1x4096x128 : Shape := ⟨3, ![1, 4096, 128]⟩
abbrev S1x512x128 : Shape := ⟨3, ![1, 512, 128]⟩
abbrev S1x1024 : Shape := ⟨2, ![1, 1024]⟩

abbrev nBuf : Space → Nat
  | .hbm => 100
  | .vmem => 15
  | .smem => 0
  | _ => 0

abbrev bufTy : (tb : Table) → Fin (tcTables nBuf tb) → BufTy
  | .hbm, ⟨0, _⟩ => ⟨S4096x3072, .f32⟩
  | .hbm, ⟨1, _⟩ => ⟨S4096x16, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x16x64, .f32⟩
  | .hbm, ⟨7, _⟩ => ⟨S4096x16x64, .f32⟩
  | .hbm, ⟨8, _⟩ => ⟨S4096x16x64, .f32⟩
  | .hbm, ⟨9, _⟩ => ⟨S16x4096x4096, .f32⟩
  | .hbm, ⟨10, _⟩ => ⟨S_, .f32⟩
  | .hbm, ⟨11, _⟩ => ⟨S16x4096x4096, .f32⟩
  | .hbm, ⟨12, _⟩ => ⟨S16x4096x4096, .f32⟩
  | .hbm, ⟨13, _⟩ => ⟨S16x4096, .f32⟩
  | .hbm, ⟨14, _⟩ => ⟨S16x4096x1, .f32⟩
  | .hbm, ⟨15, _⟩ => ⟨S16x4096x4096, .f32⟩
  | .hbm, ⟨16, _⟩ => ⟨S16x4096x4096, .f32⟩
  | .hbm, ⟨17, _⟩ => ⟨S16x1x4096, .f32⟩
  | .hbm, ⟨18, _⟩ => ⟨S16x4096x4096, .f32⟩
  | .hbm, ⟨19, _⟩ => ⟨S16x4096x4096, .f32⟩
  | .hbm, ⟨20, _⟩ => ⟨S4096, .i32⟩
  | .hbm, ⟨21, _⟩ => ⟨S1x4096, .i32⟩
  | .hbm, ⟨22, _⟩ => ⟨S4096x1, .i32⟩
  | .hbm, ⟨23, _⟩ => ⟨S4096x4096, .i32⟩
  | .hbm, ⟨24, _⟩ => ⟨S4096x4096, .i32⟩
  | .hbm, ⟨25, _⟩ => ⟨S4096x4096, .i1⟩
  | .hbm, ⟨26, _⟩ => ⟨S_, .f32⟩
  | .hbm, ⟨27, _⟩ => ⟨S_, .f32⟩
  | .hbm, ⟨28, _⟩ => ⟨S16x4096x4096, .i1⟩
  | .hbm, ⟨29, _⟩ => ⟨S16x4096x4096, .f32⟩
  | .hbm, ⟨30, _⟩ => ⟨S16x4096x4096, .f32⟩
  | .hbm, ⟨31, _⟩ => ⟨S_, .f32⟩
  | .hbm, ⟨32, _⟩ => ⟨S16x4096, .f32⟩
  | .hbm, ⟨33, _⟩ => ⟨S_, .f32⟩
  | .hbm, ⟨34, _⟩ => ⟨S16x4096, .f32⟩
  | .hbm, ⟨35, _⟩ => ⟨S16x4096, .f32⟩
  | .hbm, ⟨36, _⟩ => ⟨S16x4096x1, .f32⟩
  | .hbm, ⟨37, _⟩ => ⟨S16x4096x4096, .f32⟩
  | .hbm, ⟨38, _⟩ => ⟨S16x4096x4096, .f32⟩
  | .hbm, ⟨39, _⟩ => ⟨S16x4096x4096, .f32⟩
  | .hbm, ⟨40, _⟩ => ⟨S_, .f32⟩
  | .hbm, ⟨41, _⟩ => ⟨S16x4096, .f32⟩
  | .hbm, ⟨42, _⟩ => ⟨S16x4096x1, .f32⟩
  | .hbm, ⟨43, _⟩ => ⟨S16x4096x4096, .f32⟩
  | .hbm, ⟨44, _⟩ => ⟨S16x4096x4096, .f32⟩
  | .hbm, ⟨45, _⟩ => ⟨S16x64x4096, .f32⟩
  | .hbm, ⟨46, _⟩ => ⟨S4096x16x64, .f32⟩
  | .hbm, ⟨47, _⟩ => ⟨S4096x1024, .f32⟩
  | .hbm, ⟨48, _⟩ => ⟨S16x4096x4096, .f32⟩
  | .hbm, ⟨49, _⟩ => ⟨S_, .f32⟩
  | .hbm, ⟨50, _⟩ => ⟨S16x4096x4096, .f32⟩
  | .hbm, ⟨51, _⟩ => ⟨S16x4096x4096, .f32⟩
  | .hbm, ⟨52, _⟩ => ⟨S16x4096, .f32⟩
  | .hbm, ⟨53, _⟩ => ⟨S16x4096x1, .f32⟩
  | .hbm, ⟨54, _⟩ => ⟨S16x4096x4096, .f32⟩
  | .hbm, ⟨55, _⟩ => ⟨S16x4096x4096, .f32⟩
  | .hbm, ⟨56, _⟩ => ⟨S16x1x4096, .f32⟩
  | .hbm, ⟨57, _⟩ => ⟨S16x4096x4096, .f32⟩
  | .hbm, ⟨58, _⟩ => ⟨S16x4096x4096, .f32⟩
  | .hbm, ⟨59, _⟩ => ⟨S4096, .i32⟩
  | .hbm, ⟨60, _⟩ => ⟨S1x4096, .i32⟩
  | .hbm, ⟨61, _⟩ => ⟨S4096x1, .i32⟩
  | .hbm, ⟨62, _⟩ => ⟨S4096x4096, .i32⟩
  | .hbm, ⟨63, _⟩ => ⟨S4096x4096, .i32⟩
  | .hbm, ⟨64, _⟩ => ⟨S4096x4096, .i1⟩
  | .hbm, ⟨65, _⟩ => ⟨S_, .f32⟩
  | .hbm, ⟨66, _⟩ => ⟨S_, .f32⟩
  | .hbm, ⟨67, _⟩ => ⟨S16x4096x4096, .i1⟩
  | .hbm, ⟨68, _⟩ => ⟨S16x4096x4096, .f32⟩
  | .hbm, ⟨69, _⟩ => ⟨S16x4096x4096, .f32⟩
  | .hbm, ⟨70, _⟩ => ⟨S_, .f32⟩
  | .hbm, ⟨71, _⟩ => ⟨S16x4096, .f32⟩
  | .hbm, ⟨72, _⟩ => ⟨S16x4096x1, .f32⟩
  | .hbm, ⟨73, _⟩ => ⟨S16x4096x4096, .f32⟩
  | .hbm, ⟨74, _⟩ => ⟨S16x4096x4096, .f32⟩
  | .hbm, ⟨75, _⟩ => ⟨S16x4096x4096, .f32⟩
  | .hbm, ⟨76, _⟩ => ⟨S_, .f32⟩
  | .hbm, ⟨77, _⟩ => ⟨S16x4096, .f32⟩
  | .hbm, ⟨78, _⟩ => ⟨S16x4096, .f32⟩
  | .hbm, ⟨79, _⟩ => ⟨S16x4096, .f32⟩
  | .hbm, ⟨80, _⟩ => ⟨S_, .f32⟩
  | .hbm, ⟨81, _⟩ => ⟨S_, .f32⟩
  | .hbm, ⟨82, _⟩ => ⟨S16x4096, .f32⟩
  | .hbm, ⟨83, _⟩ => ⟨S16x4096, .f32⟩
  | .hbm, ⟨84, _⟩ => ⟨S16x4096, .f32⟩
  | .hbm, ⟨85, _⟩ => ⟨S16x4096, .f32⟩
  | .hbm, ⟨86, _⟩ => ⟨S8x2x4096x1, .f32⟩
  | .hbm, ⟨87, _⟩ => ⟨S4096x3072, .bf16⟩
  | .hbm, ⟨88, _⟩ => ⟨S4096x16, .f32⟩
  | .hbm, ⟨89, _⟩ => ⟨S4096x16, .f32⟩
  | .hbm, ⟨90, _⟩ => ⟨S4096x16, .f32⟩
  | .hbm, ⟨91, _⟩ => ⟨S16x4096, .f32⟩
  | .hbm, ⟨92, _⟩ => ⟨S8x2x8x1x512, .f32⟩
  | .hbm, ⟨93, _⟩ => ⟨S3x4096x1024, .bf16⟩
  | .hbm, ⟨94, _⟩ => ⟨S8x2x8x1x512, .f32⟩
  | .hbm, ⟨95, _⟩ => ⟨S8x2x8x1x512, .f32⟩
  | .hbm, ⟨96, _⟩ => ⟨S16x4096, .f32⟩
  | .hbm, ⟨97, _⟩ => ⟨S16x4096, .f32⟩
  | .hbm, ⟨98, _⟩ => ⟨S16x4096, .f32⟩
  | .hbm, ⟨99, _⟩ => ⟨S4096x16, .f32⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .f32⟩
  | .local _ .vmem, ⟨4, _⟩ => ⟨S4096x128, .f32⟩
  | .local _ .vmem, ⟨5, _⟩ => ⟨S1x2x4096x1, .f32⟩
  | .local _ .vmem, ⟨6, _⟩ => ⟨S1x2x8x1x512, .f32⟩
  | .local _ .vmem, ⟨7, _⟩ => ⟨S3x4096x128, .bf16⟩
  | .local _ .vmem, ⟨8, _⟩ => ⟨S3x4096x128, .bf16⟩
  | .local _ .vmem, ⟨9, _⟩ => ⟨S1x2x8x1x512, .f32⟩
  | .local _ .vmem, ⟨10, _⟩ => ⟨S1x2x8x1x512, .f32⟩
  | .local _ .vmem, ⟨11, _⟩ => ⟨S1x2x8x1x512, .f32⟩
  | .local _ .vmem, ⟨12, _⟩ => ⟨S1x2x8x1x512, .f32⟩
  | .local _ .vmem, ⟨13, _⟩ => ⟨S8x128x512, .f32⟩
  | .local _ .vmem, ⟨14, _⟩ => ⟨S8x128x512, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst_0 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v22 : Ref sig .tc := ⟨.hbm, 30, rfl⟩
abbrev main_cst_1 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_4 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_cst_5 : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_v53 : Ref sig .tc := ⟨.hbm, 69, rfl⟩
abbrev main_cst_6 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_7 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_8 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74_0 : Ref sig .tc := ⟨.hbm, 93, rfl⟩
abbrev main_v74_1 : Ref sig .tc := ⟨.hbm, 94, rfl⟩
abbrev main_v74_2 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg7_1 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem7_1 : DmaSem sig := 8
abbrev cc0_sem8_0 : DmaSem sig := 9
abbrev cc0_sem8_1 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_12 : BitVec 32 := 0#32
  let c8_i32 : BitVec 32 := 8#32
  let v17 : BitVec 32 := Scalar.addi c0_i32_12 c8_i32
  let c1_i32 : BitVec 32 := 1#32
  ⟨c0_i32_12, v17, c1_i32⟩
def k0_mult1 (k0_t1 : Fin k0_t1_loop.trips) : BitVec 32 :=
  let c0_i32_12 : BitVec 32 := 0#32
  let c1_i32 : BitVec 32 := 1#32
  let arg13 : BitVec 32 := Scf.iv c0_i32_12 c1_i32 k0_t1
  let c512_i32 : BitVec 32 := 512#32
  let v19 : BitVec 32 := Scalar.muli arg13 c512_i32
  v19
def k0_off1 (k0_t1 : Fin k0_t1_loop.trips) : Fin 2 → Nat :=
  let c0_i32_12 : BitVec 32 := 0#32
  let c1_i32 : BitVec 32 := 1#32
  let arg13 : BitVec 32 := Scf.iv c0_i32_12 c1_i32 k0_t1
  let c512_i32 : BitVec 32 := 512#32
  let v19 : BitVec 32 := Scalar.muli arg13 c512_i32
  let v20 : BitVec 32 := v19
  let v21 : Index := Scalar.indexCast v20
  let c0_19 : Index := 0#32
  ![v21.toNat, 0]
def k0_off2 (k0_t1 : Fin k0_t1_loop.trips) : Fin 4 → Nat :=
  let c0_29 : Index := 0#32
  let c0_30 : Index := 0#32
  let c0_i32_12 : BitVec 32 := 0#32
  let c1_i32 : BitVec 32 := 1#32
  let arg13 : BitVec 32 := Scf.iv c0_i32_12 c1_i32 k0_t1
  let c512_i32 : BitVec 32 := 512#32
  let v19 : BitVec 32 := Scalar.muli arg13 c512_i32
  let v20 : BitVec 32 := v19
  let v51 : Index := Scalar.indexCast v20
  let c0_31 : Index := 0#32
  ![0, 0, v51.toNat, 0]
def k0_off3 (k0_t1 : Fin k0_t1_loop.trips) : Fin 4 → Nat :=
  let c0_32 : Index := 0#32
  let c1 : Index := 1#32
  let c0_i32_12 : BitVec 32 := 0#32
  let c1_i32 : BitVec 32 := 1#32
  let arg13 : BitVec 32 := Scf.iv c0_i32_12 c1_i32 k0_t1
  let c512_i32 : BitVec 32 := 512#32
  let v19 : BitVec 32 := Scalar.muli arg13 c512_i32
  let v20 : BitVec 32 := v19
  let v54 : Index := Scalar.indexCast v20
  let c0_33 : Index := 0#32
  ![0, 1, v54.toNat, 0]
@[reducible] def k0_t2_loop (k0_t1 : Fin k0_t1_loop.trips) : Scf.Loop 32 :=
  let c0_i32_36 : BitVec 32 := 0#32
  let c0_i32_12 : BitVec 32 := 0#32
  let c1_i32 : BitVec 32 := 1#32
  let arg13 : BitVec 32 := Scf.iv c0_i32_12 c1_i32 k0_t1
  let v66 : BitVec 32 := Scalar.subi arg13 c0_i32_36
  let c1_i32_37 : BitVec 32 := 1#32
  let v68 : BitVec 32 := Scalar.divsi v66 c1_i32_37
  let v69 : BitVec 32 := Scalar.muli v68 c1_i32_37
  let v70 : BitVec 32 := Scalar.addi c0_i32_36 v69
  let c1_i32_38 : BitVec 32 := 1#32
  ⟨c0_i32_36, v70, c1_i32_38⟩
def k0_mult2 (k0_t1 : Fin k0_t1_loop.trips) (k0_t2 : Fin (k0_t2_loop k0_t1).trips) : BitVec 32 :=
  let c0_i32_36 : BitVec 32 := 0#32
  let c1_i32_38 : BitVec 32 := 1#32
  let arg14 : BitVec 32 := Scf.iv c0_i32_36 c1_i32_38 k0_t2
  let c512_i32_97 : BitVec 32 := 512#32
  let v176 : BitVec 32 := Scalar.muli arg14 c512_i32_97
  v176
def k0_off4 (k0_t1 : Fin k0_t1_loop.trips) (k0_t2 : Fin (k0_t2_loop k0_t1).trips) : Fin 2 → Nat :=
  let c0_i32_36 : BitVec 32 := 0#32
  let c1_i32_38 : BitVec 32 := 1#32
  let arg14 : BitVec 32 := Scf.iv c0_i32_36 c1_i32_38 k0_t2
  let c512_i32_97 : BitVec 32 := 512#32
  let v176 : BitVec 32 := Scalar.muli arg14 c512_i32_97
  let v177 : BitVec 32 := v176
  let v178 : Index := Scalar.indexCast v177
  let c0_98 : Index := 0#32
  ![v178.toNat, 0]
def k0_off5 (k0_t1 : Fin k0_t1_loop.trips) (k0_t2 : Fin (k0_t2_loop k0_t1).trips) : Fin 5 → Nat :=
  let c0_102 : Index := 0#32
  let c0_103 : Index := 0#32
  let c0_i32_36 : BitVec 32 := 0#32
  let c1_i32_38 : BitVec 32 := 1#32
  let arg14 : BitVec 32 := Scf.iv c0_i32_36 c1_i32_38 k0_t2
  let v187 : Index := Scalar.indexCast arg14
  let c0_104 : Index := 0#32
  let c0_105 : Index := 0#32
  ![0, 0, v187.toNat, 0, 0]
def k0_off6 (k0_t1 : Fin k0_t1_loop.trips) (k0_t2 : Fin (k0_t2_loop k0_t1).trips) : Fin 5 → Nat :=
  let c0_106 : Index := 0#32
  let c1_107 : Index := 1#32
  let c0_i32_36 : BitVec 32 := 0#32
  let c1_i32_38 : BitVec 32 := 1#32
  let arg14 : BitVec 32 := Scf.iv c0_i32_36 c1_i32_38 k0_t2
  let v190 : Index := Scalar.indexCast arg14
  let c0_108 : Index := 0#32
  let c0_109 : Index := 0#32
  ![0, 1, v190.toNat, 0, 0]
def k0_off7 (k0_t1 : Fin k0_t1_loop.trips) (k0_t2 : Fin (k0_t2_loop k0_t1).trips) : Fin 3 → Nat :=
  let c0_i32_36 : BitVec 32 := 0#32
  let c1_i32_38 : BitVec 32 := 1#32
  let arg14 : BitVec 32 := Scf.iv c0_i32_36 c1_i32_38 k0_t2
  let v208 : Index := Scalar.indexCast arg14
  let c0_111 : Index := 0#32
  let c0_112 : Index := 0#32
  ![v208.toNat, 0, 0]
@[reducible] def k0_t3_loop (k0_t1 : Fin k0_t1_loop.trips) : Scf.Loop 32 :=
  let c0_i32_36 : BitVec 32 := 0#32
  let c0_i32_12 : BitVec 32 := 0#32
  let c1_i32 : BitVec 32 := 1#32
  let arg13 : BitVec 32 := Scf.iv c0_i32_12 c1_i32 k0_t1
  let v66 : BitVec 32 := Scalar.subi arg13 c0_i32_36
  let c1_i32_37 : BitVec 32 := 1#32
  let v68 : BitVec 32 := Scalar.divsi v66 c1_i32_37
  let v69 : BitVec 32 := Scalar.muli v68 c1_i32_37
  let v70 : BitVec 32 := Scalar.addi c0_i32_36 v69
  let v67 : BitVec 32 := Scalar.addi c0_i32_36 v66
  let c1_i32_39 : BitVec 32 := 1#32
  ⟨v70, v67, c1_i32_39⟩
def k0_mult3 (k0_t1 : Fin k0_t1_loop.trips) (k0_t3 : Fin (k0_t3_loop k0_t1).trips) : BitVec 32 :=
  let c0_i32_36 : BitVec 32 := 0#32
  let c0_i32_12 : BitVec 32 := 0#32
  let c1_i32 : BitVec 32 := 1#32
  let arg13 : BitVec 32 := Scf.iv c0_i32_12 c1_i32 k0_t1
  let v66 : BitVec 32 := Scalar.subi arg13 c0_i32_36
  let c1_i32_37 : BitVec 32 := 1#32
  let v68 : BitVec 32 := Scalar.divsi v66 c1_i32_37
  let v69 : BitVec 32 := Scalar.muli v68 c1_i32_37
  let v70 : BitVec 32 := Scalar.addi c0_i32_36 v69
  let c1_i32_39 : BitVec 32 := 1#32
  let arg14 : BitVec 32 := Scf.iv v70 c1_i32_39 k0_t3
  let c512_i32_97 : BitVec 32 := 512#32
  let v176 : BitVec 32 := Scalar.muli arg14 c512_i32_97
  v176
def k0_off8 (k0_t1 : Fin k0_t1_loop.trips) (k0_t3 : Fin (k0_t3_loop k0_t1).trips) : Fin 2 → Nat :=
  let c0_i32_36 : BitVec 32 := 0#32
  let c0_i32_12 : BitVec 32 := 0#32
  let c1_i32 : BitVec 32 := 1#32
  let arg13 : BitVec 32 := Scf.iv c0_i32_12 c1_i32 k0_t1
  let v66 : BitVec 32 := Scalar.subi arg13 c0_i32_36
  let c1_i32_37 : BitVec 32 := 1#32
  let v68 : BitVec 32 := Scalar.divsi v66 c1_i32_37
  let v69 : BitVec 32 := Scalar.muli v68 c1_i32_37
  let v70 : BitVec 32 := Scalar.addi c0_i32_36 v69
  let c1_i32_39 : BitVec 32 := 1#32
  let arg14 : BitVec 32 := Scf.iv v70 c1_i32_39 k0_t3
  let c512_i32_97 : BitVec 32 := 512#32
  let v176 : BitVec 32 := Scalar.muli arg14 c512_i32_97
  let v177 : BitVec 32 := v176
  let v178 : Index := Scalar.indexCast v177
  let c0_98 : Index := 0#32
  ![v178.toNat, 0]
def k0_off9 (k0_t1 : Fin k0_t1_loop.trips) (k0_t3 : Fin (k0_t3_loop k0_t1).trips) : Fin 5 → Nat :=
  let c0_102 : Index := 0#32
  let c0_103 : Index := 0#32
  let c0_i32_36 : BitVec 32 := 0#32
  let c0_i32_12 : BitVec 32 := 0#32
  let c1_i32 : BitVec 32 := 1#32
  let arg13 : BitVec 32 := Scf.iv c0_i32_12 c1_i32 k0_t1
  let v66 : BitVec 32 := Scalar.subi arg13 c0_i32_36
  let c1_i32_37 : BitVec 32 := 1#32
  let v68 : BitVec 32 := Scalar.divsi v66 c1_i32_37
  let v69 : BitVec 32 := Scalar.muli v68 c1_i32_37
  let v70 : BitVec 32 := Scalar.addi c0_i32_36 v69
  let c1_i32_39 : BitVec 32 := 1#32
  let arg14 : BitVec 32 := Scf.iv v70 c1_i32_39 k0_t3
  let v187 : Index := Scalar.indexCast arg14
  let c0_104 : Index := 0#32
  let c0_105 : Index := 0#32
  ![0, 0, v187.toNat, 0, 0]
def k0_off10 (k0_t1 : Fin k0_t1_loop.trips) (k0_t3 : Fin (k0_t3_loop k0_t1).trips) : Fin 5 → Nat :=
  let c0_106 : Index := 0#32
  let c1_107 : Index := 1#32
  let c0_i32_36 : BitVec 32 := 0#32
  let c0_i32_12 : BitVec 32 := 0#32
  let c1_i32 : BitVec 32 := 1#32
  let arg13 : BitVec 32 := Scf.iv c0_i32_12 c1_i32 k0_t1
  let v66 : BitVec 32 := Scalar.subi arg13 c0_i32_36
  let c1_i32_37 : BitVec 32 := 1#32
  let v68 : BitVec 32 := Scalar.divsi v66 c1_i32_37
  let v69 : BitVec 32 := Scalar.muli v68 c1_i32_37
  let v70 : BitVec 32 := Scalar.addi c0_i32_36 v69
  let c1_i32_39 : BitVec 32 := 1#32
  let arg14 : BitVec 32 := Scf.iv v70 c1_i32_39 k0_t3
  let v190 : Index := Scalar.indexCast arg14
  let c0_108 : Index := 0#32
  let c0_109 : Index := 0#32
  ![0, 1, v190.toNat, 0, 0]
def k0_off11 (k0_t1 : Fin k0_t1_loop.trips) (k0_t3 : Fin (k0_t3_loop k0_t1).trips) : Fin 3 → Nat :=
  let c0_i32_36 : BitVec 32 := 0#32
  let c0_i32_12 : BitVec 32 := 0#32
  let c1_i32 : BitVec 32 := 1#32
  let arg13 : BitVec 32 := Scf.iv c0_i32_12 c1_i32 k0_t1
  let v66 : BitVec 32 := Scalar.subi arg13 c0_i32_36
  let c1_i32_37 : BitVec 32 := 1#32
  let v68 : BitVec 32 := Scalar.divsi v66 c1_i32_37
  let v69 : BitVec 32 := Scalar.muli v68 c1_i32_37
  let v70 : BitVec 32 := Scalar.addi c0_i32_36 v69
  let c1_i32_39 : BitVec 32 := 1#32
  let arg14 : BitVec 32 := Scf.iv v70 c1_i32_39 k0_t3
  let v208 : Index := Scalar.indexCast arg14
  let c0_111 : Index := 0#32
  let c0_112 : Index := 0#32
  ![v208.toNat, 0, 0]
def k0_mult4 (k0_t1 : Fin k0_t1_loop.trips) : BitVec 32 :=
  let c0_i32_12 : BitVec 32 := 0#32
  let c1_i32 : BitVec 32 := 1#32
  let arg13 : BitVec 32 := Scf.iv c0_i32_12 c1_i32 k0_t1
  let c512_i32_40 : BitVec 32 := 512#32
  let v73 : BitVec 32 := Scalar.muli arg13 c512_i32_40
  v73
def k0_off12 (k0_t1 : Fin k0_t1_loop.trips) : Fin 5 → Nat :=
  let c0_45 : Index := 0#32
  let c0_46 : Index := 0#32
  let c0_i32_12 : BitVec 32 := 0#32
  let c1_i32 : BitVec 32 := 1#32
  let arg13 : BitVec 32 := Scf.iv c0_i32_12 c1_i32 k0_t1
  let v84 : Index := Scalar.indexCast arg13
  let c0_47 : Index := 0#32
  let c0_48 : Index := 0#32
  ![0, 0, v84.toNat, 0, 0]
def k0_off13 (k0_t1 : Fin k0_t1_loop.trips) : Fin 5 → Nat :=
  let c0_49 : Index := 0#32
  let c1_50 : Index := 1#32
  let c0_i32_12 : BitVec 32 := 0#32
  let c1_i32 : BitVec 32 := 1#32
  let arg13 : BitVec 32 := Scf.iv c0_i32_12 c1_i32 k0_t1
  let v87 : Index := Scalar.indexCast arg13
  let c0_51 : Index := 0#32
  let c0_52 : Index := 0#32
  ![0, 1, v87.toNat, 0, 0]
def k0_off14 (k0_t1 : Fin k0_t1_loop.trips) : Fin 3 → Nat :=
  let c0_i32_12 : BitVec 32 := 0#32
  let c1_i32 : BitVec 32 := 1#32
  let arg13 : BitVec 32 := Scf.iv c0_i32_12 c1_i32 k0_t1
  let v107 : Index := Scalar.indexCast arg13
  let c0_55 : Index := 0#32
  let c0_56 : Index := 0#32
  ![v107.toNat, 0, 0]
def k0_off15 (k0_t1 : Fin k0_t1_loop.trips) : Fin 3 → Nat :=
  let c0_i32 : BitVec 32 := 0#32
  let c0_i32_12 : BitVec 32 := 0#32
  let c1_i32 : BitVec 32 := 1#32
  let arg13 : BitVec 32 := Scf.iv c0_i32_12 c1_i32 k0_t1
  let c512_i32 : BitVec 32 := 512#32
  let v19 : BitVec 32 := Scalar.muli arg13 c512_i32
  let v20 : BitVec 32 := v19
  let v160 : Index := Scalar.indexCast v20
  let c0_i32_87 : BitVec 32 := 0#32
  ![0, v160.toNat, 0]
@[reducible] def k0_t4_loop : Scf.Loop 32 :=
  let c0_i32_15 : BitVec 32 := 0#32
  let c8_i32_16 : BitVec 32 := 8#32
  let v18 : BitVec 32 := Scalar.addi c0_i32_15 c8_i32_16
  let c1_i32_17 : BitVec 32 := 1#32
  ⟨c0_i32_15, v18, c1_i32_17⟩
def k0_mult5 (k0_t4 : Fin k0_t4_loop.trips) : BitVec 32 :=
  let c0_i32_15 : BitVec 32 := 0#32
  let c1_i32_17 : BitVec 32 := 1#32
  let arg13 : BitVec 32 := Scf.iv c0_i32_15 c1_i32_17 k0_t4
  let c512_i32 : BitVec 32 := 512#32
  let v19 : BitVec 32 := Scalar.muli arg13 c512_i32
  v19
def k0_off16 (k0_t4 : Fin k0_t4_loop.trips) : Fin 3 → Nat :=
  let c0_i32_15 : BitVec 32 := 0#32
  let c1_i32_17 : BitVec 32 := 1#32
  let arg13 : BitVec 32 := Scf.iv c0_i32_15 c1_i32_17 k0_t4
  let v21 : Index := Scalar.indexCast arg13
  let c0_19 : Index := 0#32
  let c0_20 : Index := 0#32
  ![v21.toNat, 0, 0]
def k0_off17 (k0_t4 : Fin k0_t4_loop.trips) : Fin 2 → Nat :=
  let c0_i32_15 : BitVec 32 := 0#32
  let c1_i32_17 : BitVec 32 := 1#32
  let arg13 : BitVec 32 := Scf.iv c0_i32_15 c1_i32_17 k0_t4
  let c512_i32 : BitVec 32 := 512#32
  let v19 : BitVec 32 := Scalar.muli arg13 c512_i32
  let v20 : BitVec 32 := v19
  let v30 : Index := Scalar.indexCast v20
  let c0_24 : Index := 0#32
  ![v30.toNat, 0]
def k0_off18 (k0_t4 : Fin k0_t4_loop.trips) : Fin 3 → Nat :=
  let c1_i32_14 : BitVec 32 := 1#32
  let c0_i32_15 : BitVec 32 := 0#32
  let c1_i32_17 : BitVec 32 := 1#32
  let arg13 : BitVec 32 := Scf.iv c0_i32_15 c1_i32_17 k0_t4
  let c512_i32 : BitVec 32 := 512#32
  let v19 : BitVec 32 := Scalar.muli arg13 c512_i32
  let v20 : BitVec 32 := v19
  let v30 : Index := Scalar.indexCast v20
  let c0_i32_23 : BitVec 32 := 0#32
  ![1, v30.toNat, 0]
def k0_off19 (k0_t4 : Fin k0_t4_loop.trips) : Fin 3 → Nat :=
  let c2_i32 : BitVec 32 := 2#32
  let c0_i32_15 : BitVec 32 := 0#32
  let c1_i32_17 : BitVec 32 := 1#32
  let arg13 : BitVec 32 := Scf.iv c0_i32_15 c1_i32_17 k0_t4
  let c512_i32 : BitVec 32 := 512#32
  let v19 : BitVec 32 := Scalar.muli arg13 c512_i32
  let v20 : BitVec 32 := v19
  let v39 : Index := Scalar.indexCast v20
  let c0_i32_28 : BitVec 32 := 0#32
  ![2, v39.toNat, 0]
def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_9 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage0_0 : Fin 1 → Memref sig .tc .vmem S4096x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4096x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4096x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4096x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2x4096x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x2x8x1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 2 → Memref sig .tc .vmem S3x4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x2x8x1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x2x8x1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== FoxIdeal.lean ====
variable {F : FTy → Type} [FloatOps F] [Named F]
def κ : String → Option EReal := fun
  | "score_scale" => some ((8⁻¹ * (Real.log 2)⁻¹ : ℝ) : EReal)
  | _ => none
-- ==== FoxReferenceIdeal.lean ====
abbrev S4096x3072 : Shape := ⟨2, ![4096, 3072]⟩
abbrev S4096x16 : Shape := ⟨2, ![4096, 16]⟩
abbrev S4096x1024 : Shape := ⟨2, ![4096, 1024]⟩
abbrev S4096x16x64 : Shape := ⟨3, ![4096, 16, 64]⟩
abbrev S16x4096x4096 : Shape := ⟨3, ![16, 4096, 4096]⟩
abbrev S_ : Shape := ⟨0, ![]⟩
abbrev S16x4096 : Shape := ⟨2, ![16, 4096]⟩
abbrev S16x4096x1 : Shape := ⟨3, ![16, 4096, 1]⟩
abbrev S16x1x4096 : Shape := ⟨3, ![16, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x64x4096 : Shape := ⟨3, ![16, 64, 4096]⟩
abbrev S16x4096x64 : Shape := ⟨3, ![16, 4096, 64]⟩
abbrev S1x4096x1024 : Shape := ⟨3, ![1, 4096, 1024]⟩
abbrev S3x4096x1024 : Shape := ⟨3, ![3, 4096, 1024]⟩

abbrev nBuf : Space → Nat
  | .hbm => 123
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S4096x16, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x16x64, .f32⟩
  | .hbm, ⟨7, _⟩ => ⟨S4096x16x64, .f32⟩
  | .hbm, ⟨8, _⟩ => ⟨S4096x16x64, .f32⟩
  | .hbm, ⟨9, _⟩ => ⟨S16x4096x4096, .f32⟩
  | .hbm, ⟨10, _⟩ => ⟨S_, .f32⟩
  | .hbm, ⟨11, _⟩ => ⟨S16x4096x4096, .f32⟩
  | .hbm, ⟨12, _⟩ => ⟨S16x4096x4096, .f32⟩
  | .hbm, ⟨13, _⟩ => ⟨S16x4096, .f32⟩
  | .hbm, ⟨14, _⟩ => ⟨S16x4096x1, .f32⟩
  | .hbm, ⟨15, _⟩ => ⟨S16x4096x4096, .f32⟩
  | .hbm, ⟨16, _⟩ => ⟨S16x4096x4096, .f32⟩
  | .hbm, ⟨17, _⟩ => ⟨S16x1x4096, .f32⟩
  | .hbm, ⟨18, _⟩ => ⟨S16x4096x4096, .f32⟩
  | .hbm, ⟨19, _⟩ => ⟨S16x4096x4096, .f32⟩
  | .hbm, ⟨20, _⟩ => ⟨S4096, .i32⟩
  | .hbm, ⟨21, _⟩ => ⟨S1x4096, .i32⟩
  | .hbm, ⟨22, _⟩ => ⟨S4096x1, .i32⟩
  | .hbm, ⟨23, _⟩ => ⟨S4096x4096, .i32⟩
  | .hbm, ⟨24, _⟩ => ⟨S4096x4096, .i32⟩
  | .hbm, ⟨25, _⟩ => ⟨S4096x4096, .i1⟩
  | .hbm, ⟨26, _⟩ => ⟨S_, .f32⟩
  | .hbm, ⟨27, _⟩ => ⟨S_, .f32⟩
  | .hbm, ⟨28, _⟩ => ⟨S16x4096x4096, .i1⟩
  | .hbm, ⟨29, _⟩ => ⟨S16x4096x4096, .f32⟩
  | .hbm, ⟨30, _⟩ => ⟨S16x4096x4096, .f32⟩
  | .hbm, ⟨31, _⟩ => ⟨S_, .f32⟩
  | .hbm, ⟨32, _⟩ => ⟨S16x4096x4096, .f32⟩
  | .hbm, ⟨33, _⟩ => ⟨S_, .f32⟩
  | .hbm, ⟨34, _⟩ => ⟨S16x4096, .f32⟩
  | .hbm, ⟨35, _⟩ => ⟨S16x4096x1, .f32⟩
  | .hbm, ⟨36, _⟩ => ⟨S16x4096x4096, .f32⟩
  | .hbm, ⟨37, _⟩ => ⟨S16x4096x4096, .i1⟩
  | .hbm, ⟨38, _⟩ => ⟨S16x4096x4096, .f32⟩
  | .hbm, ⟨39, _⟩ => ⟨S_, .f32⟩
  | .hbm, ⟨40, _⟩ => ⟨S16x4096, .f32⟩
  | .hbm, ⟨41, _⟩ => ⟨S_, .f32⟩
  | .hbm, ⟨42, _⟩ => ⟨S16x4096, .f32⟩
  | .hbm, ⟨43, _⟩ => ⟨S16x4096, .f32⟩
  | .hbm, ⟨44, _⟩ => ⟨S_, .f32⟩
  | .hbm, ⟨45, _⟩ => ⟨S16x4096, .f32⟩
  | .hbm, ⟨46, _⟩ => ⟨S16x4096, .i1⟩
  | .hbm, ⟨47, _⟩ => ⟨S_, .f32⟩
  | .hbm, ⟨48, _⟩ => ⟨S16x4096, .f32⟩
  | .hbm, ⟨49, _⟩ => ⟨S16x4096, .i1⟩
  | .hbm, ⟨50, _⟩ => ⟨S_, .f32⟩
  | .hbm, ⟨51, _⟩ => ⟨S16x4096, .f32⟩
  | .hbm, ⟨52, _⟩ => ⟨S_, .f32⟩
  | .hbm, ⟨53, _⟩ => ⟨S16x4096, .f32⟩
  | .hbm, ⟨54, _⟩ => ⟨S_, .f32⟩
  | .hbm, ⟨55, _⟩ => ⟨S16x4096, .f32⟩
  | .hbm, ⟨56, _⟩ => ⟨S16x4096, .f32⟩
  | .hbm, ⟨57, _⟩ => ⟨S16x4096, .f32⟩
  | .hbm, ⟨58, _⟩ => ⟨S16x4096x1, .f32⟩
  | .hbm, ⟨59, _⟩ => ⟨S16x4096x4096, .f32⟩
  | .hbm, ⟨60, _⟩ => ⟨S16x4096x4096, .f32⟩
  | .hbm, ⟨61, _⟩ => ⟨S16x4096x4096, .f32⟩
  | .hbm, ⟨62, _⟩ => ⟨S_, .f32⟩
  | .hbm, ⟨63, _⟩ => ⟨S16x4096, .f32⟩
  | .hbm, ⟨64, _⟩ => ⟨S16x4096x1, .f32⟩
  | .hbm, ⟨65, _⟩ => ⟨S16x4096x4096, .f32⟩
  | .hbm, ⟨66, _⟩ => ⟨S16x4096x4096, .f32⟩
  | .hbm, ⟨67, _⟩ => ⟨S16x4096x1, .f32⟩
  | .hbm, ⟨68, _⟩ => ⟨S_, .f32⟩
  | .hbm, ⟨69, _⟩ => ⟨S16x4096x1, .f32⟩
  | .hbm, ⟨70, _⟩ => ⟨S16x4096x1, .f32⟩
  | .hbm, ⟨71, _⟩ => ⟨S16x64x4096, .f32⟩
  | .hbm, ⟨72, _⟩ => ⟨S4096x16x64, .f32⟩
  | .hbm, ⟨73, _⟩ => ⟨S4096x16x64, .f32⟩
  | .hbm, ⟨74, _⟩ => ⟨S16x64x4096, .f32⟩
  | .hbm, ⟨75, _⟩ => ⟨S16x4096x4096, .f32⟩
  | .hbm, ⟨76, _⟩ => ⟨S16x64x4096, .f32⟩
  | .hbm, ⟨77, _⟩ => ⟨S4096x16x64, .f32⟩
  | .hbm, ⟨78, _⟩ => ⟨S16x4096x4096, .f32⟩
  | .hbm, ⟨79, _⟩ => ⟨S16x4096x4096, .f32⟩
  | .hbm, ⟨80, _⟩ => ⟨S16x4096x4096, .f32⟩
  | .hbm, ⟨81, _⟩ => ⟨S_, .f32⟩
  | .hbm, ⟨82, _⟩ => ⟨S16x4096, .f32⟩
  | .hbm, ⟨83, _⟩ => ⟨S16x4096x1, .f32⟩
  | .hbm, ⟨84, _⟩ => ⟨S16x4096x1, .f32⟩
  | .hbm, ⟨85, _⟩ => ⟨S16x4096x4096, .f32⟩
  | .hbm, ⟨86, _⟩ => ⟨S16x4096x4096, .f32⟩
  | .hbm, ⟨87, _⟩ => ⟨S_, .f32⟩
  | .hbm, ⟨88, _⟩ => ⟨S16x4096, .f32⟩
  | .hbm, ⟨89, _⟩ => ⟨S16x4096x4096, .f32⟩
  | .hbm, ⟨90, _⟩ => ⟨S16x4096x4096, .f32⟩
  | .hbm, ⟨91, _⟩ => ⟨S16x4096x4096, .f32⟩
  | .hbm, ⟨92, _⟩ => ⟨S_, .f32⟩
  | .hbm, ⟨93, _⟩ => ⟨S16x4096x4096, .f32⟩
  | .hbm, ⟨94, _⟩ => ⟨S16x4096x4096, .f32⟩
  | .hbm, ⟨95, _⟩ => ⟨S16x4096x4096, .f32⟩
  | .hbm, ⟨96, _⟩ => ⟨S_, .f32⟩
  | .hbm, ⟨97, _⟩ => ⟨S16x4096, .f32⟩
  | .hbm, ⟨98, _⟩ => ⟨S16x1x4096, .f32⟩
  | .hbm, ⟨99, _⟩ => ⟨S_, .f32⟩
  | .hbm, ⟨100, _⟩ => ⟨S16x4096, .f32⟩
  | .hbm, ⟨101, _⟩ => ⟨S_, .f32⟩
  | .hbm, ⟨102, _⟩ => ⟨S16x4096, .f32⟩
  | .hbm, ⟨103, _⟩ => ⟨S16x4096x1, .f32⟩
  | .hbm, ⟨104, _⟩ => ⟨S_, .f32⟩
  | .hbm, ⟨105, _⟩ => ⟨S16x4096, .f32⟩
  | .hbm, ⟨106, _⟩ => ⟨S16x4096, .f32⟩
  | .hbm, ⟨107, _⟩ => ⟨S4096x16, .f32⟩
  | .hbm, ⟨108, _⟩ => ⟨S_, .f32⟩
  | .hbm, ⟨109, _⟩ => ⟨S16x4096x4096, .f32⟩
  | .hbm, ⟨110, _⟩ => ⟨S16x4096x4096, .f32⟩
  | .hbm, ⟨111, _⟩ => ⟨S16x4096x64, .f32⟩
  | .hbm, ⟨112, _⟩ => ⟨S4096x16x64, .f32⟩
  | .hbm, ⟨113, _⟩ => ⟨S16x4096x64, .f32⟩
  | .hbm, ⟨114, _⟩ => ⟨S4096x16x64, .f32⟩
  | .hbm, ⟨115, _⟩ => ⟨S4096x1024, .f32⟩
  | .hbm, ⟨116, _⟩ => ⟨S4096x1024, .f32⟩
  | .hbm, ⟨117, _⟩ => ⟨S4096x1024, .f32⟩
  | .hbm, ⟨118, _⟩ => ⟨S1x4096x1024, .f32⟩
  | .hbm, ⟨119, _⟩ => ⟨S1x4096x1024, .f32⟩
  | .hbm, ⟨120, _⟩ => ⟨S1x4096x1024, .f32⟩
  | .hbm, ⟨121, _⟩ => ⟨S3x4096x1024, .f32⟩
  | .hbm, ⟨122, _⟩ => ⟨S3x4096x1024, .bf16⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst_0 : Ref sig .tc := ⟨.hbm, 26, rfl⟩
abbrev main_call0_v0 : Ref sig .tc := ⟨.hbm, 27, rfl⟩
abbrev main_v22_1 : Ref sig .tc := ⟨.hbm, 28, rfl⟩
abbrev main_call0_v2 : Ref sig .tc := ⟨.hbm, 29, rfl⟩
abbrev main_v22_0 : Ref sig .tc := ⟨.hbm, 30, rfl⟩
abbrev main_call0_cst : Ref sig .tc := ⟨.hbm, 31, rfl⟩
abbrev main_v22_2 : Ref sig .tc := ⟨.hbm, 32, rfl⟩
abbrev main_cst_1 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_2 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_cst_6 : Ref sig .tc := ⟨.hbm, 50, rfl⟩
abbrev main_v35 : Ref sig .tc := ⟨.hbm, 51, rfl⟩
abbrev main_cst_7 : Ref sig .tc := ⟨.hbm, 52, rfl⟩
abbrev main_v36 : Ref sig .tc := ⟨.hbm, 53, rfl⟩
abbrev main_cst_8 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_9 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_10 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_11 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_12 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_call1_cst : Ref sig .tc := ⟨.hbm, 92, rfl⟩
abbrev main_call1_v0 : Ref sig .tc := ⟨.hbm, 93, rfl⟩
abbrev main_v70 : Ref sig .tc := ⟨.hbm, 94, rfl⟩
abbrev main_v71 : Ref sig .tc := ⟨.hbm, 95, rfl⟩
abbrev main_cst_13 : Ref sig .tc := ⟨.hbm, 96, rfl⟩
abbrev main_v72 : Ref sig .tc := ⟨.hbm, 97, rfl⟩
abbrev main_v73 : Ref sig .tc := ⟨.hbm, 98, rfl⟩
abbrev main_cst_14 : Ref sig .tc := ⟨.hbm, 99, rfl⟩
abbrev main_v74 : Ref sig .tc := ⟨.hbm, 100, rfl⟩
abbrev main_cst_15 : Ref sig .tc := ⟨.hbm, 101, rfl⟩
abbrev main_v75 : Ref sig .tc := ⟨.hbm, 102, rfl⟩
abbrev main_v76 : Ref sig .tc := ⟨.hbm, 103, rfl⟩
abbrev main_cst_16 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_cst_17 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩

abbrev nD : Nat := 1
abbrev τ : Topo := Topo.v7x

variable {F : FTy → Type} [FloatOps F]
-- ==== Mla.lean ====
abbrev S4096x8x96 : Shape := ⟨3, ![4096, 8, 96]⟩
abbrev S4096x8x64 : Shape := ⟨3, ![4096, 8, 64]⟩
abbrev S4096x512 : Shape := ⟨2, ![4096, 512]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S8x4096x1 : Shape := ⟨3, ![8, 4096, 1]⟩
abbrev S8x64x4096 : Shape := ⟨3, ![8, 64, 4096]⟩
abbrev S4x2x4096x1 : Shape := ⟨4, ![4, 2, 4096, 1]⟩
abbrev S4096x8x128 : Shape := ⟨3, ![4096, 8, 128]⟩
abbrev S4096x1024 : Shape := ⟨2, ![4096, 1024]⟩
abbrev S4096x1536 : Shape := ⟨2, ![4096, 1536]⟩
abbrev S4096x256 : Shape := ⟨2, ![4096, 256]⟩
abbrev S4096x128 : Shape := ⟨2, ![4096, 128]⟩
abbrev S1x2x4096x1 : Shape := ⟨4, ![1, 2, 4096, 1]⟩
abbrev S8x256x512 : Shape := ⟨3, ![8, 256, 512]⟩
abbrev S8x128x512 : Shape := ⟨3, ![8, 128, 512]⟩
abbrev S512x512 : Shape := ⟨2, ![512, 512]⟩
abbrev S1024x512 : Shape := ⟨2, ![1024, 512]⟩
abbrev S512x256 : Shape := ⟨2, ![512, 256]⟩
abbrev S1024x256 : Shape := ⟨2, ![1024, 256]⟩
abbrev S512x128 : Shape := ⟨2, ![512, 128]⟩
abbrev S1024x128 : Shape := ⟨2, ![1024, 128]⟩
abbrev S1024 : Shape := ⟨1, ![1024]⟩
abbrev S1024x1 : Shape := ⟨2, ![1024, 1]⟩
abbrev S1x1x512x1 : Shape := ⟨4, ![1, 1, 512, 1]⟩
abbrev S512x1 : Shape := ⟨2, ![512, 1]⟩
abbrev S128x1024 : Shape := ⟨2, ![128, 1024]⟩
abbrev S256x1024 : Shape := ⟨2, ![256, 1024]⟩
abbrev S1x128x512 : Shape := ⟨3, ![1, 128, 512]⟩
abbrev S128x512 : Shape := ⟨2, ![128, 512]⟩
abbrev S64x512 : Shape := ⟨2, ![64, 512]⟩
abbrev S1x256x512 : Shape := ⟨3, ![1, 256, 512]⟩
abbrev S256x512 : Shape := ⟨2, ![256, 512]⟩

abbrev nBuf : Space → Nat
  | .hbm => 83
  | .vmem => 14
  | .smem => 0
  | _ => 0

abbrev bufTy : (tb : Table) → Fin (tcTables nBuf tb) → BufTy
  | .hbm, ⟨0, _⟩ => ⟨S4096x8x96, .f32⟩
  | .hbm, ⟨1, _⟩ => ⟨S4096x8x96, .f32⟩
  | .hbm, ⟨2, _⟩ => ⟨S4096x8x64, .f32⟩
  | .hbm, ⟨3, _⟩ => ⟨S4096x512, .f32⟩
  | .hbm, ⟨4, _⟩ => ⟨S8x4096x4096, .f32⟩
  | .hbm, ⟨5, _⟩ => ⟨S_, .f32⟩
  | .hbm, ⟨6, _⟩ => ⟨S_, .f32⟩
  | .hbm, ⟨7, _⟩ => ⟨S8x4096x4096, .f32⟩
  | .hbm, ⟨8, _⟩ => ⟨S8x4096x4096, .f32⟩
  | .hbm, ⟨9, _⟩ => ⟨S4096, .i32⟩
  | .hbm, ⟨10, _⟩ => ⟨S1x4096, .i32⟩
  | .hbm, ⟨11, _⟩ => ⟨S4096x1, .i32⟩
  | .hbm, ⟨12, _⟩ => ⟨S4096x4096, .i32⟩
  | .hbm, ⟨13, _⟩ => ⟨S4096x4096, .i32⟩
  | .hbm, ⟨14, _⟩ => ⟨S4096x4096, .i1⟩
  | .hbm, ⟨15, _⟩ => ⟨S_, .f32⟩
  | .hbm, ⟨16, _⟩ => ⟨S_, .f32⟩
  | .hbm, ⟨17, _⟩ => ⟨S8x4096x4096, .i1⟩
  | .hbm, ⟨18, _⟩ => ⟨S8x4096x4096, .f32⟩
  | .hbm, ⟨19, _⟩ => ⟨S8x4096x4096, .f32⟩
  | .hbm, ⟨20, _⟩ => ⟨S_, .f32⟩
  | .hbm, ⟨21, _⟩ => ⟨S8x4096, .f32⟩
  | .hbm, ⟨22, _⟩ => ⟨S_, .f32⟩
  | .hbm, ⟨23, _⟩ => ⟨S8x4096, .f32⟩
  | .hbm, ⟨24, _⟩ => ⟨S8x4096, .f32⟩
  | .hbm, ⟨25, _⟩ => ⟨S8x4096x1, .f32⟩
  | .hbm, ⟨26, _⟩ => ⟨S8x4096x4096, .f32⟩
  | .hbm, ⟨27, _⟩ => ⟨S8x4096x4096, .f32⟩
  | .hbm, ⟨28, _⟩ => ⟨S8x4096x4096, .f32⟩
  | .hbm, ⟨29, _⟩ => ⟨S_, .f32⟩
  | .hbm, ⟨30, _⟩ => ⟨S8x4096, .f32⟩
  | .hbm, ⟨31, _⟩ => ⟨S8x4096x1, .f32⟩
  | .hbm, ⟨32, _⟩ => ⟨S8x4096x4096, .f32⟩
  | .hbm, ⟨33, _⟩ => ⟨S8x4096x4096, .f32⟩
  | .hbm, ⟨34, _⟩ => ⟨S8x64x4096, .f32⟩
  | .hbm, ⟨35, _⟩ => ⟨S4096x8x64, .f32⟩
  | .hbm, ⟨36, _⟩ => ⟨S4096x512, .f32⟩
  | .hbm, ⟨37, _⟩ => ⟨S8x4096x4096, .f32⟩
  | .hbm, ⟨38, _⟩ => ⟨S_, .f32⟩
  | .hbm, ⟨39, _⟩ => ⟨S_, .f32⟩
  | .hbm, ⟨40, _⟩ => ⟨S8x4096x4096, .f32⟩
  | .hbm, ⟨41, _⟩ => ⟨S8x4096x4096, .f32⟩
  | .hbm, ⟨42, _⟩ => ⟨S4096, .i32⟩
  | .hbm, ⟨43, _⟩ => ⟨S1x4096, .i32⟩
  | .hbm, ⟨44, _⟩ => ⟨S4096x1, .i32⟩
  | .hbm, ⟨45, _⟩ => ⟨S4096x4096, .i32⟩
  | .hbm, ⟨46, _⟩ => ⟨S4096x4096, .i32⟩
  | .hbm, ⟨47, _⟩ => ⟨S4096x4096, .i1⟩
  | .hbm, ⟨48, _⟩ => ⟨S_, .f32⟩
  | .hbm, ⟨49, _⟩ => ⟨S_, .f32⟩
  | .hbm, ⟨50, _⟩ => ⟨S8x4096x4096, .i1⟩
  | .hbm, ⟨51, _⟩ => ⟨S8x4096x4096, .f32⟩
  | .hbm, ⟨52, _⟩ => ⟨S8x4096x4096, .f32⟩
  | .hbm, ⟨53, _⟩ => ⟨S_, .f32⟩
  | .hbm, ⟨54, _⟩ => ⟨S8x4096, .f32⟩
  | .hbm, ⟨55, _⟩ => ⟨S8x4096x1, .f32⟩
  | .hbm, ⟨56, _⟩ => ⟨S8x4096x4096, .f32⟩
  | .hbm, ⟨57, _⟩ => ⟨S8x4096x4096, .f32⟩
  | .hbm, ⟨58, _⟩ => ⟨S8x4096x4096, .f32⟩
  | .hbm, ⟨59, _⟩ => ⟨S_, .f32⟩
  | .hbm, ⟨60, _⟩ => ⟨S8x4096, .f32⟩
  | .hbm, ⟨61, _⟩ => ⟨S8x4096, .f32⟩
  | .hbm, ⟨62, _⟩ => ⟨S8x4096, .f32⟩
  | .hbm, ⟨63, _⟩ => ⟨S_, .f32⟩
  | .hbm, ⟨64, _⟩ => ⟨S_, .f32⟩
  | .hbm, ⟨65, _⟩ => ⟨S8x4096, .f32⟩
  | .hbm, ⟨66, _⟩ => ⟨S8x4096, .f32⟩
  | .hbm, ⟨67, _⟩ => ⟨S4x2x4096x1, .f32⟩
  | .hbm, ⟨68, _⟩ => ⟨S_, .i32⟩
  | .hbm, ⟨69, _⟩ => ⟨S_, .f32⟩
  | .hbm, ⟨70, _⟩ => ⟨S4096x8x128, .f32⟩
  | .hbm, ⟨71, _⟩ => ⟨S4096x1024, .f32⟩
  | .hbm, ⟨72, _⟩ => ⟨S4096x1024, .bf16⟩
  | .hbm, ⟨73, _⟩ => ⟨S_, .i32⟩
  | .hbm, ⟨74, _⟩ => ⟨S_, .f32⟩
  | .hbm, ⟨75, _⟩ => ⟨S4096x8x128, .f32⟩
  | .hbm, ⟨76, _⟩ => ⟨S4096x1024, .f32⟩
  | .hbm, ⟨77, _⟩ => ⟨S4096x512, .f32⟩
  | .hbm, ⟨78, _⟩ => ⟨S4096x1536, .f32⟩
  | .hbm, ⟨79, _⟩ => ⟨S4096x1536, .bf16⟩
  | .hbm, ⟨80, _⟩ => ⟨S4096x1024, .f32⟩
  | .hbm, ⟨81, _⟩ => ⟨S4096x1024, .f32⟩
  | .hbm, ⟨82, _⟩ => ⟨S4096x512, .bf16⟩
  | .local _ .vmem, ⟨0, _⟩ => ⟨S4096x256, .bf16⟩
  | .local _ .vmem, ⟨1, _⟩ => ⟨S4096x256, .bf16⟩
  | .local _ .vmem, ⟨2, _⟩ => ⟨S4096x128, .bf16⟩
  | .local _ .vmem, ⟨3, _⟩ => ⟨S4096x128, .f32⟩
  | .local _ .vmem, ⟨4, _⟩ => ⟨S4096x128, .f32⟩
  | .local _ .vmem, ⟨5, _⟩ => ⟨S1x2x4096x1, .f32⟩
  | .local _ .vmem, ⟨6, _⟩ => ⟨S4096x256, .f32⟩
  | .local _ .vmem, ⟨7, _⟩ => ⟨S4096x256, .f32⟩
  | .local _ .vmem, ⟨8, _⟩ => ⟨S4096x256, .f32⟩
  | .local _ .vmem, ⟨9, _⟩ => ⟨S4096x256, .f32⟩
  | .local _ .vmem, ⟨10, _⟩ => ⟨S4096x128, .bf16⟩
  | .local _ .vmem, ⟨11, _⟩ => ⟨S4096x128, .bf16⟩
  | .local _ .vmem, ⟨12, _⟩ => ⟨S8x256x512, .f32⟩
  | .local _ .vmem, ⟨13, _⟩ => ⟨S8x128x512, .f32⟩
  | _, _ => ⟨S4096x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_v35 : Ref sig .tc := ⟨.hbm, 52, rfl⟩
abbrev main_cst_6 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_7 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_8 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c : Ref sig .tc := ⟨.hbm, 68, rfl⟩
abbrev main_call2_v0 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_c_9 : Ref sig .tc := ⟨.hbm, 73, rfl⟩
abbrev main_call3_v0 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56_0 : Ref sig .tc := ⟨.hbm, 80, rfl⟩
abbrev main_v56_1 : Ref sig .tc := ⟨.hbm, 81, rfl⟩
abbrev main_v56_2 : Ref sig .tc := ⟨.hbm, 82, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem6_1 : DmaSem sig := 7
abbrev cc0_sem7_0 : DmaSem sig := 8
abbrev cc0_sem7_1 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c8_i32 : BitVec 32 := 8#32
  let v15 : BitVec 32 := Scalar.addi c0_i32 c8_i32
  let c1_i32 : BitVec 32 := 1#32
  ⟨c0_i32, v15, c1_i32⟩
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c512_i32 : BitVec 32 := 512#32
  let v17 : BitVec 32 := Scalar.muli arg12 c512_i32
  v17
def k0_off1 (k0_t1 : Fin k0_t1_loop.trips) : Fin 2 → Nat :=
  let c0_i32 : BitVec 32 := 0#32
  let c1_i32 : BitVec 32 := 1#32
  let arg12 : BitVec 32 := Scf.iv c0_i32 c1_i32 k0_t1
  let c512_i32 : BitVec 32 := 512#32
  let v17 : BitVec 32 := Scalar.muli arg12 c512_i32
  let v18 : BitVec 32 := v17
  let v19 : Index := Scalar.indexCast v18
  let c0_11 : Index := 0#32
  ![v19.toNat, 0]
def k0_off2 (k0_t1 : Fin k0_t1_loop.trips) : Fin 2 → Nat :=
  let c0_i32 : BitVec 32 := 0#32
  let c1_i32 : BitVec 32 := 1#32
  let arg12 : BitVec 32 := Scf.iv c0_i32 c1_i32 k0_t1
  let c512_i32 : BitVec 32 := 512#32
  let v17 : BitVec 32 := Scalar.muli arg12 c512_i32
  let v18 : BitVec 32 := v17
  let v31 : Index := Scalar.indexCast v18
  let c0_15 : Index := 0#32
  ![v31.toNat, 0]
def k0_off3 (k0_t1 : Fin k0_t1_loop.trips) : Fin 4 → Nat :=
  let c0_20 : Index := 0#32
  let c0_21 : Index := 0#32
  let c0_i32 : BitVec 32 := 0#32
  let c1_i32 : BitVec 32 := 1#32
  let arg12 : BitVec 32 := Scf.iv c0_i32 c1_i32 k0_t1
  let c512_i32 : BitVec 32 := 512#32
  let v17 : BitVec 32 := Scalar.muli arg12 c512_i32
  let v18 : BitVec 32 := v17
  let v49 : Index := Scalar.indexCast v18
  let c0_22 : Index := 0#32
  ![0, 0, v49.toNat, 0]
def k0_off4 (k0_t1 : Fin k0_t1_loop.trips) : Fin 4 → Nat :=
  let c0_23 : Index := 0#32
  let c1 : Index := 1#32
  let c0_i32 : BitVec 32 := 0#32
  let c1_i32 : BitVec 32 := 1#32
  let arg12 : BitVec 32 := Scf.iv c0_i32 c1_i32 k0_t1
  let c512_i32 : BitVec 32 := 512#32
  let v17 : BitVec 32 := Scalar.muli arg12 c512_i32
  let v18 : BitVec 32 := v17
  let v52 : Index := Scalar.indexCast v18
  let c0_24 : Index := 0#32
  ![0, 1, v52.toNat, 0]
@[reducible] def k0_t2_loop (k0_t1 : Fin k0_t1_loop.trips) : Scf.Loop 32 :=
  let c0_i32_27 : BitVec 32 := 0#32
  let c0_i32 : BitVec 32 := 0#32
  let c1_i32 : BitVec 32 := 1#32
  let arg12 : BitVec 32 := Scf.iv c0_i32 c1_i32 k0_t1
  let v64 : BitVec 32 := Scalar.subi arg12 c0_i32_27
  let c1_i32_28 : BitVec 32 := 1#32
  let v66 : BitVec 32 := Scalar.divsi v64 c1_i32_28
  let v67 : BitVec 32 := Scalar.muli v66 c1_i32_28
  let v68 : BitVec 32 := Scalar.addi c0_i32_27 v67
  let c1_i32_29 : BitVec 32 := 1#32
  ⟨c0_i32_27, v68, c1_i32_29⟩
def k0_mult2 (k0_t1 : Fin k0_t1_loop.trips) (k0_t2 : Fin (k0_t2_loop k0_t1).trips) : BitVec 32 :=
  let c0_i32_27 : BitVec 32 := 0#32
  let c1_i32_29 : BitVec 32 := 1#32
  let arg13 : BitVec 32 := Scf.iv c0_i32_27 c1_i32_29 k0_t2
  let c512_i32_53 : BitVec 32 := 512#32
  let v132 : BitVec 32 := Scalar.muli arg13 c512_i32_53
  v132
def k0_off5 (k0_t1 : Fin k0_t1_loop.trips) (k0_t2 : Fin (k0_t2_loop k0_t1).trips) : Fin 2 → Nat :=
  let c0_i32_27 : BitVec 32 := 0#32
  let c1_i32_29 : BitVec 32 := 1#32
  let arg13 : BitVec 32 := Scf.iv c0_i32_27 c1_i32_29 k0_t2
  let c512_i32_53 : BitVec 32 := 512#32
  let v132 : BitVec 32 := Scalar.muli arg13 c512_i32_53
  let v133 : BitVec 32 := v132
  let v134 : Index := Scalar.indexCast v133
  let c0_54 : Index := 0#32
  ![v134.toNat, 0]
def k0_off6 (k0_t1 : Fin k0_t1_loop.trips) (k0_t2 : Fin (k0_t2_loop k0_t1).trips) : Fin 2 → Nat :=
  let c0_i32_27 : BitVec 32 := 0#32
  let c1_i32_29 : BitVec 32 := 1#32
  let arg13 : BitVec 32 := Scf.iv c0_i32_27 c1_i32_29 k0_t2
  let c512_i32_53 : BitVec 32 := 512#32
  let v132 : BitVec 32 := Scalar.muli arg13 c512_i32_53
  let v133 : BitVec 32 := v132
  let v137 : Index := Scalar.indexCast v133
  let c0_55 : Index := 0#32
  ![v137.toNat, 0]
def k0_off7 (k0_t1 : Fin k0_t1_loop.trips) (k0_t2 : Fin (k0_t2_loop k0_t1).trips) : Fin 3 → Nat :=
  let c0_i32_27 : BitVec 32 := 0#32
  let c1_i32_29 : BitVec 32 := 1#32
  let arg13 : BitVec 32 := Scf.iv c0_i32_27 c1_i32_29 k0_t2
  let v152 : Index := Scalar.indexCast arg13
  let c0_59 : Index := 0#32
  let c0_60 : Index := 0#32
  ![v152.toNat, 0, 0]
def k0_off8 (k0_t1 : Fin k0_t1_loop.trips) (k0_t2 : Fin (k0_t2_loop k0_t1).trips) : Fin 3 → Nat :=
  let c0_i32_27 : BitVec 32 := 0#32
  let c1_i32_29 : BitVec 32 := 1#32
  let arg13 : BitVec 32 := Scf.iv c0_i32_27 c1_i32_29 k0_t2
  let v167 : Index := Scalar.indexCast arg13
  let c0_65 : Index := 0#32
  let c0_66 : Index := 0#32
  ![v167.toNat, 0, 0]
@[reducible] def k0_t3_loop (k0_t1 : Fin k0_t1_loop.trips) : Scf.Loop 32 :=
  let c0_i32_27 : BitVec 32 := 0#32
  let c0_i32 : BitVec 32 := 0#32
  let c1_i32 : BitVec 32 := 1#32
  let arg12 : BitVec 32 := Scf.iv c0_i32 c1_i32 k0_t1
  let v64 : BitVec 32 := Scalar.subi arg12 c0_i32_27
  let c1_i32_28 : BitVec 32 := 1#32
  let v66 : BitVec 32 := Scalar.divsi v64 c1_i32_28
  let v67 : BitVec 32 := Scalar.muli v66 c1_i32_28
  let v68 : BitVec 32 := Scalar.addi c0_i32_27 v67
  let v65 : BitVec 32 := Scalar.addi c0_i32_27 v64
  let c1_i32_30 : BitVec 32 := 1#32
  ⟨v68, v65, c1_i32_30⟩
def k0_mult3 (k0_t1 : Fin k0_t1_loop.trips) (k0_t3 : Fin (k0_t3_loop k0_t1).trips) : BitVec 32 :=
  let c0_i32_27 : BitVec 32 := 0#32
  let c0_i32 : BitVec 32 := 0#32
  let c1_i32 : BitVec 32 := 1#32
  let arg12 : BitVec 32 := Scf.iv c0_i32 c1_i32 k0_t1
  let v64 : BitVec 32 := Scalar.subi arg12 c0_i32_27
  let c1_i32_28 : BitVec 32 := 1#32
  let v66 : BitVec 32 := Scalar.divsi v64 c1_i32_28
  let v67 : BitVec 32 := Scalar.muli v66 c1_i32_28
  let v68 : BitVec 32 := Scalar.addi c0_i32_27 v67
  let c1_i32_30 : BitVec 32 := 1#32
  let arg13 : BitVec 32 := Scf.iv v68 c1_i32_30 k0_t3
  let c512_i32_53 : BitVec 32 := 512#32
  let v132 : BitVec 32 := Scalar.muli arg13 c512_i32_53
  v132
def k0_off9 (k0_t1 : Fin k0_t1_loop.trips) (k0_t3 : Fin (k0_t3_loop k0_t1).trips) : Fin 2 → Nat :=
  let c0_i32_27 : BitVec 32 := 0#32
  let c0_i32 : BitVec 32 := 0#32
  let c1_i32 : BitVec 32 := 1#32
  let arg12 : BitVec 32 := Scf.iv c0_i32 c1_i32 k0_t1
  let v64 : BitVec 32 := Scalar.subi arg12 c0_i32_27
  let c1_i32_28 : BitVec 32 := 1#32
  let v66 : BitVec 32 := Scalar.divsi v64 c1_i32_28
  let v67 : BitVec 32 := Scalar.muli v66 c1_i32_28
  let v68 : BitVec 32 := Scalar.addi c0_i32_27 v67
  let c1_i32_30 : BitVec 32 := 1#32
  let arg13 : BitVec 32 := Scf.iv v68 c1_i32_30 k0_t3
  let c512_i32_53 : BitVec 32 := 512#32
  let v132 : BitVec 32 := Scalar.muli arg13 c512_i32_53
  let v133 : BitVec 32 := v132
  let v134 : Index := Scalar.indexCast v133
  let c0_54 : Index := 0#32
  ![v134.toNat, 0]
def k0_off10 (k0_t1 : Fin k0_t1_loop.trips) (k0_t3 : Fin (k0_t3_loop k0_t1).trips) : Fin 2 → Nat :=
  let c0_i32_27 : BitVec 32 := 0#32
  let c0_i32 : BitVec 32 := 0#32
  let c1_i32 : BitVec 32 := 1#32
  let arg12 : BitVec 32 := Scf.iv c0_i32 c1_i32 k0_t1
  let v64 : BitVec 32 := Scalar.subi arg12 c0_i32_27
  let c1_i32_28 : BitVec 32 := 1#32
  let v66 : BitVec 32 := Scalar.divsi v64 c1_i32_28
  let v67 : BitVec 32 := Scalar.muli v66 c1_i32_28
  let v68 : BitVec 32 := Scalar.addi c0_i32_27 v67
  let c1_i32_30 : BitVec 32 := 1#32
  let arg13 : BitVec 32 := Scf.iv v68 c1_i32_30 k0_t3
  let c512_i32_53 : BitVec 32 := 512#32
  let v132 : BitVec 32 := Scalar.muli arg13 c512_i32_53
  let v133 : BitVec 32 := v132
  let v137 : Index := Scalar.indexCast v133
  let c0_55 : Index := 0#32
  ![v137.toNat, 0]
def k0_off11 (k0_t1 : Fin k0_t1_loop.trips) (k0_t3 : Fin (k0_t3_loop k0_t1).trips) : Fin 3 → Nat :=
  let c0_i32_27 : BitVec 32 := 0#32
  let c0_i32 : BitVec 32 := 0#32
  let c1_i32 : BitVec 32 := 1#32
  let arg12 : BitVec 32 := Scf.iv c0_i32 c1_i32 k0_t1
  let v64 : BitVec 32 := Scalar.subi arg12 c0_i32_27
  let c1_i32_28 : BitVec 32 := 1#32
  let v66 : BitVec 32 := Scalar.divsi v64 c1_i32_28
  let v67 : BitVec 32 := Scalar.muli v66 c1_i32_28
  let v68 : BitVec 32 := Scalar.addi c0_i32_27 v67
  let c1_i32_30 : BitVec 32 := 1#32
  let arg13 : BitVec 32 := Scf.iv v68 c1_i32_30 k0_t3
  let v152 : Index := Scalar.indexCast arg13
  let c0_59 : Index := 0#32
  let c0_60 : Index := 0#32
  ![v152.toNat, 0, 0]
def k0_off12 (k0_t1 : Fin k0_t1_loop.trips) (k0_t3 : Fin (k0_t3_loop k0_t1).trips) : Fin 3 → Nat :=
  let c0_i32_27 : BitVec 32 := 0#32
  let c0_i32 : BitVec 32 := 0#32
  let c1_i32 : BitVec 32 := 1#32
  let arg12 : BitVec 32 := Scf.iv c0_i32 c1_i32 k0_t1
  let v64 : BitVec 32 := Scalar.subi arg12 c0_i32_27
  let c1_i32_28 : BitVec 32 := 1#32
  let v66 : BitVec 32 := Scalar.divsi v64 c1_i32_28
  let v67 : BitVec 32 := Scalar.muli v66 c1_i32_28
  let v68 : BitVec 32 := Scalar.addi c0_i32_27 v67
  let c1_i32_30 : BitVec 32 := 1#32
  let arg13 : BitVec 32 := Scf.iv v68 c1_i32_30 k0_t3
  let v167 : Index := Scalar.indexCast arg13
  let c0_65 : Index := 0#32
  let c0_66 : Index := 0#32
  ![v167.toNat, 0, 0]
def k0_mult4 (k0_t1 : Fin k0_t1_loop.trips) : BitVec 32 :=
  let c0_i32 : BitVec 32 := 0#32
  let c1_i32 : BitVec 32 := 1#32
  let arg12 : BitVec 32 := Scf.iv c0_i32 c1_i32 k0_t1
  let c512_i32_31 : BitVec 32 := 512#32
  let v71 : BitVec 32 := Scalar.muli arg12 c512_i32_31
  v71
def k0_off13 (k0_t1 : Fin k0_t1_loop.trips) : Fin 3 → Nat :=
  let c0_i32 : BitVec 32 := 0#32
  let c1_i32 : BitVec 32 := 1#32
  let arg12 : BitVec 32 := Scf.iv c0_i32 c1_i32 k0_t1
  let v93 : Index := Scalar.indexCast arg12
  let c0_38 : Index := 0#32
  let c0_39 : Index := 0#32
  ![v93.toNat, 0, 0]
def k0_off14 (k0_t1 : Fin k0_t1_loop.trips) : Fin 3 → Nat :=
  let c0_i32 : BitVec 32 := 0#32
  let c1_i32 : BitVec 32 := 1#32
  let arg12 : BitVec 32 := Scf.iv c0_i32 c1_i32 k0_t1
  let v108 : Index := Scalar.indexCast arg12
  let c0_44 : Index := 0#32
  let c0_45 : Index := 0#32
  ![v108.toNat, 0, 0]
@[reducible] def k0_t4_loop : Scf.Loop 32 :=
  let c0_i32_7 : BitVec 32 := 0#32
  let c8_i32_8 : BitVec 32 := 8#32
  let v16 : BitVec 32 := Scalar.addi c0_i32_7 c8_i32_8
  let c1_i32_9 : BitVec 32 := 1#32
  ⟨c0_i32_7, v16, c1_i32_9⟩
def k0_mult5 (k0_t4 : Fin k0_t4_loop.trips) : BitVec 32 :=
  let c0_i32_7 : BitVec 32 := 0#32
  let c1_i32_9 : BitVec 32 := 1#32
  let arg12 : BitVec 32 := Scf.iv c0_i32_7 c1_i32_9 k0_t4
  let c512_i32 : BitVec 32 := 512#32
  let v17 : BitVec 32 := Scalar.muli arg12 c512_i32
  v17
def k0_off15 (k0_t4 : Fin k0_t4_loop.trips) : Fin 3 → Nat :=
  let c0_i32_7 : BitVec 32 := 0#32
  let c1_i32_9 : BitVec 32 := 1#32
  let arg12 : BitVec 32 := Scf.iv c0_i32_7 c1_i32_9 k0_t4
  let v19 : Index := Scalar.indexCast arg12
  let c0_11 : Index := 0#32
  let c0_12 : Index := 0#32
  ![v19.toNat, 0, 0]
def k0_off16 (k0_t4 : Fin k0_t4_loop.trips) : Fin 2 → Nat :=
  let c0_i32_7 : BitVec 32 := 0#32
  let c1_i32_9 : BitVec 32 := 1#32
  let arg12 : BitVec 32 := Scf.iv c0_i32_7 c1_i32_9 k0_t4
  let c512_i32 : BitVec 32 := 512#32
  let v17 : BitVec 32 := Scalar.muli arg12 c512_i32
  let v18 : BitVec 32 := v17
  let v25 : Index := Scalar.indexCast v18
  let c0_14 : Index := 0#32
  ![v25.toNat, 0]
def k0_off17 (k0_t4 : Fin k0_t4_loop.trips) : Fin 3 → Nat :=
  let c0_i32_7 : BitVec 32 := 0#32
  let c1_i32_9 : BitVec 32 := 1#32
  let arg12 : BitVec 32 := Scf.iv c0_i32_7 c1_i32_9 k0_t4
  let v27 : Index := Scalar.indexCast arg12
  let c0_15 : Index := 0#32
  let c0_16 : Index := 0#32
  ![v27.toNat, 0, 0]
def k0_off18 (k0_t4 : Fin k0_t4_loop.trips) : Fin 2 → Nat :=
  let c0_i32_7 : BitVec 32 := 0#32
  let c1_i32_9 : BitVec 32 := 1#32
  let arg12 : BitVec 32 := Scf.iv c0_i32_7 c1_i32_9 k0_t4
  let c512_i32 : BitVec 32 := 512#32
  let v17 : BitVec 32 := Scalar.muli arg12 c512_i32
  let v18 : BitVec 32 := v17
  let v32 : Index := Scalar.indexCast v18
  let c0_17 : Index := 0#32
  ![v32.toNat, 0]
def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4096x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4096x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4096x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4096x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4096x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2x4096x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 2 → Memref sig .tc .vmem S4096x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4096x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MlaIdeal.lean ====
variable {F : FTy → Type} [FloatOps F] [Named F]
def κ : String → Option EReal := fun
  | "mla_scale" => some (((Real.sqrt 96)⁻¹ : ℝ) : EReal)
  | "mla_score_scale" => some (((Real.sqrt 96)⁻¹ * (Real.log 2)⁻¹ : ℝ) : EReal)
  | _ => none
-- ==== MlaReferenceIdeal.lean ====
abbrev S4096x8x96 : Shape := ⟨3, ![4096, 8, 96]⟩
abbrev S4096x8x64 : Shape := ⟨3, ![4096, 8, 64]⟩
abbrev S4096x512 : Shape := ⟨2, ![4096, 512]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S8x4096x1 : Shape := ⟨3, ![8, 4096, 1]⟩
abbrev S8x64x4096 : Shape := ⟨3, ![8, 64, 4096]⟩
abbrev S8x4096x96 : Shape := ⟨3, ![8, 4096, 96]⟩
abbrev S4096x8x128 : Shape := ⟨3, ![4096, 8, 128]⟩
abbrev S4096x1024 : Shape := ⟨2, ![4096, 1024]⟩

abbrev nBuf : Space → Nat
  | .hbm => 100
  | .vmem => 0
  | .smem => 0
  | _ => 0

abbrev bufTy : (tb : Table) → Fin (tcTables nBuf tb) → BufTy
  | .hbm, ⟨0, _⟩ => ⟨S4096x8x96, .f32⟩
  | .hbm, ⟨1, _⟩ => ⟨S4096x8x96, .f32⟩
  | .hbm, ⟨2, _⟩ => ⟨S4096x8x64, .f32⟩
  | .hbm, ⟨3, _⟩ => ⟨S4096x512, .f32⟩
  | .hbm, ⟨4, _⟩ => ⟨S8x4096x4096, .f32⟩
  | .hbm, ⟨5, _⟩ => ⟨S_, .f32⟩
  | .hbm, ⟨6, _⟩ => ⟨S_, .f32⟩
  | .hbm, ⟨7, _⟩ => ⟨S8x4096x4096, .f32⟩
  | .hbm, ⟨8, _⟩ => ⟨S8x4096x4096, .f32⟩
  | .hbm, ⟨9, _⟩ => ⟨S4096, .i32⟩
  | .hbm, ⟨10, _⟩ => ⟨S1x4096, .i32⟩
  | .hbm, ⟨11, _⟩ => ⟨S4096x1, .i32⟩
  | .hbm, ⟨12, _⟩ => ⟨S4096x4096, .i32⟩
  | .hbm, ⟨13, _⟩ => ⟨S4096x4096, .i32⟩
  | .hbm, ⟨14, _⟩ => ⟨S4096x4096, .i1⟩
  | .hbm, ⟨15, _⟩ => ⟨S_, .f32⟩
  | .hbm, ⟨16, _⟩ => ⟨S_, .f32⟩
  | .hbm, ⟨17, _⟩ => ⟨S8x4096x4096, .i1⟩
  | .hbm, ⟨18, _⟩ => ⟨S8x4096x4096, .f32⟩
  | .hbm, ⟨19, _⟩ => ⟨S8x4096x4096, .f32⟩
  | .hbm, ⟨20, _⟩ => ⟨S_, .f32⟩
  | .hbm, ⟨21, _⟩ => ⟨S8x4096x4096, .f32⟩
  | .hbm, ⟨22, _⟩ => ⟨S_, .f32⟩
  | .hbm, ⟨23, _⟩ => ⟨S8x4096, .f32⟩
  | .hbm, ⟨24, _⟩ => ⟨S8x4096x1, .f32⟩
  | .hbm, ⟨25, _⟩ => ⟨S8x4096x4096, .f32⟩
  | .hbm, ⟨26, _⟩ => ⟨S8x4096x4096, .i1⟩
  | .hbm, ⟨27, _⟩ => ⟨S8x4096x4096, .f32⟩
  | .hbm, ⟨28, _⟩ => ⟨S_, .f32⟩
  | .hbm, ⟨29, _⟩ => ⟨S8x4096, .f32⟩
  | .hbm, ⟨30, _⟩ => ⟨S_, .f32⟩
  | .hbm, ⟨31, _⟩ => ⟨S8x4096, .f32⟩
  | .hbm, ⟨32, _⟩ => ⟨S8x4096, .f32⟩
  | .hbm, ⟨33, _⟩ => ⟨S_, .f32⟩
  | .hbm, ⟨34, _⟩ => ⟨S8x4096, .f32⟩
  | .hbm, ⟨35, _⟩ => ⟨S8x4096, .i1⟩
  | .hbm, ⟨36, _⟩ => ⟨S_, .f32⟩
  | .hbm, ⟨37, _⟩ => ⟨S8x4096, .f32⟩
  | .hbm, ⟨38, _⟩ => ⟨S8x4096, .i1⟩
  | .hbm, ⟨39, _⟩ => ⟨S_, .f32⟩
  | .hbm, ⟨40, _⟩ => ⟨S8x4096, .f32⟩
  | .hbm, ⟨41, _⟩ => ⟨S_, .f32⟩
  | .hbm, ⟨42, _⟩ => ⟨S8x4096, .f32⟩
  | .hbm, ⟨43, _⟩ => ⟨S_, .f32⟩
  | .hbm, ⟨44, _⟩ => ⟨S8x4096, .f32⟩
  | .hbm, ⟨45, _⟩ => ⟨S8x4096, .f32⟩
  | .hbm, ⟨46, _⟩ => ⟨S8x4096, .f32⟩
  | .hbm, ⟨47, _⟩ => ⟨S8x4096x1, .f32⟩
  | .hbm, ⟨48, _⟩ => ⟨S8x4096x4096, .f32⟩
  | .hbm, ⟨49, _⟩ => ⟨S8x4096x4096, .f32⟩
  | .hbm, ⟨50, _⟩ => ⟨S8x4096x4096, .f32⟩
  | .hbm, ⟨51, _⟩ => ⟨S_, .f32⟩
  | .hbm, ⟨52, _⟩ => ⟨S8x4096, .f32⟩
  | .hbm, ⟨53, _⟩ => ⟨S8x4096x1, .f32⟩
  | .hbm, ⟨54, _⟩ => ⟨S8x4096x4096, .f32⟩
  | .hbm, ⟨55, _⟩ => ⟨S8x4096x4096, .f32⟩
  | .hbm, ⟨56, _⟩ => ⟨S8x4096x1, .f32⟩
  | .hbm, ⟨57, _⟩ => ⟨S_, .f32⟩
  | .hbm, ⟨58, _⟩ => ⟨S8x4096x1, .f32⟩
  | .hbm, ⟨59, _⟩ => ⟨S8x4096x1, .f32⟩
  | .hbm, ⟨60, _⟩ => ⟨S8x64x4096, .f32⟩
  | .hbm, ⟨61, _⟩ => ⟨S4096x8x64, .f32⟩
  | .hbm, ⟨62, _⟩ => ⟨S4096x8x64, .f32⟩
  | .hbm, ⟨63, _⟩ => ⟨S8x64x4096, .f32⟩
  | .hbm, ⟨64, _⟩ => ⟨S8x4096x4096, .f32⟩
  | .hbm, ⟨65, _⟩ => ⟨S8x64x4096, .f32⟩
  | .hbm, ⟨66, _⟩ => ⟨S4096x8x64, .f32⟩
  | .hbm, ⟨67, _⟩ => ⟨S8x4096x4096, .f32⟩
  | .hbm, ⟨68, _⟩ => ⟨S8x4096x4096, .f32⟩
  | .hbm, ⟨69, _⟩ => ⟨S8x4096x4096, .f32⟩
  | .hbm, ⟨70, _⟩ => ⟨S_, .f32⟩
  | .hbm, ⟨71, _⟩ => ⟨S8x4096, .f32⟩
  | .hbm, ⟨72, _⟩ => ⟨S8x4096x1, .f32⟩
  | .hbm, ⟨73, _⟩ => ⟨S8x4096x1, .f32⟩
  | .hbm, ⟨74, _⟩ => ⟨S8x4096x4096, .f32⟩
  | .hbm, ⟨75, _⟩ => ⟨S8x4096x4096, .f32⟩
  | .hbm, ⟨76, _⟩ => ⟨S_, .f32⟩
  | .hbm, ⟨77, _⟩ => ⟨S8x4096, .f32⟩
  | .hbm, ⟨78, _⟩ => ⟨S8x4096x4096, .f32⟩
  | .hbm, ⟨79, _⟩ => ⟨S8x4096x4096, .f32⟩
  | .hbm, ⟨80, _⟩ => ⟨S8x4096x4096, .f32⟩
  | .hbm, ⟨81, _⟩ => ⟨S_, .f32⟩
  | .hbm, ⟨82, _⟩ => ⟨S8x4096x4096, .f32⟩
  | .hbm, ⟨83, _⟩ => ⟨S8x4096x4096, .f32⟩
  | .hbm, ⟨84, _⟩ => ⟨S8x4096x4096, .f32⟩
  | .hbm, ⟨85, _⟩ => ⟨S8x4096x4096, .f32⟩
  | .hbm, ⟨86, _⟩ => ⟨S8x4096x96, .f32⟩
  | .hbm, ⟨87, _⟩ => ⟨S4096x8x96, .f32⟩
  | .hbm, ⟨88, _⟩ => ⟨S8x4096x96, .f32⟩
  | .hbm, ⟨89, _⟩ => ⟨S4096x8x96, .f32⟩
  | .hbm, ⟨90, _⟩ => ⟨S_, .i32⟩
  | .hbm, ⟨91, _⟩ => ⟨S_, .f32⟩
  | .hbm, ⟨92, _⟩ => ⟨S4096x8x128, .f32⟩
  | .hbm, ⟨93, _⟩ => ⟨S4096x1024, .f32⟩
  | .hbm, ⟨94, _⟩ => ⟨S_, .i32⟩
  | .hbm, ⟨95, _⟩ => ⟨S_, .f32⟩
  | .hbm, ⟨96, _⟩ => ⟨S4096x8x128, .f32⟩
  | .hbm, ⟨97, _⟩ => ⟨S4096x1024, .f32⟩
  | .hbm, ⟨98, _⟩ => ⟨S4096x512, .f32⟩
  | .hbm, ⟨99, _⟩ => ⟨S4096x512, .bf16⟩
  | _, _ => ⟨S4096x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_call0_v0 : Ref sig .tc := ⟨.hbm, 16, rfl⟩
abbrev main_v10_1 : Ref sig .tc := ⟨.hbm, 17, rfl⟩
abbrev main_call0_v2 : Ref sig .tc := ⟨.hbm, 18, rfl⟩
abbrev main_v10_0 : Ref sig .tc := ⟨.hbm, 19, rfl⟩
abbrev main_call0_cst : Ref sig .tc := ⟨.hbm, 20, rfl⟩
abbrev main_v10_2 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_cst_7 : Ref sig .tc := ⟨.hbm, 41, rfl⟩
abbrev main_v24 : Ref sig .tc := ⟨.hbm, 42, rfl⟩
abbrev main_cst_8 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_9 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_10 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_11 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_12 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_call1_cst : Ref sig .tc := ⟨.hbm, 81, rfl⟩
abbrev main_call1_v0 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_c : Ref sig .tc := ⟨.hbm, 90, rfl⟩
abbrev main_call2_v0 : Ref sig .tc := ⟨.hbm, 91, rfl⟩
abbrev main_v65 : Ref sig .tc := ⟨.hbm, 92, rfl⟩
abbrev main_v66 : Ref sig .tc := ⟨.hbm, 93, rfl⟩
abbrev main_c_13 : Ref sig .tc := ⟨.hbm, 94, rfl⟩
abbrev main_call3_v0 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩

abbrev nD : Nat := 1
abbrev τ : Topo := Topo.v7x

variable {F : FTy → Type} [FloatOps F]
-- ==== GateOdd.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 8
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S4096x1024, .bf16⟩
  | .hbm, ⟨5, _⟩ => ⟨S1024x1024, .bf16⟩
  | .hbm, ⟨6, _⟩ => ⟨S4096x1024, .f32⟩
  | .hbm, ⟨7, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GateOddReferenceIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v6 : Ref sig .tc := ⟨.hbm, 25, rfl⟩
abbrev main_v7 : Ref sig .tc := ⟨.hbm, 26, rfl⟩

abbrev nD : Nat := 1
abbrev τ : Topo := Topo.v7x

variable {F : FTy → Type} [FloatOps F]
-- ==== GateEven.lean ====
abbrev S4096x1024 : Shape := ⟨2, ![4096, 1024]⟩
abbrev S4096x512 : Shape := ⟨2, ![4096, 512]⟩
abbrev S1024x1024 : Shape := ⟨2, ![1024, 1024]⟩
abbrev S_ : Shape := ⟨0, ![]⟩
abbrev S4096x1536 : Shape := ⟨2, ![4096, 1536]⟩
abbrev S512x1024 : Shape := ⟨2, ![512, 1024]⟩
abbrev S512x512 : Shape := ⟨2, ![512, 512]⟩

abbrev nBuf : Space → Nat
  | .hbm => 13
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S4096x1024, .f32⟩
  | .hbm, ⟨4, _⟩ => ⟨S1024x1024, .f32⟩
  | .hbm, ⟨5, _⟩ => ⟨S_, .i32⟩
  | .hbm, ⟨6, _⟩ => ⟨S_, .f32⟩
  | .hbm, ⟨7, _⟩ => ⟨S4096x1536, .f32⟩
  | .hbm, ⟨8, _⟩ => ⟨S4096x1024, .bf16⟩
  | .hbm, ⟨9, _⟩ => ⟨S1024x1024, .bf16⟩
  | .hbm, ⟨10, _⟩ => ⟨S4096x512, .f32⟩
  | .hbm, ⟨11, _⟩ => ⟨S4096x512, .f32⟩
  | .hbm, ⟨12, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x1024, .f32⟩
  | .local _ .vmem, ⟨8, _⟩ => ⟨S512x1024, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x1024, .bf16⟩
  | .local _ .vmem, ⟨14, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== GateEvenReferenceIdeal.lean ====
abbrev S4096x1024 : Shape := ⟨2, ![4096, 1024]⟩
abbrev S4096x512 : Shape := ⟨2, ![4096, 512]⟩
abbrev S1024x1024 : Shape := ⟨2, ![1024, 1024]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x512, .f32⟩
  | .hbm, ⟨29, _⟩ => ⟨S4096x512, .f32⟩
  | .hbm, ⟨30, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v1_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v1_1 : Ref sig .tc := ⟨.hbm, 17, rfl⟩
abbrev main_v1_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩

abbrev nD : Nat := 1
abbrev τ : Topo := Topo.v7x

variable {F : FTy → Type} [FloatOps F]
-- ==== Rope.lean ====
abbrev S4096x8x96 : Shape := ⟨3, ![4096, 8, 96]⟩
abbrev S4096x8x64 : Shape := ⟨3, ![4096, 8, 64]⟩
abbrev S4096 : Shape := ⟨1, ![4096]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S4096x64 : Shape := ⟨2, ![4096, 64]⟩
abbrev S4096x32 : Shape := ⟨2, ![4096, 32]⟩
abbrev S4096x128 : Shape := ⟨2, ![4096, 128]⟩
abbrev S4096x8x128 : Shape := ⟨3, ![4096, 8, 128]⟩
abbrev S4096x1024 : Shape := ⟨2, ![4096, 1024]⟩
abbrev S4096x512 : Shape := ⟨2, ![4096, 512]⟩
abbrev S4096x1536 : Shape := ⟨2, ![4096, 1536]⟩
abbrev S512x1024 : Shape := ⟨2, ![512, 1024]⟩
abbrev S512x512 : Shape := ⟨2, ![512, 512]⟩
abbrev S512x128 : Shape := ⟨2, ![512, 128]⟩
abbrev S512x1536 : Shape := ⟨2, ![512, 1536]⟩

abbrev nBuf : Space → Nat
  | .hbm => 50
  | .vmem => 16
  | .smem => 0
  | _ => 0

abbrev bufTy : (tb : Table) → Fin (tcTables nBuf tb) → BufTy
  | .hbm, ⟨0, _⟩ => ⟨S4096x8x96, .f32⟩
  | .hbm, ⟨1, _⟩ => ⟨S4096x8x96, .f32⟩
  | .hbm, ⟨2, _⟩ => ⟨S4096x8x64, .f32⟩
  | .hbm, ⟨3, _⟩ => ⟨S4096, .i32⟩
  | .hbm, ⟨4, _⟩ => ⟨S16, .f32⟩
  | .hbm, ⟨5, _⟩ => ⟨S_, .f32⟩
  | .hbm, ⟨6, _⟩ => ⟨S16, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S_, .f32⟩
  | .hbm, ⟨18, _⟩ => ⟨S16, .f32⟩
  | .hbm, ⟨19, _⟩ => ⟨S16, .f32⟩
  | .hbm, ⟨20, _⟩ => ⟨S4096, .f32⟩
  | .hbm, ⟨21, _⟩ => ⟨S4096x1, .f32⟩
  | .hbm, ⟨22, _⟩ => ⟨S1x16, .f32⟩
  | .hbm, ⟨23, _⟩ => ⟨S4096x16, .f32⟩
  | .hbm, ⟨24, _⟩ => ⟨S4096x16, .f32⟩
  | .hbm, ⟨25, _⟩ => ⟨S4096x16, .f32⟩
  | .hbm, ⟨26, _⟩ => ⟨S4096x16, .f32⟩
  | .hbm, ⟨27, _⟩ => ⟨S4096x16, .f32⟩
  | .hbm, ⟨28, _⟩ => ⟨S_, .f32⟩
  | .hbm, ⟨29, _⟩ => ⟨S4096x64, .f32⟩
  | .hbm, ⟨30, _⟩ => ⟨S_, .f32⟩
  | .hbm, ⟨31, _⟩ => ⟨S4096x64, .f32⟩
  | .hbm, ⟨32, _⟩ => ⟨S4096x32, .f32⟩
  | .hbm, ⟨33, _⟩ => ⟨S4096x128, .f32⟩
  | .hbm, ⟨34, _⟩ => ⟨S4096x16, .f32⟩
  | .hbm, ⟨35, _⟩ => ⟨S4096x32, .f32⟩
  | .hbm, ⟨36, _⟩ => ⟨S4096x128, .f32⟩
  | .hbm, ⟨37, _⟩ => ⟨S_, .i32⟩
  | .hbm, ⟨38, _⟩ => ⟨S_, .f32⟩
  | .hbm, ⟨39, _⟩ => ⟨S4096x8x128, .f32⟩
  | .hbm, ⟨40, _⟩ => ⟨S4096x1024, .f32⟩
  | .hbm, ⟨41, _⟩ => ⟨S_, .i32⟩
  | .hbm, ⟨42, _⟩ => ⟨S_, .f32⟩
  | .hbm, ⟨43, _⟩ => ⟨S4096x8x128, .f32⟩
  | .hbm, ⟨44, _⟩ => ⟨S4096x1024, .f32⟩
  | .hbm, ⟨45, _⟩ => ⟨S4096x512, .f32⟩
  | .hbm, ⟨46, _⟩ => ⟨S4096x512, .bf16⟩
  | .hbm, ⟨47, _⟩ => ⟨S4096x1024, .bf16⟩
  | .hbm, ⟨48, _⟩ => ⟨S4096x1536, .bf16⟩
  | .hbm, ⟨49, _⟩ => ⟨S4096x128, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x512, .bf16⟩
  | .local _ .vmem, ⟨5, _⟩ => ⟨S512x512, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x1024, .bf16⟩
  | .local _ .vmem, ⟨11, _⟩ => ⟨S512x1024, .bf16⟩
  | .local _ .vmem, ⟨12, _⟩ => ⟨S512x1536, .bf16⟩
  | .local _ .vmem, ⟨13, _⟩ => ⟨S512x1536, .bf16⟩
  | .local _ .vmem, ⟨14, _⟩ => ⟨S512x128, .bf16⟩
  | .local _ .vmem, ⟨15, _⟩ => ⟨S512x128, .bf16⟩
  | _, _ => ⟨S4096x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c : Ref sig .tc := ⟨.hbm, 37, rfl⟩
abbrev main_call0_v0 : Ref sig .tc := ⟨.hbm, 38, rfl⟩
abbrev main_v26 : Ref sig .tc := ⟨.hbm, 39, rfl⟩
abbrev main_v27 : Ref sig .tc := ⟨.hbm, 40, rfl⟩
abbrev main_c_6 : Ref sig .tc := ⟨.hbm, 41, rfl⟩
abbrev main_call1_v0 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32_0 : Ref sig .tc := ⟨.hbm, 47, rfl⟩
abbrev main_v32_1 : Ref sig .tc := ⟨.hbm, 48, rfl⟩
abbrev main_v32_2 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RopeReferenceIdeal.lean ====
abbrev S4096x8x96 : Shape := ⟨3, ![4096, 8, 96]⟩
abbrev S4096x8x64 : Shape := ⟨3, ![4096, 8, 64]⟩
abbrev S4096 : Shape := ⟨1, ![4096]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S4096x32 : Shape := ⟨2, ![4096, 32]⟩
abbrev S4096x8x32 : Shape := ⟨3, ![4096, 8, 32]⟩
abbrev S4096x1x16 : Shape := ⟨3, ![4096, 1, 16]⟩
abbrev S4096x8x16 : Shape := ⟨3, ![4096, 8, 16]⟩
abbrev S4096x1x32 : Shape := ⟨3, ![4096, 1, 32]⟩
abbrev S4096x8x128 : Shape := ⟨3, ![4096, 8, 128]⟩
abbrev S4096x1024 : Shape := ⟨2, ![4096, 1024]⟩
abbrev S4096x512 : Shape := ⟨2, ![4096, 512]⟩
abbrev S4096x1536 : Shape := ⟨2, ![4096, 1536]⟩
abbrev S4096x128 : Shape := ⟨2, ![4096, 128]⟩

abbrev nBuf : Space → Nat
  | .hbm => 123
  | .vmem => 0
  | .smem => 0
  | _ => 0

abbrev bufTy : (tb : Table) → Fin (tcTables nBuf tb) → BufTy
  | .hbm, ⟨0, _⟩ => ⟨S4096x8x96, .f32⟩
  | .hbm, ⟨1, _⟩ => ⟨S4096x8x96, .f32⟩
  | .hbm, ⟨2, _⟩ => ⟨S4096x8x64, .f32⟩
  | .hbm, ⟨3, _⟩ => ⟨S4096, .i32⟩
  | .hbm, ⟨4, _⟩ => ⟨S16, .f32⟩
  | .hbm, ⟨5, _⟩ => ⟨S_, .f32⟩
  | .hbm, ⟨6, _⟩ => ⟨S16, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S_, .f32⟩
  | .hbm, ⟨18, _⟩ => ⟨S16, .f32⟩
  | .hbm, ⟨19, _⟩ => ⟨S16, .f32⟩
  | .hbm, ⟨20, _⟩ => ⟨S4096, .f32⟩
  | .hbm, ⟨21, _⟩ => ⟨S4096x1, .f32⟩
  | .hbm, ⟨22, _⟩ => ⟨S1x16, .f32⟩
  | .hbm, ⟨23, _⟩ => ⟨S4096x16, .f32⟩
  | .hbm, ⟨24, _⟩ => ⟨S4096x16, .f32⟩
  | .hbm, ⟨25, _⟩ => ⟨S4096x16, .f32⟩
  | .hbm, ⟨26, _⟩ => ⟨S_, .f32⟩
  | .hbm, ⟨27, _⟩ => ⟨S4096x8x96, .f32⟩
  | .hbm, ⟨28, _⟩ => ⟨S_, .f32⟩
  | .hbm, ⟨29, _⟩ => ⟨S4096x8x64, .f32⟩
  | .hbm, ⟨30, _⟩ => ⟨S_, .f32⟩
  | .hbm, ⟨31, _⟩ => ⟨S4096x32, .f32⟩
  | .hbm, ⟨32, _⟩ => ⟨S_, .f32⟩
  | .hbm, ⟨33, _⟩ => ⟨S4096x8x64, .f32⟩
  | .hbm, ⟨34, _⟩ => ⟨S4096x8x64, .f32⟩
  | .hbm, ⟨35, _⟩ => ⟨S4096x8x32, .f32⟩
  | .hbm, ⟨36, _⟩ => ⟨S4096x1x16, .f32⟩
  | .hbm, ⟨37, _⟩ => ⟨S4096x1x16, .f32⟩
  | .hbm, ⟨38, _⟩ => ⟨S4096x1x16, .f32⟩
  | .hbm, ⟨39, _⟩ => ⟨S4096x8x16, .f32⟩
  | .hbm, ⟨40, _⟩ => ⟨S4096x8x16, .f32⟩
  | .hbm, ⟨41, _⟩ => ⟨S4096x8x16, .f32⟩
  | .hbm, ⟨42, _⟩ => ⟨S4096x8x16, .f32⟩
  | .hbm, ⟨43, _⟩ => ⟨S4096x8x16, .f32⟩
  | .hbm, ⟨44, _⟩ => ⟨S4096x8x16, .f32⟩
  | .hbm, ⟨45, _⟩ => ⟨S4096x8x16, .f32⟩
  | .hbm, ⟨46, _⟩ => ⟨S4096x8x16, .f32⟩
  | .hbm, ⟨47, _⟩ => ⟨S4096x8x16, .f32⟩
  | .hbm, ⟨48, _⟩ => ⟨S4096x8x16, .f32⟩
  | .hbm, ⟨49, _⟩ => ⟨S4096x8x16, .f32⟩
  | .hbm, ⟨50, _⟩ => ⟨S4096x8x16, .f32⟩
  | .hbm, ⟨51, _⟩ => ⟨S4096x8x32, .f32⟩
  | .hbm, ⟨52, _⟩ => ⟨S4096x8x96, .f32⟩
  | .hbm, ⟨53, _⟩ => ⟨S4096x16, .f32⟩
  | .hbm, ⟨54, _⟩ => ⟨S4096x16, .f32⟩
  | .hbm, ⟨55, _⟩ => ⟨S4096x16, .f32⟩
  | .hbm, ⟨56, _⟩ => ⟨S4096x16, .f32⟩
  | .hbm, ⟨57, _⟩ => ⟨S4096x16, .f32⟩
  | .hbm, ⟨58, _⟩ => ⟨S4096x16, .f32⟩
  | .hbm, ⟨59, _⟩ => ⟨S4096x16, .f32⟩
  | .hbm, ⟨60, _⟩ => ⟨S4096x16, .f32⟩
  | .hbm, ⟨61, _⟩ => ⟨S4096x16, .f32⟩
  | .hbm, ⟨62, _⟩ => ⟨S4096x16, .f32⟩
  | .hbm, ⟨63, _⟩ => ⟨S4096x32, .f32⟩
  | .hbm, ⟨64, _⟩ => ⟨S4096x1x32, .f32⟩
  | .hbm, ⟨65, _⟩ => ⟨S4096x8x32, .f32⟩
  | .hbm, ⟨66, _⟩ => ⟨S4096x8x96, .f32⟩
  | .hbm, ⟨67, _⟩ => ⟨S4096x8x64, .f32⟩
  | .hbm, ⟨68, _⟩ => ⟨S4096x8x32, .f32⟩
  | .hbm, ⟨69, _⟩ => ⟨S_, .f32⟩
  | .hbm, ⟨70, _⟩ => ⟨S4096x32, .f32⟩
  | .hbm, ⟨71, _⟩ => ⟨S4096x1x32, .f32⟩
  | .hbm, ⟨72, _⟩ => ⟨S_, .f32⟩
  | .hbm, ⟨73, _⟩ => ⟨S4096x32, .f32⟩
  | .hbm, ⟨74, _⟩ => ⟨S4096x16, .f32⟩
  | .hbm, ⟨75, _⟩ => ⟨S4096x16, .f32⟩
  | .hbm, ⟨76, _⟩ => ⟨S4096x16, .f32⟩
  | .hbm, ⟨77, _⟩ => ⟨S4096x16, .f32⟩
  | .hbm, ⟨78, _⟩ => ⟨S4096x16, .f32⟩
  | .hbm, ⟨79, _⟩ => ⟨S4096x16, .f32⟩
  | .hbm, ⟨80, _⟩ => ⟨S4096x16, .f32⟩
  | .hbm, ⟨81, _⟩ => ⟨S4096x16, .f32⟩
  | .hbm, ⟨82, _⟩ => ⟨S4096x16, .f32⟩
  | .hbm, ⟨83, _⟩ => ⟨S4096x32, .f32⟩
  | .hbm, ⟨84, _⟩ => ⟨S4096x8x64, .f32⟩
  | .hbm, ⟨85, _⟩ => ⟨S4096x8x32, .f32⟩
  | .hbm, ⟨86, _⟩ => ⟨S4096x8x16, .f32⟩
  | .hbm, ⟨87, _⟩ => ⟨S4096x8x16, .f32⟩
  | .hbm, ⟨88, _⟩ => ⟨S4096x8x16, .f32⟩
  | .hbm, ⟨89, _⟩ => ⟨S4096x8x16, .f32⟩
  | .hbm, ⟨90, _⟩ => ⟨S4096x8x16, .f32⟩
  | .hbm, ⟨91, _⟩ => ⟨S4096x8x16, .f32⟩
  | .hbm, ⟨92, _⟩ => ⟨S4096x8x16, .f32⟩
  | .hbm, ⟨93, _⟩ => ⟨S4096x8x16, .f32⟩
  | .hbm, ⟨94, _⟩ => ⟨S4096x8x16, .f32⟩
  | .hbm, ⟨95, _⟩ => ⟨S4096x8x16, .f32⟩
  | .hbm, ⟨96, _⟩ => ⟨S4096x8x16, .f32⟩
  | .hbm, ⟨97, _⟩ => ⟨S4096x8x16, .f32⟩
  | .hbm, ⟨98, _⟩ => ⟨S4096x8x16, .f32⟩
  | .hbm, ⟨99, _⟩ => ⟨S4096x8x32, .f32⟩
  | .hbm, ⟨100, _⟩ => ⟨S_, .f32⟩
  | .hbm, ⟨101, _⟩ => ⟨S4096x8x96, .f32⟩
  | .hbm, ⟨102, _⟩ => ⟨S_, .f32⟩
  | .hbm, ⟨103, _⟩ => ⟨S4096x8x96, .f32⟩
  | .hbm, ⟨104, _⟩ => ⟨S4096x8x96, .f32⟩
  | .hbm, ⟨105, _⟩ => ⟨S4096x8x32, .f32⟩
  | .hbm, ⟨106, _⟩ => ⟨S4096x8x96, .f32⟩
  | .hbm, ⟨107, _⟩ => ⟨S_, .i32⟩
  | .hbm, ⟨108, _⟩ => ⟨S_, .f32⟩
  | .hbm, ⟨109, _⟩ => ⟨S4096x8x128, .f32⟩
  | .hbm, ⟨110, _⟩ => ⟨S4096x1024, .f32⟩
  | .hbm, ⟨111, _⟩ => ⟨S_, .i32⟩
  | .hbm, ⟨112, _⟩ => ⟨S_, .f32⟩
  | .hbm, ⟨113, _⟩ => ⟨S4096x8x128, .f32⟩
  | .hbm, ⟨114, _⟩ => ⟨S4096x1024, .f32⟩
  | .hbm, ⟨115, _⟩ => ⟨S4096x512, .f32⟩
  | .hbm, ⟨116, _⟩ => ⟨S4096x1536, .f32⟩
  | .hbm, ⟨117, _⟩ => ⟨S_, .i32⟩
  | .hbm, ⟨118, _⟩ => ⟨S_, .f32⟩
  | .hbm, ⟨119, _⟩ => ⟨S4096x128, .f32⟩
  | .hbm, ⟨120, _⟩ => ⟨S4096x1024, .bf16⟩
  | .hbm, ⟨121, _⟩ => ⟨S4096x1536, .bf16⟩
  | .hbm, ⟨122, _⟩ => ⟨S4096x128, .bf16⟩
  | _, _ => ⟨S4096x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_cst_8 : Ref sig .tc := ⟨.hbm, 69, rfl⟩
abbrev main_v56 : Ref sig .tc := ⟨.hbm, 70, rfl⟩
abbrev main_v57 : Ref sig .tc := ⟨.hbm, 71, rfl⟩
abbrev main_cst_9 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_cst_10 : Ref sig .tc := ⟨.hbm, 100, rfl⟩
abbrev main_v85 : Ref sig .tc := ⟨.hbm, 101, rfl⟩
abbrev main_cst_11 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_c : Ref sig .tc := ⟨.hbm, 107, rfl⟩
abbrev main_call0_v0 : Ref sig .tc := ⟨.hbm, 108, rfl⟩
abbrev main_v90 : Ref sig .tc := ⟨.hbm, 109, rfl⟩
abbrev main_v91 : Ref sig .tc := ⟨.hbm, 110, rfl⟩
abbrev main_c_12 : Ref sig .tc := ⟨.hbm, 111, rfl⟩
abbrev main_call1_v0 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_c_13 : Ref sig .tc := ⟨.hbm, 117, rfl⟩
abbrev main_call2_v0 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩

abbrev nD : Nat := 1
abbrev τ : Topo := Topo.v7x

variable {F : FTy → Type} [FloatOps F]
-- ==== NormQ.lean ====
abbrev S4096x256 : Shape := ⟨2, ![4096, 256]⟩
abbrev S1x256 : Shape := ⟨2, ![1, 256]⟩
abbrev S_ : Shape := ⟨0, ![]⟩
abbrev S4096x1536 : Shape := ⟨2, ![4096, 1536]⟩
abbrev S512x256 : Shape := ⟨2, ![512, 256]⟩
abbrev S512 : Shape := ⟨1, ![512]⟩
abbrev S512x1 : Shape := ⟨2, ![512, 1]⟩
abbrev S256 : Shape := ⟨1, ![256]⟩

abbrev nBuf : Space → Nat
  | .hbm => 8
  | .vmem => 8
  | .smem => 0
  | _ => 0

abbrev bufTy : (tb : Table) → Fin (tcTables nBuf tb) → BufTy
  | .hbm, ⟨0, _⟩ => ⟨S4096x256, .f32⟩
  | .hbm, ⟨1, _⟩ => ⟨S1x256, .f32⟩
  | .hbm, ⟨2, _⟩ => ⟨S4096x256, .f32⟩
  | .hbm, ⟨3, _⟩ => ⟨S_, .i32⟩
  | .hbm, ⟨4, _⟩ => ⟨S_, .f32⟩
  | .hbm, ⟨5, _⟩ => ⟨S4096x1536, .f32⟩
  | .hbm, ⟨6, _⟩ => ⟨S4096x256, .bf16⟩
  | .hbm, ⟨7, _⟩ => ⟨S1x256, .f32⟩
  | .local _ .vmem, ⟨0, _⟩ => ⟨S512x256, .f32⟩
  | .local _ .vmem, ⟨1, _⟩ => ⟨S512x256, .f32⟩
  | .local _ .vmem, ⟨2, _⟩ => ⟨S1x256, .f32⟩
  | .local _ .vmem, ⟨3, _⟩ => ⟨S512x256, .f32⟩
  | .local _ .vmem, ⟨4, _⟩ => ⟨S512x256, .f32⟩
  | .local _ .vmem, ⟨5, _⟩ => ⟨S512x256, .bf16⟩
  | .local _ .vmem, ⟨6, _⟩ => ⟨S512x256, .bf16⟩
  | .local _ .vmem, ⟨7, _⟩ => ⟨S1x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== NormQReferenceIdeal.lean ====
abbrev S4096x256 : Shape := ⟨2, ![4096, 256]⟩
abbrev S1x256 : Shape := ⟨2, ![1, 256]⟩
abbrev S256 : Shape := ⟨1, ![256]⟩
abbrev S_ : Shape := ⟨0, ![]⟩
abbrev S4096 : Shape := ⟨1, ![4096]⟩
abbrev S4096x1 : Shape := ⟨2, ![4096, 1]⟩

abbrev nBuf : Space → Nat
  | .hbm => 51
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S1x256, .f32⟩
  | .hbm, ⟨2, _⟩ => ⟨S4096x256, .f32⟩
  | .hbm, ⟨3, _⟩ => ⟨S256, .f32⟩
  | .hbm, ⟨4, _⟩ => ⟨S4096x256, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x256, .f32⟩
  | .hbm, ⟨20, _⟩ => ⟨S4096x256, .f32⟩
  | .hbm, ⟨21, _⟩ => ⟨S1x256, .f32⟩
  | .hbm, ⟨22, _⟩ => ⟨S4096x256, .f32⟩
  | .hbm, ⟨23, _⟩ => ⟨S4096x256, .f32⟩
  | .hbm, ⟨24, _⟩ => ⟨S4096x256, .f32⟩
  | .hbm, ⟨25, _⟩ => ⟨S_, .f32⟩
  | .hbm, ⟨26, _⟩ => ⟨S256, .f32⟩
  | .hbm, ⟨27, _⟩ => ⟨S1x256, .f32⟩
  | .hbm, ⟨28, _⟩ => ⟨S4096x256, .f32⟩
  | .hbm, ⟨29, _⟩ => ⟨S4096x256, .f32⟩
  | .hbm, ⟨30, _⟩ => ⟨S_, .f32⟩
  | .hbm, ⟨31, _⟩ => ⟨S256, .f32⟩
  | .hbm, ⟨32, _⟩ => ⟨S4096x256, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x256, .f32⟩
  | .hbm, ⟨37, _⟩ => ⟨S4096x256, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096, .f32⟩
  | .hbm, ⟨44, _⟩ => ⟨S4096x256, .f32⟩
  | .hbm, ⟨45, _⟩ => ⟨S4096x256, .f32⟩
  | .hbm, ⟨46, _⟩ => ⟨S4096x256, .f32⟩
  | .hbm, ⟨47, _⟩ => ⟨S4096x256, .f32⟩
  | .hbm, ⟨48, _⟩ => ⟨S4096x256, .f32⟩
  | .hbm, ⟨49, _⟩ => ⟨S1x256, .f32⟩
  | .hbm, ⟨50, _⟩ => ⟨S4096x256, .bf16⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_6 : Ref sig .tc := ⟨.hbm, 39, rfl⟩
abbrev main_v29 : Ref sig .tc := ⟨.hbm, 40, rfl⟩
abbrev main_v30 : Ref sig .tc := ⟨.hbm, 41, rfl⟩
abbrev main_cst_7 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]
-- ==== NormKv.lean ====
abbrev S4096x128 : Shape := ⟨2, ![4096, 128]⟩
abbrev S1x128 : Shape := ⟨2, ![1, 128]⟩
abbrev S_ : Shape := ⟨0, ![]⟩
abbrev S4096x1536 : Shape := ⟨2, ![4096, 1536]⟩
abbrev S512x128 : Shape := ⟨2, ![512, 128]⟩
abbrev S512 : Shape := ⟨1, ![512]⟩
abbrev S512x1 : Shape := ⟨2, ![512, 1]⟩
abbrev S128 : Shape := ⟨1, ![128]⟩

abbrev nBuf : Space → Nat
  | .hbm => 8
  | .vmem => 8
  | .smem => 0
  | _ => 0

abbrev bufTy : (tb : Table) → Fin (tcTables nBuf tb) → BufTy
  | .hbm, ⟨0, _⟩ => ⟨S4096x128, .f32⟩
  | .hbm, ⟨1, _⟩ => ⟨S1x128, .f32⟩
  | .hbm, ⟨2, _⟩ => ⟨S4096x128, .f32⟩
  | .hbm, ⟨3, _⟩ => ⟨S_, .i32⟩
  | .hbm, ⟨4, _⟩ => ⟨S_, .f32⟩
  | .hbm, ⟨5, _⟩ => ⟨S4096x1536, .f32⟩
  | .hbm, ⟨6, _⟩ => ⟨S4096x128, .bf16⟩
  | .hbm, ⟨7, _⟩ => ⟨S1x128, .f32⟩
  | .local _ .vmem, ⟨0, _⟩ => ⟨S512x128, .f32⟩
  | .local _ .vmem, ⟨1, _⟩ => ⟨S512x128, .f32⟩
  | .local _ .vmem, ⟨2, _⟩ => ⟨S1x128, .f32⟩
  | .local _ .vmem, ⟨3, _⟩ => ⟨S512x128, .f32⟩
  | .local _ .vmem, ⟨4, _⟩ => ⟨S512x128, .f32⟩
  | .local _ .vmem, ⟨5, _⟩ => ⟨S512x128, .bf16⟩
  | .local _ .vmem, ⟨6, _⟩ => ⟨S512x128, .bf16⟩
  | .local _ .vmem, ⟨7, _⟩ => ⟨S1x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== NormKvReferenceIdeal.lean ====
abbrev S4096x128 : Shape := ⟨2, ![4096, 128]⟩
abbrev S1x128 : Shape := ⟨2, ![1, 128]⟩
abbrev S128 : Shape := ⟨1, ![128]⟩
abbrev S_ : Shape := ⟨0, ![]⟩
abbrev S4096 : Shape := ⟨1, ![4096]⟩
abbrev S4096x1 : Shape := ⟨2, ![4096, 1]⟩

abbrev nBuf : Space → Nat
  | .hbm => 51
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S1x128, .f32⟩
  | .hbm, ⟨2, _⟩ => ⟨S4096x128, .f32⟩
  | .hbm, ⟨3, _⟩ => ⟨S128, .f32⟩
  | .hbm, ⟨4, _⟩ => ⟨S4096x128, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x128, .f32⟩
  | .hbm, ⟨20, _⟩ => ⟨S4096x128, .f32⟩
  | .hbm, ⟨21, _⟩ => ⟨S1x128, .f32⟩
  | .hbm, ⟨22, _⟩ => ⟨S4096x128, .f32⟩
  | .hbm, ⟨23, _⟩ => ⟨S4096x128, .f32⟩
  | .hbm, ⟨24, _⟩ => ⟨S4096x128, .f32⟩
  | .hbm, ⟨25, _⟩ => ⟨S_, .f32⟩
  | .hbm, ⟨26, _⟩ => ⟨S128, .f32⟩
  | .hbm, ⟨27, _⟩ => ⟨S1x128, .f32⟩
  | .hbm, ⟨28, _⟩ => ⟨S4096x128, .f32⟩
  | .hbm, ⟨29, _⟩ => ⟨S4096x128, .f32⟩
  | .hbm, ⟨30, _⟩ => ⟨S_, .f32⟩
  | .hbm, ⟨31, _⟩ => ⟨S128, .f32⟩
  | .hbm, ⟨32, _⟩ => ⟨S4096x128, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x128, .f32⟩
  | .hbm, ⟨37, _⟩ => ⟨S4096x128, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096, .f32⟩
  | .hbm, ⟨44, _⟩ => ⟨S4096x128, .f32⟩
  | .hbm, ⟨45, _⟩ => ⟨S4096x128, .f32⟩
  | .hbm, ⟨46, _⟩ => ⟨S4096x128, .f32⟩
  | .hbm, ⟨47, _⟩ => ⟨S4096x128, .f32⟩
  | .hbm, ⟨48, _⟩ => ⟨S4096x128, .f32⟩
  | .hbm, ⟨49, _⟩ => ⟨S1x128, .f32⟩
  | .hbm, ⟨50, _⟩ => ⟨S4096x128, .bf16⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_6 : Ref sig .tc := ⟨.hbm, 39, rfl⟩
abbrev main_v29 : Ref sig .tc := ⟨.hbm, 40, rfl⟩
abbrev main_v30 : Ref sig .tc := ⟨.hbm, 41, rfl⟩
abbrev main_cst_7 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]
-- ==== InOdd.lean ====
abbrev S4096x4112 : Shape := ⟨2, ![4096, 4112]⟩
abbrev S4096x1024 : Shape := ⟨2, ![4096, 1024]⟩
abbrev S1x1024 : Shape := ⟨2, ![1, 1024]⟩
abbrev S1024x4112 : Shape := ⟨2, ![1024, 4112]⟩
abbrev S4112x1024 : Shape := ⟨2, ![4112, 1024]⟩
abbrev S1x4096x1024 : Shape := ⟨3, ![1, 4096, 1024]⟩
abbrev S3x4096x1024 : Shape := ⟨3, ![3, 4096, 1024]⟩
abbrev S4096x16 : Shape := ⟨2, ![4096, 16]⟩
abbrev S_ : Shape := ⟨0, ![]⟩
abbrev S4096x128 : Shape := ⟨2, ![4096, 128]⟩
abbrev S3072x1024 : Shape := ⟨2, ![3072, 1024]⟩
abbrev S1024x1024 : Shape := ⟨2, ![1024, 1024]⟩
abbrev S16x1024 : Shape := ⟨2, ![16, 1024]⟩
abbrev S128x1024 : Shape := ⟨2, ![128, 1024]⟩
abbrev S1x512x1024 : Shape := ⟨3, ![1, 512, 1024]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩
abbrev S1024 : Shape := ⟨1, ![1024]⟩

abbrev nBuf : Space → Nat
  | .hbm => 30
  | .vmem => 25
  | .smem => 0
  | _ => 0

abbrev bufTy : (tb : Table) → Fin (tcTables nBuf tb) → BufTy
  | .hbm, ⟨0, _⟩ => ⟨S4096x4112, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S1024x4112, .f32⟩
  | .hbm, ⟨5, _⟩ => ⟨S4096x4112, .bf16⟩
  | .hbm, ⟨6, _⟩ => ⟨S1024x4112, .bf16⟩
  | .hbm, ⟨7, _⟩ => ⟨S4112x1024, .bf16⟩
  | .hbm, ⟨8, _⟩ => ⟨S4096x1024, .bf16⟩
  | .hbm, ⟨9, _⟩ => ⟨S4096x1024, .bf16⟩
  | .hbm, ⟨10, _⟩ => ⟨S4096x1024, .bf16⟩
  | .hbm, ⟨11, _⟩ => ⟨S1x4096x1024, .bf16⟩
  | .hbm, ⟨12, _⟩ => ⟨S1x4096x1024, .bf16⟩
  | .hbm, ⟨13, _⟩ => ⟨S1x4096x1024, .bf16⟩
  | .hbm, ⟨14, _⟩ => ⟨S3x4096x1024, .bf16⟩
  | .hbm, ⟨15, _⟩ => ⟨S4096x1024, .bf16⟩
  | .hbm, ⟨16, _⟩ => ⟨S4096x16, .bf16⟩
  | .hbm, ⟨17, _⟩ => ⟨S_, .i32⟩
  | .hbm, ⟨18, _⟩ => ⟨S_, .bf16⟩
  | .hbm, ⟨19, _⟩ => ⟨S4096x128, .bf16⟩
  | .hbm, ⟨20, _⟩ => ⟨S3072x1024, .bf16⟩
  | .hbm, ⟨21, _⟩ => ⟨S1024x1024, .bf16⟩
  | .hbm, ⟨22, _⟩ => ⟨S4096x1024, .bf16⟩
  | .hbm, ⟨23, _⟩ => ⟨S16x1024, .bf16⟩
  | .hbm, ⟨24, _⟩ => ⟨S_, .i32⟩
  | .hbm, ⟨25, _⟩ => ⟨S_, .bf16⟩
  | .hbm, ⟨26, _⟩ => ⟨S128x1024, .bf16⟩
  | .hbm, ⟨27, _⟩ => ⟨S4096x1024, .f32⟩
  | .hbm, ⟨28, _⟩ => ⟨S1x1024, .f32⟩
  | .hbm, ⟨29, _⟩ => ⟨S4096x1024, .bf16⟩
  | .local _ .vmem, ⟨0, _⟩ => ⟨S1x512x1024, .bf16⟩
  | .local _ .vmem, ⟨1, _⟩ => ⟨S1x512x1024, .bf16⟩
  | .local _ .vmem, ⟨2, _⟩ => ⟨S1024x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S1024x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1024x1024, .bf16⟩
  | .local _ .vmem, ⟨9, _⟩ => ⟨S512x1024, .bf16⟩
  | .local _ .vmem, ⟨10, _⟩ => ⟨S512x1024, .bf16⟩
  | .local _ .vmem, ⟨11, _⟩ => ⟨S1024x1024, .bf16⟩
  | .local _ .vmem, ⟨12, _⟩ => ⟨S512x128, .bf16⟩
  | .local _ .vmem, ⟨13, _⟩ => ⟨S512x128, .bf16⟩
  | .local _ .vmem, ⟨14, _⟩ => ⟨S128x1024, .bf16⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S1x1024, .f32⟩
  | .local _ .vmem, ⟨20, _⟩ => ⟨S512x1024, .f32⟩
  | .local _ .vmem, ⟨21, _⟩ => ⟨S512x1024, .f32⟩
  | .local _ .vmem, ⟨22, _⟩ => ⟨S1x1024, .f32⟩
  | .local _ .vmem, ⟨23, _⟩ => ⟨S512x1024, .bf16⟩
  | .local _ .vmem, ⟨24, _⟩ => ⟨S512x1024, .bf16⟩
  | _, _ => ⟨S4096x4112, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_call0_v0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_0 : Ref sig .tc := ⟨.hbm, 24, rfl⟩
abbrev main_call1_v0 : Ref sig .tc := ⟨.hbm, 25, rfl⟩
abbrev main_v17 : Ref sig .tc := ⟨.hbm, 26, rfl⟩
abbrev main_v18_0 : Ref sig .tc := ⟨.hbm, 27, rfl⟩
abbrev main_v18_1 : Ref sig .tc := ⟨.hbm, 28, rfl⟩
abbrev main_v18_2 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg15_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem13_0 : DmaSem sig := 20
abbrev cc0_sem13_1 : DmaSem sig := 21
abbrev cc0_sem14_0 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_4 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_5 (i : grid0.Coords) : Fin 2 → Nat :=
  let arg0 : BitVec 32 := BitVec.ofNat 32 (i 0).val
  let c2_i32 : BitVec 32 := 2#32
  let c0_i32 : BitVec 32 := 0#32
  let c0_i32_0 : BitVec 32 := 0#32
  ![c2_i32.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c3_i32 : BitVec 32 := 3#32
  let c0_i32 : BitVec 32 := 0#32
  let c0_i32_0 : BitVec 32 := 0#32
  ![c3_i32.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S128x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== InOddReferenceIdeal.lean ====
abbrev S4096x4112 : Shape := ⟨2, ![4096, 4112]⟩
abbrev S4096x1024 : Shape := ⟨2, ![4096, 1024]⟩
abbrev S1x1024 : Shape := ⟨2, ![1, 1024]⟩
abbrev S1024x4112 : Shape := ⟨2, ![1024, 4112]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 56
  | .vmem => 0
  | .smem => 0
  | _ => 0

abbrev bufTy : (tb : Table) → Fin (tcTables nBuf tb) → BufTy
  | .hbm, ⟨0, _⟩ => ⟨S4096x4112, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S1024x4112, .f32⟩
  | .hbm, ⟨5, _⟩ => ⟨S1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x4112, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S1x1024, .f32⟩
  | .hbm, ⟨55, _⟩ => ⟨S4096x1024, .bf16⟩
  | _, _ => ⟨S4096x4112, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== InEven.lean ====
abbrev S4096x2208 : Shape := ⟨2, ![4096, 2208]⟩
abbrev S4096x1024 : Shape := ⟨2, ![4096, 1024]⟩
abbrev S1x1024 : Shape := ⟨2, ![1, 1024]⟩
abbrev S1024x2208 : Shape := ⟨2, ![1024, 2208]⟩
abbrev S2208x1024 : Shape := ⟨2, ![2208, 1024]⟩
abbrev S4096x256 : Shape := ⟨2, ![4096, 256]⟩
abbrev S256x1024 : Shape := ⟨2, ![256, 1024]⟩
abbrev S4096x128 : Shape := ⟨2, ![4096, 128]⟩
abbrev S128x1024 : Shape := ⟨2, ![128, 1024]⟩
abbrev S4096x32 : Shape := ⟨2, ![4096, 32]⟩
abbrev S32x1024 : Shape := ⟨2, ![32, 1024]⟩
abbrev S4096x512 : Shape := ⟨2, ![4096, 512]⟩
abbrev S512x1024 : Shape := ⟨2, ![512, 1024]⟩
abbrev S1024x1024 : Shape := ⟨2, ![1024, 1024]⟩
abbrev S_ : Shape := ⟨0, ![]⟩
abbrev S4096x64 : Shape := ⟨2, ![4096, 64]⟩
abbrev S64x1024 : Shape := ⟨2, ![64, 1024]⟩
abbrev S4096x2304 : Shape := ⟨2, ![4096, 2304]⟩
abbrev S2304x1024 : Shape := ⟨2, ![2304, 1024]⟩
abbrev S512x2304 : Shape := ⟨2, ![512, 2304]⟩
abbrev S512 : Shape := ⟨1, ![512]⟩
abbrev S512x1 : Shape := ⟨2, ![512, 1]⟩
abbrev S1024 : Shape := ⟨1, ![1024]⟩

abbrev nBuf : Space → Nat
  | .hbm => 34
  | .vmem => 11
  | .smem => 0
  | _ => 0

abbrev bufTy : (tb : Table) → Fin (tcTables nBuf tb) → BufTy
  | .hbm, ⟨0, _⟩ => ⟨S4096x2208, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S1024x2208, .f32⟩
  | .hbm, ⟨5, _⟩ => ⟨S4096x2208, .bf16⟩
  | .hbm, ⟨6, _⟩ => ⟨S1024x2208, .bf16⟩
  | .hbm, ⟨7, _⟩ => ⟨S2208x1024, .bf16⟩
  | .hbm, ⟨8, _⟩ => ⟨S4096x256, .bf16⟩
  | .hbm, ⟨9, _⟩ => ⟨S256x1024, .bf16⟩
  | .hbm, ⟨10, _⟩ => ⟨S4096x128, .bf16⟩
  | .hbm, ⟨11, _⟩ => ⟨S128x1024, .bf16⟩
  | .hbm, ⟨12, _⟩ => ⟨S4096x32, .bf16⟩
  | .hbm, ⟨13, _⟩ => ⟨S32x1024, .bf16⟩
  | .hbm, ⟨14, _⟩ => ⟨S4096x512, .bf16⟩
  | .hbm, ⟨15, _⟩ => ⟨S512x1024, .bf16⟩
  | .hbm, ⟨16, _⟩ => ⟨S4096x128, .bf16⟩
  | .hbm, ⟨17, _⟩ => ⟨S128x1024, .bf16⟩
  | .hbm, ⟨18, _⟩ => ⟨S4096x128, .bf16⟩
  | .hbm, ⟨19, _⟩ => ⟨S128x1024, .bf16⟩
  | .hbm, ⟨20, _⟩ => ⟨S4096x1024, .bf16⟩
  | .hbm, ⟨21, _⟩ => ⟨S1024x1024, .bf16⟩
  | .hbm, ⟨22, _⟩ => ⟨S_, .bf16⟩
  | .hbm, ⟨23, _⟩ => ⟨S4096x64, .bf16⟩
  | .hbm, ⟨24, _⟩ => ⟨S_, .bf16⟩
  | .hbm, ⟨25, _⟩ => ⟨S64x1024, .bf16⟩
  | .hbm, ⟨26, _⟩ => ⟨S_, .bf16⟩
  | .hbm, ⟨27, _⟩ => ⟨S4096x32, .bf16⟩
  | .hbm, ⟨28, _⟩ => ⟨S_, .bf16⟩
  | .hbm, ⟨29, _⟩ => ⟨S32x1024, .bf16⟩
  | .hbm, ⟨30, _⟩ => ⟨S4096x2304, .bf16⟩
  | .hbm, ⟨31, _⟩ => ⟨S2304x1024, .bf16⟩
  | .hbm, ⟨32, _⟩ => ⟨S4096x1024, .f32⟩
  | .hbm, ⟨33, _⟩ => ⟨S1x1024, .f32⟩
  | .local _ .vmem, ⟨0, _⟩ => ⟨S512x2304, .bf16⟩
  | .local _ .vmem, ⟨1, _⟩ => ⟨S512x2304, .bf16⟩
  | .local _ .vmem, ⟨2, _⟩ => ⟨S2304x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S4096x2208, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst : Ref sig .tc := ⟨.hbm, 22, rfl⟩
abbrev main_v17 : Ref sig .tc := ⟨.hbm, 23, rfl⟩
abbrev main_cst_0 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23_0 : Ref sig .tc := ⟨.hbm, 32, rfl⟩
abbrev main_v23_1 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2304x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== InEvenReferenceIdeal.lean ====
abbrev S4096x2208 : Shape := ⟨2, ![4096, 2208]⟩
abbrev S4096x1024 : Shape := ⟨2, ![4096, 1024]⟩
abbrev S1x1024 : Shape := ⟨2, ![1, 1024]⟩
abbrev S1024x2208 : Shape := ⟨2, ![1024, 2208]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 55
  | .vmem => 0
  | .smem => 0
  | _ => 0

abbrev bufTy : (tb : Table) → Fin (tcTables nBuf tb) → BufTy
  | .hbm, ⟨0, _⟩ => ⟨S4096x2208, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S1024x2208, .f32⟩
  | .hbm, ⟨5, _⟩ => ⟨S1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x2208, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S1x1024, .f32⟩
  | _, _ => ⟨S4096x2208, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== LossOut.lean ====
abbrev S4096x1024 : Shape := ⟨2, ![4096, 1024]⟩
abbrev S1x1024 : Shape := ⟨2, ![1, 1024]⟩
abbrev S1024x1024 : Shape := ⟨2, ![1024, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩
abbrev S1024 : Shape := ⟨1, ![1024]⟩

abbrev nBuf : Space → Nat
  | .hbm => 12
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1024x1024, .f32⟩
  | .hbm, ⟨6, _⟩ => ⟨S1024x1024, .bf16⟩
  | .hbm, ⟨7, _⟩ => ⟨S4096x1024, .f32⟩
  | .hbm, ⟨8, _⟩ => ⟨S8x128, .f32⟩
  | .hbm, ⟨9, _⟩ => ⟨S1x1024, .f32⟩
  | .hbm, ⟨10, _⟩ => ⟨S4096x1024, .bf16⟩
  | .hbm, ⟨11, _⟩ => ⟨S4096x1024, .bf16⟩
  | .local _ .vmem, ⟨0, _⟩ => ⟨S1024x1024, .bf16⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S8x128, .f32⟩
  | .local _ .vmem, ⟨13, _⟩ => ⟨S1x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v1_4 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== LossOutReferenceIdeal.lean ====
abbrev S4096x1024 : Shape := ⟨2, ![4096, 1024]⟩
abbrev S1x1024 : Shape := ⟨2, ![1, 1024]⟩
abbrev S1024x1024 : Shape := ⟨2, ![1024, 1024]⟩
abbrev S_ : Shape := ⟨0, ![]⟩
abbrev S1024 : Shape := ⟨1, ![1024]⟩
abbrev S4096 : Shape := ⟨1, ![4096]⟩
abbrev S4096x1 : Shape := ⟨2, ![4096, 1]⟩
abbrev S8x128 : Shape := ⟨2, ![8, 128]⟩

abbrev nBuf : Space → Nat
  | .hbm => 101
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S1024, .f32⟩
  | .hbm, ⟨19, _⟩ => ⟨S4096x1024, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1024, .f32⟩
  | .hbm, ⟨35, _⟩ => ⟨S4096x1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096, .f32⟩
  | .hbm, ⟨46, _⟩ => ⟨S_, .f32⟩
  | .hbm, ⟨47, _⟩ => ⟨S4096, .f32⟩
  | .hbm, ⟨48, _⟩ => ⟨S4096, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S4096, .f32⟩
  | .hbm, ⟨57, _⟩ => ⟨S_, .f32⟩
  | .hbm, ⟨58, _⟩ => ⟨S4096, .f32⟩
  | .hbm, ⟨59, _⟩ => ⟨S4096, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S_, .f32⟩
  | .hbm, ⟨64, _⟩ => ⟨S1024, .f32⟩
  | .hbm, ⟨65, _⟩ => ⟨S1x1024, .f32⟩
  | .hbm, ⟨66, _⟩ => ⟨S4096x1024, .f32⟩
  | .hbm, ⟨67, _⟩ => ⟨S4096x1024, .f32⟩
  | .hbm, ⟨68, _⟩ => ⟨S_, .f32⟩
  | .hbm, ⟨69, _⟩ => ⟨S1024, .f32⟩
  | .hbm, ⟨70, _⟩ => ⟨S4096x1024, .f32⟩
  | .hbm, ⟨71, _⟩ => ⟨S_, .f32⟩
  | .hbm, ⟨72, _⟩ => ⟨S4096, .f32⟩
  | .hbm, ⟨73, _⟩ => ⟨S4096x1, .f32⟩
  | .hbm, ⟨74, _⟩ => ⟨S4096x1024, .f32⟩
  | .hbm, ⟨75, _⟩ => ⟨S4096x1024, .f32⟩
  | .hbm, ⟨76, _⟩ => ⟨S4096x1, .f32⟩
  | .hbm, ⟨77, _⟩ => ⟨S_, .f32⟩
  | .hbm, ⟨78, _⟩ => ⟨S4096x1, .f32⟩
  | .hbm, ⟨79, _⟩ => ⟨S4096x1, .f32⟩
  | .hbm, ⟨80, _⟩ => ⟨S_, .f32⟩
  | .hbm, ⟨81, _⟩ => ⟨S4096, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S1x1024, .f32⟩
  | .hbm, ⟨88, _⟩ => ⟨S4096x1024, .f32⟩
  | .hbm, ⟨89, _⟩ => ⟨S4096x1024, .f32⟩
  | .hbm, ⟨90, _⟩ => ⟨S_, .f32⟩
  | .hbm, ⟨91, _⟩ => ⟨S4096x1024, .f32⟩
  | .hbm, ⟨92, _⟩ => ⟨S4096x1024, .f32⟩
  | .hbm, ⟨93, _⟩ => ⟨S_, .f32⟩
  | .hbm, ⟨94, _⟩ => ⟨S4096x1024, .f32⟩
  | .hbm, ⟨95, _⟩ => ⟨S4096x1024, .f32⟩
  | .hbm, ⟨96, _⟩ => ⟨S4096x1024, .f32⟩
  | .hbm, ⟨97, _⟩ => ⟨S4096x1024, .f32⟩
  | .hbm, ⟨98, _⟩ => ⟨S4096x1024, .bf16⟩
  | .hbm, ⟨99, _⟩ => ⟨S8x128, .f32⟩
  | .hbm, ⟨100, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst : Ref sig .tc := ⟨.hbm, 20, rfl⟩
abbrev main_v6 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_v24 : Ref sig .tc := ⟨.hbm, 43, rfl⟩
abbrev main_cst_4 : Ref sig .tc := ⟨.hbm, 44, rfl⟩
abbrev main_v25 : Ref sig .tc := ⟨.hbm, 45, rfl⟩
abbrev main_cst_5 : Ref sig .tc := ⟨.hbm, 46, rfl⟩
abbrev main_v26 : Ref sig .tc := ⟨.hbm, 47, rfl⟩
abbrev main_v27 : Ref sig .tc := ⟨.hbm, 48, rfl⟩
abbrev main_cst_6 : Ref sig .tc := ⟨.hbm, 49, rfl⟩
abbrev main_v28 : Ref sig .tc := ⟨.hbm, 50, rfl⟩
abbrev main_cst_7 : Ref sig .tc := ⟨.hbm, 51, rfl⟩
abbrev main_v29 : Ref sig .tc := ⟨.hbm, 52, rfl⟩
abbrev main_cst_8 : Ref sig .tc := ⟨.hbm, 53, rfl⟩
abbrev main_cst_9 : Ref sig .tc := ⟨.hbm, 54, rfl⟩
abbrev main_v30 : Ref sig .tc := ⟨.hbm, 55, rfl⟩
abbrev main_v31 : Ref sig .tc := ⟨.hbm, 56, rfl⟩
abbrev main_cst_10 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_11 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_12 : Ref sig .tc := ⟨.hbm, 68, rfl⟩
abbrev main_v41 : Ref sig .tc := ⟨.hbm, 69, rfl⟩
abbrev main_v42 : Ref sig .tc := ⟨.hbm, 70, rfl⟩
abbrev main_cst_13 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_14 : Ref sig .tc := ⟨.hbm, 77, rfl⟩
abbrev main_v48 : Ref sig .tc := ⟨.hbm, 78, rfl⟩
abbrev main_v49 : Ref sig .tc := ⟨.hbm, 79, rfl⟩
abbrev main_cst_15 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_call1_v0 : Ref sig .tc := ⟨.hbm, 88, rfl⟩
abbrev main_call1_v1 : Ref sig .tc := ⟨.hbm, 89, rfl⟩
abbrev main_call1_cst : Ref sig .tc := ⟨.hbm, 90, rfl⟩
abbrev main_call1_v2 : Ref sig .tc := ⟨.hbm, 91, rfl⟩
abbrev main_call1_v3 : Ref sig .tc := ⟨.hbm, 92, rfl⟩
abbrev main_call1_cst_0 : Ref sig .tc := ⟨.hbm, 93, rfl⟩
abbrev main_call1_v4 : Ref sig .tc := ⟨.hbm, 94, rfl⟩
abbrev main_call1_v5 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩

abbrev nD : Nat := 1
abbrev τ : Topo := Topo.v7x

variable {F : FTy → Type} [FloatOps F]
-- ==== Proof.Finite.lean ====
/- A value whose magnitude is below infinity is finite: how the preconditions are read. -/
module

public import Idealize.ShloMosaic.PureOps.Ideal
public import Idealize.ShloMosaic.PureOps.Ideal.Laws

@[expose] public section

noncomputable section

namespace Cert.Finite

open Idealize.ShloMosaic

/-- If the comparison "magnitude below infinity" is one, the value is neither infinity. -/
theorem of_abs_lt (x : EReal) (h : Ideal.cmp .olt (max x (-x)) (Ideal.ofBits .f32 0x7F800000#32) = 1#1) : x ≠ ⊥ ∧ x ≠ ⊤ := by
  have htop : Ideal.ofBits .f32 0x7F800000#32 = ⊤ := by simp [Ideal.ofBits, Ideal.ieee]
  rw [htop] at h
  unfold Ideal.cmp at h
  constructor <;> rintro rfl <;> simp at h

end Cert.Finite

end
-- ==== Proof.LogfMath.lean ====
/-
  The mathematics of the log-forget-gate gradient, on extended reals and free of the two programs.

  * `sigmoid_of_softplus`: the derivative of `log (sigmoid x)` as the reference's softplus rule writes it, an exponential
    of a difference with both infinities replaced, is `1 / (1 + exp (0 - y))` at `y = -x`, at every extended real.
  * `revSum`: a host running sum from the far end along the rows of a matrix, read at an index.
  * `tail_block`: the sum over the rows from `r` on, cut at the end of the block of `r`.
-/
module

public import Idealize.ShloMosaic.PureOps.Ideal.Laws
public import Idealize.ShloMosaic.Lib.Pointwise.Index
public import Idealize.ShloMosaic.Lib.KernelVsHost
public import Idealize.ShloMosaic.Lib.Routing.OpsOne

@[expose] public section

noncomputable section

open Idealize.ShloMosaic Idealize.ShloMosaic.Routing

namespace Cert.LogfMath

/-- `1 / (1 + exp (0 - y))`, the gate's factor as the kernel's body computes it. -/
def gate (y : EReal) : EReal := Ideal.div 1 (1 + Ideal.exp (0 - y))

/-- softplus with its maximum taken out, as jnp's `logaddexp (y, 0)` writes it. -/
def softplus (y : EReal) : EReal := max y 0 + Ideal.log1p (Ideal.exp (-(max (y - 0) (-(y - 0)))))

theorem exp_real (r : ℝ) : Ideal.exp (r : EReal) = ((Real.exp r : ℝ) : EReal) := rfl
theorem exp_bot : Ideal.exp ⊥ = 0 := rfl
theorem exp_top : Ideal.exp ⊤ = ⊤ := rfl
theorem log_real (r : ℝ) (h : 0 < r) : Ideal.log (r : EReal) = ((Real.log r : ℝ) : EReal) := if_neg (not_le.mpr h)
theorem log1p_zero : Ideal.log1p 0 = 0 := by
  unfold Ideal.log1p
  rw [add_zero, show (1 : EReal) = ((1 : ℝ) : EReal) from rfl, log_real 1 one_pos, Real.log_one]; rfl

/-- softplus of a real is `log (1 + e^r)`. -/
theorem softplus_real (r : ℝ) : softplus r = ((Real.log (1 + Real.exp r) : ℝ) : EReal) := by
  have e : max ((r : EReal) - 0) (-((r : EReal) - 0)) = ((|r| : ℝ) : EReal) := by
    rw [sub_zero, abs_eq_max_neg]; norm_cast
  have hs : max r 0 + Real.log (1 + Real.exp (-|r|)) = Real.log (1 + Real.exp r) := by
    rcases le_total 0 r with h0 | h0
    · rw [max_eq_left h0, abs_of_nonneg h0]
      conv_lhs => rw [← Real.log_exp r]
      rw [Real.log_exp, ← Real.log_exp r, ← Real.log_mul (by positivity) (by positivity)]
      congr 1
      rw [Real.log_exp, mul_add, ← Real.exp_add]; simp [add_comm]
    · rw [max_eq_right h0, abs_of_nonpos h0]; simp
  unfold softplus
  rw [e, ← EReal.coe_neg, exp_real]
  unfold Ideal.log1p
  rw [show (1 : EReal) + ((Real.exp (-|r|) : ℝ) : EReal) = ((1 + Real.exp (-|r|) : ℝ) : EReal) by norm_cast,
    log_real _ (by positivity), ← hs, EReal.coe_add]
  congr 1

/-- The softplus rule's derivative at `y` (an exponential of `y - softplus y`, an infinite one of the two read as zero)
    is the logistic function. -/
theorem sigmoid_of_softplus (y : EReal) :
    Ideal.exp ((if y = ⊤ then 0 else y) - (if softplus y = ⊤ then 0 else softplus y)) = gate y := by
  induction y using EReal.rec with
  | bot =>
    have h : softplus ⊥ = 0 := by
      unfold softplus
      rw [show max ((⊥ : EReal) - 0) (-((⊥ : EReal) - 0)) = ⊤ by simp, EReal.neg_top, exp_bot, log1p_zero]; simp
    rw [h, if_neg (by simp), if_neg (by simp), sub_zero, exp_bot]
    unfold gate
    rw [show (0 : EReal) - ⊥ = ⊤ by simp, exp_top]
    unfold Ideal.div
    rw [EReal.add_top_of_ne_bot (by decide), if_neg (by simp), EReal.inv_top, mul_zero]
  | top =>
    have h : softplus ⊤ = ⊤ := by
      unfold softplus
      rw [show max ((⊤ : EReal) - 0) (-((⊤ : EReal) - 0)) = ⊤ by simp, EReal.neg_top, exp_bot, log1p_zero]; simp
    rw [h]
    simp only [if_true, sub_zero]
    unfold gate
    rw [show (0 : EReal) - ⊤ = ⊥ by simp, exp_bot, add_zero, show (0 : EReal) = ((0 : ℝ) : EReal) from rfl, exp_real, Real.exp_zero]
    unfold Ideal.div
    rw [if_neg (by simp)]; norm_num
  | coe r =>
    rw [softplus_real, if_neg (EReal.coe_ne_top _), if_neg (EReal.coe_ne_top _), ← EReal.coe_sub, exp_real]
    unfold gate
    rw [zero_sub, ← EReal.coe_neg, exp_real,
      show (1 : EReal) + ((Real.exp (-r) : ℝ) : EReal) = ((1 + Real.exp (-r) : ℝ) : EReal) by norm_cast]
    unfold Ideal.div
    rw [if_neg (by norm_cast; positivity), ← EReal.coe_inv, one_mul]
    congr 1
    rw [Real.exp_sub, Real.exp_log (by positivity), Real.exp_neg]
    field_simp
    ring_nf

/-- The sum over the rows from `r` on, cut at the end of the block of 256 rows that holds `r = 256 b + p`. -/
theorem tail_block (D : ℕ → EReal) (b p : ℕ) (hb : b < 16) (hp : p < 256) :
    ∑ k ∈ Finset.Ico (256 * b + p) 4096, D k
      = (∑ k : Fin 256, if p ≤ k.val then D (256 * b + k.val) else 0) + ∑ k ∈ Finset.Ico (256 * b + 256) 4096, D k := by
  rw [← Finset.sum_Ico_consecutive D (show 256 * b + p ≤ 256 * b + 256 by omega) (show 256 * b + 256 ≤ 4096 by omega)]
  congr 1
  rw [Fin.sum_univ_eq_sum_range (fun k => if p ≤ k then D (256 * b + k) else 0) 256, ← Finset.sum_filter,
    add_comm (256 * b) p, add_comm (256 * b) 256, ← Finset.sum_Ico_add' D p 256 (256 * b)]
  refine Finset.sum_congr (Finset.ext fun k => ?_) fun k _ => by rw [add_comm]
  simp only [Finset.mem_Ico, Finset.mem_filter, Finset.mem_range]
  omega

theorem foldl_add_sum {n : ℕ} (f : Fin n → EReal) (a : EReal) (l : List (Fin n)) :
    l.foldl (fun r k => r + f k) a = a + (l.map f).sum := by
  induction l generalizing a with
  | nil => simp
  | cons x l ih => simp [ih, add_assoc]

/-- A host running sum from the far end: entry `(r, c)` is the sum of the entries `(k, c)` with `r ≤ k`. -/
theorem revSum {R Rm1 C : ℕ} (hR : Rm1 + 1 = R) (x : (shape2 R C).Idx → EReal)
    (h : (shape2 R C).ReduceWindows (![R, 1] : Fin 2 → Nat) ![1, 1] ![0, 0] ![Rm1, 0] (shape2 R C)) (r : Fin R) (c : Fin C) :
    Ideal.hostReduceWindowAdd ![R, 1] ![1, 1] ![0, 0] ![Rm1, 0] h x 0 (ix2 r c)
      = ∑ k ∈ Finset.Ico r.val R, if hk : k < R then x (ix2 ⟨k, hk⟩ c) else 0 := by
  subst hR
  have hr := r.isLt
  unfold Ideal.hostReduceWindowAdd Host.reduceWindow
  dsimp only
  rw [foldl_add_sum, zero_add]
  rw [← List.ofFn_eq_map, List.sum_ofFn]
  refine (Finset.sum_congr (g := fun n : Fin (shape2 (Rm1 + 1) 1).numel =>
    (fun k : ℕ => if hk : r.val + k < Rm1 + 1 then x (ix2 ⟨r.val + k, hk⟩ c) else 0) n.val) rfl fun n _ => ?_).trans ?_
  · have hw0 : ((shape2 (Rm1 + 1) 1).rowMajor.symm n 0).val = n.val := by rw [symm_col]; rfl
    have hw1 : ((shape2 (Rm1 + 1) 1).rowMajor.symm n 1).val = 0 := by rw [symm_col]; rfl
    dsimp only
    by_cases hk : r.val + n.val < Rm1 + 1
    · rw [dif_pos hk, dif_pos fun a => by
        match a with
        | ⟨0, _⟩ =>
          show 0 ≤ r.val * 1 + ((shape2 (Rm1 + 1) 1).rowMajor.symm n 0).val ∧ r.val * 1 + ((shape2 (Rm1 + 1) 1).rowMajor.symm n 0).val - 0 < Rm1 + 1
          rw [hw0]; omega
        | ⟨1, _⟩ =>
          have hc := c.isLt
          show 0 ≤ c.val * 1 + ((shape2 (Rm1 + 1) 1).rowMajor.symm n 1).val ∧ c.val * 1 + ((shape2 (Rm1 + 1) 1).rowMajor.symm n 1).val - 0 < C
          rw [hw1]; omega]
      refine congrArg x (funext fun a => Fin.ext ?_)
      match a with
      | ⟨0, _⟩ =>
        show r.val * 1 + ((shape2 (Rm1 + 1) 1).rowMajor.symm n 0).val - 0 = r.val + n.val
        rw [hw0]; omega
      | ⟨1, _⟩ =>
        show c.val * 1 + ((shape2 (Rm1 + 1) 1).rowMajor.symm n 1).val - 0 = c.val
        rw [hw1]; omega
    · rw [dif_neg hk, dif_neg fun hin => hk (by
        have h0 := (hin 0).2
        change r.val * 1 + ((shape2 (Rm1 + 1) 1).rowMajor.symm n 0).val - 0 < Rm1 + 1 at h0
        rw [hw0] at h0; omega)]
  rw [Fin.sum_univ_eq_sum_range (fun k : ℕ => if hk : r.val + k < Rm1 + 1 then x (ix2 ⟨r.val + k, hk⟩ c) else 0),
    show (shape2 (Rm1 + 1) 1).numel = Rm1 + 1 from numel_col _, Finset.sum_Ico_eq_sum_range]
  refine (Finset.sum_subset (Finset.range_subset_range.mpr (by omega)) fun k _ hk => ?_).symm
  rw [Finset.mem_range] at hk
  rw [dif_neg (by omega)]

/-- Entry `(r, j)` of a matrix with sixteen columns, zero from column sixteen on. -/
def lane {R : ℕ} (x : (⟨2, ![R, 16]⟩ : Shape).Idx → EReal) (r : Fin R) (j : Fin 128) : EReal :=
  if h : j.val < 16 then x (ix2 r ⟨j.val, h⟩) else 0

/-- A matrix of sixteen columns padded with zeros to 128 lanes, at an index. -/
theorem pad_lane {R : ℕ} (x : (⟨2, ![R, 16]⟩ : Shape).Idx → EReal) {u : Shape} (v : u.Idx → EReal)
    (h : (⟨2, ![R, 16]⟩ : Shape).Pads ![0, 0] ![0, 112] ![0, 0] ⟨2, ![R, 128]⟩) (hu : 0 < u.numel) (hv : ∀ i, v i = 0) (r : Fin R) (j : Fin 128) :
    pad (⟨2, ![R, 128]⟩ : Shape) ![0, 0] ![0, 112] ![0, 0] x v h hu (ix2 r j) = lane x r j := by
  unfold lane
  by_cases hj : j.val < 16
  · rw [dif_pos hj]
    refine pad_apply_of_inside _ _ _ x v h hu (ix2 r j) (ix2 r ⟨j.val, hj⟩) fun a => ?_
    match a with
    | ⟨0, _⟩ => show r.val = 0 + r.val * (0 + 1); omega
    | ⟨1, _⟩ => show j.val = 0 + j.val * (0 + 1); omega
  · rw [dif_neg hj]
    refine (pad_apply_of_not_inside _ _ _ x v h hu (ix2 r j) 1 fun hin => hj ?_).trans (hv _)
    have := hin.2.2
    change (j.val - 0) / (0 + 1) < 16 at this
    omega

end Cert.LogfMath

end
-- ==== Proof.LogfKernel.lean ====
/-
  What the log-forget-gate kernel leaves in its two results, over the extended reals, the cotangent finite.

  The sixteen grid points walk the row blocks from the last to the first. `dlf` at row `r` is the sum of the cotangent's
  rows from `r` on: within a block by the product with the triangle of ones, across blocks by the carried row.
-/
module

public import proofs.«01_k».proof.Proof.LogfMath
public import proofs.«01_k».proof.Proof.Gen.KernelIdeal.Value
public import Idealize.ShloMosaic.Lib.Pointwise
public import Idealize.ShloMosaic.Lib.KernelVsHost
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.KernelIdeal.Logf

open Cert.KernelIdeal Cert.KernelIdeal.Gen Cert.LogfMath

theorem hz : (![0, 0] : Fin 2 → Nat) = fun _ => 0 := funext fun a => by fin_cases a <;> rfl

/-! ## The payloads at an index -/

theorem pay6_apply (dc : Vec Ideal S256x128 .f32) (cr : Vec Ideal S1x128 .f32) (hf : ∀ i, dc i ≠ ⊥ ∧ dc i ≠ ⊤) (p : Fin 256) (j : Fin 128) :
    (k0_pay6 dc cr (ix2 p j) : EReal) = (∑ k : Fin 256, if p.val ≤ k.val then dc (ix2 k j) else 0) + cr (ix2 0 j) := by
  have hs : ∀ i, (dc i - dc i : EReal) = 0 := fun i => EReal.sub_self (hf i).2 (hf i).1
  have hb : ∀ k : Fin 256, IntOp.cmpi CmpIPredicate.sge (BitVec.ofNat 32 k.val) (BitVec.ofNat 32 p.val) = BitVec.ofBool (decide (p.val ≤ k.val)) :=
    fun k => WordCmp.cmpi_sge_ofNat (by have := k.isLt; omega) (by have := p.isLt; omega)
  unfold k0_pay6
  pointwise
  simp only [hs, hb, Scalar.select_ofBool, mul_zero, Finset.sum_const_zero, add_zero, sub_zero, ite_self, decide_eq_true_eq]

theorem pay7_apply (dc : Vec Ideal S256x128 .f32) (cr : Vec Ideal S1x128 .f32) (j : Fin 128) :
    (k0_pay7 dc cr (ix2 0 j) : EReal) = k0_pay6 dc cr (ix2 0 j) := by
  unfold k0_pay7
  pointwise

/-- The gradient of the gate's logit at one element: the running sum times the gate of `0 - x`. -/
theorem pay1_apply (d : FVec Ideal S256x128 .f32) (z : Vec Ideal S256x128 .f32) (b : Vec Ideal S1x128 .f32) (p : Fin 256) (j : Fin 128) :
    (k0_pay1 d (k0_pay8 z b) (ix2 p j) : EReal) = d (ix2 p j) * gate (0 - (z (ix2 p j) + b (ix2 0 j))) := by
  unfold k0_pay1 k0_pay8 gate
  pointwise

theorem pay2_apply (d x : FVec Ideal S256x128 .f32) (i : S256x128.Idx) : (k0_pay2 d x i : EReal) = k0_pay1 d x i := by
  unfold k0_pay2
  pointwise

theorem pay3_apply (d x : FVec Ideal S256x128 .f32) (a : Vec Ideal S1x128 .f32) (j : Fin 128) :
    (k0_pay3 d x a (ix2 0 j) : EReal) = a (ix2 0 j) + ∑ k : Fin 256, k0_pay1 d x (ix2 k j) := by
  unfold k0_pay3
  pointwise

theorem pay4_apply (i : S1x128.Idx) : (k0_pay4 (F := Ideal) i : EReal) = 0 := by
  unfold k0_pay4
  pointwise

theorem pay5_apply (i : S1x128.Idx) : (k0_pay5 (F := Ideal) i : EReal) = 0 := by
  unfold k0_pay5
  pointwise

/-! ## What each case of the body leaves -/

section
variable {F : FTy → Type} [FloatOps F]
variable (c : Dev nD) (i : grid0.Coords) (a1 : Memref sig .tc .vmem S256x128 .f32) (h1 : a1.IsWhole)
  (a2 : Memref sig .tc .vmem S256x128 .f32) (h2 : a2.IsWhole) (a3 : Memref sig .tc .vmem S1x128 .f32) (h3 : a3.IsWhole)
  (a4 : Memref sig .tc .vmem S256x128 .bf16) (h4 : a4.IsWhole) (a5 : Memref sig .tc .vmem S1x128 .f32) (h5 : a5.IsWhole)
  (a6 : Memref sig .tc .vmem S1x128 .f32) (h6 : a6.IsWhole)
  (x0 x1 : Vec F S256x128 .f32) (x2 xo xs : Vec F S1x128 .f32)

theorem dz_A (hc : cond0_0 i) : out0_A_3 c i a1 h1 a2 h2 a3 h3 a4 h4 a5 h5 a6 h6 hc x0 x1 x2 = k0_pay2 (k0_pay6 x0 k0_pay4) (k0_pay8 x1 x2) := by
  unfold out0_A_3
  rw [View.read_writes_eq_canon _ _ _ (cover0_A_3 c i a1 h1 a2 h2 a3 h3 a4 h4 a5 h5 a6 h6 hc x0 x1 x2)]
  unfold kernelRun0_A
  dsimp only
  sl_unfold_words
  rw [View.canon_cons_unit_zero (S := S256x128) hz]
  simp only [View.readAt_eq_ld, h1.read_unread, h2.read_unread, h3.read_unread, View.ld_unit_zero (S := S256x128) hz, View.ld_unit_zero (S := S1x128) hz, shapeCast_self,
    View.readCov_unit_zero (S := S1x128) _ hz]

theorem db_A (hc : cond0_0 i) : out0_A_4 c i a1 h1 a2 h2 a3 h3 a4 h4 a5 h5 a6 h6 hc x0 x1 x2 = k0_pay3 (k0_pay6 x0 k0_pay4) (k0_pay8 x1 x2) k0_pay5 := by
  unfold out0_A_4
  rw [View.read_writes_eq_canon _ _ _ (cover0_A_4 c i a1 h1 a2 h2 a3 h3 a4 h4 a5 h5 a6 h6 hc x0 x1 x2)]
  unfold kernelRun0_A
  dsimp only
  sl_unfold_words
  rw [View.canon_cons_unit_zero (S := S1x128) hz]
  simp only [View.readAt_eq_ld, h1.read_unread, h2.read_unread, h3.read_unread, View.ld_unit_zero (S := S256x128) hz, View.ld_unit_zero (S := S1x128) hz, shapeCast_self,
    View.readCov_unit_zero (S := S1x128) _ hz]

theorem carry_A (hc : cond0_0 i) : sout0_A_0 c i a1 h1 a2 h2 a3 h3 a4 h4 a5 h5 a6 h6 hc x0 x1 x2 = k0_pay7 x0 k0_pay4 := by
  unfold sout0_A_0
  rw [View.read_writes_eq_canon _ _ _ (scover0_A_0 c i a1 h1 a2 h2 a3 h3 a4 h4 a5 h5 a6 h6 hc x0 x1 x2)]
  unfold kernelRun0_A
  dsimp only
  sl_unfold_words
  rw [View.canon_cons_unit_zero (S := S1x128) hz]
  simp only [View.readAt_eq_ld, h1.read_unread, h2.read_unread, h3.read_unread, View.ld_unit_zero (S := S256x128) hz, View.ld_unit_zero (S := S1x128) hz, shapeCast_self,
    View.readCov_unit_zero (S := S1x128) _ hz]

theorem dz_B (hc : ¬cond0_0 i) : out0_B_3 c i a1 h1 a2 h2 a3 h3 a4 h4 a5 h5 a6 h6 hc x0 x1 x2 xo xs = k0_pay2 (k0_pay6 x0 xs) (k0_pay8 x1 x2) := by
  unfold out0_B_3
  rw [View.read_writes_eq_canon _ _ _ (cover0_B_3 c i a1 h1 a2 h2 a3 h3 a4 h4 a5 h5 a6 h6 hc x0 x1 x2 xo xs)]
  unfold kernelRun0_B
  dsimp only
  sl_unfold_words
  rw [View.canon_cons_unit_zero (S := S256x128) hz]
  simp only [View.readAt_eq_ld, h1.read_unread, h2.read_unread, h3.read_unread, h6.read_unread, View.ld_unit_zero (S := S256x128) hz, View.ld_unit_zero (S := S1x128) hz, shapeCast_self]

theorem db_B (hc : ¬cond0_0 i) : out0_B_4 c i a1 h1 a2 h2 a3 h3 a4 h4 a5 h5 a6 h6 hc x0 x1 x2 xo xs = k0_pay3 (k0_pay6 x0 xs) (k0_pay8 x1 x2) xo := by
  unfold out0_B_4
  rw [View.read_writes_eq_canon _ _ _ (cover0_B_4 c i a1 h1 a2 h2 a3 h3 a4 h4 a5 h5 a6 h6 hc x0 x1 x2 xo xs)]
  unfold kernelRun0_B
  dsimp only
  sl_unfold_words
  rw [View.canon_cons_unit_zero (S := S1x128) hz]
  simp only [View.readAt_eq_ld, h1.read_unread, h2.read_unread, h3.read_unread, h5.read_unread, h6.read_unread, View.ld_unit_zero (S := S256x128) hz, View.ld_unit_zero (S := S1x128) hz, shapeCast_self]

theorem carry_B (hc : ¬cond0_0 i) : sout0_B_0 c i a1 h1 a2 h2 a3 h3 a4 h4 a5 h5 a6 h6 hc x0 x1 x2 xo xs = k0_pay7 x0 xs := by
  unfold sout0_B_0
  rw [View.read_writes_eq_canon _ _ _ (scover0_B_0 c i a1 h1 a2 h2 a3 h3 a4 h4 a5 h5 a6 h6 hc x0 x1 x2 xo xs)]
  unfold kernelRun0_B
  dsimp only
  sl_unfold_words
  rw [View.canon_cons_unit_zero (S := S1x128) hz]
  simp only [View.readAt_eq_ld, h1.read_unread, h2.read_unread, h3.read_unread, h6.read_unread, View.ld_unit_zero (S := S256x128) hz, View.ld_unit_zero (S := S1x128) hz, shapeCast_self]
end

/-! ## The arrays the region reads: the arguments with zero lanes appended -/

variable (m : (ℓ : Loc nD τ sig) → Buf (Elt Ideal) ℓ)

/-- The padding value: a zero word made a float. -/
theorem zero_word (i : S_.Idx) : ((sitofp .f32 (constantI S_ 32 0#32) : FVec Ideal S_ .f32) i : EReal) = 0 := by
  show (((0#32 : BitVec 32).toInt : ℝ) : EReal) = 0
  simp

theorem V_z (c : Dev nD) (r : Fin 4096) (j : Fin 128) :
    (V m c main_v0 (ix2 r j) : EReal) = lane (m ((c : Thread nD τ).loc main_arg0)) r j := by
  refine Eq.trans (congrFun (?_ : V m c main_v0 = pad S4096x128 ![0, 0] ![0, 112] ![0, 0] (m ((c : Thread nD τ).loc main_arg0) : Vec Ideal S4096x16 .f32)
    (sitofp .f32 (constantI S_ 32 0#32) : FVec Ideal S_ .f32) pads_S4096x16_S4096x128_000_01120 h_S_) (ix2 r j)) (pad_lane _ _ _ _ zero_word r j)
  dsimp only [V, List.flatten, List.append]; after_results; rfl

theorem V_b (c : Dev nD) (r : Fin 1) (j : Fin 128) :
    (V m c main_v1 (ix2 r j) : EReal) = lane (m ((c : Thread nD τ).loc main_arg1)) r j := by
  refine Eq.trans (congrFun (?_ : V m c main_v1 = pad S1x128 ![0, 0] ![0, 112] ![0, 0] (m ((c : Thread nD τ).loc main_arg1) : Vec Ideal S1x16 .f32)
    (sitofp .f32 (constantI S_ 32 0#32) : FVec Ideal S_ .f32) pads_S1x16_S1x128_000_01120 h_S_) (ix2 r j)) (pad_lane _ _ _ _ zero_word r j)
  dsimp only [V, List.flatten, List.append]; after_results; rfl

theorem V_d (c : Dev nD) (r : Fin 4096) (j : Fin 128) :
    (V m c main_v2 (ix2 r j) : EReal) = lane (m ((c : Thread nD τ).loc main_arg2)) r j := by
  refine Eq.trans (congrFun (?_ : V m c main_v2 = pad S4096x128 ![0, 0] ![0, 112] ![0, 0] (m ((c : Thread nD τ).loc main_arg2) : Vec Ideal S4096x16 .f32)
    (sitofp .f32 (constantI S_ 32 0#32) : FVec Ideal S_ .f32) pads_S4096x16_S4096x128_000_01120 h_S_) (ix2 r j)) (pad_lane _ _ _ _ zero_word r j)
  dsimp only [V, List.flatten, List.append]; after_results; rfl

/-! ## The windows' blocks -/

theorem index0 : ∀ t : Fin cfg0.N, win0_0.index t 0 = 15 - t.val ∧ win0_0.index t 1 = 0 :=
  (by decide +kernel : ∀ t : Fin grid0.N, win0_0.index t 0 = 15 - t.val ∧ win0_0.index t 1 = 0)
theorem index1 : ∀ t : Fin cfg0.N, win0_1.index t 0 = 15 - t.val ∧ win0_1.index t 1 = 0 :=
  (by decide +kernel : ∀ t : Fin grid0.N, win0_1.index t 0 = 15 - t.val ∧ win0_1.index t 1 = 0)
theorem index2 : ∀ t : Fin cfg0.N, win0_2.index t 0 = 0 ∧ win0_2.index t 1 = 0 :=
  (by decide +kernel : ∀ t : Fin grid0.N, win0_2.index t 0 = 0 ∧ win0_2.index t 1 = 0)
theorem index3 : ∀ t : Fin cfg0.N, win0_3.index t 0 = 15 - t.val ∧ win0_3.index t 1 = 0 :=
  (by decide +kernel : ∀ t : Fin grid0.N, win0_3.index t 0 = 15 - t.val ∧ win0_3.index t 1 = 0)
theorem index4 : ∀ t : Fin cfg0.N, win0_4.index t 0 = 0 ∧ win0_4.index t 1 = 0 :=
  (by decide +kernel : ∀ t : Fin grid0.N, win0_4.index t 0 = 0 ∧ win0_4.index t 1 = 0)

/-- The row of the whole array that row `p` of point `t`'s block is. -/
def row (t : Fin cfg0.N) (p : Fin 256) : Fin 4096 := ⟨256 * (15 - t.val) + p.val, by have := p.isLt; omega⟩

theorem block_d (c : Dev nD) (t : Fin cfg0.N) (p : Fin 256) (j : Fin 128) :
    ((iblk m c 0 t : Vec Ideal S256x128 .f32) (ix2 p j) : EReal) = lane (m ((c : Thread nD τ).loc main_arg2)) (row t p) j := by
  rw [← V_d]
  unfold iblk
  rw [View.read_apply]
  show V m c main_v2 _ = V m c main_v2 _
  congr 1
  funext a
  apply Fin.ext
  match a with
  | ⟨0, _⟩ => show win0_0.index t 0 * 256 + 1 * p.val = 256 * (15 - t.val) + p.val; rw [(index0 t).1]; omega
  | ⟨1, _⟩ => show win0_0.index t 1 * 128 + 1 * j.val = j.val; rw [(index0 t).2]; omega

theorem block_z (c : Dev nD) (t : Fin cfg0.N) (p : Fin 256) (j : Fin 128) :
    ((iblk m c 1 t : Vec Ideal S256x128 .f32) (ix2 p j) : EReal) = lane (m ((c : Thread nD τ).loc main_arg0)) (row t p) j := by
  rw [← V_z]
  unfold iblk
  rw [View.read_apply]
  show V m c main_v0 _ = V m c main_v0 _
  congr 1
  funext a
  apply Fin.ext
  match a with
  | ⟨0, _⟩ => show win0_1.index t 0 * 256 + 1 * p.val = 256 * (15 - t.val) + p.val; rw [(index1 t).1]; omega
  | ⟨1, _⟩ => show win0_1.index t 1 * 128 + 1 * j.val = j.val; rw [(index1 t).2]; omega

theorem block_b (c : Dev nD) (t : Fin cfg0.N) (j : Fin 128) :
    ((iblk m c 2 t : Vec Ideal S1x128 .f32) (ix2 0 j) : EReal) = lane (m ((c : Thread nD τ).loc main_arg1)) 0 j := by
  rw [← V_b]
  unfold iblk
  rw [View.read_apply]
  show V m c main_v1 _ = V m c main_v1 _
  congr 1
  funext a
  apply Fin.ext
  match a with
  | ⟨0, _⟩ => show win0_2.index t 0 * 1 + 1 * 0 = 0; rw [(index2 t).1]
  | ⟨1, _⟩ => show win0_2.index t 1 * 128 + 1 * j.val = j.val; rw [(index2 t).2]; omega

/-! ## The two results -/

section
variable (f : (⟨2, ![4096, 16]⟩ : Shape).Idx → EReal) (b : (⟨2, ![1, 16]⟩ : Shape).Idx → EReal) (d : (⟨2, ![4096, 16]⟩ : Shape).Idx → EReal)

/-- Column `j` of the cotangent as a function of the row's number. -/
def col (j : Fin 128) (k : ℕ) : EReal := if hk : k < 4096 then lane d ⟨k, hk⟩ j else 0

/-- The sum of column `j`'s rows from `r` on. -/
def tail (r : ℕ) (j : Fin 128) : EReal := ∑ k ∈ Finset.Ico r 4096, col d j k

/-- The gradient of the logit `(r, j)`: the running sum from the far end times the gate of minus the logit. -/
def grad (r : Fin 4096) (j : Fin 128) : EReal := tail d r.val j * gate (0 - (lane f r j + lane b 0 j))

/-- Column `j` of the logits' gradient as a function of the row's number. -/
def gradCol (j : Fin 128) (k : ℕ) : EReal := if hk : k < 4096 then grad f b d ⟨k, hk⟩ j else 0
end

variable (c : Dev nD)

/-- The region's arguments as functions of an index. -/
abbrev argF : (⟨2, ![4096, 16]⟩ : Shape).Idx → EReal := m ((c : Thread nD τ).loc main_arg0)
abbrev argB : (⟨2, ![1, 16]⟩ : Shape).Idx → EReal := m ((c : Thread nD τ).loc main_arg1)
abbrev argD : (⟨2, ![4096, 16]⟩ : Shape).Idx → EReal := m ((c : Thread nD τ).loc main_arg2)

/-- The cotangent is finite at every entry. -/
def Finite : Prop := ∀ i, argD m c i ≠ ⊥ ∧ argD m c i ≠ ⊤

/-- Point `t`'s block of the cotangent as a function of an index. -/
abbrev blkD (t : Fin cfg0.N) : S256x128.Idx → EReal := iblk m c 0 t

theorem block_finite (hf : Finite m c) (t : Fin cfg0.N) (i : S256x128.Idx) :
    blkD m c t i ≠ ⊥ ∧ blkD m c t i ≠ ⊤ := by
  obtain ⟨p, j, rfl⟩ : ∃ p j, i = ix2 p j := ⟨_, _, eq_ix2 i⟩
  rw [show blkD m c t (ix2 p j) = _ from block_d m c t p j]
  unfold lane
  split
  · exact hf _
  · exact ⟨EReal.zero_ne_bot, EReal.zero_ne_top⟩

/-- The running sum of a block: the triangle's product plus the carried row, where the carried row is the sum of the
    rows below the block. -/
theorem dlf_eq (hf : Finite m c) (t : Fin cfg0.N) (cr : Vec Ideal S1x128 .f32)
    (hcr : ∀ j, (cr (ix2 0 j) : EReal) = tail (argD m c) (256 * (15 - t.val) + 256) j) (p : Fin 256) (j : Fin 128) :
    (k0_pay6 (iblk m c 0 t : Vec Ideal S256x128 .f32) cr (ix2 p j) : EReal) = tail (argD m c) (row t p).val j := by
  rw [pay6_apply _ _ (block_finite m c hf t), hcr, row, tail, tail, tail_block _ (15 - t.val) p.val (by omega) p.isLt]
  congr 1
  refine Finset.sum_congr rfl fun k _ => ?_
  rw [show blkD m c t (ix2 k j) = _ from block_d m c t k j, col, dif_pos (by have := k.isLt; omega)]
  rfl

theorem dz_eq (hf : Finite m c) (t : Fin cfg0.N) (cr : Vec Ideal S1x128 .f32)
    (hcr : ∀ j, (cr (ix2 0 j) : EReal) = tail (argD m c) (256 * (15 - t.val) + 256) j) (p : Fin 256) (j : Fin 128) :
    (k0_pay1 (k0_pay6 (iblk m c 0 t : Vec Ideal S256x128 .f32) cr) (k0_pay8 (iblk m c 1 t : Vec Ideal S256x128 .f32) (iblk m c 2 t : Vec Ideal S1x128 .f32)) (ix2 p j) : EReal)
      = grad (argF m c) (argB m c) (argD m c) (row t p) j := by
  rw [pay1_apply, dlf_eq m c hf t cr hcr, block_z, block_b]
  rfl

theorem tail_top (j : Fin 128) : tail (argD m c) 4096 j = 0 := by
  unfold tail; rw [Finset.Ico_self, Finset.sum_empty]

/-- The rows of the block of point `t`, summed. -/
theorem sum_block (t : Fin cfg0.N) (j : Fin 128) :
    (∑ p : Fin 256, grad (argF m c) (argB m c) (argD m c) (row t p) j) = ∑ k ∈ Finset.Ico (256 * (15 - t.val)) (256 * (15 - t.val) + 256), gradCol (argF m c) (argB m c) (argD m c) j k := by
  rw [Finset.sum_Ico_eq_sum_range, show 256 * (15 - t.val) + 256 - 256 * (15 - t.val) = 256 by omega,
    ← Fin.sum_univ_eq_sum_range (fun k => gradCol (argF m c) (argB m c) (argD m c) j (256 * (15 - t.val) + k)) 256]
  refine Finset.sum_congr rfl fun p _ => ?_
  unfold gradCol
  rw [dif_pos (by have := p.isLt; omega)]
  rfl

/-- What the body leaves after point `n`: the block of the logits' gradient, the bias' gradient summed over the rows
    done, and the carried running sum. -/
theorem outs_eq (hf : Finite m c) : ∀ (n : ℕ) (h : n < cfg0.N),
    (∀ p j, ((outsAt0 m c n h).1 (ix2 p j) : EReal) = grad (argF m c) (argB m c) (argD m c) (row ⟨n, h⟩ p) j)
    ∧ (∀ j, ((outsAt0 m c n h).2.1 (ix2 0 j) : EReal) = ∑ k ∈ Finset.Ico (256 * (15 - n)) 4096, gradCol (argF m c) (argB m c) (argD m c) j k)
    ∧ (∀ j, ((outsAt0 m c n h).2.2 (ix2 0 j) : EReal) = tail (argD m c) (256 * (15 - n)) j)
  | 0, h => by
    have hcr : ∀ j, ((k0_pay4 (F := Ideal)) (ix2 0 j) : EReal) = tail (argD m c) (256 * (15 - (⟨0, h⟩ : Fin cfg0.N).val) + 256) j := fun j => by
      rw [pay4_apply]; exact (tail_top m c j).symm
    rw [outsAt0_A m c ⟨0, h⟩ rfl, dz_A, db_A, carry_A]
    refine ⟨fun p j => ?_, fun j => ?_, fun j => ?_⟩
    · exact (pay2_apply _ _ _).trans (dz_eq m c hf _ _ hcr p j)
    · refine (pay3_apply _ _ _ _).trans ?_
      rw [pay5_apply, zero_add]
      exact (Finset.sum_congr rfl fun p _ => dz_eq m c hf _ _ hcr p j).trans (sum_block m c ⟨0, h⟩ j)
    · exact (pay7_apply _ _ _).trans (dlf_eq m c hf _ _ hcr 0 j)
  | n + 1, h => by
    have hN : cfg0.N = 16 := N_0
    have hB : ¬(⟨n + 1, h⟩ : Fin cfg0.N).val % 16 = 0 := by dsimp only; omega
    obtain ⟨-, ih1, ih2⟩ := outs_eq hf n (Nat.lt_of_succ_lt h)
    have hn : 256 * (15 - (n + 1)) + 256 = 256 * (15 - n) := by omega
    have hcr : ∀ j, ((outsAt0 m c n (Nat.lt_of_succ_lt h)).2.2 (ix2 0 j) : EReal) = tail (argD m c) (256 * (15 - (⟨n + 1, h⟩ : Fin cfg0.N).val) + 256) j := fun j => by
      rw [ih2]; dsimp only; rw [hn]
    rw [outsAt0_B m c ⟨n + 1, h⟩ hB, dz_B, db_B, carry_B]
    refine ⟨fun p j => ?_, fun j => ?_, fun j => ?_⟩
    · exact (pay2_apply _ _ _).trans (dz_eq m c hf _ _ hcr p j)
    · refine ((pay3_apply _ _ _ _).trans (congrArg₂ (· + ·) (ih1 j) ((Finset.sum_congr rfl fun p _ => dz_eq m c hf _ _ hcr p j).trans (sum_block m c ⟨n + 1, h⟩ j)))).trans ?_
      dsimp only
      rw [hn, add_comm]
      exact Finset.sum_Ico_consecutive _ (by omega) (by omega)
    · exact (pay7_apply _ _ _).trans (dlf_eq m c hf _ _ hcr 0 j)

/-- The logits' gradient as contents of the first result. -/
def dlogit : Buf (Elt Ideal) ((c : Thread nD τ).loc main_v3_0) := fun i : S4096x128.Idx => grad (argF m c) (argB m c) (argD m c) (i 0) (i 1)

/-- The bias' gradient as contents of the second result. -/
def dbias : Buf (Elt Ideal) ((c : Thread nD τ).loc main_v3_1) := fun i : S1x128.Idx => (∑ r : Fin 4096, grad (argF m c) (argB m c) (argD m c) r (i 1) : EReal)

theorem final_dz (hf : Finite m c) : (dats m 0 c).arrAt 3 cfg0.N = dlogit m c := by
  refine (dats m 0 c).arrAt_eq_of_cover 3 (dlogit m c) (fun t _ => ?_) fun (i : S4096x128.Idx) => ?_
  · rw [Value.flushed3]
    funext x
    obtain ⟨p, j, rfl⟩ : ∃ p j, x = ix2 p j := ⟨_, _, eq_ix2 x⟩
    refine ((outs_eq m c hf t.val t.isLt).1 p j).trans ?_
    rw [View.read_apply]
    show grad (argF m c) (argB m c) (argD m c) _ _ = grad (argF m c) (argB m c) (argD m c) _ _
    congr 1
    · apply Fin.ext
      show 256 * (15 - t.val) + p.val = win0_3.index t 0 * 256 + 1 * p.val; rw [(index3 t).1]; omega
    · apply Fin.ext
      show j.val = win0_3.index t 1 * 128 + 1 * j.val; rw [(index3 t).2]; omega
  · have h0 : (i 0 : Nat) < 4096 := (i 0).isLt
    have h1 : (i 1 : Nat) < 128 := (i 1).isLt
    have hN : cfg0.N = 16 := N_0
    obtain ⟨t, ht⟩ : ∃ t : Fin cfg0.N, t.val = 15 - (i 0 : Nat) / 256 := ⟨⟨15 - (i 0 : Nat) / 256, by omega⟩, rfl⟩
    refine ⟨t, flush0_3 t, ?_⟩
    show i ∈ ((View.whole main_v3_0).slice (win0_3.rect t)).set
    rw [View.set_slice_whole, Rect.mem_set_unit]
    intro a
    match a with
    | ⟨0, _⟩ =>
      show win0_3.index t 0 * 256 ≤ (i 0 : Nat) ∧ (i 0 : Nat) < win0_3.index t 0 * 256 + 256
      rw [(index3 t).1]; omega
    | ⟨1, _⟩ =>
      show win0_3.index t 1 * 128 ≤ (i 1 : Nat) ∧ (i 1 : Nat) < win0_3.index t 1 * 128 + 128
      rw [(index3 t).2]; omega

theorem final_db (hf : Finite m c) : (dats m 0 c).arrAt 4 cfg0.N = dbias m c := by
  have hN : cfg0.N = 16 := N_0
  refine (dats m 0 c).arrAt_eq_of_cover 4 (dbias m c) (fun t ht => ?_) fun (i : S1x128.Idx) => ?_
  · have h15 : t.val = 15 := by have := (flush0_4 t).mp ht; have := t.isLt; omega
    rw [Value.flushed4]
    funext x
    obtain ⟨p, j, rfl⟩ : ∃ p j, x = ix2 p j := ⟨_, _, eq_ix2 x⟩
    obtain rfl : p = 0 := Subsingleton.elim _ _
    refine ((outs_eq m c hf t.val t.isLt).2.1 j).trans ?_
    rw [View.read_apply, h15]
    show _ = ∑ r : Fin 4096, grad (argF m c) (argB m c) (argD m c) r _
    rw [show 256 * (15 - 15) = 0 from rfl, ← Finset.range_eq_Ico, ← Fin.sum_univ_eq_sum_range (fun k => gradCol (argF m c) (argB m c) (argD m c) j k) 4096]
    refine Finset.sum_congr rfl fun r _ => ?_
    unfold gradCol
    rw [dif_pos r.isLt]
    congr 1
    apply Fin.ext
    show j.val = win0_4.index t 1 * 128 + 1 * j.val; rw [(index4 t).2]; omega
  · have h0 : (i 0 : Nat) < 1 := (i 0).isLt
    have h1 : (i 1 : Nat) < 128 := (i 1).isLt
    obtain ⟨t, ht⟩ : ∃ t : Fin cfg0.N, t.val = 15 := ⟨⟨15, by omega⟩, rfl⟩
    refine ⟨t, (flush0_4 t).mpr (by rw [ht]), ?_⟩
    show i ∈ ((View.whole main_v3_1).slice (win0_4.rect t)).set
    rw [View.set_slice_whole, Rect.mem_set_unit]
    intro a
    match a with
    | ⟨0, _⟩ =>
      show win0_4.index t 0 * 1 ≤ (i 0 : Nat) ∧ (i 0 : Nat) < win0_4.index t 0 * 1 + 1
      rw [(index4 t).1]; omega
    | ⟨1, _⟩ =>
      show win0_4.index t 1 * 128 ≤ (i 1 : Nat) ∧ (i 1 : Nat) < win0_4.index t 1 * 128 + 128
      rw [(index4 t).2]; omega

end Cert.KernelIdeal.Logf

end
-- ==== Proof.LogfRef.lean ====
/-
  The reference's two results at an index, over the extended reals.
-/
module

public import proofs.«01_k».proof.Proof.LogfMath
public import proofs.«01_k».proof.Proof.Gen.ReferenceIdeal.Run
public import proofs.«01_k».proof.Proof.Gen.ReferenceIdeal.Read
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.ReferenceIdeal.LogfRef

open Cert.ReferenceIdeal Cert.ReferenceIdeal.Gen Cert.ReferenceIdeal.Read Cert.LogfMath

variable (f : S4096x16.Idx → EReal) (b : S1x16.Idx → EReal) (d : S4096x16.Idx → EReal)

/-- The gate's factor: the softplus rule's derivative at minus the logit. -/
theorem factor (r : Fin 4096) (j : Fin 16) :
    (val_main_v2_1 (F := Ideal) f b (ix2 r j) : EReal) = gate (-(f (ix2 r j) + b (ix2 0 j))) := by
  have hy : (val_main_call0_v0 (F := Ideal) f b (ix2 r j) : EReal) = -(f (ix2 r j) + b (ix2 0 j)) := by
    unfold val_main_call0_v0 val_main_v1 val_main_v0
    pointwise
  have hs : (val_main_call0_v1_0 (F := Ideal) f b (ix2 r j) : EReal) = softplus (-(f (ix2 r j) + b (ix2 0 j))) := by
    unfold val_main_call0_v1_0 val_main_call0_call0_v4 val_main_call0_call0_v6 val_main_call0_call0_v11 val_main_call0_call0_v1 val_main_call0_call0_v10
      val_main_call0_call0_v9 val_main_call0_call0_v8 val_main_call0_call0_v7 val_main_call0_call0_v3 val_main_call0_call0_v2 val_main_call0_call0_v0
      val_main_call0_call0_cst
    pointwise [hy]
    rw [if_neg (not_not.mpr rfl)]
    simp only [softplus, sub_zero, Ideal.absf_def]
  have ht : (Ideal.ofBits .f32 0x7F800000#32 : EReal) = ⊤ := by
    simp [Ideal.ofBits, Ideal.ieee]
  rw [← sigmoid_of_softplus]
  unfold val_main_v2_1 val_main_call0_call0_v21 val_main_call0_call0_v20 val_main_call0_call0_v16 val_main_call0_call0_v14 val_main_call0_call0_v18
    val_main_call0_call0_v13 val_main_call0_call0_v15 val_main_call0_call0_v17 val_main_call0_call0_v19 val_main_call0_call0_cst_0 val_main_call0_call0_cst_1
    val_main_call0_call0_cst_2 val_main_call0_call0_cst_3
  pointwise [hy, hs, ht]

/-- The cotangent's running sum from the far end. -/
theorem running (r : Fin 4096) (j : Fin 16) :
    (val_main_v4 (F := Ideal) d (ix2 r j) : EReal) = ∑ k ∈ Finset.Ico r.val 4096, if hk : k < 4096 then d (ix2 ⟨k, hk⟩ j) else 0 := by
  refine Eq.trans ?_ (revSum (R := 4096) (Rm1 := 4095) (C := 16) rfl d reduceWindows_S4096x16_S4096x16_w4096s1p0_4095_w1s1p0_0 r j)
  unfold val_main_v4 Host.reduceWindowAdd
  rw [Ideal.hostReduceWindowAdd_def]
  congr 1
  unfold val_main_call2_call0_v0 val_main_call2_call0_cst
  pointwise

/-- The gradient of the logit `(r, j)`. -/
theorem dlogit (r : Fin 4096) (j : Fin 16) :
    (val_main_v5 (F := Ideal) f b d (ix2 r j) : EReal)
      = (∑ k ∈ Finset.Ico r.val 4096, if hk : k < 4096 then d (ix2 ⟨k, hk⟩ j) else 0) * gate (-(f (ix2 r j) + b (ix2 0 j))) := by
  rw [← running, ← factor]
  unfold val_main_v5 val_main_call3_v1 val_main_call3_v0
  pointwise
  rw [EReal.neg_mul, neg_neg]

theorem zero_word (i : S_.Idx) : ((sitofp .f32 (constantI S_ 32 0#32) : FVec Ideal S_ .f32) i : EReal) = 0 := by
  show (((0#32 : BitVec 32).toInt : ℝ) : EReal) = 0
  simp

/-- The first result: the logits' gradient, zero in the lanes past the sixteenth. -/
theorem result0 (r : Fin 4096) (j : Fin 128) :
    (val_main_v9 (F := Ideal) f b d (ix2 r j) : EReal) = lane (fun i => (val_main_v5 (F := Ideal) f b d i : EReal)) r j :=
  pad_lane _ _ pads_S4096x16_S4096x128_000_01120 h_S_ zero_word r j

/-- The second result: the logits' gradient summed over the rows. -/
theorem result1 (j : Fin 128) :
    (val_main_v10 (F := Ideal) f b d (ix2 0 j) : EReal) = if h : j.val < 16 then ∑ r : Fin 4096, (val_main_v5 (F := Ideal) f b d (ix2 r ⟨j.val, h⟩) : EReal) else 0 := by
  refine (pad_lane _ _ pads_S1x16_S1x128_000_01120 h_S_ zero_word 0 j).trans ?_
  unfold lane
  split
  · rw [val_main_v7_apply, val_main_v6_apply, val_main_cst_apply]
    pointwise
    refine Finset.sum_congr rfl fun r _ => congrArg _ ?_
    rw [eq_ix2 (idx_main_v6 _ _)]
    congr 1
    apply Fin.ext
    show 0 * 16 + j.val = j.val
    omega
  · rfl

end Cert.ReferenceIdeal.LogfRef

end
-- ==== Proof.LogfClaim.lean ====
/- The value claim of the call that takes the gradient through the cumulative log forget gates: the kernel's two results are the reference's. -/
module

public import proofs.«01_k».proof.Defs
public import proofs.«01_k».proof.Proof.Finite
public import proofs.«01_k».proof.Proof.LogfKernel
public import proofs.«01_k».proof.Proof.LogfRef
public import proofs.«01_k».proof.Proof.Gen.ReferenceIdeal.Run

@[expose] public section

set_option maxRecDepth 16384

noncomputable section

namespace Cert.LogfClaim

open Idealize.ShloMosaic Idealize.SL.Sem Cert.LogfMath
open Cert.KernelIdeal.Logf (grad tail col)

section
variable (f : (⟨2, ![4096, 16]⟩ : Shape).Idx → EReal) (b : (⟨2, ![1, 16]⟩ : Shape).Idx → EReal) (d : (⟨2, ![4096, 16]⟩ : Shape).Idx → EReal)

/-- In the sixteen lanes that hold heads the kernel's logit gradient is the reference's. -/
theorem grad_head (r : Fin 4096) (j : Fin 128) (h : j.val < 16) :
    grad f b d r j = (Cert.ReferenceIdeal.Read.val_main_v5 (F := Ideal) f b d (ix2 r ⟨j.val, h⟩) : EReal) := by
  rw [Cert.ReferenceIdeal.LogfRef.dlogit]
  unfold grad tail
  have hf : lane f r j = f (ix2 r ⟨j.val, h⟩) := dif_pos h
  have hb : lane b 0 j = b (ix2 0 ⟨j.val, h⟩) := dif_pos h
  rw [hf, hb, zero_sub]
  congr 1
  refine Finset.sum_congr rfl fun k _ => ?_
  unfold col
  split
  · exact dif_pos h
  · rfl

/-- The lanes past the sixteenth hold no head: their gradient is zero. -/
theorem grad_pad (r : Fin 4096) (j : Fin 128) (h : ¬ j.val < 16) : grad f b d r j = 0 := by
  unfold grad tail
  rw [Finset.sum_eq_zero, zero_mul]
  intro k _
  unfold col
  split
  · exact dif_neg h
  · rfl

end

/-- The precondition read entry by entry: the cotangent is finite. -/
theorem finite [Cert.Pre_pre_logf.Facts] (m : (ℓ : Loc Cert.KernelIdeal.nD Cert.KernelIdeal.τ Cert.KernelIdeal.sig) → Buf (Elt Ideal) ℓ)
    (h : Cert.Pre_KernelIdeal_pre_logf m) (c : Dev Cert.KernelIdeal.nD) : Cert.KernelIdeal.Logf.Finite m c := by
  intro i
  exact Cert.Finite.of_abs_lt _ (congrFun (h c) i)

open Cert.KernelIdeal Cert.KernelIdeal.Logf in
/-- The kernel's two results are the reference's, from memories that agree on the arguments, where the cotangent is finite. -/
theorem value [Cert.Pre_pre_logf.Facts] : Cert.algebraic_KernelIdeal_ReferenceIdeal_pre_pre_logf := by
  intro m g m' g' hpre hag
  refine ⟨fun c => dlogit m c, fun c => dbias m c, ?_, ?_⟩
  · refine (θ_run _ _ _).mono (fun r h c => ?_) (Cert.KernelIdeal.Value.run_blocks m g)
    obtain ⟨h0, h1, h2⟩ := h c
    exact ⟨h0.trans (final_dz m c (finite m hpre c)), h1.trans (final_db m c (finite m hpre c)), h2⟩
  · refine (θ_run _ _ _).mono (fun r h c => ?_) (Cert.ReferenceIdeal.Value.run m' g')
    obtain ⟨h0, h1, h2⟩ := h c
    obtain ⟨ha, hb, hd⟩ := hag c
    rw [Cert.ReferenceIdeal.Read.val_main_v9_eq, ha, hb, hd] at h0
    rw [Cert.ReferenceIdeal.Read.val_main_v10_eq, ha, hb, hd] at h1
    refine ⟨h0.trans ?_, h1.trans ?_, h2⟩
    · funext x
      obtain ⟨p, j, rfl⟩ : ∃ p j, x = ix2 p j := ⟨_, _, eq_ix2 x⟩
      refine (Cert.ReferenceIdeal.LogfRef.result0 _ _ _ p j).trans (Eq.symm ?_)
      show grad (argF m c) (argB m c) (argD m c) p j = _
      unfold lane
      split
      · exact grad_head _ _ _ p j ‹_›
      · exact grad_pad _ _ _ p j ‹_›
    · funext x
      obtain ⟨p, j, rfl⟩ : ∃ p j, x = ix2 p j := ⟨_, _, eq_ix2 x⟩
      have hp : p = 0 := Fin.ext (by have := p.isLt; show p.val = 0; simp at this; omega)
      subst hp
      refine (Cert.ReferenceIdeal.LogfRef.result1 _ _ _ j).trans (Eq.symm ?_)
      show (∑ r : Fin 4096, grad (argF m c) (argB m c) (argD m c) r j : EReal) = _
      split
      · exact Finset.sum_congr rfl fun r _ => grad_head _ _ _ r j ‹_›
      · exact Finset.sum_eq_zero fun r _ => grad_pad _ _ _ r j ‹_›

end Cert.LogfClaim

end
-- ==== Proof.FoxInner.lean ====
/-
  The inner loop of the forget-gate attention's backward kernel: for the query block of the outer trip, one trip for
  each key block before the diagonal. Each trip adds its part to the two accumulators of the key block (`dk`, `dv`,
  kept transposed), to the key block's column sums, and to the two values carried along the query block's row.
-/
module

public import proofs.«01_k».proof.Proof.Gen.FoxIdeal.Frame
public import proofs.«01_k».proof.Proof.Gen.FoxIdeal.Skeleton
public import Idealize.ShloMosaic.Lib.VecWindow
public import Idealize.ShloMosaic.Lib.LoopRemainder

@[expose] public section

set_option maxRecDepth 16384

noncomputable section

namespace Cert.FoxRun

open Cert.FoxIdeal Cert.FoxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow (window put)

variable {F : FTy → Type} [FloatOps F] [Named F]

local notation "𝕄" => MT nD τ sig Unit (Elt F) ℕ (UR sig nD τ) ℕ

/-- What a query row carries along its key blocks: the row block's gradient of the queries and its row sums. -/
abbrev Carry (F : FTy → Type) := FVec F S1024x128 .f32 × FVec F S1024x1 .f32

/-- A query block's values that every key block reads: the stacked queries, the row sums of `do · o`, the log-sums,
    the stacked `do`, and its transpose. -/
structure RowVals (F : FTy → Type) where
  qs : FVec F S1024x128 .bf16
  delta : FVec F S1024x1 .f32
  lse : FVec F S1024x1 .f32
  dos : FVec F S1024x128 .bf16
  dosT : FVec F S128x1024 .bf16

/-- The contents that the loops update: the column sums of the key blocks, and the two accumulators. -/
structure Acc (F : FTy → Type) where
  db : Vec F S1x2x8x1x512 .f32
  dk : Vec F S8x128x512 .f32
  dv : Vec F S8x128x512 .f32

section Step

variable (xk xv : Vec F S4096x128 .bf16) (xb : Vec F S1x2x8x1x512 .f32) (r : RowVals F)
variable (i : Fin k0_t1_loop.trips) (j : Fin (k0_t2_loop i).trips)

/-- The gradient of the scores of one block before the diagonal. -/
def dsBlock : FVec F S1024x512 .f32 :=
  k0_pay11 r.qs r.delta r.lse r.dos (window xk (k0_off4 i j) S512x128.size (k0_off4_inb i j))
    (window xv (k0_off4 i j) S512x128.size (k0_off4_inb i j))
    (window xb (k0_off5 i j) S1x1x1x1x512.size (k0_off5_inb i j))
    (window xb (k0_off6 i j) S1x1x1x1x512.size (k0_off6_inb i j))

/-- The same, cast for the products. -/
def dsBlockB : FVec F S1024x512 .bf16 :=
  k0_pay12 r.qs r.delta r.lse r.dos (window xk (k0_off4 i j) S512x128.size (k0_off4_inb i j))
    (window xv (k0_off4 i j) S512x128.size (k0_off4_inb i j))
    (window xb (k0_off5 i j) S1x1x1x1x512.size (k0_off5_inb i j))
    (window xb (k0_off6 i j) S1x1x1x1x512.size (k0_off6_inb i j))

/-- One trip on the contents. -/
def stepAcc (s : Acc F) : Acc F where
  db := put (put s.db (k0_off5 i j) S1x1x1x1x512.size
          (k0_pay16 (dsBlock xk xv xb r i j) (window s.db (k0_off5 i j) S1x1x1x1x512.size (k0_off5_inb i j))))
        (k0_off6 i j) S1x1x1x1x512.size
          (k0_pay17 (dsBlock xk xv xb r i j) (window s.db (k0_off6 i j) S1x1x1x1x512.size (k0_off6_inb i j)))
  dk := put s.dk (k0_off7 i j) S1x128x512.size
          (k0_pay15 (k0_pay33 r.qs) (dsBlockB xk xv xb r i j) (window s.dk (k0_off7 i j) S1x128x512.size (k0_off7_inb i j)))
  dv := put s.dv (k0_off7 i j) S1x128x512.size
          (k0_pay14 (k0_pay13 r.qs r.lse r.dosT (window xk (k0_off4 i j) S512x128.size (k0_off4_inb i j))
            (window xb (k0_off5 i j) S1x1x1x1x512.size (k0_off5_inb i j))
            (window xb (k0_off6 i j) S1x1x1x1x512.size (k0_off6_inb i j))
            (window s.dv (k0_off7 i j) S1x128x512.size (k0_off7_inb i j))))

/-- One trip on what the row carries. -/
def stepCarry (a : Carry F) : Carry F :=
  (k0_pay37 a.1 (k0_pay9 (window xk (k0_off4 i j) S512x128.size (k0_off4_inb i j))) (dsBlockB xk xv xb r i j),
   k0_pay36 a.2 (dsBlock xk xv xb r i j))

end Step

theorem off5_eq : ∀ (i : Fin k0_t1_loop.trips) (j : Fin (k0_t2_loop i).trips), k0_off5 i j = ![0, 0, j.val, 0, 0] := by decide +kernel
theorem off6_eq : ∀ (i : Fin k0_t1_loop.trips) (j : Fin (k0_t2_loop i).trips), k0_off6 i j = ![0, 1, j.val, 0, 0] := by decide +kernel
instance closedOff_off5 (i : Fin k0_t1_loop.trips) (j : Fin (k0_t2_loop i).trips) : ClosedOff (k0_off5 i j) := ⟨_, off5_eq i j⟩
instance closedOff_off6 (i : Fin k0_t1_loop.trips) (j : Fin (k0_t2_loop i).trips) : ClosedOff (k0_off6 i j) := ⟨_, off6_eq i j⟩

section Trip

variable (c : Dev nD) (g : grid0.Coords)
  (arg1 : Memref sig .tc .vmem S4096x128 .bf16) (harg1 : arg1.IsWhole) (arg2 : Memref sig .tc .vmem S4096x128 .bf16) (harg2 : arg2.IsWhole)
  (arg3 : Memref sig .tc .vmem S4096x128 .bf16) (harg3 : arg3.IsWhole) (arg4 : Memref sig .tc .vmem S4096x128 .f32) (harg4 : arg4.IsWhole)
  (arg5 : Memref sig .tc .vmem S4096x128 .f32) (harg5 : arg5.IsWhole) (arg6 : Memref sig .tc .vmem S1x2x4096x1 .f32) (harg6 : arg6.IsWhole)
  (arg7 : Memref sig .tc .vmem S1x2x8x1x512 .f32) (harg7 : arg7.IsWhole) (arg8 : Memref sig .tc .vmem S3x4096x128 .bf16) (harg8 : arg8.IsWhole)
  (arg9 : Memref sig .tc .vmem S1x2x8x1x512 .f32) (harg9 : arg9.IsWhole) (arg10 : Memref sig .tc .vmem S1x2x8x1x512 .f32) (harg10 : arg10.IsWhole)
  (arg11 : Memref sig .tc .vmem S8x128x512 .f32) (harg11 : arg11.IsWhole) (arg12 : Memref sig .tc .vmem S8x128x512 .f32) (harg12 : arg12.IsWhole)

/-- The buffers an inner trip reads and updates. -/
abbrev Held (xk xv : Vec F S4096x128 .bf16) (xb : Vec F S1x2x8x1x512 .f32) (s : Acc F) : sProp 𝕄 :=
  iprop(owns (c : Thread nD τ) arg2 fullShare xk ∗ owns (c : Thread nD τ) arg3 fullShare xv ∗ owns (c : Thread nD τ) arg7 fullShare xb
    ∗ owns (c : Thread nD τ) arg9 fullShare s.db ∗ owns (c : Thread nD τ) arg11 fullShare s.dk ∗ owns (c : Thread nD τ) arg12 fullShare s.dv)

include harg1 harg2 harg3 harg4 harg5 harg6 harg7 harg8 harg9 harg10 harg11 harg12 in
/-- One inner trip: the contents and the carried values step. -/
theorem trip_inner (E : Set ℕ) (v13 : IVec S1024x512 1) (i : Fin k0_t1_loop.trips) (w : BitVec 32) (r : RowVals F) (xk xv : Vec F S4096x128 .bf16)
    (xb : Vec F S1x2x8x1x512 .f32) (s : Acc F) (j : Fin (k0_t2_loop i).trips) (a : Carry F) :
    Held c arg2 arg3 arg7 arg9 arg11 arg12 xk xv xb s
      ⊢ wp frame (wpE (defs₀ (F := F)) Variants.none c none) E
          (k0_t2_body g arg1 harg1 arg2 harg2 arg3 harg3 arg4 harg4 arg5 harg5 arg6 harg6 arg7 harg7 arg8 harg8 arg9 harg9 arg10 harg10 arg11 harg11 arg12 harg12
            v13 i w r.qs r.delta r.lse r.dos r.dosT j a)
          (fun y => iprop(⌜y = stepCarry xk xv xb r i j a⌝ ∗ Held c arg2 arg3 arg7 arg9 arg11 arg12 xk xv xb (stepAcc xk xv xb r i j s))) := by
  obtain ⟨a1, a2⟩ := a
  unfold k0_t2_body
  simp only [k0_part1_eq_skeleton, k0_part2_eq_skeleton]
  unfold Held owns
  iintro ⟨⟨%f2, %hf2, H2⟩, ⟨%f3, %hf3, H3⟩, ⟨%f7, %hf7, H7⟩, ⟨%f9, %hf9, H9⟩, ⟨%f11, %hf11, H11⟩, ⟨%f12, %hf12, H12⟩⟩
  sl_exec
  sl_step
  isplitr
  · ipureintro
    subst hf2 hf3 hf7
    rfl
  isplitl [H2]
  · iexists _; isplitr; · ipureintro; exact hf2
    iexact H2
  isplitl [H3]
  · iexists _; isplitr; · ipureintro; exact hf3
    iexact H3
  isplitl [H7]
  · iexists _; isplitr; · ipureintro; exact hf7
    iexact H7
  isplitl [H9]
  · iexists _; isplitr
    swap; · iexact H9
    ipureintro
    subst hf2 hf3 hf7
    rw [View.read_writes_cons_put _ _ _ _ _ rfl, View.read_writes_cons_put _ _ _ _ _ rfl, View.writes_nil]
    unfold stepAcc
    dsimp only
    rw [← hf9]
    rfl
  isplitl [H11]
  · iexists _; isplitr
    swap; · iexact H11
    ipureintro
    subst hf2 hf3 hf7
    rw [View.read_writes_cons_put _ _ _ _ _ rfl, View.writes_nil]
    unfold stepAcc
    dsimp only
    rw [← hf11]
    rfl
  iexists _; isplitr
  swap; · iexact H12
  ipureintro
  subst hf2 hf3 hf7
  rw [View.read_writes_cons_put _ _ _ _ _ rfl, View.writes_nil]
  unfold stepAcc
  dsimp only
  rw [← hf12]
  rfl

end Trip

/-- The contents and the carried values after `n` trips of the inner loop, from those before it. -/
abbrev innerFrom (xk xv : Vec F S4096x128 .bf16) (xb : Vec F S1x2x8x1x512 .f32) (r : RowVals F) (i : Fin k0_t1_loop.trips) (p : Acc F × Carry F)
    (n : ℕ) : Acc F × Carry F :=
  Nat.rec (motive := fun _ => Acc F × Carry F) p
    (fun n a => if h : n < (k0_t2_loop i).trips then (stepAcc xk xv xb r i ⟨n, h⟩ a.1, stepCarry xk xv xb r i ⟨n, h⟩ a.2) else a) n

theorem innerFrom_succ (xk xv : Vec F S4096x128 .bf16) (xb : Vec F S1x2x8x1x512 .f32) (r : RowVals F) (i : Fin k0_t1_loop.trips) (p : Acc F × Carry F)
    (j : Fin (k0_t2_loop i).trips) :
    innerFrom xk xv xb r i p (j.val + 1)
      = (stepAcc xk xv xb r i j (innerFrom xk xv xb r i p j.val).1, stepCarry xk xv xb r i j (innerFrom xk xv xb r i p j.val).2) :=
  dif_pos j.isLt

set_option warn.classDefReducibility false in
/-- The inner loop's invariant: contents and carried values are those of the recursion. -/
@[sl_loop] def loopInv_inner (c : Dev nD) (E : Set ℕ) (g : grid0.Coords)
    (arg1 : Memref sig .tc .vmem S4096x128 .bf16) (harg1 : arg1.IsWhole) (arg2 : Memref sig .tc .vmem S4096x128 .bf16) (harg2 : arg2.IsWhole)
    (arg3 : Memref sig .tc .vmem S4096x128 .bf16) (harg3 : arg3.IsWhole) (arg4 : Memref sig .tc .vmem S4096x128 .f32) (harg4 : arg4.IsWhole)
    (arg5 : Memref sig .tc .vmem S4096x128 .f32) (harg5 : arg5.IsWhole) (arg6 : Memref sig .tc .vmem S1x2x4096x1 .f32) (harg6 : arg6.IsWhole)
    (arg7 : Memref sig .tc .vmem S1x2x8x1x512 .f32) (harg7 : arg7.IsWhole) (arg8 : Memref sig .tc .vmem S3x4096x128 .bf16) (harg8 : arg8.IsWhole)
    (arg9 : Memref sig .tc .vmem S1x2x8x1x512 .f32) (harg9 : arg9.IsWhole) (arg10 : Memref sig .tc .vmem S1x2x8x1x512 .f32) (harg10 : arg10.IsWhole)
    (arg11 : Memref sig .tc .vmem S8x128x512 .f32) (harg11 : arg11.IsWhole) (arg12 : Memref sig .tc .vmem S8x128x512 .f32) (harg12 : arg12.IsWhole)
    (v13 : IVec S1024x512 1) (i : Fin k0_t1_loop.trips) (w : BitVec 32) (v32 : FVec F S1024x128 .bf16) (v50 : FVec F S1024x1 .f32) (v57 : FVec F S1024x1 .f32)
    (v58 : FVec F S1024x128 .bf16) (v60 : FVec F S128x1024 .bf16)
    (f2 : BufTy.Contents (Elt F) arg2.view.ty) (f3 : BufTy.Contents (Elt F) arg3.view.ty) (f7 : BufTy.Contents (Elt F) arg7.view.ty)
    (p : Acc F × Carry F) :
    LoopInv (M := 𝕄) frame (wpE (defs₀ (F := F)) Variants.none c none) E (k0_t2_loop i).lb (k0_t2_loop i).ub (k0_t2_loop i).st (k0_t2_ok i)
      (k0_pay34 (F := F), k0_pay35 (F := F))
      (k0_t2_body g arg1 harg1 arg2 harg2 arg3 harg3 arg4 harg4 arg5 harg5 arg6 harg6 arg7 harg7 arg8 harg8 arg9 harg9 arg10 harg10 arg11 harg11 arg12 harg12
            v13 i w v32 v50 v57 v58 v60) where
  inv n a := iprop((arg2.view.loc (c : Thread nD τ) ↦[arg2.view.set]{fullShare} f2) ∗ (arg3.view.loc (c : Thread nD τ) ↦[arg3.view.set]{fullShare} f3)
    ∗ (arg7.view.loc (c : Thread nD τ) ↦[arg7.view.set]{fullShare} f7)
    ∗ (∃ e9, (arg9.view.loc (c : Thread nD τ) ↦[arg9.view.set]{fullShare} e9) ∗ (∃ e11, (arg11.view.loc (c : Thread nD τ) ↦[arg11.view.set]{fullShare} e11)
    ∗ (∃ e12, (arg12.view.loc (c : Thread nD τ) ↦[arg12.view.set]{fullShare} e12)
    ∗ ⌜((⟨arg9.view.read (Elt F) e9, arg11.view.read (Elt F) e11, arg12.view.read (Elt F) e12⟩ : Acc F), a)
        = innerFrom (arg2.view.read (Elt F) f2) (arg3.view.read (Elt F) f3) (arg7.view.read (Elt F) f7) ⟨v32, v50, v57, v58, v60⟩ i p n⌝))))
  step j a := by
    iintro ⟨H2, H3, H7, ⟨%e9, H9, ⟨%e11, H11, ⟨%e12, H12, %he⟩⟩⟩⟩
    iapply (wp_wand_r Idealize.ShloMosaic.frame (wpE (defs₀ (F := F)) Variants.none (c : Thread nD τ) none) E)
    isplitl [H2 H3 H7 H9 H11 H12]
    · iapply (trip_inner c g arg1 harg1 arg2 harg2 arg3 harg3 arg4 harg4 arg5 harg5 arg6 harg6 arg7 harg7 arg8 harg8 arg9 harg9 arg10 harg10
        arg11 harg11 arg12 harg12 E v13 i w ⟨v32, v50, v57, v58, v60⟩ (arg2.view.read (Elt F) f2) (arg3.view.read (Elt F) f3) (arg7.view.read (Elt F) f7)
        ⟨arg9.view.read (Elt F) e9, arg11.view.read (Elt F) e11, arg12.view.read (Elt F) e12⟩ j a)
      unfold Held owns
      isplitl [H2]
      · iexists _; isplitr
        swap; · iexact H2
        ipureintro; rfl
      isplitl [H3]
      · iexists _; isplitr
        swap; · iexact H3
        ipureintro; rfl
      isplitl [H7]
      · iexists _; isplitr
        swap; · iexact H7
        ipureintro; rfl
      isplitl [H9]
      · iexists _; isplitr
        swap; · iexact H9
        ipureintro; rfl
      isplitl [H11]
      · iexists _; isplitr
        swap; · iexact H11
        ipureintro; rfl
      iexists _; isplitr
      swap; · iexact H12
      ipureintro; rfl
    · unfold Held owns
      iintro %y ⟨%hy, ⟨%g2, %hg2, H2⟩, ⟨%g3, %hg3, H3⟩, ⟨%g7, %hg7, H7⟩, ⟨%g9, %hg9, H9⟩, ⟨%g11, %hg11, H11⟩, ⟨%g12, %hg12, H12⟩⟩
      obtain rfl := harg2.read_bijective.1 hg2
      obtain rfl := harg3.read_bijective.1 hg3
      obtain rfl := harg7.read_bijective.1 hg7
      isplitl [H2]; · iexact H2
      isplitl [H3]; · iexact H3
      isplitl [H7]; · iexact H7
      iexists _; isplitl [H9]; · iexact H9
      iexists _; isplitl [H11]; · iexact H11
      iexists _; isplitl [H12]; · iexact H12
      ipureintro
      rw [innerFrom_succ, ← he, hy, hg9, hg11, hg12]

end Cert.FoxRun
-- ==== Proof.FoxOuter.lean ====
/-
  The outer loop of the forget-gate attention's backward kernel, one trip for each query block: the row's values, the
  inner loop over the key blocks before the diagonal, the diagonal block, and the stores of the row's results.
-/
module

public import proofs.«01_k».proof.Proof.FoxInner

@[expose] public section

set_option maxRecDepth 16384

noncomputable section

namespace Cert.FoxRun

open Cert.FoxIdeal Cert.FoxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow (window put)

variable {F : FTy → Type} [FloatOps F] [Named F]

local notation "𝕄" => MT nD τ sig Unit (Elt F) ℕ (UR sig nD τ) ℕ

/-- The kernel's input blocks at one grid point. -/
structure Ins (F : FTy → Type) where
  q : Vec F S4096x128 .bf16
  k : Vec F S4096x128 .bf16
  v : Vec F S4096x128 .bf16
  dO : Vec F S4096x128 .f32
  o : Vec F S4096x128 .f32
  lse : Vec F S1x2x4096x1 .f32
  bias : Vec F S1x2x8x1x512 .f32

/-- The contents the whole body updates. -/
structure Full (F : FTy → Type) where
  acc : Acc F
  out : Vec F S3x4096x128 .bf16
  dr : Vec F S1x2x8x1x512 .f32

section Step

variable (x : Ins F) (i : Fin k0_t1_loop.trips)

/-- A query block's values. -/
def rowVals : RowVals F where
  qs := k0_pay27 (window x.q (k0_off1 i) S512x128.size (k0_off1_inb i))
  delta := k0_pay29 (window x.dO (k0_off1 i) S512x128.size (k0_off1_inb i)) (window x.o (k0_off1 i) S512x128.size (k0_off1_inb i))
  lse := k0_pay30 (window x.lse (k0_off2 i) S1x1x512x1.size (k0_off2_inb i)) (window x.lse (k0_off3 i) S1x1x512x1.size (k0_off3_inb i))
  dos := k0_pay31 (window x.dO (k0_off1 i) S512x128.size (k0_off1_inb i))
  dosT := k0_pay32 (window x.dO (k0_off1 i) S512x128.size (k0_off1_inb i))

/-- The contents and the carried values after the inner loop. -/
def inner (s : Acc F) : Acc F × Carry F :=
  innerFrom x.k x.v x.bias (rowVals x i) i (s, (k0_pay34 (F := F), k0_pay35 (F := F))) (k0_t2_loop i).trips

/-- The masked probabilities of the diagonal block. -/
def diagP : FVec F S1024x512 .f32 :=
  k0_pay42 k0_pay4 (rowVals x i).qs (rowVals x i).lse (window x.k (k0_off1 i) S512x128.size (k0_off1_inb i))
    (window x.bias (k0_off12 i) S1x1x1x1x512.size (k0_off12_inb i)) (window x.bias (k0_off13 i) S1x1x1x1x512.size (k0_off13_inb i))

/-- The diagonal block's values. -/
def diagV : FVec F S512x128 .bf16 := k0_pay41 (window x.v (k0_off1 i) S512x128.size (k0_off1_inb i))

/-- The gradient of the scores of the diagonal block. -/
def diagDs : FVec F S1024x512 .f32 := k0_pay43 (rowVals x i).delta (rowVals x i).dos (diagV x i) (diagP x i)

/-- The contents after the diagonal block, from those after the inner loop. -/
def diagAcc (s : Acc F) : Acc F where
  db := put (put s.db (k0_off12 i) S1x1x1x1x512.size
          (k0_pay47 (rowVals x i).delta (rowVals x i).dos (diagV x i) (diagP x i) (window s.db (k0_off12 i) S1x1x1x1x512.size (k0_off12_inb i))))
        (k0_off13 i) S1x1x1x1x512.size
          (k0_pay48 (diagDs x i) (window s.db (k0_off13 i) S1x1x1x1x512.size (k0_off13_inb i)))
  dk := put s.dk (k0_off14 i) S1x128x512.size
          (k0_pay46 (rowVals x i).delta (rowVals x i).dos (k0_pay33 (rowVals x i).qs) (diagV x i) (diagP x i)
            (window s.dk (k0_off14 i) S1x128x512.size (k0_off14_inb i)))
  dv := put s.dv (k0_off14 i) S1x128x512.size
          (k0_pay45 (rowVals x i).dosT (diagP x i) (window s.dv (k0_off14 i) S1x128x512.size (k0_off14_inb i)))

/-- The row block of the queries' gradient, from what the inner loop carried out. -/
def rowDq (a : Carry F) : Vec F S1x512x128 .bf16 :=
  k0_pay49 k0_pay5 a.1 (k0_pay40 (window x.k (k0_off1 i) S512x128.size (k0_off1_inb i)))
    (k0_pay44 (rowVals x i).delta (rowVals x i).dos (diagV x i) (diagP x i))

/-- One trip of the outer loop. -/
def stepFull (s : Full F) : Full F where
  acc := diagAcc x i (inner x i s.acc).1
  out := put s.out (k0_off15 i) S1x512x128.size (rowDq x i (inner x i s.acc).2)
  dr := put (put s.dr (k0_off12 i) S1x1x1x1x512.size (k0_pay51 (inner x i s.acc).2.2 (diagDs x i)))
          (k0_off13 i) S1x1x1x1x512.size (k0_pay6 (k0_pay52 (inner x i s.acc).2.2 (diagDs x i)))

end Step

theorem off12_eq : ∀ i : Fin k0_t1_loop.trips, k0_off12 i = ![0, 0, i.val, 0, 0] := by decide +kernel
theorem off13_eq : ∀ i : Fin k0_t1_loop.trips, k0_off13 i = ![0, 1, i.val, 0, 0] := by decide +kernel
instance closedOff_off12 (i : Fin k0_t1_loop.trips) : ClosedOff (k0_off12 i) := ⟨_, off12_eq i⟩
instance closedOff_off13 (i : Fin k0_t1_loop.trips) : ClosedOff (k0_off13 i) := ⟨_, off13_eq i⟩

section Trip

variable (c : Dev nD) (g : grid0.Coords)
  (arg1 : Memref sig .tc .vmem S4096x128 .bf16) (harg1 : arg1.IsWhole) (arg2 : Memref sig .tc .vmem S4096x128 .bf16) (harg2 : arg2.IsWhole)
  (arg3 : Memref sig .tc .vmem S4096x128 .bf16) (harg3 : arg3.IsWhole) (arg4 : Memref sig .tc .vmem S4096x128 .f32) (harg4 : arg4.IsWhole)
  (arg5 : Memref sig .tc .vmem S4096x128 .f32) (harg5 : arg5.IsWhole) (arg6 : Memref sig .tc .vmem S1x2x4096x1 .f32) (harg6 : arg6.IsWhole)
  (arg7 : Memref sig .tc .vmem S1x2x8x1x512 .f32) (harg7 : arg7.IsWhole) (arg8 : Memref sig .tc .vmem S3x4096x128 .bf16) (harg8 : arg8.IsWhole)
  (arg9 : Memref sig .tc .vmem S1x2x8x1x512 .f32) (harg9 : arg9.IsWhole) (arg10 : Memref sig .tc .vmem S1x2x8x1x512 .f32) (harg10 : arg10.IsWhole)
  (arg11 : Memref sig .tc .vmem S8x128x512 .f32) (harg11 : arg11.IsWhole) (arg12 : Memref sig .tc .vmem S8x128x512 .f32) (harg12 : arg12.IsWhole)

/-- The input blocks, held. -/
abbrev HeldIns (x : Ins F) : sProp 𝕄 :=
  iprop(owns (c : Thread nD τ) arg1 fullShare x.q ∗ owns (c : Thread nD τ) arg2 fullShare x.k ∗ owns (c : Thread nD τ) arg3 fullShare x.v
    ∗ owns (c : Thread nD τ) arg4 fullShare x.dO ∗ owns (c : Thread nD τ) arg5 fullShare x.o ∗ owns (c : Thread nD τ) arg6 fullShare x.lse
    ∗ owns (c : Thread nD τ) arg7 fullShare x.bias)

/-- The updated buffers, held. -/
abbrev HeldOuts (s : Full F) : sProp 𝕄 :=
  iprop(owns (c : Thread nD τ) arg8 fullShare s.out ∗ owns (c : Thread nD τ) arg9 fullShare s.acc.db ∗ owns (c : Thread nD τ) arg10 fullShare s.dr
    ∗ owns (c : Thread nD τ) arg11 fullShare s.acc.dk ∗ owns (c : Thread nD τ) arg12 fullShare s.acc.dv)

include harg1 harg2 harg3 harg4 harg5 harg6 harg7 harg8 harg9 harg10 harg11 harg12 in
set_option maxHeartbeats 2000000 in
/-- One trip of the outer loop: the contents step. -/
theorem trip_outer (E : Set ℕ) (x : Ins F) (s : Full F) (i : Fin k0_t1_loop.trips) :
    iprop(HeldIns c arg1 arg2 arg3 arg4 arg5 arg6 arg7 x ∗ HeldOuts c arg8 arg9 arg10 arg11 arg12 s)
      ⊢ wp frame (wpE (defs₀ (F := F)) Variants.none c none) E
          (k0_t1_body g arg1 harg1 arg2 harg2 arg3 harg3 arg4 harg4 arg5 harg5 arg6 harg6 arg7 harg7 arg8 harg8 arg9 harg9 arg10 harg10 arg11 harg11 arg12 harg12
            i PUnit.unit)
          (fun _ => iprop(HeldIns c arg1 arg2 arg3 arg4 arg5 arg6 arg7 x ∗ HeldOuts c arg8 arg9 arg10 arg11 arg12 (stepFull x i s))) := by
  unfold k0_t1_body
  simp only [k0_part5_eq_skeleton, k0_part6_eq_skeleton, k0_part7_eq_skeleton, k0_part8_eq_skeleton]
  unfold HeldIns HeldOuts owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩,
    ⟨%f8, %hf8, H8⟩, ⟨%f9, %hf9, H9⟩, ⟨%f10, %hf10, H10⟩, ⟨%f11, %hf11, H11⟩, ⟨%f12, %hf12, H12⟩⟩
  obtain ⟨xq, xk, xv, xdO, xo, xlse, xbias⟩ := x
  obtain ⟨⟨sdb, sdk, sdv⟩, sout, sdr⟩ := s
  dsimp only at hf1 hf2 hf3 hf4 hf5 hf6 hf7 hf8 hf9 hf10 hf11 hf12
  subst hf1 hf2 hf3 hf4 hf5 hf6 hf7 hf8 hf9 hf10 hf11 hf12
  sl_exec
  rename_i acc
  sl_step
  have hs : inner ⟨arg1.view.read (Elt F) f1, arg2.view.read (Elt F) f2, arg3.view.read (Elt F) f3, arg4.view.read (Elt F) f4, arg5.view.read (Elt F) f5,
        arg6.view.read (Elt F) f6, arg7.view.read (Elt F) f7⟩ i
        ⟨arg9.view.read (Elt F) f9, arg11.view.read (Elt F) f11, arg12.view.read (Elt F) f12⟩
      = ((⟨arg9.view.read (Elt F) e9L0, arg11.view.read (Elt F) e11L1, arg12.view.read (Elt F) e12L2⟩ : Acc F), acc) := hL6.symm
  isplitl [H1 H2 H3 H4 H5 H6 H7]
  · isplitl [H1]
    · iexists _; isplitr
      swap; · iexact H1
      ipureintro; rfl
    isplitl [H2]
    · iexists _; isplitr
      swap; · iexact H2
      ipureintro; rfl
    isplitl [H3]
    · iexists _; isplitr
      swap; · iexact H3
      ipureintro; rfl
    isplitl [H4]
    · iexists _; isplitr
      swap; · iexact H4
      ipureintro; rfl
    isplitl [H5]
    · iexists _; isplitr
      swap; · iexact H5
      ipureintro; rfl
    isplitl [H6]
    · iexists _; isplitr
      swap; · iexact H6
      ipureintro; rfl
    iexists _; isplitr
    swap; · iexact H7
    ipureintro; rfl
  isplitl [H8]
  · iexists _; isplitr
    swap; · iexact H8
    ipureintro
    rw [View.read_writes_cons_put _ _ _ _ _ rfl, View.writes_nil]
    unfold stepFull
    rw [hs]
    rfl
  isplitl [H9]
  · iexists _; isplitr
    swap; · iexact H9
    ipureintro
    rw [View.read_writes_cons_put _ _ _ _ _ rfl, View.read_writes_cons_put _ _ _ _ _ rfl, View.writes_nil]
    unfold stepFull
    rw [hs]
    rfl
  isplitl [H10]
  · iexists _; isplitr
    swap; · iexact H10
    ipureintro
    rw [View.read_writes_cons_put _ _ _ _ _ rfl, View.read_writes_cons_put _ _ _ _ _ rfl, View.writes_nil]
    unfold stepFull
    rw [hs]
    rfl
  isplitl [H11]
  · iexists _; isplitr
    swap; · iexact H11
    ipureintro
    rw [View.read_writes_cons_put _ _ _ _ _ rfl, View.writes_nil]
    unfold stepFull
    rw [hs]
    rfl
  iexists _; isplitr
  swap; · iexact H12
  ipureintro
  rw [View.read_writes_cons_put _ _ _ _ _ rfl, View.writes_nil]
  unfold stepFull
  rw [hs]
  rfl

end Trip

end Cert.FoxRun
-- ==== Proof.FoxBody.lean ====
/-
  The whole body of the forget-gate attention's backward kernel at one grid point: the accumulators are cleared, the outer
  loop runs over the query blocks, and a last loop writes the gradients of the keys and of the values.
-/
module

public import proofs.«01_k».proof.Proof.FoxOuter

@[expose] public section

set_option maxRecDepth 16384

noncomputable section

namespace Cert.FoxRun

open Cert.FoxIdeal Cert.FoxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow (window put)

variable {F : FTy → Type} [FloatOps F] [Named F]

local notation "𝕄" => MT nD τ sig Unit (Elt F) ℕ (UR sig nD τ) ℕ

/-- The contents after `n` trips of the outer loop. -/
abbrev outerFrom (x : Ins F) (p : Full F) (n : ℕ) : Full F :=
  Nat.rec (motive := fun _ => Full F) p (fun n s => if h : n < k0_t1_loop.trips then stepFull x ⟨n, h⟩ s else s) n

theorem outerFrom_succ (x : Ins F) (p : Full F) (i : Fin k0_t1_loop.trips) : outerFrom x p (i.val + 1) = stepFull x i (outerFrom x p i.val) :=
  dif_pos i.isLt

/-- One trip of the last loop: a key block's gradients, cast and written out. -/
def stepStore (dk dv : Vec F S8x128x512 .f32) (j : Fin k0_t4_loop.trips) (o : Vec F S3x4096x128 .bf16) : Vec F S3x4096x128 .bf16 :=
  put (put o (k0_off18 j) S1x512x128.size (k0_pay7 (window dk (k0_off16 j) S1x128x512.size (k0_off16_inb j))))
    (k0_off19 j) S1x512x128.size (k0_pay8 (window dv (k0_off16 j) S1x128x512.size (k0_off16_inb j)))

/-- The gradients' block after `n` trips of the last loop. -/
abbrev storeFrom (dk dv : Vec F S8x128x512 .f32) (o : Vec F S3x4096x128 .bf16) (n : ℕ) : Vec F S3x4096x128 .bf16 :=
  Nat.rec (motive := fun _ => Vec F S3x4096x128 .bf16) o (fun n o => if h : n < k0_t4_loop.trips then stepStore dk dv ⟨n, h⟩ o else o) n

theorem storeFrom_succ (dk dv : Vec F S8x128x512 .f32) (o : Vec F S3x4096x128 .bf16) (j : Fin k0_t4_loop.trips) :
    storeFrom dk dv o (j.val + 1) = stepStore dk dv j (storeFrom dk dv o j.val) :=
  dif_pos j.isLt

/-- What the outer loop starts from, and what it leaves. -/
def start (out : Vec F S3x4096x128 .bf16) (dr : Vec F S1x2x8x1x512 .f32) : Full F := ⟨⟨k0_pay1, k0_pay2, k0_pay3⟩, out, dr⟩
def looped (x : Ins F) (out : Vec F S3x4096x128 .bf16) (dr : Vec F S1x2x8x1x512 .f32) : Full F := outerFrom x (start out dr) k0_t1_loop.trips
/-- The gradients' block that the body leaves. -/
def bodyOut (x : Ins F) (out : Vec F S3x4096x128 .bf16) (dr : Vec F S1x2x8x1x512 .f32) : Vec F S3x4096x128 .bf16 :=
  storeFrom (looped x out dr).acc.dk (looped x out dr).acc.dv (looped x out dr).out k0_t4_loop.trips

set_option maxHeartbeats 2000000 in
set_option warn.classDefReducibility false in
/-- The outer loop's invariant: the contents are those of the recursion. -/
@[sl_loop] def loopInv_outer (c : Dev nD) (E : Set ℕ) (g : grid0.Coords)
    (arg1 : Memref sig .tc .vmem S4096x128 .bf16) (harg1 : arg1.IsWhole) (arg2 : Memref sig .tc .vmem S4096x128 .bf16) (harg2 : arg2.IsWhole)
    (arg3 : Memref sig .tc .vmem S4096x128 .bf16) (harg3 : arg3.IsWhole) (arg4 : Memref sig .tc .vmem S4096x128 .f32) (harg4 : arg4.IsWhole)
    (arg5 : Memref sig .tc .vmem S4096x128 .f32) (harg5 : arg5.IsWhole) (arg6 : Memref sig .tc .vmem S1x2x4096x1 .f32) (harg6 : arg6.IsWhole)
    (arg7 : Memref sig .tc .vmem S1x2x8x1x512 .f32) (harg7 : arg7.IsWhole) (arg8 : Memref sig .tc .vmem S3x4096x128 .bf16) (harg8 : arg8.IsWhole)
    (arg9 : Memref sig .tc .vmem S1x2x8x1x512 .f32) (harg9 : arg9.IsWhole) (arg10 : Memref sig .tc .vmem S1x2x8x1x512 .f32) (harg10 : arg10.IsWhole)
    (arg11 : Memref sig .tc .vmem S8x128x512 .f32) (harg11 : arg11.IsWhole) (arg12 : Memref sig .tc .vmem S8x128x512 .f32) (harg12 : arg12.IsWhole)
    (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty)
    (p : Full F) :
    LoopInv (M := 𝕄) frame (wpE (defs₀ (F := F)) Variants.none c none) E k0_t1_loop.lb k0_t1_loop.ub k0_t1_loop.st k0_t1_ok PUnit.unit
      (k0_t1_body g arg1 harg1 arg2 harg2 arg3 harg3 arg4 harg4 arg5 harg5 arg6 harg6 arg7 harg7 arg8 harg8 arg9 harg9 arg10 harg10 arg11 harg11 arg12 harg12) where
  inv n _ := iprop((arg1.view.loc (c : Thread nD τ) ↦[arg1.view.set]{fullShare} f1)
    ∗ (arg2.view.loc (c : Thread nD τ) ↦[arg2.view.set]{fullShare} f2)
    ∗ (arg3.view.loc (c : Thread nD τ) ↦[arg3.view.set]{fullShare} f3)
    ∗ (arg4.view.loc (c : Thread nD τ) ↦[arg4.view.set]{fullShare} f4)
    ∗ (arg5.view.loc (c : Thread nD τ) ↦[arg5.view.set]{fullShare} f5)
    ∗ (arg6.view.loc (c : Thread nD τ) ↦[arg6.view.set]{fullShare} f6)
    ∗ (arg7.view.loc (c : Thread nD τ) ↦[arg7.view.set]{fullShare} f7)
    ∗ (∃ e8, (arg8.view.loc (c : Thread nD τ) ↦[arg8.view.set]{fullShare} e8) ∗ (∃ e9, (arg9.view.loc (c : Thread nD τ) ↦[arg9.view.set]{fullShare} e9) ∗ (∃ e10, (arg10.view.loc (c : Thread nD τ) ↦[arg10.view.set]{fullShare} e10) ∗ (∃ e11, (arg11.view.loc (c : Thread nD τ) ↦[arg11.view.set]{fullShare} e11) ∗ (∃ e12, (arg12.view.loc (c : Thread nD τ) ↦[arg12.view.set]{fullShare} e12) ∗ ⌜(⟨⟨arg9.view.read (Elt F) e9, arg11.view.read (Elt F) e11, arg12.view.read (Elt F) e12⟩, arg8.view.read (Elt F) e8, arg10.view.read (Elt F) e10⟩ : Full F)
        = outerFrom ⟨arg1.view.read (Elt F) f1, arg2.view.read (Elt F) f2, arg3.view.read (Elt F) f3, arg4.view.read (Elt F) f4, arg5.view.read (Elt F) f5, arg6.view.read (Elt F) f6, arg7.view.read (Elt F) f7⟩ p n⌝))))))
  step i _ := by
    iintro ⟨H1, H2, H3, H4, H5, H6, H7, ⟨%e8, H8, ⟨%e9, H9, ⟨%e10, H10, ⟨%e11, H11, ⟨%e12, H12, %he⟩⟩⟩⟩⟩⟩
    iapply (wp_wand_r Idealize.ShloMosaic.frame (wpE (defs₀ (F := F)) Variants.none (c : Thread nD τ) none) E)
    isplitl [H1 H2 H3 H4 H5 H6 H7 H8 H9 H10 H11 H12]
    · iapply (trip_outer c g arg1 harg1 arg2 harg2 arg3 harg3 arg4 harg4 arg5 harg5 arg6 harg6 arg7 harg7 arg8 harg8 arg9 harg9 arg10 harg10 arg11 harg11 arg12 harg12 E
        ⟨arg1.view.read (Elt F) f1, arg2.view.read (Elt F) f2, arg3.view.read (Elt F) f3, arg4.view.read (Elt F) f4, arg5.view.read (Elt F) f5, arg6.view.read (Elt F) f6, arg7.view.read (Elt F) f7⟩
        ⟨⟨arg9.view.read (Elt F) e9, arg11.view.read (Elt F) e11, arg12.view.read (Elt F) e12⟩, arg8.view.read (Elt F) e8, arg10.view.read (Elt F) e10⟩ i)
      unfold HeldIns HeldOuts owns
      isplitl [H1 H2 H3 H4 H5 H6 H7]
      · dsimp only
        isplitl [H1]
        · iexists _; isplitr
          swap; · iexact H1
          ipureintro; rfl
        isplitl [H2]
        · iexists _; isplitr
          swap; · iexact H2
          ipureintro; rfl
        isplitl [H3]
        · iexists _; isplitr
          swap; · iexact H3
          ipureintro; rfl
        isplitl [H4]
        · iexists _; isplitr
          swap; · iexact H4
          ipureintro; rfl
        isplitl [H5]
        · iexists _; isplitr
          swap; · iexact H5
          ipureintro; rfl
        isplitl [H6]
        · iexists _; isplitr
          swap; · iexact H6
          ipureintro; rfl
        iexists _; isplitr
        swap; · iexact H7
        ipureintro; rfl
      dsimp only
      isplitl [H8]
      · iexists _; isplitr
        swap; · iexact H8
        ipureintro; rfl
      isplitl [H9]
      · iexists _; isplitr
        swap; · iexact H9
        ipureintro; rfl
      isplitl [H10]
      · iexists _; isplitr
        swap; · iexact H10
        ipureintro; rfl
      isplitl [H11]
      · iexists _; isplitr
        swap; · iexact H11
        ipureintro; rfl
      iexists _; isplitr
      swap; · iexact H12
      ipureintro; rfl
    · unfold HeldIns HeldOuts owns
      iintro %y ⟨⟨⟨%g1, %hg1, H1⟩, ⟨%g2, %hg2, H2⟩, ⟨%g3, %hg3, H3⟩, ⟨%g4, %hg4, H4⟩, ⟨%g5, %hg5, H5⟩, ⟨%g6, %hg6, H6⟩, ⟨%g7, %hg7, H7⟩⟩, ⟨%g8, %hg8, H8⟩, ⟨%g9, %hg9, H9⟩, ⟨%g10, %hg10, H10⟩, ⟨%g11, %hg11, H11⟩, ⟨%g12, %hg12, H12⟩⟩
      obtain rfl := harg1.read_bijective.1 hg1
      obtain rfl := harg2.read_bijective.1 hg2
      obtain rfl := harg3.read_bijective.1 hg3
      obtain rfl := harg4.read_bijective.1 hg4
      obtain rfl := harg5.read_bijective.1 hg5
      obtain rfl := harg6.read_bijective.1 hg6
      obtain rfl := harg7.read_bijective.1 hg7
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; isplitl [H8]; · iexact H8
      iexists _; isplitl [H9]; · iexact H9
      iexists _; isplitl [H10]; · iexact H10
      iexists _; isplitl [H11]; · iexact H11
      iexists _; isplitl [H12]; · iexact H12
      ipureintro
      rw [outerFrom_succ, ← he, hg8, hg9, hg10, hg11, hg12]

set_option warn.classDefReducibility false in
/-- The last loop's invariant. -/
@[sl_loop] def loopInv_store (c : Dev nD) (E : Set ℕ) (g : grid0.Coords)
    (arg1 : Memref sig .tc .vmem S4096x128 .bf16) (harg1 : arg1.IsWhole) (arg2 : Memref sig .tc .vmem S4096x128 .bf16) (harg2 : arg2.IsWhole)
    (arg3 : Memref sig .tc .vmem S4096x128 .bf16) (harg3 : arg3.IsWhole) (arg4 : Memref sig .tc .vmem S4096x128 .f32) (harg4 : arg4.IsWhole)
    (arg5 : Memref sig .tc .vmem S4096x128 .f32) (harg5 : arg5.IsWhole) (arg6 : Memref sig .tc .vmem S1x2x4096x1 .f32) (harg6 : arg6.IsWhole)
    (arg7 : Memref sig .tc .vmem S1x2x8x1x512 .f32) (harg7 : arg7.IsWhole) (arg8 : Memref sig .tc .vmem S3x4096x128 .bf16) (harg8 : arg8.IsWhole)
    (arg9 : Memref sig .tc .vmem S1x2x8x1x512 .f32) (harg9 : arg9.IsWhole) (arg10 : Memref sig .tc .vmem S1x2x8x1x512 .f32) (harg10 : arg10.IsWhole)
    (arg11 : Memref sig .tc .vmem S8x128x512 .f32) (harg11 : arg11.IsWhole) (arg12 : Memref sig .tc .vmem S8x128x512 .f32) (harg12 : arg12.IsWhole)
    (f11 : BufTy.Contents (Elt F) arg11.view.ty) (f12 : BufTy.Contents (Elt F) arg12.view.ty) (o : Vec F S3x4096x128 .bf16) :
    LoopInv (M := 𝕄) frame (wpE (defs₀ (F := F)) Variants.none c none) E k0_t4_loop.lb k0_t4_loop.ub k0_t4_loop.st k0_t4_ok PUnit.unit
      (k0_t4_body g arg1 harg1 arg2 harg2 arg3 harg3 arg4 harg4 arg5 harg5 arg6 harg6 arg7 harg7 arg8 harg8 arg9 harg9 arg10 harg10 arg11 harg11 arg12 harg12) where
  inv n _ := iprop((arg11.view.loc (c : Thread nD τ) ↦[arg11.view.set]{fullShare} f11) ∗ (arg12.view.loc (c : Thread nD τ) ↦[arg12.view.set]{fullShare} f12)
    ∗ (∃ e8, (arg8.view.loc (c : Thread nD τ) ↦[arg8.view.set]{fullShare} e8) ∗ ⌜arg8.view.read (Elt F) e8 = storeFrom (arg11.view.read (Elt F) f11) (arg12.view.read (Elt F) f12) o n⌝))
  step j _ := by
    iintro ⟨H11, H12, ⟨%e8, H8, %he⟩⟩
    unfold k0_t4_body
    sl_exec
    sl_step
    isplitl [H11]; · iexact H11
    isplitl [H12]; · iexact H12
    iexists _; isplitl [H8]; · iexact H8
    ipureintro
    unfold loopInv_store.sl.H8_1
    rw [View.read_writes_cons_put _ _ _ _ _ rfl, View.read_writes_cons_put _ _ _ _ _ rfl, View.writes_nil, storeFrom_succ, ← he]
    rfl

set_option maxHeartbeats 2000000 in
/-- The whole body: the input blocks stay, and the results' blocks are those of the recursions. -/
theorem body_run (c : Dev nD) (E : Set ℕ) (g : grid0.Coords)
    (arg1 : Memref sig .tc .vmem S4096x128 .bf16) (harg1 : arg1.IsWhole) (arg2 : Memref sig .tc .vmem S4096x128 .bf16) (harg2 : arg2.IsWhole)
    (arg3 : Memref sig .tc .vmem S4096x128 .bf16) (harg3 : arg3.IsWhole) (arg4 : Memref sig .tc .vmem S4096x128 .f32) (harg4 : arg4.IsWhole)
    (arg5 : Memref sig .tc .vmem S4096x128 .f32) (harg5 : arg5.IsWhole) (arg6 : Memref sig .tc .vmem S1x2x4096x1 .f32) (harg6 : arg6.IsWhole)
    (arg7 : Memref sig .tc .vmem S1x2x8x1x512 .f32) (harg7 : arg7.IsWhole) (arg8 : Memref sig .tc .vmem S3x4096x128 .bf16) (harg8 : arg8.IsWhole)
    (arg9 : Memref sig .tc .vmem S1x2x8x1x512 .f32) (harg9 : arg9.IsWhole) (arg10 : Memref sig .tc .vmem S1x2x8x1x512 .f32) (harg10 : arg10.IsWhole)
    (arg11 : Memref sig .tc .vmem S8x128x512 .f32) (harg11 : arg11.IsWhole) (arg12 : Memref sig .tc .vmem S8x128x512 .f32) (harg12 : arg12.IsWhole)
    (x : Ins F) :
    iprop(HeldIns c arg1 arg2 arg3 arg4 arg5 arg6 arg7 x ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d))
      ⊢ wp frame (wpE (defs₀ (F := F)) Variants.none c none) E (cc0_l1_fox_bwd g arg1 harg1 arg2 harg2 arg3 harg3 arg4 harg4 arg5 harg5 arg6 harg6 arg7 harg7 arg8 harg8 arg9 harg9 arg10 harg10 arg11 harg11 arg12 harg12)
          (fun _ => iprop(HeldIns c arg1 arg2 arg3 arg4 arg5 arg6 arg7 x ∗ ∃ (o : Vec F S3x4096x128 .bf16) (d : Vec F S1x2x8x1x512 .f32),
            owns (c : Thread nD τ) arg8 fullShare (bodyOut x o d) ∗ owns (c : Thread nD τ) arg9 fullShare (looped x o d).acc.db
              ∗ owns (c : Thread nD τ) arg10 fullShare (looped x o d).dr ∗ (∃ e, owns (c : Thread nD τ) arg11 fullShare e)
              ∗ (∃ e, owns (c : Thread nD τ) arg12 fullShare e))) := by
  simp only [cc0_l1_fox_bwd_eq_skeleton]; unfold cc0_l1_fox_bwd_skel
  unfold HeldIns owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩, ⟨%d8, %f8, -, H8⟩, ⟨%d9, %f9, -, H9⟩, ⟨%d10, %f10, -, H10⟩, ⟨%d11, %f11, -, H11⟩, ⟨%d12, %f12, -, H12⟩⟩
  obtain ⟨xq, xk, xv, xdO, xo, xlse, xbias⟩ := x
  dsimp only at hf1 hf2 hf3 hf4 hf5 hf6 hf7
  subst hf1 hf2 hf3 hf4 hf5 hf6 hf7
  sl_exec
  sl_step
  have hq := ‹_ = outerFrom _ _ _›
  have ho := ‹_ = storeFrom _ _ _ _›
  have hz : (⟨⟨arg9.view.read (Elt F) e9L1, arg11.view.read (Elt F) e11L3, arg12.view.read (Elt F) e12L4⟩, arg8.view.read (Elt F) e8L0, arg10.view.read (Elt F) e10L2⟩ : Full F)
      = looped ⟨arg1.view.read (Elt F) f1, arg2.view.read (Elt F) f2, arg3.view.read (Elt F) f3, arg4.view.read (Elt F) f4, arg5.view.read (Elt F) f5, arg6.view.read (Elt F) f6, arg7.view.read (Elt F) f7⟩ (arg8.view.read (Elt F) f8) (arg10.view.read (Elt F) f10) := by
    refine hq.trans ?_
    unfold looped start
    unfold body_run.sl.H9_1 body_run.sl.H11_1 body_run.sl.H12_1
    rw [View.read_writes_full, View.read_writes_full, View.read_writes_full]
  isplitl [H1 H2 H3 H4 H5 H6 H7]
  · isplitl [H1]
    · iexists _; isplitr
      swap; · iexact H1
      ipureintro; rfl
    isplitl [H2]
    · iexists _; isplitr
      swap; · iexact H2
      ipureintro; rfl
    isplitl [H3]
    · iexists _; isplitr
      swap; · iexact H3
      ipureintro; rfl
    isplitl [H4]
    · iexists _; isplitr
      swap; · iexact H4
      ipureintro; rfl
    isplitl [H5]
    · iexists _; isplitr
      swap; · iexact H5
      ipureintro; rfl
    isplitl [H6]
    · iexists _; isplitr
      swap; · iexact H6
      ipureintro; rfl
    iexists _; isplitr
    swap; · iexact H7
    ipureintro; rfl
  iexists (arg8.view.read (Elt F) f8), (arg10.view.read (Elt F) f10)
  isplitl [H8]
  · iexists _; isplitr
    swap; · iexact H8
    ipureintro
    rw [ho]; unfold bodyOut; rw [← hz]
  isplitl [H9]
  · iexists _; isplitr
    swap; · iexact H9
    ipureintro; rw [← hz]
  isplitl [H10]
  · iexists _; isplitr
    swap; · iexact H10
    ipureintro; rw [← hz]
  isplitl [H11]
  · iexists _, _; isplitr
    swap; · iexact H11
    ipureintro; rfl
  iexists _, _; isplitr
  swap; · iexact H12
  ipureintro; rfl

end Cert.FoxRun
-- ==== Proof.FoxClosed.lean ====
/-
  What the loops of the forget-gate attention's backward kernel leave, block by block: the row blocks of the queries'
  gradient and of the row sums depend on what their own row carried only, and the written blocks depend on nothing that was
  in the results' buffers before.
-/
module

public import proofs.«01_k».proof.Proof.FoxBody

@[expose] public section

set_option maxRecDepth 16384

noncomputable section

namespace Cert.FoxRun

open Cert.FoxIdeal Cert.FoxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow (window put)

variable {F : FTy → Type} [FloatOps F] [Named F]

local notation "𝕄" => MT nD τ sig Unit (Elt F) ℕ (UR sig nD τ) ℕ

/-- An index of the gradients' block: part, row block, row within it, column. -/
def ixO (a : Fin 3) (i : Fin 8) (r : Fin 512) (e : Fin 128) : S3x4096x128.Idx :=
  fun | ⟨0, _⟩ => a | ⟨1, _⟩ => ⟨512 * i.val + r.val, by have := i.isLt; have := r.isLt; show _ < 4096; omega⟩ | ⟨2, _⟩ => e
/-- An index of the row and column sums: head, block, position within it. -/
def ixD (h : Fin 2) (j : Fin 8) (t : Fin 512) : S1x2x8x1x512.Idx :=
  fun | ⟨0, _⟩ => ⟨0, Nat.one_pos⟩ | ⟨1, _⟩ => h | ⟨2, _⟩ => j | ⟨3, _⟩ => ⟨0, Nat.one_pos⟩ | ⟨4, _⟩ => t
/-- An index of an accumulator: block, column, position. -/
def ixK (j : Fin 8) (e : Fin 128) (t : Fin 512) : S8x128x512.Idx := fun | ⟨0, _⟩ => j | ⟨1, _⟩ => e | ⟨2, _⟩ => t
/-- Indices of one block. -/
def ixB (r : Fin 512) (e : Fin 128) : S1x512x128.Idx := fun | ⟨0, _⟩ => ⟨0, Nat.one_pos⟩ | ⟨1, _⟩ => r | ⟨2, _⟩ => e
def ixT (e : Fin 128) (t : Fin 512) : S1x128x512.Idx := fun | ⟨0, _⟩ => ⟨0, Nat.one_pos⟩ | ⟨1, _⟩ => e | ⟨2, _⟩ => t
def ixR (t : Fin 512) : S1x1x1x1x512.Idx :=
  fun | ⟨0, _⟩ => ⟨0, Nat.one_pos⟩ | ⟨1, _⟩ => ⟨0, Nat.one_pos⟩ | ⟨2, _⟩ => ⟨0, Nat.one_pos⟩ | ⟨3, _⟩ => ⟨0, Nat.one_pos⟩ | ⟨4, _⟩ => t

theorem exists_ixO (y : S3x4096x128.Idx) : ∃ a i r e, y = ixO a i r e := by
  have h1 : (y 1).val < 4096 := (y 1).isLt
  refine ⟨y 0, ⟨(y 1).val / 512, by omega⟩, ⟨(y 1).val % 512, by omega⟩, y 2, ?_⟩
  funext a; match a with
  | ⟨0, _⟩ => rfl
  | ⟨1, _⟩ => exact Fin.ext (show (y 1).val = 512 * ((y 1).val / 512) + (y 1).val % 512 by omega)
  | ⟨2, _⟩ => rfl
theorem exists_ixD (y : S1x2x8x1x512.Idx) : ∃ h j t, y = ixD h j t := by
  have h0 : (y 0).val < 1 := (y 0).isLt
  have h3 : (y 3).val < 1 := (y 3).isLt
  refine ⟨y 1, y 2, y 4, ?_⟩
  funext a; match a with
  | ⟨0, _⟩ => exact Fin.ext (show (y 0).val = 0 by omega)
  | ⟨1, _⟩ => rfl
  | ⟨2, _⟩ => rfl
  | ⟨3, _⟩ => exact Fin.ext (show (y 3).val = 0 by omega)
  | ⟨4, _⟩ => rfl

section Put

variable {α : Type} {s : Shape} (x : s.Idx → α) (off size : Fin s.rank → ℕ) (w : ((a : Fin s.rank) → Fin (size a)) → α)

/-- A put, read inside it. -/
theorem put_at (y : s.Idx) (z : (a : Fin s.rank) → Fin (size a)) (hz : ∀ a, (y a).val = off a + (z a).val) : put x off size w y = w z := by
  have h : ∀ a, off a ≤ (y a).val ∧ (y a).val < off a + size a := fun a => by have := hz a; have := (z a).isLt; omega
  refine (dif_pos h).trans (congrArg w (funext fun a => Fin.ext ?_))
  show (y a).val - off a = (z a).val
  have := hz a; omega

/-- A put, read outside it. -/
theorem put_off (y : s.Idx) (a : Fin s.rank) (ha : (y a).val < off a ∨ off a + size a ≤ (y a).val) : put x off size w y = x y :=
  dif_neg fun h => by have := h a; omega

end Put

theorem trips1 : k0_t1_loop.trips = 8 := by decide +kernel
theorem trips4 : k0_t4_loop.trips = 8 := by decide +kernel
theorem off14_eq : ∀ i : Fin k0_t1_loop.trips, k0_off14 i = ![i.val, 0, 0] := by decide +kernel
theorem off15_eq : ∀ i : Fin k0_t1_loop.trips, k0_off15 i = ![0, 512 * i.val, 0] := by decide +kernel
theorem off16_eq : ∀ i : Fin k0_t4_loop.trips, k0_off16 i = ![i.val, 0, 0] := by decide +kernel
theorem off18_eq : ∀ i : Fin k0_t4_loop.trips, k0_off18 i = ![1, 512 * i.val, 0] := by decide +kernel
theorem off19_eq : ∀ i : Fin k0_t4_loop.trips, k0_off19 i = ![2, 512 * i.val, 0] := by decide +kernel

/-- What a row carries after `n` key blocks. -/
abbrev carryFrom (xk xv : Vec F S4096x128 .bf16) (xb : Vec F S1x2x8x1x512 .f32) (r : RowVals F) (i : Fin k0_t1_loop.trips) (a : Carry F) (n : ℕ) : Carry F :=
  Nat.rec (motive := fun _ => Carry F) a (fun n a => if h : n < (k0_t2_loop i).trips then stepCarry xk xv xb r i ⟨n, h⟩ a else a) n

/-- What a row block carries out of the inner loop. -/
def carryOut (x : Ins F) (i : Fin k0_t1_loop.trips) : Carry F :=
  carryFrom x.k x.v x.bias (rowVals x i) i (k0_pay34 (F := F), k0_pay35 (F := F)) (k0_t2_loop i).trips

theorem carryFrom_succ (xk xv : Vec F S4096x128 .bf16) (xb : Vec F S1x2x8x1x512 .f32) (r : RowVals F) (i : Fin k0_t1_loop.trips) (a : Carry F)
    (j : Fin (k0_t2_loop i).trips) : carryFrom xk xv xb r i a (j.val + 1) = stepCarry xk xv xb r i j (carryFrom xk xv xb r i a j.val) := dif_pos j.isLt

theorem innerFrom_snd (xk xv : Vec F S4096x128 .bf16) (xb : Vec F S1x2x8x1x512 .f32) (r : RowVals F) (i : Fin k0_t1_loop.trips) (p : Acc F × Carry F)
    (n : ℕ) (hn : n ≤ (k0_t2_loop i).trips) : (innerFrom xk xv xb r i p n).2 = carryFrom xk xv xb r i p.2 n := by
  induction n with
  | zero => rfl
  | succ n ih =>
    rw [innerFrom_succ xk xv xb r i p ⟨n, hn⟩, carryFrom_succ xk xv xb r i p.2 ⟨n, hn⟩]
    exact congrArg (stepCarry xk xv xb r i ⟨n, hn⟩) (ih (Nat.le_of_lt hn))

theorem inner_snd (x : Ins F) (i : Fin k0_t1_loop.trips) (s : Acc F) : (inner x i s).2 = carryOut x i := innerFrom_snd _ _ _ _ _ _ _ le_rfl

/-- The accumulators after `n` query blocks. -/
abbrev accFrom (x : Ins F) (s : Acc F) (n : ℕ) : Acc F :=
  Nat.rec (motive := fun _ => Acc F) s (fun n s => if h : n < k0_t1_loop.trips then diagAcc x ⟨n, h⟩ (inner x ⟨n, h⟩ s).1 else s) n

theorem accFrom_succ (x : Ins F) (s : Acc F) (i : Fin k0_t1_loop.trips) :
    accFrom x s (i.val + 1) = diagAcc x i (inner x i (accFrom x s i.val)).1 := dif_pos i.isLt

/-- The accumulators after all query blocks. -/
def accOut (x : Ins F) : Acc F := accFrom x ⟨k0_pay1, k0_pay2, k0_pay3⟩ k0_t1_loop.trips

theorem outerFrom_acc (x : Ins F) (p : Full F) (n : ℕ) (hn : n ≤ k0_t1_loop.trips) : (outerFrom x p n).acc = accFrom x p.acc n := by
  induction n with
  | zero => rfl
  | succ n ih =>
    rw [outerFrom_succ x p ⟨n, hn⟩, accFrom_succ x p.acc ⟨n, hn⟩]
    exact congrArg (fun s => diagAcc x ⟨n, hn⟩ (inner x ⟨n, hn⟩ s).1) (ih (Nat.le_of_lt hn))

theorem looped_acc (x : Ins F) (o : Vec F S3x4096x128 .bf16) (d : Vec F S1x2x8x1x512 .f32) : (looped x o d).acc = accOut x :=
  outerFrom_acc x (start o d) _ le_rfl

/-- After `n` trips of the outer loop the first `n` row blocks of the queries' gradient stand. -/
theorem outerFrom_out (x : Ins F) (p : Full F) (r : Fin 512) (e : Fin 128) (n : ℕ) (hn : n ≤ k0_t1_loop.trips) (i : Fin k0_t1_loop.trips) (hi : i.val < n)
    (i' : Fin 8) (hi' : i'.val = i.val) : (outerFrom x p n).out (ixO 0 i' r e) = rowDq x i (carryOut x i) (ixB r e) := by
  induction n with
  | zero => omega
  | succ n ih =>
    rw [outerFrom_succ x p ⟨n, hn⟩]
    unfold stepFull
    simp only [inner_snd]
    by_cases h : i.val = n
    · obtain rfl : i = ⟨n, hn⟩ := Fin.ext h
      refine put_at (s := S3x4096x128) _ _ S1x512x128.size _ _ (ixB r e) fun a => ?_
      rw [off15_eq]
      match a with
      | ⟨0, _⟩ => rfl
      | ⟨1, _⟩ => show 512 * i'.val + r.val = 512 * n + r.val; rw [hi']
      | ⟨2, _⟩ => exact (Nat.zero_add _).symm
    · refine (put_off _ _ _ _ _ (1 : Fin 3) ?_).trans (ih (Nat.le_of_lt hn) (by omega))
      rw [off15_eq]
      left
      show 512 * i'.val + r.val < 512 * n
      have := r.isLt; omega

/-- After `n` trips of the outer loop the first `n` blocks of the row sums stand. -/
theorem outerFrom_dr (x : Ins F) (p : Full F) (t : Fin 512) (n : ℕ) (hn : n ≤ k0_t1_loop.trips) (i : Fin k0_t1_loop.trips) (hi : i.val < n)
    (i' : Fin 8) (hi' : i'.val = i.val) :
    (outerFrom x p n).dr (ixD 0 i' t) = k0_pay51 (carryOut x i).2 (diagDs x i) (ixR t)
      ∧ (outerFrom x p n).dr (ixD 1 i' t) = k0_pay6 (k0_pay52 (carryOut x i).2 (diagDs x i)) (ixR t) := by
  induction n with
  | zero => omega
  | succ n ih =>
    rw [outerFrom_succ x p ⟨n, hn⟩]
    unfold stepFull
    simp only [inner_snd]
    by_cases h : i.val = n
    · obtain rfl : i = ⟨n, hn⟩ := Fin.ext h
      constructor
      · refine (put_off _ _ _ _ _ (1 : Fin 5) ?_).trans (put_at (s := S1x2x8x1x512) _ _ S1x1x1x1x512.size _ _ (ixR t) fun a => ?_)
        · rw [off13_eq]; left; exact Nat.one_pos
        rw [off12_eq]
        match a with
        | ⟨0, _⟩ => rfl
        | ⟨1, _⟩ => rfl
        | ⟨2, _⟩ => exact hi'
        | ⟨3, _⟩ => rfl
        | ⟨4, _⟩ => exact (Nat.zero_add _).symm
      · refine put_at (s := S1x2x8x1x512) _ _ S1x1x1x1x512.size _ _ (ixR t) fun a => ?_
        rw [off13_eq]
        match a with
        | ⟨0, _⟩ => rfl
        | ⟨1, _⟩ => rfl
        | ⟨2, _⟩ => exact hi'
        | ⟨3, _⟩ => rfl
        | ⟨4, _⟩ => exact (Nat.zero_add _).symm
    · have hs : ∀ (hd : Fin 2) (w w'), put (put (outerFrom x p n).dr (k0_off12 ⟨n, hn⟩) S1x1x1x1x512.size w) (k0_off13 ⟨n, hn⟩) S1x1x1x1x512.size w' (ixD hd i' t)
          = (outerFrom x p n).dr (ixD hd i' t) := fun hd w w' => by
        refine (put_off _ _ _ _ _ (2 : Fin 5) ?_).trans (put_off _ _ _ _ _ (2 : Fin 5) ?_)
        · rw [off13_eq]; left; show i'.val < n; omega
        · rw [off12_eq]; left; show i'.val < n; omega
      exact ⟨(hs 0 _ _).trans (ih (Nat.le_of_lt hn) (by omega)).1, (hs 1 _ _).trans (ih (Nat.le_of_lt hn) (by omega)).2⟩

/-- The last loop leaves the queries' part alone. -/
theorem storeFrom_q (dk dv : Vec F S8x128x512 .f32) (o : Vec F S3x4096x128 .bf16) (i : Fin 8) (r : Fin 512) (e : Fin 128) (n : ℕ) (hn : n ≤ k0_t4_loop.trips) :
    storeFrom dk dv o n (ixO 0 i r e) = o (ixO 0 i r e) := by
  induction n with
  | zero => rfl
  | succ n ih =>
    rw [storeFrom_succ dk dv o ⟨n, hn⟩]
    unfold stepStore
    refine (put_off _ _ _ _ _ (0 : Fin 3) ?_).trans ((put_off _ _ _ _ _ (0 : Fin 3) ?_).trans (ih (Nat.le_of_lt hn)))
    · rw [off19_eq]; left; exact Nat.two_pos
    · rw [off18_eq]; left; exact Nat.one_pos

/-- After `n` trips of the last loop the first `n` blocks of the two accumulators stand. -/
theorem storeFrom_kv (dk dv : Vec F S8x128x512 .f32) (o : Vec F S3x4096x128 .bf16) (r : Fin 512) (e : Fin 128) (n : ℕ) (hn : n ≤ k0_t4_loop.trips)
    (j : Fin k0_t4_loop.trips) (hj : j.val < n) (j' : Fin 8) (hj' : j'.val = j.val) :
    storeFrom dk dv o n (ixO 1 j' r e) = k0_pay7 (window dk (k0_off16 j) S1x128x512.size (k0_off16_inb j)) (ixB r e)
      ∧ storeFrom dk dv o n (ixO 2 j' r e) = k0_pay8 (window dv (k0_off16 j) S1x128x512.size (k0_off16_inb j)) (ixB r e) := by
  induction n with
  | zero => omega
  | succ n ih =>
    rw [storeFrom_succ dk dv o ⟨n, hn⟩]
    unfold stepStore
    by_cases h : j.val = n
    · obtain rfl : j = ⟨n, hn⟩ := Fin.ext h
      constructor
      · refine (put_off _ _ _ _ _ (0 : Fin 3) ?_).trans (put_at (s := S3x4096x128) _ _ S1x512x128.size _ _ (ixB r e) fun a => ?_)
        · rw [off19_eq]; left; exact Nat.one_lt_two
        rw [off18_eq]
        match a with
        | ⟨0, _⟩ => rfl
        | ⟨1, _⟩ => show 512 * j'.val + r.val = 512 * n + r.val; rw [hj']
        | ⟨2, _⟩ => exact (Nat.zero_add _).symm
      · refine put_at (s := S3x4096x128) _ _ S1x512x128.size _ _ (ixB r e) fun a => ?_
        rw [off19_eq]
        match a with
        | ⟨0, _⟩ => rfl
        | ⟨1, _⟩ => show 512 * j'.val + r.val = 512 * n + r.val; rw [hj']
        | ⟨2, _⟩ => exact (Nat.zero_add _).symm
    · have hs : ∀ (a : Fin 3) (w w'), put (put (storeFrom dk dv o n) (k0_off18 ⟨n, hn⟩) S1x512x128.size w) (k0_off19 ⟨n, hn⟩) S1x512x128.size w' (ixO a j' r e)
          = storeFrom dk dv o n (ixO a j' r e) := fun a w w' => by
        have := r.isLt
        refine (put_off _ _ _ _ _ (1 : Fin 3) ?_).trans (put_off _ _ _ _ _ (1 : Fin 3) ?_)
        · rw [off19_eq]; left; show 512 * j'.val + r.val < 512 * n; omega
        · rw [off18_eq]; left; show 512 * j'.val + r.val < 512 * n; omega
      exact ⟨(hs 1 _ _).trans (ih (Nat.le_of_lt hn) (by omega)).1, (hs 2 _ _).trans (ih (Nat.le_of_lt hn) (by omega)).2⟩

section Closed

variable (x : Ins F) (o : Vec F S3x4096x128 .bf16) (d : Vec F S1x2x8x1x512 .f32)

/-- The queries' gradient, at a row of row block `i`. -/
theorem bodyOut_q (i : Fin 8) (r : Fin 512) (e : Fin 128) :
    bodyOut x o d (ixO 0 i r e) = rowDq x (i.cast trips1.symm) (carryOut x (i.cast trips1.symm)) (ixB r e) :=
  (storeFrom_q _ _ _ i r e _ le_rfl).trans
    (outerFrom_out x _ r e _ le_rfl (i.cast trips1.symm) (i.cast trips1.symm).isLt i rfl)

/-- The keys' gradient, at a row of key block `j`. -/
theorem bodyOut_k (j : Fin 8) (r : Fin 512) (e : Fin 128) :
    bodyOut x o d (ixO 1 j r e)
      = k0_pay7 (window (accOut x).dk (k0_off16 (j.cast trips4.symm)) S1x128x512.size (k0_off16_inb _)) (ixB r e) :=
  (storeFrom_kv _ _ _ r e _ le_rfl (j.cast trips4.symm) (j.cast trips4.symm).isLt j rfl).1.trans (by rw [looped_acc])

/-- The values' gradient, at a row of key block `j`. -/
theorem bodyOut_v (j : Fin 8) (r : Fin 512) (e : Fin 128) :
    bodyOut x o d (ixO 2 j r e)
      = k0_pay8 (window (accOut x).dv (k0_off16 (j.cast trips4.symm)) S1x128x512.size (k0_off16_inb _)) (ixB r e) :=
  (storeFrom_kv _ _ _ r e _ le_rfl (j.cast trips4.symm) (j.cast trips4.symm).isLt j rfl).2.trans (by rw [looped_acc])

/-- The row sums of the two heads. -/
theorem looped_dr (i : Fin 8) (t : Fin 512) :
    (looped x o d).dr (ixD 0 i t) = k0_pay51 (carryOut x (i.cast trips1.symm)).2 (diagDs x (i.cast trips1.symm)) (ixR t)
      ∧ (looped x o d).dr (ixD 1 i t) = k0_pay6 (k0_pay52 (carryOut x (i.cast trips1.symm)).2 (diagDs x (i.cast trips1.symm))) (ixR t) :=
  outerFrom_dr x _ t _ le_rfl (i.cast trips1.symm) (i.cast trips1.symm).isLt i rfl

/-- The gradients' block does not depend on what was in the results' buffers. -/
theorem bodyOut_indep (o' : Vec F S3x4096x128 .bf16) (d' : Vec F S1x2x8x1x512 .f32) : bodyOut x o d = bodyOut x o' d' := by
  funext y
  obtain ⟨a, i, r, e, rfl⟩ := exists_ixO y
  match a with
  | ⟨0, _⟩ => exact (bodyOut_q x o d i r e).trans (bodyOut_q x o' d' i r e).symm
  | ⟨1, _⟩ => exact (bodyOut_k x o d i r e).trans (bodyOut_k x o' d' i r e).symm
  | ⟨2, _⟩ => exact (bodyOut_v x o d i r e).trans (bodyOut_v x o' d' i r e).symm

/-- Nor do the row sums. -/
theorem looped_dr_indep (o' : Vec F S3x4096x128 .bf16) (d' : Vec F S1x2x8x1x512 .f32) : (looped x o d).dr = (looped x o' d').dr := by
  funext y
  obtain ⟨h, i, t, rfl⟩ := exists_ixD y
  match h with
  | ⟨0, _⟩ => exact (looped_dr x o d i t).1.trans (looped_dr x o' d' i t).1.symm
  | ⟨1, _⟩ => exact (looped_dr x o d i t).2.trans (looped_dr x o' d' i t).2.symm

end Closed

end Cert.FoxRun
-- ==== Proof.FoxLaunch.lean ====
/-
  The launch of the forget-gate attention's backward kernel: what its three results hold after each head pair, the body's
  obligation at every grid point, and the frame.
-/
module

public import proofs.«01_k».proof.Proof.FoxClosed
public import proofs.«01_k».proof.Proof.Gen.FoxIdeal.Frame
public import Idealize.ShloMosaic.Lib.Claim

@[expose] public section

set_option maxRecDepth 16384

noncomputable section

namespace Cert.FoxRun

open Cert.FoxIdeal Cert.FoxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow (window put)
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The three gradients of one head pair. -/
def gradBlock (x : Ins F) : Vec F S3x4096x128 .bf16 := bodyOut x (constant S3x4096x128 .bf16 0x0000#16) (constant S1x2x8x1x512 .f32 0x00000000#32)
/-- The row sums of one head pair. -/
def rowBlock (x : Ins F) : Vec F S1x2x8x1x512 .f32 := (looped x (constant S3x4096x128 .bf16 0x0000#16) (constant S1x2x8x1x512 .f32 0x00000000#32)).dr

/-- The input blocks of grid point `t`. -/
def insAt (c : Dev nD) (t : Fin cfg0.N) : Ins F where
  q := iblk m c 0 t
  k := iblk m c 1 t
  v := iblk m c 2 t
  dO := iblk m c 3 t
  o := iblk m c 4 t
  lse := iblk m c 5 t
  bias := iblk m c 6 t

/-- The proof data: the inputs stay, the results hold the head pair's gradients, column sums and row sums. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => gradBlock (insAt m c t)
    | ⟨8, _⟩ => (accOut (insAt m c t)).db
    | ⟨9, _⟩ => rowBlock (insAt m c t)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = gradBlock (insAt m c t) := by dsimp only [dats]
theorem after0_8 (c : Dev nD) (t : Fin cfg0.N) : (dats m 0 c).after 8 t = (accOut (insAt m c t)).db := by dsimp only [dats]
theorem after0_9 (c : Dev nD) (t : Fin cfg0.N) : (dats m 0 c).after 9 t = rowBlock (insAt m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- What the launch hands the region, the two accumulators as memrefs. -/
theorem PhiA0_eq (c : Dev nD) : (Pipeline.ΦA spec0 c : sProp 𝕄)
    = iprop(((∃ d, owns (c : Thread nD τ) (Memref.whole cc0_scratch0) fullShare d)
        ∗ (∃ d, owns (c : Thread nD τ) (Memref.whole cc0_scratch1) fullShare d)) ∗ (∃ r, prngReg c r)) := by
  unfold Pipeline.ΦA; rw [scopedRest0_eq]; simp only [owns_whole]; try rfl

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 2000000 in
/-- The body at any grid point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl,
    after0_0, after0_1, after0_2, after0_3, after0_4, after0_5, after0_6, after0_7, after0_8, after0_9,
    show (dats m 0 c).Φ t.succ = Pipeline.ΦA spec0 c from rfl, show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (wp_wand_r frame (wpE (defs₀ (F := F)) Variants.none c none) Set.univ)
  isplitl [H0 H1 H2 H3 H4 H5 H6 H7 H8 H9 HS0 HS1]
  · iapply (body_run c Set.univ (grid0.coords t) _ _ _ _ _ _ _ _ _ _ _ _ _ _ _ _ _ _ _ _ _ _ _ _ (insAt m c t))
    unfold HeldIns
    isplitl [H0 H1 H2 H3 H4 H5 H6]
    · isplitl [H0]; · iexact H0
      isplitl [H1]; · iexact H1
      isplitl [H2]; · iexact H2
      isplitl [H3]; · iexact H3
      isplitl [H4]; · iexact H4
      isplitl [H5]; · iexact H5
      iexact H6
    isplitl [H7]; · iexists _; iexact H7
    isplitl [H8]; · iexists _; iexact H8
    isplitl [H9]; · iexists _; iexact H9
    isplitl [HS0]; · iexact HS0
    iexact HS1
  iintro %u ⟨HI, %o, %d, G7, G8, G9, GS0, GS1⟩
  rw [bodyOut_indep _ o d (constant S3x4096x128 .bf16 0x0000#16) (constant S1x2x8x1x512 .f32 0x00000000#32), looped_acc,
    looped_dr_indep _ o d (constant S3x4096x128 .bf16 0x0000#16) (constant S1x2x8x1x512 .f32 0x00000000#32)]
  unfold HeldIns
  icases HI with ⟨H0, H1, H2, H3, H4, H5, H6⟩
  isplitl [GS0 GS1 Hg]
  · isplitr [Hg]
    · isplitl [GS0]; · iexact GS0
      iexact GS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [G7]; · iexact G7
  isplitl [G8]; · iexact G8
  iexact G9

/-- The call the pipeline makes is the body at the point. -/
theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: the arrays end as the proof data says, with every semaphore counter at zero. -/
theorem run_main_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_shared (Q' := _) cfgs (dats m) (0 : Fin 1) launch₀0 defs₀ Variants.none m ρ main
    (hbody := fun c => (body_obligation m c).loose) (hq := fun _ _ _ => rfl) (howed := fun _ _ => rfl) (V₀ := V0 m) (opss := [hostOps1])
    (hsub := sfx_sub) (hfresh := sfx_fresh) (hkeep := sfx_keeps) (hmain := hmain m Variants.none) (hA := A_eq m) (hΦ := fun _ _ => rfl)

/-- The frame: the arguments end unchanged and every counter is zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main_quiescent m ρ)))
    ((θ_run defs _ _).mono (fun _ h => h.2) (run_main_quiescent m ρ))

end Cert.FoxRun
-- ==== Proof.FoxFrame.lean ====
/-
  The frame of the program itself: its text is the ideal program's with the words of the float constants in place of the
  values they name, so the one run gives both.
-/
module

public import proofs.«01_k».proof.Proof.FoxLaunch
public import proofs.«01_k».proof.Proof.Gen.Fox
public import Idealize.ShloMosaic.PureOps.BitExact

@[expose] public section

set_option maxRecDepth 16384

noncomputable section

namespace Cert.FoxFrame

open Idealize.ShloMosaic Idealize.ShloMosaic.TcCoe Idealize.ShloMosaic.Tactic
open Idealize.SL Idealize.SL.Sem

/-- Over words, a named constant is its own word. -/
instance namedBits : Named Bits where
  named _ _ _ b := Scalar.ofBits _ b

/-- The two frames are the same statement. -/
theorem same (m : (ℓ : Loc Cert.Fox.nD Cert.Fox.τ Cert.Fox.sig) → Buf (Elt Bits) ℓ) (ρ : Dev Cert.Fox.nD → PrngReg) :
    @θ_run _ _ _ _ _ (Cert.Fox.defs (F := Bits)) (onTc (τ := Cert.Fox.τ) (Cert.Fox.main (F := Bits))) ⟨m, fun _ => 0, ρ⟩
      = θ_run (Cert.FoxIdeal.defs (F := Bits)) (onTc (τ := Cert.FoxIdeal.τ) (Cert.FoxIdeal.main (F := Bits))) ⟨m, fun _ => 0, ρ⟩ := by
  sl_kernel_rfl

theorem frame_bits (m : (ℓ : Loc Cert.Fox.nD Cert.Fox.τ Cert.Fox.sig) → Buf (Elt Bits) ℓ) (ρ : Dev Cert.Fox.nD → PrngReg) :
    θ_run Cert.Fox.defs (onTc (τ := Cert.Fox.τ) (Cert.Fox.main (F := Bits))) ⟨m, fun _ => 0, ρ⟩ (fun r => (∀ c : Dev Cert.Fox.nD,
      r.2.mem ((c.tc : Thread Cert.Fox.nD Cert.Fox.τ).loc Cert.Fox.main_arg0) = m ((c.tc : Thread Cert.Fox.nD Cert.Fox.τ).loc Cert.Fox.main_arg0)
      ∧ r.2.mem ((c.tc : Thread Cert.Fox.nD Cert.Fox.τ).loc Cert.Fox.main_arg1) = m ((c.tc : Thread Cert.Fox.nD Cert.Fox.τ).loc Cert.Fox.main_arg1)
      ∧ r.2.mem ((c.tc : Thread Cert.Fox.nD Cert.Fox.τ).loc Cert.Fox.main_arg2) = m ((c.tc : Thread Cert.Fox.nD Cert.Fox.τ).loc Cert.Fox.main_arg2))
      ∧ r.2.sem = fun _ => 0) := by
  rw [same m ρ]
  exact Cert.FoxRun.frame_any (F := Bits) m ρ

end Cert.FoxFrame
-- ==== Proof.AttnMath.lean ====
/-
  Softmax attention over the reals, one row at a time: the masked probabilities, their two forms (over `exp` with the row's maximum, over
  powers of two with the row's log-sum), and two forms of the gradient of the scores.
-/
module

public import Idealize.ShloMosaic.PureOps.Ideal
public import Idealize.ShloMosaic.Lib.Pointwise

@[expose] public section

noncomputable section

namespace Cert.AttnMath

open Idealize.ShloMosaic

theorem coe_sum {ι : Type} [Fintype ι] (f : ι → ℝ) : ∑ i, (f i : EReal) = ((∑ i, f i : ℝ) : EReal) := by
  classical
  induction (Finset.univ : Finset ι) using Finset.induction_on with
  | empty => simp
  | insert a s ha ih => rw [Finset.sum_insert ha, Finset.sum_insert ha, ih, EReal.coe_add]

theorem div_real (x y : ℝ) (hy : y ≠ 0) : Ideal.div (x : EReal) (y : EReal) = ((x / y : ℝ) : EReal) := by
  rw [Ideal.div_coe hy, ← EReal.coe_mul, one_div, div_eq_mul_inv]

theorem exp2_real (r : ℝ) : Ideal.exp2 (r : EReal) = (((2 : ℝ) ^ r : ℝ) : EReal) := rfl
theorem exp_real (r : ℝ) : Ideal.exp (r : EReal) = ((Real.exp r : ℝ) : EReal) := rfl
theorem log_real (r : ℝ) (h : 0 < r) : Ideal.log (r : EReal) = ((Real.log r : ℝ) : EReal) := if_neg (not_le.mpr h)

/-- The maximum of finitely many values, none of them `⊤` and one of them real, is real. -/
theorem exists_max {ι : Type} [Fintype ι] (f : ι → EReal) (hf : ∀ i, f i ≠ ⊤) (i : ι) (hi : f i ≠ ⊥) :
    ∃ M : ℝ, Finset.univ.fold max ⊥ f = (M : EReal) := by
  have h1 : Finset.univ.fold max ⊥ f ≠ ⊤ :=
    ne_of_lt ((Finset.fold_max_lt _).mpr ⟨bot_lt_top, fun j _ => lt_top_iff_ne_top.mpr (hf j)⟩)
  have h2 : Finset.univ.fold max ⊥ f ≠ ⊥ := by
    have h : f i ≤ Finset.univ.fold max ⊥ f := (Finset.le_fold_max _).mpr (Or.inr ⟨i, Finset.mem_univ _, le_rfl⟩)
    exact ne_of_gt (lt_of_lt_of_le (bot_lt_iff_ne_bot.mpr hi) h)
  exact ⟨_, (EReal.coe_toReal h1 h2).symm⟩

section Row

variable {N : Type} [Fintype N] (m : N → Prop) [DecidablePred m] (s : N → ℝ) (M : ℝ)

/-- The masked exponentials of a row, their sum, and the probabilities. -/
def ex (J : N) : ℝ := if m J then Real.exp (s J - M) else 0
def den : ℝ := ∑ J, ex m s M J
def pr (J : N) : ℝ := ex m s M J / den m s M

theorem den_pos (h : ∃ J, m J) : 0 < den m s M := by
  obtain ⟨J, hJ⟩ := h
  refine Finset.sum_pos' (fun J _ => ?_) ⟨J, Finset.mem_univ _, ?_⟩
  · unfold ex; split
    · exact (Real.exp_pos _).le
    · exact le_rfl
  · unfold ex; rw [if_pos hJ]; exact Real.exp_pos _

theorem pr_masked (J : N) (hJ : ¬ m J) : pr m s M J = 0 := by
  unfold pr ex; rw [if_neg hJ, zero_div]

/-- The probability as a power of two whose exponent takes the row's log-sum off. -/
theorem pr_exp2 (h : ∃ J, m J) (J : N) (hJ : m J) (a : ℝ) (ha : a * Real.log 2 = s J - (M + Real.log (den m s M))) :
    (2 : ℝ) ^ a = pr m s M J := by
  rw [Real.rpow_def_of_pos (by norm_num), mul_comm, ha, show s J - (M + Real.log (den m s M)) = (s J - M) - Real.log (den m s M) by ring,
    Real.exp_sub, Real.exp_log (den_pos m s M h)]
  unfold pr ex
  rw [if_pos hJ]

variable (dp : N → ℝ)

/-- The gradient of a row's scores, from the gradient `dp` of its probabilities. -/
def dsc (J : N) : ℝ := pr m s M J * (dp J - ∑ J', pr m s M J' * dp J')

theorem dsc_masked (J : N) (hJ : ¬ m J) : dsc m s M dp J = 0 := by
  unfold dsc; rw [pr_masked m s M J hJ, zero_mul]

/-- The same, as differentiating the quotient of the exponentials by their sum gives it. -/
theorem dsc_quotient (h : ∃ J, m J) (J : N) :
    (dp J / den m s M + -(∑ J', dp J' * (1 / (den m s M * den m s M)) * ex m s M J')) * ex m s M J = dsc m s M dp J := by
  have hL := (den_pos m s M h).ne'
  have hs : ∑ J', dp J' * (1 / (den m s M * den m s M)) * ex m s M J' = (∑ J', pr m s M J' * dp J') / den m s M := by
    rw [Finset.sum_div]
    refine Finset.sum_congr rfl fun J' _ => ?_
    unfold pr; field_simp
  rw [hs]
  unfold dsc pr
  field_simp
  ring

end Row

/-- The row sum of `do · o` is the probabilities' mean of their gradients. -/
theorem delta_eq {N D : Type} [Fintype N] [Fintype D] (p : N → ℝ) (g : D → ℝ) (v : N → D → ℝ) :
    ∑ d, g d * ∑ J, v J d * p J = ∑ J, p J * ∑ d, g d * v J d := by
  simp only [Finset.mul_sum]
  rw [Finset.sum_comm]
  refine Finset.sum_congr rfl fun J _ => Finset.sum_congr rfl fun d _ => by ring

end Cert.AttnMath
-- ==== Proof.FoxReal.lean ====
/-
  The attention with a forget gate over the reals: the scores of its sixteen heads, their probabilities, and the gradients of the queries, the
  keys, the values and the cumulated log of the gate.
-/
module

public import proofs.«01_k».proof.Proof.AttnMath

@[expose] public section

noncomputable section

namespace Cert.FoxReal

open Idealize.ShloMosaic Cert.AttnMath

abbrev ZIdx := (⟨2, ![4096, 3072]⟩ : Shape).Idx
abbrev CIdx := (⟨2, ![4096, 16]⟩ : Shape).Idx
abbrev GIdx := (⟨2, ![4096, 1024]⟩ : Shape).Idx

variable (z : ZIdx → ℝ) (lc : CIdx → ℝ) (g : GIdx → ℝ)

/-- Queries, keys, values and cotangents by head, position and feature. -/
def qf (h : Fin 16) (I : Fin 4096) (d : Fin 64) : ℝ := z (ix2 I ⟨h * 64 + d, by omega⟩)
def kf (h : Fin 16) (I : Fin 4096) (d : Fin 64) : ℝ := z (ix2 I ⟨1024 + (h * 64 + d), by omega⟩)
def vf (h : Fin 16) (I : Fin 4096) (d : Fin 64) : ℝ := z (ix2 I ⟨2048 + (h * 64 + d), by omega⟩)
def gf (h : Fin 16) (I : Fin 4096) (d : Fin 64) : ℝ := g (ix2 I ⟨h * 64 + d, by omega⟩)

/-- The score of key `J` for query `I`. -/
def S (h : Fin 16) (I J : Fin 4096) : ℝ := (∑ d, qf z h I d * kf z h J d) * (1 / 8) + lc (ix2 I h) - lc (ix2 J h)

/-- The score with the later keys masked. -/
def Sm (h : Fin 16) (I J : Fin 4096) : EReal := if J ≤ I then ((S z lc h I J : ℝ) : EReal) else ⊥

/-- A row's maximum. -/
def Mx (h : Fin 16) (I : Fin 4096) : ℝ := (Finset.univ.fold max ⊥ (Sm z lc h I)).toReal

theorem fold_max (h : Fin 16) (I : Fin 4096) : Finset.univ.fold max ⊥ (Sm z lc h I) = ((Mx z lc h I : ℝ) : EReal) := by
  obtain ⟨M, hM⟩ := exists_max (Sm z lc h I) (fun J => by unfold Sm; split <;> simp) I (by unfold Sm; rw [if_pos le_rfl]; simp)
  unfold Mx
  rw [hM, EReal.toReal_coe]

/-- Exponentials, their sum, probabilities of a row. -/
def E (h : Fin 16) (I J : Fin 4096) : ℝ := ex (fun J => J ≤ I) (S z lc h I) (Mx z lc h I) J
def L (h : Fin 16) (I : Fin 4096) : ℝ := den (fun J => J ≤ I) (S z lc h I) (Mx z lc h I)
def P (h : Fin 16) (I J : Fin 4096) : ℝ := pr (fun J => J ≤ I) (S z lc h I) (Mx z lc h I) J

theorem L_pos (h : Fin 16) (I : Fin 4096) : 0 < L z lc h I := den_pos _ _ _ ⟨I, le_rfl⟩

/-- The gradient of a probability, and of a score. -/
def dP (h : Fin 16) (I J : Fin 4096) : ℝ := ∑ d, gf g h I d * vf z h J d
def dS (h : Fin 16) (I J : Fin 4096) : ℝ := dsc (fun J => J ≤ I) (S z lc h I) (Mx z lc h I) (dP z g h I) J

/-- The output of the attention. -/
def O (h : Fin 16) (I : Fin 4096) (d : Fin 64) : ℝ := ∑ J, vf z h J d * P z lc h I J

/-- The gradients. -/
def dQ (h : Fin 16) (I : Fin 4096) (d : Fin 64) : ℝ := (∑ J, dS z lc g h I J * kf z h J d) * (1 / 8)
def dK (h : Fin 16) (J : Fin 4096) (d : Fin 64) : ℝ := (∑ I, dS z lc g h I J * qf z h I d) * (1 / 8)
def dV (h : Fin 16) (J : Fin 4096) (d : Fin 64) : ℝ := ∑ I, gf g h I d * P z lc h I J
def dC (I : Fin 4096) (h : Fin 16) : ℝ := (∑ J, dS z lc g h I J) - ∑ I', dS z lc g h I' I

theorem delta (h : Fin 16) (I : Fin 4096) : ∑ d, gf g h I d * O z lc h I d = ∑ J, P z lc h I J * dP z g h I J :=
  delta_eq _ _ _

end Cert.FoxReal
-- ==== Proof.FoxRef.lean ====
/-
  The values of the reference of the attention with a forget gate, at real arguments: each of its arrays, entry by entry, is the real number
  that `FoxReal` names.
-/
module

public import proofs.«01_k».proof.Proof.Gen.FoxReferenceIdeal.Read
public import proofs.«01_k».proof.Proof.FoxReal
public import Idealize.ShloMosaic.Lib.Tactic
public import Idealize.ShloMosaic.Lib.WordCmp

@[expose] public section

set_option maxRecDepth 16384

noncomputable section

namespace Cert.FoxRef

open Cert.FoxReferenceIdeal Cert.FoxReferenceIdeal.Read
open Idealize.ShloMosaic Idealize.ShloMosaic.Tactic Cert.AttnMath Cert.FoxReal

variable (z : ZIdx → ℝ) (lc : CIdx → ℝ) (g : GIdx → ℝ)

/-- Real arrays as arguments of the program. -/
abbrev Z : (⟨S4096x3072, .f32⟩ : BufTy).Contents (Elt Ideal) := fun y => ((z y : ℝ) : EReal)
abbrev C : (⟨S4096x16, .f32⟩ : BufTy).Contents (Elt Ideal) := fun y => ((lc y : ℝ) : EReal)
abbrev G : (⟨S4096x1024, .f32⟩ : BufTy).Contents (Elt Ideal) := fun y => ((g y : ℝ) : EReal)

theorem eighth : Ideal.ofBits .f32 0x3E000000#32 = ((1 / 8 : ℝ) : EReal) := by
  simp [Ideal.ofBits, Ideal.ieee]
  rw [← EReal.coe_mul]
  norm_num
theorem zero_bits : Ideal.ofBits .f32 0x00000000#32 = 0 := by
  simp [Ideal.ofBits, Ideal.ieee]
theorem one_bits : Ideal.ofBits .f32 0x3F800000#32 = ((1 : ℝ) : EReal) := by
  simp [Ideal.ofBits, Ideal.ieee]
  rw [← EReal.coe_mul]
  norm_num
theorem bot_bits : Ideal.ofBits .f32 0xFF800000#32 = (⊥ : EReal) := by
  simp [Ideal.ofBits, Ideal.ieee]

theorem q_at (h : Fin 16) (I : Fin 4096) (d : Fin 64) : val_main_v3 (F := Ideal) (Z z) (ix3 I h d) = ((qf z h I d : ℝ) : EReal) := by
  unfold val_main_v3 val_main_v0
  pointwise
  rfl

theorem k_at (h : Fin 16) (I : Fin 4096) (d : Fin 64) : val_main_v4 (F := Ideal) (Z z) (ix3 I h d) = ((kf z h I d : ℝ) : EReal) := by
  unfold val_main_v4 val_main_v1
  pointwise
  rfl

theorem v_at (h : Fin 16) (I : Fin 4096) (d : Fin 64) : val_main_v5 (F := Ideal) (Z z) (ix3 I h d) = ((vf z h I d : ℝ) : EReal) := by
  unfold val_main_v5 val_main_v2
  pointwise
  rfl

theorem s_at (h : Fin 16) (I J : Fin 4096) : val_main_v15 (F := Ideal) (Z z) (C lc) (ix3 h I J) = ((S z lc h I J : ℝ) : EReal) := by
  unfold val_main_v15 val_main_v14 val_main_v13 val_main_v12 val_main_v11 val_main_v10 val_main_v9 val_main_v8 val_main_v7 val_main_v6
    val_main_cst
  pointwise
  simp only [q_at, k_at, ← EReal.coe_mul, coe_sum, eighth, ← EReal.coe_add, ← EReal.coe_sub]
  rfl

theorem causal (I J : Fin 4096) : IntOp.cmpi CmpIPredicate.sle (BitVec.ofNat 32 J.val) (BitVec.ofNat 32 I.val) = BitVec.ofBool (decide (J ≤ I)) := by
  rw [WordCmp.cmpi_sle_ofNat (by omega) (by omega)]
  rfl

theorem sm_at (h : Fin 16) (I J : Fin 4096) : val_main_v22_0 (F := Ideal) (Z z) (C lc) (ix3 h I J) = Sm z lc h I J := by
  unfold val_main_v22_0 val_main_v22_1 val_main_v21 val_main_v20 val_main_v19 val_main_v18 val_main_v17 val_main_v16 val_main_call0_v2
    val_main_call0_v0 val_main_cst_0
  pointwise
  rw [causal, Scalar.select_ofBool, s_at]
  unfold Sm
  simp only [decide_eq_true_eq]
  split
  · rfl
  · exact bot_bits

theorem mask_at (h : Fin 16) (I J : Fin 4096) :
    val_main_v22_1 (F := Ideal) (ix3 h I J) = BitVec.ofBool (decide (J ≤ I)) := by
  unfold val_main_v22_1 val_main_v21 val_main_v20 val_main_v19 val_main_v18 val_main_v17 val_main_v16
  pointwise
  exact causal I J

theorem max_at (h : Fin 16) (I : Fin 4096) : val_main_v23 (F := Ideal) (Z z) (C lc) (ix2 h I) = ((Mx z lc h I : ℝ) : EReal) := by
  unfold val_main_v23 val_main_cst_1
  pointwise
  rw [bot_bits]
  simp only [sm_at]
  exact fold_max z lc h I

theorem max'_at (h : Fin 16) (I : Fin 4096) : val_main_v30 (F := Ideal) (Z z) (C lc) (ix2 h I) = ((Mx z lc h I : ℝ) : EReal) := by
  have hb : val_main_v29 (F := Ideal) (ix2 h I) = (⊥ : EReal) := by
    unfold val_main_v29 val_main_cst_3
    pointwise
    exact bot_bits
  refine (val_main_v30_apply _ _ _).trans ?_
  rw [hb, max_at]
  exact max_eq_right (α := EReal) bot_le

theorem e_at (h : Fin 16) (I J : Fin 4096) : val_main_v43 (F := Ideal) (Z z) (C lc) (ix3 h I J) = ((E z lc h I J : ℝ) : EReal) := by
  unfold val_main_v43 val_main_v42 val_main_v41 val_main_v40
  pointwise
  rw [sm_at, max'_at]
  unfold Sm E ex
  split
  · rw [← EReal.coe_sub]; rfl
  · rfl

theorem l_at (h : Fin 16) (I : Fin 4096) : val_main_v44 (F := Ideal) (Z z) (C lc) (ix2 h I) = ((L z lc h I : ℝ) : EReal) := by
  unfold val_main_v44
  pointwise
  simp only [e_at, coe_sum]
  refine (congrArg (· + _) (?_ : _ = (0 : EReal))).trans (zero_add _)
  exact zero_bits

theorem p_at (h : Fin 16) (I J : Fin 4096) : val_main_v47 (F := Ideal) (Z z) (C lc) (ix3 h I J) = ((P z lc h I J : ℝ) : EReal) := by
  unfold val_main_v47 val_main_v46 val_main_v45
  pointwise
  rw [e_at, l_at, div_real _ _ (L_pos z lc h I).ne']
  rfl

theorem o_at (h : Fin 16) (I : Fin 4096) (d : Fin 64) : val_main_v52 (F := Ideal) (Z z) (C lc) (ix3 I h d) = ((O z lc h I d : ℝ) : EReal) := by
  unfold val_main_v52 val_main_v51
  pointwise
  simp only [v_at, p_at, ← EReal.coe_mul, coe_sum]
  rfl

theorem g_at (h : Fin 16) (I : Fin 4096) (d : Fin 64) : val_main_v54 (F := Ideal) (G g) (ix3 h d I) = ((gf g h I d : ℝ) : EReal) := by
  unfold val_main_v54 val_main_v53
  pointwise
  rfl

theorem dp_at (h : Fin 16) (I J : Fin 4096) : val_main_v55 (F := Ideal) (Z z) (G g) (ix3 h I J) = ((dP z g h I J : ℝ) : EReal) := by
  unfold val_main_v55
  pointwise
  simp only [v_at, g_at, ← EReal.coe_mul, coe_sum]
  rfl

theorem dv_at (h : Fin 16) (J : Fin 4096) (d : Fin 64) :
    val_main_v56 (F := Ideal) (Z z) (C lc) (G g) (ix3 h d J) = ((dV z lc g h J d : ℝ) : EReal) := by
  unfold val_main_v56
  pointwise
  simp only [p_at, g_at, ← EReal.coe_mul, coe_sum]
  rfl

theorem sq_at (h : Fin 16) (I : Fin 4096) (k : Fin 1) :
    val_main_v50 (F := Ideal) (Z z) (C lc) (ix3 h I k) = ((1 / (L z lc h I * L z lc h I) : ℝ) : EReal) := by
  unfold val_main_v50 val_main_v49 val_main_v48 val_main_v45 val_main_cst_10
  pointwise
  rw [l_at, ← EReal.coe_mul, ← EReal.coe_one, div_real _ _ (mul_pos (L_pos z lc h I) (L_pos z lc h I)).ne']

theorem row_at (h : Fin 16) (I : Fin 4096) :
    val_main_v61 (F := Ideal) (Z z) (C lc) (G g) (ix2 h I)
      = ((∑ J, dP z g h I J * (1 / (L z lc h I * L z lc h I)) * E z lc h I J : ℝ) : EReal) := by
  unfold val_main_v61 val_main_v60 val_main_v59 val_main_v58
  pointwise
  simp only [e_at, dp_at, sq_at, ← EReal.coe_mul, coe_sum]
  refine (congrArg (· + _) (?_ : _ = (0 : EReal))).trans (zero_add _)
  exact zero_bits

theorem ds_at (h : Fin 16) (I J : Fin 4096) :
    val_main_v70 (F := Ideal) (Z z) (C lc) (G g) (ix3 h I J) = ((dS z lc g h I J : ℝ) : EReal) := by
  unfold val_main_v70 val_main_v69 val_main_v68 val_main_v67 val_main_v66 val_main_v65 val_main_v64 val_main_v63 val_main_v62 val_main_call1_v0 val_main_call1_cst val_main_cst_12
    val_main_v45
  pointwise
  rw [mask_at, Scalar.select_ofBool, row_at, dp_at, l_at, e_at, div_real _ _ (L_pos z lc h I).ne']
  simp only [decide_eq_true_eq, Finset.univ_unique, Finset.sum_singleton]
  split
  · rw [← EReal.coe_neg, ← EReal.coe_add, ← EReal.coe_mul]
    unfold dS L E
    rw [dsc_quotient (fun J => J ≤ I) _ _ _ ⟨I, le_rfl⟩]
  · unfold dS
    rw [dsc_masked _ _ _ _ J ‹_›]
    exact EReal.coe_zero.symm

theorem dc_at (I : Fin 4096) (h : Fin 16) :
    val_main_v79 (F := Ideal) (Z z) (C lc) (G g) (ix2 I h) = ((dC z lc g I h : ℝ) : EReal) := by
  unfold val_main_v79 val_main_v78 val_main_v77 val_main_v76 val_main_v75 val_main_v74 val_main_v73 val_main_v72 val_main_v71
    val_main_cst_13 val_main_cst_14 val_main_cst_15 val_main_cst_16
  pointwise
  simp only [ds_at, Finset.univ_unique, Finset.sum_singleton, ← EReal.coe_neg, coe_sum, ← EReal.coe_add]
  refine congrArg _ ?_
  unfold dC
  rw [Finset.sum_neg_distrib]
  ring

theorem dq_at (h : Fin 16) (I : Fin 4096) (d : Fin 64) :
    val_main_v84 (F := Ideal) (Z z) (C lc) (G g) (ix3 h I d) = ((dQ z lc g h I d : ℝ) : EReal) := by
  unfold val_main_v84 val_main_v81 val_main_v80 val_main_cst_17
  pointwise
  simp only [ds_at, k_at, eighth, ← EReal.coe_mul, coe_sum]
  refine congrArg _ ?_
  unfold dQ
  rw [Finset.sum_mul]
  exact Finset.sum_congr rfl fun _ _ => by ring

theorem dk_at (h : Fin 16) (I : Fin 4096) (d : Fin 64) :
    val_main_v82 (F := Ideal) (Z z) (C lc) (G g) (ix3 h I d) = ((dK z lc g h I d : ℝ) : EReal) := by
  unfold val_main_v82 val_main_v81 val_main_v80 val_main_cst_17
  pointwise
  simp only [ds_at, q_at, eighth, ← EReal.coe_mul, coe_sum]
  refine congrArg _ ?_
  unfold dK
  rw [Finset.sum_mul]
  exact Finset.sum_congr rfl fun _ _ => by ring

/-- The head and the feature of a column. -/
abbrev hd (c : Fin 1024) : Fin 16 := ⟨c / 64, by omega⟩
abbrev ft (c : Fin 1024) : Fin 64 := ⟨c % 64, by omega⟩

theorem out_at (a : Fin 3) (I : Fin 4096) (c : Fin 1024) :
    val_main_v93 (F := Ideal) (Z z) (C lc) (G g) (ix3 a I c)
      = (((if a.val < 1 then dQ z lc g (hd c) I (ft c) else if a.val - 1 < 1 then dK z lc g (hd c) I (ft c) else dV z lc g (hd c) I (ft c) : ℝ)) : EReal) := by
  unfold val_main_v93 val_main_v92 val_main_v91 val_main_v90 val_main_v89 val_main_v88 val_main_v87 val_main_v86 val_main_v85 val_main_v83 val_main_v57
  pointwise
  simp only [dq_at, dk_at, dv_at]
  split
  · rfl
  · split <;> rfl

end Cert.FoxRef
-- ==== Proof.Blocks.lean ====
/-
  Positions cut into eight blocks of 512, pairs of heads stacked into 1024 rows, and sums taken in those pieces.
-/
module

public import Idealize.ShloMosaic.Lib.Pointwise

@[expose] public section

namespace Cert.Blocks

/-- Position `r` of block `i`. -/
def row (i : Fin 8) (r : Fin 512) : Fin 4096 := ⟨512 * i.val + r.val, by omega⟩
/-- Row `r` of head `h` in a stack of two heads' blocks. -/
def stk (h : Fin 2) (r : Fin 512) : Fin 1024 := ⟨512 * h.val + r.val, by omega⟩
/-- The block of a position, and the place within it. -/
def blk (I : Fin 4096) : Fin 8 := ⟨I.val / 512, by omega⟩
def pos (I : Fin 4096) : Fin 512 := ⟨I.val % 512, by omega⟩

theorem blk_row (i : Fin 8) (r : Fin 512) : blk (row i r) = i := Fin.ext (by show (512 * i.val + r.val) / 512 = i.val; omega)
theorem pos_row (i : Fin 8) (r : Fin 512) : pos (row i r) = r := Fin.ext (by show (512 * i.val + r.val) % 512 = r.val; omega)
theorem row_blk (I : Fin 4096) : row (blk I) (pos I) = I := Fin.ext (by show 512 * (I.val / 512) + I.val % 512 = I.val; omega)

/-- The pairs of a block and a place are the positions. -/
def rowEquiv : Fin 8 × Fin 512 ≃ Fin 4096 where
  toFun p := row p.1 p.2
  invFun I := (blk I, pos I)
  left_inv p := Prod.ext (blk_row _ _) (pos_row _ _)
  right_inv := row_blk

/-- The pairs of a head and a row are the rows of the stack. -/
def stkEquiv : Fin 2 × Fin 512 ≃ Fin 1024 where
  toFun p := stk p.1 p.2
  invFun R := (⟨R.val / 512, by omega⟩, ⟨R.val % 512, by omega⟩)
  left_inv p := by
    refine Prod.ext (Fin.ext ?_) (Fin.ext ?_)
    · show (512 * p.1.val + p.2.val) / 512 = p.1.val
      have := p.2.isLt; omega
    · show (512 * p.1.val + p.2.val) % 512 = p.2.val
      have := p.2.isLt; omega
  right_inv R := Fin.ext (by show 512 * (R.val / 512) + R.val % 512 = R.val; omega)

section Sums

variable {M : Type} [AddCommMonoid M]

theorem sum_rows (f : Fin 4096 → M) : ∑ I, f I = ∑ i, ∑ r, f (row i r) := by
  rw [← Fintype.sum_prod_type' fun i r => f (row i r)]
  exact (rowEquiv.sum_comp f).symm

theorem sum_stk (f : Fin 1024 → M) : ∑ R, f R = ∑ h, ∑ r, f (stk h r) := by
  rw [← Fintype.sum_prod_type' fun h r => f (stk h r)]
  exact (stkEquiv.sum_comp f).symm

/-- The sum over the first `n` blocks. -/
def pref (n : ℕ) (f : Fin 8 → M) : M := ∑ i : Fin 8, if i.val < n then f i else 0

theorem pref_zero (f : Fin 8 → M) : pref 0 f = 0 := Finset.sum_eq_zero fun i _ => if_neg (Nat.not_lt_zero _)

theorem pref_succ (i : Fin 8) (f : Fin 8 → M) : pref (i.val + 1) f = pref i.val f + f i := by
  unfold pref
  have h : ∀ j : Fin 8, (if j.val < i.val + 1 then f j else 0) = (if j.val < i.val then f j else 0) + (if i = j then f j else 0) := by
    intro j
    by_cases h1 : j.val < i.val
    · rw [if_pos h1, if_pos (by omega), if_neg (fun h => by rw [h] at h1; omega), add_zero]
    · by_cases h2 : i = j
      · subst h2; rw [if_pos (by omega), if_neg h1, if_pos rfl, zero_add]
      · rw [if_neg h1, if_neg h2, if_neg (fun h => h2 (Fin.ext (by omega))), add_zero]
  rw [Finset.sum_congr rfl fun j _ => h j, Finset.sum_add_distrib, Finset.sum_ite_eq, if_pos (Finset.mem_univ _)]

theorem pref_all (n : ℕ) (hn : 8 ≤ n) (f : Fin 8 → M) : pref n f = ∑ i, f i :=
  Finset.sum_congr rfl fun i _ => if_pos (by omega)

/-- Where the blocks from `n` on are zero, the first `n` are all. -/
theorem pref_eq_sum (n : ℕ) (f : Fin 8 → M) (h : ∀ i : Fin 8, n ≤ i.val → f i = 0) : pref n f = ∑ i, f i :=
  Finset.sum_congr rfl fun i _ => by
    by_cases hi : i.val < n
    · exact if_pos hi
    · rw [if_neg hi, h i (by omega)]

end Sums

end Cert.Blocks
-- ==== Proof.FoxHost.lean ====
/-
  The arrays that the host lines hand to the forget-gate attention's backward kernel, at real arguments, and the blocks of them that a grid
  point reads: grid point `t` has the heads `2 t` and `2 t + 1`.
-/
module

public import proofs.«01_k».proof.Proof.FoxLaunch
public import proofs.«01_k».proof.Proof.FoxRef
public import proofs.«01_k».proof.Proof.Blocks

@[expose] public section

set_option maxRecDepth 16384

noncomputable section

namespace Cert.FoxHost

open Cert.FoxIdeal Cert.FoxIdeal.Gen
open Idealize.ShloMosaic Idealize.ShloMosaic.TcCoe Idealize.ShloMosaic.Tactic
open Cert.FoxReferenceIdeal.Read Cert.AttnMath Cert.FoxReal Cert.Blocks

variable (m : (ℓ : Loc nD τ sig) → Buf (Elt Ideal) ℓ) (c : Dev nD)

/-- The bfloat16 copy of the projection. -/
theorem V68 : V m c main_v68 = truncf (F := Ideal) .bf16 (m ((c.tc : Thread nD τ).loc main_arg0)) Facts₀.bitsLt_bf16_f32 := by
  dsimp only [V, V0, List.flatten, List.append]
  after_results

/-- The attention's output, a row of heads after one another. -/
theorem V36 : V m c main_v36 = shapeCast S4096x1024 (val_main_v52 (F := Ideal) (m ((c.tc : Thread nD τ).loc main_arg0)) (m ((c.tc : Thread nD τ).loc main_arg1)) : FVec Ideal S4096x16x64 .f32) Facts₀.shapeCasts_S4096x16x64_S4096x1024 := by
  dsimp only [V, V0, List.flatten, List.append]
  after_results
  rfl
/-- The bias of the keys. -/
theorem V73 : V m c main_v73 = shapeCast S8x2x8x1x512 (transpose S16x4096 [1, 0] (Host.divf (F := Ideal) (Host.negf (m ((c.tc : Thread nD τ).loc main_arg1) : FVec Ideal S4096x16 .f32)) (broadcastInDim S4096x16 ![] Facts₀.bcast_S_S4096x16 (Host.log (constant S_ .f32 0x40000000#32)))) Facts₀.transposes_S4096x16_S16x4096_1_0 : FVec Ideal S16x4096 .f32) Facts₀.shapeCasts_S16x4096_S8x2x8x1x512 := by
  dsimp only [V, V0, List.flatten, List.append]
  after_results
  rfl
/-- The row's log-sum in the arithmetic of the reference's arrays. -/
def lse : FVec Ideal S16x4096 .f32 :=
  addf (F := Ideal) (val_main_v23 (m ((c.tc : Thread nD τ).loc main_arg0)) (m ((c.tc : Thread nD τ).loc main_arg1)))
    (Host.log (Host.reduceAdd (F := Ideal)
      (Host.exp (F := Ideal) (subf (F := Ideal) (val_main_v22_0 (m ((c.tc : Thread nD τ).loc main_arg0)) (m ((c.tc : Thread nD τ).loc main_arg1)) : FVec Ideal S16x4096x4096 .f32)
        (broadcastInDim S16x4096x4096 ![0, 1, 2] Facts₀.bcast_S16x4096x1_S16x4096x4096_0_1_2
          (broadcastInDim S16x4096x1 ![0, 1] Facts₀.bcast_S16x4096_S16x4096x1_0_1
            (val_main_v23 (F := Ideal) (m ((c.tc : Thread nD τ).loc main_arg0)) (m ((c.tc : Thread nD τ).loc main_arg1)) : FVec Ideal S16x4096 .f32)))))
      (constant S_ .f32 0x00000000#32) Facts₀.reducesTo_S16x4096x4096_S16x4096_d2 Facts₀.h_S_))
/-- The row's log-sum, the query's own log taken off. -/
theorem V67 : V m c main_v67 = shapeCast S8x2x4096x1 (Host.divf (F := Ideal) (subf (F := Ideal) (lse m c)
    (transpose S16x4096 [1, 0] (m ((c.tc : Thread nD τ).loc main_arg1) : FVec Ideal S4096x16 .f32) Facts₀.transposes_S4096x16_S16x4096_1_0))
    (broadcastInDim S16x4096 ![] Facts₀.bcast_S_S16x4096 (Host.log (constant S_ .f32 0x40000000#32))) : FVec Ideal S16x4096 .f32) Facts₀.shapeCasts_S16x4096_S8x2x4096x1 := by
  dsimp only [V, V0, List.flatten, List.append]
  after_results
  rfl

section Blocks

theorem points : cfg0.N = 8 := rfl

theorem index0 : ∀ t : Fin cfg0.N, win0_0.index t 0 = 0 ∧ win0_0.index t 1 = t.val :=
  (by decide +kernel : ∀ t : Fin grid0.N, _)
theorem index1 : ∀ t : Fin cfg0.N, win0_1.index t 0 = 0 ∧ win0_1.index t 1 = 8 + t.val :=
  (by decide +kernel : ∀ t : Fin grid0.N, _)
theorem index2 : ∀ t : Fin cfg0.N, win0_2.index t 0 = 0 ∧ win0_2.index t 1 = 16 + t.val :=
  (by decide +kernel : ∀ t : Fin grid0.N, _)
theorem index3 : ∀ t : Fin cfg0.N, win0_3.index t 0 = 0 ∧ win0_3.index t 1 = t.val :=
  (by decide +kernel : ∀ t : Fin grid0.N, _)
theorem index4 : ∀ t : Fin cfg0.N, win0_4.index t 0 = 0 ∧ win0_4.index t 1 = t.val :=
  (by decide +kernel : ∀ t : Fin grid0.N, _)
theorem index5 : ∀ t : Fin cfg0.N, win0_5.index t 0 = t.val ∧ win0_5.index t 1 = 0 ∧ win0_5.index t 2 = 0 ∧ win0_5.index t 3 = 0 :=
  (by decide +kernel : ∀ t : Fin grid0.N, _)
theorem index6 : ∀ t : Fin cfg0.N, win0_6.index t 0 = t.val ∧ win0_6.index t 1 = 0 ∧ win0_6.index t 2 = 0 ∧ win0_6.index t 3 = 0 ∧ win0_6.index t 4 = 0 :=
  (by decide +kernel : ∀ t : Fin grid0.N, _)

/-- A block of two columns of heads. -/
theorem blk0 (t : Fin cfg0.N) (I : Fin 4096) (e : Fin 128) :
    iblk m c 0 t (ix2 I e) = V m c main_v68 (ix2 I ⟨t.val * 128 + e.val, by have := t.isLt; have := points; omega⟩) := by
  unfold iblk; rw [View.read_apply]
  show V m c main_v68 _ = V m c main_v68 _
  congr 1; funext a; apply Fin.ext
  match a with
  | ⟨0, _⟩ => show win0_0.index t 0 * 4096 + 1 * I.val = I.val; rw [(index0 t).1]; omega
  | ⟨1, _⟩ => show win0_0.index t 1 * 128 + 1 * e.val = t.val * 128 + e.val; rw [(index0 t).2]; omega

theorem blk1 (t : Fin cfg0.N) (I : Fin 4096) (e : Fin 128) :
    iblk m c 1 t (ix2 I e) = V m c main_v68 (ix2 I ⟨1024 + (t.val * 128 + e.val), by have := t.isLt; have := points; omega⟩) := by
  unfold iblk; rw [View.read_apply]
  show V m c main_v68 _ = V m c main_v68 _
  congr 1; funext a; apply Fin.ext
  match a with
  | ⟨0, _⟩ => show win0_1.index t 0 * 4096 + 1 * I.val = I.val; rw [(index1 t).1]; omega
  | ⟨1, _⟩ => show win0_1.index t 1 * 128 + 1 * e.val = 1024 + (t.val * 128 + e.val); rw [(index1 t).2]; omega

theorem blk2 (t : Fin cfg0.N) (I : Fin 4096) (e : Fin 128) :
    iblk m c 2 t (ix2 I e) = V m c main_v68 (ix2 I ⟨2048 + (t.val * 128 + e.val), by have := t.isLt; have := points; omega⟩) := by
  unfold iblk; rw [View.read_apply]
  show V m c main_v68 _ = V m c main_v68 _
  congr 1; funext a; apply Fin.ext
  match a with
  | ⟨0, _⟩ => show win0_2.index t 0 * 4096 + 1 * I.val = I.val; rw [(index2 t).1]; omega
  | ⟨1, _⟩ => show win0_2.index t 1 * 128 + 1 * e.val = 2048 + (t.val * 128 + e.val); rw [(index2 t).2]; omega

theorem blk3 (t : Fin cfg0.N) (I : Fin 4096) (e : Fin 128) :
    iblk m c 3 t (ix2 I e) = m ((c.tc : Thread nD τ).loc main_arg2) (ix2 I ⟨t.val * 128 + e.val, by have := t.isLt; have := points; omega⟩) := by
  rw [← V_main_arg2 m c]
  unfold iblk; rw [View.read_apply]
  show V m c main_arg2 _ = V m c main_arg2 _
  congr 1; funext a; apply Fin.ext
  match a with
  | ⟨0, _⟩ => show win0_3.index t 0 * 4096 + 1 * I.val = I.val; rw [(index3 t).1]; omega
  | ⟨1, _⟩ => show win0_3.index t 1 * 128 + 1 * e.val = t.val * 128 + e.val; rw [(index3 t).2]; omega

theorem blk4 (t : Fin cfg0.N) (I : Fin 4096) (e : Fin 128) :
    iblk m c 4 t (ix2 I e) = V m c main_v36 (ix2 I ⟨t.val * 128 + e.val, by have := t.isLt; have := points; omega⟩) := by
  unfold iblk; rw [View.read_apply]
  show V m c main_v36 _ = V m c main_v36 _
  congr 1; funext a; apply Fin.ext
  match a with
  | ⟨0, _⟩ => show win0_4.index t 0 * 4096 + 1 * I.val = I.val; rw [(index4 t).1]; omega
  | ⟨1, _⟩ => show win0_4.index t 1 * 128 + 1 * e.val = t.val * 128 + e.val; rw [(index4 t).2]; omega

theorem blk5 (t : Fin cfg0.N) (h : Fin 2) (I : Fin 4096) : iblk m c 5 t (ix4 0 h I 0) = V m c main_v67 (ix4 (t.cast points) h I 0) := by
  unfold iblk; rw [View.read_apply]
  show V m c main_v67 _ = V m c main_v67 _
  congr 1; funext a; apply Fin.ext
  match a with
  | ⟨0, _⟩ => show win0_5.index t 0 * 1 + 1 * 0 = t.val; rw [(index5 t).1]; omega
  | ⟨1, _⟩ => show win0_5.index t 1 * 2 + 1 * h.val = h.val; rw [(index5 t).2.1]; omega
  | ⟨2, _⟩ => show win0_5.index t 2 * 4096 + 1 * I.val = I.val; rw [(index5 t).2.2.1]; omega
  | ⟨3, _⟩ => show win0_5.index t 3 * 1 + 1 * 0 = 0; rw [(index5 t).2.2.2]

theorem blk6 (t : Fin cfg0.N) (h : Fin 2) (j : Fin 8) (p : Fin 512) :
    iblk m c 6 t (FoxRun.ixD h j p) = V m c main_v73 (ix5 (t.cast points) h j 0 p) := by
  unfold iblk; rw [View.read_apply]
  show V m c main_v73 _ = V m c main_v73 _
  congr 1; funext a; apply Fin.ext
  match a with
  | ⟨0, _⟩ => show win0_6.index t 0 * 1 + 1 * 0 = t.val; rw [(index6 t).1]; omega
  | ⟨1, _⟩ => show win0_6.index t 1 * 2 + 1 * h.val = h.val; rw [(index6 t).2.1]; omega
  | ⟨2, _⟩ => show win0_6.index t 2 * 8 + 1 * j.val = j.val; rw [(index6 t).2.2.1]; omega
  | ⟨3, _⟩ => show win0_6.index t 3 * 1 + 1 * 0 = 0; rw [(index6 t).2.2.2.1]
  | ⟨4, _⟩ => show win0_6.index t 4 * 512 + 1 * p.val = p.val; rw [(index6 t).2.2.2.2]; omega

end Blocks

/-- The log-sum of a row, entry by entry. -/
theorem lse_form (a : FVec Ideal S16x4096 .f32) (b : FVec Ideal S16x4096x4096 .f32) (k : FVec Ideal S_ .f32) (h : Fin 16) (I : Fin 4096) :
    addf (F := Ideal) a (Host.log (Host.reduceAdd (F := Ideal) (Host.exp (F := Ideal) (subf (F := Ideal) b
        (broadcastInDim S16x4096x4096 ![0, 1, 2] Facts₀.bcast_S16x4096x1_S16x4096x4096_0_1_2
          (broadcastInDim S16x4096x1 ![0, 1] Facts₀.bcast_S16x4096_S16x4096x1_0_1 a))))
      k Facts₀.reducesTo_S16x4096x4096_S16x4096_d2 Facts₀.h_S_)) (ix2 h I)
    = a (ix2 h I) + Ideal.log (k (Shape.Idx.first Facts₀.h_S_) + ∑ J : Fin 4096, Ideal.exp (b (ix3 h I J) - a (ix2 h I)) : EReal) := by
  pointwise

/-- A quotient by a scalar, heads two by two. -/
theorem shift_form (w : FVec Ideal S16x4096 .f32) (l : FVec Ideal S4096x16 .f32) (k : FVec Ideal S_ .f32) (t : Fin 8) (h : Fin 2) (I : Fin 4096) :
    shapeCast S8x2x4096x1 (Host.divf (F := Ideal) (subf (F := Ideal) w (transpose S16x4096 [1, 0] l Facts₀.transposes_S4096x16_S16x4096_1_0))
      (broadcastInDim S16x4096 ![] Facts₀.bcast_S_S16x4096 (Host.log k))) Facts₀.shapeCasts_S16x4096_S8x2x4096x1 (ix4 t h I 0)
    = Ideal.div (w (ix2 ⟨t * 2 + h, by omega⟩ I) - l (ix2 I ⟨t * 2 + h, by omega⟩)) (Ideal.log (k ix0)) := by
  pointwise

theorem bias_form (l : FVec Ideal S4096x16 .f32) (k : FVec Ideal S_ .f32) (t : Fin 8) (h : Fin 2) (j : Fin 8) (p : Fin 512) :
    shapeCast S8x2x8x1x512 (transpose S16x4096 [1, 0] (Host.divf (F := Ideal) (Host.negf l)
      (broadcastInDim S4096x16 ![] Facts₀.bcast_S_S4096x16 (Host.log k))) Facts₀.transposes_S4096x16_S16x4096_1_0) Facts₀.shapeCasts_S16x4096_S8x2x8x1x512
      (ix5 t h j 0 p)
    = Ideal.div (-(l (ix2 (row j p) ⟨t * 2 + h, by omega⟩) : EReal)) (Ideal.log (k ix0)) := by
  pointwise
  rw [show (⟨j.val * 512 + p.val, by omega⟩ : Fin 4096) = row j p from Fin.ext (by unfold row; show j.val * 512 + p.val = 512 * j.val + p.val; omega)]

theorem lse_real {a k : EReal} {b : Fin 4096 → EReal} {M : ℝ} {s : Fin 4096 → EReal} {E : Fin 4096 → ℝ} (ha : a = (M : EReal))
    (hb : ∀ J, b J = s J) (hk : k = 0) (hs : ∀ J, Ideal.exp (s J - (M : EReal)) = ((E J : ℝ) : EReal)) :
    a + Ideal.log (k + ∑ J : Fin 4096, Ideal.exp (b J - a)) = (M : EReal) + Ideal.log ((∑ J, E J : ℝ) : EReal) := by
  subst ha hk
  simp only [hb, hs, coe_sum, zero_add]

theorem log2_ne : Real.log 2 ≠ 0 := (Real.log_pos (by norm_num)).ne'

theorem shift_real {w l k : EReal} {a b : ℝ} (hw : w = (a : EReal)) (hl : l = (b : EReal)) (hk : Ideal.log k = ((Real.log 2 : ℝ) : EReal)) :
    Ideal.div (w - l) (Ideal.log k) = (((a - b) / Real.log 2 : ℝ) : EReal) := by
  rw [hw, hl, hk, ← EReal.coe_sub, div_real _ _ log2_ne]

theorem bias_real {l k : EReal} {b : ℝ} (hl : l = (b : EReal)) (hk : Ideal.log k = ((Real.log 2 : ℝ) : EReal)) :
    Ideal.div (-l) (Ideal.log k) = ((-b / Real.log 2 : ℝ) : EReal) := by
  rw [hl, hk, ← EReal.coe_neg, div_real _ _ log2_ne]

theorem two_bits : Ideal.ofBits .f32 0x40000000#32 = ((2 : ℝ) : EReal) := by
  simp [Ideal.ofBits, Ideal.ieee]
  rw [← EReal.coe_mul]
  norm_num

theorem log2_at : Ideal.log ((constant S_ .f32 0x40000000#32 : FVec Ideal S_ .f32) ix0) = ((Real.log 2 : ℝ) : EReal) := by
  rw [show (constant S_ .f32 0x40000000#32 : FVec Ideal S_ .f32) ix0 = Ideal.ofBits .f32 0x40000000#32 from rfl, two_bits, log_real _ (by norm_num)]

theorem zero_at : (constant S_ .f32 0x00000000#32 : FVec Ideal S_ .f32) (Shape.Idx.first Facts₀.h_S_) = 0 := FoxRef.zero_bits

section Reals

variable (z : ZIdx → ℝ) (lc : CIdx → ℝ) (g : GIdx → ℝ)

/-- The arguments are these real arrays. -/
structure Real : Prop where
  h0 : m ((c.tc : Thread nD τ).loc main_arg0) = FoxRef.Z z
  h1 : m ((c.tc : Thread nD τ).loc main_arg1) = FoxRef.C lc
  h2 : m ((c.tc : Thread nD τ).loc main_arg2) = FoxRef.G g

variable {m c z lc g}

variable (hr : Real m c z lc g)
include hr

theorem v68_at (I : Fin 4096) (j : Fin 3072) : V m c main_v68 (ix2 I j) = ((z (ix2 I j) : ℝ) : EReal) := by
  rw [V68, hr.h0]
  rfl

theorem v36_at (I : Fin 4096) (j : Fin 1024) : V m c main_v36 (ix2 I j) = ((O z lc (FoxRef.hd j) I (FoxRef.ft j) : ℝ) : EReal) := by
  rw [V36, hr.h0, hr.h1]
  pointwise
  exact FoxRef.o_at z lc (FoxRef.hd j) I (FoxRef.ft j)

theorem lse_at (h : Fin 16) (I : Fin 4096) : lse m c (ix2 h I) = ((Mx z lc h I + Real.log (L z lc h I) : ℝ) : EReal) := by
  have hs : ∀ J : Fin 4096, Ideal.exp (Sm z lc h I J - ((Mx z lc h I : ℝ) : EReal)) = ((E z lc h I J : ℝ) : EReal) := by
    intro J
    unfold Sm E ex
    split
    · rw [← EReal.coe_sub]; rfl
    · rfl
  unfold lse
  rw [hr.h0, hr.h1]
  refine (lse_form _ _ _ h I).trans ?_
  refine (lse_real (FoxRef.max_at z lc h I) (FoxRef.sm_at z lc h I) zero_at hs).trans ?_
  rw [show ∑ J, E z lc h I J = L z lc h I from rfl, log_real _ (L_pos z lc h I), ← EReal.coe_add]

theorem v67_at (t : Fin 8) (h : Fin 2) (I : Fin 4096) : V m c main_v67 (ix4 t h I 0)
    = (((Mx z lc ⟨t * 2 + h, by omega⟩ I + Real.log (L z lc ⟨t * 2 + h, by omega⟩ I) - lc (ix2 I ⟨t * 2 + h, by omega⟩)) / Real.log 2 : ℝ) : EReal) := by
  rw [V67, hr.h1]
  exact (shift_form _ _ _ t h I).trans (shift_real (lse_at hr _ _) rfl log2_at)

theorem v73_at (t : Fin 8) (h : Fin 2) (j : Fin 8) (p : Fin 512) : V m c main_v73 (ix5 t h j 0 p)
    = ((-lc (ix2 (row j p) ⟨t * 2 + h, by omega⟩) / Real.log 2 : ℝ) : EReal) := by
  rw [V73, hr.h1]
  exact (bias_form _ _ t h j p).trans (bias_real rfl log2_at)

end Reals

end Cert.FoxHost
-- ==== Proof.FoxPay.lean ====
/-
  The vector values of the forget-gate attention's backward kernel, entry by entry, over the extended reals.
-/
module

public import proofs.«01_k».proof.Proof.FoxClosed
public import proofs.«01_k».proof.Proof.Blocks
public import Idealize.ShloMosaic.Lib.Pointwise
public import Idealize.ShloMosaic.Lib.Tactic

@[expose] public section

set_option maxRecDepth 16384

noncomputable section

namespace Cert.FoxPay

open Cert.FoxIdeal Cert.FoxIdeal.Gen Cert.FoxRun Cert.Blocks
open Idealize.ShloMosaic Idealize.ShloMosaic.TcCoe Idealize.ShloMosaic.Tactic

/-- The scale of the scores, over the logarithm of two. -/
def sc : EReal := Named.named (F := Ideal) κ (φ := .f32) "score_scale" 0x3E38AA3B#32

/-- Column `e` of a pair of heads belongs to head `h`. -/
def half (h : Fin 2) (e : Fin 128) : Prop := e.val / 64 = h.val
instance (h : Fin 2) (e : Fin 128) : Decidable (half h e) := Nat.decEq _ _

theorem lt64 (e : Fin 128) : (IntOp.cmpi CmpIPredicate.slt (BitVec.ofNat 32 e.val) 64#32) = BitVec.ofBool (decide (half 0 e)) := by
  revert e; decide +kernel
theorem ge64 (e : Fin 128) : (IntOp.cmpi CmpIPredicate.sge (BitVec.ofNat 32 e.val) 64#32) = BitVec.ofBool (decide (half 1 e)) := by
  revert e; decide +kernel

theorem slt_half (e : Fin 128) (a b : EReal) :
    Scalar.select (IntOp.cmpi CmpIPredicate.slt (BitVec.ofNat 32 e.val) 64#32) a b = if half 0 e then a else b := by
  rw [lt64, Scalar.select_ofBool]; simp only [decide_eq_true_eq]
theorem sge_half (e : Fin 128) (a b : EReal) :
    Scalar.select (IntOp.cmpi CmpIPredicate.sge (BitVec.ofNat 32 e.val) 64#32) a b = if half 1 e then a else b := by
  rw [ge64, Scalar.select_ofBool]; simp only [decide_eq_true_eq]

/-- A row of the stack is one of the first head's block or one of the second's. -/
theorem stk0 (r : Fin 512) : (stk 0 r).val < 512 := by show 512 * 0 + r.val < 512; omega
theorem stk1 (r : Fin 512) : ¬ (stk 1 r).val < 512 := by show ¬ 512 * 1 + r.val < 512; omega
theorem stk0_eq (r : Fin 512) (h : (stk 0 r).val < 512) : (⟨(stk 0 r).val, h⟩ : Fin 512) = r := Fin.ext (by show 512 * 0 + r.val = r.val; omega)
theorem stk1_eq (r : Fin 512) (h : (stk 1 r).val - 512 < 512) : (⟨(stk 1 r).val - 512, h⟩ : Fin 512) = r :=
  Fin.ext (by show 512 * 1 + r.val - 512 = r.val; omega)

theorem stk0' (r : Fin 512) (h : r.val < 1024) : (⟨r.val, h⟩ : Fin 1024) = stk 0 r := Fin.ext (by show r.val = 512 * 0 + r.val; omega)
theorem stk1' (r : Fin 512) (h : 512 + r.val < 1024) : (⟨512 + r.val, h⟩ : Fin 1024) = stk 1 r :=
  Fin.ext (by show 512 + r.val = 512 * 1 + r.val; omega)

/-- An index of a row of five coordinates, four of them of one value. -/
theorem ix5_eq (c : Fin 512) : (ix5 0 0 0 0 c : S1x1x1x1x512.Idx) = ixR c := by
  funext a; match a with
  | ⟨0, _⟩ => rfl
  | ⟨1, _⟩ => rfl
  | ⟨2, _⟩ => rfl
  | ⟨3, _⟩ => rfl
  | ⟨4, _⟩ => rfl
theorem ix3_eq (e : Fin 128) (r : Fin 512) : (ix3 0 e r : S1x128x512.Idx) = ixT e r := by
  funext a; match a with
  | ⟨0, _⟩ => rfl
  | ⟨1, _⟩ => rfl
  | ⟨2, _⟩ => rfl

theorem pay27_apply (q : Vec Ideal S512x128 .bf16) (h : Fin 2) (r : Fin 512) (e : Fin 128) :
    (k0_pay27 q (ix2 (stk h r) e) : EReal) = if half h e then (q (ix2 r e) : EReal) else 0 := by
  unfold k0_pay27
  pointwise
  obtain rfl | rfl : h = 0 ∨ h = 1 := by omega
  · exact (dif_pos (stk0 r)).trans ((slt_half e _ _).trans (by rw [stk0_eq]))
  · exact (dif_neg (stk1 r)).trans ((sge_half e _ _).trans (by rw [stk1_eq]))

theorem pay28_apply (q : Vec Ideal S512x128 .f32) (h : Fin 2) (r : Fin 512) (e : Fin 128) :
    (k0_pay28 q (ix2 (stk h r) e) : EReal) = if half h e then (q (ix2 r e) : EReal) else 0 := by
  unfold k0_pay28
  pointwise
  obtain rfl | rfl : h = 0 ∨ h = 1 := by omega
  · exact (dif_pos (stk0 r)).trans ((slt_half e _ _).trans (by rw [stk0_eq]))
  · exact (dif_neg (stk1 r)).trans ((sge_half e _ _).trans (by rw [stk1_eq]))

theorem pay29_apply (q o : Vec Ideal S512x128 .f32) (h : Fin 2) (r : Fin 512) :
    (k0_pay29 q o (ix2 (stk h r) 0) : EReal) = ∑ e : Fin 128, (if half h e then (q (ix2 r e) : EReal) else 0) * o (ix2 r e) := by
  unfold k0_pay29
  pointwise
  refine Finset.sum_congr rfl fun e _ => ?_
  rw [pay28_apply]
  congr 1
  obtain rfl | rfl : h = 0 ∨ h = 1 := by omega
  · exact (dif_pos (stk0 r)).trans (by rw [stk0_eq])
  · exact (dif_neg (stk1 r)).trans (by rw [stk1_eq])

theorem pay30_apply (a b : Vec Ideal S1x1x512x1 .f32) (h : Fin 2) (r : Fin 512) :
    (k0_pay30 a b (ix2 (stk h r) 0) : EReal) = (if h = 0 then a (ix4 0 0 r 0) else b (ix4 0 0 r 0) : EReal) := by
  unfold k0_pay30
  pointwise
  obtain rfl | rfl : h = 0 ∨ h = 1 := by omega
  · exact (dif_pos (stk0 r)).trans (by rw [stk0_eq]; rfl)
  · exact (dif_neg (stk1 r)).trans (by rw [stk1_eq]; rfl)

theorem pay31_apply (q : Vec Ideal S512x128 .f32) (h : Fin 2) (r : Fin 512) (e : Fin 128) :
    (k0_pay31 q (ix2 (stk h r) e) : EReal) = if half h e then (q (ix2 r e) : EReal) else 0 := by
  unfold k0_pay31
  pointwise
  exact pay28_apply q h r e
theorem pay32_apply (q : Vec Ideal S512x128 .f32) (h : Fin 2) (r : Fin 512) (e : Fin 128) :
    (k0_pay32 q (ix2 e (stk h r)) : EReal) = if half h e then (q (ix2 r e) : EReal) else 0 := by
  unfold k0_pay32
  pointwise
  exact pay28_apply q h r e
theorem pay33_apply (q : FVec Ideal S1024x128 .bf16) (R : Fin 1024) (e : Fin 128) :
    (k0_pay33 q (ix2 e R) : EReal) = q (ix2 R e) := by
  unfold k0_pay33
  pointwise

theorem pay10_apply (qs : FVec Ideal S1024x128 .bf16) (lse : FVec Ideal S1024x1 .f32) (k : Vec Ideal S512x128 .bf16)
    (b0 b1 : Vec Ideal S1x1x1x1x512 .f32) (h : Fin 2) (r : Fin 512) (c : Fin 512) :
    (k0_pay10 qs lse k b0 b1 (ix2 (stk h r) c) : EReal) =
      Ideal.exp2 (((∑ e : Fin 128, (qs (ix2 (stk h r) e) : EReal) * k (ix2 c e)) * sc + (if h = 0 then b0 (ixR c) else b1 (ixR c) : EReal))
        - lse (ix2 (stk h r) 0)) := by
  unfold k0_pay10 k0_pay9
  pointwise
  rw [ix5_eq]
  obtain rfl | rfl : h = 0 ∨ h = 1 := by omega
  · rw [dif_pos (stk0 r)]; rfl
  · rw [dif_neg (stk1 r)]; rfl

theorem pay11_apply (qs : FVec Ideal S1024x128 .bf16) (de lse : FVec Ideal S1024x1 .f32) (dos : FVec Ideal S1024x128 .bf16) (k v : Vec Ideal S512x128 .bf16)
    (b0 b1 : Vec Ideal S1x1x1x1x512 .f32) (R : Fin 1024) (c : Fin 512) :
    (k0_pay11 qs de lse dos k v b0 b1 (ix2 R c) : EReal) =
      k0_pay10 qs lse k b0 b1 (ix2 R c) * ((∑ e : Fin 128, (dos (ix2 R e) : EReal) * v (ix2 c e)) - de (ix2 R 0)) := by
  unfold k0_pay11
  pointwise

theorem pay12_apply (qs : FVec Ideal S1024x128 .bf16) (de lse : FVec Ideal S1024x1 .f32) (dos : FVec Ideal S1024x128 .bf16) (k v : Vec Ideal S512x128 .bf16)
    (b0 b1 : Vec Ideal S1x1x1x1x512 .f32) (R : Fin 1024) (c : Fin 512) :
    (k0_pay12 qs de lse dos k v b0 b1 (ix2 R c) : EReal) = k0_pay11 qs de lse dos k v b0 b1 (ix2 R c) := by
  unfold k0_pay12
  pointwise

theorem pay14_apply (qs : FVec Ideal S1024x128 .bf16) (lse : FVec Ideal S1024x1 .f32) (dosT : FVec Ideal S128x1024 .bf16) (k : Vec Ideal S512x128 .bf16)
    (b0 b1 : Vec Ideal S1x1x1x1x512 .f32) (a : Vec Ideal S1x128x512 .f32) (e : Fin 128) (c : Fin 512) :
    (k0_pay14 (k0_pay13 qs lse dosT k b0 b1 a) (ixT e c) : EReal) =
      a (ixT e c) + ∑ R : Fin 1024, (dosT (ix2 e R) : EReal) * k0_pay10 qs lse k b0 b1 (ix2 R c) := by
  unfold k0_pay14 k0_pay13
  pointwise
  rfl

theorem pay15_apply (qT : FVec Ideal S128x1024 .bf16) (ds : FVec Ideal S1024x512 .bf16) (a : Vec Ideal S1x128x512 .f32) (e : Fin 128) (c : Fin 512) :
    (k0_pay15 qT ds a (ixT e c) : EReal) = a (ixT e c) + ∑ R : Fin 1024, (qT (ix2 e R) : EReal) * ds (ix2 R c) := by
  unfold k0_pay15
  pointwise
  rfl

theorem pay16_apply (ds : FVec Ideal S1024x512 .f32) (b : Vec Ideal S1x1x1x1x512 .f32) (c : Fin 512) :
    (k0_pay16 ds b (ixR c) : EReal) = b (ixR c) + ∑ r : Fin 512, (ds (ix2 (stk 0 r) c) : EReal) := by
  unfold k0_pay16
  pointwise
  congr 1

theorem pay17_apply (ds : FVec Ideal S1024x512 .f32) (b : Vec Ideal S1x1x1x1x512 .f32) (c : Fin 512) :
    (k0_pay17 ds b (ixR c) : EReal) = b (ixR c) + ∑ r : Fin 512, (ds (ix2 (stk 1 r) c) : EReal) := by
  unfold k0_pay17
  pointwise
  congr 1

theorem pay36_apply (a : FVec Ideal S1024x1 .f32) (ds : FVec Ideal S1024x512 .f32) (R : Fin 1024) :
    (k0_pay36 a ds (ix2 R 0) : EReal) = a (ix2 R 0) + ∑ c : Fin 512, (ds (ix2 R c) : EReal) := by
  unfold k0_pay36
  pointwise

theorem pay37_apply (a : FVec Ideal S1024x128 .f32) (k : FVec Ideal S512x128 .bf16) (ds : FVec Ideal S1024x512 .bf16) (R : Fin 1024) (e : Fin 128) :
    (k0_pay37 a k ds (ix2 R e) : EReal) = a (ix2 R e) + ∑ c : Fin 512, (ds (ix2 R c) : EReal) * k (ix2 c e) := by
  unfold k0_pay37
  pointwise

theorem pay9_apply (k : Vec Ideal S512x128 .bf16) (c : Fin 512) (e : Fin 128) : (k0_pay9 k (ix2 c e) : EReal) = k (ix2 c e) := by
  unfold k0_pay9
  pointwise

theorem pay40_apply (k : Vec Ideal S512x128 .bf16) (c : Fin 512) (e : Fin 128) : (k0_pay40 k (ix2 c e) : EReal) = k (ix2 c e) := by
  unfold k0_pay40
  pointwise

theorem pay41_apply (k : Vec Ideal S512x128 .bf16) (c : Fin 512) (e : Fin 128) : (k0_pay41 k (ix2 c e) : EReal) = k (ix2 c e) := by
  unfold k0_pay41
  pointwise

theorem sle_select (c r : Fin 512) (a b : EReal) :
    Scalar.select (IntOp.cmpi CmpIPredicate.sle (BitVec.ofNat 32 c.val) (BitVec.ofNat 32 r.val)) a b = if c.val ≤ r.val then a else b := by
  rw [WordCmp.cmpi_sle_ofNat (by have := c.isLt; omega) (by have := r.isLt; omega), Scalar.select_ofBool]
  simp only [decide_eq_true_eq]

theorem pay42_apply (qs : FVec Ideal S1024x128 .bf16) (lse : FVec Ideal S1024x1 .f32) (k : Vec Ideal S512x128 .bf16)
    (b0 b1 : Vec Ideal S1x1x1x1x512 .f32) (h : Fin 2) (r : Fin 512) (c : Fin 512) :
    (k0_pay42 k0_pay4 qs lse k b0 b1 (ix2 (stk h r) c) : EReal) =
      Ideal.exp2 ((if c.val ≤ r.val then
          (∑ e : Fin 128, (qs (ix2 (stk h r) e) : EReal) * k (ix2 c e)) * sc + (if h = 0 then b0 (ixR c) else b1 (ixR c) : EReal)
          else Ideal.ofBits FTy.f32 4286578688#32)
        - lse (ix2 (stk h r) 0)) := by
  unfold k0_pay42 k0_pay4 k0_pay40
  pointwise
  rw [ix5_eq]
  obtain rfl | rfl : h = 0 ∨ h = 1 := by omega
  · rw [dif_pos (stk0 r), dif_pos (stk0 r)]
    have h1 := congrArg Fin.val (stk0_eq r (stk0 r))
    dsimp only at h1
    erw [h1, sle_select]
    rfl
  · rw [dif_neg (stk1 r), dif_neg (stk1 r)]
    have h1 := congrArg Fin.val (stk1_eq r (by have := (stk 1 r).isLt; omega))
    dsimp only at h1
    erw [h1, sle_select]
    rfl

theorem pay43_apply (de : FVec Ideal S1024x1 .f32) (dos : FVec Ideal S1024x128 .bf16) (v : FVec Ideal S512x128 .bf16) (p : FVec Ideal S1024x512 .f32)
    (R : Fin 1024) (c : Fin 512) :
    (k0_pay43 de dos v p (ix2 R c) : EReal) = p (ix2 R c) * ((∑ e : Fin 128, (dos (ix2 R e) : EReal) * v (ix2 c e)) - de (ix2 R 0)) := by
  unfold k0_pay43
  pointwise

theorem pay44_apply (de : FVec Ideal S1024x1 .f32) (dos : FVec Ideal S1024x128 .bf16) (v : FVec Ideal S512x128 .bf16) (p : FVec Ideal S1024x512 .f32)
    (R : Fin 1024) (c : Fin 512) : (k0_pay44 de dos v p (ix2 R c) : EReal) = k0_pay43 de dos v p (ix2 R c) := by
  unfold k0_pay44
  pointwise

theorem pay45_apply (dosT : FVec Ideal S128x1024 .bf16) (p : FVec Ideal S1024x512 .f32) (a : Vec Ideal S1x128x512 .f32) (e : Fin 128) (c : Fin 512) :
    (k0_pay45 dosT p a (ixT e c) : EReal) = a (ixT e c) + ∑ R : Fin 1024, (dosT (ix2 e R) : EReal) * p (ix2 R c) := by
  unfold k0_pay45
  pointwise
  rfl

theorem pay46_apply (de : FVec Ideal S1024x1 .f32) (dos : FVec Ideal S1024x128 .bf16) (qT : FVec Ideal S128x1024 .bf16) (v : FVec Ideal S512x128 .bf16)
    (p : FVec Ideal S1024x512 .f32) (a : Vec Ideal S1x128x512 .f32) (e : Fin 128) (c : Fin 512) :
    (k0_pay46 de dos qT v p a (ixT e c) : EReal) =
      a (ixT e c) + ∑ R : Fin 1024, (qT (ix2 e R) : EReal) * k0_pay43 de dos v p (ix2 R c) := by
  unfold k0_pay46
  pointwise
  refine congrArg₂ (· + ·) rfl (Finset.sum_congr rfl fun R _ => congrArg₂ (· * ·) rfl ?_)
  exact pay44_apply de dos v p R c

theorem pay47_apply (de : FVec Ideal S1024x1 .f32) (dos : FVec Ideal S1024x128 .bf16) (v : FVec Ideal S512x128 .bf16) (p : FVec Ideal S1024x512 .f32)
    (b : Vec Ideal S1x1x1x1x512 .f32) (c : Fin 512) :
    (k0_pay47 de dos v p b (ixR c) : EReal) = b (ixR c) + ∑ r : Fin 512, (k0_pay43 de dos v p (ix2 (stk 0 r) c) : EReal) := by
  unfold k0_pay47
  pointwise
  congr 1

theorem pay48_apply (ds : FVec Ideal S1024x512 .f32) (b : Vec Ideal S1x1x1x1x512 .f32) (c : Fin 512) :
    (k0_pay48 ds b (ixR c) : EReal) = b (ixR c) + ∑ r : Fin 512, (ds (ix2 (stk 1 r) c) : EReal) := by
  unfold k0_pay48
  pointwise
  congr 1

theorem pay49_apply (a : FVec Ideal S1024x128 .f32) (k : FVec Ideal S512x128 .bf16) (ds : FVec Ideal S1024x512 .bf16) (r : Fin 512) (e : Fin 128) (h : Fin 2)
    (hh : half h e) :
    (k0_pay49 k0_pay5 a k ds (ixB r e) : EReal)
      = (a (ix2 (stk h r) e) + ∑ c : Fin 512, (ds (ix2 (stk h r) c) : EReal) * k (ix2 c e)) * Ideal.ofBits .f32 0x3E000000#32 := by
  unfold k0_pay49 k0_pay5
  pointwise
  refine (slt_half e _ _).trans ?_
  obtain rfl | rfl : h = 0 ∨ h = 1 := by omega
  · rw [if_pos hh]
    exact congrArg (fun R : Fin 1024 => (((a (ix2 R e) : EReal) + ∑ c : Fin 512, (ds (ix2 R c) : EReal) * k (ix2 c e)) * Ideal.ofBits .f32 0x3E000000#32)) (stk0' r _)
  · have h1 : e.val / 64 = 1 := hh
    refine (if_neg (show ¬ half 0 e from fun h => by have h0 : e.val / 64 = 0 := h; omega)).trans ?_
    exact congrArg (fun R : Fin 1024 => (((a (ix2 R e) : EReal) + ∑ c : Fin 512, (ds (ix2 R c) : EReal) * k (ix2 c e)) * Ideal.ofBits .f32 0x3E000000#32)) (stk1' r _)

theorem pay51_apply (a : FVec Ideal S1024x1 .f32) (ds : FVec Ideal S1024x512 .f32) (t : Fin 512) :
    (k0_pay51 a ds (ixR t) : EReal) = a (ix2 (stk 0 t) 0) + ∑ c : Fin 512, (ds (ix2 (stk 0 t) c) : EReal) := by
  unfold k0_pay51 k0_pay50
  pointwise
  exact congrArg (fun R : Fin 1024 => ((a (ix2 R 0) : EReal) + ∑ c : Fin 512, (ds (ix2 R c) : EReal))) (stk0' t _)

theorem pay52_apply (a : FVec Ideal S1024x1 .f32) (ds : FVec Ideal S1024x512 .f32) (t : Fin 512) :
    (k0_pay6 (k0_pay52 a ds) (ixR t) : EReal) = a (ix2 (stk 1 t) 0) + ∑ c : Fin 512, (ds (ix2 (stk 1 t) c) : EReal) := by
  unfold k0_pay6 k0_pay52 k0_pay50
  pointwise
  exact congrArg (fun R : Fin 1024 => ((a (ix2 R 0) : EReal) + ∑ c : Fin 512, (ds (ix2 R c) : EReal))) (stk1' t _)

theorem pay7_apply (a : Vec Ideal S1x128x512 .f32) (r : Fin 512) (e : Fin 128) :
    (k0_pay7 a (ixB r e) : EReal) = a (ixT e r) * Ideal.ofBits .f32 0x3E000000#32 := by
  unfold k0_pay7
  pointwise
  exact congrArg (fun y : S1x128x512.Idx => (a y : EReal) * Ideal.ofBits .f32 0x3E000000#32) (ix3_eq e r)
theorem pay8_apply (a : Vec Ideal S1x128x512 .f32) (r : Fin 512) (e : Fin 128) :
    (k0_pay8 a (ixB r e) : EReal) = a (ixT e r) := by
  unfold k0_pay8
  pointwise
  exact congrArg (fun y : S1x128x512.Idx => (a y : EReal)) (ix3_eq e r)
end Cert.FoxPay
-- ==== Proof.FoxKernel.lean ====
/-
  The forget-gate attention's backward kernel, over the extended reals: each block of the gradients and of the row and column sums is a
  sum over all positions of the masked probabilities `P` and of the gradient `D` of the scores.
-/
module

public import proofs.«01_k».proof.Proof.FoxPay

@[expose] public section

set_option maxRecDepth 16384

noncomputable section

namespace Cert.FoxPay

open Cert.FoxIdeal Cert.FoxIdeal.Gen Cert.FoxRun Cert.Blocks
open Idealize.ShloMosaic Idealize.ShloMosaic.TcCoe Idealize.ShloMosaic.Tactic
open Idealize.ShloMosaic.VecWindow (window put)

variable (x : Ins Ideal)

/-- The queries and `do`, with the other head's columns set to zero. -/
def qh (h : Fin 2) (I : Fin 4096) (e : Fin 128) : EReal := if half h e then x.q (ix2 I e) else 0
def doh (h : Fin 2) (I : Fin 4096) (e : Fin 128) : EReal := if half h e then x.dO (ix2 I e) else 0
/-- The row sums of `do · o`. -/
def delta (h : Fin 2) (I : Fin 4096) : EReal := ∑ e : Fin 128, doh x h I e * x.o (ix2 I e)
/-- The masked probabilities. -/
def P (h : Fin 2) (I J : Fin 4096) : EReal :=
  if J.val ≤ I.val then
    Ideal.exp2 (((∑ e : Fin 128, qh x h I e * x.k (ix2 J e)) * sc + x.bias (ixD h (blk J) (pos J))) - x.lse (ix4 0 h I 0))
  else 0
/-- The gradient of the scores. -/
def D (h : Fin 2) (I J : Fin 4096) : EReal := P x h I J * ((∑ e : Fin 128, doh x h I e * x.v (ix2 J e)) - delta x h I)

theorem P_pos (h : Fin 2) (I J : Fin 4096) (hm : J.val ≤ I.val) : P x h I J =
    Ideal.exp2 (((∑ e : Fin 128, qh x h I e * x.k (ix2 J e)) * sc + x.bias (ixD h (blk J) (pos J))) - x.lse (ix4 0 h I 0)) := if_pos hm
theorem P_neg (h : Fin 2) (I J : Fin 4096) (hm : ¬ J.val ≤ I.val) : P x h I J = 0 := if_neg hm

theorem D_masked (h : Fin 2) (I J : Fin 4096) (hm : ¬ J.val ≤ I.val) : D x h I J = 0 := by
  unfold D P; rw [if_neg hm, zero_mul]

/-- Loop counters as block numbers. -/
def Ib (i : Fin k0_t1_loop.trips) : Fin 8 := i.cast trips1
theorem trips2 : ∀ i : Fin k0_t1_loop.trips, (k0_t2_loop i).trips = i.val := by decide +kernel
theorem trip_lt (i : Fin k0_t1_loop.trips) (j : Fin (k0_t2_loop i).trips) : j.val < i.val := by
  have h := trips2 i; have := j.isLt; omega
theorem i_lt (i : Fin k0_t1_loop.trips) : i.val < 8 := by have h := trips1; have := i.isLt; omega
def Jb (i : Fin k0_t1_loop.trips) (j : Fin (k0_t2_loop i).trips) : Fin 8 := ⟨j.val, by have := trip_lt i j; have := i_lt i; omega⟩

theorem off1_eq : ∀ i : Fin k0_t1_loop.trips, k0_off1 i = ![512 * i.val, 0] := by decide +kernel
theorem off2_eq : ∀ i : Fin k0_t1_loop.trips, k0_off2 i = ![0, 0, 512 * i.val, 0] := by decide +kernel
theorem off3_eq : ∀ i : Fin k0_t1_loop.trips, k0_off3 i = ![0, 1, 512 * i.val, 0] := by decide +kernel
theorem off4_eq : ∀ (i : Fin k0_t1_loop.trips) (j : Fin (k0_t2_loop i).trips), k0_off4 i j = ![512 * j.val, 0] := by decide +kernel
theorem off7_eq : ∀ (i : Fin k0_t1_loop.trips) (j : Fin (k0_t2_loop i).trips), k0_off7 i j = ![j.val, 0, 0] := by decide +kernel

/-- Windows of the arrays, entry by entry. -/
theorem window_row {e : EltTy} (X : Vec Ideal S4096x128 e) (off : Fin 2 → ℕ) (inb : ∀ a, off a + S512x128.size a ≤ S4096x128.size a) (j : Fin 8)
    (hoff : off = ![512 * j.val, 0]) (r : Fin 512) (c : Fin 128) :
    window (s := S4096x128) X off S512x128.size inb (ix2 r c : S512x128.Idx) = X (ix2 (row j r) c) := by
  subst hoff
  refine congrArg X (funext fun a => Fin.ext ?_)
  match a with
  | ⟨0, _⟩ => show 512 * j.val + 1 * r.val = 512 * j.val + r.val; omega
  | ⟨1, _⟩ => show 0 + 1 * c.val = c.val; omega

theorem window_lse (X : Vec Ideal S1x2x4096x1 .f32) (off : Fin 4 → ℕ) (inb : ∀ a, off a + S1x1x512x1.size a ≤ S1x2x4096x1.size a) (h : Fin 2) (i : Fin 8)
    (hoff : off = ![0, h.val, 512 * i.val, 0]) (r : Fin 512) :
    window (s := S1x2x4096x1) X off S1x1x512x1.size inb (ix4 0 0 r 0 : S1x1x512x1.Idx) = X (ix4 0 h (row i r) 0) := by
  subst hoff
  refine congrArg X (funext fun a => Fin.ext ?_)
  match a with
  | ⟨0, _⟩ => rfl
  | ⟨1, _⟩ => show h.val + 1 * 0 = h.val; omega
  | ⟨2, _⟩ => show 512 * i.val + 1 * r.val = 512 * i.val + r.val; omega
  | ⟨3, _⟩ => rfl

theorem window_sums (X : Vec Ideal S1x2x8x1x512 .f32) (off : Fin 5 → ℕ) (inb : ∀ a, off a + S1x1x1x1x512.size a ≤ S1x2x8x1x512.size a) (h : Fin 2) (j : Fin 8)
    (hoff : off = ![0, h.val, j.val, 0, 0]) (t : Fin 512) :
    window (s := S1x2x8x1x512) X off S1x1x1x1x512.size inb (ixR t) = X (ixD h j t) := by
  subst hoff
  refine congrArg X (funext fun a => Fin.ext ?_)
  match a with
  | ⟨0, _⟩ => rfl
  | ⟨1, _⟩ => show h.val + 1 * 0 = h.val; omega
  | ⟨2, _⟩ => show j.val + 1 * 0 = j.val; omega
  | ⟨3, _⟩ => rfl
  | ⟨4, _⟩ => show 0 + 1 * t.val = t.val; omega

theorem window_acc (X : Vec Ideal S8x128x512 .f32) (off : Fin 3 → ℕ) (inb : ∀ a, off a + S1x128x512.size a ≤ S8x128x512.size a) (j : Fin 8)
    (hoff : off = ![j.val, 0, 0]) (e : Fin 128) (t : Fin 512) :
    window (s := S8x128x512) X off S1x128x512.size inb (ixT e t) = X (ixK j e t) := by
  subst hoff
  refine congrArg X (funext fun a => Fin.ext ?_)
  match a with
  | ⟨0, _⟩ => show j.val + 1 * 0 = j.val; omega
  | ⟨1, _⟩ => show 0 + 1 * e.val = e.val; omega
  | ⟨2, _⟩ => show 0 + 1 * t.val = t.val; omega

/-- What a store into an accumulator's block leaves, entry by entry. -/
theorem put_acc (X : Vec Ideal S8x128x512 .f32) (off : Fin 3 → ℕ) (j : Fin 8) (hoff : off = ![j.val, 0, 0]) (w : Vec Ideal S1x128x512 .f32)
    (j' : Fin 8) (e : Fin 128) (t : Fin 512) :
    put (s := S8x128x512) X off S1x128x512.size w (ixK j' e t) = if j' = j then w (ixT e t) else X (ixK j' e t) := by
  subst hoff
  by_cases h : j' = j
  · subst h
    rw [if_pos rfl]
    refine put_at (s := S8x128x512) _ _ S1x128x512.size _ _ (ixT e t) fun a => ?_
    match a with
    | ⟨0, _⟩ => rfl
    | ⟨1, _⟩ => exact (Nat.zero_add _).symm
    | ⟨2, _⟩ => exact (Nat.zero_add _).symm
  · rw [if_neg h]
    refine put_off (s := S8x128x512) _ _ S1x128x512.size _ _ (0 : Fin 3) ?_
    have h' : j'.val ≠ j.val := fun h' => h (Fin.ext h')
    show j'.val < j.val ∨ j.val + 1 ≤ j'.val
    omega

theorem put_sums (X : Vec Ideal S1x2x8x1x512 .f32) (off : Fin 5 → ℕ) (h : Fin 2) (j : Fin 8) (hoff : off = ![0, h.val, j.val, 0, 0])
    (w : Vec Ideal S1x1x1x1x512 .f32) (h' : Fin 2) (j' : Fin 8) (t : Fin 512) :
    put (s := S1x2x8x1x512) X off S1x1x1x1x512.size w (ixD h' j' t) = if h' = h ∧ j' = j then w (ixR t) else X (ixD h' j' t) := by
  subst hoff
  by_cases hh : h' = h ∧ j' = j
  · obtain ⟨rfl, rfl⟩ := hh
    rw [if_pos ⟨rfl, rfl⟩]
    refine put_at (s := S1x2x8x1x512) _ _ S1x1x1x1x512.size _ _ (ixR t) fun a => ?_
    match a with
    | ⟨0, _⟩ => rfl
    | ⟨1, _⟩ => rfl
    | ⟨2, _⟩ => rfl
    | ⟨3, _⟩ => rfl
    | ⟨4, _⟩ => exact (Nat.zero_add _).symm
  · rw [if_neg hh]
    by_cases h1 : h' = h
    · refine put_off (s := S1x2x8x1x512) _ _ S1x1x1x1x512.size _ _ (2 : Fin 5) ?_
      have h' : j'.val ≠ j.val := fun h' => hh ⟨h1, Fin.ext h'⟩
      show j'.val < j.val ∨ j.val + 1 ≤ j'.val
      omega
    · refine put_off (s := S1x2x8x1x512) _ _ S1x1x1x1x512.size _ _ (1 : Fin 5) ?_
      have h2 : h'.val ≠ h.val := fun h2 => h1 (Fin.ext h2)
      show h'.val < h.val ∨ h.val + 1 ≤ h'.val
      omega

section Row

variable (i : Fin k0_t1_loop.trips) (h : Fin 2) (r : Fin 512)

theorem qs_apply (e : Fin 128) : ((rowVals x i).qs (ix2 (stk h r) e) : EReal) = qh x h (row (Ib i) r) e := by
  refine (pay27_apply _ h r e).trans ?_
  rw [window_row x.q _ _ (Ib i) (off1_eq i)]; rfl
theorem dos_apply (e : Fin 128) : ((rowVals x i).dos (ix2 (stk h r) e) : EReal) = doh x h (row (Ib i) r) e := by
  refine (pay31_apply _ h r e).trans ?_
  rw [window_row x.dO _ _ (Ib i) (off1_eq i)]; rfl
theorem dosT_apply (e : Fin 128) : ((rowVals x i).dosT (ix2 e (stk h r)) : EReal) = doh x h (row (Ib i) r) e := by
  refine (pay32_apply _ h r e).trans ?_
  rw [window_row x.dO _ _ (Ib i) (off1_eq i)]; rfl
theorem qsT_apply (e : Fin 128) : (k0_pay33 (rowVals x i).qs (ix2 e (stk h r)) : EReal) = qh x h (row (Ib i) r) e :=
  (pay33_apply _ _ _).trans (qs_apply x i h r e)
theorem delta_apply : ((rowVals x i).delta (ix2 (stk h r) 0) : EReal) = delta x h (row (Ib i) r) := by
  refine (pay29_apply _ _ h r).trans (Finset.sum_congr rfl fun e _ => ?_)
  rw [window_row x.dO _ _ (Ib i) (off1_eq i), window_row x.o _ _ (Ib i) (off1_eq i)]; rfl
theorem lse_apply : ((rowVals x i).lse (ix2 (stk h r) 0) : EReal) = x.lse (ix4 0 h (row (Ib i) r) 0) := by
  refine (pay30_apply _ _ h r).trans ?_
  rw [window_lse x.lse _ _ 0 (Ib i) (off2_eq i), window_lse x.lse _ _ 1 (Ib i) (off3_eq i)]
  obtain rfl | rfl : h = 0 ∨ h = 1 := by omega
  · rfl
  · rfl

theorem bias_pick (j : Fin 8) (c : Fin 512) :
    (if h = 0 then x.bias (ixD 0 j c) else x.bias (ixD 1 j c) : EReal) = x.bias (ixD h (blk (row j c)) (pos (row j c))) := by
  rw [blk_row, pos_row]
  obtain rfl | rfl : h = 0 ∨ h = 1 := by omega
  · rfl
  · rfl

/-- A block below the diagonal: its probabilities. -/
theorem p_apply (j : Fin (k0_t2_loop i).trips) (c : Fin 512) :
    (k0_pay10 (rowVals x i).qs (rowVals x i).lse (window x.k (k0_off4 i j) S512x128.size (k0_off4_inb i j))
        (window x.bias (k0_off5 i j) S1x1x1x1x512.size (k0_off5_inb i j)) (window x.bias (k0_off6 i j) S1x1x1x1x512.size (k0_off6_inb i j))
        (ix2 (stk h r) c) : EReal) = P x h (row (Ib i) r) (row (Jb i j) c) := by
  refine (pay10_apply _ _ _ _ _ h r c).trans ?_
  rw [lse_apply, window_sums x.bias _ _ 0 (Jb i j) (off5_eq i j), window_sums x.bias _ _ 1 (Jb i j) (off6_eq i j), bias_pick]
  rw [P_pos x h (row (Ib i) r) (row (Jb i j) c) (show 512 * j.val + c.val ≤ 512 * i.val + r.val by have := trip_lt i j; have := c.isLt; omega)]
  simp only [qs_apply, window_row x.k _ _ (Jb i j) (off4_eq i j)]

/-- A block below the diagonal: the gradient of its scores. -/
theorem ds_apply (j : Fin (k0_t2_loop i).trips) (c : Fin 512) :
    (dsBlock x.k x.v x.bias (rowVals x i) i j (ix2 (stk h r) c) : EReal) = D x h (row (Ib i) r) (row (Jb i j) c) := by
  unfold dsBlock
  refine (pay11_apply _ _ _ _ _ _ _ _ _ c).trans ?_
  rw [p_apply, delta_apply]
  simp only [dos_apply, window_row x.v _ _ (Jb i j) (off4_eq i j)]
  rfl
theorem dsB_apply (j : Fin (k0_t2_loop i).trips) (c : Fin 512) :
    (dsBlockB x.k x.v x.bias (rowVals x i) i j (ix2 (stk h r) c) : EReal) = D x h (row (Ib i) r) (row (Jb i j) c) :=
  (pay12_apply _ _ _ _ _ _ _ _ _ _).trans (ds_apply x i h r j c)

theorem ninf : Ideal.ofBits FTy.f32 4286578688#32 = ⊥ := by simp [Ideal.ofBits, Ideal.ieee]

/-- The diagonal block. -/
theorem diagP_apply (c : Fin 512) : (diagP x i (ix2 (stk h r) c) : EReal) = P x h (row (Ib i) r) (row (Ib i) c) := by
  unfold diagP
  refine (pay42_apply _ _ _ _ _ h r c).trans ?_
  rw [lse_apply, window_sums x.bias _ _ 0 (Ib i) (off12_eq i), window_sums x.bias _ _ 1 (Ib i) (off13_eq i), bias_pick]
  by_cases hc : c.val ≤ r.val
  · rw [if_pos hc, P_pos x h (row (Ib i) r) (row (Ib i) c) (show 512 * i.val + c.val ≤ 512 * i.val + r.val by omega)]
    simp only [qs_apply, window_row x.k _ _ (Ib i) (off1_eq i)]
  · rw [if_neg hc, P_neg x h (row (Ib i) r) (row (Ib i) c) (show ¬ 512 * i.val + c.val ≤ 512 * i.val + r.val by omega), ninf, EReal.bot_sub]
    rfl
theorem diagDs_apply' (c : Fin 512) :
    (k0_pay43 (rowVals x i).delta (rowVals x i).dos (diagV x i) (diagP x i) (ix2 (stk h r) c) : EReal) = D x h (row (Ib i) r) (row (Ib i) c) := by
  refine (pay43_apply _ _ _ _ _ c).trans ?_
  rw [diagP_apply, delta_apply]
  have hv : ∀ e, (diagV x i (ix2 c e) : EReal) = x.v (ix2 (row (Ib i) c) e) := fun e =>
    (pay41_apply _ c e).trans (window_row x.v _ _ (Ib i) (off1_eq i) c e)
  simp only [dos_apply, hv]
  rfl
theorem diagDs_apply (c : Fin 512) : (diagDs x i (ix2 (stk h r) c) : EReal) = D x h (row (Ib i) r) (row (Ib i) c) := diagDs_apply' x i h r c

end Row

/-- One block's part of each sum: the keys' and values' gradients and the column sums (over the rows of a query block), the queries'
    gradient and the row sums (over the columns of a key block). -/
def kPart (J : Fin 4096) (e : Fin 128) (i : Fin 8) : EReal := ∑ h : Fin 2, ∑ r : Fin 512, qh x h (row i r) e * D x h (row i r) J
def vPart (J : Fin 4096) (e : Fin 128) (i : Fin 8) : EReal := ∑ h : Fin 2, ∑ r : Fin 512, doh x h (row i r) e * P x h (row i r) J
def bPart (h : Fin 2) (J : Fin 4096) (i : Fin 8) : EReal := ∑ r : Fin 512, D x h (row i r) J
def qPart (h : Fin 2) (I : Fin 4096) (e : Fin 128) (j : Fin 8) : EReal := ∑ c : Fin 512, D x h I (row j c) * x.k (ix2 (row j c) e)
def rPart (h : Fin 2) (I : Fin 4096) (j : Fin 8) : EReal := ∑ c : Fin 512, D x h I (row j c)

/-- What a row block carries after `n` key blocks. -/
theorem carry_apply (i : Fin k0_t1_loop.trips) (h : Fin 2) (r : Fin 512) (n : ℕ) (hn : n ≤ (k0_t2_loop i).trips) :
    (∀ e : Fin 128, ((carryFrom x.k x.v x.bias (rowVals x i) i (k0_pay34 (F := Ideal), k0_pay35 (F := Ideal)) n).1 (ix2 (stk h r) e) : EReal)
        = pref n (qPart x h (row (Ib i) r) e))
      ∧ ((carryFrom x.k x.v x.bias (rowVals x i) i (k0_pay34 (F := Ideal), k0_pay35 (F := Ideal)) n).2 (ix2 (stk h r) 0) : EReal)
        = pref n (rPart x h (row (Ib i) r)) := by
  induction n with
  | zero =>
    refine ⟨fun e => ?_, ?_⟩
    · rw [pref_zero]; show (k0_pay34 (F := Ideal) (ix2 (stk h r) e) : EReal) = 0; unfold k0_pay34; pointwise
    · rw [pref_zero]; show (k0_pay35 (F := Ideal) (ix2 (stk h r) 0) : EReal) = 0; unfold k0_pay35; pointwise
  | succ n ih =>
    have ih := ih (Nat.le_of_lt hn)
    rw [carryFrom_succ x.k x.v x.bias (rowVals x i) i _ ⟨n, hn⟩]
    refine ⟨fun e => ?_, ?_⟩
    · refine (pay37_apply _ _ _ _ e).trans ?_
      rw [ih.1 e]
      refine Eq.trans ?_ (pref_succ (Jb i ⟨n, hn⟩) _).symm
      congr 1
      refine Finset.sum_congr rfl fun c _ => ?_
      rw [dsB_apply, pay9_apply, window_row x.k _ _ (Jb i ⟨n, hn⟩) (off4_eq i ⟨n, hn⟩)]
    · refine (pay36_apply _ _ _).trans ?_
      rw [ih.2]
      refine Eq.trans ?_ (pref_succ (Jb i ⟨n, hn⟩) _).symm
      congr 1
      exact Finset.sum_congr rfl fun c _ => ds_apply x i h r _ c

/-- The accumulators after `n` key blocks of one query block. -/
theorem inner_apply (i : Fin k0_t1_loop.trips) (s : Acc Ideal) (j' : Fin 8) (p : Acc Ideal × Carry Ideal) (hp : p.1 = s) (n : ℕ) (hn : n ≤ (k0_t2_loop i).trips) :
    (∀ (e : Fin 128) (t : Fin 512), ((innerFrom x.k x.v x.bias (rowVals x i) i p n).1.dk (ixK j' e t) : EReal)
        = s.dk (ixK j' e t) + if j'.val < n then kPart x (row j' t) e (Ib i) else 0)
      ∧ (∀ (e : Fin 128) (t : Fin 512), ((innerFrom x.k x.v x.bias (rowVals x i) i p n).1.dv (ixK j' e t) : EReal)
        = s.dv (ixK j' e t) + if j'.val < n then vPart x (row j' t) e (Ib i) else 0)
      ∧ (∀ (h : Fin 2) (t : Fin 512), ((innerFrom x.k x.v x.bias (rowVals x i) i p n).1.db (ixD h j' t) : EReal)
        = s.db (ixD h j' t) + if j'.val < n then bPart x h (row j' t) (Ib i) else 0) := by
  induction n with
  | zero =>
    refine ⟨fun e t => ?_, fun e t => ?_, fun h t => ?_⟩
    · rw [if_neg (Nat.not_lt_zero _), add_zero, ← hp]; rfl
    · rw [if_neg (Nat.not_lt_zero _), add_zero, ← hp]; rfl
    · rw [if_neg (Nat.not_lt_zero _), add_zero, ← hp]; rfl
  | succ n ih =>
    obtain ⟨ik, iv, ib⟩ := ih (Nat.le_of_lt hn)
    rw [innerFrom_succ x.k x.v x.bias (rowVals x i) i p ⟨n, hn⟩]
    have step : ∀ (a b : EReal), (if j' = Jb i ⟨n, hn⟩ then (a + if j'.val < n then b else 0) + b else a + if j'.val < n then b else 0)
        = a + if j'.val < n + 1 then b else 0 := by
      intro a b
      by_cases hj : j' = Jb i ⟨n, hn⟩
      · have hv : j'.val = n := congrArg Fin.val hj
        rw [if_pos hj, if_neg (by omega), if_pos (by omega), add_zero]
      · have hv : j'.val ≠ n := fun hv => hj (Fin.ext hv)
        rw [if_neg hj]
        by_cases hl : j'.val < n
        · rw [if_pos hl, if_pos (by omega)]
        · rw [if_neg hl, if_neg (by omega)]
    refine ⟨fun e t => ?_, fun e t => ?_, fun h t => ?_⟩
    · refine (put_acc _ _ (Jb i ⟨n, hn⟩) (off7_eq i ⟨n, hn⟩) _ j' e t).trans (Eq.trans ?_ (step _ _))
      by_cases hj : j' = Jb i ⟨n, hn⟩
      · rw [if_pos hj, if_pos hj]
        refine (pay15_apply _ _ _ e t).trans ?_
        rw [window_acc _ _ _ (Jb i ⟨n, hn⟩) (off7_eq i ⟨n, hn⟩), ← hj, ik e t]
        congr 1
        rw [sum_stk]
        refine Finset.sum_congr rfl fun h _ => Finset.sum_congr rfl fun r _ => ?_
        rw [qsT_apply, dsB_apply, ← hj]
      · rw [if_neg hj, if_neg hj]; exact ik e t
    · refine (put_acc _ _ (Jb i ⟨n, hn⟩) (off7_eq i ⟨n, hn⟩) _ j' e t).trans (Eq.trans ?_ (step _ _))
      by_cases hj : j' = Jb i ⟨n, hn⟩
      · rw [if_pos hj, if_pos hj]
        refine (pay14_apply _ _ _ _ _ _ _ e t).trans ?_
        rw [window_acc _ _ _ (Jb i ⟨n, hn⟩) (off7_eq i ⟨n, hn⟩), ← hj, iv e t]
        congr 1
        rw [sum_stk]
        refine Finset.sum_congr rfl fun h _ => Finset.sum_congr rfl fun r _ => ?_
        rw [dosT_apply, p_apply, ← hj]
      · rw [if_neg hj, if_neg hj]; exact iv e t
    · refine (put_sums _ _ 1 (Jb i ⟨n, hn⟩) (off6_eq i ⟨n, hn⟩) _ h j' t).trans ?_
      rw [put_sums _ _ 0 (Jb i ⟨n, hn⟩) (off5_eq i ⟨n, hn⟩) _ h j' t]
      refine Eq.trans ?_ (step _ _)
      by_cases hj : j' = Jb i ⟨n, hn⟩
      · rw [if_pos hj]
        obtain rfl | rfl : h = 0 ∨ h = 1 := by omega
        · rw [if_neg (fun hh => absurd hh.1 (by decide)), if_pos ⟨rfl, hj⟩]
          refine (pay16_apply _ _ t).trans ?_
          rw [window_sums _ _ _ 0 (Jb i ⟨n, hn⟩) (off5_eq i ⟨n, hn⟩), ← hj, ib 0 t]
          congr 1
          exact Finset.sum_congr rfl fun r _ => by rw [ds_apply, ← hj]
        · rw [if_pos ⟨rfl, hj⟩]
          refine (pay17_apply _ _ t).trans ?_
          rw [window_sums _ _ _ 1 (Jb i ⟨n, hn⟩) (off6_eq i ⟨n, hn⟩), ← hj, ib 1 t]
          congr 1
          exact Finset.sum_congr rfl fun r _ => by rw [ds_apply, ← hj]
      · rw [if_neg hj, if_neg (fun hh => hj hh.2), if_neg (fun hh => hj hh.2)]; exact ib h t

/-- Above the diagonal nothing is added. -/
theorem kPart_masked (j' : Fin 8) (t : Fin 512) (e : Fin 128) (i : Fin 8) (hi : i.val < j'.val) : kPart x (row j' t) e i = 0 :=
  Finset.sum_eq_zero fun h _ => Finset.sum_eq_zero fun r _ => by
    rw [D_masked x h _ _ (show ¬ 512 * j'.val + t.val ≤ 512 * i.val + r.val by have := r.isLt; omega), mul_zero]
theorem vPart_masked (j' : Fin 8) (t : Fin 512) (e : Fin 128) (i : Fin 8) (hi : i.val < j'.val) : vPart x (row j' t) e i = 0 :=
  Finset.sum_eq_zero fun h _ => Finset.sum_eq_zero fun r _ => by
    have hP : P x h (row i r) (row j' t) = 0 := if_neg (show ¬ 512 * j'.val + t.val ≤ 512 * i.val + r.val by have := r.isLt; omega)
    rw [hP, mul_zero]
theorem bPart_masked (h : Fin 2) (j' : Fin 8) (t : Fin 512) (i : Fin 8) (hi : i.val < j'.val) : bPart x h (row j' t) i = 0 :=
  Finset.sum_eq_zero fun r _ => D_masked x h _ _ (show ¬ 512 * j'.val + t.val ≤ 512 * i.val + r.val by have := r.isLt; omega)

/-- The accumulators at the start. -/
abbrev acc0 : FoxRun.Acc Ideal := ⟨k0_pay1 (F := Ideal), k0_pay2 (F := Ideal), k0_pay3 (F := Ideal)⟩

set_option maxHeartbeats 1000000 in
/-- The accumulators after `n` query blocks. -/
theorem acc_apply (j' : Fin 8) (n : ℕ) (hn : n ≤ k0_t1_loop.trips) :
    (∀ (e : Fin 128) (t : Fin 512), ((accFrom x acc0 n).dk (ixK j' e t) : EReal) = pref n (kPart x (row j' t) e))
      ∧ (∀ (e : Fin 128) (t : Fin 512), ((accFrom x acc0 n).dv (ixK j' e t) : EReal) = pref n (vPart x (row j' t) e))
      ∧ (∀ (h : Fin 2) (t : Fin 512), ((accFrom x acc0 n).db (ixD h j' t) : EReal) = pref n (bPart x h (row j' t))) := by
  induction n with
  | zero =>
    refine ⟨fun e t => ?_, fun e t => ?_, fun h t => ?_⟩
    · rw [pref_zero]; show (k0_pay2 (F := Ideal) (ixK j' e t) : EReal) = 0; unfold k0_pay2; pointwise
    · rw [pref_zero]; show (k0_pay3 (F := Ideal) (ixK j' e t) : EReal) = 0; unfold k0_pay3; pointwise
    · rw [pref_zero]; show (k0_pay1 (F := Ideal) (ixD h j' t) : EReal) = 0; unfold k0_pay1; pointwise
  | succ n ih =>
    obtain ⟨jk, jv, jb⟩ := ih (Nat.le_of_lt hn)
    rw [accFrom_succ x _ ⟨n, hn⟩]
    obtain ⟨ik, iv, ib⟩ := inner_apply x ⟨n, hn⟩ (accFrom x acc0 n) j'
      (accFrom x acc0 n, (k0_pay34 (F := Ideal), k0_pay35 (F := Ideal))) rfl _ le_rfl
    have hI : (Ib ⟨n, hn⟩).val = n := rfl
    have step : ∀ f : Fin 8 → EReal, (n < j'.val → f (Ib ⟨n, hn⟩) = 0) →
        (if j' = Ib ⟨n, hn⟩ then (pref n f + if j'.val < (k0_t2_loop ⟨n, hn⟩).trips then f (Ib ⟨n, hn⟩) else 0) + f (Ib ⟨n, hn⟩)
          else pref n f + if j'.val < (k0_t2_loop ⟨n, hn⟩).trips then f (Ib ⟨n, hn⟩) else 0) = pref (n + 1) f := by
      intro f hf
      rw [show (k0_t2_loop ⟨n, hn⟩).trips = n from trips2 ⟨n, hn⟩]
      refine Eq.trans (b := pref n f + f (Ib ⟨n, hn⟩)) ?_ (pref_succ (Ib ⟨n, hn⟩) f).symm
      by_cases hj : j' = Ib ⟨n, hn⟩
      · have hv : j'.val = n := congrArg Fin.val hj
        rw [if_pos hj, if_neg (by omega), add_zero]
      · have hv : j'.val ≠ n := fun hv => hj (Fin.ext hv)
        rw [if_neg hj]
        by_cases hl : j'.val < n
        · rw [if_pos hl]
        · rw [if_neg hl, hf (by omega)]
    refine ⟨fun e t => ?_, fun e t => ?_, fun h t => ?_⟩
    · refine (put_acc _ _ (Ib ⟨n, hn⟩) (off14_eq ⟨n, hn⟩) _ j' e t).trans (Eq.trans ?_ (step _ (kPart_masked x j' t e (Ib ⟨n, hn⟩))))
      by_cases hj : j' = Ib ⟨n, hn⟩
      · rw [if_pos hj, if_pos hj]
        refine (pay46_apply _ _ _ _ _ _ e t).trans ?_
        rw [window_acc _ _ _ (Ib ⟨n, hn⟩) (off14_eq ⟨n, hn⟩), ← hj]
        refine congrArg₂ (· + ·) ((ik e t).trans (congrArg₂ (· + ·) (jk e t) (by rw [← hj]))) ?_
        rw [sum_stk]
        refine Finset.sum_congr rfl fun h _ => Finset.sum_congr rfl fun r _ => ?_
        rw [qsT_apply, diagDs_apply', ← hj]
      · rw [if_neg hj, if_neg hj]
        exact (ik e t).trans (congrArg₂ (· + ·) (jk e t) rfl)
    · refine (put_acc _ _ (Ib ⟨n, hn⟩) (off14_eq ⟨n, hn⟩) _ j' e t).trans (Eq.trans ?_ (step _ (vPart_masked x j' t e (Ib ⟨n, hn⟩))))
      by_cases hj : j' = Ib ⟨n, hn⟩
      · rw [if_pos hj, if_pos hj]
        refine (pay45_apply _ _ _ e t).trans ?_
        rw [window_acc _ _ _ (Ib ⟨n, hn⟩) (off14_eq ⟨n, hn⟩), ← hj]
        refine congrArg₂ (· + ·) ((iv e t).trans (congrArg₂ (· + ·) (jv e t) (by rw [← hj]))) ?_
        rw [sum_stk]
        refine Finset.sum_congr rfl fun h _ => Finset.sum_congr rfl fun r _ => ?_
        rw [dosT_apply, diagP_apply, ← hj]
      · rw [if_neg hj, if_neg hj]
        exact (iv e t).trans (congrArg₂ (· + ·) (jv e t) rfl)
    · refine (put_sums _ _ 1 (Ib ⟨n, hn⟩) (off13_eq ⟨n, hn⟩) _ h j' t).trans ?_
      rw [put_sums _ _ 0 (Ib ⟨n, hn⟩) (off12_eq ⟨n, hn⟩) _ h j' t]
      refine Eq.trans ?_ (step _ (bPart_masked x h j' t (Ib ⟨n, hn⟩)))
      by_cases hj : j' = Ib ⟨n, hn⟩
      · rw [if_pos hj]
        obtain rfl | rfl : h = 0 ∨ h = 1 := by omega
        · rw [if_neg (fun hh => absurd hh.1 (by decide)), if_pos ⟨rfl, hj⟩]
          refine (pay47_apply _ _ _ _ _ t).trans ?_
          rw [window_sums _ _ _ 0 (Ib ⟨n, hn⟩) (off12_eq ⟨n, hn⟩), ← hj]
          refine congrArg₂ (· + ·) ((ib 0 t).trans (congrArg₂ (· + ·) (jb 0 t) (by rw [← hj]))) ?_
          exact Finset.sum_congr rfl fun r _ => by rw [diagDs_apply', ← hj]
        · rw [if_pos ⟨rfl, hj⟩]
          refine (pay48_apply _ _ t).trans ?_
          rw [window_sums _ _ _ 1 (Ib ⟨n, hn⟩) (off13_eq ⟨n, hn⟩), ← hj]
          refine congrArg₂ (· + ·) ((ib 1 t).trans (congrArg₂ (· + ·) (jb 1 t) (by rw [← hj]))) ?_
          exact Finset.sum_congr rfl fun r _ => by rw [diagDs_apply, ← hj]
      · rw [if_neg hj, if_neg (fun hh => hj hh.2), if_neg (fun hh => hj hh.2)]
        have hb := ib h t
        rw [jb h t] at hb
        unfold FoxRun.inner
        exact hb

/-- The head of a column. -/
def hd (e : Fin 128) : Fin 2 := ⟨e.val / 64, by omega⟩

/-- An eighth, the scale of the gradients. -/
def eighth : EReal := Ideal.ofBits .f32 0x3E000000#32

/-- The queries' gradient: for each position and column, the sum over all positions of the gradient of the scores times the keys. -/
theorem out_q (o : Vec Ideal S3x4096x128 .bf16) (d : Vec Ideal S1x2x8x1x512 .f32) (i : Fin 8) (r : Fin 512) (e : Fin 128) :
    (bodyOut x o d (ixO 0 i r e) : EReal) = (∑ J : Fin 4096, D x (hd e) (row i r) J * x.k (ix2 J e)) * eighth := by
  rw [bodyOut_q]
  refine (pay49_apply _ _ _ r e (hd e) rfl).trans ?_
  refine congrArg (· * eighth) ?_
  have hi : Ib (i.cast trips1.symm) = i := rfl
  rw [sum_rows, ← pref_eq_sum (i.val + 1) (fun j => ∑ c, D x (hd e) (row i r) (row j c) * (x.k (ix2 (row j c) e) : EReal)), pref_succ]
  · refine congrArg₂ (· + ·) ?_ ?_
    · refine ((carry_apply x (i.cast trips1.symm) (hd e) r _ le_rfl).1 e).trans ?_
      rw [trips2]; rfl
    · refine Finset.sum_congr rfl fun c _ => ?_
      rw [pay44_apply, diagDs_apply', pay40_apply, window_row x.k _ _ (Ib (i.cast trips1.symm)) (off1_eq (i.cast trips1.symm)), hi]
  · intro j hj
    refine Finset.sum_eq_zero fun c _ => ?_
    rw [D_masked x _ _ _ (show ¬ 512 * j.val + c.val ≤ 512 * i.val + r.val by have := r.isLt; omega), zero_mul]

/-- The keys' gradient. -/
theorem out_k (o : Vec Ideal S3x4096x128 .bf16) (d : Vec Ideal S1x2x8x1x512 .f32) (j : Fin 8) (r : Fin 512) (e : Fin 128) :
    (bodyOut x o d (ixO 1 j r e) : EReal) = (∑ i : Fin 8, kPart x (row j r) e i) * eighth := by
  rw [bodyOut_k]
  refine (pay7_apply _ r e).trans (congrArg (· * eighth) ?_)
  rw [window_acc _ _ _ j (off16_eq (j.cast trips4.symm))]
  exact ((acc_apply x j _ le_rfl).1 e r).trans (pref_all _ trips1.ge _)

/-- The values' gradient. -/
theorem out_v (o : Vec Ideal S3x4096x128 .bf16) (d : Vec Ideal S1x2x8x1x512 .f32) (j : Fin 8) (r : Fin 512) (e : Fin 128) :
    (bodyOut x o d (ixO 2 j r e) : EReal) = ∑ i : Fin 8, vPart x (row j r) e i := by
  rw [bodyOut_v]
  refine (pay8_apply _ r e).trans ?_
  rw [window_acc _ _ _ j (off16_eq (j.cast trips4.symm))]
  exact ((acc_apply x j _ le_rfl).2.1 e r).trans (pref_all _ trips1.ge _)

/-- The column sums. -/
theorem out_b (h : Fin 2) (j : Fin 8) (t : Fin 512) : ((accOut x).db (ixD h j t) : EReal) = ∑ I : Fin 4096, D x h I (row j t) :=
  ((acc_apply x j _ le_rfl).2.2 h t).trans ((pref_all _ trips1.ge _).trans (sum_rows fun I => D x h I (row j t)).symm)

/-- The row sums. -/
theorem out_r (o : Vec Ideal S3x4096x128 .bf16) (d : Vec Ideal S1x2x8x1x512 .f32) (h : Fin 2) (i : Fin 8) (t : Fin 512) :
    ((looped x o d).dr (ixD h i t) : EReal) = ∑ J : Fin 4096, D x h (row i t) J := by
  have key : ∀ h : Fin 2, ((carryOut x (i.cast trips1.symm)).2 (ix2 (stk h t) 0) : EReal)
      + ∑ c : Fin 512, (diagDs x (i.cast trips1.symm) (ix2 (stk h t) c) : EReal) = ∑ J : Fin 4096, D x h (row i t) J := by
    intro h
    rw [sum_rows, ← pref_eq_sum (i.val + 1) (fun j => ∑ c, D x h (row i t) (row j c)), pref_succ]
    · refine congrArg₂ (· + ·) ?_ ?_
      · refine (carry_apply x (i.cast trips1.symm) h t _ le_rfl).2.trans ?_
        rw [trips2]; rfl
      · exact Finset.sum_congr rfl fun c _ => diagDs_apply x _ h t c
    · intro j hj
      exact Finset.sum_eq_zero fun c _ => D_masked x _ _ _ (show ¬ 512 * j.val + c.val ≤ 512 * i.val + t.val by have := t.isLt; omega)
  obtain rfl | rfl : h = 0 ∨ h = 1 := by omega
  · rw [(looped_dr x o d i t).1]; exact (pay51_apply _ _ t).trans (key 0)
  · rw [(looped_dr x o d i t).2]; exact (pay52_apply _ _ t).trans (key 1)

/-- The sums of the two heads' blocks over all rows, as sums over all positions of the column's own head. -/
theorem sum_heads (f : Fin 2 → Fin 4096 → EReal) (h : Fin 2) (hf : ∀ h' I, h' ≠ h → f h' I = 0) :
    ∑ i : Fin 8, ∑ h' : Fin 2, ∑ r : Fin 512, f h' (row i r) = ∑ I : Fin 4096, f h I := by
  rw [sum_rows]
  refine Finset.sum_congr rfl fun i _ => ?_
  refine Finset.sum_eq_single h (fun h' _ hne => Finset.sum_eq_zero fun r _ => hf h' _ hne) (fun hh => absurd (Finset.mem_univ _) hh)

theorem kPart_sum (J : Fin 4096) (e : Fin 128) : ∑ i : Fin 8, kPart x J e i = ∑ I : Fin 4096, x.q (ix2 I e) * D x (hd e) I J := by
  refine (sum_heads (fun h I => qh x h I e * D x h I J) (hd e) fun h' I hne => ?_).trans
    (Finset.sum_congr rfl fun I _ => congrArg (· * D x (hd e) I J) (if_pos rfl))
  show qh x h' I e * D x h' I J = 0
  rw [show qh x h' I e = 0 from if_neg fun hh => hne (Fin.ext hh.symm), zero_mul]
theorem vPart_sum (J : Fin 4096) (e : Fin 128) : ∑ i : Fin 8, vPart x J e i = ∑ I : Fin 4096, x.dO (ix2 I e) * P x (hd e) I J := by
  refine (sum_heads (fun h I => doh x h I e * P x h I J) (hd e) fun h' I hne => ?_).trans
    (Finset.sum_congr rfl fun I _ => congrArg (· * P x (hd e) I J) (if_pos rfl))
  show doh x h' I e * P x h' I J = 0
  rw [show doh x h' I e = 0 from if_neg fun hh => hne (Fin.ext hh.symm), zero_mul]

end Cert.FoxPay
-- ==== Proof.FoxValue.lean ====
/-
  What the forget-gate attention's backward kernel leaves in its results at real arguments: the gradients that `FoxReal` names.
-/
module

public import proofs.«01_k».proof.Proof.FoxHost
public import proofs.«01_k».proof.Proof.FoxKernel

@[expose] public section

set_option maxRecDepth 16384

noncomputable section

namespace Cert.FoxValue

open Cert.FoxIdeal Cert.FoxIdeal.Gen Cert.FoxRun
open Idealize.ShloMosaic Idealize.ShloMosaic.TcCoe Idealize.ShloMosaic.Tactic
open Cert.AttnMath Cert.FoxReal Cert.Blocks Cert.FoxHost
open Idealize.ShloMosaic.Pipeline (Dat)

/-- A sum over the columns of two heads of which one head's count. -/
theorem sum_half (h : Fin 2) (a b : Fin 128 → EReal) :
    ∑ e : Fin 128, (if FoxPay.half h e then a e else 0) * b e = ∑ d : Fin 64, a ⟨h * 64 + d, by omega⟩ * b ⟨h * 64 + d, by omega⟩ := by
  have split : ∀ f : Fin 128 → EReal, ∑ e, f e = ∑ p : Fin 2 × Fin 64, f ⟨p.1 * 64 + p.2, by have := p.1.isLt; have := p.2.isLt; omega⟩ := by
    intro f
    refine (Equiv.sum_comp (finProdFinEquiv (m := 2) (n := 64)) f).symm.trans (Finset.sum_congr rfl fun p _ => congrArg f (Fin.ext ?_))
    show p.2.val + 64 * p.1.val = p.1.val * 64 + p.2.val
    omega
  rw [split, Fintype.sum_prod_type, Finset.sum_eq_single h]
  · refine Finset.sum_congr rfl fun d _ => ?_
    refine congrArg (· * _) (if_pos ?_)
    show (h.val * 64 + d.val) / 64 = h.val
    omega
  · intro h' _ hne
    refine Finset.sum_eq_zero fun d _ => ?_
    refine (congrArg (· * _) (if_neg ?_)).trans (zero_mul _)
    show ¬ (h'.val * 64 + d.val) / 64 = h.val
    exact fun hh => hne (Fin.ext (by omega))
  · exact fun hh => absurd (Finset.mem_univ _) hh

theorem scale : FoxPay.sc = ((8⁻¹ * (Real.log 2)⁻¹ : ℝ) : EReal) :=
  IdealRules.named_const.ideal_named_scalar _ _ _ _ rfl

variable {m : (ℓ : Loc nD τ sig) → Buf (Elt Ideal) ℓ} {c : Dev nD} {z : ZIdx → ℝ} {lc : CIdx → ℝ} {g : GIdx → ℝ}
variable (hr : FoxHost.Real m c z lc g)

/-- Head `h` of grid point `t`. -/
def hdOf (t : Fin cfg0.N) (h : Fin 2) : Fin 16 := ⟨t.val * 2 + h.val, by have := t.isLt; have := points; omega⟩

section
include hr

theorem q_at (t : Fin cfg0.N) (I : Fin 4096) (h : Fin 2) (d : Fin 64) :
    (insAt m c t).q (ix2 I ⟨h * 64 + d, by omega⟩) = ((qf z (hdOf t h) I d : ℝ) : EReal) := by
  refine (blk0 m c t I _).trans ((v68_at hr I _).trans ?_)
  unfold qf hdOf
  refine congrArg (fun j => ((z (ix2 I j) : ℝ) : EReal)) (Fin.ext ?_)
  show t.val * 128 + (h.val * 64 + d.val) = (t.val * 2 + h.val) * 64 + d.val
  omega

theorem k_at (t : Fin cfg0.N) (I : Fin 4096) (h : Fin 2) (d : Fin 64) :
    (insAt m c t).k (ix2 I ⟨h * 64 + d, by omega⟩) = ((kf z (hdOf t h) I d : ℝ) : EReal) := by
  refine (blk1 m c t I _).trans ((v68_at hr I _).trans ?_)
  unfold kf hdOf
  refine congrArg (fun j => ((z (ix2 I j) : ℝ) : EReal)) (Fin.ext ?_)
  show 1024 + (t.val * 128 + (h.val * 64 + d.val)) = 1024 + ((t.val * 2 + h.val) * 64 + d.val)
  omega

theorem v_at (t : Fin cfg0.N) (I : Fin 4096) (h : Fin 2) (d : Fin 64) :
    (insAt m c t).v (ix2 I ⟨h * 64 + d, by omega⟩) = ((vf z (hdOf t h) I d : ℝ) : EReal) := by
  refine (blk2 m c t I _).trans ((v68_at hr I _).trans ?_)
  unfold vf hdOf
  refine congrArg (fun j => ((z (ix2 I j) : ℝ) : EReal)) (Fin.ext ?_)
  show 2048 + (t.val * 128 + (h.val * 64 + d.val)) = 2048 + ((t.val * 2 + h.val) * 64 + d.val)
  omega

theorem g_at (t : Fin cfg0.N) (I : Fin 4096) (h : Fin 2) (d : Fin 64) :
    (insAt m c t).dO (ix2 I ⟨h * 64 + d, by omega⟩) = ((gf g (hdOf t h) I d : ℝ) : EReal) := by
  refine (blk3 m c t I _).trans ?_
  rw [hr.h2]
  unfold gf hdOf
  refine congrArg (fun j => ((g (ix2 I j) : ℝ) : EReal)) (Fin.ext ?_)
  show t.val * 128 + (h.val * 64 + d.val) = (t.val * 2 + h.val) * 64 + d.val
  omega

theorem o_at (t : Fin cfg0.N) (I : Fin 4096) (h : Fin 2) (d : Fin 64) :
    (insAt m c t).o (ix2 I ⟨h * 64 + d, by omega⟩) = ((O z lc (hdOf t h) I d : ℝ) : EReal) := by
  refine (blk4 m c t I _).trans ((v36_at hr I _).trans ?_)
  have h1 : FoxRef.hd ⟨t.val * 128 + (h.val * 64 + d.val), by have := t.isLt; have := points; omega⟩ = hdOf t h := Fin.ext (by
    show (t.val * 128 + (h.val * 64 + d.val)) / 64 = t.val * 2 + h.val
    omega)
  have h2 : FoxRef.ft ⟨t.val * 128 + (h.val * 64 + d.val), by have := t.isLt; have := points; omega⟩ = d := Fin.ext (by
    show (t.val * 128 + (h.val * 64 + d.val)) % 64 = d.val
    omega)
  rw [h1, h2]

theorem lse_at' (t : Fin cfg0.N) (h : Fin 2) (I : Fin 4096) : (insAt m c t).lse (ix4 0 h I 0)
    = (((Mx z lc (hdOf t h) I + Real.log (L z lc (hdOf t h) I) - lc (ix2 I (hdOf t h))) / Real.log 2 : ℝ) : EReal) :=
  (blk5 m c t h I).trans (v67_at hr (t.cast points) h I)

theorem bias_at (t : Fin cfg0.N) (h : Fin 2) (J : Fin 4096) : (insAt m c t).bias (ixD h (blk J) (pos J))
    = ((-lc (ix2 J (hdOf t h)) / Real.log 2 : ℝ) : EReal) := by
  refine (blk6 m c t h (blk J) (pos J)).trans ((v73_at hr (t.cast points) h (blk J) (pos J)).trans ?_)
  rw [row_blk]
  rfl

/-- The kernel's probabilities are the attention's. -/
theorem P_eq (t : Fin cfg0.N) (h : Fin 2) (I J : Fin 4096) : FoxPay.P (insAt m c t) h I J = ((P z lc (hdOf t h) I J : ℝ) : EReal) := by
  by_cases hm : J.val ≤ I.val
  · rw [FoxPay.P_pos _ _ _ _ hm]
    unfold FoxPay.qh
    rw [sum_half]
    simp only [q_at hr, k_at hr, lse_at' hr, bias_at hr, scale, ← EReal.coe_mul, coe_sum, ← EReal.coe_add, ← EReal.coe_sub]
    rw [exp2_real]
    refine congrArg _ (pr_exp2 (fun J => J ≤ I) _ _ ⟨I, le_rfl⟩ J hm _ ?_)
    have h2 := log2_ne
    unfold S
    show _ = _ - (_ + Real.log (L z lc (hdOf t h) I))
    field_simp
    ring
  · rw [FoxPay.P_neg _ _ _ _ hm]
    unfold P
    rw [pr_masked (fun J => J ≤ I) _ _ J hm, EReal.coe_zero]

/-- The kernel's gradient of the scores is the attention's. -/
theorem D_eq (t : Fin cfg0.N) (h : Fin 2) (I J : Fin 4096) : FoxPay.D (insAt m c t) h I J = ((dS z lc g (hdOf t h) I J : ℝ) : EReal) := by
  unfold FoxPay.D FoxPay.delta FoxPay.doh
  rw [sum_half, sum_half, P_eq hr]
  simp only [g_at hr, v_at hr, o_at hr, ← EReal.coe_mul, coe_sum, ← EReal.coe_sub]
  refine congrArg _ ?_
  rw [delta]
  rfl

/-! ## The blocks of the results -/

omit hr in
theorem eighth : FoxPay.eighth = ((1 / 8 : ℝ) : EReal) := FoxRef.eighth

omit hr in
/-- A column of a block: its head of the pair and its feature. -/
theorem col (e : Fin 128) : e = ⟨(FoxPay.hd e).val * 64 + (e.val % 64), by unfold FoxPay.hd; show e.val / 64 * 64 + e.val % 64 < 128; omega⟩ :=
  Fin.ext (by unfold FoxPay.hd; show e.val = e.val / 64 * 64 + e.val % 64; omega)

/-- The feature of a column. -/
def fe (e : Fin 128) : Fin 64 := ⟨e.val % 64, by omega⟩

theorem k_col (t : Fin cfg0.N) (I : Fin 4096) (e : Fin 128) : (insAt m c t).k (ix2 I e) = ((kf z (hdOf t (FoxPay.hd e)) I (fe e) : ℝ) : EReal) :=
  (congrArg (fun e => (insAt m c t).k (ix2 I e)) (col e)).trans (k_at hr t I (FoxPay.hd e) (fe e))
theorem q_col (t : Fin cfg0.N) (I : Fin 4096) (e : Fin 128) : (insAt m c t).q (ix2 I e) = ((qf z (hdOf t (FoxPay.hd e)) I (fe e) : ℝ) : EReal) :=
  (congrArg (fun e => (insAt m c t).q (ix2 I e)) (col e)).trans (q_at hr t I (FoxPay.hd e) (fe e))
theorem g_col (t : Fin cfg0.N) (I : Fin 4096) (e : Fin 128) : (insAt m c t).dO (ix2 I e) = ((gf g (hdOf t (FoxPay.hd e)) I (fe e) : ℝ) : EReal) :=
  (congrArg (fun e => (insAt m c t).dO (ix2 I e)) (col e)).trans (g_at hr t I (FoxPay.hd e) (fe e))

theorem dq_block (t : Fin cfg0.N) (i : Fin 8) (r : Fin 512) (e : Fin 128) :
    (gradBlock (insAt m c t) (ixO 0 i r e) : EReal) = ((dQ z lc g (hdOf t (FoxPay.hd e)) (row i r) (fe e) : ℝ) : EReal) := by
  refine (FoxPay.out_q _ _ _ i r e).trans ?_
  simp only [D_eq hr, k_col hr, eighth, ← EReal.coe_mul, coe_sum]
  rfl

theorem dk_block (t : Fin cfg0.N) (i : Fin 8) (r : Fin 512) (e : Fin 128) :
    (gradBlock (insAt m c t) (ixO 1 i r e) : EReal) = ((dK z lc g (hdOf t (FoxPay.hd e)) (row i r) (fe e) : ℝ) : EReal) := by
  refine (FoxPay.out_k _ _ _ i r e).trans ?_
  rw [FoxPay.kPart_sum]
  simp only [D_eq hr, q_col hr, eighth, ← EReal.coe_mul, coe_sum]
  unfold dK
  refine congrArg (fun r : ℝ => (r : EReal)) (congrArg (· * (1 / 8 : ℝ)) (Finset.sum_congr rfl fun I _ => mul_comm _ _))

theorem dv_block (t : Fin cfg0.N) (i : Fin 8) (r : Fin 512) (e : Fin 128) :
    (gradBlock (insAt m c t) (ixO 2 i r e) : EReal) = ((dV z lc g (hdOf t (FoxPay.hd e)) (row i r) (fe e) : ℝ) : EReal) := by
  refine (FoxPay.out_v _ _ _ i r e).trans ?_
  rw [FoxPay.vPart_sum]
  simp only [P_eq hr, g_col hr, ← EReal.coe_mul, coe_sum]
  rfl

theorem db_block (t : Fin cfg0.N) (h : Fin 2) (j : Fin 8) (p : Fin 512) :
    ((accOut (insAt m c t)).db (ixD h j p) : EReal) = ((∑ I, dS z lc g (hdOf t h) I (row j p) : ℝ) : EReal) := by
  refine (FoxPay.out_b _ h j p).trans ?_
  simp only [D_eq hr, coe_sum]

theorem dr_block (t : Fin cfg0.N) (h : Fin 2) (j : Fin 8) (p : Fin 512) :
    (rowBlock (insAt m c t) (ixD h j p) : EReal) = ((∑ J, dS z lc g (hdOf t h) (row j p) J : ℝ) : EReal) := by
  refine (FoxPay.out_r _ _ _ h j p).trans ?_
  simp only [D_eq hr, coe_sum]

end

/-! ## The result arrays -/

section

variable (m c z lc g)

/-- The gradients of queries, keys and values, one array. -/
def G0 : Buf (Elt Ideal) ((c : Thread nD τ).loc main_v74_0) := fun y : S3x4096x1024.Idx =>
  ((if (y 0).val < 1 then dQ z lc g (FoxRef.hd (y 2)) (y 1) (FoxRef.ft (y 2))
    else if (y 0).val - 1 < 1 then dK z lc g (FoxRef.hd (y 2)) (y 1) (FoxRef.ft (y 2)) else dV z lc g (FoxRef.hd (y 2)) (y 1) (FoxRef.ft (y 2)) : ℝ) : EReal)
/-- A head, from its pair and its place in it. -/
def pair (y : S8x2x8x1x512.Idx) : Fin 16 := ⟨(y 0).val * 2 + (y 1).val, by
  have h0 : (y 0).val < 8 := (y 0).isLt
  have h1 : (y 1).val < 2 := (y 1).isLt
  omega⟩
/-- The column sums and the row sums of the scores' gradient. -/
def G1 : Buf (Elt Ideal) ((c : Thread nD τ).loc main_v74_1) := fun y : S8x2x8x1x512.Idx => ((∑ I, dS z lc g (pair y) I (row (y 2) (y 4)) : ℝ) : EReal)
def G2 : Buf (Elt Ideal) ((c : Thread nD τ).loc main_v74_2) := fun y : S8x2x8x1x512.Idx => ((∑ J, dS z lc g (pair y) (row (y 2) (y 4)) J : ℝ) : EReal)

end

theorem index7 : ∀ t : Fin cfg0.N, win0_7.index t 0 = 0 ∧ win0_7.index t 1 = 0 ∧ win0_7.index t 2 = t.val :=
  (by decide +kernel : ∀ t : Fin grid0.N, _)
theorem index8 : ∀ t : Fin cfg0.N, win0_8.index t 0 = t.val ∧ win0_8.index t 1 = 0 ∧ win0_8.index t 2 = 0 ∧ win0_8.index t 3 = 0 ∧ win0_8.index t 4 = 0 :=
  (by decide +kernel : ∀ t : Fin grid0.N, _)
theorem index9 : ∀ t : Fin cfg0.N, win0_9.index t 0 = t.val ∧ win0_9.index t 1 = 0 ∧ win0_9.index t 2 = 0 ∧ win0_9.index t 3 = 0 ∧ win0_9.index t 4 = 0 :=
  (by decide +kernel : ∀ t : Fin grid0.N, _)

include hr

theorem grad_block (t : Fin cfg0.N) (a : Fin 3) (i : Fin 8) (r : Fin 512) (e : Fin 128) :
    (gradBlock (insAt m c t) (ixO a i r e) : EReal) = ((if a.val < 1 then dQ z lc g (hdOf t (FoxPay.hd e)) (row i r) (fe e)
      else if a.val - 1 < 1 then dK z lc g (hdOf t (FoxPay.hd e)) (row i r) (fe e) else dV z lc g (hdOf t (FoxPay.hd e)) (row i r) (fe e) : ℝ) : EReal) := by
  obtain rfl | rfl | rfl : a = 0 ∨ a = 1 ∨ a = 2 := by omega
  · exact dq_block hr t i r e
  · exact dk_block hr t i r e
  · exact dv_block hr t i r e

theorem final0 : (dats m 0 c).arrAt 7 cfg0.N = G0 c z lc g := by
  refine (dats m 0 c).arrAt_eq_of_cover 7 (G0 c z lc g) (fun t _ => ?_) fun (y : S3x4096x1024.Idx) => ?_
  · have hf : (dats m 0 c).flushed 7 t = (cfg0.win 7).cut (grid0.coords t) (gradBlock (insAt m c t)) := by
      show (cfg0.win 7).cut (grid0.coords t) ((dats m 0 c).after 7 t) = _
      rw [after0_7]
    rw [hf]
    funext x
    obtain ⟨a, i, r, e, rfl⟩ := exists_ixO x
    refine (grad_block hr t a i r e).trans ?_
    rw [View.read_apply]
    refine congrArg (fun r : ℝ => (r : EReal)) ?_
    obtain ⟨h0, h1, h2⟩ := index7 t
    have e0 : (a : Nat) = win0_7.index t 0 * 3 + 1 * a.val := by rw [h0]; omega
    have e1 : row i r = ((⟨win0_7.index t 1 * 4096 + 1 * (512 * i.val + r.val), by rw [h1]; omega⟩ : Fin 4096)) :=
      Fin.ext (by unfold row; show 512 * i.val + r.val = win0_7.index t 1 * 4096 + 1 * (512 * i.val + r.val); rw [h1]; omega)
    have e2 : ∀ hc : win0_7.index t 2 * 128 + 1 * e.val < 1024, hdOf t (FoxPay.hd e) = FoxRef.hd ⟨win0_7.index t 2 * 128 + 1 * e.val, hc⟩ := fun hc =>
      Fin.ext (by unfold hdOf FoxPay.hd; show t.val * 2 + e.val / 64 = (win0_7.index t 2 * 128 + 1 * e.val) / 64; rw [h2]; omega)
    have e3 : ∀ hc : win0_7.index t 2 * 128 + 1 * e.val < 1024, fe e = FoxRef.ft ⟨win0_7.index t 2 * 128 + 1 * e.val, hc⟩ := fun hc =>
      Fin.ext (by unfold fe; show e.val % 64 = (win0_7.index t 2 * 128 + 1 * e.val) % 64; rw [h2]; omega)
    have hc : win0_7.index t 2 * 128 + 1 * e.val < 1024 := by have := t.isLt; have := points; rw [h2]; omega
    rw [e1, e2 hc, e3 hc, e0]
    rfl
  · have h0 : (y 0 : Nat) < 3 := (y 0).isLt
    have h1 : (y 1 : Nat) < 4096 := (y 1).isLt
    have h2 : (y 2 : Nat) < 1024 := (y 2).isLt
    obtain ⟨t, ht⟩ : ∃ t : Fin cfg0.N, t.val = (y 2 : Nat) / 128 := ⟨⟨(y 2 : Nat) / 128, by have := points; omega⟩, rfl⟩
    obtain ⟨i0, i1, i2⟩ := index7 t
    refine ⟨t, flush0_7 t, ?_⟩
    show y ∈ ((View.whole main_v74_0).slice (win0_7.rect t)).set
    rw [View.set_slice_whole, Rect.mem_set_unit]
    intro a
    match a with
    | ⟨0, _⟩ => show win0_7.index t 0 * 3 ≤ (y 0 : Nat) ∧ (y 0 : Nat) < win0_7.index t 0 * 3 + 3; rw [i0]; omega
    | ⟨1, _⟩ => show win0_7.index t 1 * 4096 ≤ (y 1 : Nat) ∧ (y 1 : Nat) < win0_7.index t 1 * 4096 + 4096; rw [i1]; omega
    | ⟨2, _⟩ => show win0_7.index t 2 * 128 ≤ (y 2 : Nat) ∧ (y 2 : Nat) < win0_7.index t 2 * 128 + 128; rw [i2]; omega

omit hr in
/-- The head and the position of an entry of a block of sums. -/
theorem sum_at (f : Fin 16 → Fin 4096 → ℝ) (t : Fin cfg0.N) (h : Fin 2) (j : Fin 8) (p : Fin 512) (ix : Fin 5 → ℕ)
    (hi : ix 0 = t.val ∧ ix 1 = 0 ∧ ix 2 = 0 ∧ ix 3 = 0 ∧ ix 4 = 0) (c0 : (ix 0 * 1 + 1 * 0) * 2 + (ix 1 * 2 + 1 * h.val) < 16)
    (c1 : ix 2 * 8 + 1 * j.val < 8) (c2 : ix 4 * 512 + 1 * p.val < 512) :
    f (hdOf t h) (row j p) = f ⟨(ix 0 * 1 + 1 * 0) * 2 + (ix 1 * 2 + 1 * h.val), c0⟩ (row ⟨ix 2 * 8 + 1 * j.val, c1⟩ ⟨ix 4 * 512 + 1 * p.val, c2⟩) := by
  obtain ⟨h0, h1, h2, h3, h4⟩ := hi
  have e0 : hdOf t h = ⟨(ix 0 * 1 + 1 * 0) * 2 + (ix 1 * 2 + 1 * h.val), c0⟩ :=
    Fin.ext (by unfold hdOf; show t.val * 2 + h.val = (ix 0 * 1 + 1 * 0) * 2 + (ix 1 * 2 + 1 * h.val); omega)
  have e1 : j = ⟨ix 2 * 8 + 1 * j.val, c1⟩ := Fin.ext (by show j.val = ix 2 * 8 + 1 * j.val; omega)
  have e2 : p = ⟨ix 4 * 512 + 1 * p.val, c2⟩ := Fin.ext (by show p.val = ix 4 * 512 + 1 * p.val; omega)
  rw [← e0, ← e1, ← e2]

omit hr in
/-- Every entry of an array of sums lies in the block of its pair. -/
theorem sum_cover (y : S8x2x8x1x512.Idx) (t : Fin cfg0.N) (ht : t.val = (y 0).val) (ix : Fin 5 → ℕ)
    (hi : ix 0 = t.val ∧ ix 1 = 0 ∧ ix 2 = 0 ∧ ix 3 = 0 ∧ ix 4 = 0) (a : Fin 5) :
    ix a * S1x2x8x1x512.size a ≤ (y a).val ∧ (y a).val < ix a * S1x2x8x1x512.size a + S1x2x8x1x512.size a := by
  obtain ⟨i0, i1, i2, i3, i4⟩ := hi
  match a with
  | ⟨0, _⟩ => show ix 0 * 1 ≤ (y 0).val ∧ (y 0).val < ix 0 * 1 + 1; rw [i0]; omega
  | ⟨1, _⟩ => have h : (y 1).val < 2 := (y 1).isLt
              show ix 1 * 2 ≤ (y 1).val ∧ (y 1).val < ix 1 * 2 + 2; rw [i1]; omega
  | ⟨2, _⟩ => have h : (y 2).val < 8 := (y 2).isLt
              show ix 2 * 8 ≤ (y 2).val ∧ (y 2).val < ix 2 * 8 + 8; rw [i2]; omega
  | ⟨3, _⟩ => have h : (y 3).val < 1 := (y 3).isLt
              show ix 3 * 1 ≤ (y 3).val ∧ (y 3).val < ix 3 * 1 + 1; rw [i3]; omega
  | ⟨4, _⟩ => have h : (y 4).val < 512 := (y 4).isLt
              show ix 4 * 512 ≤ (y 4).val ∧ (y 4).val < ix 4 * 512 + 512; rw [i4]; omega

theorem final1 : (dats m 0 c).arrAt 8 cfg0.N = G1 c z lc g := by
  refine (dats m 0 c).arrAt_eq_of_cover 8 (G1 c z lc g) (fun t _ => ?_) fun (y : S8x2x8x1x512.Idx) => ?_
  · have hf : (dats m 0 c).flushed 8 t = (cfg0.win 8).cut (grid0.coords t) ((accOut (insAt m c t)).db) := by
      show (cfg0.win 8).cut (grid0.coords t) ((dats m 0 c).after 8 t) = _
      rw [after0_8]
    rw [hf]
    funext x
    obtain ⟨h, j, p, rfl⟩ := exists_ixD x
    refine (db_block hr t h j p).trans ?_
    rw [View.read_apply]
    exact congrArg (fun r : ℝ => (r : EReal)) (sum_at (fun H K => ∑ I, dS z lc g H I K) t h j p (fun a => win0_8.index t a) (index8 t)
      (by have h8 : t.val < 8 := lt_of_lt_of_eq t.isLt points; obtain ⟨i0, i1, _⟩ := index8 t; omega)
      (by obtain ⟨_, _, i2, _⟩ := index8 t; omega) (by obtain ⟨_, _, _, _, i4⟩ := index8 t; omega))
  · have h0 : (y 0 : Nat) < 8 := (y 0).isLt
    obtain ⟨t, ht⟩ : ∃ t : Fin cfg0.N, t.val = (y 0 : Nat) := ⟨⟨(y 0 : Nat), by have := points; omega⟩, rfl⟩
    refine ⟨t, flush0_8 t, ?_⟩
    show y ∈ ((View.whole main_v74_1).slice (win0_8.rect t)).set
    rw [View.set_slice_whole, Rect.mem_set_unit]
    exact sum_cover y t ht (fun a => win0_8.index t a) (index8 t)

theorem final2 : (dats m 0 c).arrAt 9 cfg0.N = G2 c z lc g := by
  refine (dats m 0 c).arrAt_eq_of_cover 9 (G2 c z lc g) (fun t _ => ?_) fun (y : S8x2x8x1x512.Idx) => ?_
  · have hf : (dats m 0 c).flushed 9 t = (cfg0.win 9).cut (grid0.coords t) (rowBlock (insAt m c t)) := by
      show (cfg0.win 9).cut (grid0.coords t) ((dats m 0 c).after 9 t) = _
      rw [after0_9]
    rw [hf]
    funext x
    obtain ⟨h, j, p, rfl⟩ := exists_ixD x
    refine (dr_block hr t h j p).trans ?_
    rw [View.read_apply]
    exact congrArg (fun r : ℝ => (r : EReal)) (sum_at (fun H K => ∑ J, dS z lc g H K J) t h j p (fun a => win0_9.index t a) (index9 t)
      (by have h8 : t.val < 8 := lt_of_lt_of_eq t.isLt points; obtain ⟨i0, i1, _⟩ := index9 t; omega)
      (by obtain ⟨_, _, i2, _⟩ := index9 t; omega) (by obtain ⟨_, _, _, _, i4⟩ := index9 t; omega))
  · have h0 : (y 0 : Nat) < 8 := (y 0).isLt
    obtain ⟨t, ht⟩ : ∃ t : Fin cfg0.N, t.val = (y 0 : Nat) := ⟨⟨(y 0 : Nat), by have := points; omega⟩, rfl⟩
    refine ⟨t, flush0_9 t, ?_⟩
    show y ∈ ((View.whole main_v74_2).slice (win0_9.rect t)).set
    rw [View.set_slice_whole, Rect.mem_set_unit]
    exact sum_cover y t ht (fun a => win0_9.index t a) (index9 t)

omit hr in
/-- The host's last lines, entry by entry. -/
theorem diff_form (a b : FVec Ideal S8x2x8x1x512 .f32) (I : Fin 4096) (h : Fin 16) :
    transpose S4096x16 [1, 0] (subf (F := Ideal) (shapeCast S16x4096 a Facts₀.shapeCasts_S8x2x8x1x512_S16x4096)
      (shapeCast S16x4096 b Facts₀.shapeCasts_S8x2x8x1x512_S16x4096)) Facts₀.transposes_S16x4096_S4096x16_1_0 (ix2 I h)
    = (a (ix5 ⟨h / 2, by omega⟩ ⟨h % 2, by omega⟩ ⟨I / 512, by omega⟩ 0 ⟨I % 512, by omega⟩)
      - b (ix5 ⟨h / 2, by omega⟩ ⟨h % 2, by omega⟩ ⟨I / 512, by omega⟩ 0 ⟨I % 512, by omega⟩) : EReal) := by
  pointwise

/-- The gradient of the cumulated log: the host's lines take the column sums from the row sums. -/
theorem final_c (I : Fin 4096) (h : Fin 16) :
    Pipeline.afterTail₀ cfgs (dats m) 0 (V0 m) [hostOps1] c main_v78 (ix2 I h) = ((dC z lc g I h : ℝ) : EReal) := by
  have e1 := (Pipeline.withArrays_arr_shared (τ := τ) spec0 c (V0 m c) (fun w => (dats m 0 c).arrAt w cfg0.N)
    ((dats m 0 c).arrAt_sharedIn sharedIn0 (V0 m c) (A_eq m c) cfg0.N) 8).trans (final1 hr)
  have e2 := (Pipeline.withArrays_arr_shared (τ := τ) spec0 c (V0 m c) (fun w => (dats m 0 c).arrAt w cfg0.N)
    ((dats m 0 c).arrAt_sharedIn sharedIn0 (V0 m c) (A_eq m c) cfg0.N) 9).trans (final2 hr)
  have hrow : row ⟨I / 512, by omega⟩ ⟨I % 512, by omega⟩ = I := Fin.ext (by unfold row; show 512 * (I.val / 512) + I.val % 512 = I.val; omega)
  have hp : ∀ h0 h1 : Nat, ∀ (b0 : h0 < 8) (b1 : h1 < 2), h0 = h.val / 2 → h1 = h.val % 2 →
      ∀ (i : Fin 8) (k : Fin 1) (r : Fin 512), pair (ix5 ⟨h0, b0⟩ ⟨h1, b1⟩ i k r) = h := fun h0 h1 b0 b1 g0 g1 i k r =>
    Fin.ext (by unfold pair; show h0 * 2 + h1 = h.val; omega)
  unfold Pipeline.afterTail₀
  dsimp only [List.flatten, List.append]
  after_results
  refine (diff_form _ _ I h).trans ?_
  refine (congrArg₂ (fun a b : EReal => a - b) (congrFun e2 _) (congrFun e1 _)).trans ?_
  unfold G1 G2 dC
  rw [hp _ _ _ _ rfl rfl, EReal.coe_sub]
  show ((∑ J, dS z lc g h (row ⟨I / 512, by omega⟩ ⟨I % 512, by omega⟩) J : ℝ) : EReal) - ((∑ J, dS z lc g h J (row ⟨I / 512, by omega⟩ ⟨I % 512, by omega⟩) : ℝ) : EReal) = _
  rw [hrow]

end Cert.FoxValue
-- ==== Proof.FoxClaim.lean ====
/- The value claim of the forget-gate attention's backward call: its gradients are the reference's where the arguments are finite. -/
module

public import proofs.«01_k».proof.Defs
public import proofs.«01_k».proof.Proof.Finite
public import proofs.«01_k».proof.Proof.FoxValue
public import Idealize.ShloMosaic.Lib.ReduceAll
public import proofs.«01_k».proof.Proof.Gen.FoxReferenceIdeal.Run

@[expose] public section

set_option maxRecDepth 16384

noncomputable section

namespace Cert.FoxClaim

open Idealize.ShloMosaic Idealize.ShloMosaic.TcCoe Idealize.SL.Sem

/-- Finite entries are real numbers. -/
theorem reals {S : Shape} (x : S.Idx → EReal) (h : ∀ i, x i ≠ ⊥ ∧ x i ≠ ⊤) : x = fun i => ((((fun i => (x i).toReal) : S.Idx → ℝ) i : ℝ) : EReal) :=
  funext fun i => (EReal.coe_toReal (h i).2 (h i).1).symm

theorem and_one {a b : BitVec 1} (h : a &&& b = 1#1) : a = 1#1 ∧ b = 1#1 := by
  revert h; revert a b; decide

/-- The precondition read entry by entry: the three arguments are finite. -/
theorem finite [Cert.Pre_pre_fox.Facts] (m : (ℓ : Loc Cert.FoxIdeal.nD Cert.FoxIdeal.τ Cert.FoxIdeal.sig) → Buf (Elt Ideal) ℓ)
    (h : Cert.Pre_FoxIdeal_pre_fox m) (c : Dev Cert.FoxIdeal.nD) :
    ∃ z lc g, FoxHost.Real m c z lc g := by
  have h0 := congrFun (h c) ix0
  obtain ⟨h01, h2⟩ := and_one (show _ &&& _ = 1#1 from h0)
  obtain ⟨h0, h1⟩ := and_one (show _ &&& _ = 1#1 from h01)
  have f0 := fun i => Cert.Finite.of_abs_lt _ (Host.reduce_andi_all _ _ _ _ _ h0 i)
  have f1 := fun i => Cert.Finite.of_abs_lt _ (Host.reduce_andi_all _ _ _ _ _ h1 i)
  have f2 := fun i => Cert.Finite.of_abs_lt _ (Host.reduce_andi_all _ _ _ _ _ h2 i)
  exact ⟨_, _, _, reals _ f0, reals _ f1, reals _ f2⟩

open Cert.FoxIdeal Cert.FoxIdeal.Gen Cert.FoxRun in
/-- The kernel's run: its two results by name, the arguments unchanged. -/
theorem run (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_v74_0) = (dats m 0 c).arrAt 7 cfg0.N
      ∧ r.2.mem ((c.tc : Thread nD τ).loc main_v78) = Pipeline.afterTail₀ cfgs (dats m) 0 (V0 m) [hostOps1] c main_v78)
      ∧ (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))) :=
  θ_run_and ((θ_run defs _ _).mono (fun r h c => ⟨(h.1 c).1 7, (h.1 c).2 main_v78 (Pipeline.mem_restRefs_of main_v78 (by decide) (by decide))⟩)
    (run_main_quiescent m ρ)) ((θ_run defs _ _).mono (fun _ h => h.1) (frame_any m ρ))

open Cert.FoxIdeal Cert.FoxIdeal.Gen Cert.FoxRun in
/-- The gradients of queries, keys, values and of the cumulated log are the reference's, from memories that agree on finite arguments. -/
theorem value [Cert.Pre_pre_fox.Facts] : Cert.algebraic_FoxIdeal_FoxReferenceIdeal_pre_pre_fox := by
  intro m g m' g' hpre hag
  refine ⟨fun c => (dats m 0 c).arrAt 7 cfg0.N, fun c => Pipeline.afterTail₀ cfgs (dats m) 0 (V0 m) [hostOps1] c main_v78, ?_, ?_⟩
  · exact (θ_run _ _ _).mono (fun r h c => ⟨(h.1 c).1, (h.1 c).2, h.2 c⟩) (run m g)
  · refine (θ_run _ _ _).mono (fun r h c => ?_) (Cert.FoxReferenceIdeal.Value.run m' g')
    obtain ⟨h0, h1, h2⟩ := h c
    obtain ⟨ha, hb, hd⟩ := hag c
    obtain ⟨z, lc, q, hr⟩ := finite m hpre c
    rw [Cert.FoxReferenceIdeal.Read.val_main_v93_eq, ha, hb, hd, hr.h0, hr.h1, hr.h2] at h0
    rw [Cert.FoxReferenceIdeal.Read.val_main_v79_eq, ha, hb, hd, hr.h0, hr.h1, hr.h2] at h1
    refine ⟨h0.trans ?_, h1.trans ?_, h2⟩
    · refine Eq.trans ?_ (FoxValue.final0 hr).symm
      funext y
      obtain ⟨a, I, e, rfl⟩ : ∃ a I e, y = ix3 a I e := ⟨_, _, _, eq_ix3 y⟩
      exact FoxRef.out_at z lc q a I e
    · funext y
      obtain ⟨I, h, rfl⟩ : ∃ I h, y = ix2 I h := ⟨_, _, eq_ix2 y⟩
      exact (FoxRef.dc_at z lc q I h).trans (FoxValue.final_c hr I h).symm

end Cert.FoxClaim
-- ==== Proof.MlaInner.lean ====
/-
  The inner loop of the latent attention's backward kernel: for the query block of the outer trip, one trip for each key
  block before the diagonal. Each trip adds its part to the two accumulators of the key block (`dk`, `dv`, kept
  transposed) and to the query block's gradient, which the loop carries.
-/
module

public import proofs.«01_k».proof.Proof.Gen.MlaIdeal.Frame
public import proofs.«01_k».proof.Proof.Gen.MlaIdeal.Skeleton
public import Idealize.ShloMosaic.Lib.VecWindow
public import Idealize.ShloMosaic.Lib.LoopRemainder

@[expose] public section

set_option maxRecDepth 16384

noncomputable section

namespace Cert.MlaRun

open Cert.MlaIdeal Cert.MlaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow (window put)

variable {F : FTy → Type} [FloatOps F] [Named F]

local notation "𝕄" => MT nD τ sig Unit (Elt F) ℕ (UR sig nD τ) ℕ

/-- A query block's values that every key block reads: the stacked queries, the row sums of `do · o`, the log-sums,
    the stacked `do`, and its transpose. -/
structure RowVals (F : FTy → Type) where
  qs : FVec F S1024x256 .bf16
  delta : FVec F S1024x1 .f32
  lse : FVec F S1024x1 .f32
  dos : FVec F S1024x128 .bf16
  dosT : FVec F S128x1024 .bf16

/-- The two accumulators. -/
structure Acc (F : FTy → Type) where
  dk : Vec F S8x256x512 .f32
  dv : Vec F S8x128x512 .f32

section Step

variable (xk : Vec F S4096x256 .bf16) (xv : Vec F S4096x128 .bf16) (r : RowVals F)
variable (i : Fin k0_t1_loop.trips) (j : Fin (k0_t2_loop i).trips)

/-- The keys and the values of one block before the diagonal. -/
def keyBlock : Vec F S512x256 .bf16 := window xk (k0_off5 i j) S512x256.size (k0_off5_inb i j)
def valBlock : Vec F S512x128 .bf16 := window xv (k0_off6 i j) S512x128.size (k0_off6_inb i j)

/-- One trip on the accumulators. -/
def stepAcc (s : Acc F) : Acc F where
  dk := put s.dk (k0_off8 i j) S1x256x512.size
    (k0_pay33 (k0_pay13 (window s.dk (k0_off8 i j) S1x256x512.size (k0_off8_inb i j)))
      (k0_pay14 r.qs r.delta r.lse r.dos (k0_pay31 r.qs) (keyBlock xk i j) (valBlock xv i j)) (k0_pay15 (k0_pay31 r.qs))
      (k0_pay16 r.qs r.delta r.lse r.dos (keyBlock xk i j) (valBlock xv i j)))
  dv := put s.dv (k0_off7 i j) S1x128x512.size
    (k0_pay12 r.qs r.lse r.dosT (keyBlock xk i j) (window s.dv (k0_off7 i j) S1x128x512.size (k0_off7_inb i j)))

/-- One trip on what the row carries. -/
def stepCarry (a : FVec F S1024x256 .f32) : FVec F S1024x256 .f32 :=
  k0_pay34 a (k0_pay9 (keyBlock xk i j)) (k0_pay11 r.qs r.delta r.lse r.dos (keyBlock xk i j) (valBlock xv i j))

end Step

/-- A buffer's contents, as the value that is read from it. -/
theorem owns_read {S : Shape} {t : EltTy} (c : Dev nD) (a : Memref sig .tc .vmem S t) (f : BufTy.Contents (Elt F) a.view.ty) (v : Vec F S t)
    (h : a.view.read (Elt F) f = v) :
    (a.view.loc (c : Thread nD τ) ↦[a.view.set]{fullShare} f : sProp 𝕄)
      ⊢ iprop(∃ f', ⌜a.view.read (Elt F) f' = v⌝ ∗ (a.view.loc (c : Thread nD τ) ↦[a.view.set]{fullShare} f')) := by
  subst h
  iintro H
  iexists _; isplitr
  swap; · iexact H
  ipureintro; rfl

section Trip

variable (c : Dev nD) (g : grid0.Coords)
  (arg1 : Memref sig .tc .vmem S4096x256 .bf16) (harg1 : arg1.IsWhole) (arg2 : Memref sig .tc .vmem S4096x256 .bf16) (harg2 : arg2.IsWhole)
  (arg3 : Memref sig .tc .vmem S4096x128 .bf16) (harg3 : arg3.IsWhole) (arg4 : Memref sig .tc .vmem S4096x128 .f32) (harg4 : arg4.IsWhole)
  (arg5 : Memref sig .tc .vmem S4096x128 .f32) (harg5 : arg5.IsWhole) (arg6 : Memref sig .tc .vmem S1x2x4096x1 .f32) (harg6 : arg6.IsWhole)
  (arg7 : Memref sig .tc .vmem S4096x256 .f32) (harg7 : arg7.IsWhole) (arg8 : Memref sig .tc .vmem S4096x256 .f32) (harg8 : arg8.IsWhole)
  (arg9 : Memref sig .tc .vmem S4096x128 .bf16) (harg9 : arg9.IsWhole) (arg10 : Memref sig .tc .vmem S8x256x512 .f32) (harg10 : arg10.IsWhole)
  (arg11 : Memref sig .tc .vmem S8x128x512 .f32) (harg11 : arg11.IsWhole)

/-- The buffers an inner trip reads and updates. -/
abbrev Held (xk : Vec F S4096x256 .bf16) (xv : Vec F S4096x128 .bf16) (s : Acc F) : sProp 𝕄 :=
  iprop(owns (c : Thread nD τ) arg2 fullShare xk ∗ owns (c : Thread nD τ) arg3 fullShare xv
    ∗ owns (c : Thread nD τ) arg10 fullShare s.dk ∗ owns (c : Thread nD τ) arg11 fullShare s.dv)

include harg1 harg2 harg3 harg4 harg5 harg6 harg7 harg8 harg9 harg10 harg11 in
/-- One inner trip: the contents and the carried values step. -/
theorem trip_inner (E : Set ℕ) (v11 : IVec S1024x512 1) (i : Fin k0_t1_loop.trips) (w : BitVec 32) (r : RowVals F) (xk : Vec F S4096x256 .bf16)
    (xv : Vec F S4096x128 .bf16) (s : Acc F) (j : Fin (k0_t2_loop i).trips) (a : FVec F S1024x256 .f32) :
    Held c arg2 arg3 arg10 arg11 xk xv s
      ⊢ wp frame (wpE (defs₀ (F := F)) Variants.none c none) E
          (k0_t2_body g arg1 harg1 arg2 harg2 arg3 harg3 arg4 harg4 arg5 harg5 arg6 harg6 arg7 harg7 arg8 harg8 arg9 harg9 arg10 harg10 arg11 harg11
            v11 i w r.qs r.delta r.lse r.dos r.dosT j a)
          (fun y => iprop(⌜y = stepCarry xk xv r i j a⌝ ∗ Held c arg2 arg3 arg10 arg11 xk xv (stepAcc xk xv r i j s))) := by
  unfold k0_t2_body
  simp only [k0_part1_eq_skeleton]
  unfold Held owns
  iintro ⟨⟨%f2, %hf2, H2⟩, ⟨%f3, %hf3, H3⟩, ⟨%f10, %hf10, H10⟩, ⟨%f11, %hf11, H11⟩⟩
  sl_exec
  sl_step
  subst hf2 hf3
  obtain ⟨sk, sv⟩ := s
  dsimp only at hf10 hf11
  subst hf10 hf11
  isplitr
  · ipureintro; rfl
  isplitl [H2]
  · iapply (owns_read c arg2 f2 _ rfl); iexact H2
  isplitl [H3]
  · iapply (owns_read c arg3 f3 _ rfl); iexact H3
  isplitl [H10]
  · iapply (owns_read c arg10 _ _ ?_)
    swap; · iexact H10
    rw [View.read_writes_cons_put _ _ _ _ _ rfl, View.writes_nil]
    rfl
  iapply (owns_read c arg11 _ _ ?_)
  swap; · iexact H11
  rw [View.read_writes_cons_put _ _ _ _ _ rfl, View.writes_nil]
  rfl

end Trip

/-- The accumulators and the carried values after `n` trips of the inner loop, from those before it. -/
abbrev innerFrom (xk : Vec F S4096x256 .bf16) (xv : Vec F S4096x128 .bf16) (r : RowVals F) (i : Fin k0_t1_loop.trips)
    (p : Acc F × FVec F S1024x256 .f32) (n : ℕ) : Acc F × FVec F S1024x256 .f32 :=
  Nat.rec (motive := fun _ => Acc F × FVec F S1024x256 .f32) p
    (fun n a => if h : n < (k0_t2_loop i).trips then (stepAcc xk xv r i ⟨n, h⟩ a.1, stepCarry xk xv r i ⟨n, h⟩ a.2) else a) n

theorem innerFrom_succ (xk : Vec F S4096x256 .bf16) (xv : Vec F S4096x128 .bf16) (r : RowVals F) (i : Fin k0_t1_loop.trips)
    (p : Acc F × FVec F S1024x256 .f32) (j : Fin (k0_t2_loop i).trips) :
    innerFrom xk xv r i p (j.val + 1)
      = (stepAcc xk xv r i j (innerFrom xk xv r i p j.val).1, stepCarry xk xv r i j (innerFrom xk xv r i p j.val).2) :=
  dif_pos j.isLt

set_option warn.classDefReducibility false in
/-- The inner loop's invariant: accumulators and carried values are those of the recursion. -/
@[sl_loop] def loopInv_inner (c : Dev nD) (E : Set ℕ) (g : grid0.Coords)
    (arg1 : Memref sig .tc .vmem S4096x256 .bf16) (harg1 : arg1.IsWhole) (arg2 : Memref sig .tc .vmem S4096x256 .bf16) (harg2 : arg2.IsWhole)
    (arg3 : Memref sig .tc .vmem S4096x128 .bf16) (harg3 : arg3.IsWhole) (arg4 : Memref sig .tc .vmem S4096x128 .f32) (harg4 : arg4.IsWhole)
    (arg5 : Memref sig .tc .vmem S4096x128 .f32) (harg5 : arg5.IsWhole) (arg6 : Memref sig .tc .vmem S1x2x4096x1 .f32) (harg6 : arg6.IsWhole)
    (arg7 : Memref sig .tc .vmem S4096x256 .f32) (harg7 : arg7.IsWhole) (arg8 : Memref sig .tc .vmem S4096x256 .f32) (harg8 : arg8.IsWhole)
    (arg9 : Memref sig .tc .vmem S4096x128 .bf16) (harg9 : arg9.IsWhole) (arg10 : Memref sig .tc .vmem S8x256x512 .f32) (harg10 : arg10.IsWhole)
    (arg11 : Memref sig .tc .vmem S8x128x512 .f32) (harg11 : arg11.IsWhole)
    (v11 : IVec S1024x512 1) (i : Fin k0_t1_loop.trips) (w : BitVec 32) (v30 : FVec F S1024x256 .bf16) (v48 v55 : FVec F S1024x1 .f32)
    (v56 : FVec F S1024x128 .bf16) (v58 : FVec F S128x1024 .bf16)
    (f2 : BufTy.Contents (Elt F) arg2.view.ty) (f3 : BufTy.Contents (Elt F) arg3.view.ty) (p : Acc F × FVec F S1024x256 .f32) :
    LoopInv (M := 𝕄) frame (wpE (defs₀ (F := F)) Variants.none c none) E (k0_t2_loop i).lb (k0_t2_loop i).ub (k0_t2_loop i).st (k0_t2_ok i)
      (k0_pay32 (F := F))
      (k0_t2_body g arg1 harg1 arg2 harg2 arg3 harg3 arg4 harg4 arg5 harg5 arg6 harg6 arg7 harg7 arg8 harg8 arg9 harg9 arg10 harg10 arg11 harg11
            v11 i w v30 v48 v55 v56 v58) where
  inv n a := iprop((arg2.view.loc (c : Thread nD τ) ↦[arg2.view.set]{fullShare} f2) ∗ (arg3.view.loc (c : Thread nD τ) ↦[arg3.view.set]{fullShare} f3)
    ∗ (∃ e10, (arg10.view.loc (c : Thread nD τ) ↦[arg10.view.set]{fullShare} e10)
    ∗ (∃ e11, (arg11.view.loc (c : Thread nD τ) ↦[arg11.view.set]{fullShare} e11)
    ∗ ⌜((⟨arg10.view.read (Elt F) e10, arg11.view.read (Elt F) e11⟩ : Acc F), a)
        = innerFrom (arg2.view.read (Elt F) f2) (arg3.view.read (Elt F) f3) ⟨v30, v48, v55, v56, v58⟩ i p n⌝)))
  step j a := by
    iintro ⟨H2, H3, ⟨%e10, H10, ⟨%e11, H11, %he⟩⟩⟩
    iapply (wp_wand_r Idealize.ShloMosaic.frame (wpE (defs₀ (F := F)) Variants.none (c : Thread nD τ) none) E)
    isplitl [H2 H3 H10 H11]
    · iapply (trip_inner c g arg1 harg1 arg2 harg2 arg3 harg3 arg4 harg4 arg5 harg5 arg6 harg6 arg7 harg7 arg8 harg8 arg9 harg9 arg10 harg10
        arg11 harg11 E v11 i w ⟨v30, v48, v55, v56, v58⟩ (arg2.view.read (Elt F) f2) (arg3.view.read (Elt F) f3)
        ⟨arg10.view.read (Elt F) e10, arg11.view.read (Elt F) e11⟩ j a)
      unfold Held owns
      isplitl [H2]
      · iapply (owns_read c arg2 f2 _ rfl); iexact H2
      isplitl [H3]
      · iapply (owns_read c arg3 f3 _ rfl); iexact H3
      isplitl [H10]
      · iapply (owns_read c arg10 e10 _ rfl); iexact H10
      iapply (owns_read c arg11 e11 _ rfl); iexact H11
    · unfold Held owns
      iintro %y ⟨%hy, ⟨%g2, %hg2, H2⟩, ⟨%g3, %hg3, H3⟩, ⟨%g10, %hg10, H10⟩, ⟨%g11, %hg11, H11⟩⟩
      obtain rfl := harg2.read_bijective.1 hg2
      obtain rfl := harg3.read_bijective.1 hg3
      isplitl [H2]; · iexact H2
      isplitl [H3]; · iexact H3
      iexists _; isplitl [H10]; · iexact H10
      iexists _; isplitl [H11]; · iexact H11
      ipureintro
      rw [innerFrom_succ, ← he, hy, hg10, hg11]

end Cert.MlaRun
-- ==== Proof.MlaOuter.lean ====
/-
  The outer loop of the latent attention's backward kernel, one trip for each query block: the row's values, the inner
  loop over the key blocks before the diagonal, the diagonal block, and the store of the row's gradient.
-/
module

public import proofs.«01_k».proof.Proof.MlaInner

@[expose] public section

set_option maxRecDepth 16384

noncomputable section

namespace Cert.MlaRun

open Cert.MlaIdeal Cert.MlaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow (window put)

variable {F : FTy → Type} [FloatOps F] [Named F]

local notation "𝕄" => MT nD τ sig Unit (Elt F) ℕ (UR sig nD τ) ℕ

/-- The kernel's input blocks at one grid point. -/
structure Ins (F : FTy → Type) where
  q : Vec F S4096x256 .bf16
  k : Vec F S4096x256 .bf16
  v : Vec F S4096x128 .bf16
  dO : Vec F S4096x128 .f32
  o : Vec F S4096x128 .f32
  lse : Vec F S1x2x4096x1 .f32

/-- The contents the outer loop updates. -/
structure Full (F : FTy → Type) where
  acc : Acc F
  dq : Vec F S4096x256 .f32

section Step

variable (x : Ins F) (i : Fin k0_t1_loop.trips)

/-- A query block's values. -/
def rowVals : RowVals F where
  qs := k0_pay25 (window x.q (k0_off1 i) S512x256.size (k0_off1_inb i))
  delta := k0_pay27 (window x.dO (k0_off2 i) S512x128.size (k0_off2_inb i)) (window x.o (k0_off2 i) S512x128.size (k0_off2_inb i))
  lse := k0_pay28 (window x.lse (k0_off3 i) S1x1x512x1.size (k0_off3_inb i)) (window x.lse (k0_off4 i) S1x1x512x1.size (k0_off4_inb i))
  dos := k0_pay29 (window x.dO (k0_off2 i) S512x128.size (k0_off2_inb i))
  dosT := k0_pay30 (window x.dO (k0_off2 i) S512x128.size (k0_off2_inb i))

/-- The accumulators and the carried values after the inner loop. -/
def inner (s : Acc F) : Acc F × FVec F S1024x256 .f32 :=
  innerFrom x.k x.v (rowVals x i) i (s, k0_pay32 (F := F)) (k0_t2_loop i).trips

/-- The keys and the values of the diagonal block. -/
def diagK : Vec F S512x256 .bf16 := window x.k (k0_off1 i) S512x256.size (k0_off1_inb i)
def diagV : Vec F S512x128 .bf16 := window x.v (k0_off2 i) S512x128.size (k0_off2_inb i)

/-- The gradient of the scores of the diagonal block. -/
def diagDs : FVec F S1024x512 .bf16 :=
  k0_pay39 k0_pay3 (rowVals x i).qs (rowVals x i).delta (rowVals x i).lse (rowVals x i).dos (diagK x i) (diagV x i)

/-- The accumulators after the diagonal block, from those after the inner loop. -/
def diagAcc (s : Acc F) : Acc F where
  dk := put s.dk (k0_off14 i) S1x256x512.size
    (k0_pay5 (k0_pay31 (rowVals x i).qs) (diagDs x i) (window s.dk (k0_off14 i) S1x256x512.size (k0_off14_inb i)))
  dv := put s.dv (k0_off13 i) S1x128x512.size
    (k0_pay4 (k0_pay41 (window s.dv (k0_off13 i) S1x128x512.size (k0_off13_inb i)))
      (k0_pay42 k0_pay3 (rowVals x i).qs (rowVals x i).lse (rowVals x i).dosT (diagK x i))
      (k0_pay43 k0_pay3 (rowVals x i).qs (rowVals x i).lse (rowVals x i).dosT (diagK x i)))

/-- The row block of the queries' gradient, from what the inner loop carried out. -/
def rowDq (a : FVec F S1024x256 .f32) : Vec F S512x256 .f32 := k0_pay6 a (k0_pay37 (diagK x i)) (diagDs x i)

/-- One trip of the outer loop. -/
def stepFull (s : Full F) : Full F where
  acc := diagAcc x i (inner x i s.acc).1
  dq := put s.dq (k0_off1 i) S512x256.size (rowDq x i (inner x i s.acc).2)

end Step

section Trip

variable (c : Dev nD) (g : grid0.Coords)
  (arg1 : Memref sig .tc .vmem S4096x256 .bf16) (harg1 : arg1.IsWhole) (arg2 : Memref sig .tc .vmem S4096x256 .bf16) (harg2 : arg2.IsWhole)
  (arg3 : Memref sig .tc .vmem S4096x128 .bf16) (harg3 : arg3.IsWhole) (arg4 : Memref sig .tc .vmem S4096x128 .f32) (harg4 : arg4.IsWhole)
  (arg5 : Memref sig .tc .vmem S4096x128 .f32) (harg5 : arg5.IsWhole) (arg6 : Memref sig .tc .vmem S1x2x4096x1 .f32) (harg6 : arg6.IsWhole)
  (arg7 : Memref sig .tc .vmem S4096x256 .f32) (harg7 : arg7.IsWhole) (arg8 : Memref sig .tc .vmem S4096x256 .f32) (harg8 : arg8.IsWhole)
  (arg9 : Memref sig .tc .vmem S4096x128 .bf16) (harg9 : arg9.IsWhole) (arg10 : Memref sig .tc .vmem S8x256x512 .f32) (harg10 : arg10.IsWhole)
  (arg11 : Memref sig .tc .vmem S8x128x512 .f32) (harg11 : arg11.IsWhole)

/-- The input blocks, held. -/
abbrev HeldIns (x : Ins F) : sProp 𝕄 :=
  iprop(owns (c : Thread nD τ) arg1 fullShare x.q ∗ owns (c : Thread nD τ) arg2 fullShare x.k ∗ owns (c : Thread nD τ) arg3 fullShare x.v
    ∗ owns (c : Thread nD τ) arg4 fullShare x.dO ∗ owns (c : Thread nD τ) arg5 fullShare x.o ∗ owns (c : Thread nD τ) arg6 fullShare x.lse)

/-- The updated buffers, held. -/
abbrev HeldOuts (s : Full F) : sProp 𝕄 :=
  iprop(owns (c : Thread nD τ) arg7 fullShare s.dq ∗ owns (c : Thread nD τ) arg10 fullShare s.acc.dk ∗ owns (c : Thread nD τ) arg11 fullShare s.acc.dv)

include harg1 harg2 harg3 harg4 harg5 harg6 harg7 harg8 harg9 harg10 harg11 in
set_option maxHeartbeats 2000000 in
/-- One trip of the outer loop: the contents step. -/
theorem trip_outer (E : Set ℕ) (x : Ins F) (s : Full F) (i : Fin k0_t1_loop.trips) :
    iprop(HeldIns c arg1 arg2 arg3 arg4 arg5 arg6 x ∗ HeldOuts c arg7 arg10 arg11 s)
      ⊢ wp frame (wpE (defs₀ (F := F)) Variants.none c none) E
          (k0_t1_body g arg1 harg1 arg2 harg2 arg3 harg3 arg4 harg4 arg5 harg5 arg6 harg6 arg7 harg7 arg8 harg8 arg9 harg9 arg10 harg10 arg11 harg11
            i PUnit.unit)
          (fun _ => iprop(HeldIns c arg1 arg2 arg3 arg4 arg5 arg6 x ∗ HeldOuts c arg7 arg10 arg11 (stepFull x i s))) := by
  unfold k0_t1_body
  simp only [k0_part3_eq_skeleton, k0_part4_eq_skeleton]
  unfold HeldIns HeldOuts owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩⟩,
    ⟨%f7, %hf7, H7⟩, ⟨%f10, %hf10, H10⟩, ⟨%f11, %hf11, H11⟩⟩
  obtain ⟨xq, xk, xv, xdO, xo, xlse⟩ := x
  obtain ⟨⟨sdk, sdv⟩, sdq⟩ := s
  dsimp only at hf1 hf2 hf3 hf4 hf5 hf6 hf7 hf10 hf11
  subst hf1 hf2 hf3 hf4 hf5 hf6 hf7 hf10 hf11
  sl_exec
  rename_i acc
  sl_step
  have hi := ‹_ = innerFrom _ _ _ _ _ _›
  have hs : inner ⟨arg1.view.read (Elt F) f1, arg2.view.read (Elt F) f2, arg3.view.read (Elt F) f3, arg4.view.read (Elt F) f4, arg5.view.read (Elt F) f5,
        arg6.view.read (Elt F) f6⟩ i ⟨arg10.view.read (Elt F) f10, arg11.view.read (Elt F) f11⟩
      = _ := hi.symm
  isplitl [H1 H2 H3 H4 H5 H6]
  · isplitl [H1]
    · iapply (owns_read c arg1 f1 _ rfl); iexact H1
    isplitl [H2]
    · iapply (owns_read c arg2 f2 _ rfl); iexact H2
    isplitl [H3]
    · iapply (owns_read c arg3 f3 _ rfl); iexact H3
    isplitl [H4]
    · iapply (owns_read c arg4 f4 _ rfl); iexact H4
    isplitl [H5]
    · iapply (owns_read c arg5 f5 _ rfl); iexact H5
    iapply (owns_read c arg6 f6 _ rfl); iexact H6
  unfold stepFull
  rw [hs]
  isplitl [H7]
  · iapply (owns_read c arg7 _ _ ?_)
    swap; · iexact H7
    rw [View.read_writes_cons_put _ _ _ _ _ rfl, View.writes_nil]
    rfl
  isplitl [H10]
  · iapply (owns_read c arg10 _ _ ?_)
    swap; · iexact H10
    rw [View.read_writes_cons_put _ _ _ _ _ rfl, View.writes_nil]
    rfl
  iapply (owns_read c arg11 _ _ ?_)
  swap; · iexact H11
  rw [View.read_writes_cons_put _ _ _ _ _ rfl, View.writes_nil]
  rfl

end Trip

end Cert.MlaRun
-- ==== Proof.MlaBody.lean ====
/-
  The whole body of the latent attention's backward kernel at one grid point: the accumulators are cleared, the outer
  loop runs over the query blocks, and a last loop writes the gradients of the keys and of the values.
-/
module

public import proofs.«01_k».proof.Proof.MlaOuter

@[expose] public section

set_option maxRecDepth 16384

noncomputable section

namespace Cert.MlaRun

open Cert.MlaIdeal Cert.MlaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow (window put)

variable {F : FTy → Type} [FloatOps F] [Named F]

local notation "𝕄" => MT nD τ sig Unit (Elt F) ℕ (UR sig nD τ) ℕ

/-- The contents after `n` trips of the outer loop. -/
abbrev outerFrom (x : Ins F) (p : Full F) (n : ℕ) : Full F :=
  Nat.rec (motive := fun _ => Full F) p (fun n s => if h : n < k0_t1_loop.trips then stepFull x ⟨n, h⟩ s else s) n

theorem outerFrom_succ (x : Ins F) (p : Full F) (i : Fin k0_t1_loop.trips) : outerFrom x p (i.val + 1) = stepFull x i (outerFrom x p i.val) :=
  dif_pos i.isLt

/-- What the last loop writes: the two gradients of the key blocks done so far. -/
structure Stored (F : FTy → Type) where
  dk : Vec F S4096x256 .f32
  dv : Vec F S4096x128 .bf16

/-- One trip of the last loop: a key block's gradients, transposed back and written out. -/
def stepStore (s : Acc F) (j : Fin k0_t4_loop.trips) (o : Stored F) : Stored F where
  dk := put o.dk (k0_off16 j) S512x256.size (k0_pay7 (window s.dk (k0_off15 j) S1x256x512.size (k0_off15_inb j)))
  dv := put o.dv (k0_off18 j) S512x128.size (k0_pay8 (window s.dv (k0_off17 j) S1x128x512.size (k0_off17_inb j)))

/-- The two gradients after `n` trips of the last loop. -/
abbrev storeFrom (s : Acc F) (o : Stored F) (n : ℕ) : Stored F :=
  Nat.rec (motive := fun _ => Stored F) o (fun n o => if h : n < k0_t4_loop.trips then stepStore s ⟨n, h⟩ o else o) n

theorem storeFrom_succ (s : Acc F) (o : Stored F) (j : Fin k0_t4_loop.trips) : storeFrom s o (j.val + 1) = stepStore s j (storeFrom s o j.val) :=
  dif_pos j.isLt

/-- What the outer loop starts from, and what it leaves. -/
def start (dq : Vec F S4096x256 .f32) : Full F := ⟨⟨k0_pay1, k0_pay2⟩, dq⟩
def looped (x : Ins F) (dq : Vec F S4096x256 .f32) : Full F := outerFrom x (start dq) k0_t1_loop.trips
/-- The two gradients that the body leaves. -/
def stored (x : Ins F) (dq : Vec F S4096x256 .f32) (o : Stored F) : Stored F := storeFrom (looped x dq).acc o k0_t4_loop.trips

set_option maxHeartbeats 2000000 in
set_option warn.classDefReducibility false in
/-- The outer loop's invariant: the contents are those of the recursion. -/
@[sl_loop] def loopInv_outer (c : Dev nD) (E : Set ℕ) (g : grid0.Coords)
    (arg1 : Memref sig .tc .vmem S4096x256 .bf16) (harg1 : arg1.IsWhole) (arg2 : Memref sig .tc .vmem S4096x256 .bf16) (harg2 : arg2.IsWhole)
    (arg3 : Memref sig .tc .vmem S4096x128 .bf16) (harg3 : arg3.IsWhole) (arg4 : Memref sig .tc .vmem S4096x128 .f32) (harg4 : arg4.IsWhole)
    (arg5 : Memref sig .tc .vmem S4096x128 .f32) (harg5 : arg5.IsWhole) (arg6 : Memref sig .tc .vmem S1x2x4096x1 .f32) (harg6 : arg6.IsWhole)
    (arg7 : Memref sig .tc .vmem S4096x256 .f32) (harg7 : arg7.IsWhole) (arg8 : Memref sig .tc .vmem S4096x256 .f32) (harg8 : arg8.IsWhole)
    (arg9 : Memref sig .tc .vmem S4096x128 .bf16) (harg9 : arg9.IsWhole) (arg10 : Memref sig .tc .vmem S8x256x512 .f32) (harg10 : arg10.IsWhole)
    (arg11 : Memref sig .tc .vmem S8x128x512 .f32) (harg11 : arg11.IsWhole)
    (f1 : BufTy.Contents (Elt F) arg1.view.ty) (f2 : BufTy.Contents (Elt F) arg2.view.ty) (f3 : BufTy.Contents (Elt F) arg3.view.ty)
    (f4 : BufTy.Contents (Elt F) arg4.view.ty) (f5 : BufTy.Contents (Elt F) arg5.view.ty) (f6 : BufTy.Contents (Elt F) arg6.view.ty) (p : Full F) :
    LoopInv (M := 𝕄) frame (wpE (defs₀ (F := F)) Variants.none c none) E k0_t1_loop.lb k0_t1_loop.ub k0_t1_loop.st k0_t1_ok PUnit.unit
      (k0_t1_body g arg1 harg1 arg2 harg2 arg3 harg3 arg4 harg4 arg5 harg5 arg6 harg6 arg7 harg7 arg8 harg8 arg9 harg9 arg10 harg10 arg11 harg11) where
  inv n _ := iprop((arg1.view.loc (c : Thread nD τ) ↦[arg1.view.set]{fullShare} f1)
    ∗ (arg2.view.loc (c : Thread nD τ) ↦[arg2.view.set]{fullShare} f2)
    ∗ (arg3.view.loc (c : Thread nD τ) ↦[arg3.view.set]{fullShare} f3)
    ∗ (arg4.view.loc (c : Thread nD τ) ↦[arg4.view.set]{fullShare} f4)
    ∗ (arg5.view.loc (c : Thread nD τ) ↦[arg5.view.set]{fullShare} f5)
    ∗ (arg6.view.loc (c : Thread nD τ) ↦[arg6.view.set]{fullShare} f6)
    ∗ (∃ e7, (arg7.view.loc (c : Thread nD τ) ↦[arg7.view.set]{fullShare} e7) ∗ (∃ e10, (arg10.view.loc (c : Thread nD τ) ↦[arg10.view.set]{fullShare} e10) ∗ (∃ e11, (arg11.view.loc (c : Thread nD τ) ↦[arg11.view.set]{fullShare} e11)
    ∗ ⌜(⟨⟨arg10.view.read (Elt F) e10, arg11.view.read (Elt F) e11⟩, arg7.view.read (Elt F) e7⟩ : Full F)
        = outerFrom ⟨arg1.view.read (Elt F) f1, arg2.view.read (Elt F) f2, arg3.view.read (Elt F) f3, arg4.view.read (Elt F) f4, arg5.view.read (Elt F) f5, arg6.view.read (Elt F) f6⟩ p n⌝))))
  step i _ := by
    iintro ⟨H1, H2, H3, H4, H5, H6, ⟨%e7, H7, ⟨%e10, H10, ⟨%e11, H11, %he⟩⟩⟩⟩
    iapply (wp_wand_r Idealize.ShloMosaic.frame (wpE (defs₀ (F := F)) Variants.none (c : Thread nD τ) none) E)
    isplitl [H1 H2 H3 H4 H5 H6 H7 H10 H11]
    · iapply (trip_outer c g arg1 harg1 arg2 harg2 arg3 harg3 arg4 harg4 arg5 harg5 arg6 harg6 arg7 harg7 arg8 harg8 arg9 harg9 arg10 harg10 arg11 harg11 E
        ⟨arg1.view.read (Elt F) f1, arg2.view.read (Elt F) f2, arg3.view.read (Elt F) f3, arg4.view.read (Elt F) f4, arg5.view.read (Elt F) f5, arg6.view.read (Elt F) f6⟩
        ⟨⟨arg10.view.read (Elt F) e10, arg11.view.read (Elt F) e11⟩, arg7.view.read (Elt F) e7⟩ i)
      unfold HeldIns HeldOuts owns
      isplitl [H1 H2 H3 H4 H5 H6]
      · isplitl [H1]
        · iapply (owns_read c arg1 f1 _ rfl); iexact H1
        isplitl [H2]
        · iapply (owns_read c arg2 f2 _ rfl); iexact H2
        isplitl [H3]
        · iapply (owns_read c arg3 f3 _ rfl); iexact H3
        isplitl [H4]
        · iapply (owns_read c arg4 f4 _ rfl); iexact H4
        isplitl [H5]
        · iapply (owns_read c arg5 f5 _ rfl); iexact H5
        iapply (owns_read c arg6 f6 _ rfl); iexact H6
      isplitl [H7]
      · iapply (owns_read c arg7 e7 _ rfl); iexact H7
      isplitl [H10]
      · iapply (owns_read c arg10 e10 _ rfl); iexact H10
      iapply (owns_read c arg11 e11 _ rfl); iexact H11
    · unfold HeldIns HeldOuts owns
      iintro %y ⟨⟨⟨%g1, %hg1, H1⟩, ⟨%g2, %hg2, H2⟩, ⟨%g3, %hg3, H3⟩, ⟨%g4, %hg4, H4⟩, ⟨%g5, %hg5, H5⟩, ⟨%g6, %hg6, H6⟩⟩,
        ⟨%g7, %hg7, H7⟩, ⟨%g10, %hg10, H10⟩, ⟨%g11, %hg11, H11⟩⟩
      obtain rfl := harg1.read_bijective.1 hg1
      obtain rfl := harg2.read_bijective.1 hg2
      obtain rfl := harg3.read_bijective.1 hg3
      obtain rfl := harg4.read_bijective.1 hg4
      obtain rfl := harg5.read_bijective.1 hg5
      obtain rfl := harg6.read_bijective.1 hg6
      isplitl [H1]; · iexact H1
      isplitl [H2]; · iexact H2
      isplitl [H3]; · iexact H3
      isplitl [H4]; · iexact H4
      isplitl [H5]; · iexact H5
      isplitl [H6]; · iexact H6
      iexists _; isplitl [H7]; · iexact H7
      iexists _; isplitl [H10]; · iexact H10
      iexists _; isplitl [H11]; · iexact H11
      ipureintro
      rw [outerFrom_succ, ← he, hg7, hg10, hg11]

set_option warn.classDefReducibility false in
/-- The last loop's invariant. -/
@[sl_loop] def loopInv_store (c : Dev nD) (E : Set ℕ) (g : grid0.Coords)
    (arg1 : Memref sig .tc .vmem S4096x256 .bf16) (harg1 : arg1.IsWhole) (arg2 : Memref sig .tc .vmem S4096x256 .bf16) (harg2 : arg2.IsWhole)
    (arg3 : Memref sig .tc .vmem S4096x128 .bf16) (harg3 : arg3.IsWhole) (arg4 : Memref sig .tc .vmem S4096x128 .f32) (harg4 : arg4.IsWhole)
    (arg5 : Memref sig .tc .vmem S4096x128 .f32) (harg5 : arg5.IsWhole) (arg6 : Memref sig .tc .vmem S1x2x4096x1 .f32) (harg6 : arg6.IsWhole)
    (arg7 : Memref sig .tc .vmem S4096x256 .f32) (harg7 : arg7.IsWhole) (arg8 : Memref sig .tc .vmem S4096x256 .f32) (harg8 : arg8.IsWhole)
    (arg9 : Memref sig .tc .vmem S4096x128 .bf16) (harg9 : arg9.IsWhole) (arg10 : Memref sig .tc .vmem S8x256x512 .f32) (harg10 : arg10.IsWhole)
    (arg11 : Memref sig .tc .vmem S8x128x512 .f32) (harg11 : arg11.IsWhole)
    (f10 : BufTy.Contents (Elt F) arg10.view.ty) (f11 : BufTy.Contents (Elt F) arg11.view.ty) (o : Stored F) :
    LoopInv (M := 𝕄) frame (wpE (defs₀ (F := F)) Variants.none c none) E k0_t4_loop.lb k0_t4_loop.ub k0_t4_loop.st k0_t4_ok PUnit.unit
      (k0_t4_body g arg1 harg1 arg2 harg2 arg3 harg3 arg4 harg4 arg5 harg5 arg6 harg6 arg7 harg7 arg8 harg8 arg9 harg9 arg10 harg10 arg11 harg11) where
  inv n _ := iprop((arg10.view.loc (c : Thread nD τ) ↦[arg10.view.set]{fullShare} f10) ∗ (arg11.view.loc (c : Thread nD τ) ↦[arg11.view.set]{fullShare} f11)
    ∗ (∃ e8, (arg8.view.loc (c : Thread nD τ) ↦[arg8.view.set]{fullShare} e8) ∗ (∃ e9, (arg9.view.loc (c : Thread nD τ) ↦[arg9.view.set]{fullShare} e9)
    ∗ ⌜(⟨arg8.view.read (Elt F) e8, arg9.view.read (Elt F) e9⟩ : Stored F)
        = storeFrom ⟨arg10.view.read (Elt F) f10, arg11.view.read (Elt F) f11⟩ o n⌝)))
  step j _ := by
    iintro ⟨H10, H11, ⟨%e8, H8, ⟨%e9, H9, %he⟩⟩⟩
    unfold k0_t4_body
    sl_exec
    sl_step
    isplitl [H10]; · iexact H10
    isplitl [H11]; · iexact H11
    iexists _; isplitl [H8]; · iexact H8
    iexists _; isplitl [H9]; · iexact H9
    ipureintro
    rw [View.read_writes_cons_put _ _ _ _ _ rfl, View.writes_nil, View.read_writes_cons_put _ _ _ _ _ rfl, View.writes_nil, storeFrom_succ, ← he]
    rfl

set_option maxHeartbeats 2000000 in
/-- The whole body: the input blocks stay, and the results' blocks are those of the recursions. -/
theorem body_run (c : Dev nD) (E : Set ℕ) (g : grid0.Coords)
    (arg1 : Memref sig .tc .vmem S4096x256 .bf16) (harg1 : arg1.IsWhole) (arg2 : Memref sig .tc .vmem S4096x256 .bf16) (harg2 : arg2.IsWhole)
    (arg3 : Memref sig .tc .vmem S4096x128 .bf16) (harg3 : arg3.IsWhole) (arg4 : Memref sig .tc .vmem S4096x128 .f32) (harg4 : arg4.IsWhole)
    (arg5 : Memref sig .tc .vmem S4096x128 .f32) (harg5 : arg5.IsWhole) (arg6 : Memref sig .tc .vmem S1x2x4096x1 .f32) (harg6 : arg6.IsWhole)
    (arg7 : Memref sig .tc .vmem S4096x256 .f32) (harg7 : arg7.IsWhole) (arg8 : Memref sig .tc .vmem S4096x256 .f32) (harg8 : arg8.IsWhole)
    (arg9 : Memref sig .tc .vmem S4096x128 .bf16) (harg9 : arg9.IsWhole) (arg10 : Memref sig .tc .vmem S8x256x512 .f32) (harg10 : arg10.IsWhole)
    (arg11 : Memref sig .tc .vmem S8x128x512 .f32) (harg11 : arg11.IsWhole)
    (x : Ins F) :
    iprop(HeldIns c arg1 arg2 arg3 arg4 arg5 arg6 x ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d) ∗ (∃ d, owns (c : Thread nD τ) arg11 fullShare d))
      ⊢ wp frame (wpE (defs₀ (F := F)) Variants.none c none) E (cc0_l0_mla_bwd g arg1 harg1 arg2 harg2 arg3 harg3 arg4 harg4 arg5 harg5 arg6 harg6 arg7 harg7 arg8 harg8 arg9 harg9 arg10 harg10 arg11 harg11)
          (fun _ => iprop(HeldIns c arg1 arg2 arg3 arg4 arg5 arg6 x ∗ ∃ (d : Vec F S4096x256 .f32) (o : Stored F),
            owns (c : Thread nD τ) arg7 fullShare (looped x d).dq ∗ owns (c : Thread nD τ) arg8 fullShare (stored x d o).dk
              ∗ owns (c : Thread nD τ) arg9 fullShare (stored x d o).dv ∗ (∃ e, owns (c : Thread nD τ) arg10 fullShare e)
              ∗ (∃ e, owns (c : Thread nD τ) arg11 fullShare e))) := by
  simp only [cc0_l0_mla_bwd_eq_skeleton]; unfold cc0_l0_mla_bwd_skel
  unfold HeldIns owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩⟩,
    ⟨%d7, %f7, -, H7⟩, ⟨%d8, %f8, -, H8⟩, ⟨%d9, %f9, -, H9⟩, ⟨%d10, %f10, -, H10⟩, ⟨%d11, %f11, -, H11⟩⟩
  obtain ⟨xq, xk, xv, xdO, xo, xlse⟩ := x
  dsimp only at hf1 hf2 hf3 hf4 hf5 hf6
  subst hf1 hf2 hf3 hf4 hf5 hf6
  sl_exec
  sl_step
  have hq := ‹_ = outerFrom _ _ _›
  have ho := ‹_ = storeFrom _ _ _›
  have hz := hq.trans (show _ = looped ⟨arg1.view.read (Elt F) f1, arg2.view.read (Elt F) f2, arg3.view.read (Elt F) f3, arg4.view.read (Elt F) f4, arg5.view.read (Elt F) f5, arg6.view.read (Elt F) f6⟩ (arg7.view.read (Elt F) f7) from by
    unfold looped start
    unfold body_run.sl.H10_1 body_run.sl.H11_1
    rw [View.read_writes_full, View.read_writes_full])
  have hs := ho.trans (show _ = stored ⟨arg1.view.read (Elt F) f1, arg2.view.read (Elt F) f2, arg3.view.read (Elt F) f3, arg4.view.read (Elt F) f4, arg5.view.read (Elt F) f5, arg6.view.read (Elt F) f6⟩ (arg7.view.read (Elt F) f7) ⟨arg8.view.read (Elt F) f8, arg9.view.read (Elt F) f9⟩ from by
    unfold stored
    rw [← hz])
  isplitl [H1 H2 H3 H4 H5 H6]
  · isplitl [H1]
    · iapply (owns_read c arg1 f1 _ rfl); iexact H1
    isplitl [H2]
    · iapply (owns_read c arg2 f2 _ rfl); iexact H2
    isplitl [H3]
    · iapply (owns_read c arg3 f3 _ rfl); iexact H3
    isplitl [H4]
    · iapply (owns_read c arg4 f4 _ rfl); iexact H4
    isplitl [H5]
    · iapply (owns_read c arg5 f5 _ rfl); iexact H5
    iapply (owns_read c arg6 f6 _ rfl); iexact H6
  iexists (arg7.view.read (Elt F) f7), ⟨arg8.view.read (Elt F) f8, arg9.view.read (Elt F) f9⟩
  rw [← hz, ← hs]
  isplitl [H7]
  · iapply (owns_read c arg7 _ _ rfl); iexact H7
  isplitl [H8]
  · iapply (owns_read c arg8 _ _ rfl); iexact H8
  isplitl [H9]
  · iapply (owns_read c arg9 _ _ rfl); iexact H9
  isplitl [H10]
  · iexists _; iapply (owns_read c arg10 _ _ rfl); iexact H10
  iexists _; iapply (owns_read c arg11 _ _ rfl); iexact H11

end Cert.MlaRun
-- ==== Proof.MlaClosed.lean ====
/-
  What the loops of the latent attention's backward kernel leave, block by block: a row block of the queries' gradient
  depends on what its own row carried only, and no result depends on what was in the results' buffers before.
-/
module

public import proofs.«01_k».proof.Proof.MlaBody
public import proofs.«01_k».proof.Proof.FoxClosed
public import proofs.«01_k».proof.Proof.Blocks

@[expose] public section

set_option maxRecDepth 16384

noncomputable section

namespace Cert.MlaRun

open Cert.MlaIdeal Cert.MlaIdeal.Gen
open Cert.Blocks
open Cert.FoxRun (put_at put_off)
open Idealize.ShloMosaic Idealize.ShloMosaic.TcCoe Idealize.ShloMosaic.Tactic
open Idealize.ShloMosaic.VecWindow (window put)

variable {F : FTy → Type} [FloatOps F] [Named F]

theorem trips1 : k0_t1_loop.trips = 8 := by decide +kernel
theorem trips4 : k0_t4_loop.trips = 8 := by decide +kernel
theorem off1_eq : ∀ i : Fin k0_t1_loop.trips, k0_off1 i = ![512 * i.val, 0] := by decide +kernel
theorem off15_eq : ∀ i : Fin k0_t4_loop.trips, k0_off15 i = ![i.val, 0, 0] := by decide +kernel
theorem off16_eq : ∀ i : Fin k0_t4_loop.trips, k0_off16 i = ![512 * i.val, 0] := by decide +kernel
theorem off17_eq : ∀ i : Fin k0_t4_loop.trips, k0_off17 i = ![i.val, 0, 0] := by decide +kernel
theorem off18_eq : ∀ i : Fin k0_t4_loop.trips, k0_off18 i = ![512 * i.val, 0] := by decide +kernel

/-- A store of a block of 512 rows, entry by entry. -/
theorem put_row {W : ℕ} {α : Type} (X : Shape.Idx ⟨2, ![4096, W]⟩ → α) (off : Fin 2 → ℕ) (i : Fin 8) (hoff : off = ![512 * i.val, 0])
    (w : Shape.Idx ⟨2, ![512, W]⟩ → α) (i' : Fin 8) (r : Fin 512) (e : Fin W) :
    put (s := ⟨2, ![4096, W]⟩) X off (Shape.size ⟨2, ![512, W]⟩) w (ix2 (row i' r) e) = if i' = i then w (ix2 r e) else X (ix2 (row i' r) e) := by
  subst hoff
  by_cases h : i' = i
  · subst h
    rw [if_pos rfl]
    refine put_at (s := ⟨2, ![4096, W]⟩) _ _ (Shape.size ⟨2, ![512, W]⟩) _ _ (ix2 r e) fun a => ?_
    match a with
    | ⟨0, _⟩ => rfl
    | ⟨1, _⟩ => exact (Nat.zero_add _).symm
  · rw [if_neg h]
    refine put_off (s := ⟨2, ![4096, W]⟩) _ _ (Shape.size ⟨2, ![512, W]⟩) _ _ (0 : Fin 2) ?_
    have h' : i'.val ≠ i.val := fun h' => h (Fin.ext h')
    show 512 * i'.val + r.val < 512 * i.val ∨ 512 * i.val + 512 ≤ 512 * i'.val + r.val
    have := r.isLt
    omega

/-- What a row carries after `n` key blocks. -/
abbrev carryFrom (xk : Vec F S4096x256 .bf16) (xv : Vec F S4096x128 .bf16) (r : RowVals F) (i : Fin k0_t1_loop.trips) (a : FVec F S1024x256 .f32) (n : ℕ) :
    FVec F S1024x256 .f32 :=
  Nat.rec (motive := fun _ => FVec F S1024x256 .f32) a (fun n a => if h : n < (k0_t2_loop i).trips then stepCarry xk xv r i ⟨n, h⟩ a else a) n

theorem carryFrom_succ (xk : Vec F S4096x256 .bf16) (xv : Vec F S4096x128 .bf16) (r : RowVals F) (i : Fin k0_t1_loop.trips) (a : FVec F S1024x256 .f32)
    (j : Fin (k0_t2_loop i).trips) : carryFrom xk xv r i a (j.val + 1) = stepCarry xk xv r i j (carryFrom xk xv r i a j.val) := dif_pos j.isLt

/-- What a row block carries out of the inner loop. -/
def carryOut (x : Ins F) (i : Fin k0_t1_loop.trips) : FVec F S1024x256 .f32 :=
  carryFrom x.k x.v (rowVals x i) i (k0_pay32 (F := F)) (k0_t2_loop i).trips

theorem innerFrom_snd (xk : Vec F S4096x256 .bf16) (xv : Vec F S4096x128 .bf16) (r : RowVals F) (i : Fin k0_t1_loop.trips)
    (p : Acc F × FVec F S1024x256 .f32) (n : ℕ) (hn : n ≤ (k0_t2_loop i).trips) : (innerFrom xk xv r i p n).2 = carryFrom xk xv r i p.2 n := by
  induction n with
  | zero => rfl
  | succ n ih =>
    rw [innerFrom_succ xk xv r i p ⟨n, hn⟩, carryFrom_succ xk xv r i p.2 ⟨n, hn⟩]
    exact congrArg (stepCarry xk xv r i ⟨n, hn⟩) (ih (Nat.le_of_lt hn))

theorem inner_snd (x : Ins F) (i : Fin k0_t1_loop.trips) (s : Acc F) : (inner x i s).2 = carryOut x i := innerFrom_snd _ _ _ _ _ _ le_rfl

/-- The accumulators after `n` query blocks. -/
abbrev accFrom (x : Ins F) (s : Acc F) (n : ℕ) : Acc F :=
  Nat.rec (motive := fun _ => Acc F) s (fun n s => if h : n < k0_t1_loop.trips then diagAcc x ⟨n, h⟩ (inner x ⟨n, h⟩ s).1 else s) n

theorem accFrom_succ (x : Ins F) (s : Acc F) (i : Fin k0_t1_loop.trips) :
    accFrom x s (i.val + 1) = diagAcc x i (inner x i (accFrom x s i.val)).1 := dif_pos i.isLt

/-- The accumulators after all query blocks. -/
def accOut (x : Ins F) : Acc F := accFrom x ⟨k0_pay1, k0_pay2⟩ k0_t1_loop.trips

theorem outerFrom_acc (x : Ins F) (p : Full F) (n : ℕ) (hn : n ≤ k0_t1_loop.trips) : (outerFrom x p n).acc = accFrom x p.acc n := by
  induction n with
  | zero => rfl
  | succ n ih =>
    rw [outerFrom_succ x p ⟨n, hn⟩, accFrom_succ x p.acc ⟨n, hn⟩]
    exact congrArg (fun s => diagAcc x ⟨n, hn⟩ (inner x ⟨n, hn⟩ s).1) (ih (Nat.le_of_lt hn))

/-- After `n` trips of the outer loop the first `n` row blocks of the queries' gradient stand. -/
theorem outerFrom_dq (x : Ins F) (p : Full F) (r : Fin 512) (e : Fin 256) (i : Fin 8) (n : ℕ) (hn : n ≤ k0_t1_loop.trips) (hi : i.val < n) :
    (outerFrom x p n).dq (ix2 (row i r) e) = rowDq x (i.cast trips1.symm) (carryOut x (i.cast trips1.symm)) (ix2 r e) := by
  induction n with
  | zero => omega
  | succ n ih =>
    rw [outerFrom_succ x p ⟨n, hn⟩]
    unfold stepFull
    rw [inner_snd]
    have h8 : n < 8 := lt_of_lt_of_eq hn trips1
    refine (put_row (W := 256) _ _ ⟨n, h8⟩ (off1_eq ⟨n, hn⟩) _ i r e).trans ?_
    by_cases h : i.val = n
    · rw [if_pos (Fin.ext h)]
      obtain ⟨i, hi8⟩ := i
      dsimp only at h
      subst h
      rfl
    · rw [if_neg fun h' => h (congrArg Fin.val h')]
      exact ih (Nat.le_of_lt hn) (by omega)

/-- After `n` trips of the last loop the first `n` blocks of the two accumulators stand. -/
theorem storeFrom_dk (s : Acc F) (o : Stored F) (r : Fin 512) (e : Fin 256) (j : Fin 8) (n : ℕ) (hn : n ≤ k0_t4_loop.trips) (hj : j.val < n) :
    (storeFrom s o n).dk (ix2 (row j r) e)
      = k0_pay7 (window s.dk (k0_off15 (j.cast trips4.symm)) S1x256x512.size (k0_off15_inb _)) (ix2 r e) := by
  induction n with
  | zero => omega
  | succ n ih =>
    rw [storeFrom_succ s o ⟨n, hn⟩]
    unfold stepStore
    have h8 : n < 8 := lt_of_lt_of_eq hn trips4
    refine (put_row (W := 256) _ _ ⟨n, h8⟩ (off16_eq ⟨n, hn⟩) _ j r e).trans ?_
    by_cases h : j.val = n
    · rw [if_pos (Fin.ext h)]
      obtain ⟨j, hj8⟩ := j
      dsimp only at h
      subst h
      rfl
    · rw [if_neg fun h' => h (congrArg Fin.val h')]
      exact ih (Nat.le_of_lt hn) (by omega)

theorem storeFrom_dv (s : Acc F) (o : Stored F) (r : Fin 512) (e : Fin 128) (j : Fin 8) (n : ℕ) (hn : n ≤ k0_t4_loop.trips) (hj : j.val < n) :
    (storeFrom s o n).dv (ix2 (row j r) e)
      = k0_pay8 (window s.dv (k0_off17 (j.cast trips4.symm)) S1x128x512.size (k0_off17_inb _)) (ix2 r e) := by
  induction n with
  | zero => omega
  | succ n ih =>
    rw [storeFrom_succ s o ⟨n, hn⟩]
    unfold stepStore
    have h8 : n < 8 := lt_of_lt_of_eq hn trips4
    refine (put_row (W := 128) _ _ ⟨n, h8⟩ (off18_eq ⟨n, hn⟩) _ j r e).trans ?_
    by_cases h : j.val = n
    · rw [if_pos (Fin.ext h)]
      obtain ⟨j, hj8⟩ := j
      dsimp only at h
      subst h
      rfl
    · rw [if_neg fun h' => h (congrArg Fin.val h')]
      exact ih (Nat.le_of_lt hn) (by omega)

/-- An index of a result is a place in a row block. -/
theorem exists_row {W : ℕ} (y : Shape.Idx ⟨2, ![4096, W]⟩) : ∃ (i : Fin 8) (r : Fin 512) (e : Fin W), y = ix2 (row i r) e := by
  refine ⟨blk (y 0), pos (y 0), y 1, ?_⟩
  funext a; match a with
  | ⟨0, _⟩ => exact (row_blk (y 0)).symm
  | ⟨1, _⟩ => rfl

section Closed

variable (x : Ins F) (d : Vec F S4096x256 .f32) (o : Stored F)

theorem looped_acc : (looped x d).acc = accOut x := outerFrom_acc x (start d) _ le_rfl

/-- The queries' gradient, at a row of row block `i`. -/
theorem looped_dq (i : Fin 8) (r : Fin 512) (e : Fin 256) :
    (looped x d).dq (ix2 (row i r) e) = rowDq x (i.cast trips1.symm) (carryOut x (i.cast trips1.symm)) (ix2 r e) :=
  outerFrom_dq x _ r e i _ le_rfl (i.cast trips1.symm).isLt

/-- The keys' gradient, at a row of key block `j`. -/
theorem stored_dk (j : Fin 8) (r : Fin 512) (e : Fin 256) : (stored x d o).dk (ix2 (row j r) e)
    = k0_pay7 (window (accOut x).dk (k0_off15 (j.cast trips4.symm)) S1x256x512.size (k0_off15_inb _)) (ix2 r e) :=
  (storeFrom_dk _ _ r e j _ le_rfl (j.cast trips4.symm).isLt).trans (by rw [looped_acc])

/-- The values' gradient, at a row of key block `j`. -/
theorem stored_dv (j : Fin 8) (r : Fin 512) (e : Fin 128) : (stored x d o).dv (ix2 (row j r) e)
    = k0_pay8 (window (accOut x).dv (k0_off17 (j.cast trips4.symm)) S1x128x512.size (k0_off17_inb _)) (ix2 r e) :=
  (storeFrom_dv _ _ r e j _ le_rfl (j.cast trips4.symm).isLt).trans (by rw [looped_acc])

variable (d' : Vec F S4096x256 .f32) (o' : Stored F)

/-- No result depends on what was in the results' buffers. -/
theorem looped_dq_indep : (looped x d).dq = (looped x d').dq := by
  funext y
  obtain ⟨i, r, e, rfl⟩ := exists_row (W := 256) y
  exact (looped_dq x d i r e).trans (looped_dq x d' i r e).symm
theorem stored_dk_indep : (stored x d o).dk = (stored x d' o').dk := by
  funext y
  obtain ⟨j, r, e, rfl⟩ := exists_row (W := 256) y
  exact (stored_dk x d o j r e).trans (stored_dk x d' o' j r e).symm
theorem stored_dv_indep : (stored x d o).dv = (stored x d' o').dv := by
  funext y
  obtain ⟨j, r, e, rfl⟩ := exists_row (W := 128) y
  exact (stored_dv x d o j r e).trans (stored_dv x d' o' j r e).symm

end Closed

end Cert.MlaRun
-- ==== Proof.MlaLaunch.lean ====
/-
  The launch of the latent attention's backward kernel: what its three results hold after each head pair, the body's
  obligation at every grid point, and the frame.
-/
module

public import proofs.«01_k».proof.Proof.MlaClosed
public import proofs.«01_k».proof.Proof.Gen.MlaIdeal.Frame
public import Idealize.ShloMosaic.Lib.Claim

@[expose] public section

set_option maxRecDepth 16384

noncomputable section

namespace Cert.MlaRun

open Cert.MlaIdeal Cert.MlaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Zeros, as the buffers' former contents: the results do not depend on them. -/
def zeroDq : Vec F S4096x256 .f32 := constant S4096x256 .f32 0x00000000#32
def zeroKv : Stored F := ⟨constant S4096x256 .f32 0x00000000#32, constant S4096x128 .bf16 0x0000#16⟩

/-- The three gradients of one head pair. -/
def dqBlock (x : Ins F) : Vec F S4096x256 .f32 := (looped x zeroDq).dq
def dkBlock (x : Ins F) : Vec F S4096x256 .f32 := (stored x zeroDq zeroKv).dk
def dvBlock (x : Ins F) : Vec F S4096x128 .bf16 := (stored x zeroDq zeroKv).dv

/-- The input blocks of grid point `t`. -/
def insAt (c : Dev nD) (t : Fin cfg0.N) : Ins F where
  q := iblk m c 0 t
  k := iblk m c 1 t
  v := iblk m c 2 t
  dO := iblk m c 3 t
  o := iblk m c 4 t
  lse := iblk m c 5 t

/-- The proof data: the inputs stay, the results hold the head pair's gradients. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => dqBlock (insAt m c t)
    | ⟨7, _⟩ => dkBlock (insAt m c t)
    | ⟨8, _⟩ => dvBlock (insAt m c t)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

section After

variable (c : Dev nD) (t : Fin cfg0.N)

theorem after0_0 : (dats m 0 c).after 0 t = iblk m c 0 t := by dsimp only [dats]
theorem after0_1 : (dats m 0 c).after 1 t = iblk m c 1 t := by dsimp only [dats]
theorem after0_2 : (dats m 0 c).after 2 t = iblk m c 2 t := by dsimp only [dats]
theorem after0_3 : (dats m 0 c).after 3 t = iblk m c 3 t := by dsimp only [dats]
theorem after0_4 : (dats m 0 c).after 4 t = iblk m c 4 t := by dsimp only [dats]
theorem after0_5 : (dats m 0 c).after 5 t = iblk m c 5 t := by dsimp only [dats]
theorem after0_6 : (dats m 0 c).after 6 t = dqBlock (insAt m c t) := by dsimp only [dats]
theorem after0_7 : (dats m 0 c).after 7 t = dkBlock (insAt m c t) := by dsimp only [dats]
theorem after0_8 : (dats m 0 c).after 8 t = dvBlock (insAt m c t) := by dsimp only [dats]

theorem before0_0 (d) : (dats m 0 c).before 0 t d = iblk m c 0 t := before0_0_of m (dats m 0 c) (A_eq m c 0) (after0_0 m c) t d
theorem before0_1 (d) : (dats m 0 c).before 1 t d = iblk m c 1 t := before0_1_of m (dats m 0 c) (A_eq m c 1) (after0_1 m c) t d
theorem before0_2 (d) : (dats m 0 c).before 2 t d = iblk m c 2 t := before0_2_of m (dats m 0 c) (A_eq m c 2) (after0_2 m c) t d
theorem before0_3 (d) : (dats m 0 c).before 3 t d = iblk m c 3 t := before0_3_of m (dats m 0 c) (A_eq m c 3) (after0_3 m c) t d
theorem before0_4 (d) : (dats m 0 c).before 4 t d = iblk m c 4 t := before0_4_of m (dats m 0 c) (A_eq m c 4) (after0_4 m c) t d
theorem before0_5 (d) : (dats m 0 c).before 5 t d = iblk m c 5 t := before0_5_of m (dats m 0 c) (A_eq m c 5) (after0_5 m c) t d

end After

/-- What the launch hands the region, the two accumulators as memrefs. -/
theorem PhiA0_eq (c : Dev nD) : (Pipeline.ΦA spec0 c : sProp 𝕄)
    = iprop(((∃ d, owns (c : Thread nD τ) (Memref.whole cc0_scratch0) fullShare d)
        ∗ (∃ d, owns (c : Thread nD τ) (Memref.whole cc0_scratch1) fullShare d)) ∗ (∃ r, prngReg c r)) := by
  unfold Pipeline.ΦA; rw [scopedRest0_eq]; simp only [owns_whole]; try rfl

/-- A window's staging buffer before the body, and after. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 2000000 in
/-- The body at any grid point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5, after0_6, after0_7, after0_8,
    show (dats m 0 c).Φ t.succ = Pipeline.ΦA spec0 c from rfl, show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (wp_wand_r frame (wpE (defs₀ (F := F)) Variants.none c none) Set.univ)
  isplitl [H0 H1 H2 H3 H4 H5 H6 H7 H8 HS0 HS1]
  · iapply (body_run c Set.univ (grid0.coords t) _ _ _ _ _ _ _ _ _ _ _ _ _ _ _ _ _ _ _ _ _ _ (insAt m c t))
    unfold HeldIns
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [H6]; · iexists _; iexact H6
    isplitl [H7]; · iexists _; iexact H7
    isplitl [H8]; · iexists _; iexact H8
    isplitl [HS0]; · iexact HS0
    iexact HS1
  iintro %u ⟨HI, %d, %o, G6, G7, G8, GS0, GS1⟩
  rw [looped_dq_indep _ d zeroDq, stored_dk_indep _ d o zeroDq zeroKv, stored_dv_indep _ d o zeroDq zeroKv]
  unfold HeldIns
  icases HI with ⟨H0, H1, H2, H3, H4, H5⟩
  isplitl [GS0 GS1 Hg]
  · isplitr [Hg]
    · isplitl [GS0]; · iexact GS0
      iexact GS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [G6]; · iexact G6
  isplitl [G7]; · iexact G7
  iexact G8

/-- The call the pipeline makes is the body at the point. -/
theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: the arrays end as the proof data says, with every semaphore counter at zero. -/
theorem run_main_quiescent : θ_run defs (onTc (τ := τ) (main (F := F))) (s₀ m ρ)
    (fun r => Pipeline.FramePost cfgs (dats m) 0 (V m) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl) (howed := fun _ _ => rfl) (V := V m)
    (hmain := hmain m Variants.none) (hA := A_eq m) (hΦ := fun _ _ => rfl)

/-- The frame: the arguments end unchanged and every counter is zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_main_quiescent m ρ)))
    ((θ_run defs _ _).mono (fun _ h => h.2) (run_main_quiescent m ρ))

end Cert.MlaRun
-- ==== Proof.MlaFrame.lean ====
/-
  The frame of the latent attention's backward kernel over words, from the one run proved for any float values.
-/
module

public import proofs.«01_k».proof.Proof.MlaLaunch
public import proofs.«01_k».proof.Proof.FoxFrame
public import proofs.«01_k».proof.Proof.Gen.Mla

@[expose] public section

set_option maxRecDepth 16384

noncomputable section

namespace Cert.MlaFrame

open Idealize.ShloMosaic Idealize.ShloMosaic.TcCoe Idealize.ShloMosaic.Tactic
open Idealize.SL Idealize.SL.Sem

/-- The two runs are the same. -/
theorem same (m : (ℓ : Loc Cert.Mla.nD Cert.Mla.τ Cert.Mla.sig) → Buf (Elt Bits) ℓ) (ρ : Dev Cert.Mla.nD → PrngReg) :
    @θ_run _ _ _ _ _ (Cert.Mla.defs (F := Bits)) (onTc (τ := Cert.Mla.τ) (Cert.Mla.main (F := Bits))) ⟨m, fun _ => 0, ρ⟩
      = θ_run (Cert.MlaIdeal.defs (F := Bits)) (onTc (τ := Cert.MlaIdeal.τ) (Cert.MlaIdeal.main (F := Bits))) ⟨m, fun _ => 0, ρ⟩ := by
  sl_kernel_rfl

theorem frame_bits (m : (ℓ : Loc Cert.Mla.nD Cert.Mla.τ Cert.Mla.sig) → Buf (Elt Bits) ℓ) (ρ : Dev Cert.Mla.nD → PrngReg) :
    θ_run Cert.Mla.defs (onTc (τ := Cert.Mla.τ) (Cert.Mla.main (F := Bits))) ⟨m, fun _ => 0, ρ⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2)
      ∧ r.2.mem ((c.tc : Thread Cert.Mla.nD Cert.Mla.τ).loc Cert.Mla.main_arg3) = m ((c.tc : Thread Cert.Mla.nD Cert.Mla.τ).loc Cert.Mla.main_arg3))
      ∧ r.2.sem = fun _ => 0) := by
  rw [same m ρ]
  exact Cert.MlaRun.frame_any (F := Bits) m ρ

end Cert.MlaFrame
-- ==== Proof.MlaReal.lean ====
/-
  The latent attention and its gradient over the reals: scores over `√96`, causal mask, softmax, and the gradients of queries, keys and
  values.
-/
module

public import proofs.«01_k».proof.Proof.AttnMath

@[expose] public section

noncomputable section

namespace Cert.MlaReal

open Idealize.ShloMosaic Cert.AttnMath

abbrev QIdx := (⟨3, ![4096, 8, 96]⟩ : Shape).Idx
abbrev VIdx := (⟨3, ![4096, 8, 64]⟩ : Shape).Idx
abbrev GIdx := (⟨2, ![4096, 512]⟩ : Shape).Idx

/-- The arguments: queries, keys, values and the cotangent of the output. -/
structure Args where
  q : QIdx → ℝ
  k : QIdx → ℝ
  v : VIdx → ℝ
  g : GIdx → ℝ

variable (a : Args) (h : Fin 8)

/-- Queries, keys, values and cotangents of a head, by position and feature. -/
def qf (I : Fin 4096) (d : Fin 96) : ℝ := a.q (ix3 I h d)
def kf (I : Fin 4096) (d : Fin 96) : ℝ := a.k (ix3 I h d)
def vf (I : Fin 4096) (d : Fin 64) : ℝ := a.v (ix3 I h d)
def gf (I : Fin 4096) (d : Fin 64) : ℝ := a.g (ix2 I ⟨h * 64 + d, by omega⟩)

/-- A row of features on 128 lanes, of which the last 32 are zero. -/
def lane (f : Fin 96 → ℝ) (e : ℕ) : ℝ := if he : e < 96 then f ⟨e, he⟩ else 0

theorem sum_lane (f g : Fin 96 → ℝ) : ∑ d : Fin 128, lane f d * lane g d = ∑ d, f d * g d := by
  show ∑ d : Fin (96 + 32), lane f d * lane g d = _
  rw [Fin.sum_univ_add, add_eq_left.mpr]
  · exact Finset.sum_congr rfl fun d _ => congrArg₂ (· * ·) (dif_pos d.isLt) (dif_pos d.isLt)
  · exact Finset.sum_eq_zero fun d _ => (congrArg (· * _) (dif_neg (by show ¬ 96 + d.val < 96; omega))).trans (zero_mul _)

/-- The root of the number of features. -/
def root : ℝ := Real.sqrt 96
theorem root_pos : 0 < root := Real.sqrt_pos.mpr (by norm_num)

/-- The score of key `J` for query `I`. -/
def S (I J : Fin 4096) : ℝ := (∑ d, qf a h I d * kf a h J d) / root

/-- The score with the later keys masked. -/
def Sm (I J : Fin 4096) : EReal := if J ≤ I then ((S a h I J : ℝ) : EReal) else ⊥

/-- A row's maximum. -/
def Mx (I : Fin 4096) : ℝ := (Finset.univ.fold max ⊥ (Sm a h I)).toReal

theorem fold_max (I : Fin 4096) : Finset.univ.fold max ⊥ (Sm a h I) = ((Mx a h I : ℝ) : EReal) := by
  obtain ⟨M, hM⟩ := exists_max (Sm a h I) (fun J => by unfold Sm; split <;> simp) I (by unfold Sm; rw [if_pos le_rfl]; simp)
  unfold Mx
  rw [hM, EReal.toReal_coe]

/-- Exponentials, their sum, probabilities of a row. -/
def E (I J : Fin 4096) : ℝ := ex (fun J => J ≤ I) (S a h I) (Mx a h I) J
def L (I : Fin 4096) : ℝ := den (fun J => J ≤ I) (S a h I) (Mx a h I)
def P (I J : Fin 4096) : ℝ := pr (fun J => J ≤ I) (S a h I) (Mx a h I) J

theorem L_pos (I : Fin 4096) : 0 < L a h I := den_pos _ _ _ ⟨I, le_rfl⟩

/-- The gradient of a probability, and of a score. -/
def dP (I J : Fin 4096) : ℝ := ∑ d, gf a h I d * vf a h J d
def dS (I J : Fin 4096) : ℝ := dsc (fun J => J ≤ I) (S a h I) (Mx a h I) (dP a h I) J

/-- The output of the attention. -/
def O (I : Fin 4096) (d : Fin 64) : ℝ := ∑ J, vf a h J d * P a h I J

/-- The gradients of queries and keys, on 128 lanes of which the last 32 are zero, and of the values. -/
def dQ (I : Fin 4096) (e : ℕ) : ℝ := if he : e < 96 then (∑ J, dS a h I J * kf a h J ⟨e, he⟩) / root else 0
def dK (J : Fin 4096) (e : ℕ) : ℝ := if he : e < 96 then (∑ I, dS a h I J * qf a h I ⟨e, he⟩) / root else 0
def dV (J : Fin 4096) (d : Fin 64) : ℝ := ∑ I, gf a h I d * P a h I J

theorem delta (I : Fin 4096) : ∑ d, gf a h I d * O a h I d = ∑ J, P a h I J * dP a h I J :=
  delta_eq _ _ _

end Cert.MlaReal
-- ==== Proof.MlaRef.lean ====
/-
  The reference program's arrays, entry by entry: on finite arguments its results are the gradients of `MlaReal`.
-/
module

public import proofs.«01_k».proof.Proof.Gen.MlaReferenceIdeal.Read
public import proofs.«01_k».proof.Proof.MlaReal
public import Idealize.ShloMosaic.Lib.Tactic
public import Idealize.ShloMosaic.Lib.WordCmp

@[expose] public section

set_option maxRecDepth 16384

noncomputable section

namespace Cert.MlaRef

open Cert.MlaReferenceIdeal Cert.MlaReferenceIdeal.Read
open Idealize.ShloMosaic Idealize.ShloMosaic.Tactic Cert.AttnMath Cert.MlaReal

variable (a : Args)

/-- Real arrays as arguments of the program. -/
abbrev Q : (⟨S4096x8x96, .f32⟩ : BufTy).Contents (Elt Ideal) := fun y => ((a.q y : ℝ) : EReal)
abbrev K : (⟨S4096x8x96, .f32⟩ : BufTy).Contents (Elt Ideal) := fun y => ((a.k y : ℝ) : EReal)
abbrev V : (⟨S4096x8x64, .f32⟩ : BufTy).Contents (Elt Ideal) := fun y => ((a.v y : ℝ) : EReal)
abbrev G : (⟨S4096x512, .f32⟩ : BufTy).Contents (Elt Ideal) := fun y => ((a.g y : ℝ) : EReal)

theorem zero_bits : Ideal.ofBits .f32 0x00000000#32 = 0 := by
  simp [Ideal.ofBits, Ideal.ieee]
theorem one_bits : Ideal.ofBits .f32 0x3F800000#32 = ((1 : ℝ) : EReal) := by
  simp [Ideal.ofBits, Ideal.ieee]
  rw [← EReal.coe_mul]
  norm_num
theorem bot_bits : Ideal.ofBits .f32 0xFF800000#32 = (⊥ : EReal) := by
  simp [Ideal.ofBits, Ideal.ieee]
theorem root_bits : Ideal.sqrt (Ideal.ofBits .f32 0x42C00000#32) = ((root : ℝ) : EReal) := by
  have h : Ideal.ofBits .f32 0x42C00000#32 = ((96 : ℝ) : EReal) := by
    simp [Ideal.ofBits, Ideal.ieee]
    rw [← EReal.coe_mul]
    norm_num
  rw [h]
  exact if_neg (by norm_num)

theorem s_at (h : Fin 8) (I J : Fin 4096) : val_main_v3 (F := Ideal) (Q a) (K a) (ix3 h I J) = ((S a h I J : ℝ) : EReal) := by
  unfold val_main_v3 val_main_v2 val_main_v1 val_main_v0 val_main_cst
  pointwise
  simp only [← EReal.coe_mul, coe_sum]
  rw [root_bits, div_real _ _ root_pos.ne']
  rfl

theorem causal (I J : Fin 4096) : IntOp.cmpi CmpIPredicate.sle (BitVec.ofNat 32 J.val) (BitVec.ofNat 32 I.val) = BitVec.ofBool (decide (J ≤ I)) := by
  rw [WordCmp.cmpi_sle_ofNat (by omega) (by omega)]
  rfl

theorem mask_at (h : Fin 8) (I J : Fin 4096) :
    val_main_v10_1 (F := Ideal) (ix3 h I J) = BitVec.ofBool (decide (J ≤ I)) := by
  unfold val_main_v10_1 val_main_v9 val_main_v8 val_main_v7 val_main_v6 val_main_v5 val_main_v4
  pointwise
  exact causal I J

theorem sm_at (h : Fin 8) (I J : Fin 4096) : val_main_v10_0 (F := Ideal) (Q a) (K a) (ix3 h I J) = Sm a h I J := by
  unfold val_main_v10_0 val_main_call0_v2 val_main_call0_v0 val_main_cst_0
  pointwise
  rw [mask_at, Scalar.select_ofBool, s_at]
  unfold Sm
  simp only [decide_eq_true_eq]
  split
  · rfl
  · exact bot_bits

theorem max_at (h : Fin 8) (I : Fin 4096) : val_main_v11 (F := Ideal) (Q a) (K a) (ix2 h I) = ((Mx a h I : ℝ) : EReal) := by
  unfold val_main_v11 val_main_cst_1
  pointwise
  rw [bot_bits]
  simp only [sm_at]
  exact fold_max a h I

theorem max'_at (h : Fin 8) (I : Fin 4096) : val_main_v18 (F := Ideal) (Q a) (K a) (ix2 h I) = ((Mx a h I : ℝ) : EReal) := by
  have hb : val_main_v17 (F := Ideal) (ix2 h I) = (⊥ : EReal) := by
    unfold val_main_v17 val_main_cst_3
    pointwise
    exact bot_bits
  refine (val_main_v18_apply _ _ _).trans ?_
  rw [hb, max_at]
  exact max_eq_right (α := EReal) bot_le

theorem e_at (h : Fin 8) (I J : Fin 4096) : val_main_v31 (F := Ideal) (Q a) (K a) (ix3 h I J) = ((E a h I J : ℝ) : EReal) := by
  unfold val_main_v31 val_main_v30 val_main_v29 val_main_v28
  pointwise
  rw [sm_at, max'_at]
  unfold Sm E ex
  split
  · rw [← EReal.coe_sub]; rfl
  · rfl

theorem l_at (h : Fin 8) (I : Fin 4096) : val_main_v32 (F := Ideal) (Q a) (K a) (ix2 h I) = ((L a h I : ℝ) : EReal) := by
  unfold val_main_v32
  pointwise
  simp only [e_at, coe_sum]
  refine (congrArg (· + _) (?_ : _ = (0 : EReal))).trans (zero_add _)
  exact zero_bits

theorem p_at (h : Fin 8) (I J : Fin 4096) : val_main_v35 (F := Ideal) (Q a) (K a) (ix3 h I J) = ((P a h I J : ℝ) : EReal) := by
  unfold val_main_v35 val_main_v34 val_main_v33
  pointwise
  rw [e_at, l_at, div_real _ _ (L_pos a h I).ne']
  rfl

theorem o_at (h : Fin 8) (I : Fin 4096) (d : Fin 64) : val_main_v40 (F := Ideal) (Q a) (K a) (V a) (ix3 I h d) = ((O a h I d : ℝ) : EReal) := by
  unfold val_main_v40 val_main_v39
  pointwise
  simp only [p_at, ← EReal.coe_mul, coe_sum]
  rfl

theorem g_at (h : Fin 8) (I : Fin 4096) (d : Fin 64) : val_main_v42 (F := Ideal) (G a) (ix3 h d I) = ((gf a h I d : ℝ) : EReal) := by
  unfold val_main_v42 val_main_v41
  pointwise
  rfl

theorem dp_at (h : Fin 8) (I J : Fin 4096) : val_main_v43 (F := Ideal) (V a) (G a) (ix3 h I J) = ((dP a h I J : ℝ) : EReal) := by
  unfold val_main_v43
  pointwise
  simp only [g_at, ← EReal.coe_mul, coe_sum]
  rfl

theorem dv_at (h : Fin 8) (J : Fin 4096) (d : Fin 64) :
    val_main_v44 (F := Ideal) (Q a) (K a) (G a) (ix3 h d J) = ((dV a h J d : ℝ) : EReal) := by
  unfold val_main_v44
  pointwise
  simp only [p_at, g_at, ← EReal.coe_mul, coe_sum]
  rfl

theorem sq_at (h : Fin 8) (I : Fin 4096) (k : Fin 1) :
    val_main_v38 (F := Ideal) (Q a) (K a) (ix3 h I k) = ((1 / (L a h I * L a h I) : ℝ) : EReal) := by
  unfold val_main_v38 val_main_v37 val_main_v36 val_main_v33 val_main_cst_10
  pointwise
  rw [l_at, ← EReal.coe_mul, ← EReal.coe_one, div_real _ _ (mul_pos (L_pos a h I) (L_pos a h I)).ne']

theorem row_at (h : Fin 8) (I : Fin 4096) :
    val_main_v49 (F := Ideal) (Q a) (K a) (V a) (G a) (ix2 h I)
      = ((∑ J, dP a h I J * (1 / (L a h I * L a h I)) * E a h I J : ℝ) : EReal) := by
  unfold val_main_v49 val_main_v48 val_main_v47 val_main_v46
  pointwise
  simp only [e_at, dp_at, sq_at, ← EReal.coe_mul, coe_sum]
  refine (congrArg (· + _) (?_ : _ = (0 : EReal))).trans (zero_add _)
  exact zero_bits

theorem ds_at (h : Fin 8) (I J : Fin 4096) :
    val_main_v58 (F := Ideal) (Q a) (K a) (V a) (G a) (ix3 h I J) = ((dS a h I J : ℝ) : EReal) := by
  unfold val_main_v58 val_main_v57 val_main_v56 val_main_v55 val_main_v54 val_main_v53 val_main_v52 val_main_v51 val_main_v50 val_main_call1_v0 val_main_call1_cst val_main_cst_12
    val_main_v33
  pointwise
  rw [mask_at, Scalar.select_ofBool, row_at, dp_at, l_at, e_at, div_real _ _ (L_pos a h I).ne']
  simp only [decide_eq_true_eq, Finset.univ_unique, Finset.sum_singleton]
  split
  · rw [← EReal.coe_neg, ← EReal.coe_add, ← EReal.coe_mul]
    unfold dS L E
    rw [dsc_quotient (fun J => J ≤ I) _ _ _ ⟨I, le_rfl⟩]
  · unfold dS
    rw [dsc_masked _ _ _ _ J ‹_›]
    exact EReal.coe_zero.symm

theorem dsr_at (h : Fin 8) (I J : Fin 4096) :
    val_main_v60 (F := Ideal) (Q a) (K a) (V a) (G a) (ix3 h I J) = ((dS a h I J / root : ℝ) : EReal) := by
  unfold val_main_v60 val_main_v59 val_main_v1 val_main_cst
  pointwise
  rw [ds_at, root_bits, div_real _ _ root_pos.ne']

theorem dq_at (h : Fin 8) (I : Fin 4096) (d : Fin 96) :
    val_main_v64 (F := Ideal) (Q a) (K a) (V a) (G a) (ix3 I h d) = ((dQ a h I d : ℝ) : EReal) := by
  unfold val_main_v64 val_main_v63
  pointwise
  simp only [dsr_at, ← EReal.coe_mul, coe_sum]
  refine congrArg _ ?_
  unfold dQ
  rw [dif_pos d.isLt, Finset.sum_div]
  exact Finset.sum_congr rfl fun _ _ => div_mul_eq_mul_div _ _ _

theorem dk_at (h : Fin 8) (I : Fin 4096) (d : Fin 96) :
    val_main_v62 (F := Ideal) (Q a) (K a) (V a) (G a) (ix3 I h d) = ((dK a h I d : ℝ) : EReal) := by
  unfold val_main_v62 val_main_v61
  pointwise
  simp only [dsr_at, ← EReal.coe_mul, coe_sum]
  refine congrArg _ ?_
  unfold dK
  rw [dif_pos d.isLt, Finset.sum_div]
  exact Finset.sum_congr rfl fun _ _ => div_mul_eq_mul_div _ _ _

/-- The head and the lane of a column of the queries' and keys' gradients; the head and the feature of a column of the values'. -/
abbrev hw (c : Fin 1024) : Fin 8 := ⟨c / 128, by omega⟩
abbrev hv (c : Fin 512) : Fin 8 := ⟨c / 64, by omega⟩
abbrev ft (c : Fin 512) : Fin 64 := ⟨c % 64, by omega⟩

theorem pad_zero : ((((0#32 : BitVec 32).toInt : ℤ) : ℝ) : EReal) = 0 := by simp

theorem outq_at (I : Fin 4096) (c : Fin 1024) :
    val_main_v66 (F := Ideal) (Q a) (K a) (V a) (G a) (ix2 I c) = ((dQ a (hw c) I (c.val % 128) : ℝ) : EReal) := by
  unfold val_main_v66 val_main_v65 val_main_call2_v0 val_main_c
  pointwise
  split
  · rename_i hc
    exact dq_at a (hw c) I ⟨c.val % 128, hc.2⟩
  · rename_i hc
    unfold dQ
    rw [dif_neg fun h => hc ⟨by omega, h⟩]
    exact pad_zero.trans EReal.coe_zero.symm

theorem outk_at (I : Fin 4096) (c : Fin 1024) :
    val_main_v68 (F := Ideal) (Q a) (K a) (V a) (G a) (ix2 I c) = ((dK a (hw c) I (c.val % 128) : ℝ) : EReal) := by
  unfold val_main_v68 val_main_v67 val_main_call3_v0 val_main_c_13
  pointwise
  split
  · rename_i hc
    exact dk_at a (hw c) I ⟨c.val % 128, hc.2⟩
  · rename_i hc
    unfold dK
    rw [dif_neg fun h => hc ⟨by omega, h⟩]
    exact pad_zero.trans EReal.coe_zero.symm

theorem outv_at (I : Fin 4096) (c : Fin 512) :
    val_main_v70 (F := Ideal) (Q a) (K a) (G a) (ix2 I c) = ((dV a (hv c) I (ft c) : ℝ) : EReal) := by
  unfold val_main_v70 val_main_v69 val_main_v45
  pointwise
  exact dv_at a (hv c) I (ft c)

end Cert.MlaRef
-- ==== Proof.MlaHost.lean ====
/-
  What the host's lines before the launch leave, and what each input block of the launch holds: on finite arguments, the queries and keys on
  128 lanes a head, the values, the cotangent, the attention's output and the row's log-sum.
-/
module

public import proofs.«01_k».proof.Proof.MlaLaunch
public import proofs.«01_k».proof.Proof.MlaRef
public import proofs.«01_k».proof.Proof.Blocks

@[expose] public section

set_option maxRecDepth 16384

noncomputable section

namespace Cert.MlaHost

open Cert.MlaIdeal Cert.MlaIdeal.Gen
open Idealize.ShloMosaic Idealize.ShloMosaic.TcCoe Idealize.ShloMosaic.Tactic
open Cert.MlaReferenceIdeal.Read Cert.AttnMath Cert.MlaReal Cert.Blocks

variable (m : (ℓ : Loc nD τ sig) → Buf (Elt Ideal) ℓ) (c : Dev nD)

/-- Rows of heads on 128 lanes each. -/
def lanes (x : FVec Ideal S4096x8x96 .f32) : FVec Ideal S4096x1024 .f32 :=
  shapeCast S4096x1024 (pad S4096x8x128 ![0, 0, 0] ![0, 0, 32] ![0, 0, 0] x (sitofp (F := Ideal) .f32 (constantI S_ 32 0#32))
    Facts₀.pads_S4096x8x96_S4096x8x128_000_000_0320 Facts₀.h_S_ : FVec Ideal S4096x8x128 .f32) Facts₀.shapeCasts_S4096x8x128_S4096x1024

/-- The queries on 128 lanes a head. -/
theorem V50 : V m c main_v50 = truncf (F := Ideal) .bf16 (lanes (m ((c.tc : Thread nD τ).loc main_arg0))) Facts₀.bitsLt_bf16_f32 := by
  dsimp only [V, List.flatten, List.append]
  after_results
  rfl
/-- The keys on 128 lanes a head, and beside them the values. -/
theorem V55 : V m c main_v55 = truncf (F := Ideal) .bf16 (concatenate S4096x1536 1 [⟨S4096x1024, lanes (m ((c.tc : Thread nD τ).loc main_arg1))⟩,
    ⟨S4096x512, (shapeCast S4096x512 (m ((c.tc : Thread nD τ).loc main_arg2) : FVec Ideal S4096x8x64 .f32) Facts₀.shapeCasts_S4096x8x64_S4096x512 : FVec Ideal S4096x512 .f32)⟩]
    Facts₀.concatenates_S4096x1024_S4096x512_S4096x1536_d1 : FVec Ideal S4096x1536 .f32) Facts₀.bitsLt_bf16_f32 := by
  dsimp only [V, List.flatten, List.append]
  after_results
  rfl
/-- The attention's output, a row of heads after one another. -/
theorem V24 : V m c main_v24 = shapeCast S4096x512 (val_main_v40 (F := Ideal) (m ((c.tc : Thread nD τ).loc main_arg0)) (m ((c.tc : Thread nD τ).loc main_arg1))
    (m ((c.tc : Thread nD τ).loc main_arg2)) : FVec Ideal S4096x8x64 .f32) Facts₀.shapeCasts_S4096x8x64_S4096x512 := by
  dsimp only [V, List.flatten, List.append]
  after_results
  rfl
/-- The row's log-sum in the arithmetic of the reference's arrays. -/
def lse : FVec Ideal S8x4096 .f32 :=
  addf (F := Ideal) (val_main_v11 (m ((c.tc : Thread nD τ).loc main_arg0)) (m ((c.tc : Thread nD τ).loc main_arg1)))
    (Host.log (Host.reduceAdd (F := Ideal)
      (Host.exp (F := Ideal) (subf (F := Ideal) (val_main_v10_0 (m ((c.tc : Thread nD τ).loc main_arg0)) (m ((c.tc : Thread nD τ).loc main_arg1)) : FVec Ideal S8x4096x4096 .f32)
        (broadcastInDim S8x4096x4096 ![0, 1, 2] Facts₀.bcast_S8x4096x1_S8x4096x4096_0_1_2
          (broadcastInDim S8x4096x1 ![0, 1] Facts₀.bcast_S8x4096_S8x4096x1_0_1
            (val_main_v11 (F := Ideal) (m ((c.tc : Thread nD τ).loc main_arg0)) (m ((c.tc : Thread nD τ).loc main_arg1)) : FVec Ideal S8x4096 .f32)))))
      (constant S_ .f32 0x00000000#32) Facts₀.reducesTo_S8x4096x4096_S8x4096_d2 Facts₀.h_S_))
/-- The row's log-sum, in powers of two. -/
theorem V47 : V m c main_v47 = shapeCast S4x2x4096x1 (Host.divf (F := Ideal) (lse m c)
    (broadcastInDim S8x4096 ![] Facts₀.bcast_S_S8x4096 (Host.log (constant S_ .f32 0x40000000#32))) : FVec Ideal S8x4096 .f32) Facts₀.shapeCasts_S8x4096_S4x2x4096x1 := by
  dsimp only [V, List.flatten, List.append]
  after_results
  rfl

section Blocks

theorem points : cfg0.N = 4 := rfl

theorem index0 : ∀ t : Fin cfg0.N, win0_0.index t 0 = 0 ∧ win0_0.index t 1 = t.val :=
  (by decide +kernel : ∀ t : Fin grid0.N, _)
theorem index1 : ∀ t : Fin cfg0.N, win0_1.index t 0 = 0 ∧ win0_1.index t 1 = t.val :=
  (by decide +kernel : ∀ t : Fin grid0.N, _)
theorem index2 : ∀ t : Fin cfg0.N, win0_2.index t 0 = 0 ∧ win0_2.index t 1 = 8 + t.val :=
  (by decide +kernel : ∀ t : Fin grid0.N, _)
theorem index3 : ∀ t : Fin cfg0.N, win0_3.index t 0 = 0 ∧ win0_3.index t 1 = t.val :=
  (by decide +kernel : ∀ t : Fin grid0.N, _)
theorem index4 : ∀ t : Fin cfg0.N, win0_4.index t 0 = 0 ∧ win0_4.index t 1 = t.val :=
  (by decide +kernel : ∀ t : Fin grid0.N, _)
theorem index5 : ∀ t : Fin cfg0.N, win0_5.index t 0 = t.val ∧ win0_5.index t 1 = 0 ∧ win0_5.index t 2 = 0 ∧ win0_5.index t 3 = 0 :=
  (by decide +kernel : ∀ t : Fin grid0.N, _)

/-- Grid points are four. -/
theorem t_lt (t : Fin cfg0.N) : t.val < 4 := lt_of_lt_of_eq t.isLt points

/-- Columns of one block of heads. -/
theorem blk0 (t : Fin cfg0.N) (I : Fin 4096) (e : Fin 256) :
    iblk m c 0 t (ix2 I e) = V m c main_v50 (ix2 I ⟨t.val * 256 + e.val, by have := t_lt t; omega⟩) := by
  unfold iblk; rw [View.read_apply]
  show V m c main_v50 _ = V m c main_v50 _
  congr 1; funext a; apply Fin.ext
  match a with
  | ⟨0, _⟩ => show win0_0.index t 0 * 4096 + 1 * I.val = I.val; rw [(index0 t).1]; omega
  | ⟨1, _⟩ => show win0_0.index t 1 * 256 + 1 * e.val = t.val * 256 + e.val; rw [(index0 t).2]; omega

theorem blk1 (t : Fin cfg0.N) (I : Fin 4096) (e : Fin 256) :
    iblk m c 1 t (ix2 I e) = V m c main_v55 (ix2 I ⟨t.val * 256 + e.val, by have := t_lt t; omega⟩) := by
  unfold iblk; rw [View.read_apply]
  show V m c main_v55 _ = V m c main_v55 _
  congr 1; funext a; apply Fin.ext
  match a with
  | ⟨0, _⟩ => show win0_1.index t 0 * 4096 + 1 * I.val = I.val; rw [(index1 t).1]; omega
  | ⟨1, _⟩ => show win0_1.index t 1 * 256 + 1 * e.val = t.val * 256 + e.val; rw [(index1 t).2]; omega

theorem blk2 (t : Fin cfg0.N) (I : Fin 4096) (e : Fin 128) :
    iblk m c 2 t (ix2 I e) = V m c main_v55 (ix2 I ⟨1024 + (t.val * 128 + e.val), by have := t_lt t; omega⟩) := by
  unfold iblk; rw [View.read_apply]
  show V m c main_v55 _ = V m c main_v55 _
  congr 1; funext a; apply Fin.ext
  match a with
  | ⟨0, _⟩ => show win0_2.index t 0 * 4096 + 1 * I.val = I.val; rw [(index2 t).1]; omega
  | ⟨1, _⟩ => show win0_2.index t 1 * 128 + 1 * e.val = 1024 + (t.val * 128 + e.val); rw [(index2 t).2]; omega

theorem blk3 (t : Fin cfg0.N) (I : Fin 4096) (e : Fin 128) :
    iblk m c 3 t (ix2 I e) = m ((c.tc : Thread nD τ).loc main_arg3) (ix2 I ⟨t.val * 128 + e.val, by have := t_lt t; omega⟩) := by
  rw [← V_main_arg3 m c]
  unfold iblk; rw [View.read_apply]
  show V m c main_arg3 _ = V m c main_arg3 _
  congr 1; funext a; apply Fin.ext
  match a with
  | ⟨0, _⟩ => show win0_3.index t 0 * 4096 + 1 * I.val = I.val; rw [(index3 t).1]; omega
  | ⟨1, _⟩ => show win0_3.index t 1 * 128 + 1 * e.val = t.val * 128 + e.val; rw [(index3 t).2]; omega

theorem blk4 (t : Fin cfg0.N) (I : Fin 4096) (e : Fin 128) :
    iblk m c 4 t (ix2 I e) = V m c main_v24 (ix2 I ⟨t.val * 128 + e.val, by have := t_lt t; omega⟩) := by
  unfold iblk; rw [View.read_apply]
  show V m c main_v24 _ = V m c main_v24 _
  congr 1; funext a; apply Fin.ext
  match a with
  | ⟨0, _⟩ => show win0_4.index t 0 * 4096 + 1 * I.val = I.val; rw [(index4 t).1]; omega
  | ⟨1, _⟩ => show win0_4.index t 1 * 128 + 1 * e.val = t.val * 128 + e.val; rw [(index4 t).2]; omega

theorem blk5 (t : Fin cfg0.N) (h : Fin 2) (I : Fin 4096) : iblk m c 5 t (ix4 0 h I 0) = V m c main_v47 (ix4 (t.cast points) h I 0) := by
  unfold iblk; rw [View.read_apply]
  show V m c main_v47 _ = V m c main_v47 _
  congr 1; funext a; apply Fin.ext
  match a with
  | ⟨0, _⟩ => show win0_5.index t 0 * 1 + 1 * 0 = t.val; rw [(index5 t).1]; omega
  | ⟨1, _⟩ => show win0_5.index t 1 * 2 + 1 * h.val = h.val; rw [(index5 t).2.1]; omega
  | ⟨2, _⟩ => show win0_5.index t 2 * 4096 + 1 * I.val = I.val; rw [(index5 t).2.2.1]; omega
  | ⟨3, _⟩ => show win0_5.index t 3 * 1 + 1 * 0 = 0; rw [(index5 t).2.2.2]

end Blocks

/-- Padded rows of real numbers, lane by lane. -/
theorem lanes_at (x : QIdx → ℝ) (I : Fin 4096) (j : Fin 1024) :
    lanes (fun y => ((x y : ℝ) : EReal)) (ix2 I j) = ((lane (fun d => x (ix3 I ⟨j / 128, by omega⟩ d)) (j.val % 128) : ℝ) : EReal) := by
  unfold lanes lane
  pointwise
  split
  · rename_i hc
    rw [dif_pos hc.2]
  · rename_i hc
    rw [dif_neg fun h => hc ⟨by omega, h⟩]
    exact MlaRef.pad_zero.trans EReal.coe_zero.symm

/-- Two arrays side by side. -/
theorem beside_left (x : FVec Ideal S4096x1024 .f32) (y : FVec Ideal S4096x8x64 .f32) (I : Fin 4096) (j : Fin 1024) :
    truncf (F := Ideal) .bf16 (concatenate S4096x1536 1 [⟨S4096x1024, x⟩, ⟨S4096x512, (shapeCast S4096x512 y Facts₀.shapeCasts_S4096x8x64_S4096x512 : FVec Ideal S4096x512 .f32)⟩]
      Facts₀.concatenates_S4096x1024_S4096x512_S4096x1536_d1 : FVec Ideal S4096x1536 .f32) Facts₀.bitsLt_bf16_f32 (ix2 I ⟨j, by omega⟩) = x (ix2 I j) := by
  pointwise

theorem beside_right (x : FVec Ideal S4096x1024 .f32) (y : FVec Ideal S4096x8x64 .f32) (I : Fin 4096) (j : Fin 512) :
    truncf (F := Ideal) .bf16 (concatenate S4096x1536 1 [⟨S4096x1024, x⟩, ⟨S4096x512, (shapeCast S4096x512 y Facts₀.shapeCasts_S4096x8x64_S4096x512 : FVec Ideal S4096x512 .f32)⟩]
      Facts₀.concatenates_S4096x1024_S4096x512_S4096x1536_d1 : FVec Ideal S4096x1536 .f32) Facts₀.bitsLt_bf16_f32 (ix2 I ⟨1024 + j, by omega⟩)
      = y (ix3 I ⟨j / 64, by omega⟩ ⟨j % 64, by omega⟩) := by
  pointwise

/-- The log-sum of a row, entry by entry. -/
theorem lse_form (a : FVec Ideal S8x4096 .f32) (b : FVec Ideal S8x4096x4096 .f32) (k : FVec Ideal S_ .f32) (h : Fin 8) (I : Fin 4096) :
    addf (F := Ideal) a (Host.log (Host.reduceAdd (F := Ideal) (Host.exp (F := Ideal) (subf (F := Ideal) b
        (broadcastInDim S8x4096x4096 ![0, 1, 2] Facts₀.bcast_S8x4096x1_S8x4096x4096_0_1_2
          (broadcastInDim S8x4096x1 ![0, 1] Facts₀.bcast_S8x4096_S8x4096x1_0_1 a))))
      k Facts₀.reducesTo_S8x4096x4096_S8x4096_d2 Facts₀.h_S_)) (ix2 h I)
    = a (ix2 h I) + Ideal.log (k (Shape.Idx.first Facts₀.h_S_) + ∑ J : Fin 4096, Ideal.exp (b (ix3 h I J) - a (ix2 h I)) : EReal) := by
  pointwise

/-- A quotient by a scalar, heads two by two. -/
theorem two_form (w : FVec Ideal S8x4096 .f32) (k : FVec Ideal S_ .f32) (t : Fin 4) (h : Fin 2) (I : Fin 4096) :
    shapeCast S4x2x4096x1 (Host.divf (F := Ideal) w (broadcastInDim S8x4096 ![] Facts₀.bcast_S_S8x4096 (Host.log k))) Facts₀.shapeCasts_S8x4096_S4x2x4096x1 (ix4 t h I 0)
    = Ideal.div (w (ix2 ⟨t * 2 + h, by omega⟩ I)) (Ideal.log (k ix0)) := by
  pointwise

theorem lse_real {a k : EReal} {b : Fin 4096 → EReal} {M : ℝ} {s : Fin 4096 → EReal} {E : Fin 4096 → ℝ} (ha : a = (M : EReal))
    (hb : ∀ J, b J = s J) (hk : k = 0) (hs : ∀ J, Ideal.exp (s J - (M : EReal)) = ((E J : ℝ) : EReal)) :
    a + Ideal.log (k + ∑ J : Fin 4096, Ideal.exp (b J - a)) = (M : EReal) + Ideal.log ((∑ J, E J : ℝ) : EReal) := by
  subst ha hk
  simp only [hb, hs, coe_sum, zero_add]

theorem log2_ne : Real.log 2 ≠ 0 := (Real.log_pos (by norm_num)).ne'

theorem two_real {w k : EReal} {a : ℝ} (hw : w = (a : EReal)) (hk : Ideal.log k = ((Real.log 2 : ℝ) : EReal)) :
    Ideal.div w (Ideal.log k) = ((a / Real.log 2 : ℝ) : EReal) := by
  rw [hw, hk, div_real _ _ log2_ne]

theorem two_bits : Ideal.ofBits .f32 0x40000000#32 = ((2 : ℝ) : EReal) := by
  simp [Ideal.ofBits, Ideal.ieee]
  rw [← EReal.coe_mul]
  norm_num

theorem log2_at : Ideal.log ((constant S_ .f32 0x40000000#32 : FVec Ideal S_ .f32) ix0) = ((Real.log 2 : ℝ) : EReal) := by
  rw [show (constant S_ .f32 0x40000000#32 : FVec Ideal S_ .f32) ix0 = Ideal.ofBits .f32 0x40000000#32 from rfl, two_bits, log_real _ (by norm_num)]

theorem zero_at : (constant S_ .f32 0x00000000#32 : FVec Ideal S_ .f32) (Shape.Idx.first Facts₀.h_S_) = 0 := MlaRef.zero_bits

section Reals

variable (a : Args)

/-- The arguments are these real arrays. -/
structure Real : Prop where
  h0 : m ((c.tc : Thread nD τ).loc main_arg0) = MlaRef.Q a
  h1 : m ((c.tc : Thread nD τ).loc main_arg1) = MlaRef.K a
  h2 : m ((c.tc : Thread nD τ).loc main_arg2) = MlaRef.V a
  h3 : m ((c.tc : Thread nD τ).loc main_arg3) = MlaRef.G a

variable {m c a}

variable (hr : Real m c a)
include hr

theorem v50_at (I : Fin 4096) (j : Fin 1024) : V m c main_v50 (ix2 I j) = ((lane (qf a (MlaRef.hw j) I) (j.val % 128) : ℝ) : EReal) := by
  rw [V50, hr.h0]
  exact lanes_at a.q I j

theorem v55_key (I : Fin 4096) (j : Fin 1024) : V m c main_v55 (ix2 I ⟨j, by omega⟩) = ((lane (kf a (MlaRef.hw j) I) (j.val % 128) : ℝ) : EReal) := by
  rw [V55, hr.h1]
  exact (beside_left _ _ I j).trans (lanes_at a.k I j)

theorem v55_val (I : Fin 4096) (j : Fin 512) : V m c main_v55 (ix2 I ⟨1024 + j, by omega⟩) = ((vf a (MlaRef.hv j) I (MlaRef.ft j) : ℝ) : EReal) := by
  rw [V55, hr.h2]
  exact beside_right _ _ I j

theorem v24_at (I : Fin 4096) (j : Fin 512) : V m c main_v24 (ix2 I j) = ((O a (MlaRef.hv j) I (MlaRef.ft j) : ℝ) : EReal) := by
  rw [V24, hr.h0, hr.h1, hr.h2]
  pointwise
  exact MlaRef.o_at a (MlaRef.hv j) I (MlaRef.ft j)

theorem lse_at (h : Fin 8) (I : Fin 4096) : lse m c (ix2 h I) = ((Mx a h I + Real.log (L a h I) : ℝ) : EReal) := by
  have hs : ∀ J : Fin 4096, Ideal.exp (Sm a h I J - ((Mx a h I : ℝ) : EReal)) = ((E a h I J : ℝ) : EReal) := by
    intro J
    unfold Sm E ex
    split
    · rw [← EReal.coe_sub]; rfl
    · rfl
  unfold lse
  rw [hr.h0, hr.h1]
  refine (lse_form _ _ _ h I).trans ?_
  refine (lse_real (MlaRef.max_at a h I) (MlaRef.sm_at a h I) zero_at hs).trans ?_
  rw [show ∑ J, E a h I J = L a h I from rfl, log_real _ (L_pos a h I), ← EReal.coe_add]

theorem v47_at (t : Fin 4) (h : Fin 2) (I : Fin 4096) : V m c main_v47 (ix4 t h I 0)
    = (((Mx a ⟨t * 2 + h, by omega⟩ I + Real.log (L a ⟨t * 2 + h, by omega⟩ I)) / Real.log 2 : ℝ) : EReal) := by
  rw [V47]
  exact (two_form _ _ t h I).trans (two_real (lse_at hr _ _) log2_at)

end Reals

end Cert.MlaHost
-- ==== Proof.MlaPay.lean ====
/-
  The vector values of the latent attention's backward kernel, entry by entry, over the extended reals.
-/
module

public import proofs.«01_k».proof.Proof.MlaClosed
public import proofs.«01_k».proof.Proof.FoxKernel
public import Idealize.ShloMosaic.Lib.Pointwise
public import Idealize.ShloMosaic.Lib.Tactic

@[expose] public section

set_option maxRecDepth 16384

noncomputable section

namespace Cert.MlaPay

open Cert.MlaIdeal Cert.MlaIdeal.Gen Cert.MlaRun Cert.Blocks
open Cert.FoxPay (half slt_half sge_half stk0 stk1 stk0_eq stk1_eq stk0' stk1' hd sle_select ninf sum_heads)
open Idealize.ShloMosaic Idealize.ShloMosaic.TcCoe Idealize.ShloMosaic.Tactic

/-- The scale of the scores over the logarithm of two, and the scale itself. -/
def sc : EReal := Named.named (F := Ideal) κ (φ := .f32) "mla_score_scale" 0x3E16C740#32
def gs : EReal := Named.named (F := Ideal) κ (φ := .f32) "mla_scale" 0x3DD105EC#32

/-- Column `e` of a pair of heads' queries belongs to head `h`. -/
def wide (h : Fin 2) (e : Fin 256) : Prop := e.val / 128 = h.val
instance (h : Fin 2) (e : Fin 256) : Decidable (wide h e) := Nat.decEq _ _
/-- The head of a column of the queries. -/
def hw (e : Fin 256) : Fin 2 := ⟨e.val / 128, by omega⟩

theorem lt128 (e : Fin 256) : (IntOp.cmpi CmpIPredicate.slt (BitVec.ofNat 32 e.val) 128#32) = BitVec.ofBool (decide (wide 0 e)) := by
  revert e; decide +kernel
theorem ge128 (e : Fin 256) : (IntOp.cmpi CmpIPredicate.sge (BitVec.ofNat 32 e.val) 128#32) = BitVec.ofBool (decide (wide 1 e)) := by
  revert e; decide +kernel
theorem slt_wide (e : Fin 256) (a b : EReal) :
    Scalar.select (IntOp.cmpi CmpIPredicate.slt (BitVec.ofNat 32 e.val) 128#32) a b = if wide 0 e then a else b := by
  rw [lt128, Scalar.select_ofBool]; simp only [decide_eq_true_eq]
theorem sge_wide (e : Fin 256) (a b : EReal) :
    Scalar.select (IntOp.cmpi CmpIPredicate.sge (BitVec.ofNat 32 e.val) 128#32) a b = if wide 1 e then a else b := by
  rw [ge128, Scalar.select_ofBool]; simp only [decide_eq_true_eq]

theorem pay25_apply (q : Vec Ideal S512x256 .bf16) (h : Fin 2) (r : Fin 512) (e : Fin 256) :
    (k0_pay25 q (ix2 (stk h r) e) : EReal) = if wide h e then (q (ix2 r e) : EReal) else 0 := by
  unfold k0_pay25
  pointwise
  obtain rfl | rfl : h = 0 ∨ h = 1 := by omega
  · exact (dif_pos (stk0 r)).trans ((slt_wide e _ _).trans (by rw [stk0_eq]))
  · exact (dif_neg (stk1 r)).trans ((sge_wide e _ _).trans (by rw [stk1_eq]))

theorem pay26_apply (q : Vec Ideal S512x128 .f32) (h : Fin 2) (r : Fin 512) (e : Fin 128) :
    (k0_pay26 q (ix2 (stk h r) e) : EReal) = if half h e then (q (ix2 r e) : EReal) else 0 := by
  unfold k0_pay26
  pointwise
  obtain rfl | rfl : h = 0 ∨ h = 1 := by omega
  · exact (dif_pos (stk0 r)).trans ((slt_half e _ _).trans (by rw [stk0_eq]))
  · exact (dif_neg (stk1 r)).trans ((sge_half e _ _).trans (by rw [stk1_eq]))

theorem pay27_apply (q o : Vec Ideal S512x128 .f32) (h : Fin 2) (r : Fin 512) :
    (k0_pay27 q o (ix2 (stk h r) 0) : EReal) = ∑ e : Fin 128, (if half h e then (q (ix2 r e) : EReal) else 0) * o (ix2 r e) := by
  unfold k0_pay27
  pointwise
  refine Finset.sum_congr rfl fun e _ => ?_
  rw [pay26_apply]
  congr 1
  obtain rfl | rfl : h = 0 ∨ h = 1 := by omega
  · exact (dif_pos (stk0 r)).trans (by rw [stk0_eq])
  · exact (dif_neg (stk1 r)).trans (by rw [stk1_eq])

theorem pay28_apply (a b : Vec Ideal S1x1x512x1 .f32) (h : Fin 2) (r : Fin 512) :
    (k0_pay28 a b (ix2 (stk h r) 0) : EReal) = (if h = 0 then a (ix4 0 0 r 0) else b (ix4 0 0 r 0) : EReal) := by
  unfold k0_pay28
  pointwise
  obtain rfl | rfl : h = 0 ∨ h = 1 := by omega
  · exact (dif_pos (stk0 r)).trans (by rw [stk0_eq]; rfl)
  · exact (dif_neg (stk1 r)).trans (by rw [stk1_eq]; rfl)

theorem pay29_apply (q : Vec Ideal S512x128 .f32) (h : Fin 2) (r : Fin 512) (e : Fin 128) :
    (k0_pay29 q (ix2 (stk h r) e) : EReal) = if half h e then (q (ix2 r e) : EReal) else 0 := by
  unfold k0_pay29
  pointwise
  exact pay26_apply q h r e
theorem pay30_apply (q : Vec Ideal S512x128 .f32) (h : Fin 2) (r : Fin 512) (e : Fin 128) :
    (k0_pay30 q (ix2 e (stk h r)) : EReal) = if half h e then (q (ix2 r e) : EReal) else 0 := by
  unfold k0_pay30
  pointwise
  exact pay26_apply q h r e
theorem pay31_apply (q : FVec Ideal S1024x256 .bf16) (R : Fin 1024) (e : Fin 256) : (k0_pay31 q (ix2 e R) : EReal) = q (ix2 R e) := by
  unfold k0_pay31
  pointwise

theorem pay9_apply (k : Vec Ideal S512x256 .bf16) (c : Fin 512) (e : Fin 256) : (k0_pay9 k (ix2 c e) : EReal) = k (ix2 c e) := by
  unfold k0_pay9
  pointwise
theorem pay37_apply (k : Vec Ideal S512x256 .bf16) (c : Fin 512) (e : Fin 256) : (k0_pay37 k (ix2 c e) : EReal) = k (ix2 c e) := by
  unfold k0_pay37
  pointwise

theorem pay10_apply (qs : FVec Ideal S1024x256 .bf16) (lse : FVec Ideal S1024x1 .f32) (k : Vec Ideal S512x256 .bf16) (R : Fin 1024) (c : Fin 512) :
    (k0_pay10 qs lse k (ix2 R c) : EReal) =
      Ideal.exp2 ((∑ e : Fin 256, (qs (ix2 R e) : EReal) * k (ix2 c e)) * sc - lse (ix2 R 0)) := by
  unfold k0_pay10 k0_pay9
  pointwise
  rfl

theorem pay11_apply (qs : FVec Ideal S1024x256 .bf16) (de lse : FVec Ideal S1024x1 .f32) (dos : FVec Ideal S1024x128 .bf16) (k : Vec Ideal S512x256 .bf16)
    (v : Vec Ideal S512x128 .bf16) (R : Fin 1024) (c : Fin 512) :
    (k0_pay11 qs de lse dos k v (ix2 R c) : EReal) =
      k0_pay10 qs lse k (ix2 R c) * ((∑ e : Fin 128, (dos (ix2 R e) : EReal) * v (ix2 c e)) - de (ix2 R 0)) := by
  unfold k0_pay11
  pointwise

theorem pay34_apply (a : FVec Ideal S1024x256 .f32) (k : FVec Ideal S512x256 .bf16) (ds : FVec Ideal S1024x512 .bf16) (R : Fin 1024) (e : Fin 256) :
    (k0_pay34 a k ds (ix2 R e) : EReal) = a (ix2 R e) + ∑ c : Fin 512, (ds (ix2 R c) : EReal) * k (ix2 c e) := by
  unfold k0_pay34
  pointwise

theorem pay38_apply (qs : FVec Ideal S1024x256 .bf16) (lse : FVec Ideal S1024x1 .f32) (k : Vec Ideal S512x256 .bf16) (h : Fin 2) (r c : Fin 512) :
    (k0_pay38 k0_pay3 qs lse k (ix2 (stk h r) c) : EReal) =
      Ideal.exp2 ((if c.val ≤ r.val then (∑ e : Fin 256, (qs (ix2 (stk h r) e) : EReal) * k (ix2 c e)) * sc
          else Ideal.ofBits FTy.f32 4286578688#32) - lse (ix2 (stk h r) 0)) := by
  unfold k0_pay38 k0_pay3 k0_pay37
  pointwise
  obtain rfl | rfl : h = 0 ∨ h = 1 := by omega
  · rw [dif_pos (stk0 r)]
    have h1 := congrArg Fin.val (stk0_eq r (stk0 r))
    dsimp only at h1
    erw [h1, sle_select]
    rfl
  · rw [dif_neg (stk1 r)]
    have h1 := congrArg Fin.val (stk1_eq r (by have := (stk 1 r).isLt; omega))
    dsimp only at h1
    erw [h1, sle_select]
    rfl

theorem pay39_apply (qs : FVec Ideal S1024x256 .bf16) (de lse : FVec Ideal S1024x1 .f32) (dos : FVec Ideal S1024x128 .bf16) (k : Vec Ideal S512x256 .bf16)
    (v : Vec Ideal S512x128 .bf16) (R : Fin 1024) (c : Fin 512) :
    (k0_pay39 k0_pay3 qs de lse dos k v (ix2 R c) : EReal) =
      k0_pay38 k0_pay3 qs lse k (ix2 R c) * ((∑ e : Fin 128, (dos (ix2 R e) : EReal) * v (ix2 c e)) - de (ix2 R 0)) := by
  unfold k0_pay39
  pointwise

/-- A product of two stacks head by head, the first head's columns then the second's: a sum over the rows of the column's own head. -/
theorem halves (e : Fin 128) (f : Fin 128 → Fin 1024 → EReal) (g : Fin 1024 → EReal) :
    (if h : e.val < 64 then ∑ x : Fin 512, f e ⟨x.val, by omega⟩ * g ⟨x.val, by omega⟩
      else ∑ x : Fin 512, f ⟨64 + (e.val - 64), by omega⟩ ⟨512 + x.val, by omega⟩ * g ⟨512 + x.val, by omega⟩)
      = ∑ r : Fin 512, f e (stk (hd e) r) * g (stk (hd e) r) := by
  by_cases h : e.val < 64
  · rw [dif_pos h, show hd e = 0 from Fin.ext (show e.val / 64 = 0 by omega)]
    exact Finset.sum_congr rfl fun r _ => by rw [stk0']
  · rw [dif_neg h, show hd e = 1 from Fin.ext (show e.val / 64 = 1 by omega)]
    have he : (⟨64 + (e.val - 64), by omega⟩ : Fin 128) = e := Fin.ext (show 64 + (e.val - 64) = e.val by omega)
    exact Finset.sum_congr rfl fun r _ => by rw [stk1', he]
theorem halves_wide (e : Fin 256) (f : Fin 256 → Fin 1024 → EReal) (g : Fin 1024 → EReal) :
    (if h : e.val < 128 then ∑ x : Fin 512, f e ⟨x.val, by omega⟩ * g ⟨x.val, by omega⟩
      else ∑ x : Fin 512, f ⟨128 + (e.val - 128), by omega⟩ ⟨512 + x.val, by omega⟩ * g ⟨512 + x.val, by omega⟩)
      = ∑ r : Fin 512, f e (stk (hw e) r) * g (stk (hw e) r) := by
  by_cases h : e.val < 128
  · rw [dif_pos h, show hw e = 0 from Fin.ext (show e.val / 128 = 0 by omega)]
    exact Finset.sum_congr rfl fun r _ => by rw [stk0']
  · rw [dif_neg h, show hw e = 1 from Fin.ext (show e.val / 128 = 1 by omega)]
    have he : (⟨128 + (e.val - 128), by omega⟩ : Fin 256) = e := Fin.ext (show 128 + (e.val - 128) = e.val by omega)
    exact Finset.sum_congr rfl fun r _ => by rw [stk1', he]

theorem pay12_apply (qs : FVec Ideal S1024x256 .bf16) (lse : FVec Ideal S1024x1 .f32) (dosT : FVec Ideal S128x1024 .bf16) (k : Vec Ideal S512x256 .bf16)
    (a : Vec Ideal S1x128x512 .f32) (e : Fin 128) (c : Fin 512) :
    (k0_pay12 qs lse dosT k a (ix3 0 e c) : EReal) =
      a (ix3 0 e c) + ∑ r : Fin 512, (dosT (ix2 e (stk (hd e) r)) : EReal) * k0_pay10 qs lse k (ix2 (stk (hd e) r) c) := by
  unfold k0_pay12
  pointwise
  exact congrArg (_ + ·) (halves e (fun i R => dosT (ix2 i R)) (fun R => k0_pay10 qs lse k (ix2 R c)))

theorem pay33_apply (qs : FVec Ideal S1024x256 .bf16) (de lse : FVec Ideal S1024x1 .f32) (dos : FVec Ideal S1024x128 .bf16) (qT : FVec Ideal S256x1024 .bf16)
    (k : Vec Ideal S512x256 .bf16) (v : Vec Ideal S512x128 .bf16) (a : Vec Ideal S1x256x512 .f32) (e : Fin 256) (c : Fin 512) :
    (k0_pay33 (k0_pay13 a) (k0_pay14 qs de lse dos qT k v) (k0_pay15 qT) (k0_pay16 qs de lse dos k v) (ix3 0 e c) : EReal) =
      a (ix3 0 e c) + ∑ r : Fin 512, (qT (ix2 e (stk (hw e) r)) : EReal) * k0_pay11 qs de lse dos k v (ix2 (stk (hw e) r) c) := by
  unfold k0_pay33 k0_pay13 k0_pay14 k0_pay15 k0_pay16
  pointwise
  exact congrArg (_ + ·) (halves_wide e (fun i R => qT (ix2 i R)) (fun R => k0_pay11 qs de lse dos k v (ix2 R c)))

theorem pay5_apply (qT : FVec Ideal S256x1024 .bf16) (ds : FVec Ideal S1024x512 .bf16) (a : Vec Ideal S1x256x512 .f32) (e : Fin 256) (c : Fin 512) :
    (k0_pay5 qT ds a (ix3 0 e c) : EReal) = a (ix3 0 e c) + ∑ r : Fin 512, (qT (ix2 e (stk (hw e) r)) : EReal) * ds (ix2 (stk (hw e) r) c) := by
  unfold k0_pay5
  pointwise
  exact congrArg (_ + ·) (halves_wide e (fun i R => qT (ix2 i R)) (fun R => ds (ix2 R c)))

theorem pay4_apply (qs : FVec Ideal S1024x256 .bf16) (lse : FVec Ideal S1024x1 .f32) (dosT : FVec Ideal S128x1024 .bf16) (k : Vec Ideal S512x256 .bf16)
    (a : Vec Ideal S1x128x512 .f32) (e : Fin 128) (c : Fin 512) :
    (k0_pay4 (k0_pay41 a) (k0_pay42 k0_pay3 qs lse dosT k) (k0_pay43 k0_pay3 qs lse dosT k) (ix3 0 e c) : EReal) =
      a (ix3 0 e c) + ∑ r : Fin 512, (dosT (ix2 e (stk (hd e) r)) : EReal) * k0_pay38 k0_pay3 qs lse k (ix2 (stk (hd e) r) c) := by
  unfold k0_pay4 k0_pay41 k0_pay42 k0_pay43 k0_pay40
  pointwise
  exact congrArg (_ + ·) (halves e (fun i R => dosT (ix2 i R)) (fun R => k0_pay38 k0_pay3 qs lse k (ix2 R c)))

theorem pay6_apply (a : FVec Ideal S1024x256 .f32) (k : FVec Ideal S512x256 .bf16) (ds : FVec Ideal S1024x512 .bf16) (r : Fin 512) (e : Fin 256) :
    (k0_pay6 a k ds (ix2 r e) : EReal)
      = (a (ix2 (stk (hw e) r) e) + ∑ c : Fin 512, (ds (ix2 (stk (hw e) r) c) : EReal) * k (ix2 c e)) * gs := by
  unfold k0_pay6
  pointwise
  refine (slt_wide e _ _).trans ?_
  have key : ∀ R : Fin 1024, R = stk (hw e) r → ((a (ix2 R e) + ∑ c : Fin 512, (ds (ix2 R c) : EReal) * k (ix2 c e)) * gs : EReal)
      = (a (ix2 (stk (hw e) r) e) + ∑ c : Fin 512, (ds (ix2 (stk (hw e) r) c) : EReal) * k (ix2 c e)) * gs := fun R hR => by rw [hR]
  by_cases h : wide 0 e
  · rw [if_pos h]
    exact key _ ((stk0' r _).trans (congrArg (stk · r) (show (0 : Fin 2) = hw e from Fin.ext (Eq.symm h))))
  · rw [if_neg h]
    have h1 : e.val / 128 = 1 := by have h0 : ¬ e.val / 128 = 0 := h; omega
    exact key _ ((stk1' r _).trans (congrArg (stk · r) (show (1 : Fin 2) = hw e from Fin.ext h1.symm)))

theorem pay7_apply (a : Vec Ideal S1x256x512 .f32) (r : Fin 512) (e : Fin 256) : (k0_pay7 a (ix2 r e) : EReal) = a (ix3 0 e r) * gs := by
  unfold k0_pay7
  pointwise
  rfl
theorem pay8_apply (a : Vec Ideal S1x128x512 .f32) (r : Fin 512) (e : Fin 128) : (k0_pay8 a (ix2 r e) : EReal) = a (ix3 0 e r) := by
  unfold k0_pay8
  pointwise

end Cert.MlaPay
-- ==== Proof.MlaKernel.lean ====
/-
  The latent attention's backward kernel, over the extended reals: each block of the gradients is a sum over all positions
  of the masked probabilities `P` and of the gradient `D` of the scores.
-/
module

public import proofs.«01_k».proof.Proof.MlaPay

@[expose] public section

set_option maxRecDepth 16384

noncomputable section

namespace Cert.MlaPay

open Cert.MlaIdeal Cert.MlaIdeal.Gen Cert.MlaRun Cert.Blocks
open Cert.FoxPay (half hd ninf)
open Cert.FoxRun (put_at put_off)
open Idealize.ShloMosaic Idealize.ShloMosaic.TcCoe Idealize.ShloMosaic.Tactic
open Idealize.ShloMosaic.VecWindow (window put)

variable (x : Ins Ideal)

/-- The queries and `do`, with the other head's columns set to zero. -/
def qh (h : Fin 2) (I : Fin 4096) (e : Fin 256) : EReal := if wide h e then x.q (ix2 I e) else 0
def doh (h : Fin 2) (I : Fin 4096) (e : Fin 128) : EReal := if half h e then x.dO (ix2 I e) else 0
/-- The row sums of `do · o`. -/
def delta (h : Fin 2) (I : Fin 4096) : EReal := ∑ e : Fin 128, doh x h I e * x.o (ix2 I e)
/-- The masked probabilities. -/
def P (h : Fin 2) (I J : Fin 4096) : EReal :=
  if J.val ≤ I.val then Ideal.exp2 ((∑ e : Fin 256, qh x h I e * x.k (ix2 J e)) * sc - x.lse (ix4 0 h I 0)) else 0
/-- The gradient of the scores. -/
def D (h : Fin 2) (I J : Fin 4096) : EReal := P x h I J * ((∑ e : Fin 128, doh x h I e * x.v (ix2 J e)) - delta x h I)

theorem P_pos (h : Fin 2) (I J : Fin 4096) (hm : J.val ≤ I.val) :
    P x h I J = Ideal.exp2 ((∑ e : Fin 256, qh x h I e * x.k (ix2 J e)) * sc - x.lse (ix4 0 h I 0)) := if_pos hm
theorem P_neg (h : Fin 2) (I J : Fin 4096) (hm : ¬ J.val ≤ I.val) : P x h I J = 0 := if_neg hm
theorem D_masked (h : Fin 2) (I J : Fin 4096) (hm : ¬ J.val ≤ I.val) : D x h I J = 0 := by
  unfold D; rw [P_neg x h I J hm, zero_mul]

/-- Loop counters as block numbers. -/
def Ib (i : Fin k0_t1_loop.trips) : Fin 8 := i.cast trips1
theorem trips2 : ∀ i : Fin k0_t1_loop.trips, (k0_t2_loop i).trips = i.val := by decide +kernel
theorem trip_lt (i : Fin k0_t1_loop.trips) (j : Fin (k0_t2_loop i).trips) : j.val < i.val := by
  have h := trips2 i; have := j.isLt; omega
theorem i_lt (i : Fin k0_t1_loop.trips) : i.val < 8 := by have h := trips1; have := i.isLt; omega
def Jb (i : Fin k0_t1_loop.trips) (j : Fin (k0_t2_loop i).trips) : Fin 8 := ⟨j.val, by have := trip_lt i j; have := i_lt i; omega⟩

theorem off2_eq : ∀ i : Fin k0_t1_loop.trips, k0_off2 i = ![512 * i.val, 0] := by decide +kernel
theorem off3_eq : ∀ i : Fin k0_t1_loop.trips, k0_off3 i = ![0, 0, 512 * i.val, 0] := by decide +kernel
theorem off4_eq : ∀ i : Fin k0_t1_loop.trips, k0_off4 i = ![0, 1, 512 * i.val, 0] := by decide +kernel
theorem off5_eq : ∀ (i : Fin k0_t1_loop.trips) (j : Fin (k0_t2_loop i).trips), k0_off5 i j = ![512 * j.val, 0] := by decide +kernel
theorem off6_eq : ∀ (i : Fin k0_t1_loop.trips) (j : Fin (k0_t2_loop i).trips), k0_off6 i j = ![512 * j.val, 0] := by decide +kernel
theorem off7_eq : ∀ (i : Fin k0_t1_loop.trips) (j : Fin (k0_t2_loop i).trips), k0_off7 i j = ![j.val, 0, 0] := by decide +kernel
theorem off8_eq : ∀ (i : Fin k0_t1_loop.trips) (j : Fin (k0_t2_loop i).trips), k0_off8 i j = ![j.val, 0, 0] := by decide +kernel
theorem off13_eq : ∀ i : Fin k0_t1_loop.trips, k0_off13 i = ![i.val, 0, 0] := by decide +kernel
theorem off14_eq : ∀ i : Fin k0_t1_loop.trips, k0_off14 i = ![i.val, 0, 0] := by decide +kernel

/-- Windows of the arrays, entry by entry. -/
theorem window_rows {W : ℕ} {α : Type} (X : Shape.Idx ⟨2, ![4096, W]⟩ → α) (off : Fin 2 → ℕ)
    (inb : ∀ a, off a + Shape.size ⟨2, ![512, W]⟩ a ≤ Shape.size ⟨2, ![4096, W]⟩ a) (j : Fin 8) (hoff : off = ![512 * j.val, 0]) (r : Fin 512) (c : Fin W) :
    window (s := ⟨2, ![4096, W]⟩) X off (Shape.size ⟨2, ![512, W]⟩) inb (ix2 r c) = X (ix2 (row j r) c) := by
  subst hoff
  refine congrArg X (funext fun a => Fin.ext ?_)
  match a with
  | ⟨0, _⟩ => show 512 * j.val + 1 * r.val = 512 * j.val + r.val; omega
  | ⟨1, _⟩ => show 0 + 1 * c.val = c.val; omega

theorem window_lses (X : Vec Ideal S1x2x4096x1 .f32) (off : Fin 4 → ℕ) (inb : ∀ a, off a + S1x1x512x1.size a ≤ S1x2x4096x1.size a) (h : Fin 2) (i : Fin 8)
    (hoff : off = ![0, h.val, 512 * i.val, 0]) (r : Fin 512) :
    window (s := S1x2x4096x1) X off S1x1x512x1.size inb (ix4 0 0 r 0 : S1x1x512x1.Idx) = X (ix4 0 h (row i r) 0) :=
  Cert.FoxPay.window_lse X off inb h i hoff r

theorem window_accs {W : ℕ} {α : Type} (X : Shape.Idx ⟨3, ![8, W, 512]⟩ → α) (off : Fin 3 → ℕ)
    (inb : ∀ a, off a + Shape.size ⟨3, ![1, W, 512]⟩ a ≤ Shape.size ⟨3, ![8, W, 512]⟩ a) (j : Fin 8) (hoff : off = ![j.val, 0, 0]) (e : Fin W) (t : Fin 512) :
    window (s := ⟨3, ![8, W, 512]⟩) X off (Shape.size ⟨3, ![1, W, 512]⟩) inb (ix3 0 e t) = X (ix3 j e t) := by
  subst hoff
  refine congrArg X (funext fun a => Fin.ext ?_)
  match a with
  | ⟨0, _⟩ => show j.val + 1 * 0 = j.val; omega
  | ⟨1, _⟩ => show 0 + 1 * e.val = e.val; omega
  | ⟨2, _⟩ => show 0 + 1 * t.val = t.val; omega

/-- What a store into an accumulator's block leaves, entry by entry. -/
theorem put_accs {W : ℕ} {α : Type} (X : Shape.Idx ⟨3, ![8, W, 512]⟩ → α) (off : Fin 3 → ℕ) (j : Fin 8) (hoff : off = ![j.val, 0, 0])
    (w : Shape.Idx ⟨3, ![1, W, 512]⟩ → α) (j' : Fin 8) (e : Fin W) (t : Fin 512) :
    put (s := ⟨3, ![8, W, 512]⟩) X off (Shape.size ⟨3, ![1, W, 512]⟩) w (ix3 j' e t) = if j' = j then w (ix3 0 e t) else X (ix3 j' e t) := by
  subst hoff
  by_cases h : j' = j
  · subst h
    rw [if_pos rfl]
    refine put_at (s := ⟨3, ![8, W, 512]⟩) _ _ (Shape.size ⟨3, ![1, W, 512]⟩) _ _ (show Shape.Idx ⟨3, ![1, W, 512]⟩ from ix3 0 e t) fun a => ?_
    match a with
    | ⟨0, _⟩ => rfl
    | ⟨1, _⟩ => exact (Nat.zero_add _).symm
    | ⟨2, _⟩ => exact (Nat.zero_add _).symm
  · rw [if_neg h]
    refine put_off (s := ⟨3, ![8, W, 512]⟩) _ _ (Shape.size ⟨3, ![1, W, 512]⟩) _ _ (0 : Fin 3) ?_
    have h' : j'.val ≠ j.val := fun h' => h (Fin.ext h')
    show j'.val < j.val ∨ j.val + 1 ≤ j'.val
    omega

section Row

variable (i : Fin k0_t1_loop.trips) (h : Fin 2) (r : Fin 512)

theorem qs_apply (e : Fin 256) : ((rowVals x i).qs (ix2 (stk h r) e) : EReal) = qh x h (row (Ib i) r) e :=
  (pay25_apply _ h r e).trans (congrArg (fun a : EReal => if wide h e then a else 0) (window_rows x.q _ _ (Ib i) (off1_eq i) r e))
theorem dos_apply (e : Fin 128) : ((rowVals x i).dos (ix2 (stk h r) e) : EReal) = doh x h (row (Ib i) r) e :=
  (pay29_apply _ h r e).trans (congrArg (fun a : EReal => if half h e then a else 0) (window_rows x.dO _ _ (Ib i) (off2_eq i) r e))
theorem dosT_apply (e : Fin 128) : ((rowVals x i).dosT (ix2 e (stk h r)) : EReal) = doh x h (row (Ib i) r) e :=
  (pay30_apply _ h r e).trans (congrArg (fun a : EReal => if half h e then a else 0) (window_rows x.dO _ _ (Ib i) (off2_eq i) r e))
theorem qsT_apply (e : Fin 256) : (k0_pay31 (rowVals x i).qs (ix2 e (stk h r)) : EReal) = qh x h (row (Ib i) r) e :=
  (pay31_apply _ _ _).trans (qs_apply x i h r e)
theorem delta_apply : ((rowVals x i).delta (ix2 (stk h r) 0) : EReal) = delta x h (row (Ib i) r) :=
  (pay27_apply _ _ h r).trans (Finset.sum_congr rfl fun e _ => congrArg₂ (fun a b : EReal => (if half h e then a else 0) * b)
    (window_rows x.dO _ _ (Ib i) (off2_eq i) r e) (window_rows x.o _ _ (Ib i) (off2_eq i) r e))
theorem lse_apply : ((rowVals x i).lse (ix2 (stk h r) 0) : EReal) = x.lse (ix4 0 h (row (Ib i) r) 0) := by
  refine (pay28_apply _ _ h r).trans ?_
  rw [window_lses x.lse _ _ 0 (Ib i) (off3_eq i), window_lses x.lse _ _ 1 (Ib i) (off4_eq i)]
  obtain rfl | rfl : h = 0 ∨ h = 1 := by omega
  · rfl
  · rfl

theorem key_apply (j : Fin (k0_t2_loop i).trips) (c : Fin 512) (e : Fin 256) : (keyBlock x.k i j (ix2 c e) : EReal) = x.k (ix2 (row (Jb i j) c) e) :=
  window_rows x.k _ _ (Jb i j) (off5_eq i j) c e
theorem val_apply (j : Fin (k0_t2_loop i).trips) (c : Fin 512) (e : Fin 128) : (valBlock x.v i j (ix2 c e) : EReal) = x.v (ix2 (row (Jb i j) c) e) :=
  window_rows x.v _ _ (Jb i j) (off6_eq i j) c e
theorem diagK_apply (c : Fin 512) (e : Fin 256) : (diagK x i (ix2 c e) : EReal) = x.k (ix2 (row (Ib i) c) e) :=
  window_rows x.k _ _ (Ib i) (off1_eq i) c e
theorem diagV_apply (c : Fin 512) (e : Fin 128) : (diagV x i (ix2 c e) : EReal) = x.v (ix2 (row (Ib i) c) e) :=
  window_rows x.v _ _ (Ib i) (off2_eq i) c e

/-- A block below the diagonal: its probabilities, and the gradient of its scores. -/
theorem p_apply (j : Fin (k0_t2_loop i).trips) (c : Fin 512) :
    (k0_pay10 (rowVals x i).qs (rowVals x i).lse (keyBlock x.k i j) (ix2 (stk h r) c) : EReal) = P x h (row (Ib i) r) (row (Jb i j) c) := by
  refine (pay10_apply _ _ _ _ c).trans ?_
  rw [lse_apply, P_pos x h (row (Ib i) r) (row (Jb i j) c) (show 512 * j.val + c.val ≤ 512 * i.val + r.val by have := trip_lt i j; have := c.isLt; omega)]
  simp only [qs_apply, key_apply]
theorem ds_apply (j : Fin (k0_t2_loop i).trips) (c : Fin 512) :
    (k0_pay11 (rowVals x i).qs (rowVals x i).delta (rowVals x i).lse (rowVals x i).dos (keyBlock x.k i j) (valBlock x.v i j) (ix2 (stk h r) c) : EReal)
      = D x h (row (Ib i) r) (row (Jb i j) c) := by
  refine (pay11_apply _ _ _ _ _ _ _ c).trans ?_
  rw [p_apply, delta_apply]
  simp only [dos_apply, val_apply]
  rfl

/-- The diagonal block. -/
theorem diagP_apply (c : Fin 512) : (k0_pay38 k0_pay3 (rowVals x i).qs (rowVals x i).lse (diagK x i) (ix2 (stk h r) c) : EReal)
    = P x h (row (Ib i) r) (row (Ib i) c) := by
  refine (pay38_apply _ _ _ h r c).trans ?_
  rw [lse_apply]
  by_cases hc : c.val ≤ r.val
  · rw [if_pos hc, P_pos x h (row (Ib i) r) (row (Ib i) c) (show 512 * i.val + c.val ≤ 512 * i.val + r.val by omega)]
    simp only [qs_apply, diagK_apply]
  · rw [if_neg hc, P_neg x h (row (Ib i) r) (row (Ib i) c) (show ¬ 512 * i.val + c.val ≤ 512 * i.val + r.val by omega), ninf, EReal.bot_sub]
    rfl
theorem diagDs_apply (c : Fin 512) : (diagDs x i (ix2 (stk h r) c) : EReal) = D x h (row (Ib i) r) (row (Ib i) c) := by
  unfold diagDs
  refine (pay39_apply _ _ _ _ _ _ _ c).trans ?_
  rw [diagP_apply, delta_apply]
  simp only [dos_apply, diagV_apply]
  rfl

end Row

theorem qh_own (I : Fin 4096) (e : Fin 256) : qh x (hw e) I e = x.q (ix2 I e) := if_pos rfl
theorem doh_own (I : Fin 4096) (e : Fin 128) : doh x (hd e) I e = x.dO (ix2 I e) := if_pos rfl

/-- One block's part of each sum: the keys' and values' gradients over the rows of a query block, the queries' gradient over the
    columns of a key block. -/
def kPart (J : Fin 4096) (e : Fin 256) (i : Fin 8) : EReal := ∑ r : Fin 512, x.q (ix2 (row i r) e) * D x (hw e) (row i r) J
def vPart (J : Fin 4096) (e : Fin 128) (i : Fin 8) : EReal := ∑ r : Fin 512, x.dO (ix2 (row i r) e) * P x (hd e) (row i r) J
def qPart (h : Fin 2) (I : Fin 4096) (e : Fin 256) (j : Fin 8) : EReal := ∑ c : Fin 512, D x h I (row j c) * x.k (ix2 (row j c) e)

/-- What a row block carries after `n` key blocks. -/
theorem carry_apply (i : Fin k0_t1_loop.trips) (h : Fin 2) (r : Fin 512) (e : Fin 256) (n : ℕ) (hn : n ≤ (k0_t2_loop i).trips) :
    (carryFrom x.k x.v (rowVals x i) i (k0_pay32 (F := Ideal)) n (ix2 (stk h r) e) : EReal) = pref n (qPart x h (row (Ib i) r) e) := by
  induction n with
  | zero => rw [pref_zero]; show (k0_pay32 (F := Ideal) (ix2 (stk h r) e) : EReal) = 0; unfold k0_pay32; pointwise
  | succ n ih =>
    rw [carryFrom_succ x.k x.v (rowVals x i) i _ ⟨n, hn⟩]
    refine (pay34_apply _ _ _ _ e).trans ?_
    rw [ih (Nat.le_of_lt hn)]
    refine Eq.trans ?_ (pref_succ (Jb i ⟨n, hn⟩) _).symm
    congr 1
    exact Finset.sum_congr rfl fun c _ => by rw [ds_apply, pay9_apply, key_apply]

/-- Adding block `n` to what has been added for the blocks before it. -/
theorem add_next (j' j : Fin 8) (n : ℕ) (hj : j.val = n) (a b : EReal) :
    (if j' = j then (a + if j'.val < n then b else 0) + b else a + if j'.val < n then b else 0) = a + if j'.val < n + 1 then b else 0 := by
  by_cases h : j' = j
  · have hv : j'.val = n := (congrArg Fin.val h).trans hj
    rw [if_pos h, if_neg (by omega), if_pos (by omega), add_zero]
  · have hv : j'.val ≠ n := fun hv => h (Fin.ext (hv.trans hj.symm))
    rw [if_neg h]
    by_cases hl : j'.val < n
    · rw [if_pos hl, if_pos (by omega)]
    · rw [if_neg hl, if_neg (by omega)]

/-- The accumulators after `n` key blocks of one query block. -/
theorem inner_apply (i : Fin k0_t1_loop.trips) (j' : Fin 8) (p : Acc Ideal × FVec Ideal S1024x256 .f32) (n : ℕ) (hn : n ≤ (k0_t2_loop i).trips) :
    (∀ (e : Fin 256) (t : Fin 512), ((innerFrom x.k x.v (rowVals x i) i p n).1.dk (ix3 j' e t) : EReal)
        = p.1.dk (ix3 j' e t) + if j'.val < n then kPart x (row j' t) e (Ib i) else 0)
      ∧ (∀ (e : Fin 128) (t : Fin 512), ((innerFrom x.k x.v (rowVals x i) i p n).1.dv (ix3 j' e t) : EReal)
        = p.1.dv (ix3 j' e t) + if j'.val < n then vPart x (row j' t) e (Ib i) else 0) := by
  induction n with
  | zero =>
    refine ⟨fun e t => ?_, fun e t => ?_⟩
    · rw [if_neg (Nat.not_lt_zero _), add_zero]; rfl
    · rw [if_neg (Nat.not_lt_zero _), add_zero]; rfl
  | succ n ih =>
    obtain ⟨ik, iv⟩ := ih (Nat.le_of_lt hn)
    rw [innerFrom_succ x.k x.v (rowVals x i) i p ⟨n, hn⟩]
    refine ⟨fun e t => ?_, fun e t => ?_⟩
    · refine (put_accs (W := 256) _ _ (Jb i ⟨n, hn⟩) (off8_eq i ⟨n, hn⟩) _ j' e t).trans (Eq.trans ?_ (add_next j' (Jb i ⟨n, hn⟩) n rfl _ _))
      by_cases hj : j' = Jb i ⟨n, hn⟩
      · rw [if_pos hj, if_pos hj]
        refine (pay33_apply _ _ _ _ _ _ _ _ e t).trans ?_
        refine congrArg₂ (· + ·) ((window_accs (W := 256) _ _ _ (Jb i ⟨n, hn⟩) (off8_eq i ⟨n, hn⟩) e t).trans ?_) ?_
        · rw [← hj]; exact ik e t
        · exact Finset.sum_congr rfl fun r _ => by rw [qsT_apply, ds_apply, ← hj, qh_own]
      · rw [if_neg hj, if_neg hj]; exact ik e t
    · refine (put_accs (W := 128) _ _ (Jb i ⟨n, hn⟩) (off7_eq i ⟨n, hn⟩) _ j' e t).trans (Eq.trans ?_ (add_next j' (Jb i ⟨n, hn⟩) n rfl _ _))
      by_cases hj : j' = Jb i ⟨n, hn⟩
      · rw [if_pos hj, if_pos hj]
        refine (pay12_apply _ _ _ _ _ e t).trans ?_
        refine congrArg₂ (· + ·) ((window_accs (W := 128) _ _ _ (Jb i ⟨n, hn⟩) (off7_eq i ⟨n, hn⟩) e t).trans ?_) ?_
        · rw [← hj]; exact iv e t
        · exact Finset.sum_congr rfl fun r _ => by rw [dosT_apply, p_apply, ← hj, doh_own]
      · rw [if_neg hj, if_neg hj]; exact iv e t

/-- Above the diagonal nothing is added. -/
theorem kPart_masked (j' : Fin 8) (t : Fin 512) (e : Fin 256) (i : Fin 8) (hi : i.val < j'.val) : kPart x (row j' t) e i = 0 :=
  Finset.sum_eq_zero fun r _ => by
    rw [D_masked x _ _ _ (show ¬ 512 * j'.val + t.val ≤ 512 * i.val + r.val by have := r.isLt; omega), mul_zero]
theorem vPart_masked (j' : Fin 8) (t : Fin 512) (e : Fin 128) (i : Fin 8) (hi : i.val < j'.val) : vPart x (row j' t) e i = 0 :=
  Finset.sum_eq_zero fun r _ => by
    rw [P_neg x _ _ _ (show ¬ 512 * j'.val + t.val ≤ 512 * i.val + r.val by have := r.isLt; omega), mul_zero]

/-- The diagonal block completes a query block's part. -/
theorem add_diag (j' I : Fin 8) (f : Fin 8 → EReal) (hf : I.val < j'.val → f I = 0) :
    (if j' = I then (pref I.val f + if j'.val < I.val then f I else 0) + f I else pref I.val f + if j'.val < I.val then f I else 0) = pref (I.val + 1) f := by
  refine Eq.trans (b := pref I.val f + f I) ?_ (pref_succ I f).symm
  by_cases hj : j' = I
  · have hv : j'.val = I.val := congrArg Fin.val hj
    rw [if_pos hj, if_neg (by omega), add_zero]
  · have hv : j'.val ≠ I.val := fun hv => hj (Fin.ext hv)
    rw [if_neg hj]
    by_cases hl : j'.val < I.val
    · rw [if_pos hl]
    · rw [if_neg hl, hf (by omega)]

/-- The accumulators after `n` query blocks. -/
theorem acc_apply (j' : Fin 8) (n : ℕ) (hn : n ≤ k0_t1_loop.trips) :
    (∀ (e : Fin 256) (t : Fin 512), ((accFrom x ⟨k0_pay1 (F := Ideal), k0_pay2 (F := Ideal)⟩ n).dk (ix3 j' e t) : EReal) = pref n (kPart x (row j' t) e))
      ∧ (∀ (e : Fin 128) (t : Fin 512), ((accFrom x ⟨k0_pay1 (F := Ideal), k0_pay2 (F := Ideal)⟩ n).dv (ix3 j' e t) : EReal) = pref n (vPart x (row j' t) e)) := by
  induction n with
  | zero =>
    refine ⟨fun e t => ?_, fun e t => ?_⟩
    · rw [pref_zero]; show (k0_pay1 (F := Ideal) (ix3 j' e t) : EReal) = 0; unfold k0_pay1; pointwise
    · rw [pref_zero]; show (k0_pay2 (F := Ideal) (ix3 j' e t) : EReal) = 0; unfold k0_pay2; pointwise
  | succ n ih =>
    obtain ⟨jk, jv⟩ := ih (Nat.le_of_lt hn)
    rw [accFrom_succ x _ ⟨n, hn⟩]
    obtain ⟨ik, iv⟩ := inner_apply x ⟨n, hn⟩ j' (accFrom x ⟨k0_pay1 (F := Ideal), k0_pay2 (F := Ideal)⟩ n, k0_pay32 (F := Ideal)) _ le_rfl
    have hI : (Ib ⟨n, hn⟩).val = n := rfl
    have ht : (k0_t2_loop ⟨n, hn⟩).trips = n := trips2 ⟨n, hn⟩
    refine ⟨fun e t => ?_, fun e t => ?_⟩
    · have ik' := ik e t
      rw [jk e t] at ik'
      simp only [ht] at ik'
      refine (put_accs (W := 256) _ _ (Ib ⟨n, hn⟩) (off14_eq ⟨n, hn⟩) _ j' e t).trans
        (Eq.trans ?_ (add_diag j' (Ib ⟨n, hn⟩) _ (kPart_masked x j' t e (Ib ⟨n, hn⟩))))
      by_cases hj : j' = Ib ⟨n, hn⟩
      · subst hj
        rw [if_pos rfl, if_pos rfl]
        refine (pay5_apply _ _ _ e t).trans (congrArg₂ (· + ·) ((window_accs (W := 256) _ _ _ (Ib ⟨n, hn⟩) (off14_eq ⟨n, hn⟩) e t).trans ?_) ?_)
        · unfold MlaRun.inner; simp only [ht]; exact ik'
        · exact Finset.sum_congr rfl fun r _ => by rw [qsT_apply, diagDs_apply, qh_own]
      · rw [if_neg hj, if_neg hj]
        unfold MlaRun.inner; simp only [ht]; exact ik'
    · have iv' := iv e t
      rw [jv e t] at iv'
      simp only [ht] at iv'
      refine (put_accs (W := 128) _ _ (Ib ⟨n, hn⟩) (off13_eq ⟨n, hn⟩) _ j' e t).trans
        (Eq.trans ?_ (add_diag j' (Ib ⟨n, hn⟩) _ (vPart_masked x j' t e (Ib ⟨n, hn⟩))))
      by_cases hj : j' = Ib ⟨n, hn⟩
      · subst hj
        rw [if_pos rfl, if_pos rfl]
        refine (pay4_apply _ _ _ _ _ e t).trans (congrArg₂ (· + ·) ((window_accs (W := 128) _ _ _ (Ib ⟨n, hn⟩) (off13_eq ⟨n, hn⟩) e t).trans ?_) ?_)
        · unfold MlaRun.inner; simp only [ht]; exact iv'
        · exact Finset.sum_congr rfl fun r _ => by rw [dosT_apply, diagP_apply, doh_own]
      · rw [if_neg hj, if_neg hj]
        unfold MlaRun.inner; simp only [ht]; exact iv'

/-- The queries' gradient: for each position and column, the sum over all positions of the gradient of the scores times the keys. -/
theorem out_q (d : Vec Ideal S4096x256 .f32) (I : Fin 4096) (e : Fin 256) :
    ((looped x d).dq (ix2 I e) : EReal) = (∑ J : Fin 4096, D x (hw e) I J * x.k (ix2 J e)) * gs := by
  obtain ⟨i, r, rfl⟩ : ∃ i r, I = row i r := ⟨blk I, pos I, (row_blk I).symm⟩
  rw [looped_dq]
  refine (pay6_apply _ _ _ r e).trans (congrArg (· * gs) ?_)
  have hi : Ib (i.cast trips1.symm) = i := rfl
  rw [sum_rows, ← pref_eq_sum (i.val + 1) (fun j => ∑ c, D x (hw e) (row i r) (row j c) * (x.k (ix2 (row j c) e) : EReal)), pref_succ]
  · refine congrArg₂ (· + ·) ?_ ?_
    · refine (carry_apply x (i.cast trips1.symm) (hw e) r e _ le_rfl).trans ?_
      rw [trips2]; rfl
    · exact Finset.sum_congr rfl fun c _ => by rw [diagDs_apply, pay37_apply, diagK_apply, hi]
  · intro j hj
    refine Finset.sum_eq_zero fun c _ => ?_
    rw [D_masked x _ _ _ (show ¬ 512 * j.val + c.val ≤ 512 * i.val + r.val by have := r.isLt; omega), zero_mul]

/-- The keys' gradient. -/
theorem out_k (d : Vec Ideal S4096x256 .f32) (o : Stored Ideal) (J : Fin 4096) (e : Fin 256) :
    ((stored x d o).dk (ix2 J e) : EReal) = (∑ I : Fin 4096, x.q (ix2 I e) * D x (hw e) I J) * gs := by
  obtain ⟨j, r, rfl⟩ : ∃ i r, J = row i r := ⟨blk J, pos J, (row_blk J).symm⟩
  rw [stored_dk]
  refine (pay7_apply _ r e).trans (congrArg (· * gs) ?_)
  refine (window_accs (W := 256) _ _ _ j (off15_eq (j.cast trips4.symm)) e r).trans ?_
  exact ((acc_apply x j _ le_rfl).1 e r).trans ((pref_all _ trips1.ge _).trans (sum_rows fun I => (x.q (ix2 I e) : EReal) * D x (hw e) I (row j r)).symm)

/-- The values' gradient. -/
theorem out_v (d : Vec Ideal S4096x256 .f32) (o : Stored Ideal) (J : Fin 4096) (e : Fin 128) :
    ((stored x d o).dv (ix2 J e) : EReal) = ∑ I : Fin 4096, x.dO (ix2 I e) * P x (hd e) I J := by
  obtain ⟨j, r, rfl⟩ : ∃ i r, J = row i r := ⟨blk J, pos J, (row_blk J).symm⟩
  rw [stored_dv]
  refine (pay8_apply _ r e).trans ?_
  refine (window_accs (W := 128) _ _ _ j (off17_eq (j.cast trips4.symm)) e r).trans ?_
  exact ((acc_apply x j _ le_rfl).2 e r).trans ((pref_all _ trips1.ge _).trans (sum_rows fun I => (x.dO (ix2 I e) : EReal) * P x (hd e) I (row j r)).symm)

end Cert.MlaPay
-- ==== Proof.MlaValue.lean ====
/-
  The three result arrays of the latent attention's backward kernel are the gradients of `MlaReal`.
-/
module

public import proofs.«01_k».proof.Proof.MlaHost
public import proofs.«01_k».proof.Proof.MlaKernel

@[expose] public section

set_option maxRecDepth 16384

noncomputable section

namespace Cert.MlaValue

open Cert.MlaIdeal Cert.MlaIdeal.Gen Cert.MlaRun
open Idealize.ShloMosaic Idealize.ShloMosaic.TcCoe Idealize.ShloMosaic.Tactic
open Cert.AttnMath Cert.MlaReal Cert.Blocks Cert.MlaHost
open Idealize.ShloMosaic.Pipeline (Dat)

/-- A sum over the columns of `n` heads of `W` columns, of which one head's count. -/
theorem sum_own {n W : ℕ} (h : Fin n) (a b : Fin (n * W) → EReal) (hb : ∀ d : Fin W, h.val * W + d.val < n * W) :
    ∑ e : Fin (n * W), (if e.val / W = h.val then a e else 0) * b e = ∑ d : Fin W, a ⟨h.val * W + d.val, hb d⟩ * b ⟨h.val * W + d.val, hb d⟩ := by
  have hdiv : ∀ (p : Fin n) (d : Fin W), (p.val * W + d.val) / W = p.val := fun p d => by
    rw [Nat.add_comm, Nat.add_mul_div_right _ _ (Nat.lt_of_le_of_lt (Nat.zero_le _) d.isLt), Nat.div_eq_of_lt d.isLt, Nat.zero_add]
  have hv : ∀ p : Fin n × Fin W, (finProdFinEquiv p).val = p.1.val * W + p.2.val := fun p => by
    show p.2.val + W * p.1.val = p.1.val * W + p.2.val
    rw [Nat.add_comm, Nat.mul_comm]
  refine (Equiv.sum_comp (finProdFinEquiv (m := n) (n := W)) _).symm.trans ?_
  rw [Fintype.sum_prod_type, Finset.sum_eq_single h]
  · refine Finset.sum_congr rfl fun d _ => ?_
    have he : finProdFinEquiv (h, d) = ⟨h.val * W + d.val, hb d⟩ := Fin.ext (hv (h, d))
    rw [he]
    exact congrArg (· * _) (if_pos (hdiv h d))
  · intro p _ hne
    refine Finset.sum_eq_zero fun d _ => (congrArg (· * _) (if_neg ?_)).trans (zero_mul _)
    rw [hv (p, d), hdiv p d]
    exact fun hh => hne (Fin.ext hh)
  · exact fun hh => absurd (Finset.mem_univ _) hh

theorem scale : MlaPay.sc = (((Real.sqrt 96)⁻¹ * (Real.log 2)⁻¹ : ℝ) : EReal) :=
  IdealRules.named_const.ideal_named_scalar _ _ _ _ rfl
theorem grad_scale : MlaPay.gs = (((Real.sqrt 96)⁻¹ : ℝ) : EReal) :=
  IdealRules.named_const.ideal_named_scalar _ _ _ _ rfl

variable {m : (ℓ : Loc nD τ sig) → Buf (Elt Ideal) ℓ} {c : Dev nD} {a : Args}
variable (hr : MlaHost.Real m c a)

/-- Head `h` of grid point `t`. -/
def hdOf (t : Fin cfg0.N) (h : Fin 2) : Fin 8 := ⟨t.val * 2 + h.val, by have := t_lt t; omega⟩

theorem hw_of (t : Fin cfg0.N) (e : Fin 256) (hc : t.val * 256 + e.val < 1024) : MlaRef.hw ⟨t.val * 256 + e.val, hc⟩ = hdOf t (MlaPay.hw e) :=
  Fin.ext (by unfold hdOf MlaPay.hw; show (t.val * 256 + e.val) / 128 = t.val * 2 + e.val / 128; omega)
theorem hv_of (t : Fin cfg0.N) (e : Fin 128) (hc : t.val * 128 + e.val < 512) : MlaRef.hv ⟨t.val * 128 + e.val, hc⟩ = hdOf t (FoxPay.hd e) :=
  Fin.ext (by unfold hdOf FoxPay.hd; show (t.val * 128 + e.val) / 64 = t.val * 2 + e.val / 64; omega)
theorem ft_of (t : Fin cfg0.N) (e : Fin 128) (hc : t.val * 128 + e.val < 512) : MlaRef.ft ⟨t.val * 128 + e.val, hc⟩ = ⟨e.val % 64, by omega⟩ :=
  Fin.ext (by show (t.val * 128 + e.val) % 64 = e.val % 64; omega)

section
include hr

/-! ## The blocks of the arguments, column by column -/

theorem q_col (t : Fin cfg0.N) (I : Fin 4096) (e : Fin 256) :
    (insAt m c t).q (ix2 I e) = ((lane (qf a (hdOf t (MlaPay.hw e)) I) (e.val % 128) : ℝ) : EReal) := by
  have hc : t.val * 256 + e.val < 1024 := by have := t_lt t; omega
  refine (blk0 m c t I e).trans ((v50_at hr I ⟨t.val * 256 + e.val, hc⟩).trans ?_)
  rw [hw_of t e hc, show (t.val * 256 + e.val) % 128 = e.val % 128 by omega]

theorem k_col (t : Fin cfg0.N) (I : Fin 4096) (e : Fin 256) :
    (insAt m c t).k (ix2 I e) = ((lane (kf a (hdOf t (MlaPay.hw e)) I) (e.val % 128) : ℝ) : EReal) := by
  have hc : t.val * 256 + e.val < 1024 := by have := t_lt t; omega
  refine (blk1 m c t I e).trans ((v55_key hr I ⟨t.val * 256 + e.val, hc⟩).trans ?_)
  rw [hw_of t e hc, show (t.val * 256 + e.val) % 128 = e.val % 128 by omega]

theorem v_col (t : Fin cfg0.N) (I : Fin 4096) (e : Fin 128) :
    (insAt m c t).v (ix2 I e) = ((vf a (hdOf t (FoxPay.hd e)) I ⟨e.val % 64, by omega⟩ : ℝ) : EReal) := by
  have hc : t.val * 128 + e.val < 512 := by have := t_lt t; omega
  refine (blk2 m c t I e).trans ((v55_val hr I ⟨t.val * 128 + e.val, hc⟩).trans ?_)
  rw [hv_of t e hc, ft_of t e hc]

theorem g_col (t : Fin cfg0.N) (I : Fin 4096) (e : Fin 128) :
    (insAt m c t).dO (ix2 I e) = ((gf a (hdOf t (FoxPay.hd e)) I ⟨e.val % 64, by omega⟩ : ℝ) : EReal) := by
  refine (blk3 m c t I e).trans ?_
  rw [hr.h3]
  unfold gf hdOf FoxPay.hd
  refine congrArg (fun j => ((a.g (ix2 I j) : ℝ) : EReal)) (Fin.ext ?_)
  show t.val * 128 + e.val = (t.val * 2 + e.val / 64) * 64 + e.val % 64
  omega

theorem o_col (t : Fin cfg0.N) (I : Fin 4096) (e : Fin 128) :
    (insAt m c t).o (ix2 I e) = ((O a (hdOf t (FoxPay.hd e)) I ⟨e.val % 64, by omega⟩ : ℝ) : EReal) := by
  have hc : t.val * 128 + e.val < 512 := by have := t_lt t; omega
  refine (blk4 m c t I e).trans ((v24_at hr I ⟨t.val * 128 + e.val, hc⟩).trans ?_)
  rw [hv_of t e hc, ft_of t e hc]

theorem lse_at' (t : Fin cfg0.N) (h : Fin 2) (I : Fin 4096) : (insAt m c t).lse (ix4 0 h I 0)
    = (((Mx a (hdOf t h) I + Real.log (L a (hdOf t h) I)) / Real.log 2 : ℝ) : EReal) :=
  (blk5 m c t h I).trans (v47_at hr (t.cast points) h I)

/-! ## Probabilities and the gradient of the scores -/

omit hr in
theorem wide_own (h : Fin 2) (d : Fin 128) (hb : h.val * 128 + d.val < 256) : MlaPay.hw ⟨h.val * 128 + d.val, hb⟩ = h :=
  Fin.ext (by unfold MlaPay.hw; show (h.val * 128 + d.val) / 128 = h.val; omega)
omit hr in
theorem half_own (h : Fin 2) (d : Fin 64) (hb : h.val * 64 + d.val < 128) : FoxPay.hd ⟨h.val * 64 + d.val, hb⟩ = h :=
  Fin.ext (by unfold FoxPay.hd; show (h.val * 64 + d.val) / 64 = h.val; omega)
omit hr in
theorem half_ft (h : Fin 2) (d : Fin 64) (hl : (h.val * 64 + d.val) % 64 < 64) : (⟨(h.val * 64 + d.val) % 64, hl⟩ : Fin 64) = d :=
  Fin.ext (by show (h.val * 64 + d.val) % 64 = d.val; omega)

/-- The product of a query and a key. -/
theorem qk_sum (t : Fin cfg0.N) (h : Fin 2) (I J : Fin 4096) :
    ∑ e : Fin 256, MlaPay.qh (insAt m c t) h I e * (insAt m c t).k (ix2 J e) = ((∑ d, qf a (hdOf t h) I d * kf a (hdOf t h) J d : ℝ) : EReal) := by
  refine (sum_own (n := 2) (W := 128) h (fun e => (insAt m c t).q (ix2 I e)) (fun e => (insAt m c t).k (ix2 J e)) (fun d => by omega)).trans ?_
  rw [← sum_lane, ← coe_sum]
  refine Finset.sum_congr rfl fun d _ => ?_
  have hb : h.val * 128 + d.val < 256 := by omega
  rw [EReal.coe_mul]
  refine congrArg₂ (· * ·) ((q_col hr t I ⟨h.val * 128 + d.val, hb⟩).trans ?_) ((k_col hr t J ⟨h.val * 128 + d.val, hb⟩).trans ?_)
  · rw [wide_own h d hb, show (h.val * 128 + d.val) % 128 = d.val by omega]
  · rw [wide_own h d hb, show (h.val * 128 + d.val) % 128 = d.val by omega]

/-- The kernel's probabilities are the attention's. -/
theorem P_eq (t : Fin cfg0.N) (h : Fin 2) (I J : Fin 4096) : MlaPay.P (insAt m c t) h I J = ((P a (hdOf t h) I J : ℝ) : EReal) := by
  by_cases hm : J.val ≤ I.val
  · rw [MlaPay.P_pos _ _ _ _ hm, qk_sum hr, lse_at' hr, scale, ← EReal.coe_mul, ← EReal.coe_sub, exp2_real]
    refine congrArg _ (pr_exp2 (fun J => J ≤ I) _ _ ⟨I, le_rfl⟩ J hm _ ?_)
    have h2 := log2_ne
    have h3 := root_pos.ne'
    unfold S
    show _ = _ - (_ + Real.log (L a (hdOf t h) I))
    rw [show Real.sqrt 96 = root from rfl]
    field_simp
  · rw [MlaPay.P_neg _ _ _ _ hm]
    unfold P
    rw [pr_masked (fun J => J ≤ I) _ _ J hm, EReal.coe_zero]

/-- A sum over the columns of a pair of heads, of the cotangent of one head. -/
theorem g_sum (t : Fin cfg0.N) (h : Fin 2) (I : Fin 4096) (b : Fin 128 → EReal) (r : Fin 64 → ℝ)
    (hb : ∀ d : Fin 64, b ⟨h.val * 64 + d.val, by omega⟩ = ((r d : ℝ) : EReal)) :
    ∑ e : Fin 128, MlaPay.doh (insAt m c t) h I e * b e = ((∑ d, gf a (hdOf t h) I d * r d : ℝ) : EReal) := by
  refine (sum_own (n := 2) (W := 64) h (fun e => (insAt m c t).dO (ix2 I e)) b (fun d => by omega)).trans ?_
  rw [← coe_sum]
  refine Finset.sum_congr rfl fun d _ => ?_
  have hl : h.val * 64 + d.val < 128 := by omega
  rw [EReal.coe_mul]
  refine congrArg₂ (· * ·) ((g_col hr t I ⟨h.val * 64 + d.val, hl⟩).trans ?_) (hb d)
  rw [half_own h d hl, half_ft h d]

/-- The kernel's gradient of the scores is the attention's. -/
theorem D_eq (t : Fin cfg0.N) (h : Fin 2) (I J : Fin 4096) : MlaPay.D (insAt m c t) h I J = ((dS a (hdOf t h) I J : ℝ) : EReal) := by
  unfold MlaPay.D MlaPay.delta
  have hl : ∀ d : Fin 64, h.val * 64 + d.val < 128 := fun d => by omega
  rw [P_eq hr, g_sum hr t h I _ (vf a (hdOf t h) J) fun d => ?_, g_sum hr t h I _ (O a (hdOf t h) I) fun d => ?_]
  · rw [← EReal.coe_sub, ← EReal.coe_mul, delta]
    rfl
  · refine (o_col hr t I ⟨h.val * 64 + d.val, hl d⟩).trans ?_
    rw [half_own h d (hl d), half_ft h d]
  · refine (v_col hr t J ⟨h.val * 64 + d.val, hl d⟩).trans ?_
    rw [half_own h d (hl d), half_ft h d]

/-! ## The blocks of the results -/

omit hr in
theorem lane_sum (w : Fin 4096 → ℝ) (f : Fin 4096 → Fin 96 → ℝ) (e : ℕ) :
    (∑ J, w J * lane (f J) e) * (Real.sqrt 96)⁻¹ = if he : e < 96 then (∑ J, w J * f J ⟨e, he⟩) / root else 0 := by
  by_cases he : e < 96
  · rw [dif_pos he, ← div_eq_mul_inv]
    refine congrArg (· / root) (Finset.sum_congr rfl fun J _ => congrArg (w J * ·) (dif_pos he))
  · have hz : ∀ J, lane (f J) e = 0 := fun J => dif_neg he
    rw [dif_neg he, Finset.sum_eq_zero fun J _ => (congrArg (w J * ·) (hz J)).trans (mul_zero _), zero_mul]

theorem dq_block (t : Fin cfg0.N) (I : Fin 4096) (e : Fin 256) :
    (dqBlock (insAt m c t) (ix2 I e) : EReal) = ((dQ a (hdOf t (MlaPay.hw e)) I (e.val % 128) : ℝ) : EReal) := by
  refine (MlaPay.out_q _ _ I e).trans ?_
  simp only [D_eq hr, k_col hr, grad_scale, ← EReal.coe_mul, coe_sum]
  exact congrArg _ (lane_sum _ _ _)

theorem dk_block (t : Fin cfg0.N) (J : Fin 4096) (e : Fin 256) :
    (dkBlock (insAt m c t) (ix2 J e) : EReal) = ((dK a (hdOf t (MlaPay.hw e)) J (e.val % 128) : ℝ) : EReal) := by
  refine (MlaPay.out_k _ _ _ J e).trans ?_
  simp only [D_eq hr, q_col hr, grad_scale, ← EReal.coe_mul, coe_sum]
  refine congrArg _ (Eq.trans ?_ (lane_sum (fun I => dS a (hdOf t (MlaPay.hw e)) I J) (fun I => qf a (hdOf t (MlaPay.hw e)) I) _))
  exact congrArg (· * _) (Finset.sum_congr rfl fun I _ => mul_comm _ _)

theorem dv_block (t : Fin cfg0.N) (J : Fin 4096) (e : Fin 128) :
    (dvBlock (insAt m c t) (ix2 J e) : EReal) = ((dV a (hdOf t (FoxPay.hd e)) J ⟨e.val % 64, by omega⟩ : ℝ) : EReal) := by
  refine (MlaPay.out_v _ _ _ J e).trans ?_
  simp only [P_eq hr, g_col hr, ← EReal.coe_mul, coe_sum]
  rfl

theorem dq_col (t : Fin cfg0.N) (I : Fin 4096) (e : Fin 256) (hc : t.val * 256 + e.val < 1024) :
    (dqBlock (insAt m c t) (ix2 I e) : EReal) = ((dQ a (MlaRef.hw ⟨t.val * 256 + e.val, hc⟩) I ((t.val * 256 + e.val) % 128) : ℝ) : EReal) := by
  refine (dq_block hr t I e).trans ?_
  rw [hw_of t e hc, show (t.val * 256 + e.val) % 128 = e.val % 128 by omega]

theorem dk_col (t : Fin cfg0.N) (I : Fin 4096) (e : Fin 256) (hc : t.val * 256 + e.val < 1024) :
    (dkBlock (insAt m c t) (ix2 I e) : EReal) = ((dK a (MlaRef.hw ⟨t.val * 256 + e.val, hc⟩) I ((t.val * 256 + e.val) % 128) : ℝ) : EReal) := by
  refine (dk_block hr t I e).trans ?_
  rw [hw_of t e hc, show (t.val * 256 + e.val) % 128 = e.val % 128 by omega]

theorem dv_col (t : Fin cfg0.N) (J : Fin 4096) (e : Fin 128) (hc : t.val * 128 + e.val < 512) :
    (dvBlock (insAt m c t) (ix2 J e) : EReal) = ((dV a (MlaRef.hv ⟨t.val * 128 + e.val, hc⟩) J (MlaRef.ft ⟨t.val * 128 + e.val, hc⟩) : ℝ) : EReal) := by
  refine (dv_block hr t J e).trans ?_
  rw [hv_of t e hc, ft_of t e hc]

end

/-! ## The result arrays -/

section

variable (c a)

/-- The gradients of queries and keys on 128 lanes a head, and of the values. -/
def Gq : Buf (Elt Ideal) ((c : Thread nD τ).loc main_v56_0) := fun y : S4096x1024.Idx => ((dQ a (MlaRef.hw (y 1)) (y 0) ((y 1).val % 128) : ℝ) : EReal)
def Gk : Buf (Elt Ideal) ((c : Thread nD τ).loc main_v56_1) := fun y : S4096x1024.Idx => ((dK a (MlaRef.hw (y 1)) (y 0) ((y 1).val % 128) : ℝ) : EReal)
def Gv : Buf (Elt Ideal) ((c : Thread nD τ).loc main_v56_2) := fun y : S4096x512.Idx => ((dV a (MlaRef.hv (y 1)) (y 0) (MlaRef.ft (y 1)) : ℝ) : EReal)

end

theorem index6 : ∀ t : Fin cfg0.N, win0_6.index t 0 = 0 ∧ win0_6.index t 1 = t.val :=
  (by decide +kernel : ∀ t : Fin grid0.N, _)
theorem index7 : ∀ t : Fin cfg0.N, win0_7.index t 0 = 0 ∧ win0_7.index t 1 = t.val :=
  (by decide +kernel : ∀ t : Fin grid0.N, _)
theorem index8 : ∀ t : Fin cfg0.N, win0_8.index t 0 = 0 ∧ win0_8.index t 1 = t.val :=
  (by decide +kernel : ∀ t : Fin grid0.N, _)

/-- An entry of a block of columns, in the whole array. -/
theorem entry {α : Type} {W C : ℕ} (f : Fin 4096 → Fin C → α) (I : Fin 4096) (e : Fin W) (n : ℕ) (ix : Fin 2 → ℕ) (hi : ix 0 = 0 ∧ ix 1 = n)
    (hc : n * W + e.val < C)
    (b0 : ix 0 * 4096 + 1 * I.val < 4096) (b1 : ix 1 * W + 1 * e.val < C) :
    f I ⟨n * W + e.val, hc⟩ = f ⟨ix 0 * 4096 + 1 * I.val, b0⟩ ⟨ix 1 * W + 1 * e.val, b1⟩ := by
  obtain ⟨h0, h1⟩ := hi
  refine congrArg₂ f (Fin.ext ?_) (Fin.ext ?_)
  · show I.val = ix 0 * 4096 + 1 * I.val; rw [h0]; omega
  · show n * W + e.val = ix 1 * W + 1 * e.val; rw [h1, Nat.one_mul]

/-- A position inside a block, the block's number known. -/
theorem bounds {ix n W x : ℕ} (h : ix = n) (hx : n * W ≤ x ∧ x < n * W + W) : ix * W ≤ x ∧ x < ix * W + W := h ▸ hx

/-- Every column lies in a block. -/
theorem cover {W C : ℕ} (hW : 0 < W) (hC : C = 4 * W) (x : Fin C) : ∃ t : Fin cfg0.N, t.val * W ≤ x.val ∧ x.val < t.val * W + W := by
  have hx : x.val / W < 4 := Nat.div_lt_of_lt_mul (by have := x.isLt; omega)
  refine ⟨⟨x.val / W, lt_of_lt_of_eq hx points.symm⟩, Nat.div_mul_le_self _ _, ?_⟩
  have := Nat.div_add_mod x.val W
  have hm := Nat.mod_lt x.val hW
  show x.val < x.val / W * W + W
  rw [Nat.mul_comm]
  omega

include hr

theorem finalq : (dats m 0 c).arrAt 6 cfg0.N = Gq c a := by
  refine (dats m 0 c).arrAt_eq_of_cover 6 (Gq c a) (fun t _ => ?_) fun (y : S4096x1024.Idx) => ?_
  · have hf : (dats m 0 c).flushed 6 t = (cfg0.win 6).cut (grid0.coords t) (dqBlock (insAt m c t)) := by
      show (cfg0.win 6).cut (grid0.coords t) ((dats m 0 c).after 6 t) = _
      rw [after0_6]
    rw [hf]
    funext x
    obtain ⟨I, e, rfl⟩ : ∃ I e, x = (ix2 I e : S4096x256.Idx) := ⟨_, _, eq_ix2 x⟩
    have hc : t.val * 256 + e.val < 1024 := by have := t_lt t; omega
    refine (dq_col hr t I e hc).trans ?_
    rw [View.read_apply]
    exact entry (W := 256) (fun I j => ((dQ a (MlaRef.hw j) I (j.val % 128) : ℝ) : EReal)) I e t.val ![win0_6.index t 0, win0_6.index t 1] (index6 t) hc _ _
  · obtain ⟨t, ht⟩ := cover (W := 256) (by omega) rfl (show Fin 1024 from y 1)
    obtain ⟨i0, i1⟩ := index6 t
    refine ⟨t, flush0_6 t, ?_⟩
    show y ∈ ((View.whole main_v56_0).slice (win0_6.rect t)).set
    rw [View.set_slice_whole, Rect.mem_set_unit]
    intro b
    match b with
    | ⟨0, _⟩ => exact bounds i0 ⟨by rw [Nat.zero_mul]; exact Nat.zero_le _, by rw [Nat.zero_mul, Nat.zero_add]; exact (y 0).isLt⟩
    | ⟨1, _⟩ => exact bounds i1 ht

theorem finalk : (dats m 0 c).arrAt 7 cfg0.N = Gk c a := by
  refine (dats m 0 c).arrAt_eq_of_cover 7 (Gk c a) (fun t _ => ?_) fun (y : S4096x1024.Idx) => ?_
  · have hf : (dats m 0 c).flushed 7 t = (cfg0.win 7).cut (grid0.coords t) (dkBlock (insAt m c t)) := by
      show (cfg0.win 7).cut (grid0.coords t) ((dats m 0 c).after 7 t) = _
      rw [after0_7]
    rw [hf]
    funext x
    obtain ⟨I, e, rfl⟩ : ∃ I e, x = (ix2 I e : S4096x256.Idx) := ⟨_, _, eq_ix2 x⟩
    have hc : t.val * 256 + e.val < 1024 := by have := t_lt t; omega
    refine (dk_col hr t I e hc).trans ?_
    rw [View.read_apply]
    exact entry (W := 256) (fun I j => ((dK a (MlaRef.hw j) I (j.val % 128) : ℝ) : EReal)) I e t.val ![win0_7.index t 0, win0_7.index t 1] (index7 t) hc _ _
  · obtain ⟨t, ht⟩ := cover (W := 256) (by omega) rfl (show Fin 1024 from y 1)
    obtain ⟨i0, i1⟩ := index7 t
    refine ⟨t, flush0_7 t, ?_⟩
    show y ∈ ((View.whole main_v56_1).slice (win0_7.rect t)).set
    rw [View.set_slice_whole, Rect.mem_set_unit]
    intro b
    match b with
    | ⟨0, _⟩ => exact bounds i0 ⟨by rw [Nat.zero_mul]; exact Nat.zero_le _, by rw [Nat.zero_mul, Nat.zero_add]; exact (y 0).isLt⟩
    | ⟨1, _⟩ => exact bounds i1 ht

theorem finalv : (dats m 0 c).arrAt 8 cfg0.N = Gv c a := by
  refine (dats m 0 c).arrAt_eq_of_cover 8 (Gv c a) (fun t _ => ?_) fun (y : S4096x512.Idx) => ?_
  · have hf : (dats m 0 c).flushed 8 t = (cfg0.win 8).cut (grid0.coords t) (dvBlock (insAt m c t)) := by
      show (cfg0.win 8).cut (grid0.coords t) ((dats m 0 c).after 8 t) = _
      rw [after0_8]
    rw [hf]
    funext x
    obtain ⟨I, e, rfl⟩ : ∃ I e, x = (ix2 I e : S4096x128.Idx) := ⟨_, _, eq_ix2 x⟩
    have hc : t.val * 128 + e.val < 512 := by have := t_lt t; omega
    refine (dv_col hr t I e hc).trans ?_
    rw [View.read_apply]
    exact entry (W := 128) (fun I j => ((dV a (MlaRef.hv j) I (MlaRef.ft j) : ℝ) : EReal)) I e t.val ![win0_8.index t 0, win0_8.index t 1] (index8 t) hc _ _
  · obtain ⟨t, ht⟩ := cover (W := 128) (by omega) rfl (show Fin 512 from y 1)
    obtain ⟨i0, i1⟩ := index8 t
    refine ⟨t, flush0_8 t, ?_⟩
    show y ∈ ((View.whole main_v56_2).slice (win0_8.rect t)).set
    rw [View.set_slice_whole, Rect.mem_set_unit]
    intro b
    match b with
    | ⟨0, _⟩ => exact bounds i0 ⟨by rw [Nat.zero_mul]; exact Nat.zero_le _, by rw [Nat.zero_mul, Nat.zero_add]; exact (y 0).isLt⟩
    | ⟨1, _⟩ => exact bounds i1 ht

end Cert.MlaValue
-- ==== Proof.MlaClaim.lean ====
/- The value claim of the latent attention's backward call: its gradients are the reference's where the arguments are finite. -/
module

public import proofs.«01_k».proof.Defs
public import proofs.«01_k».proof.Proof.FoxClaim
public import proofs.«01_k».proof.Proof.MlaValue
public import proofs.«01_k».proof.Proof.Gen.MlaReferenceIdeal.Run

@[expose] public section

set_option maxRecDepth 16384

noncomputable section

namespace Cert.MlaClaim

open Idealize.ShloMosaic Idealize.ShloMosaic.TcCoe Idealize.SL.Sem
open Cert.FoxClaim (reals and_one)

/-- The precondition read entry by entry: queries, keys, values and the cotangent are finite. -/
theorem finite [Cert.Pre_pre_mla.Facts] (m : (ℓ : Loc Cert.MlaIdeal.nD Cert.MlaIdeal.τ Cert.MlaIdeal.sig) → Buf (Elt Ideal) ℓ)
    (h : Cert.Pre_MlaIdeal_pre_mla m) (c : Dev Cert.MlaIdeal.nD) : ∃ a, MlaHost.Real m c a := by
  have h0 := congrFun (h c) ix0
  obtain ⟨h012, h3⟩ := and_one (show _ &&& _ = 1#1 from h0)
  obtain ⟨h01, h2⟩ := and_one (show _ &&& _ = 1#1 from h012)
  obtain ⟨h0, h1⟩ := and_one (show _ &&& _ = 1#1 from h01)
  have f0 := fun i => Cert.Finite.of_abs_lt _ (Host.reduce_andi_all _ _ _ _ _ h0 i)
  have f1 := fun i => Cert.Finite.of_abs_lt _ (Host.reduce_andi_all _ _ _ _ _ h1 i)
  have f2 := fun i => Cert.Finite.of_abs_lt _ (Host.reduce_andi_all _ _ _ _ _ h2 i)
  have f3 := fun i => Cert.Finite.of_abs_lt _ (Host.reduce_andi_all _ _ _ _ _ h3 i)
  exact ⟨⟨_, _, _, _⟩, reals _ f0, reals _ f1, reals _ f2, reals _ f3⟩

open Cert.MlaIdeal Cert.MlaIdeal.Gen Cert.MlaRun in
/-- The kernel's run: its three results by name, the arguments unchanged. -/
theorem run (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_v56_0) = (dats m 0 c).arrAt 6 cfg0.N
      ∧ r.2.mem ((c.tc : Thread nD τ).loc main_v56_1) = (dats m 0 c).arrAt 7 cfg0.N
      ∧ r.2.mem ((c.tc : Thread nD τ).loc main_v56_2) = (dats m 0 c).arrAt 8 cfg0.N)
      ∧ (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))) :=
  θ_run_and ((θ_run defs _ _).mono (fun r h c => ⟨(h.1 c).1 6, (h.1 c).1 7, (h.1 c).1 8⟩)
    (run_main_quiescent m ρ)) ((θ_run defs _ _).mono (fun _ h => h.1) (frame_any m ρ))

open Cert.MlaIdeal Cert.MlaIdeal.Gen Cert.MlaRun in
/-- The gradients of queries, keys and values are the reference's, from memories that agree on finite arguments. -/
theorem value [Cert.Pre_pre_mla.Facts] : Cert.algebraic_MlaIdeal_MlaReferenceIdeal_pre_pre_mla := by
  intro m g m' g' hpre hag
  refine ⟨fun c => (dats m 0 c).arrAt 6 cfg0.N, fun c => (dats m 0 c).arrAt 7 cfg0.N, fun c => (dats m 0 c).arrAt 8 cfg0.N, ?_, ?_⟩
  · exact (θ_run _ _ _).mono (fun r h c => ⟨(h.1 c).1, (h.1 c).2.1, (h.1 c).2.2, h.2 c⟩) (run m g)
  · refine (θ_run _ _ _).mono (fun r h c => ?_) (Cert.MlaReferenceIdeal.Value.run m' g')
    obtain ⟨h0, h1, h2, h3⟩ := h c
    obtain ⟨hq, hk, hv, hd⟩ := hag c
    obtain ⟨a, hr⟩ := finite m hpre c
    rw [Cert.MlaReferenceIdeal.Read.val_main_v66_eq, hq, hk, hv, hd, hr.h0, hr.h1, hr.h2, hr.h3] at h0
    rw [Cert.MlaReferenceIdeal.Read.val_main_v68_eq, hq, hk, hv, hd, hr.h0, hr.h1, hr.h2, hr.h3] at h1
    rw [Cert.MlaReferenceIdeal.Read.val_main_v70_eq, hq, hk, hd, hr.h0, hr.h1, hr.h3] at h2
    refine ⟨h0.trans ?_, h1.trans ?_, h2.trans ?_, h3⟩
    · refine Eq.trans ?_ (MlaValue.finalq hr).symm
      funext y
      obtain ⟨I, e, rfl⟩ : ∃ I e, y = ix2 I e := ⟨_, _, eq_ix2 y⟩
      exact MlaRef.outq_at a I e
    · refine Eq.trans ?_ (MlaValue.finalk hr).symm
      funext y
      obtain ⟨I, e, rfl⟩ : ∃ I e, y = ix2 I e := ⟨_, _, eq_ix2 y⟩
      exact MlaRef.outk_at a I e
    · refine Eq.trans ?_ (MlaValue.finalv hr).symm
      funext y
      obtain ⟨I, e, rfl⟩ : ∃ I e, y = ix2 I e := ⟨_, _, eq_ix2 y⟩
      exact MlaRef.outv_at a I e

end Cert.MlaClaim
-- ==== Proof.Rows.lean ====
/- Arrays of 4096 rows cut into eight blocks of 512 rows: where an entry of a block lies, and that the blocks cover the array. -/
module

public import Idealize.ShloMosaic.Lib.Pointwise

@[expose] public section

namespace Cert.Rows

/-- An entry of a block of rows, in the whole array. -/
theorem entry {α : Type} {W : ℕ} (f : Fin 4096 → Fin W → α) (p : Fin 512) (e : Fin W) (n : ℕ) (ix : Fin 2 → ℕ) (hi : ix 0 = n ∧ ix 1 = 0)
    (hr : n * 512 + p.val < 4096) (b0 : ix 0 * 512 + 1 * p.val < 4096) (b1 : ix 1 * W + 1 * e.val < W) :
    f ⟨n * 512 + p.val, hr⟩ e = f ⟨ix 0 * 512 + 1 * p.val, b0⟩ ⟨ix 1 * W + 1 * e.val, b1⟩ := by
  obtain ⟨h0, h1⟩ := hi
  refine congrArg₂ f (Fin.ext ?_) (Fin.ext ?_)
  · show n * 512 + p.val = ix 0 * 512 + 1 * p.val; rw [h0, Nat.one_mul]
  · show e.val = ix 1 * W + 1 * e.val; rw [h1, Nat.zero_mul, Nat.zero_add, Nat.one_mul]

open Idealize.ShloMosaic in
/-- An array read at an index given by its block: the block's number and the position in it. -/
theorem at_block {α : Type} {R W B : ℕ} (G : (⟨2, ![R, W]⟩ : Shape).Idx → α) (i : (⟨2, ![R, W]⟩ : Shape).Idx) (p : Fin B) (e : Fin W) (n : ℕ)
    (ix : Fin 2 → ℕ) (hi : ix 0 = n ∧ ix 1 = 0) (hr : n * B + p.val < R)
    (h0 : (i 0).val = ix 0 * B + 1 * p.val) (h1 : (i 1).val = ix 1 * W + 1 * e.val) :
    G i = G (ix2 ⟨n * B + p.val, hr⟩ e) := by
  obtain ⟨e0, e1⟩ := hi
  rw [e0, Nat.one_mul] at h0
  rw [e1, Nat.zero_mul, Nat.zero_add, Nat.one_mul] at h1
  refine congrArg G (funext fun a => Fin.ext ?_)
  match a with
  | ⟨0, _⟩ => exact h0
  | ⟨1, _⟩ => exact h1

/-- A coordinate of an entry of a block, the block's number known. -/
theorem coord {ix n B p x : ℕ} (hi : ix = n) (h : x = ix * B + 1 * p) : x = n * B + p := by rw [h, hi, Nat.one_mul]

/-- A coordinate of an entry of the only block. -/
theorem coord_zero {ix B p x : ℕ} (hi : ix = 0) (h : x = ix * B + 1 * p) : x = p := by rw [h, hi, Nat.one_mul, Nat.zero_mul, Nat.zero_add]

/-- A position inside a block, the block's number known. -/
theorem bounds {ix n W x : ℕ} (h : ix = n) (hx : n * W ≤ x ∧ x < n * W + W) : ix * W ≤ x ∧ x < ix * W + W := h ▸ hx

/-- A position inside the only block. -/
theorem bounds_zero {ix W x : ℕ} (h : ix = 0) (hx : x < W) : ix * W ≤ x ∧ x < ix * W + W := by
  subst h; exact ⟨by rw [Nat.zero_mul]; exact Nat.zero_le _, by rw [Nat.zero_mul, Nat.zero_add]; exact hx⟩

/-- Every row lies in a block. -/
theorem cover {N : ℕ} (hN : N = 8) (x : Fin 4096) : ∃ t : Fin N, t.val * 512 ≤ x.val ∧ x.val < t.val * 512 + 512 := by
  have hx : x.val / 512 < 8 := Nat.div_lt_of_lt_mul (by have := x.isLt; omega)
  refine ⟨⟨x.val / 512, lt_of_lt_of_eq hx hN.symm⟩, Nat.div_mul_le_self _ _, ?_⟩
  show x.val < x.val / 512 * 512 + 512
  omega

/-- A row of a block is a row of the array. -/
theorem row_lt {N : ℕ} (hN : N = 8) (t : Fin N) (p : Fin 512) : t.val * 512 + p.val < 4096 := by
  have := t.isLt; have := p.isLt; omega

/-- Row `p` of block `t`. -/
def row {N : ℕ} (hN : N = 8) (t : Fin N) (p : Fin 512) : Fin 4096 := ⟨t.val * 512 + p.val, row_lt hN t p⟩

/-- A sum over the rows of block `n`, as a sum over a range of row numbers. -/
theorem sum_block {N : ℕ} (hN : N = 8) (f : Fin 4096 → EReal) (t : Fin N) :
    (∑ p : Fin 512, f (row hN t p)) = ∑ k ∈ Finset.Ico (512 * t.val) (512 * (t.val + 1)), if h : k < 4096 then f ⟨k, h⟩ else 0 := by
  rw [Finset.sum_Ico_eq_sum_range, show 512 * (t.val + 1) - 512 * t.val = 512 by omega,
    ← Fin.sum_univ_eq_sum_range (fun k => if h : 512 * t.val + k < 4096 then f ⟨512 * t.val + k, h⟩ else 0) 512]
  refine Finset.sum_congr rfl fun p _ => ?_
  have := row_lt hN t p
  rw [dif_pos (by omega)]
  exact congrArg f (Fin.ext (by show t.val * 512 + p.val = 512 * t.val + p.val; omega))

/-- What starts at the first block's sum and adds each further block's sum is, after the last block, the sum over all rows. -/
theorem accumulate {N : ℕ} (hN : N = 8) (f : Fin 4096 → EReal) (a : (n : ℕ) → n < N → EReal)
    (h0 : ∀ h : 0 < N, a 0 h = ∑ p : Fin 512, f (row hN ⟨0, h⟩ p))
    (hs : ∀ (n : ℕ) (h : n + 1 < N), a (n + 1) h = a n (Nat.lt_of_succ_lt h) + ∑ p : Fin 512, f (row hN ⟨n + 1, h⟩ p))
    (n : ℕ) (h : n < N) (h7 : n = 7) : a n h = ∑ I : Fin 4096, f I := by
  have key : ∀ (n : ℕ) (h : n < N), a n h = ∑ k ∈ Finset.Ico 0 (512 * (n + 1)), if h : k < 4096 then f ⟨k, h⟩ else 0 := by
    intro n
    induction n with
    | zero => intro h; rw [h0 h, sum_block hN f ⟨0, h⟩]; rfl
    | succ n ih =>
      intro h
      rw [hs n h, ih (Nat.lt_of_succ_lt h), sum_block hN f ⟨n + 1, h⟩]
      exact Finset.sum_Ico_consecutive _ (Nat.zero_le _) (Nat.mul_le_mul_left 512 (Nat.le_succ (n + 1)))
  rw [key n h]
  subst h7
  rw [← Finset.range_eq_Ico, ← Fin.sum_univ_eq_sum_range (fun k => if h : k < 4096 then f ⟨k, h⟩ else 0) (512 * (7 + 1))]
  refine Finset.sum_congr rfl fun p _ => ?_
  exact dif_pos p.isLt

end Cert.Rows
-- ==== Proof.NormMath.lean ====
/- The gradient of a root-mean-square norm `x · (mean x² + ε)^(-1/2) · g`: the form that subtracts the projection on the
   normed row, and the form that differentiates the reciprocal root, agree at finite arguments. -/
module

public import proofs.«01_k».proof.Proof.AttnMath
public import proofs.«01_k».proof.Proof.FoxRef

@[expose] public section

noncomputable section

namespace Cert.NormMath

open Idealize.ShloMosaic

/-- The constant under the root, rounded to single precision, and the factor minus one half. -/
def eps : EReal := Ideal.ofBits .f32 897988541#32
def mhalf : EReal := Ideal.ofBits .f32 3204448256#32

theorem eps_real : ∃ e : ℝ, 0 < e ∧ eps = (e : EReal) := by
  refine ⟨_, ?_, by simp only [eps, Ideal.ofBits, Ideal.ieee]; simp; rfl⟩
  norm_num
theorem mhalf_real : mhalf = ((-(1 / 2) : ℝ) : EReal) := by
  simp [mhalf, Ideal.ofBits, Ideal.ieee]
  norm_num
  rw [← EReal.coe_mul]
  norm_num

section
variable {N : Type} [Fintype N] (n : EReal) (x d : N → EReal)

/-- The mean square plus the constant, and its reciprocal root. -/
def var : EReal := Ideal.div (∑ k, x k * x k) n + eps
def inv : EReal := Ideal.rsqrt (var n x)

/-- The gradient of an entry, `d` the cotangent times the weight: the projection on the normed row subtracted. -/
def dX (j : N) : EReal := inv n x * (d j - x j * inv n x * Ideal.div (∑ k, d k * (x k * inv n x)) n)

/-- The gradient's coefficient of `x`, halved: through the reciprocal root. -/
def half : EReal := Ideal.div ((∑ k, x k * d k) * (mhalf * Ideal.div (inv n x) (var n x))) n

/-- The two forms agree. -/
theorem rule (r : ℝ) (hr : 0 < r) (a b : N → ℝ) (j : N) (hx : ∀ k, x k = (a k : EReal)) (hd : ∀ k, d k = (b k : EReal)) :
    (d j * inv (r : EReal) x + x j * half (r : EReal) x d) + half (r : EReal) x d * x j = dX (r : EReal) x d j := by
  obtain ⟨e, he, hee⟩ := eps_real
  have hv : var (r : EReal) x = (((∑ k, a k * a k) / r + e : ℝ) : EReal) := by
    unfold var
    rw [show (∑ k, x k * x k) = ((∑ k, a k * a k : ℝ) : EReal) by
      rw [← AttnMath.coe_sum]; exact Finset.sum_congr rfl fun k _ => by rw [hx, EReal.coe_mul], AttnMath.div_real _ _ hr.ne', hee, EReal.coe_add]
  have hp : 0 < (∑ k, a k * a k) / r + e := add_pos_of_nonneg_of_pos (div_nonneg (Finset.sum_nonneg fun k _ => mul_self_nonneg _) hr.le) he
  generalize (∑ k, a k * a k) / r + e = v at hv hp
  have hs : Real.sqrt v ≠ 0 := (Real.sqrt_pos.mpr hp).ne'
  have hi : inv (r : EReal) x = (((Real.sqrt v)⁻¹ : ℝ) : EReal) := by
    unfold inv
    rw [hv, Ideal.rsqrt_coe, if_neg (not_lt.mpr hp.le), if_neg hp.ne']
  have h1 : (∑ k, x k * d k) = ((∑ k, a k * b k : ℝ) : EReal) := by
    rw [← AttnMath.coe_sum]; exact Finset.sum_congr rfl fun k _ => by rw [hx, hd, EReal.coe_mul]
  have h2 : (∑ k, d k * (x k * inv (r : EReal) x)) = ((∑ k, b k * (a k * (Real.sqrt v)⁻¹) : ℝ) : EReal) := by
    rw [← AttnMath.coe_sum]; exact Finset.sum_congr rfl fun k _ => by rw [hx, hd, hi, EReal.coe_mul, EReal.coe_mul]
  have h3 : (∑ k, b k * (a k * (Real.sqrt v)⁻¹)) = (∑ k, a k * b k) * (Real.sqrt v)⁻¹ := by
    rw [Finset.sum_mul]; exact Finset.sum_congr rfl fun k _ => by ring
  unfold dX half
  rw [h2, h1, h3, hv, hi, mhalf_real, AttnMath.div_real _ _ hp.ne', hx, hd, AttnMath.div_real _ _ hr.ne']
  generalize (∑ k, a k * b k) = S
  rw [← EReal.coe_mul (-(1 / 2)), ← EReal.coe_mul S, AttnMath.div_real _ _ hr.ne']
  have hsq : Real.sqrt v * Real.sqrt v = v := Real.mul_self_sqrt hp.le
  norm_cast
  generalize Real.sqrt v = s at hs hsq
  subst hsq
  field_simp
  ring
end

/-- Arrays of two axes, and a row of one. -/
abbrev Arr (R C : ℕ) : Type := (⟨2, ![R, C]⟩ : Shape).Idx → EReal
def row {R C : ℕ} (x : Arr R C) (I : Fin R) (k : Fin C) : EReal := x (ix2 I k)

/-- The cotangent's row times the weight. -/
def scaled {R C : ℕ} (dy : Arr R C) (g : Arr 1 C) (I : Fin R) (k : Fin C) : EReal := dy (ix2 I k) * g (ix2 0 k)

/-- What row `I` adds to the weight's gradient. -/
def dG {R C : ℕ} (n : EReal) (x dy : Arr R C) (j : Fin C) (I : Fin R) : EReal := dy (ix2 I j) * (x (ix2 I j) * inv n (row x I))

end Cert.NormMath

end
-- ==== Proof.GateMath.lean ====
/- The gradient of a product with a SiLU gate, `a (o · silu g)` for a matrix `a`: the two forms in which it is written
   agree at finite arguments. -/
module

public import proofs.«01_k».proof.Proof.LogfMath
public import proofs.«01_k».proof.Proof.AttnMath

@[expose] public section

noncomputable section

namespace Cert.GateMath

open Idealize.ShloMosaic Cert.LogfMath

/-- An array of two axes. -/
abbrev Arr (R C : ℕ) : Type := (⟨2, ![R, C]⟩ : Shape).Idx → EReal

/-- The cotangent carried back through the output projection. -/
def back (dx : Arr 4096 1024) (w : Arr 1024 1024) (I : Fin 4096) (j : Fin 1024) : EReal := ∑ k : Fin 1024, dx (ix2 I k) * w (ix2 j k)

/-- The gradient of the gated value. -/
def dOut (dx g : Arr 4096 1024) (w : Arr 1024 1024) (I : Fin 4096) (j : Fin 1024) : EReal :=
  back dx w I j * (g (ix2 I j) * gate (g (ix2 I j)))

/-- The gradient of the gate's argument, SiLU's derivative written as one factor. -/
def dGate (dx o g : Arr 4096 1024) (w : Arr 1024 1024) (I : Fin 4096) (j : Fin 1024) : EReal :=
  back dx w I j * o (ix2 I j) * (gate (g (ix2 I j)) * (1 + g (ix2 I j) * (1 - gate (g (ix2 I j)))))

/-- The sigmoid of a real. -/
theorem gate_real (r : ℝ) : gate (r : EReal) = (((1 + Real.exp (-r))⁻¹ : ℝ) : EReal) := by
  unfold gate
  have hp : (1 : ℝ) + Real.exp (-r) ≠ 0 := by positivity
  rw [zero_sub, ← EReal.coe_neg, LogfMath.exp_real, ← EReal.coe_one, ← EReal.coe_add, AttnMath.div_real _ _ hp, one_div]

/-- The product rule's two terms are that one factor, at reals. -/
theorem rule (s o g : ℝ) :
    ((o : EReal) * s) * gate g + g * ((o : EReal) * s) * (gate g * (1 - gate g)) = (s : EReal) * o * (gate g * (1 + g * (1 - gate g))) := by
  rw [gate_real]
  norm_cast
  ring

/-- The cotangent carried back is a real where its factors are. -/
theorem back_real (dx : Arr 4096 1024) (w : Arr 1024 1024) (hd : ∀ i, ∃ r : ℝ, dx i = r) (hw : ∀ i, ∃ r : ℝ, w i = r)
    (I : Fin 4096) (j : Fin 1024) : ∃ r : ℝ, back dx w I j = r := by
  choose d hd using hd
  choose v hw using hw
  refine ⟨∑ k : Fin 1024, d (ix2 I k) * v (ix2 j k), ?_⟩
  unfold back
  rw [← AttnMath.coe_sum]
  refine Finset.sum_congr rfl fun k _ => ?_
  rw [hd, hw, EReal.coe_mul]

/-- The product rule's two terms are the gate's gradient, where the arguments are finite. -/
theorem dGate_rule (dx o g : Arr 4096 1024) (w : Arr 1024 1024) (hd : ∀ i, ∃ r : ℝ, dx i = r) (ho : ∀ i, ∃ r : ℝ, o i = r)
    (hg : ∀ i, ∃ r : ℝ, g i = r) (hw : ∀ i, ∃ r : ℝ, w i = r) (I : Fin 4096) (j : Fin 1024) :
    (o (ix2 I j) * back dx w I j) * gate (g (ix2 I j)) + g (ix2 I j) * (o (ix2 I j) * back dx w I j) * (gate (g (ix2 I j)) * (1 - gate (g (ix2 I j))))
      = dGate dx o g w I j := by
  obtain ⟨s, hs⟩ := back_real dx w hd hw I j
  obtain ⟨a, ha⟩ := ho (ix2 I j)
  obtain ⟨b, hb⟩ := hg (ix2 I j)
  unfold dGate
  rw [hs, ha, hb]
  exact rule s a b

/-- Two matrices of 512 columns side by side. -/
def both {R : ℕ} (a b : Arr R 512) : Arr R 1024 := fun y =>
  if h : (y 1).val < 512 then a (ix2 (y 0) ⟨(y 1).val, h⟩) else b (ix2 (y 0) ⟨(y 1).val - 512, by have : (y 1).val < 1024 := (y 1).isLt; omega⟩)

theorem both_real {R : ℕ} (a b : Arr R 512) (ha : ∀ i, ∃ r : ℝ, a i = r) (hb : ∀ i, ∃ r : ℝ, b i = r) (y) : ∃ r : ℝ, both a b y = r := by
  unfold both; split
  · exact ha _
  · exact hb _

/-- The columns of the left and of the right half. -/
def left (e : Fin 512) : Fin 1024 := ⟨e.val, by omega⟩
def right (e : Fin 512) : Fin 1024 := ⟨512 + e.val, by omega⟩

end Cert.GateMath

end
-- ==== Proof.LossMath.lean ====
/- The mathematics of the last layer's output with the loss: the gated product added to the residual stream, its normed
   rows compared with the target, and the cotangent that the mean of the squares sends back. -/
module

public import proofs.«01_k».proof.Proof.NormMath
public import proofs.«01_k».proof.Proof.GateMath

@[expose] public section

noncomputable section

namespace Cert.LossMath

open Idealize.ShloMosaic Cert.NormMath
open Cert.LogfMath (gate)

/-- The programs' constants: the row's length, the factor one over it, one half, two. -/
abbrev len : EReal := Ideal.ofBits .f32 1149239296#32
abbrev share : EReal := Ideal.ofBits .f32 981467136#32
abbrev hlf : EReal := Ideal.ofBits .f32 1056964608#32
abbrev two : EReal := Ideal.ofBits .f32 1073741824#32

theorem len_real : len = ((1024 : ℝ) : EReal) := by
  simp [len, Ideal.ofBits, Ideal.ieee]
  rw [← EReal.coe_mul]
  norm_num
theorem share_real : share = ((1 / 1024 : ℝ) : EReal) := by
  simp [share, Ideal.ofBits, Ideal.ieee]
  rw [← EReal.coe_mul]
  norm_num
theorem hlf_real : hlf = ((1 / 2 : ℝ) : EReal) := by
  simp [hlf, Ideal.ofBits, Ideal.ieee]
  rw [← EReal.coe_mul]
  norm_num
theorem two_real : two = ((2 : ℝ) : EReal) := by
  simp [two, Ideal.ofBits, Ideal.ieee]
  rw [← EReal.coe_mul]
  norm_num

/-- The two forms of the cotangent's factor: the mean of the squares differentiated, and the factor as one number. -/
theorem factor (e : EReal) : Ideal.div (hlf * 1) len * (two * e) = e * share := by
  rw [hlf_real, mul_one, len_real, AttnMath.div_real _ _ (by norm_num), ← mul_assoc, two_real, share_real, ← EReal.coe_mul, mul_comm]
  norm_num

/-- One half times a sum is the sum of the halves. -/
theorem half_sum {ι : Type} [Fintype ι] (f : ι → EReal) : hlf * ∑ i, f i = ∑ i, hlf * f i := by
  classical
  have h0 : (0 : EReal) ≤ hlf := by rw [hlf_real]; exact_mod_cast (by norm_num : (0 : ℝ) ≤ 1 / 2)
  induction (Finset.univ : Finset ι) using Finset.induction_on with
  | empty => simp
  | insert a s ha ih =>
    rw [Finset.sum_insert ha, Finset.sum_insert ha, ← ih, EReal.left_distrib_of_nonneg_of_ne_top h0 (by rw [hlf_real]; exact EReal.coe_ne_top _)]

/-- The residual stream after the layer: the gated value's product with the weights added. -/
def resid {R : ℕ} (o gt x : Arr R 1024) (w : Arr 1024 1024) : Arr R 1024 :=
  fun i => x i + ∑ q : Fin 1024, (o (ix2 (i 0) q) * (gt (ix2 (i 0) q) * gate (gt (ix2 (i 0) q)))) * w (ix2 q (i 1))

section
variable {R : ℕ} (Y t : Arr R 1024) (g : Arr 1 1024) (I : Fin R)

/-- The normed row minus the target, the row's part of the loss, and the cotangent of the normed row. -/
def err (k : Fin 1024) : EReal := Y (ix2 I k) * inv len (row Y I) * g (ix2 0 k) - t (ix2 I k)
def rowLoss : EReal := Ideal.div (∑ k, err Y t g I k * err Y t g I k) len
def dNorm (k : Fin 1024) : EReal := err Y t g I k * share
def dRow (k : Fin 1024) : EReal := dNorm Y t g I k * g (ix2 0 k)

/-- What the row adds to the weight's gradient. -/
def dWeight (j : Fin 1024) : EReal := dNorm Y t g I j * (Y (ix2 I j) * inv len (row Y I))

/-- The reciprocal root of a finite row is a real. -/
theorem inv_finite (y : Fin 1024 → EReal) (h : ∀ k, ∃ r : ℝ, y k = r) : ∃ r : ℝ, inv len y = r := by
  obtain ⟨e, he, hee⟩ := eps_real
  choose a ha using h
  have hp : 0 < (∑ k, a k * a k) / 1024 + e := add_pos_of_nonneg_of_pos (div_nonneg (Finset.sum_nonneg fun k _ => mul_self_nonneg _) (by norm_num)) he
  refine ⟨(Real.sqrt ((∑ k, a k * a k) / 1024 + e))⁻¹, ?_⟩
  unfold NormMath.inv var
  rw [show (∑ k, y k * y k) = ((∑ k, a k * a k : ℝ) : EReal) by
    rw [← AttnMath.coe_sum]; exact Finset.sum_congr rfl fun k _ => by rw [ha, EReal.coe_mul], len_real, AttnMath.div_real _ _ (by norm_num), hee,
    ← EReal.coe_add, Ideal.rsqrt_coe, if_neg (not_lt.mpr hp.le), if_neg hp.ne']

/-- The cotangent's row is finite where the arguments are. -/
theorem dRow_finite (hY : ∀ i, ∃ r : ℝ, Y i = r) (ht : ∀ i, ∃ r : ℝ, t i = r) (hg : ∀ i, ∃ r : ℝ, g i = r) (k : Fin 1024) :
    ∃ r : ℝ, dRow Y t g I k = r := by
  obtain ⟨v, hv⟩ := inv_finite (row Y I) fun k => hY (ix2 I k)
  obtain ⟨a, ha⟩ := hY (ix2 I k)
  obtain ⟨b, hb⟩ := ht (ix2 I k)
  obtain ⟨c, hc⟩ := hg (ix2 0 k)
  refine ⟨(a * v * c - b) * (1 / 1024) * c, ?_⟩
  unfold dRow dNorm err
  rw [hv, ha, hb, hc, share_real]
  norm_cast
end

/-- The residual stream is finite where the arguments are. -/
theorem resid_finite {R : ℕ} (o gt x : Arr R 1024) (w : Arr 1024 1024) (ho : ∀ i, ∃ r : ℝ, o i = r) (hg : ∀ i, ∃ r : ℝ, gt i = r)
    (hx : ∀ i, ∃ r : ℝ, x i = r) (hw : ∀ i, ∃ r : ℝ, w i = r) (i) : ∃ r : ℝ, resid o gt x w i = r := by
  choose a ha using ho
  choose b hb using hg
  choose d hd using hw
  obtain ⟨c, hc⟩ := hx i
  refine ⟨c + ∑ q : Fin 1024, (a (ix2 (i 0) q) * (b (ix2 (i 0) q) * (1 + Real.exp (-b (ix2 (i 0) q)))⁻¹)) * d (ix2 q (i 1)), ?_⟩
  unfold resid
  rw [hc, EReal.coe_add, ← AttnMath.coe_sum]
  refine congrArg _ (Finset.sum_congr rfl fun q _ => ?_)
  rw [ha, hb, hd, GateMath.gate_real, EReal.coe_mul, EReal.coe_mul, EReal.coe_mul]

end Cert.LossMath

end
-- ==== Proof.InMath.lean ====
/- The gradient of a layer's input `rms_norm(x) @ w`: the product with the weights' transpose, its columns in any order,
   and the norm's gradient added to what reached the input already. -/
module

public import proofs.«01_k».proof.Proof.LossMath

@[expose] public section

noncomputable section

namespace Cert.InMath

open Idealize.ShloMosaic Cert.NormMath Cert.LossMath

section
variable {C : ℕ} (dz : Arr 4096 C) (w : Arr 1024 C) (x dx : Arr 4096 1024) (g : Arr 1 1024)

/-- The cotangent of the normed row: the cotangent of the layer's columns times the weights' transpose. -/
def dNormed : Arr 4096 1024 := fun y => ∑ k : Fin C, dz (ix2 (y 0) k) * w (ix2 (y 1) k)

/-- The gradient of the input, and of the norm's weight. -/
def dIn (I : Fin 4096) (j : Fin 1024) : EReal := dX len (row x I) (scaled (dNormed dz w) g I) j + dx (ix2 I j)
def dGain (j : Fin 1024) : EReal := ∑ I : Fin 4096, dG len x (dNormed dz w) j I

theorem dNormed_finite (hz : ∀ i, ∃ r : ℝ, dz i = r) (hw : ∀ i, ∃ r : ℝ, w i = r) (y) : ∃ r : ℝ, dNormed dz w y = r := by
  choose a ha using hz
  choose b hb using hw
  refine ⟨∑ k : Fin C, a (ix2 (y 0) k) * b (ix2 (y 1) k), ?_⟩
  rw [← AttnMath.coe_sum]
  exact Finset.sum_congr rfl fun k _ => by rw [ha, hb, EReal.coe_mul]

/-- The form that differentiates the reciprocal root. -/
theorem dIn_eq (hz : ∀ i, ∃ r : ℝ, dz i = r) (hx : ∀ i, ∃ r : ℝ, x i = r) (hg : ∀ i, ∃ r : ℝ, g i = r) (hw : ∀ i, ∃ r : ℝ, w i = r)
    (I : Fin 4096) (j : Fin 1024) :
    ((dx (ix2 I j) + scaled (dNormed dz w) g I j * inv len (row x I)) + row x I j * half len (row x I) (scaled (dNormed dz w) g I))
      + half len (row x I) (scaled (dNormed dz w) g I) * row x I j = dIn dz w x dx g I j := by
  choose a ha using dNormed_finite dz w hz hw
  choose b hb using hx
  choose e he using hg
  unfold dIn
  rw [len_real, ← rule (row x I) (scaled (dNormed dz w) g I) 1024 (by norm_num) (fun k => b (ix2 I k)) (fun k => a (ix2 I k) * e (ix2 0 k)) j
    (fun k => hb _) (fun k => by unfold scaled; rw [ha, he, EReal.coe_mul]), add_comm _ (dx (ix2 I j)), ← add_assoc, ← add_assoc]
end

/-- A sum over the first `n` positions, as one over numbers. -/
theorem by_number {n : ℕ} (f : Fin n → EReal) : (∑ k, f k) = ∑ k ∈ Finset.range n, if h : k < n then f ⟨k, h⟩ else 0 := by
  rw [← Fin.sum_univ_eq_sum_range (fun k => if h : k < n then f ⟨k, h⟩ else 0) n]
  exact Finset.sum_congr rfl fun k _ => by rw [dif_pos k.isLt]

/-- A run of `n` positions from `o`. -/
theorem run_of {N : ℕ} (f : Fin N → EReal) (o n : ℕ) (h : ∀ k : Fin n, o + k.val < N) :
    (∑ k : Fin n, f ⟨o + k.val, h k⟩) = ∑ k ∈ Finset.range n, if h : o + k < N then f ⟨o + k, h⟩ else 0 := by
  rw [by_number]
  refine Finset.sum_congr rfl fun k hk => ?_
  have hk := Finset.mem_range.mp hk
  rw [dif_pos hk, dif_pos (h ⟨k, hk⟩)]

/-- The sum over 2208 columns, in the runs of the even layers' order. -/
theorem even_runs (f : Fin 2208 → EReal) :
    (∑ k, f k) = (∑ k : Fin 1024, f ⟨1184 + k.val, by omega⟩) + ((∑ k : Fin 256, f ⟨k.val, by omega⟩) + ((∑ k : Fin 128, f ⟨256 + k.val, by omega⟩)
      + ((∑ k : Fin 32, f ⟨384 + k.val, by omega⟩) + ((∑ k : Fin 512, f ⟨416 + k.val, by omega⟩) + ((∑ k : Fin 128, f ⟨928 + k.val, by omega⟩)
        + ∑ k : Fin 128, f ⟨1056 + k.val, by omega⟩))))) := by
  have h0 : (∑ k : Fin 256, f ⟨k.val, by omega⟩) = ∑ k : Fin 256, f ⟨0 + k.val, by omega⟩ := Finset.sum_congr rfl fun k _ => congrArg f (Fin.ext (Nat.zero_add _).symm)
  rw [h0, by_number, run_of f 1184 1024, run_of f 0 256, run_of f 256 128, run_of f 384 32, run_of f 416 512, run_of f 928 128, run_of f 1056 128]
  generalize hF : (fun k => if h : k < 2208 then f ⟨k, h⟩ else 0) = F
  have hF' : ∀ k, (if h : k < 2208 then f ⟨k, h⟩ else 0) = F k := fun k => congrFun hF k
  simp only [hF']
  rw [show 2208 = 256 + 128 + 32 + 512 + 128 + 128 + 1024 from rfl]
  rw [Finset.sum_range_add, Finset.sum_range_add, Finset.sum_range_add, Finset.sum_range_add, Finset.sum_range_add, Finset.sum_range_add]
  simp only [Nat.zero_add, Nat.reduceAdd]
  ac_rfl

/-- The sum over 4112 columns, in the runs of the odd layers' order. -/
theorem odd_runs (f : Fin 4112 → EReal) :
    (∑ k, f k) = ((((∑ k : Fin 1024, f ⟨k.val, by omega⟩) + ∑ k : Fin 1024, f ⟨1024 + k.val, by omega⟩) + ∑ k : Fin 1024, f ⟨2048 + k.val, by omega⟩)
      + ∑ k : Fin 1024, f ⟨3088 + k.val, by omega⟩) + ∑ k : Fin 16, f ⟨3072 + k.val, by omega⟩ := by
  have h0 : (∑ k : Fin 1024, f ⟨k.val, by omega⟩) = ∑ k : Fin 1024, f ⟨0 + k.val, by omega⟩ := Finset.sum_congr rfl fun k _ => congrArg f (Fin.ext (Nat.zero_add _).symm)
  rw [h0, by_number, run_of f 0 1024, run_of f 1024 1024, run_of f 2048 1024, run_of f 3088 1024, run_of f 3072 16]
  generalize hF : (fun k => if h : k < 4112 then f ⟨k, h⟩ else 0) = F
  have hF' : ∀ k, (if h : k < 4112 then f ⟨k, h⟩ else 0) = F k := fun k => congrFun hF k
  simp only [hF']
  rw [show 4112 = 1024 + 1024 + 1024 + 16 + 1024 from rfl]
  rw [Finset.sum_range_add, Finset.sum_range_add, Finset.sum_range_add, Finset.sum_range_add]
  simp only [Nat.zero_add, Nat.reduceAdd]
  ac_rfl

/-- The even layers' 2208 columns in the kernel's order: the gate's first, then the others with two runs of zeros between. -/
def laid (u : Fin 2208 → EReal) (k : Fin 2304) : EReal :=
  if h : k.val < 1024 then u ⟨1184 + k.val, by omega⟩
  else if h : k.val - 1024 < 256 then u ⟨k.val - 1024, by omega⟩
  else if h : k.val - 1024 - 256 < 128 then u ⟨256 + (k.val - 1024 - 256), by omega⟩
  else if h : k.val - 1024 - 256 - 128 < 64 then 0
  else if h : k.val - 1024 - 256 - 128 - 64 < 32 then u ⟨384 + (k.val - 1024 - 256 - 128 - 64), by omega⟩
  else if h : k.val - 1024 - 256 - 128 - 64 - 32 < 32 then 0
  else if h : k.val - 1024 - 256 - 128 - 64 - 32 - 32 < 512 then u ⟨416 + (k.val - 1024 - 256 - 128 - 64 - 32 - 32), by omega⟩
  else if h : k.val - 1024 - 256 - 128 - 64 - 32 - 32 - 512 < 128 then u ⟨928 + (k.val - 1024 - 256 - 128 - 64 - 32 - 32 - 512), by omega⟩
  else u ⟨1056 + (k.val - 1024 - 256 - 128 - 64 - 32 - 32 - 512 - 128), by omega⟩

/-- A run of the kernel's order is a run of the columns, or of zeros. -/
theorem laid_run (u : Fin 2208 → EReal) (o o' n : ℕ) (k : Fin n) (h : o + k.val < 2304) (h' : o' + k.val < 2208)
    (ho : (o = 0 ∧ o' = 1184 ∧ n = 1024) ∨ (o = 1024 ∧ o' = 0 ∧ n = 256) ∨ (o = 1280 ∧ o' = 256 ∧ n = 128) ∨ (o = 1472 ∧ o' = 384 ∧ n = 32)
      ∨ (o = 1536 ∧ o' = 416 ∧ n = 512) ∨ (o = 2048 ∧ o' = 928 ∧ n = 128) ∨ (o = 2176 ∧ o' = 1056 ∧ n = 128)) : laid u ⟨o + k.val, h⟩ = u ⟨o' + k.val, h'⟩ := by
  have hk := k.isLt
  unfold laid
  dsimp only
  split_ifs <;> first | (exfalso; omega) | exact congrArg u (Fin.ext (by dsimp only; omega))
theorem laid_zero (u : Fin 2208 → EReal) (o n : ℕ) (k : Fin n) (h : o + k.val < 2304) (ho : (o = 1408 ∧ n = 64) ∨ (o = 1504 ∧ n = 32)) : laid u ⟨o + k.val, h⟩ = 0 := by
  have hk := k.isLt
  unfold laid
  dsimp only
  split_ifs <;> first | rfl | (exfalso; omega)

/-- The sum of products over the kernel's order is the one over the columns. -/
theorem even_sum (u v : Fin 2208 → EReal) : (∑ k, laid u k * laid v k) = ∑ k, u k * v k := by
  have run : ∀ (o o' n : ℕ) (h : ∀ k : Fin n, o + k.val < 2304) (h' : ∀ k : Fin n, o' + k.val < 2208) (_ : (o = 0 ∧ o' = 1184 ∧ n = 1024) ∨ (o = 1024 ∧ o' = 0 ∧ n = 256)
      ∨ (o = 1280 ∧ o' = 256 ∧ n = 128) ∨ (o = 1472 ∧ o' = 384 ∧ n = 32) ∨ (o = 1536 ∧ o' = 416 ∧ n = 512) ∨ (o = 2048 ∧ o' = 928 ∧ n = 128) ∨ (o = 2176 ∧ o' = 1056 ∧ n = 128)),
      (∑ k ∈ Finset.range n, if h : o + k < 2304 then laid u ⟨o + k, h⟩ * laid v ⟨o + k, h⟩ else 0) = ∑ k : Fin n, u ⟨o' + k.val, h' k⟩ * v ⟨o' + k.val, h' k⟩ := by
    intro o o' n h h' ho
    refine (run_of (fun k => laid u k * laid v k) o n h).symm.trans (Finset.sum_congr rfl fun k _ => ?_)
    exact congrArg₂ (· * ·) (laid_run u o o' n k (h k) (h' k) ho) (laid_run v o o' n k (h k) (h' k) ho)
  have none : ∀ (o n : ℕ) (h : ∀ k : Fin n, o + k.val < 2304) (_ : (o = 1408 ∧ n = 64) ∨ (o = 1504 ∧ n = 32)),
      (∑ k ∈ Finset.range n, if h : o + k < 2304 then laid u ⟨o + k, h⟩ * laid v ⟨o + k, h⟩ else 0) = 0 := by
    intro o n h ho
    refine (run_of (fun k => laid u k * laid v k) o n h).symm.trans (Finset.sum_eq_zero fun k _ => ?_)
    rw [laid_zero u o n k (h k) ho, zero_mul]
  have h0 : (∑ k : Fin 256, u ⟨k.val, by omega⟩ * v ⟨k.val, by omega⟩) = ∑ k : Fin 256, u ⟨0 + k.val, by omega⟩ * v ⟨0 + k.val, by omega⟩ :=
    Finset.sum_congr rfl fun k _ => congrArg₂ (· * ·) (congrArg u (Fin.ext (Nat.zero_add _).symm)) (congrArg v (Fin.ext (Nat.zero_add _).symm))
  rw [even_runs, h0]
  rw [← run 0 1184 1024 (by omega) (by omega) (by omega), ← run 1024 0 256 (by omega) (by omega) (by omega), ← run 1280 256 128 (by omega) (by omega) (by omega),
    ← run 1472 384 32 (by omega) (by omega) (by omega), ← run 1536 416 512 (by omega) (by omega) (by omega), ← run 2048 928 128 (by omega) (by omega) (by omega),
    ← run 2176 1056 128 (by omega) (by omega) (by omega)]
  have z1 := none 1408 64 (by omega) (by omega)
  have z2 := none 1504 32 (by omega) (by omega)
  rw [by_number]
  generalize hF : (fun k => if h : k < 2304 then laid u ⟨k, h⟩ * laid v ⟨k, h⟩ else 0) = F at *
  have hF' : ∀ k, (if h : k < 2304 then laid u ⟨k, h⟩ * laid v ⟨k, h⟩ else 0) = F k := fun k => congrFun hF k
  simp only [hF'] at z1 z2 ⊢
  rw [show 2304 = 1024 + 256 + 128 + 64 + 32 + 32 + 512 + 128 + 128 from rfl]
  rw [Finset.sum_range_add, Finset.sum_range_add, Finset.sum_range_add, Finset.sum_range_add, Finset.sum_range_add, Finset.sum_range_add, Finset.sum_range_add, Finset.sum_range_add]
  simp only [Nat.zero_add, Nat.reduceAdd]
  rw [z1, z2]
  simp only [add_zero]
  ac_rfl

/-- The odd layers' forget columns and zeros behind: only the columns count. -/
theorem odd_tail (u v : Fin 16 → EReal) : (∑ k : Fin 128, (if h : k.val < 16 then u ⟨k.val, h⟩ else 0) * (if h : k.val < 16 then v ⟨k.val, h⟩ else 0)) = ∑ k, u k * v k := by
  rw [by_number, by_number, show 128 = 16 + 112 from rfl, Finset.sum_range_add, Finset.sum_eq_zero (s := Finset.range 112), add_zero]
  · refine Finset.sum_congr rfl fun k hk => ?_
    have hk := Finset.mem_range.mp hk
    rw [dif_pos (by omega), dif_pos hk]
    dsimp only
    rw [dif_pos hk, dif_pos hk]
  · intro k hk
    have hk := Finset.mem_range.mp hk
    rw [dif_pos (by omega)]
    dsimp only
    rw [dif_neg (by omega), zero_mul]

end Cert.InMath

end
-- ==== Proof.GateOdd.lean ====
/- The gated output projection's gradient of the odd layer (`l1_out_dx`): what the kernel writes, block of rows by block
   of rows, what the reference computes, and that they agree at finite arguments. -/
module

public import proofs.«01_k».proof.Defs
public import proofs.«01_k».proof.Proof.Rows
public import proofs.«01_k».proof.Proof.GateMath
public import proofs.«01_k».proof.Proof.FoxClaim
public import proofs.«01_k».proof.Proof.Gen.GateOddIdeal.Value
public import proofs.«01_k».proof.Proof.Gen.GateOddReferenceIdeal.Run
public import proofs.«01_k».proof.Proof.Gen.GateOddReferenceIdeal.Read
public import proofs.«01_k».proof.Proof.Gen.Pre_pre_gate1
public import Idealize.ShloMosaic.Lib.Pointwise
public import Idealize.ShloMosaic.Lib.Tactic

@[expose] public section

set_option maxRecDepth 16384

noncomputable section

namespace Cert.GateOddClaim.Kernel

open Idealize.ShloMosaic Idealize.ShloMosaic.TcCoe Idealize.ShloMosaic.Tactic Idealize.SL.Sem
open Cert.GateOddIdeal Cert.GateOddIdeal.Gen Cert.LogfMath Cert.GateMath

/-- The block of the gated value's gradient, at an entry. -/
theorem pay3_apply (g : Vec Ideal S512x1024 .f32) (d : Vec Ideal S512x1024 .bf16) (w : Vec Ideal S1024x1024 .bf16) (p : Fin 512) (j : Fin 1024) :
    (k0_pay3 g d w (ix2 p j) : EReal) = (∑ k : Fin 1024, d (ix2 p k) * w (ix2 j k)) * (g (ix2 p j) * gate (g (ix2 p j))) := by
  unfold k0_pay3 k0_pay1 k0_pay2 gate
  pointwise

/-- The block of the gate's gradient, at an entry. -/
theorem pay4_apply (o g : Vec Ideal S512x1024 .f32) (d : Vec Ideal S512x1024 .bf16) (w : Vec Ideal S1024x1024 .bf16) (p : Fin 512) (j : Fin 1024) :
    (k0_pay4 o g d w (ix2 p j) : EReal) = (∑ k : Fin 1024, d (ix2 p k) * w (ix2 j k)) * o (ix2 p j)
      * (gate (g (ix2 p j)) * (1 + g (ix2 p j) * (1 - gate (g (ix2 p j))))) := by
  unfold k0_pay4 k0_pay1 k0_pay2 gate
  pointwise

variable (m : (ℓ : Loc nD τ sig) → Buf (Elt Ideal) ℓ) (c : Dev nD)

/-- The arguments on a device. -/
def argD : Arr 4096 1024 := (m ((c : Thread nD τ).loc main_arg0) : S4096x1024.Idx → EReal)
def argO : Arr 4096 1024 := (m ((c : Thread nD τ).loc main_arg1) : S4096x1024.Idx → EReal)
def argG : Arr 4096 1024 := (m ((c : Thread nD τ).loc main_arg2) : S4096x1024.Idx → EReal)
def argW : Arr 1024 1024 := (m ((c : Thread nD τ).loc main_arg3) : S1024x1024.Idx → EReal)

/-- The kernel's operands prepared on the host: two casts. -/
theorem V0 : V m c main_v0 = argD m c := by dsimp only [V, List.flatten, List.append]; after_results; rfl
theorem V1 : V m c main_v1 = argW m c := by dsimp only [V, List.flatten, List.append]; after_results; rfl

theorem index0 : ∀ t : Fin cfg0.N, win0_0.index t 0 = t.val ∧ win0_0.index t 1 = 0 := (by decide +kernel : ∀ t : Fin grid0.N, _)
theorem index1 : ∀ t : Fin cfg0.N, win0_1.index t 0 = 0 ∧ win0_1.index t 1 = 0 := (by decide +kernel : ∀ t : Fin grid0.N, _)
theorem index2 : ∀ t : Fin cfg0.N, win0_2.index t 0 = t.val ∧ win0_2.index t 1 = 0 := (by decide +kernel : ∀ t : Fin grid0.N, _)
theorem index3 : ∀ t : Fin cfg0.N, win0_3.index t 0 = t.val ∧ win0_3.index t 1 = 0 := (by decide +kernel : ∀ t : Fin grid0.N, _)
theorem index4 : ∀ t : Fin cfg0.N, win0_4.index t 0 = t.val ∧ win0_4.index t 1 = 0 := (by decide +kernel : ∀ t : Fin grid0.N, _)
theorem index5 : ∀ t : Fin cfg0.N, win0_5.index t 0 = t.val ∧ win0_5.index t 1 = 0 := (by decide +kernel : ∀ t : Fin grid0.N, _)

/-- The blocks at a point are the rows of the arguments. -/
theorem blk0 (t : Fin cfg0.N) (p : Fin 512) (j : Fin 1024) : (iblk m c 0 t (ix2 p j) : EReal) = argD m c (ix2 (Rows.row N_0 t p) j) := by
  unfold iblk; rw [View.read_apply]; show V m c main_v0 _ = _; rw [V0]
  exact Rows.at_block (argD m c) _ p j t.val ![win0_0.index t 0, win0_0.index t 1] (index0 t) _ rfl rfl
theorem blk1 (t : Fin cfg0.N) (p j : Fin 1024) : (iblk m c 1 t (ix2 p j) : EReal) = argW m c (ix2 p j) := by
  unfold iblk; rw [View.read_apply]; show V m c main_v1 _ = _; rw [V1]
  refine (Rows.at_block (argW m c) _ p j 0 ![win0_1.index t 0, win0_1.index t 1] (index1 t) (by have := p.isLt; omega) rfl rfl).trans ?_
  exact congrArg (fun q => argW m c (ix2 q j)) (Fin.ext (by show 0 * 1024 + p.val = p.val; omega))
theorem blk2 (t : Fin cfg0.N) (p : Fin 512) (j : Fin 1024) : (iblk m c 2 t (ix2 p j) : EReal) = argO m c (ix2 (Rows.row N_0 t p) j) := by
  unfold iblk; rw [View.read_apply]; show V m c main_arg1 _ = _; rw [V_main_arg1]
  exact Rows.at_block (argO m c) _ p j t.val ![win0_2.index t 0, win0_2.index t 1] (index2 t) _ rfl rfl
theorem blk3 (t : Fin cfg0.N) (p : Fin 512) (j : Fin 1024) : (iblk m c 3 t (ix2 p j) : EReal) = argG m c (ix2 (Rows.row N_0 t p) j) := by
  unfold iblk; rw [View.read_apply]; show V m c main_arg2 _ = _; rw [V_main_arg2]
  exact Rows.at_block (argG m c) _ p j t.val ![win0_3.index t 0, win0_3.index t 1] (index3 t) _ rfl rfl

theorem origin : (![0, 0] : Fin 2 → Nat) = fun _ => 0 := funext fun a => by fin_cases a <;> rfl

/-- The two results' contents. -/
def G4 : Buf (Elt Ideal) ((c : Thread nD τ).loc main_v2_0) := fun y : S4096x1024.Idx => dOut (argD m c) (argG m c) (argW m c) (y 0) (y 1)
def G5 : Buf (Elt Ideal) ((c : Thread nD τ).loc main_v2_1) := fun y : S4096x1024.Idx => dGate (argD m c) (argO m c) (argG m c) (argW m c) (y 0) (y 1)

theorem out4 (t : Fin cfg0.N) (p : Fin 512) (j : Fin 1024) :
    (out0_4 (iblk m c 0 t) (iblk m c 1 t) (iblk m c 2 t) (iblk m c 3 t) (ix2 p j) : EReal) = dOut (argD m c) (argG m c) (argW m c) (Rows.row N_0 t p) j := by
  unfold out0_4
  rw [View.canon_cons_unit_zero (S := S512x1024) origin, View.ld_unit_zero (S := S512x1024) origin, View.ld_unit_zero (S := S512x1024) origin,
    View.ld_unit_zero (S := S1024x1024) origin, pay3_apply]
  unfold dOut back
  rw [blk3]
  exact congrArg (· * _) (Finset.sum_congr rfl fun k _ => congrArg₂ (· * ·) (blk0 m c t p k) (blk1 m c t j k))

theorem out5 (t : Fin cfg0.N) (p : Fin 512) (j : Fin 1024) :
    (out0_5 (iblk m c 0 t) (iblk m c 1 t) (iblk m c 2 t) (iblk m c 3 t) (ix2 p j) : EReal)
      = dGate (argD m c) (argO m c) (argG m c) (argW m c) (Rows.row N_0 t p) j := by
  unfold out0_5
  rw [View.canon_cons_unit_zero (S := S512x1024) origin, View.ld_unit_zero (S := S512x1024) origin, View.ld_unit_zero (S := S512x1024) origin,
    View.ld_unit_zero (S := S512x1024) origin, View.ld_unit_zero (S := S1024x1024) origin, pay4_apply]
  unfold dGate back
  rw [blk2, blk3]
  exact congrArg (fun s => s * _ * _) (Finset.sum_congr rfl fun k _ => congrArg₂ (· * ·) (blk0 m c t p k) (blk1 m c t j k))

theorem final4 : (dats m 0 c).arrAt 4 cfg0.N = G4 m c := by
  refine (dats m 0 c).arrAt_eq_of_cover 4 (G4 m c) (fun t _ => ?_) fun (y : S4096x1024.Idx) => ?_
  · rw [Value.flushed4]
    funext x
    obtain ⟨p, e, rfl⟩ : ∃ p e, x = (ix2 p e : S512x1024.Idx) := ⟨_, _, eq_ix2 x⟩
    refine (out4 m c t p e).trans ?_
    rw [View.read_apply]
    exact Rows.entry (fun I j => dOut (argD m c) (argG m c) (argW m c) I j) p e t.val ![win0_4.index t 0, win0_4.index t 1] (index4 t) _ _ _
  · obtain ⟨t, ht⟩ := Rows.cover N_0 (show Fin 4096 from y 0)
    obtain ⟨i0, i1⟩ := index4 t
    refine ⟨t, flush0_4 t, ?_⟩
    show y ∈ ((View.whole main_v2_0).slice (win0_4.rect t)).set
    rw [View.set_slice_whole, Rect.mem_set_unit]
    intro b
    match b with
    | ⟨0, _⟩ => exact Rows.bounds i0 ht
    | ⟨1, _⟩ => exact Rows.bounds_zero i1 (y 1).isLt

theorem final5 : (dats m 0 c).arrAt 5 cfg0.N = G5 m c := by
  refine (dats m 0 c).arrAt_eq_of_cover 5 (G5 m c) (fun t _ => ?_) fun (y : S4096x1024.Idx) => ?_
  · rw [Value.flushed5]
    funext x
    obtain ⟨p, e, rfl⟩ : ∃ p e, x = (ix2 p e : S512x1024.Idx) := ⟨_, _, eq_ix2 x⟩
    refine (out5 m c t p e).trans ?_
    rw [View.read_apply]
    exact Rows.entry (fun I j => dGate (argD m c) (argO m c) (argG m c) (argW m c) I j) p e t.val ![win0_5.index t 0, win0_5.index t 1] (index5 t) _ _ _
  · obtain ⟨t, ht⟩ := Rows.cover N_0 (show Fin 4096 from y 0)
    obtain ⟨i0, i1⟩ := index5 t
    refine ⟨t, flush0_5 t, ?_⟩
    show y ∈ ((View.whole main_v2_1).slice (win0_5.rect t)).set
    rw [View.set_slice_whole, Rect.mem_set_unit]
    intro b
    match b with
    | ⟨0, _⟩ => exact Rows.bounds i0 ht
    | ⟨1, _⟩ => exact Rows.bounds_zero i1 (y 1).isLt

end Cert.GateOddClaim.Kernel

namespace Cert.GateOddClaim.Ref

open Idealize.ShloMosaic Idealize.ShloMosaic.Tactic
open Cert.GateOddReferenceIdeal Cert.GateOddReferenceIdeal.Read Cert.LogfMath Cert.GateMath

/-- The reference's gradient of the gated value. -/
theorem v5 (x0 x2 : Arr 4096 1024) (x3 : Arr 1024 1024) (I : Fin 4096) (j : Fin 1024) :
    (val_main_v5 (F := Ideal) x0 x2 x3 (ix2 I j) : EReal) = dOut x0 x2 x3 I j := by
  unfold dOut back gate
  rw [zero_sub]
  unfold val_main_v5 val_main_v3 val_main_v0_0 val_main_v0_2 val_main_call0_v4 val_main_call0_cst_0 val_main_call0_v3 val_main_call0_v2 val_main_call0_cst val_main_call0_v1 val_main_call0_v0
  pointwise

/-- The reference's gradient of the gate, at finite arguments. -/
theorem v7 (x0 x1 x2 : Arr 4096 1024) (x3 : Arr 1024 1024) (h0 : ∀ i, ∃ r : ℝ, x0 i = r) (h1 : ∀ i, ∃ r : ℝ, x1 i = r)
    (h2 : ∀ i, ∃ r : ℝ, x2 i = r) (h3 : ∀ i, ∃ r : ℝ, x3 i = r) (I : Fin 4096) (j : Fin 1024) :
    (val_main_v7 (F := Ideal) x0 x1 x2 x3 (ix2 I j) : EReal) = dGate x0 x1 x2 x3 I j := by
  refine Eq.trans ?_ (dGate_rule x0 x1 x2 x3 h0 h1 h2 h3 I j)
  unfold back gate
  rw [zero_sub]
  unfold val_main_v7 val_main_v6 val_main_call1_v2 val_main_call1_v1 val_main_call1_v0 val_main_v4 val_main_v3 val_main_v0_1 val_main_call0_v7 val_main_call0_v6 val_main_call0_cst_1 val_main_v0_2 val_main_call0_v4 val_main_call0_cst_0 val_main_call0_v3 val_main_call0_v2 val_main_call0_cst val_main_call0_v1 val_main_call0_v0
  pointwise

end Cert.GateOddClaim.Ref

namespace Cert.GateOddClaim

open Idealize.ShloMosaic Idealize.ShloMosaic.TcCoe Idealize.SL.Sem
open Cert.FoxClaim (reals and_one)

/-- An entry that is no infinity is a real. -/
theorem real_of {S : Shape} (x : S.Idx → EReal) (h : ∀ i, x i ≠ ⊥ ∧ x i ≠ ⊤) (i : S.Idx) : ∃ r : ℝ, x i = r :=
  ⟨(x i).toReal, (EReal.coe_toReal (h i).2 (h i).1).symm⟩

/-- The precondition read entry by entry: the four arguments are finite. -/
theorem finite [Cert.Pre_pre_gate1.Facts] (m : (ℓ : Loc Cert.GateOddIdeal.nD Cert.GateOddIdeal.τ Cert.GateOddIdeal.sig) → Buf (Elt Ideal) ℓ)
    (h : Cert.Pre_GateOddIdeal_pre_gate1 m) (c : Dev Cert.GateOddIdeal.nD) :
    (∀ i, ∃ r : ℝ, Kernel.argD m c i = r) ∧ (∀ i, ∃ r : ℝ, Kernel.argO m c i = r) ∧ (∀ i, ∃ r : ℝ, Kernel.argG m c i = r) ∧ (∀ i, ∃ r : ℝ, Kernel.argW m c i = r) := by
  have h0 := congrFun (h c) ix0
  obtain ⟨h012, h3⟩ := and_one (show _ &&& _ = 1#1 from h0)
  obtain ⟨h01, h2⟩ := and_one (show _ &&& _ = 1#1 from h012)
  obtain ⟨h0, h1⟩ := and_one (show _ &&& _ = 1#1 from h01)
  exact ⟨real_of _ fun i => Cert.Finite.of_abs_lt _ (Host.reduce_andi_all _ _ _ _ _ h0 i), real_of _ fun i => Cert.Finite.of_abs_lt _ (Host.reduce_andi_all _ _ _ _ _ h1 i),
    real_of _ fun i => Cert.Finite.of_abs_lt _ (Host.reduce_andi_all _ _ _ _ _ h2 i), real_of _ fun i => Cert.Finite.of_abs_lt _ (Host.reduce_andi_all _ _ _ _ _ h3 i)⟩

open Cert.GateOddIdeal Cert.GateOddIdeal.Gen in
/-- Both gradients are the reference's, from memories that agree on finite arguments. -/
theorem value [Cert.Pre_pre_gate1.Facts] : Cert.algebraic_GateOddIdeal_GateOddReferenceIdeal_pre_pre_gate1 := by
  intro m g m' g' hpre hag
  refine ⟨fun c => (dats m 0 c).arrAt 4 cfg0.N, fun c => (dats m 0 c).arrAt 5 cfg0.N, Cert.GateOddIdeal.Value.run_blocks m g, ?_⟩
  refine (θ_run _ _ _).mono (fun r h c => ?_) (Cert.GateOddReferenceIdeal.Value.run m' g')
  obtain ⟨h0, h1, h2⟩ := h c
  obtain ⟨hd, ho, hg, hw⟩ := hag c
  obtain ⟨f0, f1, f2, f3⟩ := finite m hpre c
  rw [Cert.GateOddReferenceIdeal.Read.val_main_v5_eq, hd, hg, hw] at h0
  rw [Cert.GateOddReferenceIdeal.Read.val_main_v7_eq, hd, ho, hg, hw] at h1
  refine ⟨h0.trans ?_, h1.trans ?_, h2⟩
  · refine Eq.trans ?_ (Kernel.final4 m c).symm
    funext y
    obtain ⟨I, e, rfl⟩ : ∃ I e, y = ix2 I e := ⟨_, _, eq_ix2 y⟩
    exact Ref.v5 _ _ _ I e
  · refine Eq.trans ?_ (Kernel.final5 m c).symm
    funext y
    obtain ⟨I, e, rfl⟩ : ∃ I e, y = ix2 I e := ⟨_, _, eq_ix2 y⟩
    exact Ref.v7 _ _ _ _ f0 f1 f2 f3 I e

end Cert.GateOddClaim

end
-- ==== Proof.InOdd.lean ====
/- The gradient of the odd layer's input (`l1_in_dx`): what the kernel writes, the weight's gradient summed over the
   blocks of rows, what the reference computes, and that they agree at finite arguments. -/
module

public import proofs.«01_k».proof.Defs
public import proofs.«01_k».proof.Proof.Rows
public import proofs.«01_k».proof.Proof.InMath
public import proofs.«01_k».proof.Proof.GateOdd
public import proofs.«01_k».proof.Proof.Gen.InOddIdeal.Value
public import proofs.«01_k».proof.Proof.Gen.InOddReferenceIdeal.Run
public import proofs.«01_k».proof.Proof.Gen.InOddReferenceIdeal.Read
public import proofs.«01_k».proof.Proof.Gen.Pre_pre_in1
public import Idealize.ShloMosaic.Lib.Pointwise
public import Idealize.ShloMosaic.Lib.Tactic

@[expose] public section

set_option maxRecDepth 16384

noncomputable section

namespace Cert.InOddClaim

namespace Kernel

open Idealize.ShloMosaic Idealize.ShloMosaic.TcCoe Idealize.ShloMosaic.Tactic Idealize.SL.Sem
open Cert.InOddIdeal Cert.InOddIdeal.Gen Cert.NormMath Cert.LossMath Cert.InMath

section
variable (z0 z1 z2 : Vec Ideal S1x512x1024 .bf16) (w0 w1 w2 wg : Vec Ideal S1024x1024 .bf16) (zg : Vec Ideal S512x1024 .bf16) (zf : Vec Ideal S512x128 .bf16) (wf : Vec Ideal S128x1024 .bf16)
  (x a : Vec Ideal S512x1024 .f32) (g : Vec Ideal S1x1024 .f32)

/-- The block of the normed row's cotangent, the sum of five products. -/
abbrev prod : Arr 512 1024 := k0_pay6 (k0_pay1 z0 w0) (k0_pay2 z1 w1) (k0_pay3 z2 w2) (k0_pay4 zg wg) (k0_pay5 zf) wf
theorem prod_apply (p : Fin 512) (j : Fin 1024) : prod z0 z1 z2 w0 w1 w2 wg zg zf wf (ix2 p j)
    = ((((∑ k : Fin 1024, (z0 (ix3 0 p k) : EReal) * w0 (ix2 k j)) + ∑ k : Fin 1024, (z1 (ix3 0 p k) : EReal) * w1 (ix2 k j)) + ∑ k : Fin 1024, (z2 (ix3 0 p k) : EReal) * w2 (ix2 k j))
      + ∑ k : Fin 1024, (zg (ix2 p k) : EReal) * wg (ix2 k j)) + ∑ k : Fin 128, (zf (ix2 p k) : EReal) * wf (ix2 k j) := by
  unfold prod k0_pay6 k0_pay1 k0_pay2 k0_pay3 k0_pay4 k0_pay5
  pointwise

/-- The gradient's block, at an entry. -/
theorem dx_apply (p : Fin 512) (j : Fin 1024) : (k0_pay9 x a g (k0_pay1 z0 w0) (k0_pay2 z1 w1) (k0_pay3 z2 w2) (k0_pay4 zg wg) (k0_pay5 zf) wf (ix2 p j) : EReal)
    = dX len (row x p) (scaled (prod z0 z1 z2 w0 w1 w2 wg zg zf wf) g p) j + a (ix2 p j) := by
  unfold k0_pay9 k0_pay8 k0_pay7 dX NormMath.inv var eps row scaled prod
  generalize k0_pay6 (k0_pay1 z0 w0) (k0_pay2 z1 w1) (k0_pay3 z2 w2) (k0_pay4 zg wg) (k0_pay5 zf) wf = Y
  pointwise

/-- The weight's gradient after a block: what it was, and the block's rows. -/
theorem dg_apply (b : Vec Ideal S1x1024 .f32) (j : Fin 1024) :
    (k0_pay11 x (k0_pay1 z0 w0) (k0_pay2 z1 w1) (k0_pay3 z2 w2) (k0_pay4 zg wg) (k0_pay5 zf) wf b (ix2 0 j) : EReal)
      = b (ix2 0 j) + ∑ p : Fin 512, dG len x (prod z0 z1 z2 w0 w1 w2 wg zg zf wf) j p := by
  unfold k0_pay11 k0_pay8 k0_pay7 dG NormMath.inv var eps row prod
  generalize k0_pay6 (k0_pay1 z0 w0) (k0_pay2 z1 w1) (k0_pay3 z2 w2) (k0_pay4 zg wg) (k0_pay5 zf) wf = Y
  pointwise
end

theorem zero_apply (i : S1x1024.Idx) : (k0_pay10 (F := Ideal) i : EReal) = 0 := by
  unfold k0_pay10
  pointwise

theorem origin3 : (![0, 0, 0] : Fin 3 → Nat) = fun _ => 0 := funext fun a => by fin_cases a <;> rfl
theorem origin : (![0, 0] : Fin 2 → Nat) = fun _ => 0 := funext fun a => by fin_cases a <;> rfl

section
variable {F : FTy → Type} [FloatOps F]
variable (c : Dev nD) (i : grid0.Coords) (a1 : Memref sig .tc .vmem S1x512x1024 .bf16) (h1 : a1.IsWhole) (a2 : Memref sig .tc .vmem S1024x1024 .bf16) (h2 : a2.IsWhole) (a3 : Memref sig .tc .vmem S1x512x1024 .bf16) (h3 : a3.IsWhole) (a4 : Memref sig .tc .vmem S1024x1024 .bf16) (h4 : a4.IsWhole)
  (a5 : Memref sig .tc .vmem S1x512x1024 .bf16) (h5 : a5.IsWhole) (a6 : Memref sig .tc .vmem S1024x1024 .bf16) (h6 : a6.IsWhole) (a7 : Memref sig .tc .vmem S512x1024 .bf16) (h7 : a7.IsWhole) (a8 : Memref sig .tc .vmem S1024x1024 .bf16) (h8 : a8.IsWhole)
  (a9 : Memref sig .tc .vmem S512x128 .bf16) (h9 : a9.IsWhole) (a10 : Memref sig .tc .vmem S128x1024 .bf16) (h10 : a10.IsWhole) (a11 : Memref sig .tc .vmem S512x1024 .f32) (h11 : a11.IsWhole) (a12 : Memref sig .tc .vmem S512x1024 .f32) (h12 : a12.IsWhole)
  (a13 : Memref sig .tc .vmem S1x1024 .f32) (h13 : a13.IsWhole) (a14 : Memref sig .tc .vmem S512x1024 .f32) (h14 : a14.IsWhole) (a15 : Memref sig .tc .vmem S1x1024 .f32) (h15 : a15.IsWhole) (a16 : Memref sig .tc .vmem S512x1024 .bf16) (h16 : a16.IsWhole)

  (z0 : Vec F S1x512x1024 .bf16) (w0 : Vec F S1024x1024 .bf16) (z1 : Vec F S1x512x1024 .bf16) (w1 : Vec F S1024x1024 .bf16) (z2 : Vec F S1x512x1024 .bf16) (w2 : Vec F S1024x1024 .bf16)
  (zg : Vec F S512x1024 .bf16) (wg : Vec F S1024x1024 .bf16) (zf : Vec F S512x128 .bf16) (wf : Vec F S128x1024 .bf16) (x a : Vec F S512x1024 .f32) (g d : Vec F S1x1024 .f32)

/-- What the body leaves in the three results' blocks, over the weight's gradient `d` that was there. -/
def after : Vec F S512x1024 .f32 × Vec F S1x1024 .f32 × Vec F S512x1024 .bf16 :=
  (k0_pay9 x a g (k0_pay1 z0 w0) (k0_pay2 z1 w1) (k0_pay3 z2 w2) (k0_pay4 zg wg) (k0_pay5 zf) wf, k0_pay11 x (k0_pay1 z0 w0) (k0_pay2 z1 w1) (k0_pay3 z2 w2) (k0_pay4 zg wg) (k0_pay5 zf) wf d, k0_pay12 x a g (k0_pay1 z0 w0) (k0_pay2 z1 w1) (k0_pay3 z2 w2) (k0_pay4 zg wg) (k0_pay5 zf) wf)

/-- The first point starts the sum from zero; a later point goes on from what was there. -/
theorem outs_A (hc : cond0_0 i) :
    (out0_A_13 c i a1 h1 a2 h2 a3 h3 a4 h4 a5 h5 a6 h6 a7 h7 a8 h8 a9 h9 a10 h10 a11 h11 a12 h12 a13 h13 a14 h14 a15 h15 a16 h16 hc z0 w0 z1 w1 z2 w2 zg wg zf wf x a g,
      out0_A_14 c i a1 h1 a2 h2 a3 h3 a4 h4 a5 h5 a6 h6 a7 h7 a8 h8 a9 h9 a10 h10 a11 h11 a12 h12 a13 h13 a14 h14 a15 h15 a16 h16 hc z0 w0 z1 w1 z2 w2 zg wg zf wf x a g,
      out0_A_15 c i a1 h1 a2 h2 a3 h3 a4 h4 a5 h5 a6 h6 a7 h7 a8 h8 a9 h9 a10 h10 a11 h11 a12 h12 a13 h13 a14 h14 a15 h15 a16 h16 hc z0 w0 z1 w1 z2 w2 zg wg zf wf x a g)
      = after z0 w0 z1 w1 z2 w2 zg wg zf wf x a g k0_pay10 := by
  refine congrArg₂ Prod.mk ((View.read_writes_eq_canon _ _ _ (cover0_A_13 c i a1 h1 a2 h2 a3 h3 a4 h4 a5 h5 a6 h6 a7 h7 a8 h8 a9 h9 a10 h10 a11 h11 a12 h12 a13 h13 a14 h14 a15 h15 a16 h16 hc z0 w0 z1 w1 z2 w2 zg wg zf wf x a g)).trans ?_)
    (congrArg₂ Prod.mk ((View.read_writes_eq_canon _ _ _ (cover0_A_14 c i a1 h1 a2 h2 a3 h3 a4 h4 a5 h5 a6 h6 a7 h7 a8 h8 a9 h9 a10 h10 a11 h11 a12 h12 a13 h13 a14 h14 a15 h15 a16 h16 hc z0 w0 z1 w1 z2 w2 zg wg zf wf x a g)).trans ?_)
      ((View.read_writes_eq_canon _ _ _ (cover0_A_15 c i a1 h1 a2 h2 a3 h3 a4 h4 a5 h5 a6 h6 a7 h7 a8 h8 a9 h9 a10 h10 a11 h11 a12 h12 a13 h13 a14 h14 a15 h15 a16 h16 hc z0 w0 z1 w1 z2 w2 zg wg zf wf x a g)).trans ?_))
  all_goals
    unfold kernelRun0_A
    dsimp only
    sl_unfold_words
    simp only [View.canon_cons_unit_zero (S := S512x1024) origin, View.canon_cons_unit_zero (S := S1x1024) origin, View.readAt_eq_ld,
      h1.read_unread, h2.read_unread, h3.read_unread, h4.read_unread, h5.read_unread, h6.read_unread, h7.read_unread, h8.read_unread, h9.read_unread, h10.read_unread, h11.read_unread, h12.read_unread, h13.read_unread,
      View.ld_unit_zero (S := S512x1024) origin, View.ld_unit_zero (S := S1x1024) origin, View.ld_unit_zero (S := S1x512x1024) origin3, View.ld_unit_zero (S := S1024x1024) origin,
      View.ld_unit_zero (S := S512x128) origin, View.ld_unit_zero (S := S128x1024) origin, View.readCov_unit_zero (S := S1x1024) _ origin]
theorem outs_B (hc : ¬cond0_0 i) :
    (out0_B_13 c i a1 h1 a2 h2 a3 h3 a4 h4 a5 h5 a6 h6 a7 h7 a8 h8 a9 h9 a10 h10 a11 h11 a12 h12 a13 h13 a14 h14 a15 h15 a16 h16 hc z0 w0 z1 w1 z2 w2 zg wg zf wf x a g d,
      out0_B_14 c i a1 h1 a2 h2 a3 h3 a4 h4 a5 h5 a6 h6 a7 h7 a8 h8 a9 h9 a10 h10 a11 h11 a12 h12 a13 h13 a14 h14 a15 h15 a16 h16 hc z0 w0 z1 w1 z2 w2 zg wg zf wf x a g d,
      out0_B_15 c i a1 h1 a2 h2 a3 h3 a4 h4 a5 h5 a6 h6 a7 h7 a8 h8 a9 h9 a10 h10 a11 h11 a12 h12 a13 h13 a14 h14 a15 h15 a16 h16 hc z0 w0 z1 w1 z2 w2 zg wg zf wf x a g d)
      = after z0 w0 z1 w1 z2 w2 zg wg zf wf x a g d := by
  refine congrArg₂ Prod.mk ((View.read_writes_eq_canon _ _ _ (cover0_B_13 c i a1 h1 a2 h2 a3 h3 a4 h4 a5 h5 a6 h6 a7 h7 a8 h8 a9 h9 a10 h10 a11 h11 a12 h12 a13 h13 a14 h14 a15 h15 a16 h16 hc z0 w0 z1 w1 z2 w2 zg wg zf wf x a g d)).trans ?_)
    (congrArg₂ Prod.mk ((View.read_writes_eq_canon _ _ _ (cover0_B_14 c i a1 h1 a2 h2 a3 h3 a4 h4 a5 h5 a6 h6 a7 h7 a8 h8 a9 h9 a10 h10 a11 h11 a12 h12 a13 h13 a14 h14 a15 h15 a16 h16 hc z0 w0 z1 w1 z2 w2 zg wg zf wf x a g d)).trans ?_)
      ((View.read_writes_eq_canon _ _ _ (cover0_B_15 c i a1 h1 a2 h2 a3 h3 a4 h4 a5 h5 a6 h6 a7 h7 a8 h8 a9 h9 a10 h10 a11 h11 a12 h12 a13 h13 a14 h14 a15 h15 a16 h16 hc z0 w0 z1 w1 z2 w2 zg wg zf wf x a g d)).trans ?_))
  all_goals
    unfold kernelRun0_B
    dsimp only
    sl_unfold_words
    simp only [View.canon_cons_unit_zero (S := S512x1024) origin, View.canon_cons_unit_zero (S := S1x1024) origin, View.readAt_eq_ld,
      h1.read_unread, h2.read_unread, h3.read_unread, h4.read_unread, h5.read_unread, h6.read_unread, h7.read_unread, h8.read_unread, h9.read_unread, h10.read_unread, h11.read_unread, h12.read_unread, h13.read_unread, h15.read_unread,
      View.ld_unit_zero (S := S512x1024) origin, View.ld_unit_zero (S := S1x1024) origin, View.ld_unit_zero (S := S1x512x1024) origin3, View.ld_unit_zero (S := S1024x1024) origin,
      View.ld_unit_zero (S := S512x128) origin, View.ld_unit_zero (S := S128x1024) origin]
end

variable (m : (ℓ : Loc nD τ sig) → Buf (Elt Ideal) ℓ) (c : Dev nD)

/-- The arguments on a device. -/
def argZ : Arr 4096 4112 := (m ((c : Thread nD τ).loc main_arg0) : S4096x4112.Idx → EReal)
def argX : Arr 4096 1024 := (m ((c : Thread nD τ).loc main_arg1) : S4096x1024.Idx → EReal)
def argD : Arr 4096 1024 := (m ((c : Thread nD τ).loc main_arg2) : S4096x1024.Idx → EReal)
def argG : Arr 1 1024 := (m ((c : Thread nD τ).loc main_arg3) : S1x1024.Idx → EReal)
def argW : Arr 1024 4112 := (m ((c : Thread nD τ).loc main_arg4) : S1024x4112.Idx → EReal)

/-- The cotangent's columns, and the transposed weights' rows, as the host lays them out. -/
def turned : FVec Ideal S4112x1024 .bf16 := transpose S4112x1024 [1, 0] (argW m c : FVec Ideal S1024x4112 .bf16) transposes_S1024x4112_S4112x1024_1_0
def stack (u : FVec Ideal S4096x4112 .bf16) : FVec Ideal S3x4096x1024 .bf16 :=
  concatenate S3x4096x1024 0 [⟨S1x4096x1024, broadcastInDim S1x4096x1024 ![1, 2] bcast_S4096x1024_S1x4096x1024_1_2 (extractStridedSlice S4096x1024 ![0, 0] u slices_S4096x4112_S4096x1024_0_0)⟩,
    ⟨S1x4096x1024, broadcastInDim S1x4096x1024 ![1, 2] bcast_S4096x1024_S1x4096x1024_1_2 (extractStridedSlice S4096x1024 ![0, 1024] u slices_S4096x4112_S4096x1024_0_1024)⟩,
    ⟨S1x4096x1024, broadcastInDim S1x4096x1024 ![1, 2] bcast_S4096x1024_S1x4096x1024_1_2 (extractStridedSlice S4096x1024 ![0, 2048] u slices_S4096x4112_S4096x1024_0_2048)⟩]
    concatenates_S1x4096x1024_S1x4096x1024_S1x4096x1024_S3x4096x1024_d0
def rows (u : FVec Ideal S4112x1024 .bf16) : FVec Ideal S4096x1024 .bf16 :=
  concatenate S4096x1024 0 [⟨S3072x1024, extractStridedSlice S3072x1024 ![0, 0] u slices_S4112x1024_S3072x1024_0_0⟩,
    ⟨S1024x1024, extractStridedSlice S1024x1024 ![3088, 0] u slices_S4112x1024_S1024x1024_3088_0⟩] concatenates_S3072x1024_S1024x1024_S4096x1024_d0
def gate (u : FVec Ideal S4096x4112 .bf16) : FVec Ideal S4096x1024 .bf16 := extractStridedSlice S4096x1024 ![0, 3088] u slices_S4096x4112_S4096x1024_0_3088
def forget (u : FVec Ideal S4096x4112 .bf16) : FVec Ideal S4096x128 .bf16 :=
  pad S4096x128 ![0, 0] ![0, 112] ![0, 0] (extractStridedSlice S4096x16 ![0, 3072] u slices_S4096x4112_S4096x16_0_3072)
    (sitofp .bf16 (constantI S_ 32 0#32) : FVec Ideal S_ .bf16) pads_S4096x16_S4096x128_000_01120 h_S_
def forgetRows (u : FVec Ideal S4112x1024 .bf16) : FVec Ideal S128x1024 .bf16 :=
  pad S128x1024 ![0, 0] ![112, 0] ![0, 0] (extractStridedSlice S16x1024 ![3072, 0] u slices_S4112x1024_S16x1024_3072_0)
    (sitofp .bf16 (constantI S_ 32 0#32) : FVec Ideal S_ .bf16) pads_S16x1024_S128x1024_01120_000 h_S_

theorem zero_word : (FloatOps.sitofp (F := Ideal) FTy.bf16 0#32 : EReal) = 0 := by show ((((0#32 : BitVec 32).toInt : ℤ) : ℝ) : EReal) = 0; simp

theorem stack_apply (u : FVec Ideal S4096x4112 .bf16) (l : Fin 3) (I : Fin 4096) (k : Fin 1024) (n : Fin 4112) (h : n.val = 1024 * l.val + k.val) :
    (stack u (ix3 l I k) : EReal) = u (ix2 I n) := by
  unfold stack
  pointwise
  split_ifs <;> exact congrArg (fun q => u (ix2 I q)) (Fin.ext (by dsimp only; omega))
theorem rows_apply (u : FVec Ideal S4112x1024 .bf16) (k j : Fin 1024) (l o : ℕ) (q : Fin 4096) (n : Fin 4112) (hq : q.val = l * 1024 + k.val)
    (h : n.val = o + k.val ∧ ((l < 3 ∧ o = l * 1024) ∨ (l = 3 ∧ o = 3088))) : (rows u (ix2 q j) : EReal) = u (ix2 n j) := by
  unfold rows
  pointwise
  split_ifs <;> exact congrArg (fun q => u (ix2 q j)) (Fin.ext (by dsimp only; omega))
theorem forget_apply (u : FVec Ideal S4096x4112 .bf16) (I : Fin 4096) (k : Fin 128) : (forget u (ix2 I k) : EReal) = if h : k.val < 16 then u (ix2 I ⟨3072 + k.val, by omega⟩) else 0 := by
  unfold forget
  rw [← zero_word]
  pointwise
theorem forgetRows_apply (u : FVec Ideal S4112x1024 .bf16) (k : Fin 128) (j : Fin 1024) : (forgetRows u (ix2 k j) : EReal) = if h : k.val < 16 then u (ix2 ⟨3072 + k.val, by omega⟩ j) else 0 := by
  unfold forgetRows
  rw [← zero_word]
  pointwise
theorem turned_apply (n : Fin 4112) (j : Fin 1024) : (turned m c (ix2 n j) : EReal) = argW m c (ix2 j n) := by
  unfold turned
  pointwise

theorem V9 : V m c main_v9 = stack (argZ m c) := by unfold stack; dsimp only [V, List.flatten, List.append]; after_results; rfl
theorem V10 : V m c main_v10 = gate (argZ m c) := by
  unfold gate
  dsimp only [V, List.flatten, List.append]; after_results; rfl
theorem V12 : V m c main_v12 = forget (argZ m c) := by unfold forget; dsimp only [V, List.flatten, List.append]; after_results; rfl
theorem V15 : V m c main_v15 = rows (turned m c) := by unfold rows turned; dsimp only [V, List.flatten, List.append]; after_results; rfl
theorem V17 : V m c main_v17 = forgetRows (turned m c) := by unfold forgetRows turned; dsimp only [V, List.flatten, List.append]; after_results; rfl

theorem index0 : ∀ t : Fin cfg0.N, win0_0.index t 0 = 0 ∧ win0_0.index t 1 = t.val ∧ win0_0.index t 2 = 0 := (by decide +kernel : ∀ t : Fin grid0.N, _)
theorem index1 : ∀ t : Fin cfg0.N, win0_1.index t 0 = 0 ∧ win0_1.index t 1 = 0 := (by decide +kernel : ∀ t : Fin grid0.N, _)
theorem index2 : ∀ t : Fin cfg0.N, win0_2.index t 0 = 1 ∧ win0_2.index t 1 = t.val ∧ win0_2.index t 2 = 0 := (by decide +kernel : ∀ t : Fin grid0.N, _)
theorem index3 : ∀ t : Fin cfg0.N, win0_3.index t 0 = 1 ∧ win0_3.index t 1 = 0 := (by decide +kernel : ∀ t : Fin grid0.N, _)
theorem index4 : ∀ t : Fin cfg0.N, win0_4.index t 0 = 2 ∧ win0_4.index t 1 = t.val ∧ win0_4.index t 2 = 0 := (by decide +kernel : ∀ t : Fin grid0.N, _)
theorem index5 : ∀ t : Fin cfg0.N, win0_5.index t 0 = 2 ∧ win0_5.index t 1 = 0 := (by decide +kernel : ∀ t : Fin grid0.N, _)
theorem index6 : ∀ t : Fin cfg0.N, win0_6.index t 0 = t.val ∧ win0_6.index t 1 = 0 := (by decide +kernel : ∀ t : Fin grid0.N, _)
theorem index7 : ∀ t : Fin cfg0.N, win0_7.index t 0 = 3 ∧ win0_7.index t 1 = 0 := (by decide +kernel : ∀ t : Fin grid0.N, _)
theorem index8 : ∀ t : Fin cfg0.N, win0_8.index t 0 = t.val ∧ win0_8.index t 1 = 0 := (by decide +kernel : ∀ t : Fin grid0.N, _)
theorem index9 : ∀ t : Fin cfg0.N, win0_9.index t 0 = 0 ∧ win0_9.index t 1 = 0 := (by decide +kernel : ∀ t : Fin grid0.N, _)
theorem index10 : ∀ t : Fin cfg0.N, win0_10.index t 0 = t.val ∧ win0_10.index t 1 = 0 := (by decide +kernel : ∀ t : Fin grid0.N, _)
theorem index11 : ∀ t : Fin cfg0.N, win0_11.index t 0 = t.val ∧ win0_11.index t 1 = 0 := (by decide +kernel : ∀ t : Fin grid0.N, _)
theorem index12 : ∀ t : Fin cfg0.N, win0_12.index t 0 = 0 ∧ win0_12.index t 1 = 0 := (by decide +kernel : ∀ t : Fin grid0.N, _)
theorem index13 : ∀ t : Fin cfg0.N, win0_13.index t 0 = t.val ∧ win0_13.index t 1 = 0 := (by decide +kernel : ∀ t : Fin grid0.N, _)
theorem index14 : ∀ t : Fin cfg0.N, win0_14.index t 0 = 0 ∧ win0_14.index t 1 = 0 := (by decide +kernel : ∀ t : Fin grid0.N, _)
theorem index15 : ∀ t : Fin cfg0.N, win0_15.index t 0 = t.val ∧ win0_15.index t 1 = 0 := (by decide +kernel : ∀ t : Fin grid0.N, _)

/-- An entry of a block of one layer of a stack. -/
theorem at_layer {α : Type} (G : (⟨3, ![3, 4096, 1024]⟩ : Shape).Idx → α) (i : (⟨3, ![3, 4096, 1024]⟩ : Shape).Idx) (p : Fin 512) (e : Fin 1024) (l n : ℕ) (ix : Fin 3 → ℕ)
    (hi : ix 0 = l ∧ ix 1 = n ∧ ix 2 = 0) (hl : l < 3) (hr : n * 512 + p.val < 4096)
    (h0 : (i 0).val = ix 0 * 1 + 1 * 0) (h1 : (i 1).val = ix 1 * 512 + 1 * p.val) (h2 : (i 2).val = ix 2 * 1024 + 1 * e.val) :
    G i = G (ix3 ⟨l, hl⟩ ⟨n * 512 + p.val, hr⟩ e) := by
  obtain ⟨e0, e1, e2⟩ := hi
  refine congrArg G (funext fun a => Fin.ext ?_)
  match a with
  | ⟨0, _⟩ => exact (Rows.coord e0 h0).trans (by show l * 1 + 0 = l; omega)
  | ⟨1, _⟩ => exact Rows.coord e1 h1
  | ⟨2, _⟩ => exact Rows.coord_zero e2 h2

/-- The blocks at a point are the rows of the arguments, the columns in runs. -/
theorem blk0 (t : Fin cfg0.N) (p : Fin 512) (k : Fin 1024) : (iblk m c 0 t (ix3 0 p k) : EReal) = argZ m c (ix2 (Rows.row N_0 t p) ⟨k.val, by omega⟩) := by
  unfold iblk; rw [View.read_apply]; show V m c main_v9 _ = _; rw [V9]
  refine (at_layer (stack (argZ m c)) _ p k 0 t.val ![win0_0.index t 0, win0_0.index t 1, win0_0.index t 2] (index0 t) (by norm_num) (Rows.row_lt N_0 t p) rfl rfl rfl).trans ?_
  exact stack_apply (argZ m c) 0 _ k _ (by dsimp only; omega)
theorem blk1 (t : Fin cfg0.N) (k j : Fin 1024) : (iblk m c 1 t (ix2 k j) : EReal) = argW m c (ix2 j ⟨k.val, by omega⟩) := by
  unfold iblk; rw [View.read_apply]; show V m c main_v15 _ = _; rw [V15]
  refine (Rows.at_block (rows (turned m c)) _ k j 0 ![win0_1.index t 0, win0_1.index t 1] (index1 t) (by have := k.isLt; omega) rfl rfl).trans ?_
  exact (rows_apply (turned m c) k j 0 0 _ _ rfl (by dsimp only; omega)).trans (turned_apply m c _ j)
theorem blk2 (t : Fin cfg0.N) (p : Fin 512) (k : Fin 1024) : (iblk m c 2 t (ix3 0 p k) : EReal) = argZ m c (ix2 (Rows.row N_0 t p) ⟨1024 + k.val, by omega⟩) := by
  unfold iblk; rw [View.read_apply]; show V m c main_v9 _ = _; rw [V9]
  refine (at_layer (stack (argZ m c)) _ p k 1 t.val ![win0_2.index t 0, win0_2.index t 1, win0_2.index t 2] (index2 t) (by norm_num) (Rows.row_lt N_0 t p) rfl rfl rfl).trans ?_
  exact stack_apply (argZ m c) 1 _ k _ (by dsimp only; omega)
theorem blk3 (t : Fin cfg0.N) (k j : Fin 1024) : (iblk m c 3 t (ix2 k j) : EReal) = argW m c (ix2 j ⟨1024 + k.val, by omega⟩) := by
  unfold iblk; rw [View.read_apply]; show V m c main_v15 _ = _; rw [V15]
  refine (Rows.at_block (rows (turned m c)) _ k j 1 ![win0_3.index t 0, win0_3.index t 1] (index3 t) (by have := k.isLt; omega) rfl rfl).trans ?_
  exact (rows_apply (turned m c) k j 1 1024 _ _ rfl (by dsimp only; omega)).trans (turned_apply m c _ j)
theorem blk4 (t : Fin cfg0.N) (p : Fin 512) (k : Fin 1024) : (iblk m c 4 t (ix3 0 p k) : EReal) = argZ m c (ix2 (Rows.row N_0 t p) ⟨2048 + k.val, by omega⟩) := by
  unfold iblk; rw [View.read_apply]; show V m c main_v9 _ = _; rw [V9]
  refine (at_layer (stack (argZ m c)) _ p k 2 t.val ![win0_4.index t 0, win0_4.index t 1, win0_4.index t 2] (index4 t) (by norm_num) (Rows.row_lt N_0 t p) rfl rfl rfl).trans ?_
  exact stack_apply (argZ m c) 2 _ k _ (by dsimp only; omega)
theorem blk5 (t : Fin cfg0.N) (k j : Fin 1024) : (iblk m c 5 t (ix2 k j) : EReal) = argW m c (ix2 j ⟨2048 + k.val, by omega⟩) := by
  unfold iblk; rw [View.read_apply]; show V m c main_v15 _ = _; rw [V15]
  refine (Rows.at_block (rows (turned m c)) _ k j 2 ![win0_5.index t 0, win0_5.index t 1] (index5 t) (by have := k.isLt; omega) rfl rfl).trans ?_
  exact (rows_apply (turned m c) k j 2 2048 _ _ rfl (by dsimp only; omega)).trans (turned_apply m c _ j)
theorem blk6 (t : Fin cfg0.N) (p : Fin 512) (k : Fin 1024) : (iblk m c 6 t (ix2 p k) : EReal) = argZ m c (ix2 (Rows.row N_0 t p) ⟨3088 + k.val, by omega⟩) := by
  unfold iblk; rw [View.read_apply]; show V m c main_v10 _ = _; rw [V10]
  refine (Rows.at_block (gate (argZ m c)) _ p k t.val
    ![win0_6.index t 0, win0_6.index t 1] (index6 t) (Rows.row_lt N_0 t p) rfl rfl).trans ?_
  unfold Rows.row gate
  pointwise
theorem blk7 (t : Fin cfg0.N) (k j : Fin 1024) : (iblk m c 7 t (ix2 k j) : EReal) = argW m c (ix2 j ⟨3088 + k.val, by omega⟩) := by
  unfold iblk; rw [View.read_apply]; show V m c main_v15 _ = _; rw [V15]
  refine (Rows.at_block (rows (turned m c)) _ k j 3 ![win0_7.index t 0, win0_7.index t 1] (index7 t) (by have := k.isLt; omega) rfl rfl).trans ?_
  exact (rows_apply (turned m c) k j 3 3088 _ _ rfl (by dsimp only; omega)).trans (turned_apply m c _ j)
theorem blk8 (t : Fin cfg0.N) (p : Fin 512) (k : Fin 128) :
    (iblk m c 8 t (ix2 p k) : EReal) = if h : k.val < 16 then argZ m c (ix2 (Rows.row N_0 t p) ⟨3072 + k.val, by omega⟩) else 0 := by
  unfold iblk; rw [View.read_apply]; show V m c main_v12 _ = _; rw [V12]
  exact (Rows.at_block (forget (argZ m c)) _ p k t.val ![win0_8.index t 0, win0_8.index t 1] (index8 t) (Rows.row_lt N_0 t p) rfl rfl).trans (forget_apply _ _ k)
theorem blk9 (t : Fin cfg0.N) (k : Fin 128) (j : Fin 1024) : (iblk m c 9 t (ix2 k j) : EReal) = if h : k.val < 16 then argW m c (ix2 j ⟨3072 + k.val, by omega⟩) else 0 := by
  unfold iblk; rw [View.read_apply]; show V m c main_v17 _ = _; rw [V17]
  refine (Rows.at_block (forgetRows (turned m c)) _ k j 0 ![win0_9.index t 0, win0_9.index t 1] (index9 t) (by have := k.isLt; omega) rfl rfl).trans ?_
  rw [show (⟨0 * 128 + k.val, by have := k.isLt; omega⟩ : Fin 128) = k from Fin.ext (by show 0 * 128 + k.val = k.val; omega)]
  refine (forgetRows_apply _ k j).trans ?_
  split_ifs
  · exact turned_apply m c _ j
  · rfl
theorem blk10 (t : Fin cfg0.N) (p : Fin 512) (j : Fin 1024) : (iblk m c 10 t (ix2 p j) : EReal) = argX m c (ix2 (Rows.row N_0 t p) j) := by
  unfold iblk; rw [View.read_apply]; show V m c main_arg1 _ = _; rw [V_main_arg1]
  exact Rows.at_block (argX m c) _ p j t.val ![win0_10.index t 0, win0_10.index t 1] (index10 t) _ rfl rfl
theorem blk11 (t : Fin cfg0.N) (p : Fin 512) (j : Fin 1024) : (iblk m c 11 t (ix2 p j) : EReal) = argD m c (ix2 (Rows.row N_0 t p) j) := by
  unfold iblk; rw [View.read_apply]; show V m c main_arg2 _ = _; rw [V_main_arg2]
  exact Rows.at_block (argD m c) _ p j t.val ![win0_11.index t 0, win0_11.index t 1] (index11 t) _ rfl rfl
theorem blk12 (t : Fin cfg0.N) (j : Fin 1024) : (iblk m c 12 t (ix2 0 j) : EReal) = argG m c (ix2 0 j) := by
  unfold iblk; rw [View.read_apply]; show V m c main_arg3 _ = _; rw [V_main_arg3]
  exact Rows.at_block (argG m c) _ (0 : Fin 1) j 0 ![win0_12.index t 0, win0_12.index t 1] (index12 t) (by norm_num) rfl rfl

/-- The block of the normed row's cotangent at a point. -/
abbrev blkProd (t : Fin cfg0.N) : Arr 512 1024 :=
  prod (iblk m c 0 t) (iblk m c 2 t) (iblk m c 4 t) (iblk m c 1 t) (iblk m c 3 t) (iblk m c 5 t) (iblk m c 7 t) (iblk m c 6 t) (iblk m c 8 t) (iblk m c 9 t)
theorem blkProd_apply (t : Fin cfg0.N) (p : Fin 512) (j : Fin 1024) : blkProd m c t (ix2 p j) = dNormed (argZ m c) (argW m c) (ix2 (Rows.row N_0 t p) j) := by
  refine (prod_apply _ _ _ _ _ _ _ _ _ _ p j).trans ?_
  refine Eq.trans ?_ (odd_runs (fun k => argZ m c (ix2 (Rows.row N_0 t p) k) * argW m c (ix2 j k))).symm
  refine congrArg₂ (fun a b : EReal => a + b) (congrArg₂ (fun a b : EReal => a + b) (congrArg₂ (fun a b : EReal => a + b) (congrArg₂ (fun a b : EReal => a + b) ?_ ?_) ?_) ?_) ?_
  · exact Finset.sum_congr rfl fun k _ => congrArg₂ (fun a b : EReal => a * b) (blk0 m c t p k) (blk1 m c t k j)
  · exact Finset.sum_congr rfl fun k _ => congrArg₂ (fun a b : EReal => a * b) (blk2 m c t p k) (blk3 m c t k j)
  · exact Finset.sum_congr rfl fun k _ => congrArg₂ (fun a b : EReal => a * b) (blk4 m c t p k) (blk5 m c t k j)
  · exact Finset.sum_congr rfl fun k _ => congrArg₂ (fun a b : EReal => a * b) (blk6 m c t p k) (blk7 m c t k j)
  · refine (Finset.sum_congr rfl fun k _ => congrArg₂ (fun a b : EReal => a * b) (blk8 m c t p k) (blk9 m c t k j)).trans ?_
    exact odd_tail (fun k => argZ m c (ix2 (Rows.row N_0 t p) ⟨3072 + k.val, by omega⟩)) (fun k => argW m c (ix2 j ⟨3072 + k.val, by omega⟩))
theorem rowX (t : Fin cfg0.N) (p : Fin 512) : row (iblk m c 10 t) p = row (argX m c) (Rows.row N_0 t p) := funext fun k => blk10 m c t p k
theorem rowD (t : Fin cfg0.N) (p : Fin 512) : scaled (blkProd m c t) (iblk m c 12 t) p
    = scaled (dNormed (argZ m c) (argW m c)) (argG m c) (Rows.row N_0 t p) :=
  funext fun k => congrArg₂ (· * ·) (blkProd_apply m c t p k) (blk12 m c t k)
theorem rowG (t : Fin cfg0.N) (p : Fin 512) (j : Fin 1024) :
    dG len (iblk m c 10 t) (blkProd m c t) j p = dG len (argX m c) (dNormed (argZ m c) (argW m c)) j (Rows.row N_0 t p) := by
  unfold dG
  rw [rowX]
  exact congrArg₂ (· * ·) (blkProd_apply m c t p j) (congrArg (· * _) (blk10 m c t p j))

/-- The contents of the results. -/
def dxAt (I : Fin 4096) (j : Fin 1024) : EReal := dIn (argZ m c) (argW m c) (argX m c) (argD m c) (argG m c) I j
def dgAt (j : Fin 1024) : EReal := dGain (argZ m c) (argW m c) (argX m c) j

/-- The results after a point, over what the point found in the sum. -/
theorem first (t : Fin cfg0.N) (h : t.val % 8 = 0) : outsAt0 m c t.val t.isLt
    = after (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (k0_pay10 (F := Ideal)) :=
  (outsAt0_A m c t h).trans (outs_A _ _ _ _ _ _ _ _ _ _ _ _ _ _ _ _ _ _ _ _ _ _ _ _ _ _ _ _ _ _ _ _ _ _ _ _ _ _ _ _ _ _ _ _ _ _ _ _)
theorem later (t : Fin cfg0.N) (h : ¬t.val % 8 = 0) : outsAt0 m c t.val t.isLt
    = after (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.1 :=
  (outsAt0_B m c t h).trans (outs_B _ _ _ _ _ _ _ _ _ _ _ _ _ _ _ _ _ _ _ _ _ _ _ _ _ _ _ _ _ _ _ _ _ _ _ _ _ _ _ _ _ _ _ _ _ _ _ _ _)
theorem outs_eq (t : Fin cfg0.N) : ∃ d, outsAt0 m c t.val t.isLt = after (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) d := by
  by_cases h : t.val % 8 = 0
  · exact ⟨_, first m c t h⟩
  · exact ⟨_, later m c t h⟩

theorem out13 (t : Fin cfg0.N) (p : Fin 512) (j : Fin 1024) : ((outsAt0 m c t.val t.isLt).1 (ix2 p j) : EReal) = dxAt m c (Rows.row N_0 t p) j := by
  obtain ⟨d, e⟩ := outs_eq m c t
  rw [e]
  refine (dx_apply _ _ _ _ _ _ _ _ _ _ _ _ _ p j).trans ?_
  rw [rowX, rowD]
  exact congrArg (_ + ·) (blk11 m c t p j)

theorem out15 (t : Fin cfg0.N) (p : Fin 512) (j : Fin 1024) : ((outsAt0 m c t.val t.isLt).2.2 (ix2 p j) : EReal) = dxAt m c (Rows.row N_0 t p) j := by
  refine Eq.trans ?_ (out13 m c t p j)
  obtain ⟨d, e⟩ := outs_eq m c t
  rw [e]
  rfl

/-- The weight's gradient after the last point: all rows'. -/
theorem out14 (n : ℕ) (h : n < cfg0.N) (h7 : n = 7) (j : Fin 1024) : ((outsAt0 m c n h).2.1 (ix2 0 j) : EReal) = dgAt m c j := by
  refine Rows.accumulate N_0 (dG len (argX m c) (dNormed (argZ m c) (argW m c)) j) (fun n h => ((outsAt0 m c n h).2.1 (ix2 0 j) : EReal)) (fun h0 => ?_) (fun k hk => ?_) n h h7
  · refine (congrArg (fun o => (o.2.1 (ix2 0 j) : EReal)) (first m c ⟨0, h0⟩ rfl)).trans ?_
    refine (dg_apply _ _ _ _ _ _ _ _ _ _ _ _ j).trans ?_
    rw [zero_apply, zero_add]
    exact Finset.sum_congr rfl fun q _ => rowG m c ⟨0, h0⟩ q j
  · refine (congrArg (fun o => (o.2.1 (ix2 0 j) : EReal)) (later m c ⟨k + 1, hk⟩ (by have := hk.trans_eq N_0; dsimp only; omega))).trans ?_
    refine (dg_apply _ _ _ _ _ _ _ _ _ _ _ _ j).trans ?_
    exact congrArg₂ (· + ·) rfl (Finset.sum_congr rfl fun q _ => rowG m c ⟨k + 1, hk⟩ q j)

/-- The arrays after the run. -/
def F13 : Buf (Elt Ideal) ((c : Thread nD τ).loc main_v18_0) := fun y : S4096x1024.Idx => dxAt m c (y 0) (y 1)
def F15 : Buf (Elt Ideal) ((c : Thread nD τ).loc main_v18_2) := fun y : S4096x1024.Idx => dxAt m c (y 0) (y 1)
def F14 : Buf (Elt Ideal) ((c : Thread nD τ).loc main_v18_1) := fun y : S1x1024.Idx => dgAt m c (y 1)

theorem final13 : (dats m 0 c).arrAt 13 cfg0.N = F13 m c := by
  refine (dats m 0 c).arrAt_eq_of_cover 13 (F13 m c) (fun t _ => ?_) fun (y : S4096x1024.Idx) => ?_
  · rw [Value.flushed13]
    funext x
    obtain ⟨p, e, rfl⟩ : ∃ p e, x = (ix2 p e : S512x1024.Idx) := ⟨_, _, eq_ix2 x⟩
    refine (out13 m c t p e).trans ?_
    rw [View.read_apply]
    exact Rows.entry (dxAt m c) p e t.val ![win0_13.index t 0, win0_13.index t 1] (index13 t) _ _ _
  · obtain ⟨t, ht⟩ := Rows.cover N_0 (show Fin 4096 from y 0)
    obtain ⟨i0, i1⟩ := index13 t
    refine ⟨t, flush0_13 t, ?_⟩
    show y ∈ ((View.whole main_v18_0).slice (win0_13.rect t)).set
    rw [View.set_slice_whole, Rect.mem_set_unit]
    intro b
    match b with
    | ⟨0, _⟩ => exact Rows.bounds i0 ht
    | ⟨1, _⟩ => exact Rows.bounds_zero i1 (y 1).isLt

theorem final15 : (dats m 0 c).arrAt 15 cfg0.N = F15 m c := by
  refine (dats m 0 c).arrAt_eq_of_cover 15 (F15 m c) (fun t _ => ?_) fun (y : S4096x1024.Idx) => ?_
  · rw [Value.flushed15]
    funext x
    obtain ⟨p, e, rfl⟩ : ∃ p e, x = (ix2 p e : S512x1024.Idx) := ⟨_, _, eq_ix2 x⟩
    refine (out15 m c t p e).trans ?_
    rw [View.read_apply]
    exact Rows.entry (dxAt m c) p e t.val ![win0_15.index t 0, win0_15.index t 1] (index15 t) _ _ _
  · obtain ⟨t, ht⟩ := Rows.cover N_0 (show Fin 4096 from y 0)
    obtain ⟨i0, i1⟩ := index15 t
    refine ⟨t, flush0_15 t, ?_⟩
    show y ∈ ((View.whole main_v18_2).slice (win0_15.rect t)).set
    rw [View.set_slice_whole, Rect.mem_set_unit]
    intro b
    match b with
    | ⟨0, _⟩ => exact Rows.bounds i0 ht
    | ⟨1, _⟩ => exact Rows.bounds_zero i1 (y 1).isLt

theorem final14 : (dats m 0 c).arrAt 14 cfg0.N = F14 m c := by
  have hN : cfg0.N = 8 := N_0
  refine (dats m 0 c).arrAt_eq_of_cover 14 (F14 m c) (fun t ht => ?_) fun (y : S1x1024.Idx) => ?_
  · have h7 : t.val = 7 := by have := (flush0_14 t).mp ht; have := t.isLt; omega
    rw [Value.flushed14]
    funext x
    obtain ⟨p, e, rfl⟩ : ∃ p e, x = (ix2 p e : S1x1024.Idx) := ⟨_, _, eq_ix2 x⟩
    obtain rfl : p = 0 := Subsingleton.elim _ _
    refine (out14 m c t.val t.isLt h7 e).trans ?_
    rw [View.read_apply]
    exact congrArg (dgAt m c) (Fin.ext (Rows.coord_zero (B := 1024) (p := e.val) (index14 t).2 rfl).symm)
  · have h7 : 7 < cfg0.N := by omega
    obtain ⟨i0, i1⟩ := index14 ⟨7, h7⟩
    refine ⟨⟨7, h7⟩, (flush0_14 _).mpr rfl, ?_⟩
    show y ∈ ((View.whole main_v18_1).slice (win0_14.rect ⟨7, h7⟩)).set
    rw [View.set_slice_whole, Rect.mem_set_unit]
    intro b
    match b with
    | ⟨0, _⟩ => exact Rows.bounds_zero i0 (y 0).isLt
    | ⟨1, _⟩ => exact Rows.bounds_zero i1 (y 1).isLt

end Kernel

namespace Ref

open Idealize.ShloMosaic Idealize.ShloMosaic.Tactic
open Cert.InOddReferenceIdeal Cert.InOddReferenceIdeal.Read Cert.NormMath Cert.LossMath Cert.InMath

section
variable (x0 : Arr 4096 4112) (x1 x2 : Arr 4096 1024) (x3 : Arr 1 1024) (x4 : Arr 1024 4112)

/-- The reference's cotangent of the normed row. -/
theorem v18_apply (I : Fin 4096) (j : Fin 1024) : (val_main_v18 (F := Ideal) x0 x4 (ix2 I j) : EReal) = dNormed x0 x4 (ix2 I j) := by
  show _ = ∑ k : Fin 4112, x0 (ix2 I k) * x4 (ix2 j k)
  unfold val_main_v18
  pointwise
theorem v18 : (val_main_v18 (F := Ideal) x0 x4 : Arr 4096 1024) = dNormed x0 x4 := by
  funext i
  obtain ⟨I, j, rfl⟩ : ∃ I j, i = (ix2 I j : S4096x1024.Idx) := ⟨_, _, eq_ix2 i⟩
  exact v18_apply x0 x4 I j

/-- The weight's gradient. -/
theorem dg (j : Fin 1024) : (val_main_v40 (F := Ideal) x0 x1 x4 (ix2 0 j) : EReal) = dGain x0 x4 x1 j := by
  unfold dGain dG
  rw [← v18]
  unfold NormMath.inv var eps row
  unfold val_main_v40 val_main_v24 val_main_cst_4 val_main_v21 val_main_v20 val_main_cst_3 val_main_v19 val_main_v13 val_main_v12 val_main_v8 val_main_v7 val_main_v6 val_main_cst_1 val_main_v5 val_main_v4 val_main_cst_0 val_main_v3 val_main_v2 val_main_cst val_main_v1
  generalize val_main_v18 (F := Ideal) x0 x4 = Y
  pointwise
  rw [Fin.sum_univ_one]
  exact Finset.sum_congr rfl fun I _ => mul_comm _ _

/-- The gradient, at finite arguments. -/
theorem dx (h0 : ∀ i, ∃ r : ℝ, x0 i = r) (h1 : ∀ i, ∃ r : ℝ, x1 i = r) (h3 : ∀ i, ∃ r : ℝ, x3 i = r) (h4 : ∀ i, ∃ r : ℝ, x4 i = r) (I : Fin 4096) (j : Fin 1024) :
    (val_main_v39 (F := Ideal) x0 x1 x2 x3 x4 (ix2 I j) : EReal) = dIn x0 x4 x1 x2 x3 I j := by
  rw [← dIn_eq x0 x4 x1 x2 x3 h0 h1 h3 h4 I j]
  unfold half NormMath.inv var eps mhalf row scaled
  rw [← v18]
  unfold val_main_v39 val_main_v38 val_main_v37 val_main_v36 val_main_v35 val_main_v34 val_main_cst_7 val_main_v33 val_main_v32 val_main_cst_6 val_main_v31 val_main_v30 val_main_v29 val_main_v28 val_main_v27 val_main_v26 val_main_cst_5 val_main_v25 val_main_v23 val_main_v22 val_main_v14 val_main_v11 val_main_v10 val_main_cst_2 val_main_v9 val_main_v8 val_main_v7 val_main_v6 val_main_cst_1 val_main_v5 val_main_v4 val_main_cst_0 val_main_v3 val_main_v2 val_main_cst val_main_v1 val_main_v0
  generalize val_main_v18 (F := Ideal) x0 x4 = Y
  pointwise
  simp only [Finset.univ_unique, Finset.sum_singleton]
end

end Ref

open Idealize.ShloMosaic Idealize.ShloMosaic.TcCoe Idealize.SL.Sem
open Cert.FoxClaim (and_one)
open Cert.GateOddClaim (real_of)

/-- The precondition read entry by entry: the arguments but the added one are finite. -/
theorem finite [Cert.Pre_pre_in1.Facts] (m : (ℓ : Loc Cert.InOddIdeal.nD Cert.InOddIdeal.τ Cert.InOddIdeal.sig) → Buf (Elt Ideal) ℓ)
    (h : Cert.Pre_InOddIdeal_pre_in1 m) (c : Dev Cert.InOddIdeal.nD) :
    (∀ i, ∃ r : ℝ, Kernel.argZ m c i = r) ∧ (∀ i, ∃ r : ℝ, Kernel.argX m c i = r) ∧ (∀ i, ∃ r : ℝ, Kernel.argG m c i = r) ∧ (∀ i, ∃ r : ℝ, Kernel.argW m c i = r) := by
  have h0 := congrFun (h c) ix0
  obtain ⟨h0, h3⟩ := and_one (show _ &&& _ = 1#1 from h0)
  obtain ⟨h0, h2⟩ := and_one (show _ &&& _ = 1#1 from h0)
  obtain ⟨h0, h1⟩ := and_one (show _ &&& _ = 1#1 from h0)
  exact ⟨real_of _ fun i => Cert.Finite.of_abs_lt _ (Host.reduce_andi_all _ _ _ _ _ h0 i), real_of _ fun i => Cert.Finite.of_abs_lt _ (Host.reduce_andi_all _ _ _ _ _ h1 i),
    real_of _ fun i => Cert.Finite.of_abs_lt _ (Host.reduce_andi_all _ _ _ _ _ h2 i), real_of _ fun i => Cert.Finite.of_abs_lt _ (Host.reduce_andi_all _ _ _ _ _ h3 i)⟩

open Cert.InOddIdeal Cert.InOddIdeal.Gen in
/-- All three results are the reference's, from memories that agree on finite arguments. -/
theorem value [Cert.Pre_pre_in1.Facts] : Cert.algebraic_InOddIdeal_InOddReferenceIdeal_pre_pre_in1 := by
  intro m g m' g' hpre hag
  refine ⟨fun c => (dats m 0 c).arrAt 13 cfg0.N, fun c => (dats m 0 c).arrAt 14 cfg0.N, fun c => (dats m 0 c).arrAt 15 cfg0.N, Cert.InOddIdeal.Value.run_blocks m g, ?_⟩
  refine (θ_run _ _ _).mono (fun r h c => ?_) (Cert.InOddReferenceIdeal.Value.run m' g')
  obtain ⟨h0, h1, h2, h3⟩ := h c
  obtain ⟨e0, e1, e2, e3, e4⟩ := hag c
  obtain ⟨f0, f1, f3, f4⟩ := finite m hpre c
  rw [Cert.InOddReferenceIdeal.Read.val_main_v39_eq, e0, e1, e2, e3, e4] at h0
  rw [Cert.InOddReferenceIdeal.Read.val_main_v40_eq, e0, e1, e4] at h1
  rw [Cert.InOddReferenceIdeal.Read.val_main_v41_eq, e0, e1, e2, e3, e4] at h2
  refine ⟨h0.trans ?_, h1.trans ?_, h2.trans ?_, h3⟩
  · refine Eq.trans ?_ (Kernel.final13 m c).symm
    funext y
    obtain ⟨I, e, rfl⟩ : ∃ I e, y = ix2 I e := ⟨_, _, eq_ix2 y⟩
    exact Ref.dx _ _ _ _ _ f0 f1 f3 f4 I e
  · refine Eq.trans ?_ (Kernel.final14 m c).symm
    funext y
    obtain ⟨I, e, rfl⟩ : ∃ I e, y = ix2 I e := ⟨_, _, eq_ix2 y⟩
    obtain rfl : I = 0 := Subsingleton.elim _ _
    exact Ref.dg _ _ _ e
  · refine Eq.trans ?_ (Kernel.final15 m c).symm
    funext y
    obtain ⟨I, e, rfl⟩ : ∃ I e, y = ix2 I e := ⟨_, _, eq_ix2 y⟩
    exact Ref.dx _ _ _ _ _ f0 f1 f3 f4 I e

end Cert.InOddClaim

end
-- ==== Proof.InEven.lean ====
/- The gradient of the even layer's input (`l0_in_dx`): what the kernel writes, the weight's gradient summed over the
   blocks of rows, what the reference computes, and that they agree at finite arguments. -/
module

public import proofs.«01_k».proof.Defs
public import proofs.«01_k».proof.Proof.Rows
public import proofs.«01_k».proof.Proof.InMath
public import proofs.«01_k».proof.Proof.GateOdd
public import proofs.«01_k».proof.Proof.Gen.InEvenIdeal.Value
public import proofs.«01_k».proof.Proof.Gen.InEvenReferenceIdeal.Run
public import proofs.«01_k».proof.Proof.Gen.InEvenReferenceIdeal.Read
public import proofs.«01_k».proof.Proof.Gen.Pre_pre_in0
public import Idealize.ShloMosaic.Lib.Pointwise
public import Idealize.ShloMosaic.Lib.Tactic

@[expose] public section

set_option maxRecDepth 16384

noncomputable section

namespace Cert.InEvenClaim

namespace Kernel

open Idealize.ShloMosaic Idealize.ShloMosaic.TcCoe Idealize.ShloMosaic.Tactic Idealize.SL.Sem
open Cert.InEvenIdeal Cert.InEvenIdeal.Gen Cert.NormMath Cert.LossMath Cert.InMath

section
variable (z : Vec Ideal S512x2304 .bf16) (w : Vec Ideal S2304x1024 .bf16) (x a : Vec Ideal S512x1024 .f32) (g : Vec Ideal S1x1024 .f32)

/-- The block of the normed row's cotangent. -/
abbrev prod : Arr 512 1024 := k0_pay3 z w
theorem prod_apply (p : Fin 512) (j : Fin 1024) : prod z w (ix2 p j) = ∑ k : Fin 2304, (z (ix2 p k) : EReal) * w (ix2 k j) := by
  unfold prod k0_pay3
  pointwise

/-- The gradient's block, at an entry. -/
theorem dx_apply (p : Fin 512) (j : Fin 1024) : (k0_pay6 x a g z w (ix2 p j) : EReal) = dX len (row x p) (scaled (prod z w) g p) j + a (ix2 p j) := by
  unfold k0_pay6 k0_pay5 k0_pay4 dX NormMath.inv var eps row scaled prod
  generalize k0_pay3 z w = Y
  pointwise

/-- The weight's gradient after a block: what it was, and the block's rows. -/
theorem dg_apply (b : Vec Ideal S1x1024 .f32) (j : Fin 1024) : (k0_pay2 (k0_pay7 x z w) b (ix2 0 j) : EReal) = b (ix2 0 j) + ∑ p : Fin 512, dG len x (prod z w) j p := by
  unfold k0_pay2 k0_pay7 k0_pay5 k0_pay4 dG NormMath.inv var eps row prod
  generalize k0_pay3 z w = Y
  pointwise
end

theorem zero_apply (i : S1x1024.Idx) : (k0_pay1 (F := Ideal) i : EReal) = 0 := by
  unfold k0_pay1
  pointwise

theorem origin : (![0, 0] : Fin 2 → Nat) = fun _ => 0 := funext fun a => by fin_cases a <;> rfl

section
variable {F : FTy → Type} [FloatOps F]
variable (c : Dev nD) (i : grid0.Coords) (a1 : Memref sig .tc .vmem S512x2304 .bf16) (h1 : a1.IsWhole) (a2 : Memref sig .tc .vmem S2304x1024 .bf16) (h2 : a2.IsWhole)
  (a3 : Memref sig .tc .vmem S512x1024 .f32) (h3 : a3.IsWhole) (a4 : Memref sig .tc .vmem S512x1024 .f32) (h4 : a4.IsWhole) (a5 : Memref sig .tc .vmem S1x1024 .f32) (h5 : a5.IsWhole)
  (a6 : Memref sig .tc .vmem S512x1024 .f32) (h6 : a6.IsWhole) (a7 : Memref sig .tc .vmem S1x1024 .f32) (h7 : a7.IsWhole)
  (z : Vec F S512x2304 .bf16) (w : Vec F S2304x1024 .bf16) (x a : Vec F S512x1024 .f32) (g d : Vec F S1x1024 .f32)

/-- What the body leaves in the two results' blocks, over the weight's gradient `d` that was there. -/
def after : Vec F S512x1024 .f32 × Vec F S1x1024 .f32 := (k0_pay6 x a g z w, k0_pay2 (k0_pay7 x z w) d)

/-- The first point starts the sum from zero; a later point goes on from what was there. -/
theorem outs_A (hc : cond0_0 i) :
    (out0_A_5 c i a1 h1 a2 h2 a3 h3 a4 h4 a5 h5 a6 h6 a7 h7 hc z w x a g, out0_A_6 c i a1 h1 a2 h2 a3 h3 a4 h4 a5 h5 a6 h6 a7 h7 hc z w x a g) = after z w x a g k0_pay1 := by
  refine congrArg₂ Prod.mk ((View.read_writes_eq_canon _ _ _ (cover0_A_5 c i a1 h1 a2 h2 a3 h3 a4 h4 a5 h5 a6 h6 a7 h7 hc z w x a g)).trans ?_)
    ((View.read_writes_eq_canon _ _ _ (cover0_A_6 c i a1 h1 a2 h2 a3 h3 a4 h4 a5 h5 a6 h6 a7 h7 hc z w x a g)).trans ?_)
  all_goals
    unfold kernelRun0_A
    dsimp only
    sl_unfold_words
    simp only [View.canon_cons_unit_zero (S := S512x1024) origin, View.canon_cons_unit_zero (S := S1x1024) origin,
      View.readAt_eq_ld, h1.read_unread, h2.read_unread, h3.read_unread, h4.read_unread, h5.read_unread, View.ld_unit_zero (S := S512x1024) origin,
      View.ld_unit_zero (S := S1x1024) origin, View.ld_unit_zero (S := S512x2304) origin, View.ld_unit_zero (S := S2304x1024) origin, View.readCov_unit_zero (S := S1x1024) _ origin]
theorem outs_B (hc : ¬cond0_0 i) :
    (out0_B_5 c i a1 h1 a2 h2 a3 h3 a4 h4 a5 h5 a6 h6 a7 h7 hc z w x a g d, out0_B_6 c i a1 h1 a2 h2 a3 h3 a4 h4 a5 h5 a6 h6 a7 h7 hc z w x a g d) = after z w x a g d := by
  refine congrArg₂ Prod.mk ((View.read_writes_eq_canon _ _ _ (cover0_B_5 c i a1 h1 a2 h2 a3 h3 a4 h4 a5 h5 a6 h6 a7 h7 hc z w x a g d)).trans ?_)
    ((View.read_writes_eq_canon _ _ _ (cover0_B_6 c i a1 h1 a2 h2 a3 h3 a4 h4 a5 h5 a6 h6 a7 h7 hc z w x a g d)).trans ?_)
  all_goals
    unfold kernelRun0_B
    dsimp only
    sl_unfold_words
    simp only [View.canon_cons_unit_zero (S := S512x1024) origin, View.canon_cons_unit_zero (S := S1x1024) origin,
      View.readAt_eq_ld, h1.read_unread, h2.read_unread, h3.read_unread, h4.read_unread, h5.read_unread, h7.read_unread, View.ld_unit_zero (S := S512x1024) origin,
      View.ld_unit_zero (S := S1x1024) origin, View.ld_unit_zero (S := S512x2304) origin, View.ld_unit_zero (S := S2304x1024) origin]
end

variable (m : (ℓ : Loc nD τ sig) → Buf (Elt Ideal) ℓ) (c : Dev nD)

/-- The arguments on a device. -/
def argZ : Arr 4096 2208 := (m ((c : Thread nD τ).loc main_arg0) : S4096x2208.Idx → EReal)
def argX : Arr 4096 1024 := (m ((c : Thread nD τ).loc main_arg1) : S4096x1024.Idx → EReal)
def argD : Arr 4096 1024 := (m ((c : Thread nD τ).loc main_arg2) : S4096x1024.Idx → EReal)
def argG : Arr 1 1024 := (m ((c : Thread nD τ).loc main_arg3) : S1x1024.Idx → EReal)
def argW : Arr 1024 2208 := (m ((c : Thread nD τ).loc main_arg4) : S1024x2208.Idx → EReal)

/-- The cotangent's columns, and the transposed weights' rows, as the host lays them out. -/
def cols (u : FVec Ideal S4096x2208 .bf16) : FVec Ideal S4096x2304 .bf16 :=
  concatenate S4096x2304 1 [⟨S4096x1024, extractStridedSlice S4096x1024 ![0, 1184] u slices_S4096x2208_S4096x1024_0_1184⟩,
    ⟨S4096x256, extractStridedSlice S4096x256 ![0, 0] u slices_S4096x2208_S4096x256_0_0⟩,
    ⟨S4096x128, extractStridedSlice S4096x128 ![0, 256] u slices_S4096x2208_S4096x128_0_256⟩,
    ⟨S4096x64, broadcastInDim S4096x64 ![] bcast_S_S4096x64 (constant (F := Ideal) S_ .bf16 0x0000#16)⟩,
    ⟨S4096x32, extractStridedSlice S4096x32 ![0, 384] u slices_S4096x2208_S4096x32_0_384⟩,
    ⟨S4096x32, broadcastInDim S4096x32 ![] bcast_S_S4096x32 (constant (F := Ideal) S_ .bf16 0x0000#16)⟩,
    ⟨S4096x512, extractStridedSlice S4096x512 ![0, 416] u slices_S4096x2208_S4096x512_0_416⟩,
    ⟨S4096x128, extractStridedSlice S4096x128 ![0, 928] u slices_S4096x2208_S4096x128_0_928⟩,
    ⟨S4096x128, extractStridedSlice S4096x128 ![0, 1056] u slices_S4096x2208_S4096x128_0_1056⟩]
    concatenates_S4096x1024_S4096x256_S4096x128_S4096x64_S4096x32_S4096x32_S4096x512_S4096x128_S4096x128_S4096x2304_d1
def rows (u : FVec Ideal S2208x1024 .bf16) : FVec Ideal S2304x1024 .bf16 :=
  concatenate S2304x1024 0 [⟨S1024x1024, extractStridedSlice S1024x1024 ![1184, 0] u slices_S2208x1024_S1024x1024_1184_0⟩,
    ⟨S256x1024, extractStridedSlice S256x1024 ![0, 0] u slices_S2208x1024_S256x1024_0_0⟩,
    ⟨S128x1024, extractStridedSlice S128x1024 ![256, 0] u slices_S2208x1024_S128x1024_256_0⟩,
    ⟨S64x1024, broadcastInDim S64x1024 ![] bcast_S_S64x1024 (constant (F := Ideal) S_ .bf16 0x0000#16)⟩,
    ⟨S32x1024, extractStridedSlice S32x1024 ![384, 0] u slices_S2208x1024_S32x1024_384_0⟩,
    ⟨S32x1024, broadcastInDim S32x1024 ![] bcast_S_S32x1024 (constant (F := Ideal) S_ .bf16 0x0000#16)⟩,
    ⟨S512x1024, extractStridedSlice S512x1024 ![416, 0] u slices_S2208x1024_S512x1024_416_0⟩,
    ⟨S128x1024, extractStridedSlice S128x1024 ![928, 0] u slices_S2208x1024_S128x1024_928_0⟩,
    ⟨S128x1024, extractStridedSlice S128x1024 ![1056, 0] u slices_S2208x1024_S128x1024_1056_0⟩]
    concatenates_S1024x1024_S256x1024_S128x1024_S64x1024_S32x1024_S32x1024_S512x1024_S128x1024_S128x1024_S2304x1024_d0

theorem cols_apply (u : FVec Ideal S4096x2208 .bf16) (I : Fin 4096) (k : Fin 2304) : (cols u (ix2 I k) : EReal) = laid (fun n => u (ix2 I n)) k := by
  unfold cols laid
  pointwise
theorem rows_apply (u : FVec Ideal S2208x1024 .bf16) (j : Fin 1024) (k : Fin 2304) : (rows u (ix2 k j) : EReal) = laid (fun n => u (ix2 n j)) k := by
  unfold rows laid
  pointwise

theorem V21 : V m c main_v21 = cols (argZ m c) := by unfold cols; dsimp only [V, List.flatten, List.append]; after_results; rfl
theorem V22 : V m c main_v22 = rows (transpose S2208x1024 [1, 0] (argW m c : FVec Ideal S1024x2208 .bf16) transposes_S1024x2208_S2208x1024_1_0) := by
  unfold rows; dsimp only [V, List.flatten, List.append]; after_results; rfl
theorem weight_apply (n : Fin 2208) (j : Fin 1024) :
    (transpose S2208x1024 [1, 0] (argW m c : FVec Ideal S1024x2208 .bf16) transposes_S1024x2208_S2208x1024_1_0 (ix2 n j) : EReal) = argW m c (ix2 j n) := by
  pointwise

theorem index0 : ∀ t : Fin cfg0.N, win0_0.index t 0 = t.val ∧ win0_0.index t 1 = 0 := (by decide +kernel : ∀ t : Fin grid0.N, _)
theorem index1 : ∀ t : Fin cfg0.N, win0_1.index t 0 = 0 ∧ win0_1.index t 1 = 0 := (by decide +kernel : ∀ t : Fin grid0.N, _)
theorem index2 : ∀ t : Fin cfg0.N, win0_2.index t 0 = t.val ∧ win0_2.index t 1 = 0 := (by decide +kernel : ∀ t : Fin grid0.N, _)
theorem index3 : ∀ t : Fin cfg0.N, win0_3.index t 0 = t.val ∧ win0_3.index t 1 = 0 := (by decide +kernel : ∀ t : Fin grid0.N, _)
theorem index4 : ∀ t : Fin cfg0.N, win0_4.index t 0 = 0 ∧ win0_4.index t 1 = 0 := (by decide +kernel : ∀ t : Fin grid0.N, _)
theorem index5 : ∀ t : Fin cfg0.N, win0_5.index t 0 = t.val ∧ win0_5.index t 1 = 0 := (by decide +kernel : ∀ t : Fin grid0.N, _)
theorem index6 : ∀ t : Fin cfg0.N, win0_6.index t 0 = 0 ∧ win0_6.index t 1 = 0 := (by decide +kernel : ∀ t : Fin grid0.N, _)

/-- The blocks at a point are the rows of the arguments, the columns in the kernel's order. -/
theorem blk0 (t : Fin cfg0.N) (p : Fin 512) (k : Fin 2304) : (iblk m c 0 t (ix2 p k) : EReal) = laid (fun n => argZ m c (ix2 (Rows.row N_0 t p) n)) k := by
  unfold iblk; rw [View.read_apply]; show V m c main_v21 _ = _; rw [V21]
  exact (Rows.at_block (cols (argZ m c)) _ p k t.val ![win0_0.index t 0, win0_0.index t 1] (index0 t) (Rows.row_lt N_0 t p) rfl rfl).trans (cols_apply _ _ k)
theorem blk1 (t : Fin cfg0.N) (k : Fin 2304) (j : Fin 1024) : (iblk m c 1 t (ix2 k j) : EReal) = laid (fun n => argW m c (ix2 j n)) k := by
  unfold iblk; rw [View.read_apply]; show V m c main_v22 _ = _; rw [V22]
  refine (Rows.at_block (rows _) _ k j 0 ![win0_1.index t 0, win0_1.index t 1] (index1 t) (by have := k.isLt; omega) rfl rfl).trans ?_
  refine (rows_apply _ j _).trans ((congrArg₂ laid (funext fun n => weight_apply m c n j) (Fin.ext ?_)))
  show 0 * 2304 + k.val = k.val; omega
theorem blk2 (t : Fin cfg0.N) (p : Fin 512) (j : Fin 1024) : (iblk m c 2 t (ix2 p j) : EReal) = argX m c (ix2 (Rows.row N_0 t p) j) := by
  unfold iblk; rw [View.read_apply]; show V m c main_arg1 _ = _; rw [V_main_arg1]
  exact Rows.at_block (argX m c) _ p j t.val ![win0_2.index t 0, win0_2.index t 1] (index2 t) _ rfl rfl
theorem blk3 (t : Fin cfg0.N) (p : Fin 512) (j : Fin 1024) : (iblk m c 3 t (ix2 p j) : EReal) = argD m c (ix2 (Rows.row N_0 t p) j) := by
  unfold iblk; rw [View.read_apply]; show V m c main_arg2 _ = _; rw [V_main_arg2]
  exact Rows.at_block (argD m c) _ p j t.val ![win0_3.index t 0, win0_3.index t 1] (index3 t) _ rfl rfl
theorem blk4 (t : Fin cfg0.N) (j : Fin 1024) : (iblk m c 4 t (ix2 0 j) : EReal) = argG m c (ix2 0 j) := by
  unfold iblk; rw [View.read_apply]; show V m c main_arg3 _ = _; rw [V_main_arg3]
  exact Rows.at_block (argG m c) _ (0 : Fin 1) j 0 ![win0_4.index t 0, win0_4.index t 1] (index4 t) (by norm_num) rfl rfl

theorem blkProd (t : Fin cfg0.N) (p : Fin 512) (j : Fin 1024) :
    prod (iblk m c 0 t) (iblk m c 1 t) (ix2 p j) = dNormed (argZ m c) (argW m c) (ix2 (Rows.row N_0 t p) j) :=
  (prod_apply _ _ p j).trans ((Finset.sum_congr rfl fun k _ => congrArg₂ (fun a b : EReal => a * b) (blk0 m c t p k) (blk1 m c t k j)).trans (even_sum _ _))
theorem rowX (t : Fin cfg0.N) (p : Fin 512) : row (iblk m c 2 t) p = row (argX m c) (Rows.row N_0 t p) := funext fun k => blk2 m c t p k
theorem rowD (t : Fin cfg0.N) (p : Fin 512) : scaled (prod (iblk m c 0 t) (iblk m c 1 t)) (iblk m c 4 t) p
    = scaled (dNormed (argZ m c) (argW m c)) (argG m c) (Rows.row N_0 t p) :=
  funext fun k => congrArg₂ (· * ·) (blkProd m c t p k) (blk4 m c t k)
theorem rowG (t : Fin cfg0.N) (p : Fin 512) (j : Fin 1024) :
    dG len (iblk m c 2 t) (prod (iblk m c 0 t) (iblk m c 1 t)) j p = dG len (argX m c) (dNormed (argZ m c) (argW m c)) j (Rows.row N_0 t p) := by
  unfold dG
  rw [rowX]
  exact congrArg₂ (· * ·) (blkProd m c t p j) (congrArg (· * _) (blk2 m c t p j))

/-- The contents of the results. -/
def dxAt (I : Fin 4096) (j : Fin 1024) : EReal := dIn (argZ m c) (argW m c) (argX m c) (argD m c) (argG m c) I j
def dgAt (j : Fin 1024) : EReal := dGain (argZ m c) (argW m c) (argX m c) j

/-- The results after a point, over what the point found in the sum. -/
theorem first (t : Fin cfg0.N) (h : t.val % 8 = 0) : outsAt0 m c t.val t.isLt
    = after (iblk m c 0 t) (iblk m c 1 t) (iblk m c 2 t) (iblk m c 3 t) (iblk m c 4 t) (k0_pay1 (F := Ideal)) :=
  (outsAt0_A m c t h).trans (outs_A _ _ _ _ _ _ _ _ _ _ _ _ _ _ _ _ _ _ _ _ _ _)
theorem later (t : Fin cfg0.N) (h : ¬t.val % 8 = 0) : outsAt0 m c t.val t.isLt
    = after (iblk m c 0 t) (iblk m c 1 t) (iblk m c 2 t) (iblk m c 3 t) (iblk m c 4 t) (outsAt0 m c (t.val - 1) (Nat.lt_of_le_of_lt (Nat.sub_le _ _) t.isLt)).2 :=
  (outsAt0_B m c t h).trans (outs_B _ _ _ _ _ _ _ _ _ _ _ _ _ _ _ _ _ _ _ _ _ _ _)
theorem outs_eq (t : Fin cfg0.N) : ∃ d, outsAt0 m c t.val t.isLt = after (iblk m c 0 t) (iblk m c 1 t) (iblk m c 2 t) (iblk m c 3 t) (iblk m c 4 t) d := by
  by_cases h : t.val % 8 = 0
  · exact ⟨_, first m c t h⟩
  · exact ⟨_, later m c t h⟩

theorem out5 (t : Fin cfg0.N) (p : Fin 512) (j : Fin 1024) : ((outsAt0 m c t.val t.isLt).1 (ix2 p j) : EReal) = dxAt m c (Rows.row N_0 t p) j := by
  obtain ⟨d, e⟩ := outs_eq m c t
  rw [e]
  refine (dx_apply _ _ _ _ _ p j).trans ?_
  rw [rowX, rowD]
  exact congrArg (_ + ·) (blk3 m c t p j)

/-- The weight's gradient after the last point: all rows'. -/
theorem out6 (n : ℕ) (h : n < cfg0.N) (h7 : n = 7) (j : Fin 1024) : ((outsAt0 m c n h).2 (ix2 0 j) : EReal) = dgAt m c j := by
  refine Rows.accumulate N_0 (dG len (argX m c) (dNormed (argZ m c) (argW m c)) j) (fun n h => ((outsAt0 m c n h).2 (ix2 0 j) : EReal)) (fun h0 => ?_) (fun k hk => ?_) n h h7
  · refine (congrArg (fun o => (o.2 (ix2 0 j) : EReal)) (first m c ⟨0, h0⟩ rfl)).trans ?_
    refine (dg_apply _ _ _ _ j).trans ?_
    rw [zero_apply, zero_add]
    exact Finset.sum_congr rfl fun q _ => rowG m c ⟨0, h0⟩ q j
  · refine (congrArg (fun o => (o.2 (ix2 0 j) : EReal)) (later m c ⟨k + 1, hk⟩ (by have := hk.trans_eq N_0; dsimp only; omega))).trans ?_
    refine (dg_apply _ _ _ _ j).trans ?_
    exact congrArg₂ (· + ·) rfl (Finset.sum_congr rfl fun q _ => rowG m c ⟨k + 1, hk⟩ q j)

/-- The arrays after the run. -/
def F5 : Buf (Elt Ideal) ((c : Thread nD τ).loc main_v23_0) := fun y : S4096x1024.Idx => dxAt m c (y 0) (y 1)
def F6 : Buf (Elt Ideal) ((c : Thread nD τ).loc main_v23_1) := fun y : S1x1024.Idx => dgAt m c (y 1)

theorem final5 : (dats m 0 c).arrAt 5 cfg0.N = F5 m c := by
  refine (dats m 0 c).arrAt_eq_of_cover 5 (F5 m c) (fun t _ => ?_) fun (y : S4096x1024.Idx) => ?_
  · rw [Value.flushed5]
    funext x
    obtain ⟨p, e, rfl⟩ : ∃ p e, x = (ix2 p e : S512x1024.Idx) := ⟨_, _, eq_ix2 x⟩
    refine (out5 m c t p e).trans ?_
    rw [View.read_apply]
    exact Rows.entry (dxAt m c) p e t.val ![win0_5.index t 0, win0_5.index t 1] (index5 t) _ _ _
  · obtain ⟨t, ht⟩ := Rows.cover N_0 (show Fin 4096 from y 0)
    obtain ⟨i0, i1⟩ := index5 t
    refine ⟨t, flush0_5 t, ?_⟩
    show y ∈ ((View.whole main_v23_0).slice (win0_5.rect t)).set
    rw [View.set_slice_whole, Rect.mem_set_unit]
    intro b
    match b with
    | ⟨0, _⟩ => exact Rows.bounds i0 ht
    | ⟨1, _⟩ => exact Rows.bounds_zero i1 (y 1).isLt

theorem final6 : (dats m 0 c).arrAt 6 cfg0.N = F6 m c := by
  have hN : cfg0.N = 8 := N_0
  refine (dats m 0 c).arrAt_eq_of_cover 6 (F6 m c) (fun t ht => ?_) fun (y : S1x1024.Idx) => ?_
  · have h7 : t.val = 7 := by have := (flush0_6 t).mp ht; have := t.isLt; omega
    rw [Value.flushed6]
    funext x
    obtain ⟨p, e, rfl⟩ : ∃ p e, x = (ix2 p e : S1x1024.Idx) := ⟨_, _, eq_ix2 x⟩
    obtain rfl : p = 0 := Subsingleton.elim _ _
    refine (out6 m c t.val t.isLt h7 e).trans ?_
    rw [View.read_apply]
    exact congrArg (dgAt m c) (Fin.ext (Rows.coord_zero (B := 1024) (p := e.val) (index6 t).2 rfl).symm)
  · have h7 : 7 < cfg0.N := by omega
    obtain ⟨i0, i1⟩ := index6 ⟨7, h7⟩
    refine ⟨⟨7, h7⟩, (flush0_6 _).mpr rfl, ?_⟩
    show y ∈ ((View.whole main_v23_1).slice (win0_6.rect ⟨7, h7⟩)).set
    rw [View.set_slice_whole, Rect.mem_set_unit]
    intro b
    match b with
    | ⟨0, _⟩ => exact Rows.bounds_zero i0 (y 0).isLt
    | ⟨1, _⟩ => exact Rows.bounds_zero i1 (y 1).isLt

end Kernel

namespace Ref

open Idealize.ShloMosaic Idealize.ShloMosaic.Tactic
open Cert.InEvenReferenceIdeal Cert.InEvenReferenceIdeal.Read Cert.NormMath Cert.LossMath Cert.InMath

section
variable (x0 : Arr 4096 2208) (x1 x2 : Arr 4096 1024) (x3 : Arr 1 1024) (x4 : Arr 1024 2208)

/-- The reference's cotangent of the normed row. -/
theorem v18_apply (I : Fin 4096) (j : Fin 1024) : (val_main_v18 (F := Ideal) x0 x4 (ix2 I j) : EReal) = dNormed x0 x4 (ix2 I j) := by
  show _ = ∑ k : Fin 2208, x0 (ix2 I k) * x4 (ix2 j k)
  unfold val_main_v18
  pointwise
theorem v18 : (val_main_v18 (F := Ideal) x0 x4 : Arr 4096 1024) = dNormed x0 x4 := by
  funext i
  obtain ⟨I, j, rfl⟩ : ∃ I j, i = (ix2 I j : S4096x1024.Idx) := ⟨_, _, eq_ix2 i⟩
  exact v18_apply x0 x4 I j

/-- The weight's gradient. -/
theorem dg (j : Fin 1024) : (val_main_v40 (F := Ideal) x0 x1 x4 (ix2 0 j) : EReal) = dGain x0 x4 x1 j := by
  unfold dGain dG
  rw [← v18]
  unfold NormMath.inv var eps row
  unfold val_main_v40 val_main_v24 val_main_cst_4 val_main_v21 val_main_v20 val_main_cst_3 val_main_v19 val_main_v13 val_main_v12 val_main_v8 val_main_v7 val_main_v6 val_main_cst_1 val_main_v5 val_main_v4 val_main_cst_0 val_main_v3 val_main_v2 val_main_cst val_main_v1
  generalize val_main_v18 (F := Ideal) x0 x4 = Y
  pointwise
  rw [Fin.sum_univ_one]
  exact Finset.sum_congr rfl fun I _ => mul_comm _ _

/-- The gradient, at finite arguments. -/
theorem dx (h0 : ∀ i, ∃ r : ℝ, x0 i = r) (h1 : ∀ i, ∃ r : ℝ, x1 i = r) (h3 : ∀ i, ∃ r : ℝ, x3 i = r) (h4 : ∀ i, ∃ r : ℝ, x4 i = r) (I : Fin 4096) (j : Fin 1024) :
    (val_main_v39 (F := Ideal) x0 x1 x2 x3 x4 (ix2 I j) : EReal) = dIn x0 x4 x1 x2 x3 I j := by
  rw [← dIn_eq x0 x4 x1 x2 x3 h0 h1 h3 h4 I j]
  unfold half NormMath.inv var eps mhalf row scaled
  rw [← v18]
  unfold val_main_v39 val_main_v38 val_main_v37 val_main_v36 val_main_v35 val_main_v34 val_main_cst_7 val_main_v33 val_main_v32 val_main_cst_6 val_main_v31 val_main_v30 val_main_v29 val_main_v28 val_main_v27 val_main_v26 val_main_cst_5 val_main_v25 val_main_v23 val_main_v22 val_main_v14 val_main_v11 val_main_v10 val_main_cst_2 val_main_v9 val_main_v8 val_main_v7 val_main_v6 val_main_cst_1 val_main_v5 val_main_v4 val_main_cst_0 val_main_v3 val_main_v2 val_main_cst val_main_v1 val_main_v0
  generalize val_main_v18 (F := Ideal) x0 x4 = Y
  pointwise
  simp only [Finset.univ_unique, Finset.sum_singleton]
end

end Ref

open Idealize.ShloMosaic Idealize.ShloMosaic.TcCoe Idealize.SL.Sem
open Cert.FoxClaim (and_one)
open Cert.GateOddClaim (real_of)

/-- The precondition read entry by entry: the arguments but the added one are finite. -/
theorem finite [Cert.Pre_pre_in0.Facts] (m : (ℓ : Loc Cert.InEvenIdeal.nD Cert.InEvenIdeal.τ Cert.InEvenIdeal.sig) → Buf (Elt Ideal) ℓ)
    (h : Cert.Pre_InEvenIdeal_pre_in0 m) (c : Dev Cert.InEvenIdeal.nD) :
    (∀ i, ∃ r : ℝ, Kernel.argZ m c i = r) ∧ (∀ i, ∃ r : ℝ, Kernel.argX m c i = r) ∧ (∀ i, ∃ r : ℝ, Kernel.argG m c i = r) ∧ (∀ i, ∃ r : ℝ, Kernel.argW m c i = r) := by
  have h0 := congrFun (h c) ix0
  obtain ⟨h0, h3⟩ := and_one (show _ &&& _ = 1#1 from h0)
  obtain ⟨h0, h2⟩ := and_one (show _ &&& _ = 1#1 from h0)
  obtain ⟨h0, h1⟩ := and_one (show _ &&& _ = 1#1 from h0)
  exact ⟨real_of _ fun i => Cert.Finite.of_abs_lt _ (Host.reduce_andi_all _ _ _ _ _ h0 i), real_of _ fun i => Cert.Finite.of_abs_lt _ (Host.reduce_andi_all _ _ _ _ _ h1 i),
    real_of _ fun i => Cert.Finite.of_abs_lt _ (Host.reduce_andi_all _ _ _ _ _ h2 i), real_of _ fun i => Cert.Finite.of_abs_lt _ (Host.reduce_andi_all _ _ _ _ _ h3 i)⟩

open Cert.InEvenIdeal Cert.InEvenIdeal.Gen in
/-- Both results are the reference's, from memories that agree on finite arguments. -/
theorem value [Cert.Pre_pre_in0.Facts] : Cert.algebraic_InEvenIdeal_InEvenReferenceIdeal_pre_pre_in0 := by
  intro m g m' g' hpre hag
  refine ⟨fun c => (dats m 0 c).arrAt 5 cfg0.N, fun c => (dats m 0 c).arrAt 6 cfg0.N, Cert.InEvenIdeal.Value.run_blocks m g, ?_⟩
  refine (θ_run _ _ _).mono (fun r h c => ?_) (Cert.InEvenReferenceIdeal.Value.run m' g')
  obtain ⟨h0, h1, h2⟩ := h c
  obtain ⟨e0, e1, e2, e3, e4⟩ := hag c
  obtain ⟨f0, f1, f3, f4⟩ := finite m hpre c
  rw [Cert.InEvenReferenceIdeal.Read.val_main_v39_eq, e0, e1, e2, e3, e4] at h0
  rw [Cert.InEvenReferenceIdeal.Read.val_main_v40_eq, e0, e1, e4] at h1
  refine ⟨h0.trans ?_, h1.trans ?_, h2⟩
  · refine Eq.trans ?_ (Kernel.final5 m c).symm
    funext y
    obtain ⟨I, e, rfl⟩ : ∃ I e, y = ix2 I e := ⟨_, _, eq_ix2 y⟩
    exact Ref.dx _ _ _ _ _ f0 f1 f3 f4 I e
  · refine Eq.trans ?_ (Kernel.final6 m c).symm
    funext y
    obtain ⟨I, e, rfl⟩ : ∃ I e, y = ix2 I e := ⟨_, _, eq_ix2 y⟩
    obtain rfl : I = 0 := Subsingleton.elim _ _
    exact Ref.dg _ _ _ e

end Cert.InEvenClaim

end
-- ==== Proof.LossOut.lean ====
/- The last layer's output with the loss (`l1_out_loss`): what the kernel writes, the loss and the weight's gradient
   summed over the blocks of rows, what the reference computes, and that they agree at finite arguments. -/
module

public import proofs.«01_k».proof.Defs
public import proofs.«01_k».proof.Proof.Rows
public import proofs.«01_k».proof.Proof.LossMath
public import proofs.«01_k».proof.Proof.GateOdd
public import proofs.«01_k».proof.Proof.Gen.LossOutIdeal.Value
public import proofs.«01_k».proof.Proof.Gen.LossOutReferenceIdeal.Run
public import proofs.«01_k».proof.Proof.Gen.LossOutReferenceIdeal.Read
public import proofs.«01_k».proof.Proof.Gen.Pre_pre_loss
public import Idealize.ShloMosaic.Lib.Pointwise
public import Idealize.ShloMosaic.Lib.Tactic

@[expose] public section

set_option maxRecDepth 16384

noncomputable section

namespace Cert.LossOutClaim

namespace Kernel

open Idealize.ShloMosaic Idealize.ShloMosaic.TcCoe Idealize.ShloMosaic.Tactic Idealize.SL.Sem
open Cert.LossOutIdeal Cert.LossOutIdeal.Gen Cert.NormMath Cert.LossMath
open Cert.LogfMath (gate)

section
variable (o gt x t : Vec Ideal S512x1024 .f32) (g : Vec Ideal S1x1024 .f32) (w : Vec Ideal S1024x1024 .bf16)

/-- The gated value, and the residual stream's block. -/
theorem gated_apply (p : Fin 512) (j : Fin 1024) : (k0_pay2 o gt (ix2 p j) : EReal) = o (ix2 p j) * (gt (ix2 p j) * gate (gt (ix2 p j))) := by
  unfold k0_pay2 gate
  pointwise
theorem resid_apply (p : Fin 512) (j : Fin 1024) : (k0_pay3 o gt x w (ix2 p j) : EReal) = resid o gt x w (ix2 p j) := by
  show _ = (x (ix2 p j) : EReal) + ∑ q : Fin 1024, (o (ix2 p q) * (gt (ix2 p q) * gate (gt (ix2 p q)))) * w (ix2 q j)
  unfold k0_pay3 k0_pay2 gate
  pointwise
theorem resid_eq : (k0_pay3 o gt x w : Arr 512 1024) = resid o gt x w := by
  funext i
  obtain ⟨p, j, rfl⟩ : ∃ p j, i = (ix2 p j : S512x1024.Idx) := ⟨_, _, eq_ix2 i⟩
  exact resid_apply o gt x w p j

/-- The gradient's block, at an entry. -/
theorem dx_apply (p : Fin 512) (j : Fin 1024) :
    (k0_pay9 g (k0_pay4 o gt x w) (k0_pay5 o gt x w) (k0_pay6 o gt x t g w) (ix2 p j) : EReal)
      = dX len (row (resid o gt x w) p) (dRow (resid o gt x w) t g p) j := by
  rw [← resid_eq]
  unfold k0_pay9 k0_pay8 k0_pay6 k0_pay5 k0_pay4 dX dRow dNorm err NormMath.inv var eps row
  generalize k0_pay3 o gt x w = Y
  pointwise

/-- The loss after a block: what it was, and one half of the block's rows. -/
theorem loss_apply (a : Vec Ideal S8x128 .f32) (p : Fin 8) (j : Fin 128) :
    (k0_pay11 (k0_pay7 o gt x t g w) a (ix2 p j) : EReal) = a (ix2 p j) + hlf * ∑ q : Fin 512, rowLoss (resid o gt x w) t g q := by
  rw [← resid_eq]
  unfold k0_pay11 k0_pay7 k0_pay6 k0_pay5 k0_pay4 rowLoss err NormMath.inv var eps row
  generalize k0_pay3 o gt x w = Y
  pointwise
  simp only [Finset.univ_unique, Finset.sum_singleton]

/-- The weight's gradient after a block: what it was, and the block's rows. -/
theorem dg_apply (a : Vec Ideal S1x1024 .f32) (j : Fin 1024) :
    (k0_pay13 (k0_pay5 o gt x w) (k0_pay6 o gt x t g w) a (ix2 0 j) : EReal) = a (ix2 0 j) + ∑ q : Fin 512, dWeight (resid o gt x w) t g q j := by
  rw [← resid_eq]
  unfold k0_pay13 k0_pay8 k0_pay6 k0_pay5 k0_pay4 dWeight dNorm err NormMath.inv var eps row
  generalize k0_pay3 o gt x w = Y
  pointwise
end

theorem zero_apply (i : S8x128.Idx) : (k0_pay10 (F := Ideal) i : EReal) = 0 := by
  unfold k0_pay10
  pointwise
theorem zero_apply' (i : S1x1024.Idx) : (k0_pay12 (F := Ideal) i : EReal) = 0 := by
  unfold k0_pay12
  pointwise

theorem origin : (![0, 0] : Fin 2 → Nat) = fun _ => 0 := funext fun a => by fin_cases a <;> rfl

section
variable {F : FTy → Type} [FloatOps F]
variable (c : Dev nD) (i : grid0.Coords) (a1 : Memref sig .tc .vmem S1024x1024 .bf16) (h1 : a1.IsWhole) (a2 : Memref sig .tc .vmem S512x1024 .f32) (h2 : a2.IsWhole) (a3 : Memref sig .tc .vmem S512x1024 .f32) (h3 : a3.IsWhole)
  (a4 : Memref sig .tc .vmem S512x1024 .f32) (h4 : a4.IsWhole) (a5 : Memref sig .tc .vmem S512x1024 .f32) (h5 : a5.IsWhole)
  (a6 : Memref sig .tc .vmem S1x1024 .f32) (h6 : a6.IsWhole) (a7 : Memref sig .tc .vmem S512x1024 .f32) (h7 : a7.IsWhole)
  (a8 : Memref sig .tc .vmem S8x128 .f32) (h8 : a8.IsWhole) (a9 : Memref sig .tc .vmem S1x1024 .f32) (h9 : a9.IsWhole)
  (a10 : Memref sig .tc .vmem S512x1024 .bf16) (h10 : a10.IsWhole) (a11 : Memref sig .tc .vmem S512x1024 .bf16) (h11 : a11.IsWhole)
  (w : Vec F S1024x1024 .bf16) (o gt x t : Vec F S512x1024 .f32) (g : Vec F S1x1024 .f32) (l : Vec F S8x128 .f32) (d : Vec F S1x1024 .f32)

/-- What the body leaves in the five results' blocks, over the loss `l` and the weight's gradient `d` that were there. -/
def after : Vec F S512x1024 .f32 × Vec F S8x128 .f32 × Vec F S1x1024 .f32 × Vec F S512x1024 .bf16 × Vec F S512x1024 .bf16 :=
  (k0_pay9 g (k0_pay4 o gt x w) (k0_pay5 o gt x w) (k0_pay6 o gt x t g w), k0_pay11 (k0_pay7 o gt x t g w) l,
    k0_pay13 (k0_pay5 o gt x w) (k0_pay6 o gt x t g w) d, k0_pay2 o gt, k0_pay1 (k0_pay9 g (k0_pay4 o gt x w) (k0_pay5 o gt x w) (k0_pay6 o gt x t g w)))

/-- The first point starts both sums from zero; a later point goes on from what was there. -/
theorem outs_A (hc : cond0_0 i) (hd : cond0_1 i) :
    (out0_A_6 c i a1 h1 a2 h2 a3 h3 a4 h4 a5 h5 a6 h6 a7 h7 a8 h8 a9 h9 a10 h10 a11 h11 hc hd w o gt x t g,
      out0_A_7 c i a1 h1 a2 h2 a3 h3 a4 h4 a5 h5 a6 h6 a7 h7 a8 h8 a9 h9 a10 h10 a11 h11 hc hd w o gt x t g,
      out0_A_8 c i a1 h1 a2 h2 a3 h3 a4 h4 a5 h5 a6 h6 a7 h7 a8 h8 a9 h9 a10 h10 a11 h11 hc hd w o gt x t g,
      out0_A_9 c i a1 h1 a2 h2 a3 h3 a4 h4 a5 h5 a6 h6 a7 h7 a8 h8 a9 h9 a10 h10 a11 h11 hc hd w o gt x t g,
      out0_A_10 c i a1 h1 a2 h2 a3 h3 a4 h4 a5 h5 a6 h6 a7 h7 a8 h8 a9 h9 a10 h10 a11 h11 hc hd w o gt x t g)
      = after w o gt x t g k0_pay10 k0_pay12 := by
  refine congrArg₂ Prod.mk ((View.read_writes_eq_canon _ _ _ (cover0_A_6 c i a1 h1 a2 h2 a3 h3 a4 h4 a5 h5 a6 h6 a7 h7 a8 h8 a9 h9 a10 h10 a11 h11 hc hd w o gt x t g)).trans ?_)
    (congrArg₂ Prod.mk ((View.read_writes_eq_canon _ _ _ (cover0_A_7 c i a1 h1 a2 h2 a3 h3 a4 h4 a5 h5 a6 h6 a7 h7 a8 h8 a9 h9 a10 h10 a11 h11 hc hd w o gt x t g)).trans ?_)
    (congrArg₂ Prod.mk ((View.read_writes_eq_canon _ _ _ (cover0_A_8 c i a1 h1 a2 h2 a3 h3 a4 h4 a5 h5 a6 h6 a7 h7 a8 h8 a9 h9 a10 h10 a11 h11 hc hd w o gt x t g)).trans ?_)
    (congrArg₂ Prod.mk ((View.read_writes_eq_canon _ _ _ (cover0_A_9 c i a1 h1 a2 h2 a3 h3 a4 h4 a5 h5 a6 h6 a7 h7 a8 h8 a9 h9 a10 h10 a11 h11 hc hd w o gt x t g)).trans ?_)
      ((View.read_writes_eq_canon _ _ _ (cover0_A_10 c i a1 h1 a2 h2 a3 h3 a4 h4 a5 h5 a6 h6 a7 h7 a8 h8 a9 h9 a10 h10 a11 h11 hc hd w o gt x t g)).trans ?_))))
  all_goals
    unfold kernelRun0_A
    dsimp only
    sl_unfold_words
    simp only [View.canon_cons_unit_zero (S := S512x1024) origin, View.canon_cons_unit_zero (S := S1x1024) origin, View.canon_cons_unit_zero (S := S8x128) origin,
      View.readAt_eq_ld, h1.read_unread, h2.read_unread, h3.read_unread, h4.read_unread, h5.read_unread, h6.read_unread, View.ld_unit_zero (S := S512x1024) origin,
      View.ld_unit_zero (S := S1x1024) origin, View.ld_unit_zero (S := S8x128) origin, View.ld_unit_zero (S := S1024x1024) origin, View.readCov_unit_zero (S := S1x1024) _ origin, View.readCov_unit_zero (S := S8x128) _ origin]
theorem outs_B (hc : ¬cond0_0 i) (hd : ¬cond0_1 i) :
    (out0_B_6 c i a1 h1 a2 h2 a3 h3 a4 h4 a5 h5 a6 h6 a7 h7 a8 h8 a9 h9 a10 h10 a11 h11 hc hd w o gt x t g l d,
      out0_B_7 c i a1 h1 a2 h2 a3 h3 a4 h4 a5 h5 a6 h6 a7 h7 a8 h8 a9 h9 a10 h10 a11 h11 hc hd w o gt x t g l d,
      out0_B_8 c i a1 h1 a2 h2 a3 h3 a4 h4 a5 h5 a6 h6 a7 h7 a8 h8 a9 h9 a10 h10 a11 h11 hc hd w o gt x t g l d,
      out0_B_9 c i a1 h1 a2 h2 a3 h3 a4 h4 a5 h5 a6 h6 a7 h7 a8 h8 a9 h9 a10 h10 a11 h11 hc hd w o gt x t g l d,
      out0_B_10 c i a1 h1 a2 h2 a3 h3 a4 h4 a5 h5 a6 h6 a7 h7 a8 h8 a9 h9 a10 h10 a11 h11 hc hd w o gt x t g l d)
      = after w o gt x t g l d := by
  refine congrArg₂ Prod.mk ((View.read_writes_eq_canon _ _ _ (cover0_B_6 c i a1 h1 a2 h2 a3 h3 a4 h4 a5 h5 a6 h6 a7 h7 a8 h8 a9 h9 a10 h10 a11 h11 hc hd w o gt x t g l d)).trans ?_)
    (congrArg₂ Prod.mk ((View.read_writes_eq_canon _ _ _ (cover0_B_7 c i a1 h1 a2 h2 a3 h3 a4 h4 a5 h5 a6 h6 a7 h7 a8 h8 a9 h9 a10 h10 a11 h11 hc hd w o gt x t g l d)).trans ?_)
    (congrArg₂ Prod.mk ((View.read_writes_eq_canon _ _ _ (cover0_B_8 c i a1 h1 a2 h2 a3 h3 a4 h4 a5 h5 a6 h6 a7 h7 a8 h8 a9 h9 a10 h10 a11 h11 hc hd w o gt x t g l d)).trans ?_)
    (congrArg₂ Prod.mk ((View.read_writes_eq_canon _ _ _ (cover0_B_9 c i a1 h1 a2 h2 a3 h3 a4 h4 a5 h5 a6 h6 a7 h7 a8 h8 a9 h9 a10 h10 a11 h11 hc hd w o gt x t g l d)).trans ?_)
      ((View.read_writes_eq_canon _ _ _ (cover0_B_10 c i a1 h1 a2 h2 a3 h3 a4 h4 a5 h5 a6 h6 a7 h7 a8 h8 a9 h9 a10 h10 a11 h11 hc hd w o gt x t g l d)).trans ?_))))
  all_goals
    unfold kernelRun0_B
    dsimp only
    sl_unfold_words
    simp only [View.canon_cons_unit_zero (S := S512x1024) origin, View.canon_cons_unit_zero (S := S1x1024) origin, View.canon_cons_unit_zero (S := S8x128) origin,
      View.readAt_eq_ld, h1.read_unread, h2.read_unread, h3.read_unread, h4.read_unread, h5.read_unread, h6.read_unread, h8.read_unread, h9.read_unread, View.ld_unit_zero (S := S512x1024) origin,
      View.ld_unit_zero (S := S1x1024) origin, View.ld_unit_zero (S := S8x128) origin, View.ld_unit_zero (S := S1024x1024) origin]
end

variable (m : (ℓ : Loc nD τ sig) → Buf (Elt Ideal) ℓ) (c : Dev nD)

/-- The arguments on a device, and the residual stream they give. -/
def argO : Arr 4096 1024 := (m ((c : Thread nD τ).loc main_arg0) : S4096x1024.Idx → EReal)
def argGt : Arr 4096 1024 := (m ((c : Thread nD τ).loc main_arg1) : S4096x1024.Idx → EReal)
def argX : Arr 4096 1024 := (m ((c : Thread nD τ).loc main_arg2) : S4096x1024.Idx → EReal)
def argT : Arr 4096 1024 := (m ((c : Thread nD τ).loc main_arg3) : S4096x1024.Idx → EReal)
def argG : Arr 1 1024 := (m ((c : Thread nD τ).loc main_arg4) : S1x1024.Idx → EReal)
def argW : Arr 1024 1024 := (m ((c : Thread nD τ).loc main_arg5) : S1024x1024.Idx → EReal)
def argY : Arr 4096 1024 := resid (argO m c) (argGt m c) (argX m c) (argW m c)

/-- The weights cast on the host. -/
theorem V0 : V m c main_v0 = argW m c := by dsimp only [V, List.flatten, List.append]; after_results; rfl

theorem index1 : ∀ t : Fin cfg0.N, win0_1.index t 0 = t.val ∧ win0_1.index t 1 = 0 := (by decide +kernel : ∀ t : Fin grid0.N, _)
theorem index2 : ∀ t : Fin cfg0.N, win0_2.index t 0 = t.val ∧ win0_2.index t 1 = 0 := (by decide +kernel : ∀ t : Fin grid0.N, _)
theorem index3 : ∀ t : Fin cfg0.N, win0_3.index t 0 = t.val ∧ win0_3.index t 1 = 0 := (by decide +kernel : ∀ t : Fin grid0.N, _)
theorem index4 : ∀ t : Fin cfg0.N, win0_4.index t 0 = t.val ∧ win0_4.index t 1 = 0 := (by decide +kernel : ∀ t : Fin grid0.N, _)
theorem index6 : ∀ t : Fin cfg0.N, win0_6.index t 0 = t.val ∧ win0_6.index t 1 = 0 := (by decide +kernel : ∀ t : Fin grid0.N, _)
theorem index9 : ∀ t : Fin cfg0.N, win0_9.index t 0 = t.val ∧ win0_9.index t 1 = 0 := (by decide +kernel : ∀ t : Fin grid0.N, _)
theorem index10 : ∀ t : Fin cfg0.N, win0_10.index t 0 = t.val ∧ win0_10.index t 1 = 0 := (by decide +kernel : ∀ t : Fin grid0.N, _)
theorem index0 : ∀ t : Fin cfg0.N, win0_0.index t 0 = 0 ∧ win0_0.index t 1 = 0 := (by decide +kernel : ∀ t : Fin grid0.N, _)
theorem index5 : ∀ t : Fin cfg0.N, win0_5.index t 0 = 0 ∧ win0_5.index t 1 = 0 := (by decide +kernel : ∀ t : Fin grid0.N, _)
theorem index7 : ∀ t : Fin cfg0.N, win0_7.index t 0 = 0 ∧ win0_7.index t 1 = 0 := (by decide +kernel : ∀ t : Fin grid0.N, _)
theorem index8 : ∀ t : Fin cfg0.N, win0_8.index t 0 = 0 ∧ win0_8.index t 1 = 0 := (by decide +kernel : ∀ t : Fin grid0.N, _)

/-- The blocks at a point are the rows of the arguments. -/
theorem blk0 (t : Fin cfg0.N) (p j : Fin 1024) : (iblk m c 0 t (ix2 p j) : EReal) = argW m c (ix2 p j) := by
  unfold iblk; rw [View.read_apply]; show V m c main_v0 _ = _; rw [V0]
  refine (Rows.at_block (argW m c) _ p j 0 ![win0_0.index t 0, win0_0.index t 1] (index0 t) (by have := p.isLt; omega) rfl rfl).trans ?_
  exact congrArg (fun q => argW m c (ix2 q j)) (Fin.ext (by show 0 * 1024 + p.val = p.val; omega))
theorem blk1 (t : Fin cfg0.N) (p : Fin 512) (j : Fin 1024) : (iblk m c 1 t (ix2 p j) : EReal) = argO m c (ix2 (Rows.row N_0 t p) j) := by
  unfold iblk; rw [View.read_apply]; show V m c main_arg0 _ = _; rw [V_main_arg0]
  exact Rows.at_block (argO m c) _ p j t.val ![win0_1.index t 0, win0_1.index t 1] (index1 t) _ rfl rfl
theorem blk2 (t : Fin cfg0.N) (p : Fin 512) (j : Fin 1024) : (iblk m c 2 t (ix2 p j) : EReal) = argGt m c (ix2 (Rows.row N_0 t p) j) := by
  unfold iblk; rw [View.read_apply]; show V m c main_arg1 _ = _; rw [V_main_arg1]
  exact Rows.at_block (argGt m c) _ p j t.val ![win0_2.index t 0, win0_2.index t 1] (index2 t) _ rfl rfl
theorem blk3 (t : Fin cfg0.N) (p : Fin 512) (j : Fin 1024) : (iblk m c 3 t (ix2 p j) : EReal) = argX m c (ix2 (Rows.row N_0 t p) j) := by
  unfold iblk; rw [View.read_apply]; show V m c main_arg2 _ = _; rw [V_main_arg2]
  exact Rows.at_block (argX m c) _ p j t.val ![win0_3.index t 0, win0_3.index t 1] (index3 t) _ rfl rfl
theorem blk4 (t : Fin cfg0.N) (p : Fin 512) (j : Fin 1024) : (iblk m c 4 t (ix2 p j) : EReal) = argT m c (ix2 (Rows.row N_0 t p) j) := by
  unfold iblk; rw [View.read_apply]; show V m c main_arg3 _ = _; rw [V_main_arg3]
  exact Rows.at_block (argT m c) _ p j t.val ![win0_4.index t 0, win0_4.index t 1] (index4 t) _ rfl rfl
theorem blk5 (t : Fin cfg0.N) (j : Fin 1024) : (iblk m c 5 t (ix2 0 j) : EReal) = argG m c (ix2 0 j) := by
  unfold iblk; rw [View.read_apply]; show V m c main_arg4 _ = _; rw [V_main_arg4]
  exact Rows.at_block (argG m c) _ (0 : Fin 1) j 0 ![win0_5.index t 0, win0_5.index t 1] (index5 t) (by norm_num) rfl rfl

/-- The residual stream's block at a point. -/
abbrev blkY (t : Fin cfg0.N) : Arr 512 1024 := resid (iblk m c 1 t) (iblk m c 2 t) (iblk m c 3 t) (iblk m c 0 t)

theorem entryY (t : Fin cfg0.N) (p : Fin 512) (j : Fin 1024) : blkY m c t (ix2 p j) = argY m c (ix2 (Rows.row N_0 t p) j) :=
  congrArg₂ (· + ·) (blk3 m c t p j) (Finset.sum_congr rfl fun q _ => congrArg₂ (· * ·)
    (congrArg₂ (· * ·) (blk1 m c t p q) (congrArg (fun e : EReal => e * gate e) (blk2 m c t p q))) (blk0 m c t q j))
theorem rowY (t : Fin cfg0.N) (p : Fin 512) : row (blkY m c t) p = row (argY m c) (Rows.row N_0 t p) := funext fun k => entryY m c t p k
theorem errY (t : Fin cfg0.N) (p : Fin 512) (k : Fin 1024) :
    err (blkY m c t) (iblk m c 4 t) (iblk m c 5 t) p k = err (argY m c) (argT m c) (argG m c) (Rows.row N_0 t p) k := by
  unfold err
  rw [rowY]
  exact congrArg₂ (· - ·) (congrArg₂ (· * ·) (congrArg (· * _) (entryY m c t p k)) (blk5 m c t k)) (blk4 m c t p k)
theorem lossY (t : Fin cfg0.N) (p : Fin 512) :
    rowLoss (blkY m c t) (iblk m c 4 t) (iblk m c 5 t) p = rowLoss (argY m c) (argT m c) (argG m c) (Rows.row N_0 t p) :=
  congrArg (fun s => Ideal.div s len) (Finset.sum_congr rfl fun k _ => congrArg (fun e : EReal => e * e) (errY m c t p k))
theorem dRowY (t : Fin cfg0.N) (p : Fin 512) :
    dRow (blkY m c t) (iblk m c 4 t) (iblk m c 5 t) p = dRow (argY m c) (argT m c) (argG m c) (Rows.row N_0 t p) :=
  funext fun k => congrArg₂ (· * ·) (congrArg (· * share) (errY m c t p k)) (blk5 m c t k)
theorem dWeightY (t : Fin cfg0.N) (p : Fin 512) (j : Fin 1024) :
    dWeight (blkY m c t) (iblk m c 4 t) (iblk m c 5 t) p j = dWeight (argY m c) (argT m c) (argG m c) (Rows.row N_0 t p) j := by
  unfold dWeight
  rw [rowY]
  exact congrArg₂ (· * ·) (congrArg (· * share) (errY m c t p j)) (congrArg (· * _) (entryY m c t p j))

/-- The contents of the results: the gradient (once in each precision), the loss, the weight's gradient, the gated value. -/
def dxAt (I : Fin 4096) (j : Fin 1024) : EReal := dX len (row (argY m c) I) (dRow (argY m c) (argT m c) (argG m c) I) j
def lossAt : EReal := hlf * ∑ I : Fin 4096, rowLoss (argY m c) (argT m c) (argG m c) I
def dgAt (j : Fin 1024) : EReal := ∑ I : Fin 4096, dWeight (argY m c) (argT m c) (argG m c) I j
def ogAt (I : Fin 4096) (j : Fin 1024) : EReal := argO m c (ix2 I j) * (argGt m c (ix2 I j) * gate (argGt m c (ix2 I j)))

/-- The results after a point, over what the point found in the two sums. -/
theorem first (t : Fin cfg0.N) (h : t.val % 8 = 0) : outsAt0 m c t.val t.isLt
    = after (iblk m c 0 t) (iblk m c 1 t) (iblk m c 2 t) (iblk m c 3 t) (iblk m c 4 t) (iblk m c 5 t) (k0_pay10 (F := Ideal)) (k0_pay12 (F := Ideal)) :=
  (outsAt0_A m c t h h).trans (outs_A _ _ _ _ _ _ _ _ _ _ _ _ _ _ _ _ _ _ _ _ _ _ _ _ _ _ _ _ _ _ _ _)
theorem later (t : Fin cfg0.N) (h : ¬t.val % 8 = 0) : ∃ (l : Vec Ideal S8x128 .f32) (d : Vec Ideal S1x1024 .f32),
    l = (outsAt0 m c (t.val - 1) (Nat.lt_of_le_of_lt (Nat.sub_le _ _) t.isLt)).2.1 ∧ d = (outsAt0 m c (t.val - 1) (Nat.lt_of_le_of_lt (Nat.sub_le _ _) t.isLt)).2.2.1
      ∧ outsAt0 m c t.val t.isLt
        = after (iblk m c 0 t) (iblk m c 1 t) (iblk m c 2 t) (iblk m c 3 t) (iblk m c 4 t) (iblk m c 5 t) l d :=
  ⟨_, _, rfl, rfl, (outsAt0_B m c t h h).trans (outs_B _ _ _ _ _ _ _ _ _ _ _ _ _ _ _ _ _ _ _ _ _ _ _ _ _ _ _ _ _ _ _ _ _ _)⟩
theorem outs_eq (t : Fin cfg0.N) : ∃ l d, outsAt0 m c t.val t.isLt
    = after (iblk m c 0 t) (iblk m c 1 t) (iblk m c 2 t) (iblk m c 3 t) (iblk m c 4 t) (iblk m c 5 t) l d := by
  by_cases h : t.val % 8 = 0
  · exact ⟨_, _, first m c t h⟩
  · obtain ⟨l, d, -, -, e⟩ := later m c t h
    exact ⟨l, d, e⟩

theorem dx_eq (t : Fin cfg0.N) (p : Fin 512) (j : Fin 1024) :
    (k0_pay9 (iblk m c 5 t) (k0_pay4 (iblk m c 1 t) (iblk m c 2 t) (iblk m c 3 t) (iblk m c 0 t)) (k0_pay5 (iblk m c 1 t) (iblk m c 2 t) (iblk m c 3 t) (iblk m c 0 t))
      (k0_pay6 (iblk m c 1 t) (iblk m c 2 t) (iblk m c 3 t) (iblk m c 4 t) (iblk m c 5 t) (iblk m c 0 t)) (ix2 p j) : EReal) = dxAt m c (Rows.row N_0 t p) j := by
  refine (dx_apply _ _ _ _ _ _ p j).trans ?_
  rw [rowY, dRowY]
  rfl

theorem out6 (t : Fin cfg0.N) (p : Fin 512) (j : Fin 1024) : ((outsAt0 m c t.val t.isLt).1 (ix2 p j) : EReal) = dxAt m c (Rows.row N_0 t p) j := by
  obtain ⟨l, d, e⟩ := outs_eq m c t
  rw [e]
  exact dx_eq m c t p j
theorem out9 (t : Fin cfg0.N) (p : Fin 512) (j : Fin 1024) : ((outsAt0 m c t.val t.isLt).2.2.2.1 (ix2 p j) : EReal) = ogAt m c (Rows.row N_0 t p) j := by
  obtain ⟨l, d, e⟩ := outs_eq m c t
  rw [e]
  exact (gated_apply _ _ p j).trans (congrArg₂ (· * ·) (blk1 m c t p j) (congrArg (fun e : EReal => e * gate e) (blk2 m c t p j)))
theorem out10 (t : Fin cfg0.N) (p : Fin 512) (j : Fin 1024) : ((outsAt0 m c t.val t.isLt).2.2.2.2 (ix2 p j) : EReal) = dxAt m c (Rows.row N_0 t p) j := by
  obtain ⟨l, d, e⟩ := outs_eq m c t
  rw [e]
  exact dx_eq m c t p j

/-- The two sums after the last point: all rows'. -/
theorem out7 (n : ℕ) (h : n < cfg0.N) (h7 : n = 7) (p : Fin 8) (j : Fin 128) : ((outsAt0 m c n h).2.1 (ix2 p j) : EReal) = lossAt m c := by
  unfold lossAt
  rw [half_sum]
  refine Rows.accumulate N_0 (fun I => hlf * rowLoss (argY m c) (argT m c) (argG m c) I) (fun n h => ((outsAt0 m c n h).2.1 (ix2 p j) : EReal)) (fun h0 => ?_) (fun k hk => ?_) n h h7
  · refine (congrArg (fun o => (o.2.1 (ix2 p j) : EReal)) (first m c ⟨0, h0⟩ rfl)).trans ?_
    refine (loss_apply _ _ _ _ _ _ _ p j).trans ?_
    rw [zero_apply, zero_add, half_sum]
    exact Finset.sum_congr rfl fun q _ => congrArg (hlf * ·) (lossY m c ⟨0, h0⟩ q)
  · obtain ⟨l, d, hl, -, e⟩ := later m c ⟨k + 1, hk⟩ (by have := hk.trans_eq N_0; dsimp only; omega)
    refine (congrArg (fun o => (o.2.1 (ix2 p j) : EReal)) e).trans ?_
    refine (loss_apply _ _ _ _ _ _ l p j).trans ?_
    rw [half_sum, hl]
    exact congrArg₂ (· + ·) rfl (Finset.sum_congr rfl fun q _ => congrArg (hlf * ·) (lossY m c ⟨k + 1, hk⟩ q))
theorem out8 (n : ℕ) (h : n < cfg0.N) (h7 : n = 7) (j : Fin 1024) : ((outsAt0 m c n h).2.2.1 (ix2 0 j) : EReal) = dgAt m c j := by
  refine Rows.accumulate N_0 (fun I => dWeight (argY m c) (argT m c) (argG m c) I j) (fun n h => ((outsAt0 m c n h).2.2.1 (ix2 0 j) : EReal)) (fun h0 => ?_) (fun k hk => ?_) n h h7
  · refine (congrArg (fun o => (o.2.2.1 (ix2 0 j) : EReal)) (first m c ⟨0, h0⟩ rfl)).trans ?_
    refine (dg_apply _ _ _ _ _ _ _ j).trans ?_
    rw [zero_apply', zero_add]
    exact Finset.sum_congr rfl fun q _ => dWeightY m c ⟨0, h0⟩ q j
  · obtain ⟨l, d, -, hd, e⟩ := later m c ⟨k + 1, hk⟩ (by have := hk.trans_eq N_0; dsimp only; omega)
    refine (congrArg (fun o => (o.2.2.1 (ix2 0 j) : EReal)) e).trans ?_
    refine (dg_apply _ _ _ _ _ _ d j).trans ?_
    rw [hd]
    exact congrArg₂ (· + ·) rfl (Finset.sum_congr rfl fun q _ => dWeightY m c ⟨k + 1, hk⟩ q j)

/-- The arrays after the run. -/
def F6 : Buf (Elt Ideal) ((c : Thread nD τ).loc main_v1_0) := fun y : S4096x1024.Idx => dxAt m c (y 0) (y 1)
def F7 : Buf (Elt Ideal) ((c : Thread nD τ).loc main_v1_1) := fun y : S8x128.Idx => (lossAt m c : EReal)
def F8 : Buf (Elt Ideal) ((c : Thread nD τ).loc main_v1_2) := fun y : S1x1024.Idx => dgAt m c (y 1)
def F9 : Buf (Elt Ideal) ((c : Thread nD τ).loc main_v1_3) := fun y : S4096x1024.Idx => ogAt m c (y 0) (y 1)
def F10 : Buf (Elt Ideal) ((c : Thread nD τ).loc main_v1_4) := fun y : S4096x1024.Idx => dxAt m c (y 0) (y 1)

theorem final6 : (dats m 0 c).arrAt 6 cfg0.N = F6 m c := by
  refine (dats m 0 c).arrAt_eq_of_cover 6 (F6 m c) (fun t _ => ?_) fun (y : S4096x1024.Idx) => ?_
  · rw [Value.flushed6]
    funext x
    obtain ⟨p, e, rfl⟩ : ∃ p e, x = (ix2 p e : S512x1024.Idx) := ⟨_, _, eq_ix2 x⟩
    refine (out6 m c t p e).trans ?_
    rw [View.read_apply]
    exact Rows.entry (dxAt m c) p e t.val ![win0_6.index t 0, win0_6.index t 1] (index6 t) _ _ _
  · obtain ⟨t, ht⟩ := Rows.cover N_0 (show Fin 4096 from y 0)
    obtain ⟨i0, i1⟩ := index6 t
    refine ⟨t, flush0_6 t, ?_⟩
    show y ∈ ((View.whole main_v1_0).slice (win0_6.rect t)).set
    rw [View.set_slice_whole, Rect.mem_set_unit]
    intro b
    match b with
    | ⟨0, _⟩ => exact Rows.bounds i0 ht
    | ⟨1, _⟩ => exact Rows.bounds_zero i1 (y 1).isLt

theorem final9 : (dats m 0 c).arrAt 9 cfg0.N = F9 m c := by
  refine (dats m 0 c).arrAt_eq_of_cover 9 (F9 m c) (fun t _ => ?_) fun (y : S4096x1024.Idx) => ?_
  · rw [Value.flushed9]
    funext x
    obtain ⟨p, e, rfl⟩ : ∃ p e, x = (ix2 p e : S512x1024.Idx) := ⟨_, _, eq_ix2 x⟩
    refine (out9 m c t p e).trans ?_
    rw [View.read_apply]
    exact Rows.entry (ogAt m c) p e t.val ![win0_9.index t 0, win0_9.index t 1] (index9 t) _ _ _
  · obtain ⟨t, ht⟩ := Rows.cover N_0 (show Fin 4096 from y 0)
    obtain ⟨i0, i1⟩ := index9 t
    refine ⟨t, flush0_9 t, ?_⟩
    show y ∈ ((View.whole main_v1_3).slice (win0_9.rect t)).set
    rw [View.set_slice_whole, Rect.mem_set_unit]
    intro b
    match b with
    | ⟨0, _⟩ => exact Rows.bounds i0 ht
    | ⟨1, _⟩ => exact Rows.bounds_zero i1 (y 1).isLt

theorem final10 : (dats m 0 c).arrAt 10 cfg0.N = F10 m c := by
  refine (dats m 0 c).arrAt_eq_of_cover 10 (F10 m c) (fun t _ => ?_) fun (y : S4096x1024.Idx) => ?_
  · rw [Value.flushed10]
    funext x
    obtain ⟨p, e, rfl⟩ : ∃ p e, x = (ix2 p e : S512x1024.Idx) := ⟨_, _, eq_ix2 x⟩
    refine (out10 m c t p e).trans ?_
    rw [View.read_apply]
    exact Rows.entry (dxAt m c) p e t.val ![win0_10.index t 0, win0_10.index t 1] (index10 t) _ _ _
  · obtain ⟨t, ht⟩ := Rows.cover N_0 (show Fin 4096 from y 0)
    obtain ⟨i0, i1⟩ := index10 t
    refine ⟨t, flush0_10 t, ?_⟩
    show y ∈ ((View.whole main_v1_4).slice (win0_10.rect t)).set
    rw [View.set_slice_whole, Rect.mem_set_unit]
    intro b
    match b with
    | ⟨0, _⟩ => exact Rows.bounds i0 ht
    | ⟨1, _⟩ => exact Rows.bounds_zero i1 (y 1).isLt

theorem final7 : (dats m 0 c).arrAt 7 cfg0.N = F7 m c := by
  have hN : cfg0.N = 8 := N_0
  refine (dats m 0 c).arrAt_eq_of_cover 7 (F7 m c) (fun t ht => ?_) fun (y : S8x128.Idx) => ?_
  · have h7 : t.val = 7 := by have := (flush0_7 t).mp ht; have := t.isLt; omega
    rw [Value.flushed7]
    funext x
    obtain ⟨p, e, rfl⟩ : ∃ p e, x = (ix2 p e : S8x128.Idx) := ⟨_, _, eq_ix2 x⟩
    exact out7 m c t.val t.isLt h7 p e
  · have h7 : 7 < cfg0.N := by omega
    obtain ⟨i0, i1⟩ := index7 ⟨7, h7⟩
    refine ⟨⟨7, h7⟩, (flush0_7 _).mpr rfl, ?_⟩
    show y ∈ ((View.whole main_v1_1).slice (win0_7.rect ⟨7, h7⟩)).set
    rw [View.set_slice_whole, Rect.mem_set_unit]
    intro b
    match b with
    | ⟨0, _⟩ => exact Rows.bounds_zero i0 (y 0).isLt
    | ⟨1, _⟩ => exact Rows.bounds_zero i1 (y 1).isLt

theorem final8 : (dats m 0 c).arrAt 8 cfg0.N = F8 m c := by
  have hN : cfg0.N = 8 := N_0
  refine (dats m 0 c).arrAt_eq_of_cover 8 (F8 m c) (fun t ht => ?_) fun (y : S1x1024.Idx) => ?_
  · have h7 : t.val = 7 := by have := (flush0_8 t).mp ht; have := t.isLt; omega
    rw [Value.flushed8]
    funext x
    obtain ⟨p, e, rfl⟩ : ∃ p e, x = (ix2 p e : S1x1024.Idx) := ⟨_, _, eq_ix2 x⟩
    obtain rfl : p = 0 := Subsingleton.elim _ _
    refine (out8 m c t.val t.isLt h7 e).trans ?_
    rw [View.read_apply]
    exact congrArg (dgAt m c) (Fin.ext (Rows.coord_zero (B := 1024) (p := e.val) (index8 t).2 rfl).symm)
  · have h7 : 7 < cfg0.N := by omega
    obtain ⟨i0, i1⟩ := index8 ⟨7, h7⟩
    refine ⟨⟨7, h7⟩, (flush0_8 _).mpr rfl, ?_⟩
    show y ∈ ((View.whole main_v1_2).slice (win0_8.rect ⟨7, h7⟩)).set
    rw [View.set_slice_whole, Rect.mem_set_unit]
    intro b
    match b with
    | ⟨0, _⟩ => exact Rows.bounds_zero i0 (y 0).isLt
    | ⟨1, _⟩ => exact Rows.bounds_zero i1 (y 1).isLt

end Kernel

namespace Ref

open Idealize.ShloMosaic Idealize.ShloMosaic.Tactic
open Cert.LossOutReferenceIdeal Cert.LossOutReferenceIdeal.Read Cert.NormMath Cert.LossMath
open Cert.LogfMath (gate)

section
variable (x0 x1 x2 x3 : Arr 4096 1024) (x4 : Arr 1 1024) (x5 : Arr 1024 1024)

/-- The reference's residual stream. -/
theorem v3_apply (I : Fin 4096) (j : Fin 1024) : (val_main_v3 (F := Ideal) x0 x1 x2 x5 (ix2 I j) : EReal) = resid x0 x1 x2 x5 (ix2 I j) := by
  show _ = (x2 (ix2 I j) : EReal) + ∑ q : Fin 1024, (x0 (ix2 I q) * (x1 (ix2 I q) * gate (x1 (ix2 I q)))) * x5 (ix2 q j)
  unfold gate
  simp only [zero_sub]
  unfold val_main_v3 val_main_v2 val_main_v1 val_main_v0 val_main_call0_v5 val_main_call0_v4 val_main_call0_cst_0 val_main_call0_v3 val_main_call0_v2 val_main_call0_cst val_main_call0_v1 val_main_call0_v0
  pointwise
theorem v3 : (val_main_v3 (F := Ideal) x0 x1 x2 x5 : Arr 4096 1024) = resid x0 x1 x2 x5 := by
  funext i
  obtain ⟨I, j, rfl⟩ : ∃ I j, i = (ix2 I j : S4096x1024.Idx) := ⟨_, _, eq_ix2 i⟩
  exact v3_apply x0 x1 x2 x5 I j

/-- The gated value. -/
theorem og (I : Fin 4096) (j : Fin 1024) : (val_main_v59 (F := Ideal) x0 x1 (ix2 I j) : EReal) = x0 (ix2 I j) * (x1 (ix2 I j) * gate (x1 (ix2 I j))) := by
  unfold gate
  rw [zero_sub]
  unfold val_main_v59 val_main_v58 val_main_v57 val_main_call1_v5 val_main_call1_v4 val_main_call1_cst_0 val_main_call1_v3 val_main_call1_v2 val_main_call1_cst val_main_call1_v1 val_main_call1_v0
  pointwise

/-- The normed row minus the target, and the cotangent of the normed row. -/
theorem v21 (I : Fin 4096) (k : Fin 1024) : (val_main_v21 (F := Ideal) x0 x1 x2 x3 x4 x5 (ix2 I k) : EReal) = err (resid x0 x1 x2 x5) x3 x4 I k := by
  rw [← v3]
  unfold err NormMath.inv var eps row
  unfold val_main_v21 val_main_v20 val_main_v19 val_main_v18 val_main_v17 val_main_v16 val_main_v12 val_main_v11 val_main_v10 val_main_cst_1 val_main_v9 val_main_v8 val_main_cst_0 val_main_v7 val_main_v6 val_main_cst val_main_v5 val_main_v4
  generalize val_main_v3 (F := Ideal) x0 x1 x2 x5 = Y
  pointwise
theorem v35 (I : Fin 4096) (k : Fin 1024) : (val_main_v35 (F := Ideal) x0 x1 x2 x3 x4 x5 (ix2 I k) : EReal) = dNorm (resid x0 x1 x2 x5) x3 x4 I k := by
  unfold dNorm
  rw [← v21, ← factor]
  unfold val_main_v35 val_main_v34 val_main_v33 val_main_v32 val_main_cst_10 val_main_v31 val_main_v30 val_main_cst_9 val_main_cst_8 val_main_v24 val_main_v23 val_main_cst_3
  generalize val_main_v21 (F := Ideal) x0 x1 x2 x3 x4 x5 = E
  pointwise

/-- The loss. -/
theorem loss (p : Fin 8) (j : Fin 128) : (val_main_v60 (F := Ideal) x0 x1 x2 x3 x4 x5 (ix2 p j) : EReal) = hlf * ∑ I : Fin 4096, rowLoss (resid x0 x1 x2 x5) x3 x4 I := by
  unfold rowLoss
  simp only [← v21]
  unfold val_main_v60 val_main_v29 val_main_cst_7 val_main_v28 val_main_cst_6 val_main_v27 val_main_v26 val_main_cst_5 val_main_v25 val_main_cst_4 val_main_v22
  generalize val_main_v21 (F := Ideal) x0 x1 x2 x3 x4 x5 = E
  pointwise

/-- The weight's gradient. -/
theorem dg (j : Fin 1024) : (val_main_v56 (F := Ideal) x0 x1 x2 x3 x4 x5 (ix2 0 j) : EReal) = ∑ I : Fin 4096, dWeight (resid x0 x1 x2 x5) x3 x4 I j := by
  unfold dWeight
  simp only [← v35]
  rw [← v3]
  unfold NormMath.inv var eps row
  unfold val_main_v56 val_main_v41 val_main_cst_12 val_main_v38 val_main_v37 val_main_cst_11 val_main_v36 val_main_v17 val_main_v16 val_main_v12 val_main_v11 val_main_v10 val_main_cst_1 val_main_v9 val_main_v8 val_main_cst_0 val_main_v7 val_main_v6 val_main_cst val_main_v5
  generalize val_main_v35 (F := Ideal) x0 x1 x2 x3 x4 x5 = E
  generalize val_main_v3 (F := Ideal) x0 x1 x2 x5 = Y
  pointwise
  rw [Fin.sum_univ_one]
  exact Finset.sum_congr rfl fun I _ => mul_comm _ _

/-- The gradient, at finite arguments. -/
theorem dx (h0 : ∀ i, ∃ r : ℝ, x0 i = r) (h1 : ∀ i, ∃ r : ℝ, x1 i = r) (h2 : ∀ i, ∃ r : ℝ, x2 i = r) (h3 : ∀ i, ∃ r : ℝ, x3 i = r)
    (h4 : ∀ i, ∃ r : ℝ, x4 i = r) (h5 : ∀ i, ∃ r : ℝ, x5 i = r) (I : Fin 4096) (j : Fin 1024) :
    (val_main_v55 (F := Ideal) x0 x1 x2 x3 x4 x5 (ix2 I j) : EReal) = dX len (row (resid x0 x1 x2 x5) I) (dRow (resid x0 x1 x2 x5) x3 x4 I) j := by
  have hY := resid_finite x0 x1 x2 x5 h0 h1 h2 h5
  choose a ha using hY
  choose b hb using dRow_finite (resid x0 x1 x2 x5) x3 x4 I (fun i => ⟨a i, ha i⟩) h3 h4
  rw [len_real, ← rule (row (resid x0 x1 x2 x5) I) (dRow (resid x0 x1 x2 x5) x3 x4 I) 1024 (by norm_num) (fun k => a (ix2 I k)) b j (fun k => ha _) hb, ← len_real]
  unfold half NormMath.inv var eps mhalf row dRow
  simp only [← v35]
  rw [← v3]
  unfold val_main_v55 val_main_v54 val_main_v53 val_main_v52 val_main_v51 val_main_v50 val_main_cst_15 val_main_v49 val_main_v48 val_main_cst_14 val_main_v47 val_main_v46 val_main_v45 val_main_v44 val_main_v43 val_main_cst_13 val_main_v42 val_main_v40 val_main_v39 val_main_v18 val_main_v15 val_main_v14 val_main_cst_2 val_main_v13 val_main_v12 val_main_v11 val_main_v10 val_main_cst_1 val_main_v9 val_main_v8 val_main_cst_0 val_main_v7 val_main_v6 val_main_cst val_main_v5 val_main_v4
  generalize val_main_v35 (F := Ideal) x0 x1 x2 x3 x4 x5 = E
  generalize val_main_v3 (F := Ideal) x0 x1 x2 x5 = Y
  pointwise
  simp only [Finset.univ_unique, Finset.sum_singleton]
end

end Ref

open Idealize.ShloMosaic Idealize.ShloMosaic.TcCoe Idealize.SL.Sem
open Cert.FoxClaim (and_one)
open Cert.GateOddClaim (real_of)

/-- The precondition read entry by entry: the six arguments are finite. -/
theorem finite [Cert.Pre_pre_loss.Facts] (m : (ℓ : Loc Cert.LossOutIdeal.nD Cert.LossOutIdeal.τ Cert.LossOutIdeal.sig) → Buf (Elt Ideal) ℓ)
    (h : Cert.Pre_LossOutIdeal_pre_loss m) (c : Dev Cert.LossOutIdeal.nD) :
    (∀ i, ∃ r : ℝ, Kernel.argO m c i = r) ∧ (∀ i, ∃ r : ℝ, Kernel.argGt m c i = r) ∧ (∀ i, ∃ r : ℝ, Kernel.argX m c i = r)
      ∧ (∀ i, ∃ r : ℝ, Kernel.argT m c i = r) ∧ (∀ i, ∃ r : ℝ, Kernel.argG m c i = r) ∧ (∀ i, ∃ r : ℝ, Kernel.argW m c i = r) := by
  have h0 := congrFun (h c) ix0
  obtain ⟨h0, h5⟩ := and_one (show _ &&& _ = 1#1 from h0)
  obtain ⟨h0, h4⟩ := and_one (show _ &&& _ = 1#1 from h0)
  obtain ⟨h0, h3⟩ := and_one (show _ &&& _ = 1#1 from h0)
  obtain ⟨h0, h2⟩ := and_one (show _ &&& _ = 1#1 from h0)
  obtain ⟨h0, h1⟩ := and_one (show _ &&& _ = 1#1 from h0)
  exact ⟨real_of _ fun i => Cert.Finite.of_abs_lt _ (Host.reduce_andi_all _ _ _ _ _ h0 i), real_of _ fun i => Cert.Finite.of_abs_lt _ (Host.reduce_andi_all _ _ _ _ _ h1 i),
    real_of _ fun i => Cert.Finite.of_abs_lt _ (Host.reduce_andi_all _ _ _ _ _ h2 i), real_of _ fun i => Cert.Finite.of_abs_lt _ (Host.reduce_andi_all _ _ _ _ _ h3 i),
    real_of _ fun i => Cert.Finite.of_abs_lt _ (Host.reduce_andi_all _ _ _ _ _ h4 i), real_of _ fun i => Cert.Finite.of_abs_lt _ (Host.reduce_andi_all _ _ _ _ _ h5 i)⟩

open Cert.LossOutIdeal Cert.LossOutIdeal.Gen in
/-- All five results are the reference's, from memories that agree on finite arguments. -/
theorem value [Cert.Pre_pre_loss.Facts] : Cert.algebraic_LossOutIdeal_LossOutReferenceIdeal_pre_pre_loss := by
  intro m g m' g' hpre hag
  refine ⟨fun c => (dats m 0 c).arrAt 6 cfg0.N, fun c => (dats m 0 c).arrAt 7 cfg0.N, fun c => (dats m 0 c).arrAt 8 cfg0.N, fun c => (dats m 0 c).arrAt 9 cfg0.N,
    fun c => (dats m 0 c).arrAt 10 cfg0.N, Cert.LossOutIdeal.Value.run_blocks m g, ?_⟩
  refine (θ_run _ _ _).mono (fun r h c => ?_) (Cert.LossOutReferenceIdeal.Value.run m' g')
  obtain ⟨h0, h1, h2, h3, h4, h5⟩ := h c
  obtain ⟨e0, e1, e2, e3, e4, e5⟩ := hag c
  obtain ⟨f0, f1, f2, f3, f4, f5⟩ := finite m hpre c
  rw [Cert.LossOutReferenceIdeal.Read.val_main_v55_eq, e0, e1, e2, e3, e4, e5] at h0
  rw [Cert.LossOutReferenceIdeal.Read.val_main_v60_eq, e0, e1, e2, e3, e4, e5] at h1
  rw [Cert.LossOutReferenceIdeal.Read.val_main_v56_eq, e0, e1, e2, e3, e4, e5] at h2
  rw [Cert.LossOutReferenceIdeal.Read.val_main_v59_eq, e0, e1] at h3
  rw [Cert.LossOutReferenceIdeal.Read.val_main_v61_eq, e0, e1, e2, e3, e4, e5] at h4
  refine ⟨h0.trans ?_, h1.trans ?_, h2.trans ?_, h3.trans ?_, h4.trans ?_, h5⟩
  · refine Eq.trans ?_ (Kernel.final6 m c).symm
    funext y
    obtain ⟨I, e, rfl⟩ : ∃ I e, y = ix2 I e := ⟨_, _, eq_ix2 y⟩
    exact Ref.dx _ _ _ _ _ _ f0 f1 f2 f3 f4 f5 I e
  · refine Eq.trans ?_ (Kernel.final7 m c).symm
    funext y
    obtain ⟨p, e, rfl⟩ : ∃ p e, y = ix2 p e := ⟨_, _, eq_ix2 y⟩
    exact Ref.loss _ _ _ _ _ _ p e
  · refine Eq.trans ?_ (Kernel.final8 m c).symm
    funext y
    obtain ⟨I, e, rfl⟩ : ∃ I e, y = ix2 I e := ⟨_, _, eq_ix2 y⟩
    obtain rfl : I = 0 := Subsingleton.elim _ _
    exact Ref.dg _ _ _ _ _ _ e
  · refine Eq.trans ?_ (Kernel.final9 m c).symm
    funext y
    obtain ⟨I, e, rfl⟩ : ∃ I e, y = ix2 I e := ⟨_, _, eq_ix2 y⟩
    exact Ref.og _ _ I e
  · refine Eq.trans ?_ (Kernel.final10 m c).symm
    funext y
    obtain ⟨I, e, rfl⟩ : ∃ I e, y = ix2 I e := ⟨_, _, eq_ix2 y⟩
    exact Ref.dx _ _ _ _ _ _ f0 f1 f2 f3 f4 f5 I e

end Cert.LossOutClaim

end
-- ==== Proof.RopeMath.lean ====
/- The gradient of the rotary embedding of one head: as the kernel writes it, by rotating a row of 128 lanes, and as the
   embedding's derivative gives it, half by half; they are the same at all extended reals. -/
module

public import Idealize.ShloMosaic.Lib.Pointwise
public import Idealize.ShloMosaic.Lib.Tactic

@[expose] public section

set_option maxRecDepth 16384

noncomputable section

namespace Cert.RopeMath

open Idealize.ShloMosaic

/-- Whether a lane lies between two bounds, as the kernel tests it. -/
def within (l : Fin 128) (a b : BitVec 32) : BitVec 1 :=
  IntOp.andi (IntOp.cmpi .sge (BitVec.ofNat 32 l.val) a) (IntOp.cmpi .slt (BitVec.ofNat 32 l.val) b)

theorem within_low : ∀ l : Fin 128, within l 64#32 80#32 = if 64 ≤ l.val ∧ l.val < 80 then 1#1 else 0#1 := by decide +kernel
theorem within_high : ∀ l : Fin 128, within l 80#32 96#32 = if 80 ≤ l.val ∧ l.val < 96 then 1#1 else 0#1 := by decide +kernel
theorem within_all : ∀ l : Fin 128, within l 64#32 96#32 = if 64 ≤ l.val ∧ l.val < 96 then 1#1 else 0#1 := by decide +kernel

/-- The lane that a rotation brings to lane `l`. -/
def from_ (l : Fin 128) (n : ℕ) : Fin 128 := ⟨(l.val + 128 - n) % 128, Nat.mod_lt _ (by norm_num)⟩

/-- What the kernel makes of a row of 128 lanes, with the rows of its two tables. -/
def turned (x co si : Fin 128 → EReal) (l : Fin 128) : EReal :=
  x l * co l + Scalar.select (within l 64#32 80#32) (x (from_ l 112) * si (from_ l 112))
    (Scalar.select (within l 80#32 96#32) (x (from_ l 16) * si (from_ l 16)) 0)

/-- A head of 96 in 128 lanes. -/
def wide (d : Fin 96 → EReal) (l : Fin 128) : EReal := if h : l.val < 96 then d ⟨l.val, h⟩ else 0

/-- The rows of the kernel's tables. -/
def cosines (co : Fin 16 → EReal) (l : Fin 128) : EReal :=
  if h : 64 ≤ l.val ∧ l.val < 80 then co ⟨l.val - 64, by omega⟩ else if h : 80 ≤ l.val ∧ l.val < 96 then co ⟨l.val - 80, by omega⟩ else 1
def sines (si : Fin 16 → EReal) (l : Fin 128) : EReal :=
  if h : 64 ≤ l.val ∧ l.val < 80 then -si ⟨l.val - 64, by omega⟩ else if h : 80 ≤ l.val ∧ l.val < 96 then si ⟨l.val - 80, by omega⟩ else 0

/-- The derivative: the first 64 pass, the two halves of 16 turn back, the lanes beyond 96 are zero. -/
def back (d : Fin 96 → EReal) (co si : Fin 16 → EReal) (l : ℕ) : EReal :=
  if h : l < 64 then d ⟨l, by omega⟩
  else if h : l < 80 then d ⟨l + 16, by omega⟩ * si ⟨l - 64, by omega⟩ + d ⟨l, by omega⟩ * co ⟨l - 64, by omega⟩
  else if h : l < 96 then d ⟨l, by omega⟩ * co ⟨l - 80, by omega⟩ + -d ⟨l - 16, by omega⟩ * si ⟨l - 80, by omega⟩
  else 0

/-- The tables' rows as they are put together of pieces. -/
theorem table (u v : Fin 16 → EReal) (e : EReal) (l : ℕ) (hl : l < 128) :
    (if h : l < 64 then e else if h : l - 64 < 16 then u ⟨l - 64, h⟩ else if h : l - 64 - 16 < 16 then v ⟨l - 64 - 16, h⟩ else e)
      = if h : 64 ≤ l ∧ l < 80 then u ⟨l - 64, by omega⟩ else if h : 80 ≤ l ∧ l < 96 then v ⟨l - 80, by omega⟩ else e := by
  split_ifs <;> first | rfl | (exfalso; omega) | exact congrArg v (Fin.ext (by dsimp only; omega))

theorem turned_wide (d : Fin 96 → EReal) (co si : Fin 16 → EReal) (l : Fin 128) :
    turned (wide d) (cosines co) (sines si) l = back d co si l.val := by
  have hl := l.isLt
  have e112 : (from_ l 112).val = (l.val + 16) % 128 := by unfold from_; dsimp only; omega
  have e16 : (from_ l 16).val = (l.val + 112) % 128 := by unfold from_; dsimp only; omega
  unfold turned
  rw [within_low, within_high]
  by_cases h64 : l.val < 64
  · rw [if_neg (by omega), if_neg (by omega)]
    unfold back wide cosines
    rw [dif_pos h64, dif_pos (by omega), dif_neg (by omega), dif_neg (by omega)]
    show d _ * 1 + 0 = _
    rw [mul_one, add_zero]
  by_cases h80 : l.val < 80
  · rw [if_pos ⟨by omega, h80⟩]
    show wide d l * cosines co l + wide d (from_ l 112) * sines si (from_ l 112) = _
    have hf : (from_ l 112).val = l.val + 16 := by omega
    unfold back wide cosines sines
    rw [dif_neg h64, dif_pos h80, dif_pos (show l.val < 96 by omega), dif_pos (show 64 ≤ l.val ∧ l.val < 80 by omega), dif_pos (show (from_ l 112).val < 96 by omega),
      dif_neg (by omega), dif_pos (show 80 ≤ (from_ l 112).val ∧ (from_ l 112).val < 96 by omega), add_comm]
    refine congrArg₂ (· + ·) (congrArg₂ (· * ·) (congrArg d (Fin.ext hf)) (congrArg si (Fin.ext ?_))) rfl
    show (from_ l 112).val - 80 = l.val - 64
    omega
  by_cases h96 : l.val < 96
  · rw [if_neg (by omega), if_pos ⟨by omega, h96⟩]
    show wide d l * cosines co l + wide d (from_ l 16) * sines si (from_ l 16) = _
    have hf : (from_ l 16).val = l.val - 16 := by omega
    unfold back wide cosines sines
    rw [dif_neg h64, dif_neg h80, dif_pos h96, dif_pos h96, dif_neg (by omega), dif_pos (show 80 ≤ l.val ∧ l.val < 96 by omega),
      dif_pos (show (from_ l 16).val < 96 by omega), dif_pos (show 64 ≤ (from_ l 16).val ∧ (from_ l 16).val < 80 by omega), mul_neg, ← neg_mul]
    refine congrArg₂ (· + ·) rfl (congrArg₂ (· * ·) (congrArg (fun k => -d k) (Fin.ext hf)) (congrArg si (Fin.ext ?_)))
    show (from_ l 16).val - 64 = l.val - 80
    omega
  · rw [if_neg (by omega), if_neg (by omega)]
    unfold back wide cosines
    rw [dif_neg h64, dif_neg h80, dif_neg h96, dif_neg h96]
    show (0 : EReal) * _ + 0 = 0
    rw [zero_mul, add_zero]

/-- The sum of padded heads is the padded sum. -/
theorem wide_sum (d : Fin 8 → Fin 96 → EReal) (l : Fin 128) : ∑ h, wide (d h) l = wide (fun k => ∑ h, d h k) l := by
  unfold wide
  by_cases h : l.val < 96
  · simp only [dif_pos h]
  · simp only [dif_neg h, Finset.sum_const_zero]

/-- The derivative before and after the last lanes of the first part, as the program tests them. -/
theorem back_pieces (d : Fin 96 → EReal) (co si : Fin 16 → EReal) (l : ℕ) : back d co si l
      = if h : l < 96 then
          (if h' : 64 ≤ l ∧ l - 64 < 32 then
            if h'' : l - 64 < 16 then
              d ⟨64 + (16 + (l - 64)), by omega⟩ * si ⟨l - 64, by omega⟩ + d ⟨64 + (l - 64), by omega⟩ * co ⟨l - 64, by omega⟩
            else
              d ⟨64 + (16 + (l - 64 - 16)), by omega⟩ * co ⟨l - 64 - 16, by omega⟩ + -d ⟨64 + (l - 64 - 16), by omega⟩ * si ⟨l - 64 - 16, by omega⟩
          else 0) + (if h' : l < 64 then d ⟨l, by omega⟩ else 0)
        else 0 := by
  unfold back
  by_cases h64 : l < 64
  · rw [dif_pos h64, dif_pos (by omega), dif_neg (by omega), dif_pos h64, zero_add]
  by_cases h96 : l < 96
  · have hin : 64 ≤ l ∧ l - 64 < 32 := by omega
    by_cases h80 : l < 80
    · rw [dif_neg h64, dif_pos h80, dif_pos h96, dif_pos hin, dif_pos (by omega), dif_neg h64, add_zero]
      exact congrArg₂ (· + ·) (congrArg₂ (· * ·) (congrArg d (Fin.ext (by show l + 16 = 64 + (16 + (l - 64)); omega))) rfl)
        (congrArg₂ (· * ·) (congrArg d (Fin.ext (by show l = 64 + (l - 64); omega))) rfl)
    · rw [dif_neg h64, dif_neg h80, dif_pos h96, dif_pos h96, dif_pos hin, dif_neg (by omega), dif_neg h64, add_zero]
      exact congrArg₂ (· + ·) (congrArg₂ (· * ·) (congrArg d (Fin.ext (by show l = 64 + (16 + (l - 64 - 16)); omega))) (congrArg co (Fin.ext (by show l - 80 = l - 64 - 16; omega))))
        (congrArg₂ (· * ·) (congrArg (fun k => -d k) (Fin.ext (by show l - 16 = 64 + (l - 64 - 16); omega))) (congrArg si (Fin.ext (by show l - 80 = l - 64 - 16; omega))))
  · rw [dif_neg h64, dif_neg (by omega), dif_neg h96, dif_neg h96]

/-- What of the derivative belongs to the rotary key: its 32 lanes, the others zero. -/
def key (d : Fin 96 → EReal) (co si : Fin 16 → EReal) (l : ℕ) : EReal := if 64 ≤ l ∧ l < 96 then back d co si l else 0

theorem turned_key (d : Fin 96 → EReal) (co si : Fin 16 → EReal) (l : Fin 128) :
    Scalar.select (within l 64#32 96#32) (turned (wide d) (cosines co) (sines si) l) 0 = key d co si l.val := by
  rw [within_all, turned_wide]
  unfold key
  by_cases h : 64 ≤ l.val ∧ l.val < 96
  · rw [if_pos h, if_pos h]; rfl
  · rw [if_neg h, if_neg h]; rfl

/-- The derivative as the program tests its pieces, with a condition that holds and a filler that is zero. -/
theorem back_tests (P : Prop) [Decidable P] (hP : P) (z : EReal) (hz : z = 0) (d : Fin 96 → EReal) (co si : Fin 16 → EReal) (l : ℕ) : back d co si l
      = if h : P ∧ l < 96 then
          (if h' : P ∧ 64 ≤ l ∧ l - 64 < 32 then
            if h'' : l - 64 < 16 then
              d ⟨64 + (16 + (l - 64)), by omega⟩ * si ⟨l - 64, by omega⟩ + d ⟨64 + (l - 64), by omega⟩ * co ⟨l - 64, by omega⟩
            else
              d ⟨64 + (16 + (l - 64 - 16)), by omega⟩ * co ⟨l - 64 - 16, by omega⟩ + -d ⟨64 + (l - 64 - 16), by omega⟩ * si ⟨l - 64 - 16, by omega⟩
          else 0) + (if h' : P ∧ l < 64 then d ⟨l, by omega⟩ else 0)
        else z := by
  rw [back_pieces, hz]
  by_cases h96 : l < 96
  · rw [dif_pos h96, dif_pos (show P ∧ l < 96 from ⟨hP, h96⟩)]
    refine congrArg₂ (· + ·) ?_ ?_
    · by_cases h : 64 ≤ l ∧ l - 64 < 32
      · rw [dif_pos h, dif_pos (show P ∧ 64 ≤ l ∧ l - 64 < 32 from ⟨hP, h⟩)]
      · rw [dif_neg h, dif_neg (show ¬ (P ∧ 64 ≤ l ∧ l - 64 < 32) from fun q => h q.2)]
    · by_cases h : l < 64
      · rw [dif_pos h, dif_pos (show P ∧ l < 64 from ⟨hP, h⟩)]
      · rw [dif_neg h, dif_neg (show ¬ (P ∧ l < 64) from fun q => h q.2)]
  · rw [dif_neg h96, dif_neg (show ¬ (P ∧ l < 96) from fun q => h96 q.2)]

/-- The rotary key's part of it in the same way. -/
theorem key_tests (z : EReal) (hz : z = 0) (d : Fin 96 → EReal) (co si : Fin 16 → EReal) (l : ℕ) : key d co si l
      = if h : 64 ≤ l ∧ l - 64 < 32 then
          if h' : l - 64 < 16 then
            d ⟨64 + (16 + (l - 64)), by omega⟩ * si ⟨l - 64, by omega⟩ + d ⟨64 + (l - 64), by omega⟩ * co ⟨l - 64, by omega⟩
          else
            d ⟨64 + (16 + (l - 64 - 16)), by omega⟩ * co ⟨l - 64 - 16, by omega⟩ + -d ⟨64 + (l - 64 - 16), by omega⟩ * si ⟨l - 64 - 16, by omega⟩
        else z := by
  unfold key
  rw [back_pieces, hz]
  by_cases h : 64 ≤ l ∧ l - 64 < 32
  · rw [dif_pos h, if_pos (by omega), dif_pos (show l < 96 by omega), dif_pos h, dif_neg (show ¬ l < 64 by omega), add_zero]
  · rw [dif_neg h, if_neg (by omega)]

/-- Keys in lanes and values behind them, as the program tests the column. -/
theorem columns_tests (z : EReal) (hz : z = 0) (d : Fin 8 → Fin 96 → EReal) (v : Fin 8 → Fin 64 → EReal) (n : ℕ) (hn : n < 1536) :
    (if h : n < 1024 then wide (d ⟨n / 128, by omega⟩) ⟨n % 128, Nat.mod_lt _ (by norm_num)⟩ else v ⟨(n - 1024) / 64, by omega⟩ ⟨(n - 1024) % 64, Nat.mod_lt _ (by norm_num)⟩)
      = if h : n < 1024 then
          if h' : n / 128 < 8 ∧ n % 128 < 96 then
            if h'' : n % 128 < 64 then d ⟨n / 128, by omega⟩ ⟨n % 128, by omega⟩ else d ⟨n / 128, by omega⟩ ⟨64 + (n % 128 - 64), by omega⟩
          else z
        else v ⟨(n - 1024) / 64, by omega⟩ ⟨(n - 1024) % 64, Nat.mod_lt _ (by norm_num)⟩ := by
  rw [hz]
  by_cases h : n < 1024
  · rw [dif_pos h, dif_pos h]
    unfold wide
    by_cases h96 : n % 128 < 96
    · rw [dif_pos (show n / 128 < 8 ∧ n % 128 < 96 by omega), dif_pos h96]
      by_cases h64 : n % 128 < 64
      · rw [dif_pos h64]
      · rw [dif_neg h64]
        exact congrArg (d _) (Fin.ext (by show n % 128 = 64 + (n % 128 - 64); omega))
    · rw [dif_neg (show ¬ (n / 128 < 8 ∧ n % 128 < 96) from fun q => h96 q.2), dif_neg h96]
  · rw [dif_neg h, dif_neg h]

end Cert.RopeMath

end
-- ==== Proof.RopeKernel.lean ====
/- The gradient of the rotary embeddings of one layer (`l0_rope_bwd`): what the kernel's body leaves at each block of rows, what its
   operands hold, and what its three results are. -/
module

public import proofs.«01_k».proof.Defs
public import proofs.«01_k».proof.Proof.Rows
public import proofs.«01_k».proof.Proof.RopeMath
public import proofs.«01_k».proof.Proof.GateMath
public import proofs.«01_k».proof.Proof.Gen.RopeIdeal.Value
public import proofs.«01_k».proof.Proof.Gen.RopeReferenceIdeal.Run
public import proofs.«01_k».proof.Proof.Gen.RopeReferenceIdeal.Read
public import Idealize.ShloMosaic.Lib.Pointwise
public import Idealize.ShloMosaic.Lib.Tactic

@[expose] public section

set_option maxRecDepth 16384

noncomputable section

namespace Cert.RopeClaim.Kernel

open Idealize.ShloMosaic Idealize.ShloMosaic.TcCoe Idealize.ShloMosaic.Tactic Idealize.SL.Sem
open Cert.RopeIdeal Cert.RopeIdeal.Gen Cert.RopeMath
open Cert.GateMath (Arr)

theorem origin : (![0, 0] : Fin 2 → Nat) = fun _ => 0 := funext fun a => by fin_cases a <;> rfl

/-- The block of one head's query gradient, at an entry. -/
theorem pay3_apply (co si x : Vec Ideal S512x128 .f32) (p : Fin 512) (l : Fin 128) :
    (k0_pay3 co si x (ix2 p l) : EReal) = turned (fun k => x (ix2 p k)) (fun k => co (ix2 p k)) (fun k => si (ix2 p k)) l := by
  unfold k0_pay3 k0_pay1 k0_pay2
  pointwise
  rfl

/-- The block of the rotary key's gradient, at an entry, from the sum of the heads. -/
theorem pay48_apply (co si k a : Vec Ideal S512x128 .f32) (p : Fin 512) (l : Fin 128) :
    (k0_pay48 co si k a (ix2 p l) : EReal)
      = Scalar.select (within l 64#32 96#32) (turned (fun j => k (ix2 p j) + a (ix2 p j)) (fun j => co (ix2 p j)) (fun j => si (ix2 p j)) l) 0 := by
  unfold k0_pay48 k0_pay45
  pointwise
  rfl

/-- The block of all query heads, at an entry. -/
def queries (x : Vec Ideal S512x1024 .f32) (co si : Vec Ideal S512x128 .f32) (y : S512x1024.Idx) : EReal :=
  turned (fun k => x (ix2 (y 0) ⟨(y 1).val / 128 * 128 + k.val, by have : (y 1).val < 1024 := (y 1).isLt; have := k.isLt; omega⟩))
    (fun k => co (ix2 (y 0) k)) (fun k => si (ix2 (y 0) k)) ⟨(y 1).val % 128, Nat.mod_lt _ (by norm_num)⟩

/-- The head that starts at column `o`. -/
theorem queries_head (x : Vec Ideal S512x1024 .f32) (co si : Vec Ideal S512x128 .f32) (o : ℕ) (ho : o % 128 = 0)
    (inb : ∀ a, (![0, o] : Fin 2 → ℕ) a + (![512, 128] : Fin 2 → ℕ) a ≤ S512x1024.size a) (i : S512x128.Idx) :
    (k0_pay3 co si (View.ld x (Rect.unit (s := S512x1024) ![0, o] ![512, 128] inb)) i : EReal) = queries x co si ((Rect.unit (s := S512x1024) ![0, o] ![512, 128] inb).emb i) := by
  obtain ⟨p, l, rfl⟩ : ∃ p l, i = (ix2 p l : S512x128.Idx) := ⟨_, _, eq_ix2 i⟩
  have hb : o + 128 ≤ 1024 := inb 1
  have hl := l.isLt
  have e0 : ((Rect.unit (s := S512x1024) ![0, o] ![512, 128] inb).emb (ix2 p l)) 0 = p := Fin.ext (by show 0 + 1 * p.val = p.val; omega)
  have e1 : (((Rect.unit (s := S512x1024) ![0, o] ![512, 128] inb).emb (ix2 p l)) 1).val = o + l.val := by show o + 1 * l.val = _; omega
  refine (pay3_apply _ _ _ p l).trans ?_
  unfold queries
  rw [e0]
  have el : (⟨(((Rect.unit (s := S512x1024) ![0, o] ![512, 128] inb).emb (ix2 p l)) 1).val % 128, Nat.mod_lt _ (by norm_num)⟩ : Fin 128) = l :=
    Fin.ext (by show _ % 128 = l.val; rw [e1]; omega)
  rw [el]
  refine congrArg (fun z => turned z _ _ l) (funext fun k => congrArg x (funext fun a => Fin.ext ?_))
  match a with
  | ⟨0, _⟩ => show 0 + 1 * p.val = p.val; omega
  | ⟨1, _⟩ => show o + 1 * k.val = _ / 128 * 128 + k.val; rw [e1]; omega

/-- The block of the keys and values, at an entry. -/
def keys (x : Vec Ideal S512x1024 .f32) (v : Vec Ideal S512x512 .bf16) (y : S512x1536.Idx) : EReal :=
  if h : (y 1).val < 1024 then x (ix2 (y 0) ⟨(y 1).val, h⟩)
  else v (ix2 (y 0) ⟨(y 1).val - 1024, by have : (y 1).val < 1536 := (y 1).isLt; omega⟩)

theorem keys_head (x : Vec Ideal S512x1024 .f32) (v : Vec Ideal S512x512 .bf16) (o : ℕ)
    (inb : ∀ a, (![0, o] : Fin 2 → ℕ) a + (![512, 128] : Fin 2 → ℕ) a ≤ S512x1024.size a)
    (inb' : ∀ a, (![0, o] : Fin 2 → ℕ) a + (![512, 128] : Fin 2 → ℕ) a ≤ S512x1536.size a) (i : S512x128.Idx) :
    (k0_pay5 (View.ld x (Rect.unit (s := S512x1024) ![0, o] ![512, 128] inb)) i : EReal) = keys x v ((Rect.unit (s := S512x1536) ![0, o] ![512, 128] inb').emb i) := by
  obtain ⟨p, l, rfl⟩ : ∃ p l, i = (ix2 p l : S512x128.Idx) := ⟨_, _, eq_ix2 i⟩
  have hb : o + 128 ≤ 1024 := inb 1
  have hl := l.isLt
  have e1 : (((Rect.unit (s := S512x1536) ![0, o] ![512, 128] inb').emb (ix2 p l)) 1).val = o + l.val := by show o + 1 * l.val = _; omega
  unfold keys
  rw [dif_pos (by omega), show k0_pay5 (View.ld x (Rect.unit (s := S512x1024) ![0, o] ![512, 128] inb)) (ix2 p l) = View.ld x (Rect.unit (s := S512x1024) ![0, o] ![512, 128] inb) (ix2 p l) from
    congrFun (shapeCast_self (View.ld x (Rect.unit (s := S512x1024) ![0, o] ![512, 128] inb) : S512x128.Idx → EReal) _) _]
  show x _ = x _
  refine congrArg x (funext fun a => Fin.ext ?_)
  match a with
  | ⟨0, _⟩ => rfl
  | ⟨1, _⟩ => rfl

theorem keys_values (x : Vec Ideal S512x1024 .f32) (v : Vec Ideal S512x512 .bf16)
    (inb' : ∀ a, (![0, 1024] : Fin 2 → ℕ) a + (![512, 512] : Fin 2 → ℕ) a ≤ S512x1536.size a) (i : S512x512.Idx) :
    (k0_pay47 v i : EReal) = keys x v ((Rect.unit (s := S512x1536) ![0, 1024] ![512, 512] inb').emb i) := by
  obtain ⟨p, l, rfl⟩ : ∃ p l, i = (ix2 p l : S512x512.Idx) := ⟨_, _, eq_ix2 i⟩
  have e1 : (((Rect.unit (s := S512x1536) ![0, 1024] ![512, 512] inb').emb (ix2 p l)) 1).val = 1024 + l.val := by show 1024 + 1 * l.val = _; omega
  unfold keys
  rw [dif_neg (by omega), show k0_pay47 v (ix2 p l) = v (ix2 p l) from congrFun (shapeCast_self _ _) _]
  show v _ = v _
  refine congrArg v (funext fun a => Fin.ext ?_)
  match a with
  | ⟨0, _⟩ => show p.val = 0 + 1 * p.val; omega
  | ⟨1, _⟩ => show l.val = _ - 1024; rw [e1]; omega

/-- One head of a block. -/
def head (x : Vec Ideal S512x1024 .f32) (h : Fin 8) : Vec Ideal S512x128 .f32 :=
  fun i => x (ix2 (i 0) ⟨h.val * 128 + (i 1).val, by have := h.isLt; have : (i 1).val < 128 := (i 1).isLt; omega⟩)

theorem ld_head (x : Vec Ideal S512x1024 .f32) (o : ℕ) (h : Fin 8) (ho : o = h.val * 128)
    (inb : ∀ a, (![0, o] : Fin 2 → ℕ) a + (![512, 128] : Fin 2 → ℕ) a ≤ S512x1024.size a) :
    View.ld x (Rect.unit (s := S512x1024) ![0, o] ![512, 128] inb) = head x h := by
  subst ho
  funext i
  show x _ = x _
  refine congrArg x (funext fun a => Fin.ext ?_)
  match a with
  | ⟨0, _⟩ => show 0 + 1 * (i 0).val = (i 0).val; omega
  | ⟨1, _⟩ => show _ + 1 * (i 1).val = h.val * 128 + (i 1).val; rw [Nat.one_mul]; rfl

/-- The list's statement from its head's and its tail's. -/
theorem each {α : Type*} {p : α → Prop} {a : α} {l : List α} (h : p a) (t : ∀ b ∈ l, p b) : ∀ b ∈ a :: l, p b := List.forall_mem_cons.2 ⟨h, t⟩
theorem none_left {α : Type*} {p : α → Prop} : ∀ b ∈ ([] : List α), p b := fun _ h => absurd h List.not_mem_nil

section
variable (c : Dev nD) (i : grid0.Coords) (a1 : Memref sig .tc .vmem S512x1024 .f32) (h1 : a1.IsWhole)
  (a2 : Memref sig .tc .vmem S512x1024 .f32) (h2 : a2.IsWhole) (a3 : Memref sig .tc .vmem S512x512 .bf16) (h3 : a3.IsWhole)
  (a4 : Memref sig .tc .vmem S512x128 .f32) (h4 : a4.IsWhole) (a5 : Memref sig .tc .vmem S512x128 .f32) (h5 : a5.IsWhole)
  (a6 : Memref sig .tc .vmem S512x1024 .bf16) (h6 : a6.IsWhole) (a7 : Memref sig .tc .vmem S512x1536 .bf16) (h7 : a7.IsWhole)
  (a8 : Memref sig .tc .vmem S512x128 .bf16) (h8 : a8.IsWhole)
  (x0 x1 : Vec Ideal S512x1024 .f32) (x2 : Vec Ideal S512x512 .bf16) (x3 x4 : Vec Ideal S512x128 .f32)

/-- What the body leaves in its three results' buffers. -/
theorem queries_A (y : S512x1024.Idx) : (out0_A_5 c i a1 h1 a2 h2 a3 h3 a4 h4 a5 h5 a6 h6 a7 h7 a8 h8 x0 x1 x2 x3 x4 y : EReal) = queries x0 x3 x4 y := by
  unfold out0_A_5
  rw [View.read_writes_eq_canon _ _ _ (cover0_A_5 c i a1 h1 a2 h2 a3 h3 a4 h4 a5 h5 a6 h6 a7 h7 a8 h8 x0 x1 x2 x3 x4)]
  refine View.canon_apply_of_pieces (queries x0 x3 x4) _ ?_ y (cover0_A_5 c i a1 h1 a2 h2 a3 h3 a4 h4 a5 h5 a6 h6 a7 h7 a8 h8 x0 x1 x2 x3 x4 y)
  unfold kernelRun0_A
  dsimp only
  sl_unfold_words
  simp only [View.readAt_eq_ld, h1.read_unread, h4.read_unread, h5.read_unread, View.ld_unit_zero (S := S512x128) origin]
  exact each (queries_head x0 x3 x4 896 rfl inb_S512x1024_S512x128_0_896) (each (queries_head x0 x3 x4 768 rfl inb_S512x1024_S512x128_0_768) (each (queries_head x0 x3 x4 640 rfl inb_S512x1024_S512x128_0_640) (each (queries_head x0 x3 x4 512 rfl inb_S512x1024_S512x128_0_512)
    (each (queries_head x0 x3 x4 384 rfl inb_S512x1024_S512x128_0_384) (each (queries_head x0 x3 x4 256 rfl inb_S512x1024_S512x128_0_256) (each (queries_head x0 x3 x4 128 rfl inb_S512x1024_S512x128_0_128) (each (queries_head x0 x3 x4 0 rfl inb_S512x1024_S512x128_0_0) none_left)))))))

theorem keys_A (y : S512x1536.Idx) : (out0_A_6 c i a1 h1 a2 h2 a3 h3 a4 h4 a5 h5 a6 h6 a7 h7 a8 h8 x0 x1 x2 x3 x4 y : EReal) = keys x1 x2 y := by
  unfold out0_A_6
  rw [View.read_writes_eq_canon _ _ _ (cover0_A_6 c i a1 h1 a2 h2 a3 h3 a4 h4 a5 h5 a6 h6 a7 h7 a8 h8 x0 x1 x2 x3 x4)]
  refine View.canon_apply_of_pieces (keys x1 x2) _ ?_ y (cover0_A_6 c i a1 h1 a2 h2 a3 h3 a4 h4 a5 h5 a6 h6 a7 h7 a8 h8 x0 x1 x2 x3 x4 y)
  unfold kernelRun0_A
  dsimp only
  sl_unfold_words
  simp only [View.readAt_eq_ld, h2.read_unread, h3.read_unread, View.ld_unit_zero (S := S512x512) origin]
  exact each (keys_values x1 x2 inb_S512x1536_S512x512_0_1024) (each (keys_head x1 x2 896 inb_S512x1024_S512x128_0_896 inb_S512x1536_S512x128_0_896) (each (keys_head x1 x2 768 inb_S512x1024_S512x128_0_768 inb_S512x1536_S512x128_0_768) (each (keys_head x1 x2 640 inb_S512x1024_S512x128_0_640 inb_S512x1536_S512x128_0_640) (each (keys_head x1 x2 512 inb_S512x1024_S512x128_0_512 inb_S512x1536_S512x128_0_512)
    (each (keys_head x1 x2 384 inb_S512x1024_S512x128_0_384 inb_S512x1536_S512x128_0_384) (each (keys_head x1 x2 256 inb_S512x1024_S512x128_0_256 inb_S512x1536_S512x128_0_256) (each (keys_head x1 x2 128 inb_S512x1024_S512x128_0_128 inb_S512x1536_S512x128_0_128) (each (keys_head x1 x2 0 inb_S512x1024_S512x128_0_0 inb_S512x1536_S512x128_0_0) none_left))))))))

theorem rotary_A (p : Fin 512) (l : Fin 128) : (out0_A_7 c i a1 h1 a2 h2 a3 h3 a4 h4 a5 h5 a6 h6 a7 h7 a8 h8 x0 x1 x2 x3 x4 (ix2 p l) : EReal)
    = Scalar.select (within l 64#32 96#32) (turned (fun j => ∑ h, head x1 h (ix2 p j)) (fun j => x3 (ix2 p j)) (fun j => x4 (ix2 p j)) l) 0 := by
  unfold out0_A_7
  rw [View.read_writes_eq_canon _ _ _ (cover0_A_7 c i a1 h1 a2 h2 a3 h3 a4 h4 a5 h5 a6 h6 a7 h7 a8 h8 x0 x1 x2 x3 x4)]
  unfold kernelRun0_A
  dsimp only
  sl_unfold_words
  rw [View.canon_cons_unit_zero (S := S512x128) origin]
  simp only [View.readAt_eq_ld, h2.read_unread, h4.read_unread, h5.read_unread, View.ld_unit_zero (S := S512x128) origin]
  rw [ld_head x1 0 0 rfl, ld_head x1 128 1 rfl, ld_head x1 256 2 rfl, ld_head x1 384 3 rfl, ld_head x1 512 4 rfl, ld_head x1 640 5 rfl, ld_head x1 768 6 rfl, ld_head x1 896 7 rfl]
  refine (pay48_apply _ _ _ _ p l).trans ?_
  rw [show k0_pay1 x3 = x3 from shapeCast_self _ _, show k0_pay2 x4 = x4 from shapeCast_self _ _]
  refine congrArg (fun z => Scalar.select (within l 64#32 96#32) (turned z (fun j => x3 (ix2 p j)) (fun j => x4 (ix2 p j)) l) 0) (funext fun j => ?_)
  rw [Fin.sum_univ_eight]
  generalize head x1 0 = z0
  generalize head x1 1 = z1
  generalize head x1 2 = z2
  generalize head x1 3 = z3
  generalize head x1 4 = z4
  generalize head x1 5 = z5
  generalize head x1 6 = z6
  generalize head x1 7 = z7
  unfold k0_pay43 k0_pay41 k0_pay33 k0_pay31 k0_pay28 k0_pay26 k0_pay23 k0_pay21 k0_pay19 k0_pay11 k0_pay9 k0_pay6 k0_pay4
  pointwise
end

variable (m : (ℓ : Loc nD τ sig) → Buf (Elt Ideal) ℓ) (c : Dev nD)

/-- The arguments on a device. -/
def argDq : S4096x8x96.Idx → EReal := (m ((c : Thread nD τ).loc main_arg0) : S4096x8x96.Idx → EReal)
def argDk : S4096x8x96.Idx → EReal := (m ((c : Thread nD τ).loc main_arg1) : S4096x8x96.Idx → EReal)
def argDv : S4096x8x64.Idx → EReal := (m ((c : Thread nD τ).loc main_arg2) : S4096x8x64.Idx → EReal)
def argP : IVec S4096 32 := (m ((c : Thread nD τ).loc main_arg3) : S4096.Idx → BitVec 32)

/-- The cosine and the sine of a row's angles. -/
def co (I : Fin 4096) (k : Fin 16) : EReal := Ideal.cos (Cert.RopeReferenceIdeal.Read.val_main_v16 (F := Ideal) (argP m c) (ix2 I k))
def si (I : Fin 4096) (k : Fin 16) : EReal := Ideal.sin (Cert.RopeReferenceIdeal.Read.val_main_v16 (F := Ideal) (argP m c) (ix2 I k))

/-- Heads of 96 in rows of 1024 lanes. -/
def lanes (d : S4096x8x96.Idx → EReal) : Arr 4096 1024 := fun y =>
  wide (fun k => d (ix3 (y 0) ⟨(y 1).val / 128, by have : (y 1).val < 1024 := (y 1).isLt; omega⟩ k)) ⟨(y 1).val % 128, Nat.mod_lt _ (by norm_num)⟩

theorem lanes_of (d : S4096x8x96.Idx → EReal) : shapeCast S4096x1024 (pad S4096x8x128 ![0, 0, 0] ![0, 0, 32] ![0, 0, 0] (d : FVec Ideal S4096x8x96 .f32)
    (sitofp .f32 (constantI S_ 32 0#32) : FVec Ideal S_ .f32) pads_S4096x8x96_S4096x8x128_000_000_0320 h_S_) shapeCasts_S4096x8x128_S4096x1024 = lanes d := by
  funext y
  obtain ⟨I, j, rfl⟩ : ∃ I j, y = (ix2 I j : S4096x1024.Idx) := ⟨_, _, eq_ix2 y⟩
  have hj := j.isLt
  have z : (FloatOps.sitofp (F := Ideal) FTy.f32 0#32 : EReal) = 0 := by show ((((0#32 : BitVec 32).toInt : ℤ) : ℝ) : EReal) = 0; simp
  unfold lanes wide
  pointwise
  rw [show (FloatOps.sitofp (F := Ideal) FTy.f32 0#32) = (0 : EReal) from z]
  by_cases h : j.val % 128 < 96
  · rw [dif_pos ⟨by omega, h⟩, dif_pos h]
  · rw [dif_neg (fun q => h q.2), dif_neg h]

theorem V27 : V m c main_v27 = lanes (argDq m c) := by rw [← lanes_of]; dsimp only [V, List.flatten, List.append]; after_results; rfl
theorem V29 : V m c main_v29 = lanes (argDk m c) := by rw [← lanes_of]; dsimp only [V, List.flatten, List.append]; after_results; rfl

/-- The values' gradient, heads side by side. -/
def flat : Arr 4096 512 := fun y => argDv m c (ix3 (y 0) ⟨(y 1).val / 64, by have : (y 1).val < 512 := (y 1).isLt; omega⟩ ⟨(y 1).val % 64, Nat.mod_lt _ (by norm_num)⟩)

theorem V31 : V m c main_v31 = flat m c := by
  have h : V m c main_v31 = shapeCast S4096x512 (argDv m c) shapeCasts_S4096x8x64_S4096x512 := by dsimp only [V, List.flatten, List.append]; after_results; rfl
  rw [h]
  funext y
  obtain ⟨I, j, rfl⟩ : ∃ I j, y = (ix2 I j : S4096x512.Idx) := ⟨_, _, eq_ix2 y⟩
  unfold flat
  pointwise

/-- The kernel's two tables. -/
theorem V22 : V m c main_v22 = fun y : S4096x128.Idx => cosines (co m c (y 0)) (y 1) := by
  have h : V m c main_v22 = concatenate S4096x128 1 [⟨S4096x64, broadcastInDim S4096x64 ![] bcast_S_S4096x64 (constant (F := Ideal) S_ .f32 0x3F800000#32)⟩,
      ⟨S4096x16, Cert.RopeReferenceIdeal.Read.val_main_v40 (F := Ideal) (argP m c)⟩, ⟨S4096x16, Cert.RopeReferenceIdeal.Read.val_main_v40 (F := Ideal) (argP m c)⟩,
      ⟨S4096x32, extractStridedSlice S4096x32 ![0, 0] (broadcastInDim S4096x64 ![] bcast_S_S4096x64 (constant (F := Ideal) S_ .f32 0x3F800000#32)) slices_S4096x64_S4096x32_0_0⟩]
      concatenates_S4096x64_S4096x16_S4096x16_S4096x32_S4096x128_d1 := by
    dsimp only [V, List.flatten, List.append]; after_results; rfl
  rw [h]
  funext y
  obtain ⟨I, l, rfl⟩ : ∃ I l, y = (ix2 I l : S4096x128.Idx) := ⟨_, _, eq_ix2 y⟩
  have hl := l.isLt
  unfold cosines co Cert.RopeReferenceIdeal.Read.val_main_v40
  pointwise
  exact table (fun k => Ideal.cos (Cert.RopeReferenceIdeal.Read.val_main_v16 (F := Ideal) (argP m c) (ix2 I k))) (fun k => Ideal.cos (Cert.RopeReferenceIdeal.Read.val_main_v16 (F := Ideal) (argP m c) (ix2 I k))) 1 l.val hl
theorem V25 : V m c main_v25 = fun y : S4096x128.Idx => sines (si m c (y 0)) (y 1) := by
  have h : V m c main_v25 = concatenate S4096x128 1 [⟨S4096x64, broadcastInDim S4096x64 ![] bcast_S_S4096x64 (constant (F := Ideal) S_ .f32 0x00000000#32)⟩,
      ⟨S4096x16, Host.negf (Cert.RopeReferenceIdeal.Read.val_main_v41 (F := Ideal) (argP m c))⟩, ⟨S4096x16, Cert.RopeReferenceIdeal.Read.val_main_v41 (F := Ideal) (argP m c)⟩,
      ⟨S4096x32, extractStridedSlice S4096x32 ![0, 0] (broadcastInDim S4096x64 ![] bcast_S_S4096x64 (constant (F := Ideal) S_ .f32 0x00000000#32)) slices_S4096x64_S4096x32_0_0⟩]
      concatenates_S4096x64_S4096x16_S4096x16_S4096x32_S4096x128_d1 := by
    dsimp only [V, List.flatten, List.append]; after_results; rfl
  rw [h]
  funext y
  obtain ⟨I, l, rfl⟩ : ∃ I l, y = (ix2 I l : S4096x128.Idx) := ⟨_, _, eq_ix2 y⟩
  have hl := l.isLt
  unfold sines si Cert.RopeReferenceIdeal.Read.val_main_v41
  pointwise
  exact table (fun k => -Ideal.sin (Cert.RopeReferenceIdeal.Read.val_main_v16 (F := Ideal) (argP m c) (ix2 I k))) (fun k => Ideal.sin (Cert.RopeReferenceIdeal.Read.val_main_v16 (F := Ideal) (argP m c) (ix2 I k))) 0 l.val hl

theorem index0 : ∀ t : Fin cfg0.N, win0_0.index t 0 = t.val ∧ win0_0.index t 1 = 0 := (by decide +kernel : ∀ t : Fin grid0.N, _)
theorem index1 : ∀ t : Fin cfg0.N, win0_1.index t 0 = t.val ∧ win0_1.index t 1 = 0 := (by decide +kernel : ∀ t : Fin grid0.N, _)
theorem index2 : ∀ t : Fin cfg0.N, win0_2.index t 0 = t.val ∧ win0_2.index t 1 = 0 := (by decide +kernel : ∀ t : Fin grid0.N, _)
theorem index3 : ∀ t : Fin cfg0.N, win0_3.index t 0 = t.val ∧ win0_3.index t 1 = 0 := (by decide +kernel : ∀ t : Fin grid0.N, _)
theorem index4 : ∀ t : Fin cfg0.N, win0_4.index t 0 = t.val ∧ win0_4.index t 1 = 0 := (by decide +kernel : ∀ t : Fin grid0.N, _)
theorem index5 : ∀ t : Fin cfg0.N, win0_5.index t 0 = t.val ∧ win0_5.index t 1 = 0 := (by decide +kernel : ∀ t : Fin grid0.N, _)
theorem index6 : ∀ t : Fin cfg0.N, win0_6.index t 0 = t.val ∧ win0_6.index t 1 = 0 := (by decide +kernel : ∀ t : Fin grid0.N, _)
theorem index7 : ∀ t : Fin cfg0.N, win0_7.index t 0 = t.val ∧ win0_7.index t 1 = 0 := (by decide +kernel : ∀ t : Fin grid0.N, _)

/-- The blocks at a point are the rows of the arrays. -/
theorem blk0 (t : Fin cfg0.N) (p : Fin 512) (j : Fin 1024) : (iblk m c 0 t (ix2 p j) : EReal) = lanes (argDq m c) (ix2 (Rows.row N_0 t p) j) := by
  unfold iblk; rw [View.read_apply]; show V m c main_v27 _ = _; rw [V27]
  exact Rows.at_block (lanes (argDq m c)) _ p j t.val ![win0_0.index t 0, win0_0.index t 1] (index0 t) _ rfl rfl
theorem blk1 (t : Fin cfg0.N) (p : Fin 512) (j : Fin 1024) : (iblk m c 1 t (ix2 p j) : EReal) = lanes (argDk m c) (ix2 (Rows.row N_0 t p) j) := by
  unfold iblk; rw [View.read_apply]; show V m c main_v29 _ = _; rw [V29]
  exact Rows.at_block (lanes (argDk m c)) _ p j t.val ![win0_1.index t 0, win0_1.index t 1] (index1 t) _ rfl rfl
theorem blk2 (t : Fin cfg0.N) (p j : Fin 512) : (iblk m c 2 t (ix2 p j) : EReal) = flat m c (ix2 (Rows.row N_0 t p) j) := by
  unfold iblk; rw [View.read_apply]; show V m c main_v31 _ = _; rw [V31]
  exact Rows.at_block (flat m c) _ p j t.val ![win0_2.index t 0, win0_2.index t 1] (index2 t) _ rfl rfl
theorem blk3 (t : Fin cfg0.N) (p : Fin 512) (l : Fin 128) : (iblk m c 3 t (ix2 p l) : EReal) = cosines (co m c (Rows.row N_0 t p)) l := by
  unfold iblk; rw [View.read_apply]; show V m c main_v22 _ = _; rw [V22]
  exact Rows.at_block (fun y : S4096x128.Idx => cosines (co m c (y 0)) (y 1)) _ p l t.val ![win0_3.index t 0, win0_3.index t 1] (index3 t) _ rfl rfl
theorem blk4 (t : Fin cfg0.N) (p : Fin 512) (l : Fin 128) : (iblk m c 4 t (ix2 p l) : EReal) = sines (si m c (Rows.row N_0 t p)) l := by
  unfold iblk; rw [View.read_apply]; show V m c main_v25 _ = _; rw [V25]
  exact Rows.at_block (fun y : S4096x128.Idx => sines (si m c (y 0)) (y 1)) _ p l t.val ![win0_4.index t 0, win0_4.index t 1] (index4 t) _ rfl rfl

/-- An entry of a row of heads: the head's number and the lane. -/
theorem lanes_entry (d : S4096x8x96.Idx → EReal) (I : Fin 4096) (j : Fin 1024) (h : Fin 8) (k : Fin 128) (hj : j.val = h.val * 128 + k.val) :
    lanes d (ix2 I j) = wide (fun k => d (ix3 I h k)) k := by
  have hk := k.isLt
  unfold lanes
  refine congrArg₂ wide (funext fun q => congrArg (fun n => d (ix3 I n q)) (Fin.ext ?_)) (Fin.ext ?_)
  · show j.val / 128 = h.val; omega
  · show j.val % 128 = k.val; omega

/-- The head a column belongs to. -/
def headOf (j : Fin 1024) : Fin 8 := ⟨j.val / 128, by have := j.isLt; omega⟩

/-- The query's gradient, at an entry of the result. -/
def dQuery (I : Fin 4096) (j : Fin 1024) : EReal := back (fun k => argDq m c (ix3 I (headOf j) k)) (co m c I) (si m c I) (j.val % 128)
/-- The keys' and values' gradient. -/
def dKeys (I : Fin 4096) (j : Fin 1536) : EReal :=
  if h : j.val < 1024 then lanes (argDk m c) (ix2 I ⟨j.val, h⟩) else flat m c (ix2 I ⟨j.val - 1024, by have := j.isLt; omega⟩)
/-- The rotary key's gradient. -/
def dRotary (I : Fin 4096) (l : Fin 128) : EReal := key (fun k => ∑ h : Fin 8, argDk m c (ix3 I h k)) (co m c I) (si m c I) l.val

/-- The three results' contents. -/
def G5 : Buf (Elt Ideal) ((c : Thread nD τ).loc main_v32_0) := fun y : S4096x1024.Idx => dQuery m c (y 0) (y 1)
def G6 : Buf (Elt Ideal) ((c : Thread nD τ).loc main_v32_1) := fun y : S4096x1536.Idx => dKeys m c (y 0) (y 1)
def G7 : Buf (Elt Ideal) ((c : Thread nD τ).loc main_v32_2) := fun y : S4096x128.Idx => dRotary m c (y 0) (y 1)

theorem out5 (t : Fin cfg0.N) (p : Fin 512) (j : Fin 1024) :
    queries (iblk m c 0 t) (iblk m c 3 t) (iblk m c 4 t) (ix2 p j) = dQuery m c (Rows.row N_0 t p) j := by
  unfold queries dQuery
  have hj := j.isLt
  rw [← turned_wide _ _ _ (⟨j.val % 128, Nat.mod_lt _ (by norm_num)⟩ : Fin 128)]
  refine (congrArg₂ (fun u v => turned u v _ _) (funext fun k => ?_) (funext fun k => ?_)).trans (congrArg (fun u => turned _ _ u _) (funext fun k => ?_))
  · refine (blk0 m c t p _).trans (lanes_entry _ _ _ (headOf j) k ?_)
    rfl
  · exact blk3 m c t p k
  · exact blk4 m c t p k

theorem out6 (t : Fin cfg0.N) (p : Fin 512) (j : Fin 1536) :
    keys (iblk m c 1 t) (iblk m c 2 t) (ix2 p j) = dKeys m c (Rows.row N_0 t p) j := by
  unfold keys dKeys
  by_cases h : j.val < 1024
  · rw [dif_pos (show ((ix2 p j : S512x1536.Idx) 1).val < 1024 from h), dif_pos h]
    exact blk1 m c t p _
  · rw [dif_neg (show ¬ ((ix2 p j : S512x1536.Idx) 1).val < 1024 from h), dif_neg h]
    exact blk2 m c t p _

theorem out7 (t : Fin cfg0.N) (p : Fin 512) (l : Fin 128) :
    Scalar.select (within l 64#32 96#32) (turned (fun j => ∑ h, head (iblk m c 1 t) h (ix2 p j)) (fun j => iblk m c 3 t (ix2 p j)) (fun j => iblk m c 4 t (ix2 p j)) l) 0
      = dRotary m c (Rows.row N_0 t p) l := by
  unfold dRotary
  rw [← turned_key]
  refine congrArg (fun z => Scalar.select (within l 64#32 96#32) z 0) ?_
  refine (congrArg₂ (fun u v => turned u v _ _) (funext fun k => ?_) (funext fun k => ?_)).trans (congrArg (fun u => turned _ _ u _) (funext fun k => ?_))
  · rw [← wide_sum]
    refine Finset.sum_congr rfl fun h _ => ?_
    unfold head
    refine (blk1 m c t p _).trans (lanes_entry _ _ _ h k ?_)
    rfl
  · exact blk3 m c t p k
  · exact blk4 m c t p k

theorem final5 : (dats m 0 c).arrAt 5 cfg0.N = G5 m c := by
  refine (dats m 0 c).arrAt_eq_of_cover 5 (G5 m c) (fun t _ => ?_) fun (y : S4096x1024.Idx) => ?_
  · rw [Value.flushed5_A]
    funext x
    obtain ⟨p, e, rfl⟩ : ∃ p e, x = (ix2 p e : S512x1024.Idx) := ⟨_, _, eq_ix2 x⟩
    refine ((queries_A c _ _ _ _ _ _ _ _ _ _ _ _ _ _ _ _ _ _ _ _ _ _ (ix2 p e)).trans (out5 m c t p e)).trans ?_
    rw [View.read_apply]
    exact Rows.entry (fun I j => dQuery m c I j) p e t.val ![win0_5.index t 0, win0_5.index t 1] (index5 t) _ _ _
  · obtain ⟨t, ht⟩ := Rows.cover N_0 (show Fin 4096 from y 0)
    obtain ⟨i0, i1⟩ := index5 t
    refine ⟨t, flush0_5 t, ?_⟩
    show y ∈ ((View.whole main_v32_0).slice (win0_5.rect t)).set
    rw [View.set_slice_whole, Rect.mem_set_unit]
    intro b
    match b with
    | ⟨0, _⟩ => exact Rows.bounds i0 ht
    | ⟨1, _⟩ => exact Rows.bounds_zero i1 (y 1).isLt

theorem final6 : (dats m 0 c).arrAt 6 cfg0.N = G6 m c := by
  refine (dats m 0 c).arrAt_eq_of_cover 6 (G6 m c) (fun t _ => ?_) fun (y : S4096x1536.Idx) => ?_
  · rw [Value.flushed6_A]
    funext x
    obtain ⟨p, e, rfl⟩ : ∃ p e, x = (ix2 p e : S512x1536.Idx) := ⟨_, _, eq_ix2 x⟩
    refine ((keys_A c _ _ _ _ _ _ _ _ _ _ _ _ _ _ _ _ _ _ _ _ _ _ (ix2 p e)).trans (out6 m c t p e)).trans ?_
    rw [View.read_apply]
    exact Rows.entry (fun I j => dKeys m c I j) p e t.val ![win0_6.index t 0, win0_6.index t 1] (index6 t) _ _ _
  · obtain ⟨t, ht⟩ := Rows.cover N_0 (show Fin 4096 from y 0)
    obtain ⟨i0, i1⟩ := index6 t
    refine ⟨t, flush0_6 t, ?_⟩
    show y ∈ ((View.whole main_v32_1).slice (win0_6.rect t)).set
    rw [View.set_slice_whole, Rect.mem_set_unit]
    intro b
    match b with
    | ⟨0, _⟩ => exact Rows.bounds i0 ht
    | ⟨1, _⟩ => exact Rows.bounds_zero i1 (y 1).isLt

theorem final7 : (dats m 0 c).arrAt 7 cfg0.N = G7 m c := by
  refine (dats m 0 c).arrAt_eq_of_cover 7 (G7 m c) (fun t _ => ?_) fun (y : S4096x128.Idx) => ?_
  · rw [Value.flushed7_A]
    funext x
    obtain ⟨p, e, rfl⟩ : ∃ p e, x = (ix2 p e : S512x128.Idx) := ⟨_, _, eq_ix2 x⟩
    refine ((rotary_A c _ _ _ _ _ _ _ _ _ _ _ _ _ _ _ _ _ _ _ _ _ _ p e).trans (out7 m c t p e)).trans ?_
    rw [View.read_apply]
    exact Rows.entry (fun I j => dRotary m c I j) p e t.val ![win0_7.index t 0, win0_7.index t 1] (index7 t) _ _ _
  · obtain ⟨t, ht⟩ := Rows.cover N_0 (show Fin 4096 from y 0)
    obtain ⟨i0, i1⟩ := index7 t
    refine ⟨t, flush0_7 t, ?_⟩
    show y ∈ ((View.whole main_v32_2).slice (win0_7.rect t)).set
    rw [View.set_slice_whole, Rect.mem_set_unit]
    intro b
    match b with
    | ⟨0, _⟩ => exact Rows.bounds i0 ht
    | ⟨1, _⟩ => exact Rows.bounds_zero i1 (y 1).isLt

end Cert.RopeClaim.Kernel

end
-- ==== Proof.Rope.lean ====
/- The gradient of the rotary embeddings of one layer: what the reference computes, and that it is what the kernel writes. -/
module

public import proofs.«01_k».proof.Defs
public import proofs.«01_k».proof.Proof.RopeKernel
public import proofs.«01_k».proof.Proof.RopeMath
public import proofs.«01_k».proof.Proof.GateMath
public import proofs.«01_k».proof.Proof.Gen.RopeIdeal.Value
public import proofs.«01_k».proof.Proof.Gen.RopeReferenceIdeal.Run
public import proofs.«01_k».proof.Proof.Gen.RopeReferenceIdeal.Read
public import Idealize.ShloMosaic.Lib.Pointwise
public import Idealize.ShloMosaic.Lib.Tactic

@[expose] public section

set_option maxRecDepth 16384

noncomputable section

namespace Cert.RopeClaim.Ref

open Idealize.ShloMosaic Idealize.ShloMosaic.Tactic
open Cert.RopeReferenceIdeal Cert.RopeReferenceIdeal.Read Cert.RopeMath

/-- The padding's constant. -/
theorem filler : FloatOps.sitofp (F := Ideal) FTy.f32 0#32 = (0 : EReal) := by show ((((0#32 : BitVec 32).toInt : ℤ) : ℝ) : EReal) = 0; simp

/-- The query's gradient. -/
theorem v97 (x0 : S4096x8x96.Idx → EReal) (x3 : IVec S4096 32) (I : Fin 4096) (n : Fin 1024) : (val_main_v97 (F := Ideal) x0 x3 (ix2 I n) : EReal)
    = back (fun k => x0 (ix3 I (Kernel.headOf n) k)) (fun k => Ideal.cos (val_main_v16 (F := Ideal) x3 (ix2 I k))) (fun k => Ideal.sin (val_main_v16 (F := Ideal) x3 (ix2 I k))) (n.val % 128) := by
  have hn : n.val / 128 < 8 := by have := n.isLt; omega
  rw [back_tests _ hn _ filler]
  unfold Kernel.headOf
  unfold val_main_v97 val_main_v91 val_main_v90 val_main_v87 val_main_v86 val_main_v85 val_main_v84 val_main_v83 val_main_v82 val_main_v81 val_main_v80 val_main_v79 val_main_v78 val_main_v77 val_main_v76 val_main_v75 val_main_v74 val_main_v73 val_main_v72 val_main_v71 val_main_v70 val_main_v69 val_main_v25 val_main_v24 val_main_v23 val_main_cst_10 val_main_cst_11 val_main_call0_v0 val_main_c
  generalize val_main_v16 (F := Ideal) x3 = a
  pointwise

/-- The keys' and values' gradient. -/
theorem v98 (x1 : S4096x8x96.Idx → EReal) (x2 : S4096x8x64.Idx → EReal) (I : Fin 4096) (n : Fin 1536) : (val_main_v98 (F := Ideal) x1 x2 (ix2 I n) : EReal)
    = if h : n.val < 1024 then Kernel.lanes x1 (ix2 I ⟨n.val, h⟩)
      else x2 (ix3 I ⟨(n.val - 1024) / 64, by have := n.isLt; omega⟩ ⟨(n.val - 1024) % 64, Nat.mod_lt _ (by norm_num)⟩) := by
  refine Eq.trans ?_ (columns_tests _ filler (fun h k => x1 (ix3 I h k)) (fun h k => x2 (ix3 I h k)) n.val n.isLt).symm
  unfold val_main_v98 val_main_v95 val_main_v94 val_main_v93 val_main_v92 val_main_v89 val_main_v88 val_main_v54 val_main_call1_v0 val_main_c_12
  pointwise

/-- The rotary key's gradient. -/
theorem v99 (x1 : S4096x8x96.Idx → EReal) (x3 : IVec S4096 32) (I : Fin 4096) (l : Fin 128) : (val_main_v99 (F := Ideal) x1 x3 (ix2 I l) : EReal)
    = key (fun k => ∑ h : Fin 8, x1 (ix3 I h k)) (fun k => Ideal.cos (val_main_v16 (F := Ideal) x3 (ix2 I k))) (fun k => Ideal.sin (val_main_v16 (F := Ideal) x3 (ix2 I k))) l.val := by
  have hl := l.isLt
  refine Eq.trans ?_ (congrArg (fun d => key d _ _ _) (funext fun k => Fin.sum_univ_one (fun _ => ∑ h : Fin 8, x1 (ix3 I h k))))
  rw [key_tests _ filler]
  unfold val_main_v99 val_main_v96 val_main_v68 val_main_v67 val_main_v66 val_main_v65 val_main_v64 val_main_v63 val_main_v62 val_main_v61 val_main_v60 val_main_v59 val_main_v58 val_main_v57 val_main_v56 val_main_v55 val_main_v40 val_main_v41 val_main_cst_8 val_main_cst_9 val_main_call2_v0 val_main_c_13
  generalize val_main_v16 (F := Ideal) x3 = a
  pointwise

end Cert.RopeClaim.Ref

namespace Cert.RopeClaim

open Idealize.ShloMosaic Idealize.ShloMosaic.TcCoe Idealize.SL.Sem

open Cert.RopeIdeal Cert.RopeIdeal.Gen in
/-- The three gradients are the reference's, from memories that agree on the arguments. -/
theorem value : Cert.algebraic_RopeIdeal_RopeReferenceIdeal := by
  intro m g m' g' _ hag
  refine ⟨fun c => (dats m 0 c).arrAt 5 cfg0.N, fun c => (dats m 0 c).arrAt 6 cfg0.N, fun c => (dats m 0 c).arrAt 7 cfg0.N, Cert.RopeIdeal.Value.run_blocks m g, ?_⟩
  refine (θ_run _ _ _).mono (fun r h c => ?_) (Cert.RopeReferenceIdeal.Value.run m' g')
  obtain ⟨h0, h1, h2, h3⟩ := h c
  obtain ⟨hq, hk, hv, hp⟩ := hag c
  rw [Cert.RopeReferenceIdeal.Read.val_main_v97_eq, hq, hp] at h0
  rw [Cert.RopeReferenceIdeal.Read.val_main_v98_eq, hk, hv] at h1
  rw [Cert.RopeReferenceIdeal.Read.val_main_v99_eq, hk, hp] at h2
  refine ⟨h0.trans ?_, h1.trans ?_, h2.trans ?_, h3⟩
  · refine Eq.trans ?_ (Kernel.final5 m c).symm
    funext y
    obtain ⟨I, e, rfl⟩ : ∃ I e, y = ix2 I e := ⟨_, _, eq_ix2 y⟩
    exact Ref.v97 _ _ I e
  · refine Eq.trans ?_ (Kernel.final6 m c).symm
    funext y
    obtain ⟨I, e, rfl⟩ : ∃ I e, y = ix2 I e := ⟨_, _, eq_ix2 y⟩
    exact Ref.v98 _ _ I e
  · refine Eq.trans ?_ (Kernel.final7 m c).symm
    funext y
    obtain ⟨I, e, rfl⟩ : ∃ I e, y = ix2 I e := ⟨_, _, eq_ix2 y⟩
    exact Ref.v99 _ _ I e

end Cert.RopeClaim

end
-- ==== Proof.NormKv.lean ====
/- The gradient of the keys and values' norm (`l0_kv_norm_bwd`): what the kernel writes, the weight's gradient summed over the
   blocks of rows, what the reference computes, and that they agree at finite arguments. -/
module

public import proofs.«01_k».proof.Defs
public import proofs.«01_k».proof.Proof.Rows
public import proofs.«01_k».proof.Proof.NormMath
public import proofs.«01_k».proof.Proof.GateOdd
public import proofs.«01_k».proof.Proof.Gen.NormKvIdeal.Value
public import proofs.«01_k».proof.Proof.Gen.NormKvReferenceIdeal.Run
public import proofs.«01_k».proof.Proof.Gen.NormKvReferenceIdeal.Read
public import proofs.«01_k».proof.Proof.Gen.Pre_pre_kvnorm
public import Idealize.ShloMosaic.Lib.Pointwise
public import Idealize.ShloMosaic.Lib.Tactic

@[expose] public section

set_option maxRecDepth 16384

noncomputable section

namespace Cert.NormKvClaim

/-- The row's length as the programs' constant. -/
abbrev len : EReal := Idealize.ShloMosaic.Ideal.ofBits .f32 1124073472#32
theorem len_real : len = ((128 : ℝ) : EReal) := by
  simp [len, Idealize.ShloMosaic.Ideal.ofBits, Idealize.ShloMosaic.Ideal.ieee]
  rw [← EReal.coe_mul]
  norm_num

namespace Kernel

open Idealize.ShloMosaic Idealize.ShloMosaic.TcCoe Idealize.ShloMosaic.Tactic Idealize.SL.Sem
open Cert.NormKvIdeal Cert.NormKvIdeal.Gen Cert.NormMath

/-- The block of the gradient, at an entry. -/
theorem dx_apply (dy x : Vec Ideal S512x128 .f32) (g : Vec Ideal S1x128 .f32) (p : Fin 512) (j : Fin 128) :
    (k0_pay1 (k0_pay6 dy x g) (ix2 p j) : EReal) = dX len (row x p) (scaled dy g p) j := by
  unfold k0_pay1 k0_pay6 k0_pay5 k0_pay4 k0_pay3 dX NormMath.inv var eps row scaled
  pointwise

/-- The weight's gradient after a block: what it was, and the block's rows. -/
theorem dg_apply (dy x : Vec Ideal S512x128 .f32) (a : Vec Ideal S1x128 .f32) (j : Fin 128) :
    (k0_pay7 dy x a (ix2 0 j) : EReal) = a (ix2 0 j) + ∑ p : Fin 512, dG len x dy j p := by
  unfold k0_pay7 k0_pay5 k0_pay4 k0_pay3 dG NormMath.inv var eps row
  pointwise

theorem zero_apply (i : S1x128.Idx) : (k0_pay2 (F := Ideal) i : EReal) = 0 := by
  unfold k0_pay2
  pointwise

theorem origin : (![0, 0] : Fin 2 → Nat) = fun _ => 0 := funext fun a => by fin_cases a <;> rfl

section
variable {F : FTy → Type} [FloatOps F]
variable (c : Dev nD) (i : grid0.Coords) (a1 : Memref sig .tc .vmem S512x128 .f32) (h1 : a1.IsWhole)
  (a2 : Memref sig .tc .vmem S1x128 .f32) (h2 : a2.IsWhole) (a3 : Memref sig .tc .vmem S512x128 .f32) (h3 : a3.IsWhole)
  (a4 : Memref sig .tc .vmem S512x128 .bf16) (h4 : a4.IsWhole) (a5 : Memref sig .tc .vmem S1x128 .f32) (h5 : a5.IsWhole)
  (x0 : Vec F S512x128 .f32) (x1 : Vec F S1x128 .f32) (x2 : Vec F S512x128 .f32) (xo : Vec F S1x128 .f32)

/-- What the body leaves: the gradient's block, and the weight's gradient started from zero or from what was there. -/
theorem dx_A (hc : cond0_0 i) : out0_A_3 c i a1 h1 a2 h2 a3 h3 a4 h4 a5 h5 hc x0 x1 x2 = k0_pay1 (k0_pay6 x2 x0 x1) := by
  unfold out0_A_3
  rw [View.read_writes_eq_canon _ _ _ (cover0_A_3 c i a1 h1 a2 h2 a3 h3 a4 h4 a5 h5 hc x0 x1 x2)]
  unfold kernelRun0_A
  dsimp only
  sl_unfold_words
  rw [View.canon_cons_unit_zero (S := S512x128) origin]
  simp only [View.readAt_eq_ld, h1.read_unread, h2.read_unread, h3.read_unread, View.ld_unit_zero (S := S512x128) origin, View.ld_unit_zero (S := S1x128) origin]
theorem dg_A (hc : cond0_0 i) : out0_A_4 c i a1 h1 a2 h2 a3 h3 a4 h4 a5 h5 hc x0 x1 x2 = k0_pay7 x2 x0 k0_pay2 := by
  unfold out0_A_4
  rw [View.read_writes_eq_canon _ _ _ (cover0_A_4 c i a1 h1 a2 h2 a3 h3 a4 h4 a5 h5 hc x0 x1 x2)]
  unfold kernelRun0_A
  dsimp only
  sl_unfold_words
  rw [View.canon_cons_unit_zero (S := S1x128) origin]
  simp only [View.readAt_eq_ld, h1.read_unread, h2.read_unread, h3.read_unread, View.ld_unit_zero (S := S512x128) origin, View.ld_unit_zero (S := S1x128) origin,
    View.readCov_unit_zero (S := S1x128) _ origin]
theorem dx_B (hc : ¬cond0_0 i) : out0_B_3 c i a1 h1 a2 h2 a3 h3 a4 h4 a5 h5 hc x0 x1 x2 xo = k0_pay1 (k0_pay6 x2 x0 x1) := by
  unfold out0_B_3
  rw [View.read_writes_eq_canon _ _ _ (cover0_B_3 c i a1 h1 a2 h2 a3 h3 a4 h4 a5 h5 hc x0 x1 x2 xo)]
  unfold kernelRun0_B
  dsimp only
  sl_unfold_words
  rw [View.canon_cons_unit_zero (S := S512x128) origin]
  simp only [View.readAt_eq_ld, h1.read_unread, h2.read_unread, h3.read_unread, View.ld_unit_zero (S := S512x128) origin, View.ld_unit_zero (S := S1x128) origin]
theorem dg_B (hc : ¬cond0_0 i) : out0_B_4 c i a1 h1 a2 h2 a3 h3 a4 h4 a5 h5 hc x0 x1 x2 xo = k0_pay7 x2 x0 xo := by
  unfold out0_B_4
  rw [View.read_writes_eq_canon _ _ _ (cover0_B_4 c i a1 h1 a2 h2 a3 h3 a4 h4 a5 h5 hc x0 x1 x2 xo)]
  unfold kernelRun0_B
  dsimp only
  sl_unfold_words
  rw [View.canon_cons_unit_zero (S := S1x128) origin]
  simp only [View.readAt_eq_ld, h1.read_unread, h2.read_unread, h3.read_unread, h5.read_unread, View.ld_unit_zero (S := S512x128) origin, View.ld_unit_zero (S := S1x128) origin]
end

variable (m : (ℓ : Loc nD τ sig) → Buf (Elt Ideal) ℓ) (c : Dev nD)

/-- The arguments on a device. -/
def argX : Arr 4096 128 := (m ((c : Thread nD τ).loc main_arg0) : S4096x128.Idx → EReal)
def argG : Arr 1 128 := (m ((c : Thread nD τ).loc main_arg1) : S1x128.Idx → EReal)
def argY : Arr 4096 128 := (m ((c : Thread nD τ).loc main_arg2) : S4096x128.Idx → EReal)

/-- The argument with columns on both sides, as the kernel reads it. -/
theorem V0 : V m c main_v0 = pad S4096x1536 ![0, 1280] ![0, 128] ![0, 0] (argX m c : FVec Ideal S4096x128 .f32)
    (sitofp .f32 (constantI S_ 32 0#32) : FVec Ideal S_ .f32) pads_S4096x128_S4096x1536_000_12801280 h_S_ := by
  dsimp only [V, List.flatten, List.append]; after_results; rfl

theorem index0 : ∀ t : Fin cfg0.N, win0_0.index t 0 = t.val ∧ win0_0.index t 1 = 10 := (by decide +kernel : ∀ t : Fin grid0.N, _)
theorem index1 : ∀ t : Fin cfg0.N, win0_1.index t 0 = 0 ∧ win0_1.index t 1 = 0 := (by decide +kernel : ∀ t : Fin grid0.N, _)
theorem index2 : ∀ t : Fin cfg0.N, win0_2.index t 0 = t.val ∧ win0_2.index t 1 = 0 := (by decide +kernel : ∀ t : Fin grid0.N, _)
theorem index3 : ∀ t : Fin cfg0.N, win0_3.index t 0 = t.val ∧ win0_3.index t 1 = 0 := (by decide +kernel : ∀ t : Fin grid0.N, _)
theorem index4 : ∀ t : Fin cfg0.N, win0_4.index t 0 = 0 ∧ win0_4.index t 1 = 0 := (by decide +kernel : ∀ t : Fin grid0.N, _)

/-- The blocks at a point are the rows of the arguments. -/
theorem blk0 (t : Fin cfg0.N) (p : Fin 512) (j : Fin 128) : (iblk m c 0 t (ix2 p j) : EReal) = argX m c (ix2 (Rows.row N_0 t p) j) := by
  unfold iblk; rw [View.read_apply]; show V m c main_v0 _ = _; rw [V0]
  refine pad_apply_of_inside _ _ _ _ _ _ _ _ (ix2 (Rows.row N_0 t p) j) fun a => ?_
  match a with
  | ⟨0, _⟩ => exact (Rows.coord (B := 512) (p := p.val) (index0 t).1 rfl).trans (by show t.val * 512 + p.val = 0 + (t.val * 512 + p.val) * (0 + 1); omega)
  | ⟨1, _⟩ => exact (Rows.coord (B := 128) (p := j.val) (index0 t).2 rfl).trans (by show 10 * 128 + j.val = 1280 + j.val * (0 + 1); omega)
theorem blk1 (t : Fin cfg0.N) (j : Fin 128) : (iblk m c 1 t (ix2 0 j) : EReal) = argG m c (ix2 0 j) := by
  unfold iblk; rw [View.read_apply]; show V m c main_arg1 _ = _; rw [V_main_arg1]
  exact Rows.at_block (argG m c) _ (0 : Fin 1) j 0 ![win0_1.index t 0, win0_1.index t 1] (index1 t) (by norm_num) rfl rfl
theorem blk2 (t : Fin cfg0.N) (p : Fin 512) (j : Fin 128) : (iblk m c 2 t (ix2 p j) : EReal) = argY m c (ix2 (Rows.row N_0 t p) j) := by
  unfold iblk; rw [View.read_apply]; show V m c main_arg2 _ = _; rw [V_main_arg2]
  exact Rows.at_block (argY m c) _ p j t.val ![win0_2.index t 0, win0_2.index t 1] (index2 t) _ rfl rfl

theorem rowX (t : Fin cfg0.N) (p : Fin 512) : row (iblk m c 0 t) p = row (argX m c) (Rows.row N_0 t p) := funext fun k => blk0 m c t p k
theorem rowY (t : Fin cfg0.N) (p : Fin 512) : scaled (iblk m c 2 t) (iblk m c 1 t) p = scaled (argY m c) (argG m c) (Rows.row N_0 t p) :=
  funext fun k => congrArg₂ (· * ·) (blk2 m c t p k) (blk1 m c t k)
theorem rowG (t : Fin cfg0.N) (p : Fin 512) (j : Fin 128) : dG len (iblk m c 0 t) (iblk m c 2 t) j p = dG len (argX m c) (argY m c) j (Rows.row N_0 t p) := by
  unfold dG
  rw [rowX]
  exact congrArg₂ (· * ·) (blk2 m c t p j) (congrArg (· * _) (blk0 m c t p j))

/-- The two results' contents. -/
def G3 : Buf (Elt Ideal) ((c : Thread nD τ).loc main_v1_0) := fun y : S4096x128.Idx => dX len (row (argX m c) (y 0)) (scaled (argY m c) (argG m c) (y 0)) (y 1)
def G4 : Buf (Elt Ideal) ((c : Thread nD τ).loc main_v1_1) := fun y : S1x128.Idx => (∑ I : Fin 4096, dG len (argX m c) (argY m c) (y 1) I : EReal)

theorem dx_eq (t : Fin cfg0.N) (p : Fin 512) (j : Fin 128) :
    (k0_pay1 (k0_pay6 (iblk m c 2 t) (iblk m c 0 t) (iblk m c 1 t)) (ix2 p j) : EReal)
      = dX len (row (argX m c) (Rows.row N_0 t p)) (scaled (argY m c) (argG m c) (Rows.row N_0 t p)) j := by
  refine (dx_apply _ _ _ p j).trans ?_
  rw [rowX, rowY]

theorem out3 (t : Fin cfg0.N) (p : Fin 512) (j : Fin 128) : ((outsAt0 m c t.val t.isLt).1 (ix2 p j) : EReal)
    = dX len (row (argX m c) (Rows.row N_0 t p)) (scaled (argY m c) (argG m c) (Rows.row N_0 t p)) j := by
  by_cases h : t.val % 8 = 0
  · rw [outsAt0_A m c t h]; dsimp only; rw [dx_A]; exact dx_eq m c t p j
  · rw [outsAt0_B m c t h]; dsimp only; rw [dx_B]; exact dx_eq m c t p j

/-- The weight's gradient after the last point: all rows' sum. -/
theorem out4 (n : ℕ) (h : n < cfg0.N) (h7 : n = 7) (j : Fin 128) : ((outsAt0 m c n h).2 (ix2 0 j) : EReal) = ∑ I : Fin 4096, dG len (argX m c) (argY m c) j I := by
  refine Rows.accumulate N_0 (dG len (argX m c) (argY m c) j) (fun n h => ((outsAt0 m c n h).2 (ix2 0 j) : EReal)) (fun h0 => ?_) (fun k hk => ?_) n h h7
  · refine (congrArg (fun o => (o.2 (ix2 0 j) : EReal)) (outsAt0_A m c ⟨0, h0⟩ rfl)).trans ?_
    dsimp only
    rw [dg_A]
    refine (dg_apply _ _ _ j).trans ?_
    rw [zero_apply, zero_add]
    exact Finset.sum_congr rfl fun p _ => rowG m c ⟨0, h0⟩ p j
  · have hB : ¬(⟨k + 1, hk⟩ : Fin cfg0.N).val % 8 = 0 := by have := hk.trans_eq N_0; dsimp only; omega
    refine (congrArg (fun o => (o.2 (ix2 0 j) : EReal)) (outsAt0_B m c ⟨k + 1, hk⟩ hB)).trans ?_
    dsimp only
    rw [dg_B]
    refine (dg_apply _ _ _ j).trans ?_
    exact congrArg₂ (· + ·) rfl (Finset.sum_congr rfl fun p _ => rowG m c ⟨k + 1, hk⟩ p j)

theorem final3 : (dats m 0 c).arrAt 3 cfg0.N = G3 m c := by
  refine (dats m 0 c).arrAt_eq_of_cover 3 (G3 m c) (fun t _ => ?_) fun (y : S4096x128.Idx) => ?_
  · rw [Value.flushed3]
    funext x
    obtain ⟨p, e, rfl⟩ : ∃ p e, x = (ix2 p e : S512x128.Idx) := ⟨_, _, eq_ix2 x⟩
    refine (out3 m c t p e).trans ?_
    rw [View.read_apply]
    exact Rows.entry (fun I j => dX len (row (argX m c) I) (scaled (argY m c) (argG m c) I) j) p e t.val ![win0_3.index t 0, win0_3.index t 1] (index3 t) _ _ _
  · obtain ⟨t, ht⟩ := Rows.cover N_0 (show Fin 4096 from y 0)
    obtain ⟨i0, i1⟩ := index3 t
    refine ⟨t, flush0_3 t, ?_⟩
    show y ∈ ((View.whole main_v1_0).slice (win0_3.rect t)).set
    rw [View.set_slice_whole, Rect.mem_set_unit]
    intro b
    match b with
    | ⟨0, _⟩ => exact Rows.bounds i0 ht
    | ⟨1, _⟩ => exact Rows.bounds_zero i1 (y 1).isLt

theorem final4 : (dats m 0 c).arrAt 4 cfg0.N = G4 m c := by
  have hN : cfg0.N = 8 := N_0
  refine (dats m 0 c).arrAt_eq_of_cover 4 (G4 m c) (fun t ht => ?_) fun (y : S1x128.Idx) => ?_
  · have h7 : t.val = 7 := by have := (flush0_4 t).mp ht; have := t.isLt; omega
    rw [Value.flushed4]
    funext x
    obtain ⟨p, e, rfl⟩ : ∃ p e, x = (ix2 p e : S1x128.Idx) := ⟨_, _, eq_ix2 x⟩
    obtain rfl : p = 0 := Subsingleton.elim _ _
    refine (out4 m c t.val t.isLt h7 e).trans ?_
    rw [View.read_apply]
    exact congrArg (fun q => ∑ I : Fin 4096, dG len (argX m c) (argY m c) q I) (Fin.ext (Rows.coord_zero (B := 128) (p := e.val) (index4 t).2 rfl).symm)
  · have h7 : 7 < cfg0.N := by omega
    obtain ⟨i0, i1⟩ := index4 ⟨7, h7⟩
    refine ⟨⟨7, h7⟩, (flush0_4 _).mpr rfl, ?_⟩
    show y ∈ ((View.whole main_v1_1).slice (win0_4.rect ⟨7, h7⟩)).set
    rw [View.set_slice_whole, Rect.mem_set_unit]
    intro b
    match b with
    | ⟨0, _⟩ => exact Rows.bounds_zero i0 (y 0).isLt
    | ⟨1, _⟩ => exact Rows.bounds_zero i1 (y 1).isLt

end Kernel

namespace Ref

open Idealize.ShloMosaic Idealize.ShloMosaic.Tactic
open Cert.NormKvReferenceIdeal Cert.NormKvReferenceIdeal.Read Cert.NormMath

/-- The reference's gradient, at finite arguments. -/
theorem dx (x0 : Arr 4096 128) (x1 : Arr 1 128) (x2 : Arr 4096 128) (h0 : ∀ i, ∃ r : ℝ, x0 i = r) (h1 : ∀ i, ∃ r : ℝ, x1 i = r)
    (h2 : ∀ i, ∃ r : ℝ, x2 i = r) (I : Fin 4096) (j : Fin 128) :
    (val_main_v38 (F := Ideal) x0 x1 x2 (ix2 I j) : EReal) = dX len (row x0 I) (scaled x2 x1 I) j := by
  choose a ha using h0
  choose g hg using h1
  choose b hb using h2
  rw [len_real, ← rule (row x0 I) (scaled x2 x1 I) 128 (by norm_num) (fun k => a (ix2 I k)) (fun k => b (ix2 I k) * g (ix2 0 k)) j (fun k => ha _)
    (fun k => by unfold scaled; rw [hb, hg, EReal.coe_mul]), ← len_real]
  unfold half NormMath.inv var eps mhalf row scaled
  unfold val_main_v38 val_main_v36 val_main_v35 val_main_v34 val_main_v33 val_main_v32 val_main_v31 val_main_cst_7 val_main_v30 val_main_v29 val_main_cst_6 val_main_v28 val_main_v27 val_main_v26 val_main_v25 val_main_v24 val_main_cst_5 val_main_v23 val_main_v21 val_main_v20 val_main_v14 val_main_v11 val_main_v10 val_main_cst_2 val_main_v9 val_main_v8 val_main_v7 val_main_v6 val_main_cst_1 val_main_v5 val_main_v4 val_main_cst_0 val_main_v3 val_main_v2 val_main_cst val_main_v1 val_main_v0
  pointwise
  simp only [Finset.univ_unique, Finset.sum_singleton]

/-- The reference's gradient of the weight. -/
theorem dg (x0 x2 : Arr 4096 128) (j : Fin 128) : (val_main_v37 (F := Ideal) x0 x2 (ix2 0 j) : EReal) = ∑ I : Fin 4096, dG len x0 x2 j I := by
  unfold dG NormMath.inv var eps row
  unfold val_main_v37 val_main_v22 val_main_cst_4 val_main_v19 val_main_v18 val_main_cst_3 val_main_v17 val_main_v13 val_main_v12 val_main_v8 val_main_v7 val_main_v6 val_main_cst_1 val_main_v5 val_main_v4 val_main_cst_0 val_main_v3 val_main_v2 val_main_cst val_main_v1
  pointwise
  rw [Fin.sum_univ_one]
  exact Finset.sum_congr rfl fun I _ => mul_comm _ _

end Ref

open Idealize.ShloMosaic Idealize.ShloMosaic.TcCoe Idealize.SL.Sem
open Cert.FoxClaim (and_one)
open Cert.GateOddClaim (real_of)

/-- The precondition read entry by entry: the three arguments are finite. -/
theorem finite [Cert.Pre_pre_kvnorm.Facts] (m : (ℓ : Loc Cert.NormKvIdeal.nD Cert.NormKvIdeal.τ Cert.NormKvIdeal.sig) → Buf (Elt Ideal) ℓ)
    (h : Cert.Pre_NormKvIdeal_pre_kvnorm m) (c : Dev Cert.NormKvIdeal.nD) :
    (∀ i, ∃ r : ℝ, Kernel.argX m c i = r) ∧ (∀ i, ∃ r : ℝ, Kernel.argG m c i = r) ∧ (∀ i, ∃ r : ℝ, Kernel.argY m c i = r) := by
  have h0 := congrFun (h c) ix0
  obtain ⟨h01, h2⟩ := and_one (show _ &&& _ = 1#1 from h0)
  obtain ⟨h0, h1⟩ := and_one (show _ &&& _ = 1#1 from h01)
  exact ⟨real_of _ fun i => Cert.Finite.of_abs_lt _ (Host.reduce_andi_all _ _ _ _ _ h0 i), real_of _ fun i => Cert.Finite.of_abs_lt _ (Host.reduce_andi_all _ _ _ _ _ h1 i),
    real_of _ fun i => Cert.Finite.of_abs_lt _ (Host.reduce_andi_all _ _ _ _ _ h2 i)⟩

open Cert.NormKvIdeal Cert.NormKvIdeal.Gen in
/-- Both gradients are the reference's, from memories that agree on finite arguments. -/
theorem value [Cert.Pre_pre_kvnorm.Facts] : Cert.algebraic_NormKvIdeal_NormKvReferenceIdeal_pre_pre_kvnorm := by
  intro m g m' g' hpre hag
  refine ⟨fun c => (dats m 0 c).arrAt 3 cfg0.N, fun c => (dats m 0 c).arrAt 4 cfg0.N, Cert.NormKvIdeal.Value.run_blocks m g, ?_⟩
  refine (θ_run _ _ _).mono (fun r h c => ?_) (Cert.NormKvReferenceIdeal.Value.run m' g')
  obtain ⟨h0, h1, h2⟩ := h c
  obtain ⟨hx, hg, hy⟩ := hag c
  obtain ⟨f0, f1, f2⟩ := finite m hpre c
  rw [Cert.NormKvReferenceIdeal.Read.val_main_v38_eq, hx, hg, hy] at h0
  rw [Cert.NormKvReferenceIdeal.Read.val_main_v37_eq, hx, hy] at h1
  refine ⟨h0.trans ?_, h1.trans ?_, h2⟩
  · refine Eq.trans ?_ (Kernel.final3 m c).symm
    funext y
    obtain ⟨I, e, rfl⟩ : ∃ I e, y = ix2 I e := ⟨_, _, eq_ix2 y⟩
    exact Ref.dx _ _ _ f0 f1 f2 I e
  · refine Eq.trans ?_ (Kernel.final4 m c).symm
    funext y
    obtain ⟨I, e, rfl⟩ : ∃ I e, y = ix2 I e := ⟨_, _, eq_ix2 y⟩
    obtain rfl : I = 0 := Subsingleton.elim _ _
    exact Ref.dg _ _ e

end Cert.NormKvClaim

end
-- ==== Proof.NormQ.lean ====
/- The gradient of the queries' norm (`l0_q_norm_bwd`): what the kernel writes, the weight's gradient summed over the
   blocks of rows, what the reference computes, and that they agree at finite arguments. -/
module

public import proofs.«01_k».proof.Defs
public import proofs.«01_k».proof.Proof.Rows
public import proofs.«01_k».proof.Proof.NormMath
public import proofs.«01_k».proof.Proof.GateOdd
public import proofs.«01_k».proof.Proof.Gen.NormQIdeal.Value
public import proofs.«01_k».proof.Proof.Gen.NormQReferenceIdeal.Run
public import proofs.«01_k».proof.Proof.Gen.NormQReferenceIdeal.Read
public import proofs.«01_k».proof.Proof.Gen.Pre_pre_qnorm
public import Idealize.ShloMosaic.Lib.Pointwise
public import Idealize.ShloMosaic.Lib.Tactic

@[expose] public section

set_option maxRecDepth 16384

noncomputable section

namespace Cert.NormQClaim

/-- The row's length as the programs' constant. -/
abbrev len : EReal := Idealize.ShloMosaic.Ideal.ofBits .f32 1132462080#32
theorem len_real : len = ((256 : ℝ) : EReal) := by
  simp [len, Idealize.ShloMosaic.Ideal.ofBits, Idealize.ShloMosaic.Ideal.ieee]
  rw [← EReal.coe_mul]
  norm_num

namespace Kernel

open Idealize.ShloMosaic Idealize.ShloMosaic.TcCoe Idealize.ShloMosaic.Tactic Idealize.SL.Sem
open Cert.NormQIdeal Cert.NormQIdeal.Gen Cert.NormMath

/-- The block of the gradient, at an entry. -/
theorem dx_apply (dy x : Vec Ideal S512x256 .f32) (g : Vec Ideal S1x256 .f32) (p : Fin 512) (j : Fin 256) :
    (k0_pay1 (k0_pay6 dy x g) (ix2 p j) : EReal) = dX len (row x p) (scaled dy g p) j := by
  unfold k0_pay1 k0_pay6 k0_pay5 k0_pay4 k0_pay3 dX NormMath.inv var eps row scaled
  pointwise

/-- The weight's gradient after a block: what it was, and the block's rows. -/
theorem dg_apply (dy x : Vec Ideal S512x256 .f32) (a : Vec Ideal S1x256 .f32) (j : Fin 256) :
    (k0_pay7 dy x a (ix2 0 j) : EReal) = a (ix2 0 j) + ∑ p : Fin 512, dG len x dy j p := by
  unfold k0_pay7 k0_pay5 k0_pay4 k0_pay3 dG NormMath.inv var eps row
  pointwise

theorem zero_apply (i : S1x256.Idx) : (k0_pay2 (F := Ideal) i : EReal) = 0 := by
  unfold k0_pay2
  pointwise

theorem origin : (![0, 0] : Fin 2 → Nat) = fun _ => 0 := funext fun a => by fin_cases a <;> rfl

section
variable {F : FTy → Type} [FloatOps F]
variable (c : Dev nD) (i : grid0.Coords) (a1 : Memref sig .tc .vmem S512x256 .f32) (h1 : a1.IsWhole)
  (a2 : Memref sig .tc .vmem S1x256 .f32) (h2 : a2.IsWhole) (a3 : Memref sig .tc .vmem S512x256 .f32) (h3 : a3.IsWhole)
  (a4 : Memref sig .tc .vmem S512x256 .bf16) (h4 : a4.IsWhole) (a5 : Memref sig .tc .vmem S1x256 .f32) (h5 : a5.IsWhole)
  (x0 : Vec F S512x256 .f32) (x1 : Vec F S1x256 .f32) (x2 : Vec F S512x256 .f32) (xo : Vec F S1x256 .f32)

/-- What the body leaves: the gradient's block, and the weight's gradient started from zero or from what was there. -/
theorem dx_A (hc : cond0_0 i) : out0_A_3 c i a1 h1 a2 h2 a3 h3 a4 h4 a5 h5 hc x0 x1 x2 = k0_pay1 (k0_pay6 x2 x0 x1) := by
  unfold out0_A_3
  rw [View.read_writes_eq_canon _ _ _ (cover0_A_3 c i a1 h1 a2 h2 a3 h3 a4 h4 a5 h5 hc x0 x1 x2)]
  unfold kernelRun0_A
  dsimp only
  sl_unfold_words
  rw [View.canon_cons_unit_zero (S := S512x256) origin]
  simp only [View.readAt_eq_ld, h1.read_unread, h2.read_unread, h3.read_unread, View.ld_unit_zero (S := S512x256) origin, View.ld_unit_zero (S := S1x256) origin]
theorem dg_A (hc : cond0_0 i) : out0_A_4 c i a1 h1 a2 h2 a3 h3 a4 h4 a5 h5 hc x0 x1 x2 = k0_pay7 x2 x0 k0_pay2 := by
  unfold out0_A_4
  rw [View.read_writes_eq_canon _ _ _ (cover0_A_4 c i a1 h1 a2 h2 a3 h3 a4 h4 a5 h5 hc x0 x1 x2)]
  unfold kernelRun0_A
  dsimp only
  sl_unfold_words
  rw [View.canon_cons_unit_zero (S := S1x256) origin]
  simp only [View.readAt_eq_ld, h1.read_unread, h2.read_unread, h3.read_unread, View.ld_unit_zero (S := S512x256) origin, View.ld_unit_zero (S := S1x256) origin,
    View.readCov_unit_zero (S := S1x256) _ origin]
theorem dx_B (hc : ¬cond0_0 i) : out0_B_3 c i a1 h1 a2 h2 a3 h3 a4 h4 a5 h5 hc x0 x1 x2 xo = k0_pay1 (k0_pay6 x2 x0 x1) := by
  unfold out0_B_3
  rw [View.read_writes_eq_canon _ _ _ (cover0_B_3 c i a1 h1 a2 h2 a3 h3 a4 h4 a5 h5 hc x0 x1 x2 xo)]
  unfold kernelRun0_B
  dsimp only
  sl_unfold_words
  rw [View.canon_cons_unit_zero (S := S512x256) origin]
  simp only [View.readAt_eq_ld, h1.read_unread, h2.read_unread, h3.read_unread, View.ld_unit_zero (S := S512x256) origin, View.ld_unit_zero (S := S1x256) origin]
theorem dg_B (hc : ¬cond0_0 i) : out0_B_4 c i a1 h1 a2 h2 a3 h3 a4 h4 a5 h5 hc x0 x1 x2 xo = k0_pay7 x2 x0 xo := by
  unfold out0_B_4
  rw [View.read_writes_eq_canon _ _ _ (cover0_B_4 c i a1 h1 a2 h2 a3 h3 a4 h4 a5 h5 hc x0 x1 x2 xo)]
  unfold kernelRun0_B
  dsimp only
  sl_unfold_words
  rw [View.canon_cons_unit_zero (S := S1x256) origin]
  simp only [View.readAt_eq_ld, h1.read_unread, h2.read_unread, h3.read_unread, h5.read_unread, View.ld_unit_zero (S := S512x256) origin, View.ld_unit_zero (S := S1x256) origin]
end

variable (m : (ℓ : Loc nD τ sig) → Buf (Elt Ideal) ℓ) (c : Dev nD)

/-- The arguments on a device. -/
def argX : Arr 4096 256 := (m ((c : Thread nD τ).loc main_arg0) : S4096x256.Idx → EReal)
def argG : Arr 1 256 := (m ((c : Thread nD τ).loc main_arg1) : S1x256.Idx → EReal)
def argY : Arr 4096 256 := (m ((c : Thread nD τ).loc main_arg2) : S4096x256.Idx → EReal)

/-- The argument with columns on both sides, as the kernel reads it. -/
theorem V0 : V m c main_v0 = pad S4096x1536 ![0, 1024] ![0, 256] ![0, 0] (argX m c : FVec Ideal S4096x256 .f32)
    (sitofp .f32 (constantI S_ 32 0#32) : FVec Ideal S_ .f32) pads_S4096x256_S4096x1536_000_10242560 h_S_ := by
  dsimp only [V, List.flatten, List.append]; after_results; rfl

theorem index0 : ∀ t : Fin cfg0.N, win0_0.index t 0 = t.val ∧ win0_0.index t 1 = 4 := (by decide +kernel : ∀ t : Fin grid0.N, _)
theorem index1 : ∀ t : Fin cfg0.N, win0_1.index t 0 = 0 ∧ win0_1.index t 1 = 0 := (by decide +kernel : ∀ t : Fin grid0.N, _)
theorem index2 : ∀ t : Fin cfg0.N, win0_2.index t 0 = t.val ∧ win0_2.index t 1 = 0 := (by decide +kernel : ∀ t : Fin grid0.N, _)
theorem index3 : ∀ t : Fin cfg0.N, win0_3.index t 0 = t.val ∧ win0_3.index t 1 = 0 := (by decide +kernel : ∀ t : Fin grid0.N, _)
theorem index4 : ∀ t : Fin cfg0.N, win0_4.index t 0 = 0 ∧ win0_4.index t 1 = 0 := (by decide +kernel : ∀ t : Fin grid0.N, _)

/-- The blocks at a point are the rows of the arguments. -/
theorem blk0 (t : Fin cfg0.N) (p : Fin 512) (j : Fin 256) : (iblk m c 0 t (ix2 p j) : EReal) = argX m c (ix2 (Rows.row N_0 t p) j) := by
  unfold iblk; rw [View.read_apply]; show V m c main_v0 _ = _; rw [V0]
  refine pad_apply_of_inside _ _ _ _ _ _ _ _ (ix2 (Rows.row N_0 t p) j) fun a => ?_
  match a with
  | ⟨0, _⟩ => exact (Rows.coord (B := 512) (p := p.val) (index0 t).1 rfl).trans (by show t.val * 512 + p.val = 0 + (t.val * 512 + p.val) * (0 + 1); omega)
  | ⟨1, _⟩ => exact (Rows.coord (B := 256) (p := j.val) (index0 t).2 rfl).trans (by show 4 * 256 + j.val = 1024 + j.val * (0 + 1); omega)
theorem blk1 (t : Fin cfg0.N) (j : Fin 256) : (iblk m c 1 t (ix2 0 j) : EReal) = argG m c (ix2 0 j) := by
  unfold iblk; rw [View.read_apply]; show V m c main_arg1 _ = _; rw [V_main_arg1]
  exact Rows.at_block (argG m c) _ (0 : Fin 1) j 0 ![win0_1.index t 0, win0_1.index t 1] (index1 t) (by norm_num) rfl rfl
theorem blk2 (t : Fin cfg0.N) (p : Fin 512) (j : Fin 256) : (iblk m c 2 t (ix2 p j) : EReal) = argY m c (ix2 (Rows.row N_0 t p) j) := by
  unfold iblk; rw [View.read_apply]; show V m c main_arg2 _ = _; rw [V_main_arg2]
  exact Rows.at_block (argY m c) _ p j t.val ![win0_2.index t 0, win0_2.index t 1] (index2 t) _ rfl rfl

theorem rowX (t : Fin cfg0.N) (p : Fin 512) : row (iblk m c 0 t) p = row (argX m c) (Rows.row N_0 t p) := funext fun k => blk0 m c t p k
theorem rowY (t : Fin cfg0.N) (p : Fin 512) : scaled (iblk m c 2 t) (iblk m c 1 t) p = scaled (argY m c) (argG m c) (Rows.row N_0 t p) :=
  funext fun k => congrArg₂ (· * ·) (blk2 m c t p k) (blk1 m c t k)
theorem rowG (t : Fin cfg0.N) (p : Fin 512) (j : Fin 256) : dG len (iblk m c 0 t) (iblk m c 2 t) j p = dG len (argX m c) (argY m c) j (Rows.row N_0 t p) := by
  unfold dG
  rw [rowX]
  exact congrArg₂ (· * ·) (blk2 m c t p j) (congrArg (· * _) (blk0 m c t p j))

/-- The two results' contents. -/
def G3 : Buf (Elt Ideal) ((c : Thread nD τ).loc main_v1_0) := fun y : S4096x256.Idx => dX len (row (argX m c) (y 0)) (scaled (argY m c) (argG m c) (y 0)) (y 1)
def G4 : Buf (Elt Ideal) ((c : Thread nD τ).loc main_v1_1) := fun y : S1x256.Idx => (∑ I : Fin 4096, dG len (argX m c) (argY m c) (y 1) I : EReal)

theorem dx_eq (t : Fin cfg0.N) (p : Fin 512) (j : Fin 256) :
    (k0_pay1 (k0_pay6 (iblk m c 2 t) (iblk m c 0 t) (iblk m c 1 t)) (ix2 p j) : EReal)
      = dX len (row (argX m c) (Rows.row N_0 t p)) (scaled (argY m c) (argG m c) (Rows.row N_0 t p)) j := by
  refine (dx_apply _ _ _ p j).trans ?_
  rw [rowX, rowY]

theorem out3 (t : Fin cfg0.N) (p : Fin 512) (j : Fin 256) : ((outsAt0 m c t.val t.isLt).1 (ix2 p j) : EReal)
    = dX len (row (argX m c) (Rows.row N_0 t p)) (scaled (argY m c) (argG m c) (Rows.row N_0 t p)) j := by
  by_cases h : t.val % 8 = 0
  · rw [outsAt0_A m c t h]; dsimp only; rw [dx_A]; exact dx_eq m c t p j
  · rw [outsAt0_B m c t h]; dsimp only; rw [dx_B]; exact dx_eq m c t p j

/-- The weight's gradient after the last point: all rows' sum. -/
theorem out4 (n : ℕ) (h : n < cfg0.N) (h7 : n = 7) (j : Fin 256) : ((outsAt0 m c n h).2 (ix2 0 j) : EReal) = ∑ I : Fin 4096, dG len (argX m c) (argY m c) j I := by
  refine Rows.accumulate N_0 (dG len (argX m c) (argY m c) j) (fun n h => ((outsAt0 m c n h).2 (ix2 0 j) : EReal)) (fun h0 => ?_) (fun k hk => ?_) n h h7
  · refine (congrArg (fun o => (o.2 (ix2 0 j) : EReal)) (outsAt0_A m c ⟨0, h0⟩ rfl)).trans ?_
    dsimp only
    rw [dg_A]
    refine (dg_apply _ _ _ j).trans ?_
    rw [zero_apply, zero_add]
    exact Finset.sum_congr rfl fun p _ => rowG m c ⟨0, h0⟩ p j
  · have hB : ¬(⟨k + 1, hk⟩ : Fin cfg0.N).val % 8 = 0 := by have := hk.trans_eq N_0; dsimp only; omega
    refine (congrArg (fun o => (o.2 (ix2 0 j) : EReal)) (outsAt0_B m c ⟨k + 1, hk⟩ hB)).trans ?_
    dsimp only
    rw [dg_B]
    refine (dg_apply _ _ _ j).trans ?_
    exact congrArg₂ (· + ·) rfl (Finset.sum_congr rfl fun p _ => rowG m c ⟨k + 1, hk⟩ p j)

theorem final3 : (dats m 0 c).arrAt 3 cfg0.N = G3 m c := by
  refine (dats m 0 c).arrAt_eq_of_cover 3 (G3 m c) (fun t _ => ?_) fun (y : S4096x256.Idx) => ?_
  · rw [Value.flushed3]
    funext x
    obtain ⟨p, e, rfl⟩ : ∃ p e, x = (ix2 p e : S512x256.Idx) := ⟨_, _, eq_ix2 x⟩
    refine (out3 m c t p e).trans ?_
    rw [View.read_apply]
    exact Rows.entry (fun I j => dX len (row (argX m c) I) (scaled (argY m c) (argG m c) I) j) p e t.val ![win0_3.index t 0, win0_3.index t 1] (index3 t) _ _ _
  · obtain ⟨t, ht⟩ := Rows.cover N_0 (show Fin 4096 from y 0)
    obtain ⟨i0, i1⟩ := index3 t
    refine ⟨t, flush0_3 t, ?_⟩
    show y ∈ ((View.whole main_v1_0).slice (win0_3.rect t)).set
    rw [View.set_slice_whole, Rect.mem_set_unit]
    intro b
    match b with
    | ⟨0, _⟩ => exact Rows.bounds i0 ht
    | ⟨1, _⟩ => exact Rows.bounds_zero i1 (y 1).isLt

theorem final4 : (dats m 0 c).arrAt 4 cfg0.N = G4 m c := by
  have hN : cfg0.N = 8 := N_0
  refine (dats m 0 c).arrAt_eq_of_cover 4 (G4 m c) (fun t ht => ?_) fun (y : S1x256.Idx) => ?_
  · have h7 : t.val = 7 := by have := (flush0_4 t).mp ht; have := t.isLt; omega
    rw [Value.flushed4]
    funext x
    obtain ⟨p, e, rfl⟩ : ∃ p e, x = (ix2 p e : S1x256.Idx) := ⟨_, _, eq_ix2 x⟩
    obtain rfl : p = 0 := Subsingleton.elim _ _
    refine (out4 m c t.val t.isLt h7 e).trans ?_
    rw [View.read_apply]
    exact congrArg (fun q => ∑ I : Fin 4096, dG len (argX m c) (argY m c) q I) (Fin.ext (Rows.coord_zero (B := 256) (p := e.val) (index4 t).2 rfl).symm)
  · have h7 : 7 < cfg0.N := by omega
    obtain ⟨i0, i1⟩ := index4 ⟨7, h7⟩
    refine ⟨⟨7, h7⟩, (flush0_4 _).mpr rfl, ?_⟩
    show y ∈ ((View.whole main_v1_1).slice (win0_4.rect ⟨7, h7⟩)).set
    rw [View.set_slice_whole, Rect.mem_set_unit]
    intro b
    match b with
    | ⟨0, _⟩ => exact Rows.bounds_zero i0 (y 0).isLt
    | ⟨1, _⟩ => exact Rows.bounds_zero i1 (y 1).isLt

end Kernel

namespace Ref

open Idealize.ShloMosaic Idealize.ShloMosaic.Tactic
open Cert.NormQReferenceIdeal Cert.NormQReferenceIdeal.Read Cert.NormMath

/-- The reference's gradient, at finite arguments. -/
theorem dx (x0 : Arr 4096 256) (x1 : Arr 1 256) (x2 : Arr 4096 256) (h0 : ∀ i, ∃ r : ℝ, x0 i = r) (h1 : ∀ i, ∃ r : ℝ, x1 i = r)
    (h2 : ∀ i, ∃ r : ℝ, x2 i = r) (I : Fin 4096) (j : Fin 256) :
    (val_main_v38 (F := Ideal) x0 x1 x2 (ix2 I j) : EReal) = dX len (row x0 I) (scaled x2 x1 I) j := by
  choose a ha using h0
  choose g hg using h1
  choose b hb using h2
  rw [len_real, ← rule (row x0 I) (scaled x2 x1 I) 256 (by norm_num) (fun k => a (ix2 I k)) (fun k => b (ix2 I k) * g (ix2 0 k)) j (fun k => ha _)
    (fun k => by unfold scaled; rw [hb, hg, EReal.coe_mul]), ← len_real]
  unfold half NormMath.inv var eps mhalf row scaled
  unfold val_main_v38 val_main_v36 val_main_v35 val_main_v34 val_main_v33 val_main_v32 val_main_v31 val_main_cst_7 val_main_v30 val_main_v29 val_main_cst_6 val_main_v28 val_main_v27 val_main_v26 val_main_v25 val_main_v24 val_main_cst_5 val_main_v23 val_main_v21 val_main_v20 val_main_v14 val_main_v11 val_main_v10 val_main_cst_2 val_main_v9 val_main_v8 val_main_v7 val_main_v6 val_main_cst_1 val_main_v5 val_main_v4 val_main_cst_0 val_main_v3 val_main_v2 val_main_cst val_main_v1 val_main_v0
  pointwise
  simp only [Finset.univ_unique, Finset.sum_singleton]

/-- The reference's gradient of the weight. -/
theorem dg (x0 x2 : Arr 4096 256) (j : Fin 256) : (val_main_v37 (F := Ideal) x0 x2 (ix2 0 j) : EReal) = ∑ I : Fin 4096, dG len x0 x2 j I := by
  unfold dG NormMath.inv var eps row
  unfold val_main_v37 val_main_v22 val_main_cst_4 val_main_v19 val_main_v18 val_main_cst_3 val_main_v17 val_main_v13 val_main_v12 val_main_v8 val_main_v7 val_main_v6 val_main_cst_1 val_main_v5 val_main_v4 val_main_cst_0 val_main_v3 val_main_v2 val_main_cst val_main_v1
  pointwise
  rw [Fin.sum_univ_one]
  exact Finset.sum_congr rfl fun I _ => mul_comm _ _

end Ref

open Idealize.ShloMosaic Idealize.ShloMosaic.TcCoe Idealize.SL.Sem
open Cert.FoxClaim (and_one)
open Cert.GateOddClaim (real_of)

/-- The precondition read entry by entry: the three arguments are finite. -/
theorem finite [Cert.Pre_pre_qnorm.Facts] (m : (ℓ : Loc Cert.NormQIdeal.nD Cert.NormQIdeal.τ Cert.NormQIdeal.sig) → Buf (Elt Ideal) ℓ)
    (h : Cert.Pre_NormQIdeal_pre_qnorm m) (c : Dev Cert.NormQIdeal.nD) :
    (∀ i, ∃ r : ℝ, Kernel.argX m c i = r) ∧ (∀ i, ∃ r : ℝ, Kernel.argG m c i = r) ∧ (∀ i, ∃ r : ℝ, Kernel.argY m c i = r) := by
  have h0 := congrFun (h c) ix0
  obtain ⟨h01, h2⟩ := and_one (show _ &&& _ = 1#1 from h0)
  obtain ⟨h0, h1⟩ := and_one (show _ &&& _ = 1#1 from h01)
  exact ⟨real_of _ fun i => Cert.Finite.of_abs_lt _ (Host.reduce_andi_all _ _ _ _ _ h0 i), real_of _ fun i => Cert.Finite.of_abs_lt _ (Host.reduce_andi_all _ _ _ _ _ h1 i),
    real_of _ fun i => Cert.Finite.of_abs_lt _ (Host.reduce_andi_all _ _ _ _ _ h2 i)⟩

open Cert.NormQIdeal Cert.NormQIdeal.Gen in
/-- Both gradients are the reference's, from memories that agree on finite arguments. -/
theorem value [Cert.Pre_pre_qnorm.Facts] : Cert.algebraic_NormQIdeal_NormQReferenceIdeal_pre_pre_qnorm := by
  intro m g m' g' hpre hag
  refine ⟨fun c => (dats m 0 c).arrAt 3 cfg0.N, fun c => (dats m 0 c).arrAt 4 cfg0.N, Cert.NormQIdeal.Value.run_blocks m g, ?_⟩
  refine (θ_run _ _ _).mono (fun r h c => ?_) (Cert.NormQReferenceIdeal.Value.run m' g')
  obtain ⟨h0, h1, h2⟩ := h c
  obtain ⟨hx, hg, hy⟩ := hag c
  obtain ⟨f0, f1, f2⟩ := finite m hpre c
  rw [Cert.NormQReferenceIdeal.Read.val_main_v38_eq, hx, hg, hy] at h0
  rw [Cert.NormQReferenceIdeal.Read.val_main_v37_eq, hx, hy] at h1
  refine ⟨h0.trans ?_, h1.trans ?_, h2⟩
  · refine Eq.trans ?_ (Kernel.final3 m c).symm
    funext y
    obtain ⟨I, e, rfl⟩ : ∃ I e, y = ix2 I e := ⟨_, _, eq_ix2 y⟩
    exact Ref.dx _ _ _ f0 f1 f2 I e
  · refine Eq.trans ?_ (Kernel.final4 m c).symm
    funext y
    obtain ⟨I, e, rfl⟩ : ∃ I e, y = ix2 I e := ⟨_, _, eq_ix2 y⟩
    obtain rfl : I = 0 := Subsingleton.elim _ _
    exact Ref.dg _ _ e

end Cert.NormQClaim

end
-- ==== Proof.GateEven.lean ====
/- The gated output projection's gradient of the even layer (`l0_out_dx`): what the kernel writes, block of rows by block
   of rows, what the reference computes, and that they agree at finite arguments. -/
module

public import proofs.«01_k».proof.Defs
public import proofs.«01_k».proof.Proof.Rows
public import proofs.«01_k».proof.Proof.GateMath
public import proofs.«01_k».proof.Proof.GateOdd
public import proofs.«01_k».proof.Proof.FoxClaim
public import proofs.«01_k».proof.Proof.Gen.GateEvenIdeal.Value
public import proofs.«01_k».proof.Proof.Gen.GateEvenReferenceIdeal.Run
public import proofs.«01_k».proof.Proof.Gen.GateEvenReferenceIdeal.Read
public import proofs.«01_k».proof.Proof.Gen.Pre_pre_gate0
public import Idealize.ShloMosaic.Lib.Pointwise
public import Idealize.ShloMosaic.Lib.Tactic

@[expose] public section

set_option maxRecDepth 16384

noncomputable section

namespace Cert.GateEvenClaim.Kernel

open Idealize.ShloMosaic Idealize.ShloMosaic.TcCoe Idealize.ShloMosaic.Tactic Idealize.SL.Sem
open Cert.GateEvenIdeal Cert.GateEvenIdeal.Gen Cert.LogfMath Cert.GateMath

/-- The block of the gated value's gradient, at an entry. -/
theorem pay4_apply (g : Vec Ideal S512x1024 .f32) (d : Vec Ideal S512x1024 .bf16) (w : Vec Ideal S1024x1024 .bf16) (p : Fin 512) (j : Fin 1024) :
    (k0_pay4 g d w (ix2 p j) : EReal) = (∑ k : Fin 1024, d (ix2 p k) * w (ix2 j k)) * (g (ix2 p j) * gate (g (ix2 p j))) := by
  unfold k0_pay4 k0_pay3 k0_pay2 k0_pay1 gate
  pointwise

/-- Its two halves of columns. -/
theorem pay5_apply (g : Vec Ideal S512x1024 .f32) (d : Vec Ideal S512x1024 .bf16) (w : Vec Ideal S1024x1024 .bf16) (p e : Fin 512) :
    (k0_pay5 g d w (ix2 p e) : EReal) = k0_pay4 g d w (ix2 p (left e)) := by
  unfold k0_pay5 left
  generalize k0_pay4 g d w = z
  pointwise
theorem pay6_apply (g : Vec Ideal S512x1024 .f32) (d : Vec Ideal S512x1024 .bf16) (w : Vec Ideal S1024x1024 .bf16) (p e : Fin 512) :
    (k0_pay6 g d w (ix2 p e) : EReal) = k0_pay4 g d w (ix2 p (right e)) := by
  unfold k0_pay6 right
  generalize k0_pay4 g d w = z
  pointwise

/-- The block of the gate's gradient, at an entry. -/
theorem pay7_apply (o o' : Vec Ideal S512x512 .f32) (g : Vec Ideal S512x1024 .f32) (d : Vec Ideal S512x1024 .bf16) (w : Vec Ideal S1024x1024 .bf16) (p : Fin 512) (j : Fin 1024) :
    (k0_pay7 o o' g d w (ix2 p j) : EReal) = (∑ k : Fin 1024, d (ix2 p k) * w (ix2 j k)) * both o o' (ix2 p j)
      * (gate (g (ix2 p j)) * (1 + g (ix2 p j) * (1 - gate (g (ix2 p j))))) := by
  unfold k0_pay7 k0_pay3 k0_pay2 k0_pay1 gate both
  pointwise

section
variable {F : FTy → Type} [FloatOps F]
variable (c : Dev nD) (i : grid0.Coords) (a1 : Memref sig .tc .vmem S512x1024 .bf16) (h1 : a1.IsWhole)
  (a2 : Memref sig .tc .vmem S1024x1024 .bf16) (h2 : a2.IsWhole) (a3 : Memref sig .tc .vmem S512x512 .f32) (h3 : a3.IsWhole)
  (a4 : Memref sig .tc .vmem S512x512 .f32) (h4 : a4.IsWhole) (a5 : Memref sig .tc .vmem S512x1024 .f32) (h5 : a5.IsWhole)
  (a6 : Memref sig .tc .vmem S512x512 .f32) (h6 : a6.IsWhole) (a7 : Memref sig .tc .vmem S512x512 .f32) (h7 : a7.IsWhole)
  (a8 : Memref sig .tc .vmem S512x1024 .bf16) (h8 : a8.IsWhole)
  (x0 : Vec F S512x1024 .bf16) (x1 : Vec F S1024x1024 .bf16) (x2 x3 : Vec F S512x512 .f32) (x4 : Vec F S512x1024 .f32)

theorem origin : (![0, 0] : Fin 2 → Nat) = fun _ => 0 := funext fun a => by fin_cases a <;> rfl

/-- What the body leaves in its three results' buffers. -/
theorem left_A : out0_A_5 c i a1 h1 a2 h2 a3 h3 a4 h4 a5 h5 a6 h6 a7 h7 a8 h8 x0 x1 x2 x3 x4 = k0_pay5 x4 x0 x1 := by
  unfold out0_A_5
  rw [View.read_writes_eq_canon _ _ _ (cover0_A_5 c i a1 h1 a2 h2 a3 h3 a4 h4 a5 h5 a6 h6 a7 h7 a8 h8 x0 x1 x2 x3 x4)]
  unfold kernelRun0_A
  dsimp only
  sl_unfold_words
  rw [View.canon_cons_unit_zero (S := S512x512) origin]
  simp only [View.readAt_eq_ld, h1.read_unread, h2.read_unread, h5.read_unread, View.ld_unit_zero (S := S512x1024) origin, View.ld_unit_zero (S := S1024x1024) origin]
theorem right_A : out0_A_6 c i a1 h1 a2 h2 a3 h3 a4 h4 a5 h5 a6 h6 a7 h7 a8 h8 x0 x1 x2 x3 x4 = k0_pay6 x4 x0 x1 := by
  unfold out0_A_6
  rw [View.read_writes_eq_canon _ _ _ (cover0_A_6 c i a1 h1 a2 h2 a3 h3 a4 h4 a5 h5 a6 h6 a7 h7 a8 h8 x0 x1 x2 x3 x4)]
  unfold kernelRun0_A
  dsimp only
  sl_unfold_words
  rw [View.canon_cons_unit_zero (S := S512x512) origin]
  simp only [View.readAt_eq_ld, h1.read_unread, h2.read_unread, h5.read_unread, View.ld_unit_zero (S := S512x1024) origin, View.ld_unit_zero (S := S1024x1024) origin]
theorem gate_A : out0_A_7 c i a1 h1 a2 h2 a3 h3 a4 h4 a5 h5 a6 h6 a7 h7 a8 h8 x0 x1 x2 x3 x4 = k0_pay7 x2 x3 x4 x0 x1 := by
  unfold out0_A_7
  rw [View.read_writes_eq_canon _ _ _ (cover0_A_7 c i a1 h1 a2 h2 a3 h3 a4 h4 a5 h5 a6 h6 a7 h7 a8 h8 x0 x1 x2 x3 x4)]
  unfold kernelRun0_A
  dsimp only
  sl_unfold_words
  rw [View.canon_cons_unit_zero (S := S512x1024) origin]
  simp only [View.readAt_eq_ld, h1.read_unread, h2.read_unread, h3.read_unread, h4.read_unread, h5.read_unread, View.ld_unit_zero (S := S512x1024) origin, View.ld_unit_zero (S := S1024x1024) origin,
    View.ld_unit_zero (S := S512x512) origin]
end

variable (m : (ℓ : Loc nD τ sig) → Buf (Elt Ideal) ℓ) (c : Dev nD)

/-- The arguments on a device. -/
def argD : Arr 4096 1024 := (m ((c : Thread nD τ).loc main_arg0) : S4096x1024.Idx → EReal)
def argL : Arr 4096 512 := (m ((c : Thread nD τ).loc main_arg1) : S4096x512.Idx → EReal)
def argR : Arr 4096 512 := (m ((c : Thread nD τ).loc main_arg2) : S4096x512.Idx → EReal)
def argG : Arr 4096 1024 := (m ((c : Thread nD τ).loc main_arg3) : S4096x1024.Idx → EReal)
def argW : Arr 1024 1024 := (m ((c : Thread nD τ).loc main_arg4) : S1024x1024.Idx → EReal)

/-- The kernel's operands prepared on the host: two casts, and the gate's argument with columns appended. -/
theorem V1 : V m c main_v1 = argD m c := by dsimp only [V, List.flatten, List.append]; after_results; rfl
theorem V2 : V m c main_v2 = argW m c := by dsimp only [V, List.flatten, List.append]; after_results; rfl
theorem V0 : V m c main_v0 = pad S4096x1536 ![0, 0] ![0, 512] ![0, 0] (argG m c : FVec Ideal S4096x1024 .f32)
    (sitofp .f32 (constantI S_ 32 0#32) : FVec Ideal S_ .f32) pads_S4096x1024_S4096x1536_000_05120 h_S_ := by
  dsimp only [V, List.flatten, List.append]; after_results; rfl

theorem index0 : ∀ t : Fin cfg0.N, win0_0.index t 0 = t.val ∧ win0_0.index t 1 = 0 := (by decide +kernel : ∀ t : Fin grid0.N, _)
theorem index1 : ∀ t : Fin cfg0.N, win0_1.index t 0 = 0 ∧ win0_1.index t 1 = 0 := (by decide +kernel : ∀ t : Fin grid0.N, _)
theorem index2 : ∀ t : Fin cfg0.N, win0_2.index t 0 = t.val ∧ win0_2.index t 1 = 0 := (by decide +kernel : ∀ t : Fin grid0.N, _)
theorem index3 : ∀ t : Fin cfg0.N, win0_3.index t 0 = t.val ∧ win0_3.index t 1 = 0 := (by decide +kernel : ∀ t : Fin grid0.N, _)
theorem index4 : ∀ t : Fin cfg0.N, win0_4.index t 0 = t.val ∧ win0_4.index t 1 = 0 := (by decide +kernel : ∀ t : Fin grid0.N, _)
theorem index5 : ∀ t : Fin cfg0.N, win0_5.index t 0 = t.val ∧ win0_5.index t 1 = 0 := (by decide +kernel : ∀ t : Fin grid0.N, _)
theorem index6 : ∀ t : Fin cfg0.N, win0_6.index t 0 = t.val ∧ win0_6.index t 1 = 0 := (by decide +kernel : ∀ t : Fin grid0.N, _)
theorem index7 : ∀ t : Fin cfg0.N, win0_7.index t 0 = t.val ∧ win0_7.index t 1 = 0 := (by decide +kernel : ∀ t : Fin grid0.N, _)

/-- The blocks at a point are the rows of the arguments. -/
theorem blk0 (t : Fin cfg0.N) (p : Fin 512) (j : Fin 1024) : (iblk m c 0 t (ix2 p j) : EReal) = argD m c (ix2 (Rows.row N_0 t p) j) := by
  unfold iblk; rw [View.read_apply]; show V m c main_v1 _ = _; rw [V1]
  exact Rows.at_block (argD m c) _ p j t.val ![win0_0.index t 0, win0_0.index t 1] (index0 t) _ rfl rfl
theorem blk1 (t : Fin cfg0.N) (p j : Fin 1024) : (iblk m c 1 t (ix2 p j) : EReal) = argW m c (ix2 p j) := by
  unfold iblk; rw [View.read_apply]; show V m c main_v2 _ = _; rw [V2]
  refine (Rows.at_block (argW m c) _ p j 0 ![win0_1.index t 0, win0_1.index t 1] (index1 t) (by have := p.isLt; omega) rfl rfl).trans ?_
  exact congrArg (fun q => argW m c (ix2 q j)) (Fin.ext (by show 0 * 1024 + p.val = p.val; omega))
theorem blk2 (t : Fin cfg0.N) (p e : Fin 512) : (iblk m c 2 t (ix2 p e) : EReal) = argL m c (ix2 (Rows.row N_0 t p) e) := by
  unfold iblk; rw [View.read_apply]; show V m c main_arg1 _ = _; rw [V_main_arg1]
  exact Rows.at_block (argL m c) _ p e t.val ![win0_2.index t 0, win0_2.index t 1] (index2 t) _ rfl rfl
theorem blk3 (t : Fin cfg0.N) (p e : Fin 512) : (iblk m c 3 t (ix2 p e) : EReal) = argR m c (ix2 (Rows.row N_0 t p) e) := by
  unfold iblk; rw [View.read_apply]; show V m c main_arg2 _ = _; rw [V_main_arg2]
  exact Rows.at_block (argR m c) _ p e t.val ![win0_3.index t 0, win0_3.index t 1] (index3 t) _ rfl rfl
theorem blk4 (t : Fin cfg0.N) (p : Fin 512) (j : Fin 1024) : (X0_4 m c t (ix2 p j) : EReal) = argG m c (ix2 (Rows.row N_0 t p) j) := by
  unfold X0_4 Pipeline.Window.fill
  rw [dif_pos (moved0_4 t _)]
  unfold iblk; rw [View.read_apply]; show V m c main_v0 _ = _; rw [V0]
  refine pad_apply_of_inside _ _ _ _ _ _ _ _ (ix2 (Rows.row N_0 t p) j) fun a => ?_
  match a with
  | ⟨0, _⟩ => exact (Rows.coord (B := 512) (p := p.val) (index4 t).1 rfl).trans (by show t.val * 512 + p.val = 0 + (t.val * 512 + p.val) * (0 + 1); omega)
  | ⟨1, _⟩ => exact (Rows.coord_zero (B := 1024) (p := j.val) (index4 t).2 rfl).trans (by show j.val = 0 + j.val * (0 + 1); omega)

/-- The value that is gated: the two attentions' results side by side. -/
def argO : Arr 4096 1024 := both (argL m c) (argR m c)

theorem blkO (t : Fin cfg0.N) (p : Fin 512) (j : Fin 1024) :
    (both (iblk m c 2 t) (iblk m c 3 t) (ix2 p j) : EReal) = argO m c (ix2 (Rows.row N_0 t p) j) := by
  unfold argO both
  by_cases h : j.val < 512
  · rw [dif_pos (show ((ix2 p j : S512x1024.Idx) 1).val < 512 from h), dif_pos (show ((ix2 (Rows.row N_0 t p) j : S4096x1024.Idx) 1).val < 512 from h)]
    exact blk2 m c t p _
  · rw [dif_neg (show ¬ ((ix2 p j : S512x1024.Idx) 1).val < 512 from h), dif_neg (show ¬ ((ix2 (Rows.row N_0 t p) j : S4096x1024.Idx) 1).val < 512 from h)]
    exact blk3 m c t p _

/-- The three results' contents. -/
def G5 : Buf (Elt Ideal) ((c : Thread nD τ).loc main_v3_0) := fun y : S4096x512.Idx => dOut (argD m c) (argG m c) (argW m c) (y 0) (left (y 1))
def G6 : Buf (Elt Ideal) ((c : Thread nD τ).loc main_v3_1) := fun y : S4096x512.Idx => dOut (argD m c) (argG m c) (argW m c) (y 0) (right (y 1))
def G7 : Buf (Elt Ideal) ((c : Thread nD τ).loc main_v3_2) := fun y : S4096x1024.Idx => dGate (argD m c) (argO m c) (argG m c) (argW m c) (y 0) (y 1)

theorem out4 (t : Fin cfg0.N) (p : Fin 512) (j : Fin 1024) :
    (k0_pay4 (X0_4 m c t) (iblk m c 0 t) (iblk m c 1 t) (ix2 p j) : EReal) = dOut (argD m c) (argG m c) (argW m c) (Rows.row N_0 t p) j := by
  refine (pay4_apply _ _ _ p j).trans ?_
  unfold dOut back
  rw [show (X0_4 m c t (ix2 p j) : EReal) = _ from blk4 m c t p j]
  exact congrArg (· * _) (Finset.sum_congr rfl fun k _ => congrArg₂ (· * ·) (blk0 m c t p k) (blk1 m c t j k))

theorem out7 (t : Fin cfg0.N) (p : Fin 512) (j : Fin 1024) :
    (k0_pay7 (iblk m c 2 t) (iblk m c 3 t) (X0_4 m c t) (iblk m c 0 t) (iblk m c 1 t) (ix2 p j) : EReal)
      = dGate (argD m c) (argO m c) (argG m c) (argW m c) (Rows.row N_0 t p) j := by
  refine (pay7_apply _ _ _ _ _ p j).trans ?_
  unfold dGate back
  rw [show (both (iblk m c 2 t) (iblk m c 3 t) (ix2 p j) : EReal) = _ from blkO m c t p j, show (X0_4 m c t (ix2 p j) : EReal) = _ from blk4 m c t p j]
  exact congrArg (fun s => s * _ * _) (Finset.sum_congr rfl fun k _ => congrArg₂ (· * ·) (blk0 m c t p k) (blk1 m c t j k))

theorem final5 : (dats m 0 c).arrAt 5 cfg0.N = G5 m c := by
  refine (dats m 0 c).arrAt_eq_of_cover 5 (G5 m c) (fun t _ => ?_) fun (y : S4096x512.Idx) => ?_
  · rw [Value.flushed5_A, left_A]
    funext x
    obtain ⟨p, e, rfl⟩ : ∃ p e, x = (ix2 p e : S512x512.Idx) := ⟨_, _, eq_ix2 x⟩
    refine ((pay5_apply _ _ _ p e).trans (out4 m c t p (left e))).trans ?_
    rw [View.read_apply]
    exact Rows.entry (fun I j => dOut (argD m c) (argG m c) (argW m c) I (left j)) p e t.val ![win0_5.index t 0, win0_5.index t 1] (index5 t) _ _ _
  · obtain ⟨t, ht⟩ := Rows.cover N_0 (show Fin 4096 from y 0)
    obtain ⟨i0, i1⟩ := index5 t
    refine ⟨t, flush0_5 t, ?_⟩
    show y ∈ ((View.whole main_v3_0).slice (win0_5.rect t)).set
    rw [View.set_slice_whole, Rect.mem_set_unit]
    intro b
    match b with
    | ⟨0, _⟩ => exact Rows.bounds i0 ht
    | ⟨1, _⟩ => exact Rows.bounds_zero i1 (y 1).isLt

theorem final6 : (dats m 0 c).arrAt 6 cfg0.N = G6 m c := by
  refine (dats m 0 c).arrAt_eq_of_cover 6 (G6 m c) (fun t _ => ?_) fun (y : S4096x512.Idx) => ?_
  · rw [Value.flushed6_A, right_A]
    funext x
    obtain ⟨p, e, rfl⟩ : ∃ p e, x = (ix2 p e : S512x512.Idx) := ⟨_, _, eq_ix2 x⟩
    refine ((pay6_apply _ _ _ p e).trans (out4 m c t p (right e))).trans ?_
    rw [View.read_apply]
    exact Rows.entry (fun I j => dOut (argD m c) (argG m c) (argW m c) I (right j)) p e t.val ![win0_6.index t 0, win0_6.index t 1] (index6 t) _ _ _
  · obtain ⟨t, ht⟩ := Rows.cover N_0 (show Fin 4096 from y 0)
    obtain ⟨i0, i1⟩ := index6 t
    refine ⟨t, flush0_6 t, ?_⟩
    show y ∈ ((View.whole main_v3_1).slice (win0_6.rect t)).set
    rw [View.set_slice_whole, Rect.mem_set_unit]
    intro b
    match b with
    | ⟨0, _⟩ => exact Rows.bounds i0 ht
    | ⟨1, _⟩ => exact Rows.bounds_zero i1 (y 1).isLt

theorem final7 : (dats m 0 c).arrAt 7 cfg0.N = G7 m c := by
  refine (dats m 0 c).arrAt_eq_of_cover 7 (G7 m c) (fun t _ => ?_) fun (y : S4096x1024.Idx) => ?_
  · rw [Value.flushed7_A, gate_A]
    funext x
    obtain ⟨p, e, rfl⟩ : ∃ p e, x = (ix2 p e : S512x1024.Idx) := ⟨_, _, eq_ix2 x⟩
    refine (out7 m c t p e).trans ?_
    rw [View.read_apply]
    exact Rows.entry (fun I j => dGate (argD m c) (argO m c) (argG m c) (argW m c) I j) p e t.val ![win0_7.index t 0, win0_7.index t 1] (index7 t) _ _ _
  · obtain ⟨t, ht⟩ := Rows.cover N_0 (show Fin 4096 from y 0)
    obtain ⟨i0, i1⟩ := index7 t
    refine ⟨t, flush0_7 t, ?_⟩
    show y ∈ ((View.whole main_v3_2).slice (win0_7.rect t)).set
    rw [View.set_slice_whole, Rect.mem_set_unit]
    intro b
    match b with
    | ⟨0, _⟩ => exact Rows.bounds i0 ht
    | ⟨1, _⟩ => exact Rows.bounds_zero i1 (y 1).isLt

end Cert.GateEvenClaim.Kernel

namespace Cert.GateEvenClaim.Ref

open Idealize.ShloMosaic Idealize.ShloMosaic.Tactic
open Cert.GateEvenReferenceIdeal Cert.GateEvenReferenceIdeal.Read Cert.LogfMath Cert.GateMath

/-- The reference's gradient of the gated value, all columns. -/
theorem v6 (x0 x3 : Arr 4096 1024) (x4 : Arr 1024 1024) (I : Fin 4096) (j : Fin 1024) :
    (val_main_v6 (F := Ideal) x0 x3 x4 (ix2 I j) : EReal) = dOut x0 x3 x4 I j := by
  unfold dOut back gate
  rw [zero_sub]
  unfold val_main_v6 val_main_v4 val_main_v1_0 val_main_v1_2 val_main_call0_v4 val_main_call0_cst_0 val_main_call0_v3 val_main_call0_v2 val_main_call0_cst val_main_call0_v1 val_main_call0_v0
  pointwise

/-- Its two halves. -/
theorem v8 (x0 x3 : Arr 4096 1024) (x4 : Arr 1024 1024) (I : Fin 4096) (e : Fin 512) :
    (val_main_v8 (F := Ideal) x0 x3 x4 (ix2 I e) : EReal) = dOut x0 x3 x4 I (left e) := by
  rw [← v6]
  unfold val_main_v8 left
  generalize val_main_v6 (F := Ideal) x0 x3 x4 = z
  pointwise
theorem v9 (x0 x3 : Arr 4096 1024) (x4 : Arr 1024 1024) (I : Fin 4096) (e : Fin 512) :
    (val_main_v9 (F := Ideal) x0 x3 x4 (ix2 I e) : EReal) = dOut x0 x3 x4 I (right e) := by
  rw [← v6]
  unfold val_main_v9 right
  generalize val_main_v6 (F := Ideal) x0 x3 x4 = z
  pointwise

/-- The two attentions' results side by side. -/
theorem v0 (x1 x2 : Arr 4096 512) (I : Fin 4096) (j : Fin 1024) : (val_main_v0 (F := Ideal) x1 x2 (ix2 I j) : EReal) = both x1 x2 (ix2 I j) := by
  unfold val_main_v0 both
  pointwise

/-- The reference's gradient of the gate, at finite arguments. -/
theorem v10 (x0 : Arr 4096 1024) (x1 x2 : Arr 4096 512) (x3 : Arr 4096 1024) (x4 : Arr 1024 1024) (h0 : ∀ i, ∃ r : ℝ, x0 i = r)
    (h1 : ∀ i, ∃ r : ℝ, x1 i = r) (h2 : ∀ i, ∃ r : ℝ, x2 i = r) (h3 : ∀ i, ∃ r : ℝ, x3 i = r) (h4 : ∀ i, ∃ r : ℝ, x4 i = r) (I : Fin 4096) (j : Fin 1024) :
    (val_main_v10 (F := Ideal) x0 x1 x2 x3 x4 (ix2 I j) : EReal) = dGate x0 (both x1 x2) x3 x4 I j := by
  refine Eq.trans ?_ (dGate_rule x0 (both x1 x2) x3 x4 h0 (both_real x1 x2 h1 h2) h3 h4 I j)
  rw [← v0]
  unfold back gate
  rw [zero_sub]
  unfold val_main_v10 val_main_v7 val_main_call1_v2 val_main_call1_v1 val_main_call1_v0 val_main_v5 val_main_v4 val_main_v1_1 val_main_call0_v7 val_main_call0_v6 val_main_call0_cst_1 val_main_v1_2 val_main_call0_v4 val_main_call0_cst_0 val_main_call0_v3 val_main_call0_v2 val_main_call0_cst val_main_call0_v1 val_main_call0_v0
  generalize val_main_v0 (F := Ideal) x1 x2 = z
  pointwise

end Cert.GateEvenClaim.Ref

namespace Cert.GateEvenClaim

open Idealize.ShloMosaic Idealize.ShloMosaic.TcCoe Idealize.SL.Sem
open Cert.FoxClaim (reals and_one)
open Cert.GateOddClaim (real_of)

/-- The precondition read entry by entry: the five arguments are finite. -/
theorem finite [Cert.Pre_pre_gate0.Facts] (m : (ℓ : Loc Cert.GateEvenIdeal.nD Cert.GateEvenIdeal.τ Cert.GateEvenIdeal.sig) → Buf (Elt Ideal) ℓ)
    (h : Cert.Pre_GateEvenIdeal_pre_gate0 m) (c : Dev Cert.GateEvenIdeal.nD) :
    (∀ i, ∃ r : ℝ, Kernel.argD m c i = r) ∧ (∀ i, ∃ r : ℝ, Kernel.argL m c i = r) ∧ (∀ i, ∃ r : ℝ, Kernel.argR m c i = r)
      ∧ (∀ i, ∃ r : ℝ, Kernel.argG m c i = r) ∧ (∀ i, ∃ r : ℝ, Kernel.argW m c i = r) := by
  have h0 := congrFun (h c) ix0
  obtain ⟨h0123, h4⟩ := and_one (show _ &&& _ = 1#1 from h0)
  obtain ⟨h012, h3⟩ := and_one (show _ &&& _ = 1#1 from h0123)
  obtain ⟨h01, h2⟩ := and_one (show _ &&& _ = 1#1 from h012)
  obtain ⟨h0, h1⟩ := and_one (show _ &&& _ = 1#1 from h01)
  exact ⟨real_of _ fun i => Cert.Finite.of_abs_lt _ (Host.reduce_andi_all _ _ _ _ _ h0 i), real_of _ fun i => Cert.Finite.of_abs_lt _ (Host.reduce_andi_all _ _ _ _ _ h1 i),
    real_of _ fun i => Cert.Finite.of_abs_lt _ (Host.reduce_andi_all _ _ _ _ _ h2 i), real_of _ fun i => Cert.Finite.of_abs_lt _ (Host.reduce_andi_all _ _ _ _ _ h3 i),
    real_of _ fun i => Cert.Finite.of_abs_lt _ (Host.reduce_andi_all _ _ _ _ _ h4 i)⟩

open Cert.GateEvenIdeal Cert.GateEvenIdeal.Gen in
/-- The three gradients are the reference's, from memories that agree on finite arguments. -/
theorem value [Cert.Pre_pre_gate0.Facts] : Cert.algebraic_GateEvenIdeal_GateEvenReferenceIdeal_pre_pre_gate0 := by
  intro m g m' g' hpre hag
  refine ⟨fun c => (dats m 0 c).arrAt 5 cfg0.N, fun c => (dats m 0 c).arrAt 6 cfg0.N, fun c => (dats m 0 c).arrAt 7 cfg0.N, Cert.GateEvenIdeal.Value.run_blocks m g, ?_⟩
  refine (θ_run _ _ _).mono (fun r h c => ?_) (Cert.GateEvenReferenceIdeal.Value.run m' g')
  obtain ⟨h0, h1, h2, h3⟩ := h c
  obtain ⟨hd, hl, hr, hg, hw⟩ := hag c
  obtain ⟨f0, f1, f2, f3, f4⟩ := finite m hpre c
  rw [Cert.GateEvenReferenceIdeal.Read.val_main_v8_eq, hd, hg, hw] at h0
  rw [Cert.GateEvenReferenceIdeal.Read.val_main_v9_eq, hd, hg, hw] at h1
  rw [Cert.GateEvenReferenceIdeal.Read.val_main_v10_eq, hd, hl, hr, hg, hw] at h2
  refine ⟨h0.trans ?_, h1.trans ?_, h2.trans ?_, h3⟩
  · refine Eq.trans ?_ (Kernel.final5 m c).symm
    funext y
    obtain ⟨I, e, rfl⟩ : ∃ I e, y = ix2 I e := ⟨_, _, eq_ix2 y⟩
    exact Ref.v8 _ _ _ I e
  · refine Eq.trans ?_ (Kernel.final6 m c).symm
    funext y
    obtain ⟨I, e, rfl⟩ : ∃ I e, y = ix2 I e := ⟨_, _, eq_ix2 y⟩
    exact Ref.v9 _ _ _ I e
  · refine Eq.trans ?_ (Kernel.final7 m c).symm
    funext y
    obtain ⟨I, e, rfl⟩ : ∃ I e, y = ix2 I e := ⟨_, _, eq_ix2 y⟩
    exact Ref.v10 _ _ _ _ _ f0 f1 f2 f3 f4 I e

end Cert.GateEvenClaim

end
-- ==== Proof.lean ====
/- What the certificate claims of the gradient calls of the training step: `Cert.Claim` (proofs.«01_k».proof.Defs), put together from the
   modules under Proof/. -/
module

public import proofs.«01_k».proof.Proof.Gen.KernelIdeal.Value
public import proofs.«01_k».proof.Proof.Gen.ReferenceIdeal.Run
public import proofs.«01_k».proof.Proof.Gen.ReferenceIdeal.Read
public import proofs.«01_k».proof.Defs
public import proofs.«01_k».proof.Proof.Gen.Pre_pre_logf
public import proofs.«01_k».proof.Proof.Gen.Mla
public import proofs.«01_k».proof.Proof.Gen.MlaIdeal
public import proofs.«01_k».proof.Proof.Gen.MlaIdeal.Skeleton
public import proofs.«01_k».proof.Proof.Gen.MlaIdeal.Launch
public import proofs.«01_k».proof.Proof.Gen.MlaIdeal.Points
public import proofs.«01_k».proof.Proof.Gen.MlaIdeal.Frame
public import proofs.«01_k».proof.Proof.Gen.MlaReferenceIdeal
public import proofs.«01_k».proof.Proof.Gen.MlaReferenceIdeal.Run
public import proofs.«01_k».proof.Proof.Gen.MlaReferenceIdeal.Read
public import proofs.«01_k».proof.Proof.Gen.Pre_pre_mla
public import proofs.«01_k».proof.Proof.Gen.GateOddIdeal.Value
public import proofs.«01_k».proof.Proof.Gen.GateOdd.Frame
public import proofs.«01_k».proof.Proof.Gen.GateOddReferenceIdeal.Run
public import proofs.«01_k».proof.Proof.Gen.GateOddReferenceIdeal.Read
public import proofs.«01_k».proof.Proof.Gen.GateEvenIdeal.Value
public import proofs.«01_k».proof.Proof.Gen.GateEven.Frame
public import proofs.«01_k».proof.Proof.Gen.GateEvenReferenceIdeal.Run
public import proofs.«01_k».proof.Proof.Gen.GateEvenReferenceIdeal.Read
public import proofs.«01_k».proof.Proof.Gen.RopeIdeal.Value
public import proofs.«01_k».proof.Proof.Gen.Rope.Frame
public import proofs.«01_k».proof.Proof.Gen.RopeReferenceIdeal.Run
public import proofs.«01_k».proof.Proof.Gen.RopeReferenceIdeal.Read
public import proofs.«01_k».proof.Proof.Gen.NormQIdeal.Value
public import proofs.«01_k».proof.Proof.Gen.NormQ.Frame
public import proofs.«01_k».proof.Proof.Gen.NormQReferenceIdeal.Run
public import proofs.«01_k».proof.Proof.Gen.NormQReferenceIdeal.Read
public import proofs.«01_k».proof.Proof.Gen.NormKvIdeal.Value
public import proofs.«01_k».proof.Proof.Gen.NormKv.Frame
public import proofs.«01_k».proof.Proof.Gen.NormKvReferenceIdeal.Run
public import proofs.«01_k».proof.Proof.Gen.NormKvReferenceIdeal.Read
public import proofs.«01_k».proof.Proof.Gen.LossOutIdeal.Value
public import proofs.«01_k».proof.Proof.Gen.LossOut.Frame
public import proofs.«01_k».proof.Proof.Gen.LossOutReferenceIdeal.Run
public import proofs.«01_k».proof.Proof.Gen.LossOutReferenceIdeal.Read
public import proofs.«01_k».proof.Proof.Gen.InEvenIdeal.Value
public import proofs.«01_k».proof.Proof.Gen.InEven.Frame
public import proofs.«01_k».proof.Proof.Gen.InEvenReferenceIdeal.Run
public import proofs.«01_k».proof.Proof.Gen.InEvenReferenceIdeal.Read
public import proofs.«01_k».proof.Proof.Gen.InOddIdeal.Value
public import proofs.«01_k».proof.Proof.Gen.InOdd.Frame
public import proofs.«01_k».proof.Proof.Gen.InOddReferenceIdeal.Run
public import proofs.«01_k».proof.Proof.Gen.InOddReferenceIdeal.Read
public import proofs.«01_k».proof.Proof.Gen.Pre_pre_loss
public import proofs.«01_k».proof.Proof.Gen.Pre_pre_in0
public import proofs.«01_k».proof.Proof.Gen.Pre_pre_in1
public import proofs.«01_k».proof.Proof.Gen.Pre_pre_gate1
public import proofs.«01_k».proof.Proof.Gen.Pre_pre_gate0
public import proofs.«01_k».proof.Proof.Gen.Pre_pre_qnorm
public import proofs.«01_k».proof.Proof.Gen.Pre_pre_kvnorm
public import proofs.«01_k».proof.Proof.LogfClaim
public import proofs.«01_k».proof.Proof.FoxFrame
public import proofs.«01_k».proof.Proof.FoxClaim
public import proofs.«01_k».proof.Proof.MlaFrame
public import proofs.«01_k».proof.Proof.MlaClaim
public import proofs.«01_k».proof.Proof.InOdd
public import proofs.«01_k».proof.Proof.InEven
public import proofs.«01_k».proof.Proof.LossOut
public import proofs.«01_k».proof.Proof.Rope
public import proofs.«01_k».proof.Proof.NormKv
public import proofs.«01_k».proof.Proof.NormQ
public import proofs.«01_k».proof.Proof.GateEven
public import proofs.«01_k».proof.Proof.GateOdd
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Fox
public import proofs.«01_k».proof.Proof.Gen.FoxIdeal
public import proofs.«01_k».proof.Proof.Gen.FoxIdeal.Skeleton
public import proofs.«01_k».proof.Proof.Gen.FoxIdeal.Launch
public import proofs.«01_k».proof.Proof.Gen.FoxIdeal.Points
public import proofs.«01_k».proof.Proof.Gen.FoxIdeal.Frame
public import proofs.«01_k».proof.Proof.Gen.FoxReferenceIdeal
public import proofs.«01_k».proof.Proof.Gen.FoxReferenceIdeal.Run
public import proofs.«01_k».proof.Proof.Gen.FoxReferenceIdeal.Read
public import proofs.«01_k».proof.Proof.Gen.Pre_pre_fox
public import Idealize.ShloMosaic.Adequacy
public import Idealize.ShloMosaic.Init

@[expose] public section

noncomputable section

namespace Cert.Proof

open Idealize.ShloMosaic Idealize.SL.Sem

/-- The kernel's frame over float words. -/
theorem logf_frame : Cert.quiescent_Kernel := fun m ρ _ => Cert.Kernel.Gen.frame m ρ

/-- The kernel's frame over the extended reals. -/
theorem logf_frame_ideal : Cert.quiescent_KernelIdeal := fun m ρ _ => Cert.KernelIdeal.Gen.frame m ρ

/-- The reference's frame: its run leaves the arguments, and it has no semaphore. -/
theorem logf_frame_ref : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run m ρ)

/-- The frames of the forget-gate attention's backward call and of its reference. -/
theorem fox_frame : Cert.quiescent_Fox := fun m ρ _ => Cert.FoxFrame.frame_bits m ρ
theorem fox_frame_ideal : Cert.quiescent_FoxIdeal := fun m ρ _ => Cert.FoxRun.frame_any m ρ
theorem fox_frame_ref : Cert.quiescent_FoxReferenceIdeal := fun m ρ _ =>
  (θ_run Cert.FoxReferenceIdeal.defs _ _).mono (fun r h => ⟨fun c => (h c).2.2, sem_eq_zero_of_no_sems (by decide) r.2⟩)
    (Cert.FoxReferenceIdeal.Value.run m ρ)

/-- Its named constant is the scale of the scores in powers of two, rounded. -/
theorem fox_preserves : Cert.preserves_Fox_FoxIdeal :=
  IdealRules.named_const.statement Cert.FoxIdeal.κ "score_scale" .f32 0x3E38AA3B#32 ((8⁻¹ * (Real.log 2)⁻¹ : ℝ) : EReal) rfl

/-- The frames of the latent attention's backward call and of its reference. -/
theorem mla_frame : Cert.quiescent_Mla := fun m ρ _ => Cert.MlaFrame.frame_bits m ρ
theorem mla_frame_ideal : Cert.quiescent_MlaIdeal := fun m ρ _ => Cert.MlaRun.frame_any m ρ
theorem mla_frame_ref : Cert.quiescent_MlaReferenceIdeal := fun m ρ _ =>
  (θ_run Cert.MlaReferenceIdeal.defs _ _).mono (fun r h => ⟨fun c => (h c).2.2.2, sem_eq_zero_of_no_sems (by decide) r.2⟩)
    (Cert.MlaReferenceIdeal.Value.run m ρ)

/-- Its two named constants are the scale of the scores, and the same in powers of two, rounded. -/
theorem mla_preserves : Cert.preserves_Mla_MlaIdeal :=
  ⟨IdealRules.named_const.statement Cert.MlaIdeal.κ "mla_score_scale" .f32 0x3E16C740#32 (((Real.sqrt 96)⁻¹ * (Real.log 2)⁻¹ : ℝ) : EReal) rfl,
    IdealRules.named_const.statement Cert.MlaIdeal.κ "mla_scale" .f32 0x3DD105EC#32 (((Real.sqrt 96)⁻¹ : ℝ) : EReal) rfl⟩

/-- The frames of layer 1's output projection, transposed, with its gate, and of its reference. -/
theorem gate_odd_frame : Cert.quiescent_GateOdd := fun m ρ _ => Cert.GateOdd.Gen.frame m ρ
theorem gate_odd_frame_ideal : Cert.quiescent_GateOddIdeal := fun m ρ _ => Cert.GateOddIdeal.Gen.frame m ρ
theorem gate_odd_frame_ref : Cert.quiescent_GateOddReferenceIdeal := fun m ρ _ =>
  (θ_run Cert.GateOddReferenceIdeal.defs _ _).mono (fun r h => ⟨fun c => (h c).2.2, sem_eq_zero_of_no_sems (by decide) r.2⟩)
    (Cert.GateOddReferenceIdeal.Value.run m ρ)

/-- The frames of layer 0's output projection, transposed, with its gate, and of its reference. -/
theorem gate_even_frame : Cert.quiescent_GateEven := fun m ρ _ => Cert.GateEven.Gen.frame m ρ
theorem gate_even_frame_ideal : Cert.quiescent_GateEvenIdeal := fun m ρ _ => Cert.GateEvenIdeal.Gen.frame m ρ
theorem gate_even_frame_ref : Cert.quiescent_GateEvenReferenceIdeal := fun m ρ _ =>
  (θ_run Cert.GateEvenReferenceIdeal.defs _ _).mono (fun r h => ⟨fun c => (h c).2.2.2, sem_eq_zero_of_no_sems (by decide) r.2⟩)
    (Cert.GateEvenReferenceIdeal.Value.run m ρ)

/-- The frames of the rotary embedding's gradient, and of its reference. -/
theorem rope_frame : Cert.quiescent_Rope := fun m ρ _ => Cert.Rope.Gen.frame m ρ
theorem rope_frame_ideal : Cert.quiescent_RopeIdeal := fun m ρ _ => Cert.RopeIdeal.Gen.frame m ρ
theorem rope_frame_ref : Cert.quiescent_RopeReferenceIdeal := fun m ρ _ =>
  (θ_run Cert.RopeReferenceIdeal.defs _ _).mono (fun r h => ⟨fun c => (h c).2.2.2, sem_eq_zero_of_no_sems (by decide) r.2⟩)
    (Cert.RopeReferenceIdeal.Value.run m ρ)

/-- The frames of the gradient of the queries' norm, and of its reference. -/
theorem norm_q_frame : Cert.quiescent_NormQ := fun m ρ _ => Cert.NormQ.Gen.frame m ρ
theorem norm_q_frame_ideal : Cert.quiescent_NormQIdeal := fun m ρ _ => Cert.NormQIdeal.Gen.frame m ρ
theorem norm_q_frame_ref : Cert.quiescent_NormQReferenceIdeal := fun m ρ _ =>
  (θ_run Cert.NormQReferenceIdeal.defs _ _).mono (fun r h => ⟨fun c => (h c).2.2, sem_eq_zero_of_no_sems (by decide) r.2⟩)
    (Cert.NormQReferenceIdeal.Value.run m ρ)

/-- The frames of the gradient of the keys' and values' norm, and of its reference. -/
theorem norm_kv_frame : Cert.quiescent_NormKv := fun m ρ _ => Cert.NormKv.Gen.frame m ρ
theorem norm_kv_frame_ideal : Cert.quiescent_NormKvIdeal := fun m ρ _ => Cert.NormKvIdeal.Gen.frame m ρ
theorem norm_kv_frame_ref : Cert.quiescent_NormKvReferenceIdeal := fun m ρ _ =>
  (θ_run Cert.NormKvReferenceIdeal.defs _ _).mono (fun r h => ⟨fun c => (h c).2.2, sem_eq_zero_of_no_sems (by decide) r.2⟩)
    (Cert.NormKvReferenceIdeal.Value.run m ρ)

/-- The frames of the gradient of layer 1's input, and of its reference. -/
theorem in_odd_frame : Cert.quiescent_InOdd := fun m ρ _ => Cert.InOdd.Gen.frame m ρ
theorem in_odd_frame_ideal : Cert.quiescent_InOddIdeal := fun m ρ _ => Cert.InOddIdeal.Gen.frame m ρ
theorem in_odd_frame_ref : Cert.quiescent_InOddReferenceIdeal := fun m ρ _ =>
  (θ_run Cert.InOddReferenceIdeal.defs _ _).mono (fun r h => ⟨fun c => (h c).2.2.2, sem_eq_zero_of_no_sems (by decide) r.2⟩)
    (Cert.InOddReferenceIdeal.Value.run m ρ)

/-- The frames of the gradient of layer 0's input, and of its reference. -/
theorem in_even_frame : Cert.quiescent_InEven := fun m ρ _ => Cert.InEven.Gen.frame m ρ
theorem in_even_frame_ideal : Cert.quiescent_InEvenIdeal := fun m ρ _ => Cert.InEvenIdeal.Gen.frame m ρ
theorem in_even_frame_ref : Cert.quiescent_InEvenReferenceIdeal := fun m ρ _ =>
  (θ_run Cert.InEvenReferenceIdeal.defs _ _).mono (fun r h => ⟨fun c => (h c).2.2, sem_eq_zero_of_no_sems (by decide) r.2⟩)
    (Cert.InEvenReferenceIdeal.Value.run m ρ)

/-- The frames of the loss with layer 1's output projection and gate, and of its reference. -/
theorem loss_out_frame : Cert.quiescent_LossOut := fun m ρ _ => Cert.LossOut.Gen.frame m ρ
theorem loss_out_frame_ideal : Cert.quiescent_LossOutIdeal := fun m ρ _ => Cert.LossOutIdeal.Gen.frame m ρ
theorem loss_out_frame_ref : Cert.quiescent_LossOutReferenceIdeal := fun m ρ _ =>
  (θ_run Cert.LossOutReferenceIdeal.defs _ _).mono (fun r h => ⟨fun c => (h c).2.2.2.2.2, sem_eq_zero_of_no_sems (by decide) r.2⟩)
    (Cert.LossOutReferenceIdeal.Value.run m ρ)

theorem claim : Cert.Claim := ⟨Cert.Kernel.Gen.facts, Cert.KernelIdeal.Gen.facts, Cert.ReferenceIdeal.Gen.facts,
  Cert.Fox.Gen.facts, Cert.FoxIdeal.Gen.facts, Cert.FoxReferenceIdeal.Gen.facts,
  Cert.Mla.Gen.facts, Cert.MlaIdeal.Gen.facts, Cert.MlaReferenceIdeal.Gen.facts,
  Cert.GateOdd.Gen.facts, Cert.GateOddIdeal.Gen.facts, Cert.GateOddReferenceIdeal.Gen.facts,
  Cert.GateEven.Gen.facts, Cert.GateEvenIdeal.Gen.facts, Cert.GateEvenReferenceIdeal.Gen.facts,
  Cert.Rope.Gen.facts, Cert.RopeIdeal.Gen.facts, Cert.RopeReferenceIdeal.Gen.facts,
  Cert.NormQ.Gen.facts, Cert.NormQIdeal.Gen.facts, Cert.NormQReferenceIdeal.Gen.facts,
  Cert.NormKv.Gen.facts, Cert.NormKvIdeal.Gen.facts, Cert.NormKvReferenceIdeal.Gen.facts,
  Cert.InOdd.Gen.facts, Cert.InOddIdeal.Gen.facts, Cert.InOddReferenceIdeal.Gen.facts,
  Cert.InEven.Gen.facts, Cert.InEvenIdeal.Gen.facts, Cert.InEvenReferenceIdeal.Gen.facts,
  Cert.LossOut.Gen.facts, Cert.LossOutIdeal.Gen.facts, Cert.LossOutReferenceIdeal.Gen.facts,
  Cert.Pre_pre_logf.Gen.facts, Cert.Pre_pre_fox.Gen.facts, Cert.Pre_pre_mla.Gen.facts, Cert.Pre_pre_gate1.Gen.facts, Cert.Pre_pre_gate0.Gen.facts,
  Cert.Pre_pre_qnorm.Gen.facts, Cert.Pre_pre_kvnorm.Gen.facts, Cert.Pre_pre_in1.Gen.facts, Cert.Pre_pre_in0.Gen.facts, Cert.Pre_pre_loss.Gen.facts,
  logf_frame, logf_frame_ideal, fun m ρ _ => logf_frame_ideal m ρ trivial, logf_frame_ref, fun m ρ _ => logf_frame_ref m ρ trivial,
  fox_frame, fox_frame_ideal, fun m ρ _ => fox_frame_ideal m ρ trivial, fox_frame_ref, fun m ρ _ => fox_frame_ref m ρ trivial,
  mla_frame, mla_frame_ideal, fun m ρ _ => mla_frame_ideal m ρ trivial, mla_frame_ref, fun m ρ _ => mla_frame_ref m ρ trivial,
  gate_odd_frame, gate_odd_frame_ideal, fun m ρ _ => gate_odd_frame_ideal m ρ trivial, gate_odd_frame_ref, fun m ρ _ => gate_odd_frame_ref m ρ trivial,
  gate_even_frame, gate_even_frame_ideal, fun m ρ _ => gate_even_frame_ideal m ρ trivial, gate_even_frame_ref, fun m ρ _ => gate_even_frame_ref m ρ trivial,
  rope_frame, rope_frame_ideal, rope_frame_ref,
  norm_q_frame, norm_q_frame_ideal, fun m ρ _ => norm_q_frame_ideal m ρ trivial, norm_q_frame_ref, fun m ρ _ => norm_q_frame_ref m ρ trivial,
  norm_kv_frame, norm_kv_frame_ideal, fun m ρ _ => norm_kv_frame_ideal m ρ trivial, norm_kv_frame_ref, fun m ρ _ => norm_kv_frame_ref m ρ trivial,
  in_odd_frame, in_odd_frame_ideal, fun m ρ _ => in_odd_frame_ideal m ρ trivial, in_odd_frame_ref, fun m ρ _ => in_odd_frame_ref m ρ trivial,
  in_even_frame, in_even_frame_ideal, fun m ρ _ => in_even_frame_ideal m ρ trivial, in_even_frame_ref, fun m ρ _ => in_even_frame_ref m ρ trivial,
  loss_out_frame, loss_out_frame_ideal, fun m ρ _ => loss_out_frame_ideal m ρ trivial, loss_out_frame_ref, fun m ρ _ => loss_out_frame_ref m ρ trivial,
  trivial, Cert.LogfClaim.value, fox_preserves, Cert.FoxClaim.value, mla_preserves, Cert.MlaClaim.value,
  trivial, Cert.GateOddClaim.value, trivial, Cert.GateEvenClaim.value, trivial, Cert.RopeClaim.value, trivial, Cert.NormQClaim.value,
  trivial, Cert.NormKvClaim.value, trivial, Cert.InOddClaim.value, trivial, Cert.InEvenClaim.value, trivial, Cert.LossOutClaim.value⟩

end Cert.Proof

end
